-- ==== Defs.lean ====
def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3))).1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3))).2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3))).2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3))).2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_ffn [hPre_finite_ffn : Cert.Pre_finite_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3))).1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3))).2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3))).2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3))).2.2.2 = (fun _ => 1#1)

def Pre_LnTop (m : (ℓ : Loc Cert.LnTop.nD Cert.LnTop.τ Cert.LnTop.sig) → Buf (Elt Bits) ℓ) : Prop :=
  True

def Pre_LnTopIdeal (m : (ℓ : Loc Cert.LnTopIdeal.nD Cert.LnTopIdeal.τ Cert.LnTopIdeal.sig) → Buf (Elt Ideal) ℓ) : Prop :=
  True

def Pre_LnTopIdeal_finite_lntop [hPre_finite_lntop : Cert.Pre_finite_lntop.Facts] (m : (ℓ : Loc Cert.LnTopIdeal.nD Cert.LnTopIdeal.τ Cert.LnTopIdeal.sig) → Buf (Elt Ideal) ℓ) : Prop :=
  ∀ c : Dev Cert.LnTopIdeal.nD,
    (Cert.Pre_finite_lntop.fn (F := Ideal) (m ((c.tc : Thread Cert.LnTopIdeal.nD Cert.LnTopIdeal.τ).loc Cert.LnTopIdeal.main_arg0)) (m ((c.tc : Thread Cert.LnTopIdeal.nD Cert.LnTopIdeal.τ).loc Cert.LnTopIdeal.main_arg1)) (m ((c.tc : Thread Cert.LnTopIdeal.nD Cert.LnTopIdeal.τ).loc Cert.LnTopIdeal.main_arg2))).1 = (fun _ => 1#1)
    ∧ (Cert.Pre_finite_lntop.fn (F := Ideal) (m ((c.tc : Thread Cert.LnTopIdeal.nD Cert.LnTopIdeal.τ).loc Cert.LnTopIdeal.main_arg0)) (m ((c.tc : Thread Cert.LnTopIdeal.nD Cert.LnTopIdeal.τ).loc Cert.LnTopIdeal.main_arg1)) (m ((c.tc : Thread Cert.LnTopIdeal.nD Cert.LnTopIdeal.τ).loc Cert.LnTopIdeal.main_arg2))).2.1 = (fun _ => 1#1)
    ∧ (Cert.Pre_finite_lntop.fn (F := Ideal) (m ((c.tc : Thread Cert.LnTopIdeal.nD Cert.LnTopIdeal.τ).loc Cert.LnTopIdeal.main_arg0)) (m ((c.tc : Thread Cert.LnTopIdeal.nD Cert.LnTopIdeal.τ).loc Cert.LnTopIdeal.main_arg1)) (m ((c.tc : Thread Cert.LnTopIdeal.nD Cert.LnTopIdeal.τ).loc Cert.LnTopIdeal.main_arg2))).2.2 = (fun _ => 1#1)

def Pre_LnTopRefIdeal (m : (ℓ : Loc Cert.LnTopRefIdeal.nD Cert.LnTopRefIdeal.τ Cert.LnTopRefIdeal.sig) → Buf (Elt Ideal) ℓ) : Prop :=
  True

def Pre_LnTopRefIdeal_finite_lntop [hPre_finite_lntop : Cert.Pre_finite_lntop.Facts] (m : (ℓ : Loc Cert.LnTopRefIdeal.nD Cert.LnTopRefIdeal.τ Cert.LnTopRefIdeal.sig) → Buf (Elt Ideal) ℓ) : Prop :=
  ∀ c : Dev Cert.LnTopRefIdeal.nD,
    (Cert.Pre_finite_lntop.fn (F := Ideal) (m ((c.tc : Thread Cert.LnTopRefIdeal.nD Cert.LnTopRefIdeal.τ).loc Cert.LnTopRefIdeal.main_arg0)) (m ((c.tc : Thread Cert.LnTopRefIdeal.nD Cert.LnTopRefIdeal.τ).loc Cert.LnTopRefIdeal.main_arg1)) (m ((c.tc : Thread Cert.LnTopRefIdeal.nD Cert.LnTopRefIdeal.τ).loc Cert.LnTopRefIdeal.main_arg2))).1 = (fun _ => 1#1)
    ∧ (Cert.Pre_finite_lntop.fn (F := Ideal) (m ((c.tc : Thread Cert.LnTopRefIdeal.nD Cert.LnTopRefIdeal.τ).loc Cert.LnTopRefIdeal.main_arg0)) (m ((c.tc : Thread Cert.LnTopRefIdeal.nD Cert.LnTopRefIdeal.τ).loc Cert.LnTopRefIdeal.main_arg1)) (m ((c.tc : Thread Cert.LnTopRefIdeal.nD Cert.LnTopRefIdeal.τ).loc Cert.LnTopRefIdeal.main_arg2))).2.1 = (fun _ => 1#1)
    ∧ (Cert.Pre_finite_lntop.fn (F := Ideal) (m ((c.tc : Thread Cert.LnTopRefIdeal.nD Cert.LnTopRefIdeal.τ).loc Cert.LnTopRefIdeal.main_arg0)) (m ((c.tc : Thread Cert.LnTopRefIdeal.nD Cert.LnTopRefIdeal.τ).loc Cert.LnTopRefIdeal.main_arg1)) (m ((c.tc : Thread Cert.LnTopRefIdeal.nD Cert.LnTopRefIdeal.τ).loc Cert.LnTopRefIdeal.main_arg2))).2.2 = (fun _ => 1#1)

def Pre_Ln (m : (ℓ : Loc Cert.Ln.nD Cert.Ln.τ Cert.Ln.sig) → Buf (Elt Bits) ℓ) : Prop :=
  True

def Pre_LnIdeal (m : (ℓ : Loc Cert.LnIdeal.nD Cert.LnIdeal.τ Cert.LnIdeal.sig) → Buf (Elt Ideal) ℓ) : Prop :=
  True

def Pre_LnIdeal_finite_ln [hPre_finite_ln : Cert.Pre_finite_ln.Facts] (m : (ℓ : Loc Cert.LnIdeal.nD Cert.LnIdeal.τ Cert.LnIdeal.sig) → Buf (Elt Ideal) ℓ) : Prop :=
  ∀ c : Dev Cert.LnIdeal.nD,
    (Cert.Pre_finite_ln.fn (F := Ideal) (m ((c.tc : Thread Cert.LnIdeal.nD Cert.LnIdeal.τ).loc Cert.LnIdeal.main_arg0)) (m ((c.tc : Thread Cert.LnIdeal.nD Cert.LnIdeal.τ).loc Cert.LnIdeal.main_arg1)) (m ((c.tc : Thread Cert.LnIdeal.nD Cert.LnIdeal.τ).loc Cert.LnIdeal.main_arg2)) (m ((c.tc : Thread Cert.LnIdeal.nD Cert.LnIdeal.τ).loc Cert.LnIdeal.main_arg3))).1 = (fun _ => 1#1)
    ∧ (Cert.Pre_finite_ln.fn (F := Ideal) (m ((c.tc : Thread Cert.LnIdeal.nD Cert.LnIdeal.τ).loc Cert.LnIdeal.main_arg0)) (m ((c.tc : Thread Cert.LnIdeal.nD Cert.LnIdeal.τ).loc Cert.LnIdeal.main_arg1)) (m ((c.tc : Thread Cert.LnIdeal.nD Cert.LnIdeal.τ).loc Cert.LnIdeal.main_arg2)) (m ((c.tc : Thread Cert.LnIdeal.nD Cert.LnIdeal.τ).loc Cert.LnIdeal.main_arg3))).2.1 = (fun _ => 1#1)
    ∧ (Cert.Pre_finite_ln.fn (F := Ideal) (m ((c.tc : Thread Cert.LnIdeal.nD Cert.LnIdeal.τ).loc Cert.LnIdeal.main_arg0)) (m ((c.tc : Thread Cert.LnIdeal.nD Cert.LnIdeal.τ).loc Cert.LnIdeal.main_arg1)) (m ((c.tc : Thread Cert.LnIdeal.nD Cert.LnIdeal.τ).loc Cert.LnIdeal.main_arg2)) (m ((c.tc : Thread Cert.LnIdeal.nD Cert.LnIdeal.τ).loc Cert.LnIdeal.main_arg3))).2.2.1 = (fun _ => 1#1)
    ∧ (Cert.Pre_finite_ln.fn (F := Ideal) (m ((c.tc : Thread Cert.LnIdeal.nD Cert.LnIdeal.τ).loc Cert.LnIdeal.main_arg0)) (m ((c.tc : Thread Cert.LnIdeal.nD Cert.LnIdeal.τ).loc Cert.LnIdeal.main_arg1)) (m ((c.tc : Thread Cert.LnIdeal.nD Cert.LnIdeal.τ).loc Cert.LnIdeal.main_arg2)) (m ((c.tc : Thread Cert.LnIdeal.nD Cert.LnIdeal.τ).loc Cert.LnIdeal.main_arg3))).2.2.2 = (fun _ => 1#1)

def Pre_LnRefIdeal (m : (ℓ : Loc Cert.LnRefIdeal.nD Cert.LnRefIdeal.τ Cert.LnRefIdeal.sig) → Buf (Elt Ideal) ℓ) : Prop :=
  True

def Pre_LnRefIdeal_finite_ln [hPre_finite_ln : Cert.Pre_finite_ln.Facts] (m : (ℓ : Loc Cert.LnRefIdeal.nD Cert.LnRefIdeal.τ Cert.LnRefIdeal.sig) → Buf (Elt Ideal) ℓ) : Prop :=
  ∀ c : Dev Cert.LnRefIdeal.nD,
    (Cert.Pre_finite_ln.fn (F := Ideal) (m ((c.tc : Thread Cert.LnRefIdeal.nD Cert.LnRefIdeal.τ).loc Cert.LnRefIdeal.main_arg0)) (m ((c.tc : Thread Cert.LnRefIdeal.nD Cert.LnRefIdeal.τ).loc Cert.LnRefIdeal.main_arg1)) (m ((c.tc : Thread Cert.LnRefIdeal.nD Cert.LnRefIdeal.τ).loc Cert.LnRefIdeal.main_arg2)) (m ((c.tc : Thread Cert.LnRefIdeal.nD Cert.LnRefIdeal.τ).loc Cert.LnRefIdeal.main_arg3))).1 = (fun _ => 1#1)
    ∧ (Cert.Pre_finite_ln.fn (F := Ideal) (m ((c.tc : Thread Cert.LnRefIdeal.nD Cert.LnRefIdeal.τ).loc Cert.LnRefIdeal.main_arg0)) (m ((c.tc : Thread Cert.LnRefIdeal.nD Cert.LnRefIdeal.τ).loc Cert.LnRefIdeal.main_arg1)) (m ((c.tc : Thread Cert.LnRefIdeal.nD Cert.LnRefIdeal.τ).loc Cert.LnRefIdeal.main_arg2)) (m ((c.tc : Thread Cert.LnRefIdeal.nD Cert.LnRefIdeal.τ).loc Cert.LnRefIdeal.main_arg3))).2.1 = (fun _ => 1#1)
    ∧ (Cert.Pre_finite_ln.fn (F := Ideal) (m ((c.tc : Thread Cert.LnRefIdeal.nD Cert.LnRefIdeal.τ).loc Cert.LnRefIdeal.main_arg0)) (m ((c.tc : Thread Cert.LnRefIdeal.nD Cert.LnRefIdeal.τ).loc Cert.LnRefIdeal.main_arg1)) (m ((c.tc : Thread Cert.LnRefIdeal.nD Cert.LnRefIdeal.τ).loc Cert.LnRefIdeal.main_arg2)) (m ((c.tc : Thread Cert.LnRefIdeal.nD Cert.LnRefIdeal.τ).loc Cert.LnRefIdeal.main_arg3))).2.2.1 = (fun _ => 1#1)
    ∧ (Cert.Pre_finite_ln.fn (F := Ideal) (m ((c.tc : Thread Cert.LnRefIdeal.nD Cert.LnRefIdeal.τ).loc Cert.LnRefIdeal.main_arg0)) (m ((c.tc : Thread Cert.LnRefIdeal.nD Cert.LnRefIdeal.τ).loc Cert.LnRefIdeal.main_arg1)) (m ((c.tc : Thread Cert.LnRefIdeal.nD Cert.LnRefIdeal.τ).loc Cert.LnRefIdeal.main_arg2)) (m ((c.tc : Thread Cert.LnRefIdeal.nD Cert.LnRefIdeal.τ).loc Cert.LnRefIdeal.main_arg3))).2.2.2 = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.2 = (fun _ => 1#1)

def Pre_Gelu (m : (ℓ : Loc Cert.Gelu.nD Cert.Gelu.τ Cert.Gelu.sig) → Buf (Elt Bits) ℓ) : Prop :=
  True

def Pre_GeluIdeal (m : (ℓ : Loc Cert.GeluIdeal.nD Cert.GeluIdeal.τ Cert.GeluIdeal.sig) → Buf (Elt Ideal) ℓ) : Prop :=
  True

def Pre_GeluIdeal_finite_gelu [hPre_finite_gelu : Cert.Pre_finite_gelu.Facts] (m : (ℓ : Loc Cert.GeluIdeal.nD Cert.GeluIdeal.τ Cert.GeluIdeal.sig) → Buf (Elt Ideal) ℓ) : Prop :=
  ∀ c : Dev Cert.GeluIdeal.nD,
    (Cert.Pre_finite_gelu.fn (F := Ideal) (m ((c.tc : Thread Cert.GeluIdeal.nD Cert.GeluIdeal.τ).loc Cert.GeluIdeal.main_arg0)) (m ((c.tc : Thread Cert.GeluIdeal.nD Cert.GeluIdeal.τ).loc Cert.GeluIdeal.main_arg1)) (m ((c.tc : Thread Cert.GeluIdeal.nD Cert.GeluIdeal.τ).loc Cert.GeluIdeal.main_arg2)) (m ((c.tc : Thread Cert.GeluIdeal.nD Cert.GeluIdeal.τ).loc Cert.GeluIdeal.main_arg3)) (m ((c.tc : Thread Cert.GeluIdeal.nD Cert.GeluIdeal.τ).loc Cert.GeluIdeal.main_arg4))).1 = (fun _ => 1#1)
    ∧ (Cert.Pre_finite_gelu.fn (F := Ideal) (m ((c.tc : Thread Cert.GeluIdeal.nD Cert.GeluIdeal.τ).loc Cert.GeluIdeal.main_arg0)) (m ((c.tc : Thread Cert.GeluIdeal.nD Cert.GeluIdeal.τ).loc Cert.GeluIdeal.main_arg1)) (m ((c.tc : Thread Cert.GeluIdeal.nD Cert.GeluIdeal.τ).loc Cert.GeluIdeal.main_arg2)) (m ((c.tc : Thread Cert.GeluIdeal.nD Cert.GeluIdeal.τ).loc Cert.GeluIdeal.main_arg3)) (m ((c.tc : Thread Cert.GeluIdeal.nD Cert.GeluIdeal.τ).loc Cert.GeluIdeal.main_arg4))).2.1 = (fun _ => 1#1)
    ∧ (Cert.Pre_finite_gelu.fn (F := Ideal) (m ((c.tc : Thread Cert.GeluIdeal.nD Cert.GeluIdeal.τ).loc Cert.GeluIdeal.main_arg0)) (m ((c.tc : Thread Cert.GeluIdeal.nD Cert.GeluIdeal.τ).loc Cert.GeluIdeal.main_arg1)) (m ((c.tc : Thread Cert.GeluIdeal.nD Cert.GeluIdeal.τ).loc Cert.GeluIdeal.main_arg2)) (m ((c.tc : Thread Cert.GeluIdeal.nD Cert.GeluIdeal.τ).loc Cert.GeluIdeal.main_arg3)) (m ((c.tc : Thread Cert.GeluIdeal.nD Cert.GeluIdeal.τ).loc Cert.GeluIdeal.main_arg4))).2.2.1 = (fun _ => 1#1)
    ∧ (Cert.Pre_finite_gelu.fn (F := Ideal) (m ((c.tc : Thread Cert.GeluIdeal.nD Cert.GeluIdeal.τ).loc Cert.GeluIdeal.main_arg0)) (m ((c.tc : Thread Cert.GeluIdeal.nD Cert.GeluIdeal.τ).loc Cert.GeluIdeal.main_arg1)) (m ((c.tc : Thread Cert.GeluIdeal.nD Cert.GeluIdeal.τ).loc Cert.GeluIdeal.main_arg2)) (m ((c.tc : Thread Cert.GeluIdeal.nD Cert.GeluIdeal.τ).loc Cert.GeluIdeal.main_arg3)) (m ((c.tc : Thread Cert.GeluIdeal.nD Cert.GeluIdeal.τ).loc Cert.GeluIdeal.main_arg4))).2.2.2.1 = (fun _ => 1#1)
    ∧ (Cert.Pre_finite_gelu.fn (F := Ideal) (m ((c.tc : Thread Cert.GeluIdeal.nD Cert.GeluIdeal.τ).loc Cert.GeluIdeal.main_arg0)) (m ((c.tc : Thread Cert.GeluIdeal.nD Cert.GeluIdeal.τ).loc Cert.GeluIdeal.main_arg1)) (m ((c.tc : Thread Cert.GeluIdeal.nD Cert.GeluIdeal.τ).loc Cert.GeluIdeal.main_arg2)) (m ((c.tc : Thread Cert.GeluIdeal.nD Cert.GeluIdeal.τ).loc Cert.GeluIdeal.main_arg3)) (m ((c.tc : Thread Cert.GeluIdeal.nD Cert.GeluIdeal.τ).loc Cert.GeluIdeal.main_arg4))).2.2.2.2 = (fun _ => 1#1)

def Pre_GeluRefIdeal (m : (ℓ : Loc Cert.GeluRefIdeal.nD Cert.GeluRefIdeal.τ Cert.GeluRefIdeal.sig) → Buf (Elt Ideal) ℓ) : Prop :=
  True

def Pre_GeluRefIdeal_finite_gelu [hPre_finite_gelu : Cert.Pre_finite_gelu.Facts] (m : (ℓ : Loc Cert.GeluRefIdeal.nD Cert.GeluRefIdeal.τ Cert.GeluRefIdeal.sig) → Buf (Elt Ideal) ℓ) : Prop :=
  ∀ c : Dev Cert.GeluRefIdeal.nD,
    (Cert.Pre_finite_gelu.fn (F := Ideal) (m ((c.tc : Thread Cert.GeluRefIdeal.nD Cert.GeluRefIdeal.τ).loc Cert.GeluRefIdeal.main_arg0)) (m ((c.tc : Thread Cert.GeluRefIdeal.nD Cert.GeluRefIdeal.τ).loc Cert.GeluRefIdeal.main_arg1)) (m ((c.tc : Thread Cert.GeluRefIdeal.nD Cert.GeluRefIdeal.τ).loc Cert.GeluRefIdeal.main_arg2)) (m ((c.tc : Thread Cert.GeluRefIdeal.nD Cert.GeluRefIdeal.τ).loc Cert.GeluRefIdeal.main_arg3)) (m ((c.tc : Thread Cert.GeluRefIdeal.nD Cert.GeluRefIdeal.τ).loc Cert.GeluRefIdeal.main_arg4))).1 = (fun _ => 1#1)
    ∧ (Cert.Pre_finite_gelu.fn (F := Ideal) (m ((c.tc : Thread Cert.GeluRefIdeal.nD Cert.GeluRefIdeal.τ).loc Cert.GeluRefIdeal.main_arg0)) (m ((c.tc : Thread Cert.GeluRefIdeal.nD Cert.GeluRefIdeal.τ).loc Cert.GeluRefIdeal.main_arg1)) (m ((c.tc : Thread Cert.GeluRefIdeal.nD Cert.GeluRefIdeal.τ).loc Cert.GeluRefIdeal.main_arg2)) (m ((c.tc : Thread Cert.GeluRefIdeal.nD Cert.GeluRefIdeal.τ).loc Cert.GeluRefIdeal.main_arg3)) (m ((c.tc : Thread Cert.GeluRefIdeal.nD Cert.GeluRefIdeal.τ).loc Cert.GeluRefIdeal.main_arg4))).2.1 = (fun _ => 1#1)
    ∧ (Cert.Pre_finite_gelu.fn (F := Ideal) (m ((c.tc : Thread Cert.GeluRefIdeal.nD Cert.GeluRefIdeal.τ).loc Cert.GeluRefIdeal.main_arg0)) (m ((c.tc : Thread Cert.GeluRefIdeal.nD Cert.GeluRefIdeal.τ).loc Cert.GeluRefIdeal.main_arg1)) (m ((c.tc : Thread Cert.GeluRefIdeal.nD Cert.GeluRefIdeal.τ).loc Cert.GeluRefIdeal.main_arg2)) (m ((c.tc : Thread Cert.GeluRefIdeal.nD Cert.GeluRefIdeal.τ).loc Cert.GeluRefIdeal.main_arg3)) (m ((c.tc : Thread Cert.GeluRefIdeal.nD Cert.GeluRefIdeal.τ).loc Cert.GeluRefIdeal.main_arg4))).2.2.1 = (fun _ => 1#1)
    ∧ (Cert.Pre_finite_gelu.fn (F := Ideal) (m ((c.tc : Thread Cert.GeluRefIdeal.nD Cert.GeluRefIdeal.τ).loc Cert.GeluRefIdeal.main_arg0)) (m ((c.tc : Thread Cert.GeluRefIdeal.nD Cert.GeluRefIdeal.τ).loc Cert.GeluRefIdeal.main_arg1)) (m ((c.tc : Thread Cert.GeluRefIdeal.nD Cert.GeluRefIdeal.τ).loc Cert.GeluRefIdeal.main_arg2)) (m ((c.tc : Thread Cert.GeluRefIdeal.nD Cert.GeluRefIdeal.τ).loc Cert.GeluRefIdeal.main_arg3)) (m ((c.tc : Thread Cert.GeluRefIdeal.nD Cert.GeluRefIdeal.τ).loc Cert.GeluRefIdeal.main_arg4))).2.2.2.1 = (fun _ => 1#1)
    ∧ (Cert.Pre_finite_gelu.fn (F := Ideal) (m ((c.tc : Thread Cert.GeluRefIdeal.nD Cert.GeluRefIdeal.τ).loc Cert.GeluRefIdeal.main_arg0)) (m ((c.tc : Thread Cert.GeluRefIdeal.nD Cert.GeluRefIdeal.τ).loc Cert.GeluRefIdeal.main_arg1)) (m ((c.tc : Thread Cert.GeluRefIdeal.nD Cert.GeluRefIdeal.τ).loc Cert.GeluRefIdeal.main_arg2)) (m ((c.tc : Thread Cert.GeluRefIdeal.nD Cert.GeluRefIdeal.τ).loc Cert.GeluRefIdeal.main_arg3)) (m ((c.tc : Thread Cert.GeluRefIdeal.nD Cert.GeluRefIdeal.τ).loc Cert.GeluRefIdeal.main_arg4))).2.2.2.2 = (fun _ => 1#1)

def Pre_Flash (m : (ℓ : Loc Cert.Flash.nD Cert.Flash.τ Cert.Flash.sig) → Buf (Elt Bits) ℓ) : Prop :=
  True

def Pre_FlashIdeal (m : (ℓ : Loc Cert.FlashIdeal.nD Cert.FlashIdeal.τ Cert.FlashIdeal.sig) → Buf (Elt Ideal) ℓ) : Prop :=
  True

def Pre_FlashIdeal_finite_flash [hPre_finite_flash : Cert.Pre_finite_flash.Facts] (m : (ℓ : Loc Cert.FlashIdeal.nD Cert.FlashIdeal.τ Cert.FlashIdeal.sig) → Buf (Elt Ideal) ℓ) : Prop :=
  ∀ c : Dev Cert.FlashIdeal.nD,
    (Cert.Pre_finite_flash.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2))).1 = (fun _ => 1#1)
    ∧ (Cert.Pre_finite_flash.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2))).2.1 = (fun _ => 1#1)
    ∧ (Cert.Pre_finite_flash.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2))).2.2 = (fun _ => 1#1)

def Pre_FlashRefIdeal (m : (ℓ : Loc Cert.FlashRefIdeal.nD Cert.FlashRefIdeal.τ Cert.FlashRefIdeal.sig) → Buf (Elt Ideal) ℓ) : Prop :=
  True

def Pre_FlashRefIdeal_finite_flash [hPre_finite_flash : Cert.Pre_finite_flash.Facts] (m : (ℓ : Loc Cert.FlashRefIdeal.nD Cert.FlashRefIdeal.τ Cert.FlashRefIdeal.sig) → Buf (Elt Ideal) ℓ) : Prop :=
  ∀ c : Dev Cert.FlashRefIdeal.nD,
    (Cert.Pre_finite_flash.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2))).1 = (fun _ => 1#1)
    ∧ (Cert.Pre_finite_flash.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2))).2.1 = (fun _ => 1#1)
    ∧ (Cert.Pre_finite_flash.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2))).2.2 = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_Delta (m : (ℓ : Loc Cert.Delta.nD Cert.Delta.τ Cert.Delta.sig) → Buf (Elt Bits) ℓ) : Prop :=
  True

def Pre_DeltaIdeal (m : (ℓ : Loc Cert.DeltaIdeal.nD Cert.DeltaIdeal.τ Cert.DeltaIdeal.sig) → Buf (Elt Ideal) ℓ) : Prop :=
  True

def Pre_DeltaRefIdeal (m : (ℓ : Loc Cert.DeltaRefIdeal.nD Cert.DeltaRefIdeal.τ Cert.DeltaRefIdeal.sig) → Buf (Elt Ideal) ℓ) : Prop :=
  True

def Pre_SGelu (m : (ℓ : Loc Cert.SGelu.nD Cert.SGelu.τ Cert.SGelu.sig) → Buf (Elt Bits) ℓ) : Prop :=
  True

def Pre_SGeluIdeal (m : (ℓ : Loc Cert.SGeluIdeal.nD Cert.SGeluIdeal.τ Cert.SGeluIdeal.sig) → Buf (Elt Ideal) ℓ) : Prop :=
  True

def Pre_SGeluRefIdeal (m : (ℓ : Loc Cert.SGeluRefIdeal.nD Cert.SGeluRefIdeal.τ Cert.SGeluRefIdeal.sig) → Buf (Elt Ideal) ℓ) : Prop :=
  True

def Pre_SGlu (m : (ℓ : Loc Cert.SGlu.nD Cert.SGlu.τ Cert.SGlu.sig) → Buf (Elt Bits) ℓ) : Prop :=
  True

def Pre_SGluIdeal (m : (ℓ : Loc Cert.SGluIdeal.nD Cert.SGluIdeal.τ Cert.SGluIdeal.sig) → Buf (Elt Ideal) ℓ) : Prop :=
  True

def Pre_SGluRefIdeal (m : (ℓ : Loc Cert.SGluRefIdeal.nD Cert.SGluRefIdeal.τ Cert.SGluRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_RopeBwd (m : (ℓ : Loc Cert.RopeBwd.nD Cert.RopeBwd.τ Cert.RopeBwd.sig) → Buf (Elt Bits) ℓ) : Prop :=
  True

def Pre_RopeBwdIdeal (m : (ℓ : Loc Cert.RopeBwdIdeal.nD Cert.RopeBwdIdeal.τ Cert.RopeBwdIdeal.sig) → Buf (Elt Ideal) ℓ) : Prop :=
  True

def Pre_RopeBwdIdeal_finite_ropebwd [hPre_finite_ropebwd : Cert.Pre_finite_ropebwd.Facts] (m : (ℓ : Loc Cert.RopeBwdIdeal.nD Cert.RopeBwdIdeal.τ Cert.RopeBwdIdeal.sig) → Buf (Elt Ideal) ℓ) : Prop :=
  ∀ c : Dev Cert.RopeBwdIdeal.nD,
    (Cert.Pre_finite_ropebwd.fn (F := Ideal) (m ((c.tc : Thread Cert.RopeBwdIdeal.nD Cert.RopeBwdIdeal.τ).loc Cert.RopeBwdIdeal.main_arg0)) (m ((c.tc : Thread Cert.RopeBwdIdeal.nD Cert.RopeBwdIdeal.τ).loc Cert.RopeBwdIdeal.main_arg1)) (m ((c.tc : Thread Cert.RopeBwdIdeal.nD Cert.RopeBwdIdeal.τ).loc Cert.RopeBwdIdeal.main_arg2)) (m ((c.tc : Thread Cert.RopeBwdIdeal.nD Cert.RopeBwdIdeal.τ).loc Cert.RopeBwdIdeal.main_arg3)) (m ((c.tc : Thread Cert.RopeBwdIdeal.nD Cert.RopeBwdIdeal.τ).loc Cert.RopeBwdIdeal.main_arg4)) (m ((c.tc : Thread Cert.RopeBwdIdeal.nD Cert.RopeBwdIdeal.τ).loc Cert.RopeBwdIdeal.main_arg5))).1 = (fun _ => 1#1)
    ∧ (Cert.Pre_finite_ropebwd.fn (F := Ideal) (m ((c.tc : Thread Cert.RopeBwdIdeal.nD Cert.RopeBwdIdeal.τ).loc Cert.RopeBwdIdeal.main_arg0)) (m ((c.tc : Thread Cert.RopeBwdIdeal.nD Cert.RopeBwdIdeal.τ).loc Cert.RopeBwdIdeal.main_arg1)) (m ((c.tc : Thread Cert.RopeBwdIdeal.nD Cert.RopeBwdIdeal.τ).loc Cert.RopeBwdIdeal.main_arg2)) (m ((c.tc : Thread Cert.RopeBwdIdeal.nD Cert.RopeBwdIdeal.τ).loc Cert.RopeBwdIdeal.main_arg3)) (m ((c.tc : Thread Cert.RopeBwdIdeal.nD Cert.RopeBwdIdeal.τ).loc Cert.RopeBwdIdeal.main_arg4)) (m ((c.tc : Thread Cert.RopeBwdIdeal.nD Cert.RopeBwdIdeal.τ).loc Cert.RopeBwdIdeal.main_arg5))).2.1 = (fun _ => 1#1)
    ∧ (Cert.Pre_finite_ropebwd.fn (F := Ideal) (m ((c.tc : Thread Cert.RopeBwdIdeal.nD Cert.RopeBwdIdeal.τ).loc Cert.RopeBwdIdeal.main_arg0)) (m ((c.tc : Thread Cert.RopeBwdIdeal.nD Cert.RopeBwdIdeal.τ).loc Cert.RopeBwdIdeal.main_arg1)) (m ((c.tc : Thread Cert.RopeBwdIdeal.nD Cert.RopeBwdIdeal.τ).loc Cert.RopeBwdIdeal.main_arg2)) (m ((c.tc : Thread Cert.RopeBwdIdeal.nD Cert.RopeBwdIdeal.τ).loc Cert.RopeBwdIdeal.main_arg3)) (m ((c.tc : Thread Cert.RopeBwdIdeal.nD Cert.RopeBwdIdeal.τ).loc Cert.RopeBwdIdeal.main_arg4)) (m ((c.tc : Thread Cert.RopeBwdIdeal.nD Cert.RopeBwdIdeal.τ).loc Cert.RopeBwdIdeal.main_arg5))).2.2.1 = (fun _ => 1#1)
    ∧ (Cert.Pre_finite_ropebwd.fn (F := Ideal) (m ((c.tc : Thread Cert.RopeBwdIdeal.nD Cert.RopeBwdIdeal.τ).loc Cert.RopeBwdIdeal.main_arg0)) (m ((c.tc : Thread Cert.RopeBwdIdeal.nD Cert.RopeBwdIdeal.τ).loc Cert.RopeBwdIdeal.main_arg1)) (m ((c.tc : Thread Cert.RopeBwdIdeal.nD Cert.RopeBwdIdeal.τ).loc Cert.RopeBwdIdeal.main_arg2)) (m ((c.tc : Thread Cert.RopeBwdIdeal.nD Cert.RopeBwdIdeal.τ).loc Cert.RopeBwdIdeal.main_arg3)) (m ((c.tc : Thread Cert.RopeBwdIdeal.nD Cert.RopeBwdIdeal.τ).loc Cert.RopeBwdIdeal.main_arg4)) (m ((c.tc : Thread Cert.RopeBwdIdeal.nD Cert.RopeBwdIdeal.τ).loc Cert.RopeBwdIdeal.main_arg5))).2.2.2.1 = (fun _ => 1#1)
    ∧ (Cert.Pre_finite_ropebwd.fn (F := Ideal) (m ((c.tc : Thread Cert.RopeBwdIdeal.nD Cert.RopeBwdIdeal.τ).loc Cert.RopeBwdIdeal.main_arg0)) (m ((c.tc : Thread Cert.RopeBwdIdeal.nD Cert.RopeBwdIdeal.τ).loc Cert.RopeBwdIdeal.main_arg1)) (m ((c.tc : Thread Cert.RopeBwdIdeal.nD Cert.RopeBwdIdeal.τ).loc Cert.RopeBwdIdeal.main_arg2)) (m ((c.tc : Thread Cert.RopeBwdIdeal.nD Cert.RopeBwdIdeal.τ).loc Cert.RopeBwdIdeal.main_arg3)) (m ((c.tc : Thread Cert.RopeBwdIdeal.nD Cert.RopeBwdIdeal.τ).loc Cert.RopeBwdIdeal.main_arg4)) (m ((c.tc : Thread Cert.RopeBwdIdeal.nD Cert.RopeBwdIdeal.τ).loc Cert.RopeBwdIdeal.main_arg5))).2.2.2.2 = (fun _ => 1#1)

def Pre_RopeBwdRefIdeal (m : (ℓ : Loc Cert.RopeBwdRefIdeal.nD Cert.RopeBwdRefIdeal.τ Cert.RopeBwdRefIdeal.sig) → Buf (Elt Ideal) ℓ) : Prop :=
  True

def Pre_RopeBwdRefIdeal_finite_ropebwd [hPre_finite_ropebwd : Cert.Pre_finite_ropebwd.Facts] (m : (ℓ : Loc Cert.RopeBwdRefIdeal.nD Cert.RopeBwdRefIdeal.τ Cert.RopeBwdRefIdeal.sig) → Buf (Elt Ideal) ℓ) : Prop :=
  ∀ c : Dev Cert.RopeBwdRefIdeal.nD,
    (Cert.Pre_finite_ropebwd.fn (F := Ideal) (m ((c.tc : Thread Cert.RopeBwdRefIdeal.nD Cert.RopeBwdRefIdeal.τ).loc Cert.RopeBwdRefIdeal.main_arg0)) (m ((c.tc : Thread Cert.RopeBwdRefIdeal.nD Cert.RopeBwdRefIdeal.τ).loc Cert.RopeBwdRefIdeal.main_arg1)) (m ((c.tc : Thread Cert.RopeBwdRefIdeal.nD Cert.RopeBwdRefIdeal.τ).loc Cert.RopeBwdRefIdeal.main_arg2)) (m ((c.tc : Thread Cert.RopeBwdRefIdeal.nD Cert.RopeBwdRefIdeal.τ).loc Cert.RopeBwdRefIdeal.main_arg3)) (m ((c.tc : Thread Cert.RopeBwdRefIdeal.nD Cert.RopeBwdRefIdeal.τ).loc Cert.RopeBwdRefIdeal.main_arg4)) (m ((c.tc : Thread Cert.RopeBwdRefIdeal.nD Cert.RopeBwdRefIdeal.τ).loc Cert.RopeBwdRefIdeal.main_arg5))).1 = (fun _ => 1#1)
    ∧ (Cert.Pre_finite_ropebwd.fn (F := Ideal) (m ((c.tc : Thread Cert.RopeBwdRefIdeal.nD Cert.RopeBwdRefIdeal.τ).loc Cert.RopeBwdRefIdeal.main_arg0)) (m ((c.tc : Thread Cert.RopeBwdRefIdeal.nD Cert.RopeBwdRefIdeal.τ).loc Cert.RopeBwdRefIdeal.main_arg1)) (m ((c.tc : Thread Cert.RopeBwdRefIdeal.nD Cert.RopeBwdRefIdeal.τ).loc Cert.RopeBwdRefIdeal.main_arg2)) (m ((c.tc : Thread Cert.RopeBwdRefIdeal.nD Cert.RopeBwdRefIdeal.τ).loc Cert.RopeBwdRefIdeal.main_arg3)) (m ((c.tc : Thread Cert.RopeBwdRefIdeal.nD Cert.RopeBwdRefIdeal.τ).loc Cert.RopeBwdRefIdeal.main_arg4)) (m ((c.tc : Thread Cert.RopeBwdRefIdeal.nD Cert.RopeBwdRefIdeal.τ).loc Cert.RopeBwdRefIdeal.main_arg5))).2.1 = (fun _ => 1#1)
    ∧ (Cert.Pre_finite_ropebwd.fn (F := Ideal) (m ((c.tc : Thread Cert.RopeBwdRefIdeal.nD Cert.RopeBwdRefIdeal.τ).loc Cert.RopeBwdRefIdeal.main_arg0)) (m ((c.tc : Thread Cert.RopeBwdRefIdeal.nD Cert.RopeBwdRefIdeal.τ).loc Cert.RopeBwdRefIdeal.main_arg1)) (m ((c.tc : Thread Cert.RopeBwdRefIdeal.nD Cert.RopeBwdRefIdeal.τ).loc Cert.RopeBwdRefIdeal.main_arg2)) (m ((c.tc : Thread Cert.RopeBwdRefIdeal.nD Cert.RopeBwdRefIdeal.τ).loc Cert.RopeBwdRefIdeal.main_arg3)) (m ((c.tc : Thread Cert.RopeBwdRefIdeal.nD Cert.RopeBwdRefIdeal.τ).loc Cert.RopeBwdRefIdeal.main_arg4)) (m ((c.tc : Thread Cert.RopeBwdRefIdeal.nD Cert.RopeBwdRefIdeal.τ).loc Cert.RopeBwdRefIdeal.main_arg5))).2.2.1 = (fun _ => 1#1)
    ∧ (Cert.Pre_finite_ropebwd.fn (F := Ideal) (m ((c.tc : Thread Cert.RopeBwdRefIdeal.nD Cert.RopeBwdRefIdeal.τ).loc Cert.RopeBwdRefIdeal.main_arg0)) (m ((c.tc : Thread Cert.RopeBwdRefIdeal.nD Cert.RopeBwdRefIdeal.τ).loc Cert.RopeBwdRefIdeal.main_arg1)) (m ((c.tc : Thread Cert.RopeBwdRefIdeal.nD Cert.RopeBwdRefIdeal.τ).loc Cert.RopeBwdRefIdeal.main_arg2)) (m ((c.tc : Thread Cert.RopeBwdRefIdeal.nD Cert.RopeBwdRefIdeal.τ).loc Cert.RopeBwdRefIdeal.main_arg3)) (m ((c.tc : Thread Cert.RopeBwdRefIdeal.nD Cert.RopeBwdRefIdeal.τ).loc Cert.RopeBwdRefIdeal.main_arg4)) (m ((c.tc : Thread Cert.RopeBwdRefIdeal.nD Cert.RopeBwdRefIdeal.τ).loc Cert.RopeBwdRefIdeal.main_arg5))).2.2.2.1 = (fun _ => 1#1)
    ∧ (Cert.Pre_finite_ropebwd.fn (F := Ideal) (m ((c.tc : Thread Cert.RopeBwdRefIdeal.nD Cert.RopeBwdRefIdeal.τ).loc Cert.RopeBwdRefIdeal.main_arg0)) (m ((c.tc : Thread Cert.RopeBwdRefIdeal.nD Cert.RopeBwdRefIdeal.τ).loc Cert.RopeBwdRefIdeal.main_arg1)) (m ((c.tc : Thread Cert.RopeBwdRefIdeal.nD Cert.RopeBwdRefIdeal.τ).loc Cert.RopeBwdRefIdeal.main_arg2)) (m ((c.tc : Thread Cert.RopeBwdRefIdeal.nD Cert.RopeBwdRefIdeal.τ).loc Cert.RopeBwdRefIdeal.main_arg3)) (m ((c.tc : Thread Cert.RopeBwdRefIdeal.nD Cert.RopeBwdRefIdeal.τ).loc Cert.RopeBwdRefIdeal.main_arg4)) (m ((c.tc : Thread Cert.RopeBwdRefIdeal.nD Cert.RopeBwdRefIdeal.τ).loc Cert.RopeBwdRefIdeal.main_arg5))).2.2.2.2 = (fun _ => 1#1)

def Pre_Mm (m : (ℓ : Loc Cert.Mm.nD Cert.Mm.τ Cert.Mm.sig) → Buf (Elt Bits) ℓ) : Prop :=
  True

def Pre_MmIdeal (m : (ℓ : Loc Cert.MmIdeal.nD Cert.MmIdeal.τ Cert.MmIdeal.sig) → Buf (Elt Ideal) ℓ) : Prop :=
  True

def Pre_MmRefIdeal (m : (ℓ : Loc Cert.MmRefIdeal.nD Cert.MmRefIdeal.τ Cert.MmRefIdeal.sig) → Buf (Elt Ideal) ℓ) : Prop :=
  True

def Pre_MmTwo (m : (ℓ : Loc Cert.MmTwo.nD Cert.MmTwo.τ Cert.MmTwo.sig) → Buf (Elt Bits) ℓ) : Prop :=
  True

def Pre_MmTwoIdeal (m : (ℓ : Loc Cert.MmTwoIdeal.nD Cert.MmTwoIdeal.τ Cert.MmTwoIdeal.sig) → Buf (Elt Ideal) ℓ) : Prop :=
  True

def Pre_MmTwoRefIdeal (m : (ℓ : Loc Cert.MmTwoRefIdeal.nD Cert.MmTwoRefIdeal.τ Cert.MmTwoRefIdeal.sig) → Buf (Elt Ideal) ℓ) : Prop :=
  True

def Pre_MmTn (m : (ℓ : Loc Cert.MmTn.nD Cert.MmTn.τ Cert.MmTn.sig) → Buf (Elt Bits) ℓ) : Prop :=
  True

def Pre_MmTnIdeal (m : (ℓ : Loc Cert.MmTnIdeal.nD Cert.MmTnIdeal.τ Cert.MmTnIdeal.sig) → Buf (Elt Ideal) ℓ) : Prop :=
  True

def Pre_MmTnRefIdeal (m : (ℓ : Loc Cert.MmTnRefIdeal.nD Cert.MmTnRefIdeal.τ Cert.MmTnRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerRefIdeal (m : (ℓ : Loc Cert.MixerRefIdeal.nD Cert.MixerRefIdeal.τ Cert.MixerRefIdeal.sig) → Buf (Elt Ideal) ℓ) : Prop :=
  True

def Pre_SumTwo (m : (ℓ : Loc Cert.SumTwo.nD Cert.SumTwo.τ Cert.SumTwo.sig) → Buf (Elt Bits) ℓ) : Prop :=
  True

def Pre_SumTwoIdeal (m : (ℓ : Loc Cert.SumTwoIdeal.nD Cert.SumTwoIdeal.τ Cert.SumTwoIdeal.sig) → Buf (Elt Ideal) ℓ) : Prop :=
  True

def Pre_SumTwoRefIdeal (m : (ℓ : Loc Cert.SumTwoRefIdeal.nD Cert.SumTwoRefIdeal.τ Cert.SumTwoRefIdeal.sig) → Buf (Elt Ideal) ℓ) : Prop :=
  True

def Pre_SumFour (m : (ℓ : Loc Cert.SumFour.nD Cert.SumFour.τ Cert.SumFour.sig) → Buf (Elt Bits) ℓ) : Prop :=
  True

def Pre_SumFourIdeal (m : (ℓ : Loc Cert.SumFourIdeal.nD Cert.SumFourIdeal.τ Cert.SumFourIdeal.sig) → Buf (Elt Ideal) ℓ) : Prop :=
  True

def Pre_SumFourRefIdeal (m : (ℓ : Loc Cert.SumFourRefIdeal.nD Cert.SumFourRefIdeal.τ Cert.SumFourRefIdeal.sig) → Buf (Elt Ideal) ℓ) : Prop :=
  True

def Pre_Groups (m : (ℓ : Loc Cert.Groups.nD Cert.Groups.τ Cert.Groups.sig) → Buf (Elt Bits) ℓ) : Prop :=
  True

def Pre_GroupsIdeal (m : (ℓ : Loc Cert.GroupsIdeal.nD Cert.GroupsIdeal.τ Cert.GroupsIdeal.sig) → Buf (Elt Ideal) ℓ) : Prop :=
  True

def Pre_GroupsRefIdeal (m : (ℓ : Loc Cert.GroupsRefIdeal.nD Cert.GroupsRefIdeal.τ Cert.GroupsRefIdeal.sig) → Buf (Elt Ideal) ℓ) : Prop :=
  True

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_FfnRefIdeal_pre_finite_ffn [hFfnRefIdeal : Cert.FfnRefIdeal.Facts] [hPre_finite_ffn : Cert.Pre_finite_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_ffn m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_LnTop [hLnTop : Cert.LnTop.Facts] : Prop :=
  ∀ (m : (ℓ : Loc Cert.LnTop.nD Cert.LnTop.τ Cert.LnTop.sig) → Buf (Elt Bits) ℓ) (g : Dev Cert.LnTop.nD → PrngReg), Pre_LnTop m →
    θ_run (Cert.LnTop.defs (F := Bits)) (onTc (τ := Cert.LnTop.τ) (Cert.LnTop.main (F := Bits))) ⟨m, fun _ => 0, g⟩ (fun r => (∀ c : Dev Cert.LnTop.nD,
      r.2.mem ((c.tc : Thread Cert.LnTop.nD Cert.LnTop.τ).loc Cert.LnTop.main_arg0) = m ((c.tc : Thread Cert.LnTop.nD Cert.LnTop.τ).loc Cert.LnTop.main_arg0)
      ∧ r.2.mem ((c.tc : Thread Cert.LnTop.nD Cert.LnTop.τ).loc Cert.LnTop.main_arg1) = m ((c.tc : Thread Cert.LnTop.nD Cert.LnTop.τ).loc Cert.LnTop.main_arg1)
      ∧ r.2.mem ((c.tc : Thread Cert.LnTop.nD Cert.LnTop.τ).loc Cert.LnTop.main_arg2) = m ((c.tc : Thread Cert.LnTop.nD Cert.LnTop.τ).loc Cert.LnTop.main_arg2))
      ∧ r.2.sem = fun _ => 0)

def quiescent_LnTopIdeal [hLnTopIdeal : Cert.LnTopIdeal.Facts] : Prop :=
  ∀ (m : (ℓ : Loc Cert.LnTopIdeal.nD Cert.LnTopIdeal.τ Cert.LnTopIdeal.sig) → Buf (Elt Ideal) ℓ) (g : Dev Cert.LnTopIdeal.nD → PrngReg), Pre_LnTopIdeal m →
    θ_run (Cert.LnTopIdeal.defs (F := Ideal)) (onTc (τ := Cert.LnTopIdeal.τ) (Cert.LnTopIdeal.main (F := Ideal))) ⟨m, fun _ => 0, g⟩ (fun r => (∀ c : Dev Cert.LnTopIdeal.nD,
      r.2.mem ((c.tc : Thread Cert.LnTopIdeal.nD Cert.LnTopIdeal.τ).loc Cert.LnTopIdeal.main_arg0) = m ((c.tc : Thread Cert.LnTopIdeal.nD Cert.LnTopIdeal.τ).loc Cert.LnTopIdeal.main_arg0)
      ∧ r.2.mem ((c.tc : Thread Cert.LnTopIdeal.nD Cert.LnTopIdeal.τ).loc Cert.LnTopIdeal.main_arg1) = m ((c.tc : Thread Cert.LnTopIdeal.nD Cert.LnTopIdeal.τ).loc Cert.LnTopIdeal.main_arg1)
      ∧ r.2.mem ((c.tc : Thread Cert.LnTopIdeal.nD Cert.LnTopIdeal.τ).loc Cert.LnTopIdeal.main_arg2) = m ((c.tc : Thread Cert.LnTopIdeal.nD Cert.LnTopIdeal.τ).loc Cert.LnTopIdeal.main_arg2))
      ∧ r.2.sem = fun _ => 0)

def quiescent_LnTopIdeal_pre_finite_lntop [hLnTopIdeal : Cert.LnTopIdeal.Facts] [hPre_finite_lntop : Cert.Pre_finite_lntop.Facts] : Prop :=
  ∀ (m : (ℓ : Loc Cert.LnTopIdeal.nD Cert.LnTopIdeal.τ Cert.LnTopIdeal.sig) → Buf (Elt Ideal) ℓ) (g : Dev Cert.LnTopIdeal.nD → PrngReg), Pre_LnTopIdeal_finite_lntop m →
    θ_run (Cert.LnTopIdeal.defs (F := Ideal)) (onTc (τ := Cert.LnTopIdeal.τ) (Cert.LnTopIdeal.main (F := Ideal))) ⟨m, fun _ => 0, g⟩ (fun r => (∀ c : Dev Cert.LnTopIdeal.nD,
      r.2.mem ((c.tc : Thread Cert.LnTopIdeal.nD Cert.LnTopIdeal.τ).loc Cert.LnTopIdeal.main_arg0) = m ((c.tc : Thread Cert.LnTopIdeal.nD Cert.LnTopIdeal.τ).loc Cert.LnTopIdeal.main_arg0)
      ∧ r.2.mem ((c.tc : Thread Cert.LnTopIdeal.nD Cert.LnTopIdeal.τ).loc Cert.LnTopIdeal.main_arg1) = m ((c.tc : Thread Cert.LnTopIdeal.nD Cert.LnTopIdeal.τ).loc Cert.LnTopIdeal.main_arg1)
      ∧ r.2.mem ((c.tc : Thread Cert.LnTopIdeal.nD Cert.LnTopIdeal.τ).loc Cert.LnTopIdeal.main_arg2) = m ((c.tc : Thread Cert.LnTopIdeal.nD Cert.LnTopIdeal.τ).loc Cert.LnTopIdeal.main_arg2))
      ∧ r.2.sem = fun _ => 0)

def quiescent_LnTopRefIdeal [hLnTopRefIdeal : Cert.LnTopRefIdeal.Facts] : Prop :=
  ∀ (m : (ℓ : Loc Cert.LnTopRefIdeal.nD Cert.LnTopRefIdeal.τ Cert.LnTopRefIdeal.sig) → Buf (Elt Ideal) ℓ) (g : Dev Cert.LnTopRefIdeal.nD → PrngReg), Pre_LnTopRefIdeal m →
    θ_run (Cert.LnTopRefIdeal.defs (F := Ideal)) (onTc (τ := Cert.LnTopRefIdeal.τ) (Cert.LnTopRefIdeal.main (F := Ideal))) ⟨m, fun _ => 0, g⟩ (fun r => (∀ c : Dev Cert.LnTopRefIdeal.nD,
      r.2.mem ((c.tc : Thread Cert.LnTopRefIdeal.nD Cert.LnTopRefIdeal.τ).loc Cert.LnTopRefIdeal.main_arg0) = m ((c.tc : Thread Cert.LnTopRefIdeal.nD Cert.LnTopRefIdeal.τ).loc Cert.LnTopRefIdeal.main_arg0)
      ∧ r.2.mem ((c.tc : Thread Cert.LnTopRefIdeal.nD Cert.LnTopRefIdeal.τ).loc Cert.LnTopRefIdeal.main_arg1) = m ((c.tc : Thread Cert.LnTopRefIdeal.nD Cert.LnTopRefIdeal.τ).loc Cert.LnTopRefIdeal.main_arg1)
      ∧ r.2.mem ((c.tc : Thread Cert.LnTopRefIdeal.nD Cert.LnTopRefIdeal.τ).loc Cert.LnTopRefIdeal.main_arg2) = m ((c.tc : Thread Cert.LnTopRefIdeal.nD Cert.LnTopRefIdeal.τ).loc Cert.LnTopRefIdeal.main_arg2))
      ∧ r.2.sem = fun _ => 0)

def quiescent_LnTopRefIdeal_pre_finite_lntop [hLnTopRefIdeal : Cert.LnTopRefIdeal.Facts] [hPre_finite_lntop : Cert.Pre_finite_lntop.Facts] : Prop :=
  ∀ (m : (ℓ : Loc Cert.LnTopRefIdeal.nD Cert.LnTopRefIdeal.τ Cert.LnTopRefIdeal.sig) → Buf (Elt Ideal) ℓ) (g : Dev Cert.LnTopRefIdeal.nD → PrngReg), Pre_LnTopRefIdeal_finite_lntop m →
    θ_run (Cert.LnTopRefIdeal.defs (F := Ideal)) (onTc (τ := Cert.LnTopRefIdeal.τ) (Cert.LnTopRefIdeal.main (F := Ideal))) ⟨m, fun _ => 0, g⟩ (fun r => (∀ c : Dev Cert.LnTopRefIdeal.nD,
      r.2.mem ((c.tc : Thread Cert.LnTopRefIdeal.nD Cert.LnTopRefIdeal.τ).loc Cert.LnTopRefIdeal.main_arg0) = m ((c.tc : Thread Cert.LnTopRefIdeal.nD Cert.LnTopRefIdeal.τ).loc Cert.LnTopRefIdeal.main_arg0)
      ∧ r.2.mem ((c.tc : Thread Cert.LnTopRefIdeal.nD Cert.LnTopRefIdeal.τ).loc Cert.LnTopRefIdeal.main_arg1) = m ((c.tc : Thread Cert.LnTopRefIdeal.nD Cert.LnTopRefIdeal.τ).loc Cert.LnTopRefIdeal.main_arg1)
      ∧ r.2.mem ((c.tc : Thread Cert.LnTopRefIdeal.nD Cert.LnTopRefIdeal.τ).loc Cert.LnTopRefIdeal.main_arg2) = m ((c.tc : Thread Cert.LnTopRefIdeal.nD Cert.LnTopRefIdeal.τ).loc Cert.LnTopRefIdeal.main_arg2))
      ∧ r.2.sem = fun _ => 0)

def quiescent_Ln [hLn : Cert.Ln.Facts] : Prop :=
  ∀ (m : (ℓ : Loc Cert.Ln.nD Cert.Ln.τ Cert.Ln.sig) → Buf (Elt Bits) ℓ) (g : Dev Cert.Ln.nD → PrngReg), Pre_Ln m →
    θ_run (Cert.Ln.defs (F := Bits)) (onTc (τ := Cert.Ln.τ) (Cert.Ln.main (F := Bits))) ⟨m, fun _ => 0, g⟩ (fun r => (∀ c : Dev Cert.Ln.nD,
      r.2.mem ((c.tc : Thread Cert.Ln.nD Cert.Ln.τ).loc Cert.Ln.main_arg0) = m ((c.tc : Thread Cert.Ln.nD Cert.Ln.τ).loc Cert.Ln.main_arg0)
      ∧ r.2.mem ((c.tc : Thread Cert.Ln.nD Cert.Ln.τ).loc Cert.Ln.main_arg1) = m ((c.tc : Thread Cert.Ln.nD Cert.Ln.τ).loc Cert.Ln.main_arg1)
      ∧ r.2.mem ((c.tc : Thread Cert.Ln.nD Cert.Ln.τ).loc Cert.Ln.main_arg2) = m ((c.tc : Thread Cert.Ln.nD Cert.Ln.τ).loc Cert.Ln.main_arg2)
      ∧ r.2.mem ((c.tc : Thread Cert.Ln.nD Cert.Ln.τ).loc Cert.Ln.main_arg3) = m ((c.tc : Thread Cert.Ln.nD Cert.Ln.τ).loc Cert.Ln.main_arg3))
      ∧ r.2.sem = fun _ => 0)

def quiescent_LnIdeal [hLnIdeal : Cert.LnIdeal.Facts] : Prop :=
  ∀ (m : (ℓ : Loc Cert.LnIdeal.nD Cert.LnIdeal.τ Cert.LnIdeal.sig) → Buf (Elt Ideal) ℓ) (g : Dev Cert.LnIdeal.nD → PrngReg), Pre_LnIdeal m →
    θ_run (Cert.LnIdeal.defs (F := Ideal)) (onTc (τ := Cert.LnIdeal.τ) (Cert.LnIdeal.main (F := Ideal))) ⟨m, fun _ => 0, g⟩ (fun r => (∀ c : Dev Cert.LnIdeal.nD,
      r.2.mem ((c.tc : Thread Cert.LnIdeal.nD Cert.LnIdeal.τ).loc Cert.LnIdeal.main_arg0) = m ((c.tc : Thread Cert.LnIdeal.nD Cert.LnIdeal.τ).loc Cert.LnIdeal.main_arg0)
      ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
      ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
      ∧ r.2.mem ((c.tc : Thread Cert.LnIdeal.nD Cert.LnIdeal.τ).loc Cert.LnIdeal.main_arg3) = m ((c.tc : Thread Cert.LnIdeal.nD Cert.LnIdeal.τ).loc Cert.LnIdeal.main_arg3))
      ∧ r.2.sem = fun _ => 0)

def quiescent_LnIdeal_pre_finite_ln [hLnIdeal : Cert.LnIdeal.Facts] [hPre_finite_ln : Cert.Pre_finite_ln.Facts] : Prop :=
  ∀ (m : (ℓ : Loc Cert.LnIdeal.nD Cert.LnIdeal.τ Cert.LnIdeal.sig) → Buf (Elt Ideal) ℓ) (g : Dev Cert.LnIdeal.nD → PrngReg), Pre_LnIdeal_finite_ln m →
    θ_run (Cert.LnIdeal.defs (F := Ideal)) (onTc (τ := Cert.LnIdeal.τ) (Cert.LnIdeal.main (F := Ideal))) ⟨m, fun _ => 0, g⟩ (fun r => (∀ c : Dev Cert.LnIdeal.nD,
      r.2.mem ((c.tc : Thread Cert.LnIdeal.nD Cert.LnIdeal.τ).loc Cert.LnIdeal.main_arg0) = m ((c.tc : Thread Cert.LnIdeal.nD Cert.LnIdeal.τ).loc Cert.LnIdeal.main_arg0)
      ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
      ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
      ∧ r.2.mem ((c.tc : Thread Cert.LnIdeal.nD Cert.LnIdeal.τ).loc Cert.LnIdeal.main_arg3) = m ((c.tc : Thread Cert.LnIdeal.nD Cert.LnIdeal.τ).loc Cert.LnIdeal.main_arg3))
      ∧ r.2.sem = fun _ => 0)

def quiescent_LnRefIdeal [hLnRefIdeal : Cert.LnRefIdeal.Facts] : Prop :=
  ∀ (m : (ℓ : Loc Cert.LnRefIdeal.nD Cert.LnRefIdeal.τ Cert.LnRefIdeal.sig) → Buf (Elt Ideal) ℓ) (g : Dev Cert.LnRefIdeal.nD → PrngReg), Pre_LnRefIdeal m →
    θ_run (Cert.LnRefIdeal.defs (F := Ideal)) (onTc (τ := Cert.LnRefIdeal.τ) (Cert.LnRefIdeal.main (F := Ideal))) ⟨m, fun _ => 0, g⟩ (fun r => (∀ c : Dev Cert.LnRefIdeal.nD,
      r.2.mem ((c.tc : Thread Cert.LnRefIdeal.nD Cert.LnRefIdeal.τ).loc Cert.LnRefIdeal.main_arg0) = m ((c.tc : Thread Cert.LnRefIdeal.nD Cert.LnRefIdeal.τ).loc Cert.LnRefIdeal.main_arg0)
      ∧ r.2.mem ((c.tc : Thread Cert.LnRefIdeal.nD Cert.LnRefIdeal.τ).loc Cert.LnRefIdeal.main_arg1) = m ((c.tc : Thread Cert.LnRefIdeal.nD Cert.LnRefIdeal.τ).loc Cert.LnRefIdeal.main_arg1)
      ∧ r.2.mem ((c.tc : Thread Cert.LnRefIdeal.nD Cert.LnRefIdeal.τ).loc Cert.LnRefIdeal.main_arg2) = m ((c.tc : Thread Cert.LnRefIdeal.nD Cert.LnRefIdeal.τ).loc Cert.LnRefIdeal.main_arg2)
      ∧ r.2.mem ((c.tc : Thread Cert.LnRefIdeal.nD Cert.LnRefIdeal.τ).loc Cert.LnRefIdeal.main_arg3) = m ((c.tc : Thread Cert.LnRefIdeal.nD Cert.LnRefIdeal.τ).loc Cert.LnRefIdeal.main_arg3))
      ∧ r.2.sem = fun _ => 0)

def quiescent_LnRefIdeal_pre_finite_ln [hLnRefIdeal : Cert.LnRefIdeal.Facts] [hPre_finite_ln : Cert.Pre_finite_ln.Facts] : Prop :=
  ∀ (m : (ℓ : Loc Cert.LnRefIdeal.nD Cert.LnRefIdeal.τ Cert.LnRefIdeal.sig) → Buf (Elt Ideal) ℓ) (g : Dev Cert.LnRefIdeal.nD → PrngReg), Pre_LnRefIdeal_finite_ln m →
    θ_run (Cert.LnRefIdeal.defs (F := Ideal)) (onTc (τ := Cert.LnRefIdeal.τ) (Cert.LnRefIdeal.main (F := Ideal))) ⟨m, fun _ => 0, g⟩ (fun r => (∀ c : Dev Cert.LnRefIdeal.nD,
      r.2.mem ((c.tc : Thread Cert.LnRefIdeal.nD Cert.LnRefIdeal.τ).loc Cert.LnRefIdeal.main_arg0) = m ((c.tc : Thread Cert.LnRefIdeal.nD Cert.LnRefIdeal.τ).loc Cert.LnRefIdeal.main_arg0)
      ∧ r.2.mem ((c.tc : Thread Cert.LnRefIdeal.nD Cert.LnRefIdeal.τ).loc Cert.LnRefIdeal.main_arg1) = m ((c.tc : Thread Cert.LnRefIdeal.nD Cert.LnRefIdeal.τ).loc Cert.LnRefIdeal.main_arg1)
      ∧ r.2.mem ((c.tc : Thread Cert.LnRefIdeal.nD Cert.LnRefIdeal.τ).loc Cert.LnRefIdeal.main_arg2) = m ((c.tc : Thread Cert.LnRefIdeal.nD Cert.LnRefIdeal.τ).loc Cert.LnRefIdeal.main_arg2)
      ∧ r.2.mem ((c.tc : Thread Cert.LnRefIdeal.nD Cert.LnRefIdeal.τ).loc Cert.LnRefIdeal.main_arg3) = m ((c.tc : Thread Cert.LnRefIdeal.nD Cert.LnRefIdeal.τ).loc Cert.LnRefIdeal.main_arg3))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Gelu [hGelu : Cert.Gelu.Facts] : Prop :=
  ∀ (m : (ℓ : Loc Cert.Gelu.nD Cert.Gelu.τ Cert.Gelu.sig) → Buf (Elt Bits) ℓ) (g : Dev Cert.Gelu.nD → PrngReg), Pre_Gelu m →
    θ_run (Cert.Gelu.defs (F := Bits)) (onTc (τ := Cert.Gelu.τ) (Cert.Gelu.main (F := Bits))) ⟨m, fun _ => 0, g⟩ (fun r => (∀ c : Dev Cert.Gelu.nD,
      r.2.mem ((c.tc : Thread Cert.Gelu.nD Cert.Gelu.τ).loc Cert.Gelu.main_arg0) = m ((c.tc : Thread Cert.Gelu.nD Cert.Gelu.τ).loc Cert.Gelu.main_arg0)
      ∧ r.2.mem ((c.tc : Thread Cert.Gelu.nD Cert.Gelu.τ).loc Cert.Gelu.main_arg1) = m ((c.tc : Thread Cert.Gelu.nD Cert.Gelu.τ).loc Cert.Gelu.main_arg1)
      ∧ r.2.mem ((c.tc : Thread Cert.Gelu.nD Cert.Gelu.τ).loc Cert.Gelu.main_arg2) = m ((c.tc : Thread Cert.Gelu.nD Cert.Gelu.τ).loc Cert.Gelu.main_arg2)
      ∧ r.2.mem ((c.tc : Thread Cert.Gelu.nD Cert.Gelu.τ).loc Cert.Gelu.main_arg3) = m ((c.tc : Thread Cert.Gelu.nD Cert.Gelu.τ).loc Cert.Gelu.main_arg3)
      ∧ r.2.mem ((c.tc : Thread Cert.Gelu.nD Cert.Gelu.τ).loc Cert.Gelu.main_arg4) = m ((c.tc : Thread Cert.Gelu.nD Cert.Gelu.τ).loc Cert.Gelu.main_arg4))
      ∧ r.2.sem = fun _ => 0)

def quiescent_GeluIdeal [hGeluIdeal : Cert.GeluIdeal.Facts] : Prop :=
  ∀ (m : (ℓ : Loc Cert.GeluIdeal.nD Cert.GeluIdeal.τ Cert.GeluIdeal.sig) → Buf (Elt Ideal) ℓ) (g : Dev Cert.GeluIdeal.nD → PrngReg), Pre_GeluIdeal m →
    θ_run (Cert.GeluIdeal.defs (F := Ideal)) (onTc (τ := Cert.GeluIdeal.τ) (Cert.GeluIdeal.main (F := Ideal))) ⟨m, fun _ => 0, g⟩ (fun r => (∀ c : Dev Cert.GeluIdeal.nD,
      r.2.mem ((c.tc : Thread Cert.GeluIdeal.nD Cert.GeluIdeal.τ).loc Cert.GeluIdeal.main_arg0) = m ((c.tc : Thread Cert.GeluIdeal.nD Cert.GeluIdeal.τ).loc Cert.GeluIdeal.main_arg0)
      ∧ r.2.mem ((c.tc : Thread Cert.GeluIdeal.nD Cert.GeluIdeal.τ).loc Cert.GeluIdeal.main_arg1) = m ((c.tc : Thread Cert.GeluIdeal.nD Cert.GeluIdeal.τ).loc Cert.GeluIdeal.main_arg1)
      ∧ r.2.mem ((c.tc : Thread Cert.GeluIdeal.nD Cert.GeluIdeal.τ).loc Cert.GeluIdeal.main_arg2) = m ((c.tc : Thread Cert.GeluIdeal.nD Cert.GeluIdeal.τ).loc Cert.GeluIdeal.main_arg2)
      ∧ r.2.mem ((c.tc : Thread Cert.GeluIdeal.nD Cert.GeluIdeal.τ).loc Cert.GeluIdeal.main_arg3) = m ((c.tc : Thread Cert.GeluIdeal.nD Cert.GeluIdeal.τ).loc Cert.GeluIdeal.main_arg3)
      ∧ r.2.mem ((c.tc : Thread Cert.GeluIdeal.nD Cert.GeluIdeal.τ).loc Cert.GeluIdeal.main_arg4) = m ((c.tc : Thread Cert.GeluIdeal.nD Cert.GeluIdeal.τ).loc Cert.GeluIdeal.main_arg4))
      ∧ r.2.sem = fun _ => 0)

def quiescent_GeluIdeal_pre_finite_gelu [hGeluIdeal : Cert.GeluIdeal.Facts] [hPre_finite_gelu : Cert.Pre_finite_gelu.Facts] : Prop :=
  ∀ (m : (ℓ : Loc Cert.GeluIdeal.nD Cert.GeluIdeal.τ Cert.GeluIdeal.sig) → Buf (Elt Ideal) ℓ) (g : Dev Cert.GeluIdeal.nD → PrngReg), Pre_GeluIdeal_finite_gelu m →
    θ_run (Cert.GeluIdeal.defs (F := Ideal)) (onTc (τ := Cert.GeluIdeal.τ) (Cert.GeluIdeal.main (F := Ideal))) ⟨m, fun _ => 0, g⟩ (fun r => (∀ c : Dev Cert.GeluIdeal.nD,
      r.2.mem ((c.tc : Thread Cert.GeluIdeal.nD Cert.GeluIdeal.τ).loc Cert.GeluIdeal.main_arg0) = m ((c.tc : Thread Cert.GeluIdeal.nD Cert.GeluIdeal.τ).loc Cert.GeluIdeal.main_arg0)
      ∧ r.2.mem ((c.tc : Thread Cert.GeluIdeal.nD Cert.GeluIdeal.τ).loc Cert.GeluIdeal.main_arg1) = m ((c.tc : Thread Cert.GeluIdeal.nD Cert.GeluIdeal.τ).loc Cert.GeluIdeal.main_arg1)
      ∧ r.2.mem ((c.tc : Thread Cert.GeluIdeal.nD Cert.GeluIdeal.τ).loc Cert.GeluIdeal.main_arg2) = m ((c.tc : Thread Cert.GeluIdeal.nD Cert.GeluIdeal.τ).loc Cert.GeluIdeal.main_arg2)
      ∧ r.2.mem ((c.tc : Thread Cert.GeluIdeal.nD Cert.GeluIdeal.τ).loc Cert.GeluIdeal.main_arg3) = m ((c.tc : Thread Cert.GeluIdeal.nD Cert.GeluIdeal.τ).loc Cert.GeluIdeal.main_arg3)
      ∧ r.2.mem ((c.tc : Thread Cert.GeluIdeal.nD Cert.GeluIdeal.τ).loc Cert.GeluIdeal.main_arg4) = m ((c.tc : Thread Cert.GeluIdeal.nD Cert.GeluIdeal.τ).loc Cert.GeluIdeal.main_arg4))
      ∧ r.2.sem = fun _ => 0)

def quiescent_GeluRefIdeal [hGeluRefIdeal : Cert.GeluRefIdeal.Facts] : Prop :=
  ∀ (m : (ℓ : Loc Cert.GeluRefIdeal.nD Cert.GeluRefIdeal.τ Cert.GeluRefIdeal.sig) → Buf (Elt Ideal) ℓ) (g : Dev Cert.GeluRefIdeal.nD → PrngReg), Pre_GeluRefIdeal m →
    θ_run (Cert.GeluRefIdeal.defs (F := Ideal)) (onTc (τ := Cert.GeluRefIdeal.τ) (Cert.GeluRefIdeal.main (F := Ideal))) ⟨m, fun _ => 0, g⟩ (fun r => (∀ c : Dev Cert.GeluRefIdeal.nD,
      r.2.mem ((c.tc : Thread Cert.GeluRefIdeal.nD Cert.GeluRefIdeal.τ).loc Cert.GeluRefIdeal.main_arg0) = m ((c.tc : Thread Cert.GeluRefIdeal.nD Cert.GeluRefIdeal.τ).loc Cert.GeluRefIdeal.main_arg0)
      ∧ r.2.mem ((c.tc : Thread Cert.GeluRefIdeal.nD Cert.GeluRefIdeal.τ).loc Cert.GeluRefIdeal.main_arg1) = m ((c.tc : Thread Cert.GeluRefIdeal.nD Cert.GeluRefIdeal.τ).loc Cert.GeluRefIdeal.main_arg1)
      ∧ r.2.mem ((c.tc : Thread Cert.GeluRefIdeal.nD Cert.GeluRefIdeal.τ).loc Cert.GeluRefIdeal.main_arg2) = m ((c.tc : Thread Cert.GeluRefIdeal.nD Cert.GeluRefIdeal.τ).loc Cert.GeluRefIdeal.main_arg2)
      ∧ r.2.mem ((c.tc : Thread Cert.GeluRefIdeal.nD Cert.GeluRefIdeal.τ).loc Cert.GeluRefIdeal.main_arg3) = m ((c.tc : Thread Cert.GeluRefIdeal.nD Cert.GeluRefIdeal.τ).loc Cert.GeluRefIdeal.main_arg3)
      ∧ r.2.mem ((c.tc : Thread Cert.GeluRefIdeal.nD Cert.GeluRefIdeal.τ).loc Cert.GeluRefIdeal.main_arg4) = m ((c.tc : Thread Cert.GeluRefIdeal.nD Cert.GeluRefIdeal.τ).loc Cert.GeluRefIdeal.main_arg4))
      ∧ r.2.sem = fun _ => 0)

def quiescent_GeluRefIdeal_pre_finite_gelu [hGeluRefIdeal : Cert.GeluRefIdeal.Facts] [hPre_finite_gelu : Cert.Pre_finite_gelu.Facts] : Prop :=
  ∀ (m : (ℓ : Loc Cert.GeluRefIdeal.nD Cert.GeluRefIdeal.τ Cert.GeluRefIdeal.sig) → Buf (Elt Ideal) ℓ) (g : Dev Cert.GeluRefIdeal.nD → PrngReg), Pre_GeluRefIdeal_finite_gelu m →
    θ_run (Cert.GeluRefIdeal.defs (F := Ideal)) (onTc (τ := Cert.GeluRefIdeal.τ) (Cert.GeluRefIdeal.main (F := Ideal))) ⟨m, fun _ => 0, g⟩ (fun r => (∀ c : Dev Cert.GeluRefIdeal.nD,
      r.2.mem ((c.tc : Thread Cert.GeluRefIdeal.nD Cert.GeluRefIdeal.τ).loc Cert.GeluRefIdeal.main_arg0) = m ((c.tc : Thread Cert.GeluRefIdeal.nD Cert.GeluRefIdeal.τ).loc Cert.GeluRefIdeal.main_arg0)
      ∧ r.2.mem ((c.tc : Thread Cert.GeluRefIdeal.nD Cert.GeluRefIdeal.τ).loc Cert.GeluRefIdeal.main_arg1) = m ((c.tc : Thread Cert.GeluRefIdeal.nD Cert.GeluRefIdeal.τ).loc Cert.GeluRefIdeal.main_arg1)
      ∧ r.2.mem ((c.tc : Thread Cert.GeluRefIdeal.nD Cert.GeluRefIdeal.τ).loc Cert.GeluRefIdeal.main_arg2) = m ((c.tc : Thread Cert.GeluRefIdeal.nD Cert.GeluRefIdeal.τ).loc Cert.GeluRefIdeal.main_arg2)
      ∧ r.2.mem ((c.tc : Thread Cert.GeluRefIdeal.nD Cert.GeluRefIdeal.τ).loc Cert.GeluRefIdeal.main_arg3) = m ((c.tc : Thread Cert.GeluRefIdeal.nD Cert.GeluRefIdeal.τ).loc Cert.GeluRefIdeal.main_arg3)
      ∧ r.2.mem ((c.tc : Thread Cert.GeluRefIdeal.nD Cert.GeluRefIdeal.τ).loc Cert.GeluRefIdeal.main_arg4) = m ((c.tc : Thread Cert.GeluRefIdeal.nD Cert.GeluRefIdeal.τ).loc Cert.GeluRefIdeal.main_arg4))
      ∧ r.2.sem = fun _ => 0)

def quiescent_Flash [hFlash : Cert.Flash.Facts] : Prop :=
  ∀ (m : (ℓ : Loc Cert.Flash.nD Cert.Flash.τ Cert.Flash.sig) → Buf (Elt Bits) ℓ) (g : Dev Cert.Flash.nD → PrngReg), Pre_Flash m →
    θ_run (Cert.Flash.defs (F := Bits)) (onTc (τ := Cert.Flash.τ) (Cert.Flash.main (F := Bits))) ⟨m, fun _ => 0, g⟩ (fun r => (∀ c : Dev Cert.Flash.nD,
      r.2.mem ((c.tc : Thread Cert.Flash.nD Cert.Flash.τ).loc Cert.Flash.main_arg0) = m ((c.tc : Thread Cert.Flash.nD Cert.Flash.τ).loc Cert.Flash.main_arg0)
      ∧ r.2.mem ((c.tc : Thread Cert.Flash.nD Cert.Flash.τ).loc Cert.Flash.main_arg1) = m ((c.tc : Thread Cert.Flash.nD Cert.Flash.τ).loc Cert.Flash.main_arg1)
      ∧ r.2.mem ((c.tc : Thread Cert.Flash.nD Cert.Flash.τ).loc Cert.Flash.main_arg2) = m ((c.tc : Thread Cert.Flash.nD Cert.Flash.τ).loc Cert.Flash.main_arg2))
      ∧ r.2.sem = fun _ => 0)

def quiescent_FlashIdeal [hFlashIdeal : Cert.FlashIdeal.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2))
      ∧ r.2.sem = fun _ => 0)

def quiescent_FlashIdeal_pre_finite_flash [hFlashIdeal : Cert.FlashIdeal.Facts] [hPre_finite_flash : Cert.Pre_finite_flash.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal_finite_flash m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2))
      ∧ r.2.sem = fun _ => 0)

def quiescent_FlashRefIdeal [hFlashRefIdeal : Cert.FlashRefIdeal.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2))
      ∧ r.2.sem = fun _ => 0)

def quiescent_FlashRefIdeal_pre_finite_flash [hFlashRefIdeal : Cert.FlashRefIdeal.Facts] [hPre_finite_flash : Cert.Pre_finite_flash.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal_finite_flash m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1))
      ∧ r.2.sem = fun _ => 0)

def quiescent_Delta [hDelta : Cert.Delta.Facts] : Prop :=
  ∀ (m : (ℓ : Loc Cert.Delta.nD Cert.Delta.τ Cert.Delta.sig) → Buf (Elt Bits) ℓ) (g : Dev Cert.Delta.nD → PrngReg), Pre_Delta m →
    θ_run (Cert.Delta.defs (F := Bits)) (onTc (τ := Cert.Delta.τ) (Cert.Delta.main (F := Bits))) ⟨m, fun _ => 0, g⟩ (fun r => (∀ c : Dev Cert.Delta.nD,
      r.2.mem ((c.tc : Thread Cert.Delta.nD Cert.Delta.τ).loc Cert.Delta.main_arg0) = m ((c.tc : Thread Cert.Delta.nD Cert.Delta.τ).loc Cert.Delta.main_arg0)
      ∧ r.2.mem ((c.tc : Thread Cert.Delta.nD Cert.Delta.τ).loc Cert.Delta.main_arg1) = m ((c.tc : Thread Cert.Delta.nD Cert.Delta.τ).loc Cert.Delta.main_arg1))
      ∧ r.2.sem = fun _ => 0)

def quiescent_DeltaIdeal [hDeltaIdeal : Cert.DeltaIdeal.Facts] : Prop :=
  ∀ (m : (ℓ : Loc Cert.DeltaIdeal.nD Cert.DeltaIdeal.τ Cert.DeltaIdeal.sig) → Buf (Elt Ideal) ℓ) (g : Dev Cert.DeltaIdeal.nD → PrngReg), Pre_DeltaIdeal m →
    θ_run (Cert.DeltaIdeal.defs (F := Ideal)) (onTc (τ := Cert.DeltaIdeal.τ) (Cert.DeltaIdeal.main (F := Ideal))) ⟨m, fun _ => 0, g⟩ (fun r => (∀ c : Dev Cert.DeltaIdeal.nD,
      r.2.mem ((c.tc : Thread Cert.DeltaIdeal.nD Cert.DeltaIdeal.τ).loc Cert.DeltaIdeal.main_arg0) = m ((c.tc : Thread Cert.DeltaIdeal.nD Cert.DeltaIdeal.τ).loc Cert.DeltaIdeal.main_arg0)
      ∧ r.2.mem ((c.tc : Thread Cert.DeltaIdeal.nD Cert.DeltaIdeal.τ).loc Cert.DeltaIdeal.main_arg1) = m ((c.tc : Thread Cert.DeltaIdeal.nD Cert.DeltaIdeal.τ).loc Cert.DeltaIdeal.main_arg1))
      ∧ r.2.sem = fun _ => 0)

def quiescent_DeltaRefIdeal [hDeltaRefIdeal : Cert.DeltaRefIdeal.Facts] : Prop :=
  ∀ (m : (ℓ : Loc Cert.DeltaRefIdeal.nD Cert.DeltaRefIdeal.τ Cert.DeltaRefIdeal.sig) → Buf (Elt Ideal) ℓ) (g : Dev Cert.DeltaRefIdeal.nD → PrngReg), Pre_DeltaRefIdeal m →
    θ_run (Cert.DeltaRefIdeal.defs (F := Ideal)) (onTc (τ := Cert.DeltaRefIdeal.τ) (Cert.DeltaRefIdeal.main (F := Ideal))) ⟨m, fun _ => 0, g⟩ (fun r => (∀ c : Dev Cert.DeltaRefIdeal.nD,
      r.2.mem ((c.tc : Thread Cert.DeltaRefIdeal.nD Cert.DeltaRefIdeal.τ).loc Cert.DeltaRefIdeal.main_arg0) = m ((c.tc : Thread Cert.DeltaRefIdeal.nD Cert.DeltaRefIdeal.τ).loc Cert.DeltaRefIdeal.main_arg0)
      ∧ r.2.mem ((c.tc : Thread Cert.DeltaRefIdeal.nD Cert.DeltaRefIdeal.τ).loc Cert.DeltaRefIdeal.main_arg1) = m ((c.tc : Thread Cert.DeltaRefIdeal.nD Cert.DeltaRefIdeal.τ).loc Cert.DeltaRefIdeal.main_arg1))
      ∧ r.2.sem = fun _ => 0)

def quiescent_SGelu [hSGelu : Cert.SGelu.Facts] : Prop :=
  ∀ (m : (ℓ : Loc Cert.SGelu.nD Cert.SGelu.τ Cert.SGelu.sig) → Buf (Elt Bits) ℓ) (g : Dev Cert.SGelu.nD → PrngReg), Pre_SGelu m →
    θ_run (Cert.SGelu.defs (F := Bits)) (onTc (τ := Cert.SGelu.τ) (Cert.SGelu.main (F := Bits))) ⟨m, fun _ => 0, g⟩ (fun r => (∀ c : Dev Cert.SGelu.nD,
      r.2.mem ((c.tc : Thread Cert.SGelu.nD Cert.SGelu.τ).loc Cert.SGelu.main_arg0) = m ((c.tc : Thread Cert.SGelu.nD Cert.SGelu.τ).loc Cert.SGelu.main_arg0)
      ∧ r.2.mem ((c.tc : Thread Cert.SGelu.nD Cert.SGelu.τ).loc Cert.SGelu.main_arg1) = m ((c.tc : Thread Cert.SGelu.nD Cert.SGelu.τ).loc Cert.SGelu.main_arg1)
      ∧ r.2.mem ((c.tc : Thread Cert.SGelu.nD Cert.SGelu.τ).loc Cert.SGelu.main_arg2) = m ((c.tc : Thread Cert.SGelu.nD Cert.SGelu.τ).loc Cert.SGelu.main_arg2))
      ∧ r.2.sem = fun _ => 0)

def quiescent_SGeluIdeal [hSGeluIdeal : Cert.SGeluIdeal.Facts] : Prop :=
  ∀ (m : (ℓ : Loc Cert.SGeluIdeal.nD Cert.SGeluIdeal.τ Cert.SGeluIdeal.sig) → Buf (Elt Ideal) ℓ) (g : Dev Cert.SGeluIdeal.nD → PrngReg), Pre_SGeluIdeal m →
    θ_run (Cert.SGeluIdeal.defs (F := Ideal)) (onTc (τ := Cert.SGeluIdeal.τ) (Cert.SGeluIdeal.main (F := Ideal))) ⟨m, fun _ => 0, g⟩ (fun r => (∀ c : Dev Cert.SGeluIdeal.nD,
      r.2.mem ((c.tc : Thread Cert.SGeluIdeal.nD Cert.SGeluIdeal.τ).loc Cert.SGeluIdeal.main_arg0) = m ((c.tc : Thread Cert.SGeluIdeal.nD Cert.SGeluIdeal.τ).loc Cert.SGeluIdeal.main_arg0)
      ∧ r.2.mem ((c.tc : Thread Cert.SGeluIdeal.nD Cert.SGeluIdeal.τ).loc Cert.SGeluIdeal.main_arg1) = m ((c.tc : Thread Cert.SGeluIdeal.nD Cert.SGeluIdeal.τ).loc Cert.SGeluIdeal.main_arg1)
      ∧ r.2.mem ((c.tc : Thread Cert.SGeluIdeal.nD Cert.SGeluIdeal.τ).loc Cert.SGeluIdeal.main_arg2) = m ((c.tc : Thread Cert.SGeluIdeal.nD Cert.SGeluIdeal.τ).loc Cert.SGeluIdeal.main_arg2))
      ∧ r.2.sem = fun _ => 0)

def quiescent_SGeluRefIdeal [hSGeluRefIdeal : Cert.SGeluRefIdeal.Facts] : Prop :=
  ∀ (m : (ℓ : Loc Cert.SGeluRefIdeal.nD Cert.SGeluRefIdeal.τ Cert.SGeluRefIdeal.sig) → Buf (Elt Ideal) ℓ) (g : Dev Cert.SGeluRefIdeal.nD → PrngReg), Pre_SGeluRefIdeal m →
    θ_run (Cert.SGeluRefIdeal.defs (F := Ideal)) (onTc (τ := Cert.SGeluRefIdeal.τ) (Cert.SGeluRefIdeal.main (F := Ideal))) ⟨m, fun _ => 0, g⟩ (fun r => (∀ c : Dev Cert.SGeluRefIdeal.nD,
      r.2.mem ((c.tc : Thread Cert.SGeluRefIdeal.nD Cert.SGeluRefIdeal.τ).loc Cert.SGeluRefIdeal.main_arg0) = m ((c.tc : Thread Cert.SGeluRefIdeal.nD Cert.SGeluRefIdeal.τ).loc Cert.SGeluRefIdeal.main_arg0)
      ∧ r.2.mem ((c.tc : Thread Cert.SGeluRefIdeal.nD Cert.SGeluRefIdeal.τ).loc Cert.SGeluRefIdeal.main_arg1) = m ((c.tc : Thread Cert.SGeluRefIdeal.nD Cert.SGeluRefIdeal.τ).loc Cert.SGeluRefIdeal.main_arg1)
      ∧ r.2.mem ((c.tc : Thread Cert.SGeluRefIdeal.nD Cert.SGeluRefIdeal.τ).loc Cert.SGeluRefIdeal.main_arg2) = m ((c.tc : Thread Cert.SGeluRefIdeal.nD Cert.SGeluRefIdeal.τ).loc Cert.SGeluRefIdeal.main_arg2))
      ∧ r.2.sem = fun _ => 0)

def quiescent_SGlu [hSGlu : Cert.SGlu.Facts] : Prop :=
  ∀ (m : (ℓ : Loc Cert.SGlu.nD Cert.SGlu.τ Cert.SGlu.sig) → Buf (Elt Bits) ℓ) (g : Dev Cert.SGlu.nD → PrngReg), Pre_SGlu m →
    θ_run (Cert.SGlu.defs (F := Bits)) (onTc (τ := Cert.SGlu.τ) (Cert.SGlu.main (F := Bits))) ⟨m, fun _ => 0, g⟩ (fun r => (∀ c : Dev Cert.SGlu.nD,
      r.2.mem ((c.tc : Thread Cert.SGlu.nD Cert.SGlu.τ).loc Cert.SGlu.main_arg0) = m ((c.tc : Thread Cert.SGlu.nD Cert.SGlu.τ).loc Cert.SGlu.main_arg0)
      ∧ r.2.mem ((c.tc : Thread Cert.SGlu.nD Cert.SGlu.τ).loc Cert.SGlu.main_arg1) = m ((c.tc : Thread Cert.SGlu.nD Cert.SGlu.τ).loc Cert.SGlu.main_arg1))
      ∧ r.2.sem = fun _ => 0)

def quiescent_SGluIdeal [hSGluIdeal : Cert.SGluIdeal.Facts] : Prop :=
  ∀ (m : (ℓ : Loc Cert.SGluIdeal.nD Cert.SGluIdeal.τ Cert.SGluIdeal.sig) → Buf (Elt Ideal) ℓ) (g : Dev Cert.SGluIdeal.nD → PrngReg), Pre_SGluIdeal m →
    θ_run (Cert.SGluIdeal.defs (F := Ideal)) (onTc (τ := Cert.SGluIdeal.τ) (Cert.SGluIdeal.main (F := Ideal))) ⟨m, fun _ => 0, g⟩ (fun r => (∀ c : Dev Cert.SGluIdeal.nD,
      r.2.mem ((c.tc : Thread Cert.SGluIdeal.nD Cert.SGluIdeal.τ).loc Cert.SGluIdeal.main_arg0) = m ((c.tc : Thread Cert.SGluIdeal.nD Cert.SGluIdeal.τ).loc Cert.SGluIdeal.main_arg0)
      ∧ r.2.mem ((c.tc : Thread Cert.SGluIdeal.nD Cert.SGluIdeal.τ).loc Cert.SGluIdeal.main_arg1) = m ((c.tc : Thread Cert.SGluIdeal.nD Cert.SGluIdeal.τ).loc Cert.SGluIdeal.main_arg1))
      ∧ r.2.sem = fun _ => 0)

def quiescent_SGluRefIdeal [hSGluRefIdeal : Cert.SGluRefIdeal.Facts] : Prop :=
  ∀ (m : (ℓ : Loc Cert.SGluRefIdeal.nD Cert.SGluRefIdeal.τ Cert.SGluRefIdeal.sig) → Buf (Elt Ideal) ℓ) (g : Dev Cert.SGluRefIdeal.nD → PrngReg), Pre_SGluRefIdeal m →
    θ_run (Cert.SGluRefIdeal.defs (F := Ideal)) (onTc (τ := Cert.SGluRefIdeal.τ) (Cert.SGluRefIdeal.main (F := Ideal))) ⟨m, fun _ => 0, g⟩ (fun r => (∀ c : Dev Cert.SGluRefIdeal.nD,
      r.2.mem ((c.tc : Thread Cert.SGluRefIdeal.nD Cert.SGluRefIdeal.τ).loc Cert.SGluRefIdeal.main_arg0) = m ((c.tc : Thread Cert.SGluRefIdeal.nD Cert.SGluRefIdeal.τ).loc Cert.SGluRefIdeal.main_arg0)
      ∧ r.2.mem ((c.tc : Thread Cert.SGluRefIdeal.nD Cert.SGluRefIdeal.τ).loc Cert.SGluRefIdeal.main_arg1) = m ((c.tc : Thread Cert.SGluRefIdeal.nD Cert.SGluRefIdeal.τ).loc Cert.SGluRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0)
      ∧ r.2.mem ((c.tc : Thread Cert.Rope.nD Cert.Rope.τ).loc Cert.Rope.main_arg1) = m ((c.tc : Thread Cert.Rope.nD Cert.Rope.τ).loc Cert.Rope.main_arg1)
      ∧ r.2.mem ((c.tc : Thread Cert.Rope.nD Cert.Rope.τ).loc Cert.Rope.main_arg2) = m ((c.tc : Thread Cert.Rope.nD Cert.Rope.τ).loc Cert.Rope.main_arg2))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
      ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
      ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0)
      ∧ r.2.mem ((c.tc : Thread Cert.RopeRefIdeal.nD Cert.RopeRefIdeal.τ).loc Cert.RopeRefIdeal.main_arg1) = m ((c.tc : Thread Cert.RopeRefIdeal.nD Cert.RopeRefIdeal.τ).loc Cert.RopeRefIdeal.main_arg1)
      ∧ r.2.mem ((c.tc : Thread Cert.RopeRefIdeal.nD Cert.RopeRefIdeal.τ).loc Cert.RopeRefIdeal.main_arg2) = m ((c.tc : Thread Cert.RopeRefIdeal.nD Cert.RopeRefIdeal.τ).loc Cert.RopeRefIdeal.main_arg2))
      ∧ r.2.sem = fun _ => 0)

def quiescent_RopeBwd [hRopeBwd : Cert.RopeBwd.Facts] : Prop :=
  ∀ (m : (ℓ : Loc Cert.RopeBwd.nD Cert.RopeBwd.τ Cert.RopeBwd.sig) → Buf (Elt Bits) ℓ) (g : Dev Cert.RopeBwd.nD → PrngReg), Pre_RopeBwd m →
    θ_run (Cert.RopeBwd.defs (F := Bits)) (onTc (τ := Cert.RopeBwd.τ) (Cert.RopeBwd.main (F := Bits))) ⟨m, fun _ => 0, g⟩ (fun r => (∀ c : Dev Cert.RopeBwd.nD,
      r.2.mem ((c.tc : Thread Cert.RopeBwd.nD Cert.RopeBwd.τ).loc Cert.RopeBwd.main_arg0) = m ((c.tc : Thread Cert.RopeBwd.nD Cert.RopeBwd.τ).loc Cert.RopeBwd.main_arg0)
      ∧ r.2.mem ((c.tc : Thread Cert.RopeBwd.nD Cert.RopeBwd.τ).loc Cert.RopeBwd.main_arg1) = m ((c.tc : Thread Cert.RopeBwd.nD Cert.RopeBwd.τ).loc Cert.RopeBwd.main_arg1)
      ∧ r.2.mem ((c.tc : Thread Cert.RopeBwd.nD Cert.RopeBwd.τ).loc Cert.RopeBwd.main_arg2) = m ((c.tc : Thread Cert.RopeBwd.nD Cert.RopeBwd.τ).loc Cert.RopeBwd.main_arg2)
      ∧ r.2.mem ((c.tc : Thread Cert.RopeBwd.nD Cert.RopeBwd.τ).loc Cert.RopeBwd.main_arg3) = m ((c.tc : Thread Cert.RopeBwd.nD Cert.RopeBwd.τ).loc Cert.RopeBwd.main_arg3)
      ∧ r.2.mem ((c.tc : Thread Cert.RopeBwd.nD Cert.RopeBwd.τ).loc Cert.RopeBwd.main_arg4) = m ((c.tc : Thread Cert.RopeBwd.nD Cert.RopeBwd.τ).loc Cert.RopeBwd.main_arg4)
      ∧ r.2.mem ((c.tc : Thread Cert.RopeBwd.nD Cert.RopeBwd.τ).loc Cert.RopeBwd.main_arg5) = m ((c.tc : Thread Cert.RopeBwd.nD Cert.RopeBwd.τ).loc Cert.RopeBwd.main_arg5))
      ∧ r.2.sem = fun _ => 0)

def quiescent_RopeBwdIdeal [hRopeBwdIdeal : Cert.RopeBwdIdeal.Facts] : Prop :=
  ∀ (m : (ℓ : Loc Cert.RopeBwdIdeal.nD Cert.RopeBwdIdeal.τ Cert.RopeBwdIdeal.sig) → Buf (Elt Ideal) ℓ) (g : Dev Cert.RopeBwdIdeal.nD → PrngReg), Pre_RopeBwdIdeal m →
    θ_run (Cert.RopeBwdIdeal.defs (F := Ideal)) (onTc (τ := Cert.RopeBwdIdeal.τ) (Cert.RopeBwdIdeal.main (F := Ideal))) ⟨m, fun _ => 0, g⟩ (fun r => (∀ c : Dev Cert.RopeBwdIdeal.nD,
      r.2.mem ((c.tc : Thread Cert.RopeBwdIdeal.nD Cert.RopeBwdIdeal.τ).loc Cert.RopeBwdIdeal.main_arg0) = m ((c.tc : Thread Cert.RopeBwdIdeal.nD Cert.RopeBwdIdeal.τ).loc Cert.RopeBwdIdeal.main_arg0)
      ∧ r.2.mem ((c.tc : Thread Cert.RopeBwdIdeal.nD Cert.RopeBwdIdeal.τ).loc Cert.RopeBwdIdeal.main_arg1) = m ((c.tc : Thread Cert.RopeBwdIdeal.nD Cert.RopeBwdIdeal.τ).loc Cert.RopeBwdIdeal.main_arg1)
      ∧ r.2.mem ((c.tc : Thread Cert.RopeBwdIdeal.nD Cert.RopeBwdIdeal.τ).loc Cert.RopeBwdIdeal.main_arg2) = m ((c.tc : Thread Cert.RopeBwdIdeal.nD Cert.RopeBwdIdeal.τ).loc Cert.RopeBwdIdeal.main_arg2)
      ∧ r.2.mem ((c.tc : Thread Cert.RopeBwdIdeal.nD Cert.RopeBwdIdeal.τ).loc Cert.RopeBwdIdeal.main_arg3) = m ((c.tc : Thread Cert.RopeBwdIdeal.nD Cert.RopeBwdIdeal.τ).loc Cert.RopeBwdIdeal.main_arg3)
      ∧ r.2.mem ((c.tc : Thread Cert.RopeBwdIdeal.nD Cert.RopeBwdIdeal.τ).loc Cert.RopeBwdIdeal.main_arg4) = m ((c.tc : Thread Cert.RopeBwdIdeal.nD Cert.RopeBwdIdeal.τ).loc Cert.RopeBwdIdeal.main_arg4)
      ∧ r.2.mem ((c.tc : Thread Cert.RopeBwdIdeal.nD Cert.RopeBwdIdeal.τ).loc Cert.RopeBwdIdeal.main_arg5) = m ((c.tc : Thread Cert.RopeBwdIdeal.nD Cert.RopeBwdIdeal.τ).loc Cert.RopeBwdIdeal.main_arg5))
      ∧ r.2.sem = fun _ => 0)

def quiescent_RopeBwdIdeal_pre_finite_ropebwd [hRopeBwdIdeal : Cert.RopeBwdIdeal.Facts] [hPre_finite_ropebwd : Cert.Pre_finite_ropebwd.Facts] : Prop :=
  ∀ (m : (ℓ : Loc Cert.RopeBwdIdeal.nD Cert.RopeBwdIdeal.τ Cert.RopeBwdIdeal.sig) → Buf (Elt Ideal) ℓ) (g : Dev Cert.RopeBwdIdeal.nD → PrngReg), Pre_RopeBwdIdeal_finite_ropebwd m →
    θ_run (Cert.RopeBwdIdeal.defs (F := Ideal)) (onTc (τ := Cert.RopeBwdIdeal.τ) (Cert.RopeBwdIdeal.main (F := Ideal))) ⟨m, fun _ => 0, g⟩ (fun r => (∀ c : Dev Cert.RopeBwdIdeal.nD,
      r.2.mem ((c.tc : Thread Cert.RopeBwdIdeal.nD Cert.RopeBwdIdeal.τ).loc Cert.RopeBwdIdeal.main_arg0) = m ((c.tc : Thread Cert.RopeBwdIdeal.nD Cert.RopeBwdIdeal.τ).loc Cert.RopeBwdIdeal.main_arg0)
      ∧ r.2.mem ((c.tc : Thread Cert.RopeBwdIdeal.nD Cert.RopeBwdIdeal.τ).loc Cert.RopeBwdIdeal.main_arg1) = m ((c.tc : Thread Cert.RopeBwdIdeal.nD Cert.RopeBwdIdeal.τ).loc Cert.RopeBwdIdeal.main_arg1)
      ∧ r.2.mem ((c.tc : Thread Cert.RopeBwdIdeal.nD Cert.RopeBwdIdeal.τ).loc Cert.RopeBwdIdeal.main_arg2) = m ((c.tc : Thread Cert.RopeBwdIdeal.nD Cert.RopeBwdIdeal.τ).loc Cert.RopeBwdIdeal.main_arg2)
      ∧ r.2.mem ((c.tc : Thread Cert.RopeBwdIdeal.nD Cert.RopeBwdIdeal.τ).loc Cert.RopeBwdIdeal.main_arg3) = m ((c.tc : Thread Cert.RopeBwdIdeal.nD Cert.RopeBwdIdeal.τ).loc Cert.RopeBwdIdeal.main_arg3)
      ∧ r.2.mem ((c.tc : Thread Cert.RopeBwdIdeal.nD Cert.RopeBwdIdeal.τ).loc Cert.RopeBwdIdeal.main_arg4) = m ((c.tc : Thread Cert.RopeBwdIdeal.nD Cert.RopeBwdIdeal.τ).loc Cert.RopeBwdIdeal.main_arg4)
      ∧ r.2.mem ((c.tc : Thread Cert.RopeBwdIdeal.nD Cert.RopeBwdIdeal.τ).loc Cert.RopeBwdIdeal.main_arg5) = m ((c.tc : Thread Cert.RopeBwdIdeal.nD Cert.RopeBwdIdeal.τ).loc Cert.RopeBwdIdeal.main_arg5))
      ∧ r.2.sem = fun _ => 0)

def quiescent_RopeBwdRefIdeal [hRopeBwdRefIdeal : Cert.RopeBwdRefIdeal.Facts] : Prop :=
  ∀ (m : (ℓ : Loc Cert.RopeBwdRefIdeal.nD Cert.RopeBwdRefIdeal.τ Cert.RopeBwdRefIdeal.sig) → Buf (Elt Ideal) ℓ) (g : Dev Cert.RopeBwdRefIdeal.nD → PrngReg), Pre_RopeBwdRefIdeal m →
    θ_run (Cert.RopeBwdRefIdeal.defs (F := Ideal)) (onTc (τ := Cert.RopeBwdRefIdeal.τ) (Cert.RopeBwdRefIdeal.main (F := Ideal))) ⟨m, fun _ => 0, g⟩ (fun r => (∀ c : Dev Cert.RopeBwdRefIdeal.nD,
      r.2.mem ((c.tc : Thread Cert.RopeBwdRefIdeal.nD Cert.RopeBwdRefIdeal.τ).loc Cert.RopeBwdRefIdeal.main_arg0) = m ((c.tc : Thread Cert.RopeBwdRefIdeal.nD Cert.RopeBwdRefIdeal.τ).loc Cert.RopeBwdRefIdeal.main_arg0)
      ∧ r.2.mem ((c.tc : Thread Cert.RopeBwdRefIdeal.nD Cert.RopeBwdRefIdeal.τ).loc Cert.RopeBwdRefIdeal.main_arg1) = m ((c.tc : Thread Cert.RopeBwdRefIdeal.nD Cert.RopeBwdRefIdeal.τ).loc Cert.RopeBwdRefIdeal.main_arg1)
      ∧ r.2.mem ((c.tc : Thread Cert.RopeBwdRefIdeal.nD Cert.RopeBwdRefIdeal.τ).loc Cert.RopeBwdRefIdeal.main_arg2) = m ((c.tc : Thread Cert.RopeBwdRefIdeal.nD Cert.RopeBwdRefIdeal.τ).loc Cert.RopeBwdRefIdeal.main_arg2)
      ∧ r.2.mem ((c.tc : Thread Cert.RopeBwdRefIdeal.nD Cert.RopeBwdRefIdeal.τ).loc Cert.RopeBwdRefIdeal.main_arg3) = m ((c.tc : Thread Cert.RopeBwdRefIdeal.nD Cert.RopeBwdRefIdeal.τ).loc Cert.RopeBwdRefIdeal.main_arg3)
      ∧ r.2.mem ((c.tc : Thread Cert.RopeBwdRefIdeal.nD Cert.RopeBwdRefIdeal.τ).loc Cert.RopeBwdRefIdeal.main_arg4) = m ((c.tc : Thread Cert.RopeBwdRefIdeal.nD Cert.RopeBwdRefIdeal.τ).loc Cert.RopeBwdRefIdeal.main_arg4)
      ∧ r.2.mem ((c.tc : Thread Cert.RopeBwdRefIdeal.nD Cert.RopeBwdRefIdeal.τ).loc Cert.RopeBwdRefIdeal.main_arg5) = m ((c.tc : Thread Cert.RopeBwdRefIdeal.nD Cert.RopeBwdRefIdeal.τ).loc Cert.RopeBwdRefIdeal.main_arg5))
      ∧ r.2.sem = fun _ => 0)

def quiescent_RopeBwdRefIdeal_pre_finite_ropebwd [hRopeBwdRefIdeal : Cert.RopeBwdRefIdeal.Facts] [hPre_finite_ropebwd : Cert.Pre_finite_ropebwd.Facts] : Prop :=
  ∀ (m : (ℓ : Loc Cert.RopeBwdRefIdeal.nD Cert.RopeBwdRefIdeal.τ Cert.RopeBwdRefIdeal.sig) → Buf (Elt Ideal) ℓ) (g : Dev Cert.RopeBwdRefIdeal.nD → PrngReg), Pre_RopeBwdRefIdeal_finite_ropebwd m →
    θ_run (Cert.RopeBwdRefIdeal.defs (F := Ideal)) (onTc (τ := Cert.RopeBwdRefIdeal.τ) (Cert.RopeBwdRefIdeal.main (F := Ideal))) ⟨m, fun _ => 0, g⟩ (fun r => (∀ c : Dev Cert.RopeBwdRefIdeal.nD,
      r.2.mem ((c.tc : Thread Cert.RopeBwdRefIdeal.nD Cert.RopeBwdRefIdeal.τ).loc Cert.RopeBwdRefIdeal.main_arg0) = m ((c.tc : Thread Cert.RopeBwdRefIdeal.nD Cert.RopeBwdRefIdeal.τ).loc Cert.RopeBwdRefIdeal.main_arg0)
      ∧ r.2.mem ((c.tc : Thread Cert.RopeBwdRefIdeal.nD Cert.RopeBwdRefIdeal.τ).loc Cert.RopeBwdRefIdeal.main_arg1) = m ((c.tc : Thread Cert.RopeBwdRefIdeal.nD Cert.RopeBwdRefIdeal.τ).loc Cert.RopeBwdRefIdeal.main_arg1)
      ∧ r.2.mem ((c.tc : Thread Cert.RopeBwdRefIdeal.nD Cert.RopeBwdRefIdeal.τ).loc Cert.RopeBwdRefIdeal.main_arg2) = m ((c.tc : Thread Cert.RopeBwdRefIdeal.nD Cert.RopeBwdRefIdeal.τ).loc Cert.RopeBwdRefIdeal.main_arg2)
      ∧ r.2.mem ((c.tc : Thread Cert.RopeBwdRefIdeal.nD Cert.RopeBwdRefIdeal.τ).loc Cert.RopeBwdRefIdeal.main_arg3) = m ((c.tc : Thread Cert.RopeBwdRefIdeal.nD Cert.RopeBwdRefIdeal.τ).loc Cert.RopeBwdRefIdeal.main_arg3)
      ∧ r.2.mem ((c.tc : Thread Cert.RopeBwdRefIdeal.nD Cert.RopeBwdRefIdeal.τ).loc Cert.RopeBwdRefIdeal.main_arg4) = m ((c.tc : Thread Cert.RopeBwdRefIdeal.nD Cert.RopeBwdRefIdeal.τ).loc Cert.RopeBwdRefIdeal.main_arg4)
      ∧ r.2.mem ((c.tc : Thread Cert.RopeBwdRefIdeal.nD Cert.RopeBwdRefIdeal.τ).loc Cert.RopeBwdRefIdeal.main_arg5) = m ((c.tc : Thread Cert.RopeBwdRefIdeal.nD Cert.RopeBwdRefIdeal.τ).loc Cert.RopeBwdRefIdeal.main_arg5))
      ∧ r.2.sem = fun _ => 0)

def quiescent_Mm [hMm : Cert.Mm.Facts] : Prop :=
  ∀ (m : (ℓ : Loc Cert.Mm.nD Cert.Mm.τ Cert.Mm.sig) → Buf (Elt Bits) ℓ) (g : Dev Cert.Mm.nD → PrngReg), Pre_Mm m →
    θ_run (Cert.Mm.defs (F := Bits)) (onTc (τ := Cert.Mm.τ) (Cert.Mm.main (F := Bits))) ⟨m, fun _ => 0, g⟩ (fun r => (∀ c : Dev Cert.Mm.nD,
      r.2.mem ((c.tc : Thread Cert.Mm.nD Cert.Mm.τ).loc Cert.Mm.main_arg0) = m ((c.tc : Thread Cert.Mm.nD Cert.Mm.τ).loc Cert.Mm.main_arg0)
      ∧ r.2.mem ((c.tc : Thread Cert.Mm.nD Cert.Mm.τ).loc Cert.Mm.main_arg1) = m ((c.tc : Thread Cert.Mm.nD Cert.Mm.τ).loc Cert.Mm.main_arg1))
      ∧ r.2.sem = fun _ => 0)

def quiescent_MmIdeal [hMmIdeal : Cert.MmIdeal.Facts] : Prop :=
  ∀ (m : (ℓ : Loc Cert.MmIdeal.nD Cert.MmIdeal.τ Cert.MmIdeal.sig) → Buf (Elt Ideal) ℓ) (g : Dev Cert.MmIdeal.nD → PrngReg), Pre_MmIdeal m →
    θ_run (Cert.MmIdeal.defs (F := Ideal)) (onTc (τ := Cert.MmIdeal.τ) (Cert.MmIdeal.main (F := Ideal))) ⟨m, fun _ => 0, g⟩ (fun r => (∀ c : Dev Cert.MmIdeal.nD,
      r.2.mem ((c.tc : Thread Cert.MmIdeal.nD Cert.MmIdeal.τ).loc Cert.MmIdeal.main_arg0) = m ((c.tc : Thread Cert.MmIdeal.nD Cert.MmIdeal.τ).loc Cert.MmIdeal.main_arg0)
      ∧ r.2.mem ((c.tc : Thread Cert.MmIdeal.nD Cert.MmIdeal.τ).loc Cert.MmIdeal.main_arg1) = m ((c.tc : Thread Cert.MmIdeal.nD Cert.MmIdeal.τ).loc Cert.MmIdeal.main_arg1))
      ∧ r.2.sem = fun _ => 0)

def quiescent_MmRefIdeal [hMmRefIdeal : Cert.MmRefIdeal.Facts] : Prop :=
  ∀ (m : (ℓ : Loc Cert.MmRefIdeal.nD Cert.MmRefIdeal.τ Cert.MmRefIdeal.sig) → Buf (Elt Ideal) ℓ) (g : Dev Cert.MmRefIdeal.nD → PrngReg), Pre_MmRefIdeal m →
    θ_run (Cert.MmRefIdeal.defs (F := Ideal)) (onTc (τ := Cert.MmRefIdeal.τ) (Cert.MmRefIdeal.main (F := Ideal))) ⟨m, fun _ => 0, g⟩ (fun r => (∀ c : Dev Cert.MmRefIdeal.nD,
      r.2.mem ((c.tc : Thread Cert.MmRefIdeal.nD Cert.MmRefIdeal.τ).loc Cert.MmRefIdeal.main_arg0) = m ((c.tc : Thread Cert.MmRefIdeal.nD Cert.MmRefIdeal.τ).loc Cert.MmRefIdeal.main_arg0)
      ∧ r.2.mem ((c.tc : Thread Cert.MmRefIdeal.nD Cert.MmRefIdeal.τ).loc Cert.MmRefIdeal.main_arg1) = m ((c.tc : Thread Cert.MmRefIdeal.nD Cert.MmRefIdeal.τ).loc Cert.MmRefIdeal.main_arg1))
      ∧ r.2.sem = fun _ => 0)

def quiescent_MmTwo [hMmTwo : Cert.MmTwo.Facts] : Prop :=
  ∀ (m : (ℓ : Loc Cert.MmTwo.nD Cert.MmTwo.τ Cert.MmTwo.sig) → Buf (Elt Bits) ℓ) (g : Dev Cert.MmTwo.nD → PrngReg), Pre_MmTwo m →
    θ_run (Cert.MmTwo.defs (F := Bits)) (onTc (τ := Cert.MmTwo.τ) (Cert.MmTwo.main (F := Bits))) ⟨m, fun _ => 0, g⟩ (fun r => (∀ c : Dev Cert.MmTwo.nD,
      r.2.mem ((c.tc : Thread Cert.MmTwo.nD Cert.MmTwo.τ).loc Cert.MmTwo.main_arg0) = m ((c.tc : Thread Cert.MmTwo.nD Cert.MmTwo.τ).loc Cert.MmTwo.main_arg0)
      ∧ r.2.mem ((c.tc : Thread Cert.MmTwo.nD Cert.MmTwo.τ).loc Cert.MmTwo.main_arg1) = m ((c.tc : Thread Cert.MmTwo.nD Cert.MmTwo.τ).loc Cert.MmTwo.main_arg1)
      ∧ r.2.mem ((c.tc : Thread Cert.MmTwo.nD Cert.MmTwo.τ).loc Cert.MmTwo.main_arg2) = m ((c.tc : Thread Cert.MmTwo.nD Cert.MmTwo.τ).loc Cert.MmTwo.main_arg2)
      ∧ r.2.mem ((c.tc : Thread Cert.MmTwo.nD Cert.MmTwo.τ).loc Cert.MmTwo.main_arg3) = m ((c.tc : Thread Cert.MmTwo.nD Cert.MmTwo.τ).loc Cert.MmTwo.main_arg3))
      ∧ r.2.sem = fun _ => 0)

def quiescent_MmTwoIdeal [hMmTwoIdeal : Cert.MmTwoIdeal.Facts] : Prop :=
  ∀ (m : (ℓ : Loc Cert.MmTwoIdeal.nD Cert.MmTwoIdeal.τ Cert.MmTwoIdeal.sig) → Buf (Elt Ideal) ℓ) (g : Dev Cert.MmTwoIdeal.nD → PrngReg), Pre_MmTwoIdeal m →
    θ_run (Cert.MmTwoIdeal.defs (F := Ideal)) (onTc (τ := Cert.MmTwoIdeal.τ) (Cert.MmTwoIdeal.main (F := Ideal))) ⟨m, fun _ => 0, g⟩ (fun r => (∀ c : Dev Cert.MmTwoIdeal.nD,
      r.2.mem ((c.tc : Thread Cert.MmTwoIdeal.nD Cert.MmTwoIdeal.τ).loc Cert.MmTwoIdeal.main_arg0) = m ((c.tc : Thread Cert.MmTwoIdeal.nD Cert.MmTwoIdeal.τ).loc Cert.MmTwoIdeal.main_arg0)
      ∧ r.2.mem ((c.tc : Thread Cert.MmTwoIdeal.nD Cert.MmTwoIdeal.τ).loc Cert.MmTwoIdeal.main_arg1) = m ((c.tc : Thread Cert.MmTwoIdeal.nD Cert.MmTwoIdeal.τ).loc Cert.MmTwoIdeal.main_arg1)
      ∧ r.2.mem ((c.tc : Thread Cert.MmTwoIdeal.nD Cert.MmTwoIdeal.τ).loc Cert.MmTwoIdeal.main_arg2) = m ((c.tc : Thread Cert.MmTwoIdeal.nD Cert.MmTwoIdeal.τ).loc Cert.MmTwoIdeal.main_arg2)
      ∧ r.2.mem ((c.tc : Thread Cert.MmTwoIdeal.nD Cert.MmTwoIdeal.τ).loc Cert.MmTwoIdeal.main_arg3) = m ((c.tc : Thread Cert.MmTwoIdeal.nD Cert.MmTwoIdeal.τ).loc Cert.MmTwoIdeal.main_arg3))
      ∧ r.2.sem = fun _ => 0)

def quiescent_MmTwoRefIdeal [hMmTwoRefIdeal : Cert.MmTwoRefIdeal.Facts] : Prop :=
  ∀ (m : (ℓ : Loc Cert.MmTwoRefIdeal.nD Cert.MmTwoRefIdeal.τ Cert.MmTwoRefIdeal.sig) → Buf (Elt Ideal) ℓ) (g : Dev Cert.MmTwoRefIdeal.nD → PrngReg), Pre_MmTwoRefIdeal m →
    θ_run (Cert.MmTwoRefIdeal.defs (F := Ideal)) (onTc (τ := Cert.MmTwoRefIdeal.τ) (Cert.MmTwoRefIdeal.main (F := Ideal))) ⟨m, fun _ => 0, g⟩ (fun r => (∀ c : Dev Cert.MmTwoRefIdeal.nD,
      r.2.mem ((c.tc : Thread Cert.MmTwoRefIdeal.nD Cert.MmTwoRefIdeal.τ).loc Cert.MmTwoRefIdeal.main_arg0) = m ((c.tc : Thread Cert.MmTwoRefIdeal.nD Cert.MmTwoRefIdeal.τ).loc Cert.MmTwoRefIdeal.main_arg0)
      ∧ r.2.mem ((c.tc : Thread Cert.MmTwoRefIdeal.nD Cert.MmTwoRefIdeal.τ).loc Cert.MmTwoRefIdeal.main_arg1) = m ((c.tc : Thread Cert.MmTwoRefIdeal.nD Cert.MmTwoRefIdeal.τ).loc Cert.MmTwoRefIdeal.main_arg1)
      ∧ r.2.mem ((c.tc : Thread Cert.MmTwoRefIdeal.nD Cert.MmTwoRefIdeal.τ).loc Cert.MmTwoRefIdeal.main_arg2) = m ((c.tc : Thread Cert.MmTwoRefIdeal.nD Cert.MmTwoRefIdeal.τ).loc Cert.MmTwoRefIdeal.main_arg2)
      ∧ r.2.mem ((c.tc : Thread Cert.MmTwoRefIdeal.nD Cert.MmTwoRefIdeal.τ).loc Cert.MmTwoRefIdeal.main_arg3) = m ((c.tc : Thread Cert.MmTwoRefIdeal.nD Cert.MmTwoRefIdeal.τ).loc Cert.MmTwoRefIdeal.main_arg3))
      ∧ r.2.sem = fun _ => 0)

def quiescent_MmTn [hMmTn : Cert.MmTn.Facts] : Prop :=
  ∀ (m : (ℓ : Loc Cert.MmTn.nD Cert.MmTn.τ Cert.MmTn.sig) → Buf (Elt Bits) ℓ) (g : Dev Cert.MmTn.nD → PrngReg), Pre_MmTn m →
    θ_run (Cert.MmTn.defs (F := Bits)) (onTc (τ := Cert.MmTn.τ) (Cert.MmTn.main (F := Bits))) ⟨m, fun _ => 0, g⟩ (fun r => (∀ c : Dev Cert.MmTn.nD,
      r.2.mem ((c.tc : Thread Cert.MmTn.nD Cert.MmTn.τ).loc Cert.MmTn.main_arg0) = m ((c.tc : Thread Cert.MmTn.nD Cert.MmTn.τ).loc Cert.MmTn.main_arg0)
      ∧ r.2.mem ((c.tc : Thread Cert.MmTn.nD Cert.MmTn.τ).loc Cert.MmTn.main_arg1) = m ((c.tc : Thread Cert.MmTn.nD Cert.MmTn.τ).loc Cert.MmTn.main_arg1))
      ∧ r.2.sem = fun _ => 0)

def quiescent_MmTnIdeal [hMmTnIdeal : Cert.MmTnIdeal.Facts] : Prop :=
  ∀ (m : (ℓ : Loc Cert.MmTnIdeal.nD Cert.MmTnIdeal.τ Cert.MmTnIdeal.sig) → Buf (Elt Ideal) ℓ) (g : Dev Cert.MmTnIdeal.nD → PrngReg), Pre_MmTnIdeal m →
    θ_run (Cert.MmTnIdeal.defs (F := Ideal)) (onTc (τ := Cert.MmTnIdeal.τ) (Cert.MmTnIdeal.main (F := Ideal))) ⟨m, fun _ => 0, g⟩ (fun r => (∀ c : Dev Cert.MmTnIdeal.nD,
      r.2.mem ((c.tc : Thread Cert.MmTnIdeal.nD Cert.MmTnIdeal.τ).loc Cert.MmTnIdeal.main_arg0) = m ((c.tc : Thread Cert.MmTnIdeal.nD Cert.MmTnIdeal.τ).loc Cert.MmTnIdeal.main_arg0)
      ∧ r.2.mem ((c.tc : Thread Cert.MmTnIdeal.nD Cert.MmTnIdeal.τ).loc Cert.MmTnIdeal.main_arg1) = m ((c.tc : Thread Cert.MmTnIdeal.nD Cert.MmTnIdeal.τ).loc Cert.MmTnIdeal.main_arg1))
      ∧ r.2.sem = fun _ => 0)

def quiescent_MmTnRefIdeal [hMmTnRefIdeal : Cert.MmTnRefIdeal.Facts] : Prop :=
  ∀ (m : (ℓ : Loc Cert.MmTnRefIdeal.nD Cert.MmTnRefIdeal.τ Cert.MmTnRefIdeal.sig) → Buf (Elt Ideal) ℓ) (g : Dev Cert.MmTnRefIdeal.nD → PrngReg), Pre_MmTnRefIdeal m →
    θ_run (Cert.MmTnRefIdeal.defs (F := Ideal)) (onTc (τ := Cert.MmTnRefIdeal.τ) (Cert.MmTnRefIdeal.main (F := Ideal))) ⟨m, fun _ => 0, g⟩ (fun r => (∀ c : Dev Cert.MmTnRefIdeal.nD,
      r.2.mem ((c.tc : Thread Cert.MmTnRefIdeal.nD Cert.MmTnRefIdeal.τ).loc Cert.MmTnRefIdeal.main_arg0) = m ((c.tc : Thread Cert.MmTnRefIdeal.nD Cert.MmTnRefIdeal.τ).loc Cert.MmTnRefIdeal.main_arg0)
      ∧ r.2.mem ((c.tc : Thread Cert.MmTnRefIdeal.nD Cert.MmTnRefIdeal.τ).loc Cert.MmTnRefIdeal.main_arg1) = m ((c.tc : Thread Cert.MmTnRefIdeal.nD Cert.MmTnRefIdeal.τ).loc Cert.MmTnRefIdeal.main_arg1))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4))
      ∧ r.2.sem = fun _ => 0)

def quiescent_SumTwo [hSumTwo : Cert.SumTwo.Facts] : Prop :=
  ∀ (m : (ℓ : Loc Cert.SumTwo.nD Cert.SumTwo.τ Cert.SumTwo.sig) → Buf (Elt Bits) ℓ) (g : Dev Cert.SumTwo.nD → PrngReg), Pre_SumTwo m →
    θ_run (Cert.SumTwo.defs (F := Bits)) (onTc (τ := Cert.SumTwo.τ) (Cert.SumTwo.main (F := Bits))) ⟨m, fun _ => 0, g⟩ (fun r => (∀ c : Dev Cert.SumTwo.nD,
      r.2.mem ((c.tc : Thread Cert.SumTwo.nD Cert.SumTwo.τ).loc Cert.SumTwo.main_arg0) = m ((c.tc : Thread Cert.SumTwo.nD Cert.SumTwo.τ).loc Cert.SumTwo.main_arg0)
      ∧ r.2.mem ((c.tc : Thread Cert.SumTwo.nD Cert.SumTwo.τ).loc Cert.SumTwo.main_arg1) = m ((c.tc : Thread Cert.SumTwo.nD Cert.SumTwo.τ).loc Cert.SumTwo.main_arg1))
      ∧ r.2.sem = fun _ => 0)

def quiescent_SumTwoIdeal [hSumTwoIdeal : Cert.SumTwoIdeal.Facts] : Prop :=
  ∀ (m : (ℓ : Loc Cert.SumTwoIdeal.nD Cert.SumTwoIdeal.τ Cert.SumTwoIdeal.sig) → Buf (Elt Ideal) ℓ) (g : Dev Cert.SumTwoIdeal.nD → PrngReg), Pre_SumTwoIdeal m →
    θ_run (Cert.SumTwoIdeal.defs (F := Ideal)) (onTc (τ := Cert.SumTwoIdeal.τ) (Cert.SumTwoIdeal.main (F := Ideal))) ⟨m, fun _ => 0, g⟩ (fun r => (∀ c : Dev Cert.SumTwoIdeal.nD,
      r.2.mem ((c.tc : Thread Cert.SumTwoIdeal.nD Cert.SumTwoIdeal.τ).loc Cert.SumTwoIdeal.main_arg0) = m ((c.tc : Thread Cert.SumTwoIdeal.nD Cert.SumTwoIdeal.τ).loc Cert.SumTwoIdeal.main_arg0)
      ∧ r.2.mem ((c.tc : Thread Cert.SumTwoIdeal.nD Cert.SumTwoIdeal.τ).loc Cert.SumTwoIdeal.main_arg1) = m ((c.tc : Thread Cert.SumTwoIdeal.nD Cert.SumTwoIdeal.τ).loc Cert.SumTwoIdeal.main_arg1))
      ∧ r.2.sem = fun _ => 0)

def quiescent_SumTwoRefIdeal [hSumTwoRefIdeal : Cert.SumTwoRefIdeal.Facts] : Prop :=
  ∀ (m : (ℓ : Loc Cert.SumTwoRefIdeal.nD Cert.SumTwoRefIdeal.τ Cert.SumTwoRefIdeal.sig) → Buf (Elt Ideal) ℓ) (g : Dev Cert.SumTwoRefIdeal.nD → PrngReg), Pre_SumTwoRefIdeal m →
    θ_run (Cert.SumTwoRefIdeal.defs (F := Ideal)) (onTc (τ := Cert.SumTwoRefIdeal.τ) (Cert.SumTwoRefIdeal.main (F := Ideal))) ⟨m, fun _ => 0, g⟩ (fun r => (∀ c : Dev Cert.SumTwoRefIdeal.nD,
      r.2.mem ((c.tc : Thread Cert.SumTwoRefIdeal.nD Cert.SumTwoRefIdeal.τ).loc Cert.SumTwoRefIdeal.main_arg0) = m ((c.tc : Thread Cert.SumTwoRefIdeal.nD Cert.SumTwoRefIdeal.τ).loc Cert.SumTwoRefIdeal.main_arg0)
      ∧ r.2.mem ((c.tc : Thread Cert.SumTwoRefIdeal.nD Cert.SumTwoRefIdeal.τ).loc Cert.SumTwoRefIdeal.main_arg1) = m ((c.tc : Thread Cert.SumTwoRefIdeal.nD Cert.SumTwoRefIdeal.τ).loc Cert.SumTwoRefIdeal.main_arg1))
      ∧ r.2.sem = fun _ => 0)

def quiescent_SumFour [hSumFour : Cert.SumFour.Facts] : Prop :=
  ∀ (m : (ℓ : Loc Cert.SumFour.nD Cert.SumFour.τ Cert.SumFour.sig) → Buf (Elt Bits) ℓ) (g : Dev Cert.SumFour.nD → PrngReg), Pre_SumFour m →
    θ_run (Cert.SumFour.defs (F := Bits)) (onTc (τ := Cert.SumFour.τ) (Cert.SumFour.main (F := Bits))) ⟨m, fun _ => 0, g⟩ (fun r => (∀ c : Dev Cert.SumFour.nD,
      r.2.mem ((c.tc : Thread Cert.SumFour.nD Cert.SumFour.τ).loc Cert.SumFour.main_arg0) = m ((c.tc : Thread Cert.SumFour.nD Cert.SumFour.τ).loc Cert.SumFour.main_arg0))
      ∧ r.2.sem = fun _ => 0)

def quiescent_SumFourIdeal [hSumFourIdeal : Cert.SumFourIdeal.Facts] : Prop :=
  ∀ (m : (ℓ : Loc Cert.SumFourIdeal.nD Cert.SumFourIdeal.τ Cert.SumFourIdeal.sig) → Buf (Elt Ideal) ℓ) (g : Dev Cert.SumFourIdeal.nD → PrngReg), Pre_SumFourIdeal m →
    θ_run (Cert.SumFourIdeal.defs (F := Ideal)) (onTc (τ := Cert.SumFourIdeal.τ) (Cert.SumFourIdeal.main (F := Ideal))) ⟨m, fun _ => 0, g⟩ (fun r => (∀ c : Dev Cert.SumFourIdeal.nD,
      r.2.mem ((c.tc : Thread Cert.SumFourIdeal.nD Cert.SumFourIdeal.τ).loc Cert.SumFourIdeal.main_arg0) = m ((c.tc : Thread Cert.SumFourIdeal.nD Cert.SumFourIdeal.τ).loc Cert.SumFourIdeal.main_arg0))
      ∧ r.2.sem = fun _ => 0)

def quiescent_SumFourRefIdeal [hSumFourRefIdeal : Cert.SumFourRefIdeal.Facts] : Prop :=
  ∀ (m : (ℓ : Loc Cert.SumFourRefIdeal.nD Cert.SumFourRefIdeal.τ Cert.SumFourRefIdeal.sig) → Buf (Elt Ideal) ℓ) (g : Dev Cert.SumFourRefIdeal.nD → PrngReg), Pre_SumFourRefIdeal m →
    θ_run (Cert.SumFourRefIdeal.defs (F := Ideal)) (onTc (τ := Cert.SumFourRefIdeal.τ) (Cert.SumFourRefIdeal.main (F := Ideal))) ⟨m, fun _ => 0, g⟩ (fun r => (∀ c : Dev Cert.SumFourRefIdeal.nD,
      r.2.mem ((c.tc : Thread Cert.SumFourRefIdeal.nD Cert.SumFourRefIdeal.τ).loc Cert.SumFourRefIdeal.main_arg0) = m ((c.tc : Thread Cert.SumFourRefIdeal.nD Cert.SumFourRefIdeal.τ).loc Cert.SumFourRefIdeal.main_arg0))
      ∧ r.2.sem = fun _ => 0)

def quiescent_Groups [hGroups : Cert.Groups.Facts] : Prop :=
  ∀ (m : (ℓ : Loc Cert.Groups.nD Cert.Groups.τ Cert.Groups.sig) → Buf (Elt Bits) ℓ) (g : Dev Cert.Groups.nD → PrngReg), Pre_Groups m →
    θ_run (Cert.Groups.defs (F := Bits)) (onTc (τ := Cert.Groups.τ) (Cert.Groups.main (F := Bits))) ⟨m, fun _ => 0, g⟩ (fun r => (∀ c : Dev Cert.Groups.nD,
      r.2.mem ((c.tc : Thread Cert.Groups.nD Cert.Groups.τ).loc Cert.Groups.main_arg0) = m ((c.tc : Thread Cert.Groups.nD Cert.Groups.τ).loc Cert.Groups.main_arg0))
      ∧ r.2.sem = fun _ => 0)

def quiescent_GroupsIdeal [hGroupsIdeal : Cert.GroupsIdeal.Facts] : Prop :=
  ∀ (m : (ℓ : Loc Cert.GroupsIdeal.nD Cert.GroupsIdeal.τ Cert.GroupsIdeal.sig) → Buf (Elt Ideal) ℓ) (g : Dev Cert.GroupsIdeal.nD → PrngReg), Pre_GroupsIdeal m →
    θ_run (Cert.GroupsIdeal.defs (F := Ideal)) (onTc (τ := Cert.GroupsIdeal.τ) (Cert.GroupsIdeal.main (F := Ideal))) ⟨m, fun _ => 0, g⟩ (fun r => (∀ c : Dev Cert.GroupsIdeal.nD,
      r.2.mem ((c.tc : Thread Cert.GroupsIdeal.nD Cert.GroupsIdeal.τ).loc Cert.GroupsIdeal.main_arg0) = m ((c.tc : Thread Cert.GroupsIdeal.nD Cert.GroupsIdeal.τ).loc Cert.GroupsIdeal.main_arg0))
      ∧ r.2.sem = fun _ => 0)

def quiescent_GroupsRefIdeal [hGroupsRefIdeal : Cert.GroupsRefIdeal.Facts] : Prop :=
  ∀ (m : (ℓ : Loc Cert.GroupsRefIdeal.nD Cert.GroupsRefIdeal.τ Cert.GroupsRefIdeal.sig) → Buf (Elt Ideal) ℓ) (g : Dev Cert.GroupsRefIdeal.nD → PrngReg), Pre_GroupsRefIdeal m →
    θ_run (Cert.GroupsRefIdeal.defs (F := Ideal)) (onTc (τ := Cert.GroupsRefIdeal.τ) (Cert.GroupsRefIdeal.main (F := Ideal))) ⟨m, fun _ => 0, g⟩ (fun r => (∀ c : Dev Cert.GroupsRefIdeal.nD,
      r.2.mem ((c.tc : Thread Cert.GroupsRefIdeal.nD Cert.GroupsRefIdeal.τ).loc Cert.GroupsRefIdeal.main_arg0) = m ((c.tc : Thread Cert.GroupsRefIdeal.nD Cert.GroupsRefIdeal.τ).loc Cert.GroupsRefIdeal.main_arg0))
      ∧ r.2.sem = fun _ => 0)

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)) →
    ∃ (v0 : (c : Dev Cert.GluIdeal.nD) → Buf (Elt Ideal) ((c.tc : Thread Cert.GluIdeal.nD Cert.GluIdeal.τ).loc Cert.GluIdeal.main_v0_0)) (v1 : (c : Dev Cert.GluIdeal.nD) → Buf (Elt Ideal) ((c.tc : Thread Cert.GluIdeal.nD Cert.GluIdeal.τ).loc Cert.GluIdeal.main_v0_1)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v0_0) = v0 c
          ∧ r.2.mem ((c.tc : Thread Cert.GluIdeal.nD Cert.GluIdeal.τ).loc Cert.GluIdeal.main_v0_1) = v1 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v20) = v0 c
          ∧ r.2.mem ((c.tc : Thread Cert.GluRefIdeal.nD Cert.GluRefIdeal.τ).loc Cert.GluRefIdeal.main_v18) = v1 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2))

def preserves_Ffn_FfnIdeal : Prop :=
  True

def algebraic_FfnIdeal_FfnRefIdeal_pre_finite_ffn [hFfnIdeal : Cert.FfnIdeal.Facts] [hFfnRefIdeal : Cert.FfnRefIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite_ffn m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v4_0)) (v1 : (c : Dev Cert.FfnIdeal.nD) → Buf (Elt Ideal) ((c.tc : Thread Cert.FfnIdeal.nD Cert.FfnIdeal.τ).loc Cert.FfnIdeal.main_v4_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4_0) = v0 c
          ∧ r.2.mem ((c.tc : Thread Cert.FfnIdeal.nD Cert.FfnIdeal.τ).loc Cert.FfnIdeal.main_v4_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v7) = v0 c
          ∧ r.2.mem ((c.tc : Thread Cert.FfnRefIdeal.nD Cert.FfnRefIdeal.τ).loc Cert.FfnRefIdeal.main_v8) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_LnTop_LnTopIdeal : Prop :=
  True

def algebraic_LnTopIdeal_LnTopRefIdeal_pre_finite_lntop [hLnTopIdeal : Cert.LnTopIdeal.Facts] [hLnTopRefIdeal : Cert.LnTopRefIdeal.Facts] [hPre_finite_lntop : Cert.Pre_finite_lntop.Facts] : Prop :=
  ∀ (m : (ℓ : Loc Cert.LnTopIdeal.nD Cert.LnTopIdeal.τ Cert.LnTopIdeal.sig) → Buf (Elt Ideal) ℓ) (g : Dev Cert.LnTopIdeal.nD → PrngReg)
    (m' : (ℓ : Loc Cert.LnTopRefIdeal.nD Cert.LnTopRefIdeal.τ Cert.LnTopRefIdeal.sig) → Buf (Elt Ideal) ℓ) (g' : Dev Cert.LnTopRefIdeal.nD → PrngReg), Pre_LnTopIdeal_finite_lntop m →
    (∀ c : Dev Cert.LnTopIdeal.nD,
      m' ((c.tc : Thread Cert.LnTopRefIdeal.nD Cert.LnTopRefIdeal.τ).loc Cert.LnTopRefIdeal.main_arg0) = m ((c.tc : Thread Cert.LnTopIdeal.nD Cert.LnTopIdeal.τ).loc Cert.LnTopIdeal.main_arg0)
      ∧ m' ((c.tc : Thread Cert.LnTopRefIdeal.nD Cert.LnTopRefIdeal.τ).loc Cert.LnTopRefIdeal.main_arg1) = m ((c.tc : Thread Cert.LnTopIdeal.nD Cert.LnTopIdeal.τ).loc Cert.LnTopIdeal.main_arg1)
      ∧ m' ((c.tc : Thread Cert.LnTopRefIdeal.nD Cert.LnTopRefIdeal.τ).loc Cert.LnTopRefIdeal.main_arg2) = m ((c.tc : Thread Cert.LnTopIdeal.nD Cert.LnTopIdeal.τ).loc Cert.LnTopIdeal.main_arg2)) →
    ∃ (v0 : (c : Dev Cert.LnTopIdeal.nD) → Buf (Elt Ideal) ((c.tc : Thread Cert.LnTopIdeal.nD Cert.LnTopIdeal.τ).loc Cert.LnTopIdeal.main_v1_0)) (v1 : (c : Dev Cert.LnTopIdeal.nD) → Buf (Elt Ideal) ((c.tc : Thread Cert.LnTopIdeal.nD Cert.LnTopIdeal.τ).loc Cert.LnTopIdeal.main_v1_1)) (v2 : (c : Dev Cert.LnTopIdeal.nD) → Buf (Elt Ideal) ((c.tc : Thread Cert.LnTopIdeal.nD Cert.LnTopIdeal.τ).loc Cert.LnTopIdeal.main_v1_2)) (v3 : (c : Dev Cert.LnTopIdeal.nD) → Buf (Elt Ideal) ((c.tc : Thread Cert.LnTopIdeal.nD Cert.LnTopIdeal.τ).loc Cert.LnTopIdeal.main_v1_3)),
      θ_run (Cert.LnTopIdeal.defs (F := Ideal)) (onTc (τ := Cert.LnTopIdeal.τ) (Cert.LnTopIdeal.main (F := Ideal))) ⟨m, fun _ => 0, g⟩ (fun r => ∀ c : Dev Cert.LnTopIdeal.nD,
          r.2.mem ((c.tc : Thread Cert.LnTopIdeal.nD Cert.LnTopIdeal.τ).loc Cert.LnTopIdeal.main_v1_0) = v0 c
          ∧ r.2.mem ((c.tc : Thread Cert.LnTopIdeal.nD Cert.LnTopIdeal.τ).loc Cert.LnTopIdeal.main_v1_1) = v1 c
          ∧ r.2.mem ((c.tc : Thread Cert.LnTopIdeal.nD Cert.LnTopIdeal.τ).loc Cert.LnTopIdeal.main_v1_2) = v2 c
          ∧ r.2.mem ((c.tc : Thread Cert.LnTopIdeal.nD Cert.LnTopIdeal.τ).loc Cert.LnTopIdeal.main_v1_3) = v3 c
          ∧ r.2.mem ((c.tc : Thread Cert.LnTopIdeal.nD Cert.LnTopIdeal.τ).loc Cert.LnTopIdeal.main_arg0) = m ((c.tc : Thread Cert.LnTopIdeal.nD Cert.LnTopIdeal.τ).loc Cert.LnTopIdeal.main_arg0)
          ∧ r.2.mem ((c.tc : Thread Cert.LnTopIdeal.nD Cert.LnTopIdeal.τ).loc Cert.LnTopIdeal.main_arg1) = m ((c.tc : Thread Cert.LnTopIdeal.nD Cert.LnTopIdeal.τ).loc Cert.LnTopIdeal.main_arg1)
          ∧ r.2.mem ((c.tc : Thread Cert.LnTopIdeal.nD Cert.LnTopIdeal.τ).loc Cert.LnTopIdeal.main_arg2) = m ((c.tc : Thread Cert.LnTopIdeal.nD Cert.LnTopIdeal.τ).loc Cert.LnTopIdeal.main_arg2))
      ∧ θ_run (Cert.LnTopRefIdeal.defs (F := Ideal)) (onTc (τ := Cert.LnTopRefIdeal.τ) (Cert.LnTopRefIdeal.main (F := Ideal))) ⟨m', fun _ => 0, g'⟩ (fun r => ∀ c : Dev Cert.LnTopRefIdeal.nD,
          r.2.mem ((c.tc : Thread Cert.LnTopRefIdeal.nD Cert.LnTopRefIdeal.τ).loc Cert.LnTopRefIdeal.main_v63) = v0 c
          ∧ r.2.mem ((c.tc : Thread Cert.LnTopRefIdeal.nD Cert.LnTopRefIdeal.τ).loc Cert.LnTopRefIdeal.main_v64) = v1 c
          ∧ r.2.mem ((c.tc : Thread Cert.LnTopRefIdeal.nD Cert.LnTopRefIdeal.τ).loc Cert.LnTopRefIdeal.main_v65) = v2 c
          ∧ r.2.mem ((c.tc : Thread Cert.LnTopRefIdeal.nD Cert.LnTopRefIdeal.τ).loc Cert.LnTopRefIdeal.main_v66) = v3 c
          ∧ r.2.mem ((c.tc : Thread Cert.LnTopRefIdeal.nD Cert.LnTopRefIdeal.τ).loc Cert.LnTopRefIdeal.main_arg0) = m' ((c.tc : Thread Cert.LnTopRefIdeal.nD Cert.LnTopRefIdeal.τ).loc Cert.LnTopRefIdeal.main_arg0)
          ∧ r.2.mem ((c.tc : Thread Cert.LnTopRefIdeal.nD Cert.LnTopRefIdeal.τ).loc Cert.LnTopRefIdeal.main_arg1) = m' ((c.tc : Thread Cert.LnTopRefIdeal.nD Cert.LnTopRefIdeal.τ).loc Cert.LnTopRefIdeal.main_arg1)
          ∧ r.2.mem ((c.tc : Thread Cert.LnTopRefIdeal.nD Cert.LnTopRefIdeal.τ).loc Cert.LnTopRefIdeal.main_arg2) = m' ((c.tc : Thread Cert.LnTopRefIdeal.nD Cert.LnTopRefIdeal.τ).loc Cert.LnTopRefIdeal.main_arg2))

def preserves_Ln_LnIdeal : Prop :=
  True

def algebraic_LnIdeal_LnRefIdeal_pre_finite_ln [hLnIdeal : Cert.LnIdeal.Facts] [hLnRefIdeal : Cert.LnRefIdeal.Facts] [hPre_finite_ln : Cert.Pre_finite_ln.Facts] : Prop :=
  ∀ (m : (ℓ : Loc Cert.LnIdeal.nD Cert.LnIdeal.τ Cert.LnIdeal.sig) → Buf (Elt Ideal) ℓ) (g : Dev Cert.LnIdeal.nD → PrngReg)
    (m' : (ℓ : Loc Cert.LnRefIdeal.nD Cert.LnRefIdeal.τ Cert.LnRefIdeal.sig) → Buf (Elt Ideal) ℓ) (g' : Dev Cert.LnRefIdeal.nD → PrngReg), Pre_LnIdeal_finite_ln m →
    (∀ c : Dev Cert.LnIdeal.nD,
      m' ((c.tc : Thread Cert.LnRefIdeal.nD Cert.LnRefIdeal.τ).loc Cert.LnRefIdeal.main_arg0) = m ((c.tc : Thread Cert.LnIdeal.nD Cert.LnIdeal.τ).loc Cert.LnIdeal.main_arg0)
      ∧ m' ((c.tc : Thread Cert.LnRefIdeal.nD Cert.LnRefIdeal.τ).loc Cert.LnRefIdeal.main_arg1) = m ((c.tc : Thread Cert.LnIdeal.nD Cert.LnIdeal.τ).loc Cert.LnIdeal.main_arg1)
      ∧ m' ((c.tc : Thread Cert.LnRefIdeal.nD Cert.LnRefIdeal.τ).loc Cert.LnRefIdeal.main_arg2) = m ((c.tc : Thread Cert.LnIdeal.nD Cert.LnIdeal.τ).loc Cert.LnIdeal.main_arg2)
      ∧ m' ((c.tc : Thread Cert.LnRefIdeal.nD Cert.LnRefIdeal.τ).loc Cert.LnRefIdeal.main_arg3) = m ((c.tc : Thread Cert.LnIdeal.nD Cert.LnIdeal.τ).loc Cert.LnIdeal.main_arg3)) →
    ∃ (v0 : (c : Dev Cert.LnIdeal.nD) → Buf (Elt Ideal) ((c.tc : Thread Cert.LnIdeal.nD Cert.LnIdeal.τ).loc Cert.LnIdeal.main_v1_0)) (v1 : (c : Dev Cert.LnIdeal.nD) → Buf (Elt Ideal) ((c.tc : Thread Cert.LnIdeal.nD Cert.LnIdeal.τ).loc Cert.LnIdeal.main_v1_1)) (v2 : (c : Dev Cert.LnIdeal.nD) → Buf (Elt Ideal) ((c.tc : Thread Cert.LnIdeal.nD Cert.LnIdeal.τ).loc Cert.LnIdeal.main_v1_2)) (v3 : (c : Dev Cert.LnIdeal.nD) → Buf (Elt Ideal) ((c.tc : Thread Cert.LnIdeal.nD Cert.LnIdeal.τ).loc Cert.LnIdeal.main_v1_3)),
      θ_run (Cert.LnIdeal.defs (F := Ideal)) (onTc (τ := Cert.LnIdeal.τ) (Cert.LnIdeal.main (F := Ideal))) ⟨m, fun _ => 0, g⟩ (fun r => ∀ c : Dev Cert.LnIdeal.nD,
          r.2.mem ((c.tc : Thread Cert.LnIdeal.nD Cert.LnIdeal.τ).loc Cert.LnIdeal.main_v1_0) = v0 c
          ∧ r.2.mem ((c.tc : Thread Cert.LnIdeal.nD Cert.LnIdeal.τ).loc Cert.LnIdeal.main_v1_1) = v1 c
          ∧ r.2.mem ((c.tc : Thread Cert.LnIdeal.nD Cert.LnIdeal.τ).loc Cert.LnIdeal.main_v1_2) = v2 c
          ∧ r.2.mem ((c.tc : Thread Cert.LnIdeal.nD Cert.LnIdeal.τ).loc Cert.LnIdeal.main_v1_3) = v3 c
          ∧ r.2.mem ((c.tc : Thread Cert.LnIdeal.nD Cert.LnIdeal.τ).loc Cert.LnIdeal.main_arg0) = m ((c.tc : Thread Cert.LnIdeal.nD Cert.LnIdeal.τ).loc Cert.LnIdeal.main_arg0)
          ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
          ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
          ∧ r.2.mem ((c.tc : Thread Cert.LnIdeal.nD Cert.LnIdeal.τ).loc Cert.LnIdeal.main_arg3) = m ((c.tc : Thread Cert.LnIdeal.nD Cert.LnIdeal.τ).loc Cert.LnIdeal.main_arg3))
      ∧ θ_run (Cert.LnRefIdeal.defs (F := Ideal)) (onTc (τ := Cert.LnRefIdeal.τ) (Cert.LnRefIdeal.main (F := Ideal))) ⟨m', fun _ => 0, g'⟩ (fun r => ∀ c : Dev Cert.LnRefIdeal.nD,
          r.2.mem ((c.tc : Thread Cert.LnRefIdeal.nD Cert.LnRefIdeal.τ).loc Cert.LnRefIdeal.main_v68) = v0 c
          ∧ r.2.mem ((c.tc : Thread Cert.LnRefIdeal.nD Cert.LnRefIdeal.τ).loc Cert.LnRefIdeal.main_v69) = v1 c
          ∧ r.2.mem ((c.tc : Thread Cert.LnRefIdeal.nD Cert.LnRefIdeal.τ).loc Cert.LnRefIdeal.main_v70) = v2 c
          ∧ r.2.mem ((c.tc : Thread Cert.LnRefIdeal.nD Cert.LnRefIdeal.τ).loc Cert.LnRefIdeal.main_v71) = v3 c
          ∧ r.2.mem ((c.tc : Thread Cert.LnRefIdeal.nD Cert.LnRefIdeal.τ).loc Cert.LnRefIdeal.main_arg0) = m' ((c.tc : Thread Cert.LnRefIdeal.nD Cert.LnRefIdeal.τ).loc Cert.LnRefIdeal.main_arg0)
          ∧ r.2.mem ((c.tc : Thread Cert.LnRefIdeal.nD Cert.LnRefIdeal.τ).loc Cert.LnRefIdeal.main_arg1) = m' ((c.tc : Thread Cert.LnRefIdeal.nD Cert.LnRefIdeal.τ).loc Cert.LnRefIdeal.main_arg1)
          ∧ r.2.mem ((c.tc : Thread Cert.LnRefIdeal.nD Cert.LnRefIdeal.τ).loc Cert.LnRefIdeal.main_arg2) = m' ((c.tc : Thread Cert.LnRefIdeal.nD Cert.LnRefIdeal.τ).loc Cert.LnRefIdeal.main_arg2)
          ∧ r.2.mem ((c.tc : Thread Cert.LnRefIdeal.nD Cert.LnRefIdeal.τ).loc Cert.LnRefIdeal.main_arg3) = m' ((c.tc : Thread Cert.LnRefIdeal.nD Cert.LnRefIdeal.τ).loc Cert.LnRefIdeal.main_arg3))

def preserves_Attn_AttnIdeal : Prop :=
  IdealRules.named_const.Statement Cert.AttnIdeal.κ "mask" .f32 0xF149F2CA#32 ⊥

def algebraic_AttnIdeal_AttnRefIdeal_pre_finite_attn [hAttnIdeal : Cert.AttnIdeal.Facts] [hAttnRefIdeal : Cert.AttnRefIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attn m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v55_0)) (v1 : (c : Dev Cert.AttnIdeal.nD) → Buf (Elt Ideal) ((c.tc : Thread Cert.AttnIdeal.nD Cert.AttnIdeal.τ).loc Cert.AttnIdeal.main_v55_1)) (v2 : (c : Dev Cert.AttnIdeal.nD) → Buf (Elt Ideal) ((c.tc : Thread Cert.AttnIdeal.nD Cert.AttnIdeal.τ).loc Cert.AttnIdeal.main_v55_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v55_0) = v0 c
          ∧ r.2.mem ((c.tc : Thread Cert.AttnIdeal.nD Cert.AttnIdeal.τ).loc Cert.AttnIdeal.main_v55_1) = v1 c
          ∧ r.2.mem ((c.tc : Thread Cert.AttnIdeal.nD Cert.AttnIdeal.τ).loc Cert.AttnIdeal.main_v55_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v69) = v0 c
          ∧ r.2.mem ((c.tc : Thread Cert.AttnRefIdeal.nD Cert.AttnRefIdeal.τ).loc Cert.AttnRefIdeal.main_v75) = v1 c
          ∧ r.2.mem ((c.tc : Thread Cert.AttnRefIdeal.nD Cert.AttnRefIdeal.τ).loc Cert.AttnRefIdeal.main_v78) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Gelu_GeluIdeal : Prop :=
  IdealRules.named_const.Statement Cert.GeluIdeal.κ "half_sqrt" .f32 0x3F3504F3#32 (((Real.sqrt 2)⁻¹ : ℝ) : EReal)
  ∧ IdealRules.named_const.Statement Cert.GeluIdeal.κ "norm" .f32 0x3ECC422A#32 (((Real.sqrt (2 * Real.pi))⁻¹ : ℝ) : EReal)

def algebraic_GeluIdeal_GeluRefIdeal_pre_finite_gelu [hGeluIdeal : Cert.GeluIdeal.Facts] [hGeluRefIdeal : Cert.GeluRefIdeal.Facts] [hPre_finite_gelu : Cert.Pre_finite_gelu.Facts] : Prop :=
  ∀ (m : (ℓ : Loc Cert.GeluIdeal.nD Cert.GeluIdeal.τ Cert.GeluIdeal.sig) → Buf (Elt Ideal) ℓ) (g : Dev Cert.GeluIdeal.nD → PrngReg)
    (m' : (ℓ : Loc Cert.GeluRefIdeal.nD Cert.GeluRefIdeal.τ Cert.GeluRefIdeal.sig) → Buf (Elt Ideal) ℓ) (g' : Dev Cert.GeluRefIdeal.nD → PrngReg), Pre_GeluIdeal_finite_gelu m →
    (∀ c : Dev Cert.GeluIdeal.nD,
      m' ((c.tc : Thread Cert.GeluRefIdeal.nD Cert.GeluRefIdeal.τ).loc Cert.GeluRefIdeal.main_arg0) = m ((c.tc : Thread Cert.GeluIdeal.nD Cert.GeluIdeal.τ).loc Cert.GeluIdeal.main_arg0)
      ∧ m' ((c.tc : Thread Cert.GeluRefIdeal.nD Cert.GeluRefIdeal.τ).loc Cert.GeluRefIdeal.main_arg1) = m ((c.tc : Thread Cert.GeluIdeal.nD Cert.GeluIdeal.τ).loc Cert.GeluIdeal.main_arg1)
      ∧ m' ((c.tc : Thread Cert.GeluRefIdeal.nD Cert.GeluRefIdeal.τ).loc Cert.GeluRefIdeal.main_arg2) = m ((c.tc : Thread Cert.GeluIdeal.nD Cert.GeluIdeal.τ).loc Cert.GeluIdeal.main_arg2)
      ∧ m' ((c.tc : Thread Cert.GeluRefIdeal.nD Cert.GeluRefIdeal.τ).loc Cert.GeluRefIdeal.main_arg3) = m ((c.tc : Thread Cert.GeluIdeal.nD Cert.GeluIdeal.τ).loc Cert.GeluIdeal.main_arg3)
      ∧ m' ((c.tc : Thread Cert.GeluRefIdeal.nD Cert.GeluRefIdeal.τ).loc Cert.GeluRefIdeal.main_arg4) = m ((c.tc : Thread Cert.GeluIdeal.nD Cert.GeluIdeal.τ).loc Cert.GeluIdeal.main_arg4)) →
    ∃ (v0 : (c : Dev Cert.GeluIdeal.nD) → Buf (Elt Ideal) ((c.tc : Thread Cert.GeluIdeal.nD Cert.GeluIdeal.τ).loc Cert.GeluIdeal.main_v5_0)) (v1 : (c : Dev Cert.GeluIdeal.nD) → Buf (Elt Ideal) ((c.tc : Thread Cert.GeluIdeal.nD Cert.GeluIdeal.τ).loc Cert.GeluIdeal.main_v5_1)) (v2 : (c : Dev Cert.GeluIdeal.nD) → Buf (Elt Ideal) ((c.tc : Thread Cert.GeluIdeal.nD Cert.GeluIdeal.τ).loc Cert.GeluIdeal.main_v5_2)),
      θ_run (Cert.GeluIdeal.defs (F := Ideal)) (onTc (τ := Cert.GeluIdeal.τ) (Cert.GeluIdeal.main (F := Ideal))) ⟨m, fun _ => 0, g⟩ (fun r => ∀ c : Dev Cert.GeluIdeal.nD,
          r.2.mem ((c.tc : Thread Cert.GeluIdeal.nD Cert.GeluIdeal.τ).loc Cert.GeluIdeal.main_v5_0) = v0 c
          ∧ r.2.mem ((c.tc : Thread Cert.GeluIdeal.nD Cert.GeluIdeal.τ).loc Cert.GeluIdeal.main_v5_1) = v1 c
          ∧ r.2.mem ((c.tc : Thread Cert.GeluIdeal.nD Cert.GeluIdeal.τ).loc Cert.GeluIdeal.main_v5_2) = v2 c
          ∧ r.2.mem ((c.tc : Thread Cert.GeluIdeal.nD Cert.GeluIdeal.τ).loc Cert.GeluIdeal.main_arg0) = m ((c.tc : Thread Cert.GeluIdeal.nD Cert.GeluIdeal.τ).loc Cert.GeluIdeal.main_arg0)
          ∧ r.2.mem ((c.tc : Thread Cert.GeluIdeal.nD Cert.GeluIdeal.τ).loc Cert.GeluIdeal.main_arg1) = m ((c.tc : Thread Cert.GeluIdeal.nD Cert.GeluIdeal.τ).loc Cert.GeluIdeal.main_arg1)
          ∧ r.2.mem ((c.tc : Thread Cert.GeluIdeal.nD Cert.GeluIdeal.τ).loc Cert.GeluIdeal.main_arg2) = m ((c.tc : Thread Cert.GeluIdeal.nD Cert.GeluIdeal.τ).loc Cert.GeluIdeal.main_arg2)
          ∧ r.2.mem ((c.tc : Thread Cert.GeluIdeal.nD Cert.GeluIdeal.τ).loc Cert.GeluIdeal.main_arg3) = m ((c.tc : Thread Cert.GeluIdeal.nD Cert.GeluIdeal.τ).loc Cert.GeluIdeal.main_arg3)
          ∧ r.2.mem ((c.tc : Thread Cert.GeluIdeal.nD Cert.GeluIdeal.τ).loc Cert.GeluIdeal.main_arg4) = m ((c.tc : Thread Cert.GeluIdeal.nD Cert.GeluIdeal.τ).loc Cert.GeluIdeal.main_arg4))
      ∧ θ_run (Cert.GeluRefIdeal.defs (F := Ideal)) (onTc (τ := Cert.GeluRefIdeal.τ) (Cert.GeluRefIdeal.main (F := Ideal))) ⟨m', fun _ => 0, g'⟩ (fun r => ∀ c : Dev Cert.GeluRefIdeal.nD,
          r.2.mem ((c.tc : Thread Cert.GeluRefIdeal.nD Cert.GeluRefIdeal.τ).loc Cert.GeluRefIdeal.main_v1_0) = v0 c
          ∧ r.2.mem ((c.tc : Thread Cert.GeluRefIdeal.nD Cert.GeluRefIdeal.τ).loc Cert.GeluRefIdeal.main_v1_1) = v1 c
          ∧ r.2.mem ((c.tc : Thread Cert.GeluRefIdeal.nD Cert.GeluRefIdeal.τ).loc Cert.GeluRefIdeal.main_v1_2) = v2 c
          ∧ r.2.mem ((c.tc : Thread Cert.GeluRefIdeal.nD Cert.GeluRefIdeal.τ).loc Cert.GeluRefIdeal.main_arg0) = m' ((c.tc : Thread Cert.GeluRefIdeal.nD Cert.GeluRefIdeal.τ).loc Cert.GeluRefIdeal.main_arg0)
          ∧ r.2.mem ((c.tc : Thread Cert.GeluRefIdeal.nD Cert.GeluRefIdeal.τ).loc Cert.GeluRefIdeal.main_arg1) = m' ((c.tc : Thread Cert.GeluRefIdeal.nD Cert.GeluRefIdeal.τ).loc Cert.GeluRefIdeal.main_arg1)
          ∧ r.2.mem ((c.tc : Thread Cert.GeluRefIdeal.nD Cert.GeluRefIdeal.τ).loc Cert.GeluRefIdeal.main_arg2) = m' ((c.tc : Thread Cert.GeluRefIdeal.nD Cert.GeluRefIdeal.τ).loc Cert.GeluRefIdeal.main_arg2)
          ∧ r.2.mem ((c.tc : Thread Cert.GeluRefIdeal.nD Cert.GeluRefIdeal.τ).loc Cert.GeluRefIdeal.main_arg3) = m' ((c.tc : Thread Cert.GeluRefIdeal.nD Cert.GeluRefIdeal.τ).loc Cert.GeluRefIdeal.main_arg3)
          ∧ r.2.mem ((c.tc : Thread Cert.GeluRefIdeal.nD Cert.GeluRefIdeal.τ).loc Cert.GeluRefIdeal.main_arg4) = m' ((c.tc : Thread Cert.GeluRefIdeal.nD Cert.GeluRefIdeal.τ).loc Cert.GeluRefIdeal.main_arg4))

def preserves_Flash_FlashIdeal : Prop :=
  IdealRules.named_const.Statement Cert.FlashIdeal.κ "mask" .f32 0xF149F2CA#32 ⊥
  ∧ IdealRules.named_const.Statement Cert.FlashIdeal.κ "inv_log2" .f32 0x3FB8AA3B#32 (((Real.log 2)⁻¹ : ℝ) : EReal)

def algebraic_FlashIdeal_FlashRefIdeal_pre_finite_flash [hFlashIdeal : Cert.FlashIdeal.Facts] [hFlashRefIdeal : Cert.FlashRefIdeal.Facts] [hPre_finite_flash : Cert.Pre_finite_flash.Facts] : Prop :=
  ∀ (m : (ℓ : Loc Cert.FlashIdeal.nD Cert.FlashIdeal.τ Cert.FlashIdeal.sig) → Buf (Elt Ideal) ℓ) (g : Dev Cert.FlashIdeal.nD → PrngReg)
    (m' : (ℓ : Loc Cert.FlashRefIdeal.nD Cert.FlashRefIdeal.τ Cert.FlashRefIdeal.sig) → Buf (Elt Ideal) ℓ) (g' : Dev Cert.FlashRefIdeal.nD → PrngReg), Pre_FlashIdeal_finite_flash m →
    (∀ c : Dev Cert.FlashIdeal.nD,
      m' ((c.tc : Thread Cert.FlashRefIdeal.nD Cert.FlashRefIdeal.τ).loc Cert.FlashRefIdeal.main_arg0) = m ((c.tc : Thread Cert.FlashIdeal.nD Cert.FlashIdeal.τ).loc Cert.FlashIdeal.main_arg0)
      ∧ m' ((c.tc : Thread Cert.FlashRefIdeal.nD Cert.FlashRefIdeal.τ).loc Cert.FlashRefIdeal.main_arg1) = m ((c.tc : Thread Cert.FlashIdeal.nD Cert.FlashIdeal.τ).loc Cert.FlashIdeal.main_arg1)
      ∧ m' ((c.tc : Thread Cert.FlashRefIdeal.nD Cert.FlashRefIdeal.τ).loc Cert.FlashRefIdeal.main_arg2) = m ((c.tc : Thread Cert.FlashIdeal.nD Cert.FlashIdeal.τ).loc Cert.FlashIdeal.main_arg2)) →
    ∃ (v0 : (c : Dev Cert.FlashIdeal.nD) → Buf (Elt Ideal) ((c.tc : Thread Cert.FlashIdeal.nD Cert.FlashIdeal.τ).loc Cert.FlashIdeal.main_v21_0)) (v1 : (c : Dev Cert.FlashIdeal.nD) → Buf (Elt Ideal) ((c.tc : Thread Cert.FlashIdeal.nD Cert.FlashIdeal.τ).loc Cert.FlashIdeal.main_v21_1)) (v2 : (c : Dev Cert.FlashIdeal.nD) → Buf (Elt Ideal) ((c.tc : Thread Cert.FlashIdeal.nD Cert.FlashIdeal.τ).loc Cert.FlashIdeal.main_v21_2)),
      θ_run (Cert.FlashIdeal.defs (F := Ideal)) (onTc (τ := Cert.FlashIdeal.τ) (Cert.FlashIdeal.main (F := Ideal))) ⟨m, fun _ => 0, g⟩ (fun r => ∀ c : Dev Cert.FlashIdeal.nD,
          r.2.mem ((c.tc : Thread Cert.FlashIdeal.nD Cert.FlashIdeal.τ).loc Cert.FlashIdeal.main_v21_0) = v0 c
          ∧ r.2.mem ((c.tc : Thread Cert.FlashIdeal.nD Cert.FlashIdeal.τ).loc Cert.FlashIdeal.main_v21_1) = v1 c
          ∧ r.2.mem ((c.tc : Thread Cert.FlashIdeal.nD Cert.FlashIdeal.τ).loc Cert.FlashIdeal.main_v21_2) = v2 c
          ∧ r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
          ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
          ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2))
      ∧ θ_run (Cert.FlashRefIdeal.defs (F := Ideal)) (onTc (τ := Cert.FlashRefIdeal.τ) (Cert.FlashRefIdeal.main (F := Ideal))) ⟨m', fun _ => 0, g'⟩ (fun r => ∀ c : Dev Cert.FlashRefIdeal.nD,
          r.2.mem ((c.tc : Thread Cert.FlashRefIdeal.nD Cert.FlashRefIdeal.τ).loc Cert.FlashRefIdeal.main_v21) = v0 c
          ∧ r.2.mem ((c.tc : Thread Cert.FlashRefIdeal.nD Cert.FlashRefIdeal.τ).loc Cert.FlashRefIdeal.main_v28) = v1 c
          ∧ r.2.mem ((c.tc : Thread Cert.FlashRefIdeal.nD Cert.FlashRefIdeal.τ).loc Cert.FlashRefIdeal.main_v30) = v2 c
          ∧ r.2.mem ((c.tc : Thread Cert.FlashRefIdeal.nD Cert.FlashRefIdeal.τ).loc Cert.FlashRefIdeal.main_arg0) = m' ((c.tc : Thread Cert.FlashRefIdeal.nD Cert.FlashRefIdeal.τ).loc Cert.FlashRefIdeal.main_arg0)
          ∧ r.2.mem ((c.tc : Thread Cert.FlashRefIdeal.nD Cert.FlashRefIdeal.τ).loc Cert.FlashRefIdeal.main_arg1) = m' ((c.tc : Thread Cert.FlashRefIdeal.nD Cert.FlashRefIdeal.τ).loc Cert.FlashRefIdeal.main_arg1)
          ∧ r.2.mem ((c.tc : Thread Cert.FlashRefIdeal.nD Cert.FlashRefIdeal.τ).loc Cert.FlashRefIdeal.main_arg2) = m' ((c.tc : Thread Cert.FlashRefIdeal.nD Cert.FlashRefIdeal.τ).loc Cert.FlashRefIdeal.main_arg2))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v3)) (v1 : (c : Dev Cert.LossIdeal.nD) → Buf (Elt Ideal) ((c.tc : Thread Cert.LossIdeal.nD Cert.LossIdeal.τ).loc Cert.LossIdeal.main_v0_0)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v3) = v0 c
          ∧ r.2.mem ((c.tc : Thread Cert.LossIdeal.nD Cert.LossIdeal.τ).loc Cert.LossIdeal.main_v0_0) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v9) = v0 c
          ∧ r.2.mem ((c.tc : Thread Cert.LossRefIdeal.nD Cert.LossRefIdeal.τ).loc Cert.LossRefIdeal.main_v16) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)) →
    ∃ (v0 : (c : Dev Cert.DhIdeal.nD) → Buf (Elt Ideal) ((c.tc : Thread Cert.DhIdeal.nD Cert.DhIdeal.τ).loc Cert.DhIdeal.main_v0)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v0) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v5) = v0 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1))

def preserves_Delta_DeltaIdeal : Prop :=
  True

def algebraic_DeltaIdeal_DeltaRefIdeal [hDeltaIdeal : Cert.DeltaIdeal.Facts] [hDeltaRefIdeal : Cert.DeltaRefIdeal.Facts] : Prop :=
  ∀ (m : (ℓ : Loc Cert.DeltaIdeal.nD Cert.DeltaIdeal.τ Cert.DeltaIdeal.sig) → Buf (Elt Ideal) ℓ) (g : Dev Cert.DeltaIdeal.nD → PrngReg)
    (m' : (ℓ : Loc Cert.DeltaRefIdeal.nD Cert.DeltaRefIdeal.τ Cert.DeltaRefIdeal.sig) → Buf (Elt Ideal) ℓ) (g' : Dev Cert.DeltaRefIdeal.nD → PrngReg), Pre_DeltaIdeal m →
    (∀ c : Dev Cert.DeltaIdeal.nD,
      m' ((c.tc : Thread Cert.DeltaRefIdeal.nD Cert.DeltaRefIdeal.τ).loc Cert.DeltaRefIdeal.main_arg0) = m ((c.tc : Thread Cert.DeltaIdeal.nD Cert.DeltaIdeal.τ).loc Cert.DeltaIdeal.main_arg0)
      ∧ m' ((c.tc : Thread Cert.DeltaRefIdeal.nD Cert.DeltaRefIdeal.τ).loc Cert.DeltaRefIdeal.main_arg1) = m ((c.tc : Thread Cert.DeltaIdeal.nD Cert.DeltaIdeal.τ).loc Cert.DeltaIdeal.main_arg1)) →
    ∃ (v0 : (c : Dev Cert.DeltaIdeal.nD) → Buf (Elt Ideal) ((c.tc : Thread Cert.DeltaIdeal.nD Cert.DeltaIdeal.τ).loc Cert.DeltaIdeal.main_v14)),
      θ_run (Cert.DeltaIdeal.defs (F := Ideal)) (onTc (τ := Cert.DeltaIdeal.τ) (Cert.DeltaIdeal.main (F := Ideal))) ⟨m, fun _ => 0, g⟩ (fun r => ∀ c : Dev Cert.DeltaIdeal.nD,
          r.2.mem ((c.tc : Thread Cert.DeltaIdeal.nD Cert.DeltaIdeal.τ).loc Cert.DeltaIdeal.main_v14) = v0 c
          ∧ r.2.mem ((c.tc : Thread Cert.DeltaIdeal.nD Cert.DeltaIdeal.τ).loc Cert.DeltaIdeal.main_arg0) = m ((c.tc : Thread Cert.DeltaIdeal.nD Cert.DeltaIdeal.τ).loc Cert.DeltaIdeal.main_arg0)
          ∧ r.2.mem ((c.tc : Thread Cert.DeltaIdeal.nD Cert.DeltaIdeal.τ).loc Cert.DeltaIdeal.main_arg1) = m ((c.tc : Thread Cert.DeltaIdeal.nD Cert.DeltaIdeal.τ).loc Cert.DeltaIdeal.main_arg1))
      ∧ θ_run (Cert.DeltaRefIdeal.defs (F := Ideal)) (onTc (τ := Cert.DeltaRefIdeal.τ) (Cert.DeltaRefIdeal.main (F := Ideal))) ⟨m', fun _ => 0, g'⟩ (fun r => ∀ c : Dev Cert.DeltaRefIdeal.nD,
          r.2.mem ((c.tc : Thread Cert.DeltaRefIdeal.nD Cert.DeltaRefIdeal.τ).loc Cert.DeltaRefIdeal.main_v3) = v0 c
          ∧ r.2.mem ((c.tc : Thread Cert.DeltaRefIdeal.nD Cert.DeltaRefIdeal.τ).loc Cert.DeltaRefIdeal.main_arg0) = m' ((c.tc : Thread Cert.DeltaRefIdeal.nD Cert.DeltaRefIdeal.τ).loc Cert.DeltaRefIdeal.main_arg0)
          ∧ r.2.mem ((c.tc : Thread Cert.DeltaRefIdeal.nD Cert.DeltaRefIdeal.τ).loc Cert.DeltaRefIdeal.main_arg1) = m' ((c.tc : Thread Cert.DeltaRefIdeal.nD Cert.DeltaRefIdeal.τ).loc Cert.DeltaRefIdeal.main_arg1))

def preserves_SGelu_SGeluIdeal : Prop :=
  True

def algebraic_SGeluIdeal_SGeluRefIdeal [hSGeluIdeal : Cert.SGeluIdeal.Facts] [hSGeluRefIdeal : Cert.SGeluRefIdeal.Facts] : Prop :=
  ∀ (m : (ℓ : Loc Cert.SGeluIdeal.nD Cert.SGeluIdeal.τ Cert.SGeluIdeal.sig) → Buf (Elt Ideal) ℓ) (g : Dev Cert.SGeluIdeal.nD → PrngReg)
    (m' : (ℓ : Loc Cert.SGeluRefIdeal.nD Cert.SGeluRefIdeal.τ Cert.SGeluRefIdeal.sig) → Buf (Elt Ideal) ℓ) (g' : Dev Cert.SGeluRefIdeal.nD → PrngReg), Pre_SGeluIdeal m →
    (∀ c : Dev Cert.SGeluIdeal.nD,
      m' ((c.tc : Thread Cert.SGeluRefIdeal.nD Cert.SGeluRefIdeal.τ).loc Cert.SGeluRefIdeal.main_arg0) = m ((c.tc : Thread Cert.SGeluIdeal.nD Cert.SGeluIdeal.τ).loc Cert.SGeluIdeal.main_arg0)
      ∧ m' ((c.tc : Thread Cert.SGeluRefIdeal.nD Cert.SGeluRefIdeal.τ).loc Cert.SGeluRefIdeal.main_arg1) = m ((c.tc : Thread Cert.SGeluIdeal.nD Cert.SGeluIdeal.τ).loc Cert.SGeluIdeal.main_arg1)
      ∧ m' ((c.tc : Thread Cert.SGeluRefIdeal.nD Cert.SGeluRefIdeal.τ).loc Cert.SGeluRefIdeal.main_arg2) = m ((c.tc : Thread Cert.SGeluIdeal.nD Cert.SGeluIdeal.τ).loc Cert.SGeluIdeal.main_arg2)) →
    ∃ (v0 : (c : Dev Cert.SGeluIdeal.nD) → Buf (Elt Ideal) ((c.tc : Thread Cert.SGeluIdeal.nD Cert.SGeluIdeal.τ).loc Cert.SGeluIdeal.main_v1_0)) (v1 : (c : Dev Cert.SGeluIdeal.nD) → Buf (Elt Ideal) ((c.tc : Thread Cert.SGeluIdeal.nD Cert.SGeluIdeal.τ).loc Cert.SGeluIdeal.main_v1_1)),
      θ_run (Cert.SGeluIdeal.defs (F := Ideal)) (onTc (τ := Cert.SGeluIdeal.τ) (Cert.SGeluIdeal.main (F := Ideal))) ⟨m, fun _ => 0, g⟩ (fun r => ∀ c : Dev Cert.SGeluIdeal.nD,
          r.2.mem ((c.tc : Thread Cert.SGeluIdeal.nD Cert.SGeluIdeal.τ).loc Cert.SGeluIdeal.main_v1_0) = v0 c
          ∧ r.2.mem ((c.tc : Thread Cert.SGeluIdeal.nD Cert.SGeluIdeal.τ).loc Cert.SGeluIdeal.main_v1_1) = v1 c
          ∧ r.2.mem ((c.tc : Thread Cert.SGeluIdeal.nD Cert.SGeluIdeal.τ).loc Cert.SGeluIdeal.main_arg0) = m ((c.tc : Thread Cert.SGeluIdeal.nD Cert.SGeluIdeal.τ).loc Cert.SGeluIdeal.main_arg0)
          ∧ r.2.mem ((c.tc : Thread Cert.SGeluIdeal.nD Cert.SGeluIdeal.τ).loc Cert.SGeluIdeal.main_arg1) = m ((c.tc : Thread Cert.SGeluIdeal.nD Cert.SGeluIdeal.τ).loc Cert.SGeluIdeal.main_arg1)
          ∧ r.2.mem ((c.tc : Thread Cert.SGeluIdeal.nD Cert.SGeluIdeal.τ).loc Cert.SGeluIdeal.main_arg2) = m ((c.tc : Thread Cert.SGeluIdeal.nD Cert.SGeluIdeal.τ).loc Cert.SGeluIdeal.main_arg2))
      ∧ θ_run (Cert.SGeluRefIdeal.defs (F := Ideal)) (onTc (τ := Cert.SGeluRefIdeal.τ) (Cert.SGeluRefIdeal.main (F := Ideal))) ⟨m', fun _ => 0, g'⟩ (fun r => ∀ c : Dev Cert.SGeluRefIdeal.nD,
          r.2.mem ((c.tc : Thread Cert.SGeluRefIdeal.nD Cert.SGeluRefIdeal.τ).loc Cert.SGeluRefIdeal.main_v3) = v0 c
          ∧ r.2.mem ((c.tc : Thread Cert.SGeluRefIdeal.nD Cert.SGeluRefIdeal.τ).loc Cert.SGeluRefIdeal.main_v11) = v1 c
          ∧ r.2.mem ((c.tc : Thread Cert.SGeluRefIdeal.nD Cert.SGeluRefIdeal.τ).loc Cert.SGeluRefIdeal.main_arg0) = m' ((c.tc : Thread Cert.SGeluRefIdeal.nD Cert.SGeluRefIdeal.τ).loc Cert.SGeluRefIdeal.main_arg0)
          ∧ r.2.mem ((c.tc : Thread Cert.SGeluRefIdeal.nD Cert.SGeluRefIdeal.τ).loc Cert.SGeluRefIdeal.main_arg1) = m' ((c.tc : Thread Cert.SGeluRefIdeal.nD Cert.SGeluRefIdeal.τ).loc Cert.SGeluRefIdeal.main_arg1)
          ∧ r.2.mem ((c.tc : Thread Cert.SGeluRefIdeal.nD Cert.SGeluRefIdeal.τ).loc Cert.SGeluRefIdeal.main_arg2) = m' ((c.tc : Thread Cert.SGeluRefIdeal.nD Cert.SGeluRefIdeal.τ).loc Cert.SGeluRefIdeal.main_arg2))

def preserves_SGlu_SGluIdeal : Prop :=
  True

def algebraic_SGluIdeal_SGluRefIdeal [hSGluIdeal : Cert.SGluIdeal.Facts] [hSGluRefIdeal : Cert.SGluRefIdeal.Facts] : Prop :=
  ∀ (m : (ℓ : Loc Cert.SGluIdeal.nD Cert.SGluIdeal.τ Cert.SGluIdeal.sig) → Buf (Elt Ideal) ℓ) (g : Dev Cert.SGluIdeal.nD → PrngReg)
    (m' : (ℓ : Loc Cert.SGluRefIdeal.nD Cert.SGluRefIdeal.τ Cert.SGluRefIdeal.sig) → Buf (Elt Ideal) ℓ) (g' : Dev Cert.SGluRefIdeal.nD → PrngReg), Pre_SGluIdeal m →
    (∀ c : Dev Cert.SGluIdeal.nD,
      m' ((c.tc : Thread Cert.SGluRefIdeal.nD Cert.SGluRefIdeal.τ).loc Cert.SGluRefIdeal.main_arg0) = m ((c.tc : Thread Cert.SGluIdeal.nD Cert.SGluIdeal.τ).loc Cert.SGluIdeal.main_arg0)
      ∧ m' ((c.tc : Thread Cert.SGluRefIdeal.nD Cert.SGluRefIdeal.τ).loc Cert.SGluRefIdeal.main_arg1) = m ((c.tc : Thread Cert.SGluIdeal.nD Cert.SGluIdeal.τ).loc Cert.SGluIdeal.main_arg1)) →
    ∃ (v0 : (c : Dev Cert.SGluIdeal.nD) → Buf (Elt Ideal) ((c.tc : Thread Cert.SGluIdeal.nD Cert.SGluIdeal.τ).loc Cert.SGluIdeal.main_v0)),
      θ_run (Cert.SGluIdeal.defs (F := Ideal)) (onTc (τ := Cert.SGluIdeal.τ) (Cert.SGluIdeal.main (F := Ideal))) ⟨m, fun _ => 0, g⟩ (fun r => ∀ c : Dev Cert.SGluIdeal.nD,
          r.2.mem ((c.tc : Thread Cert.SGluIdeal.nD Cert.SGluIdeal.τ).loc Cert.SGluIdeal.main_v0) = v0 c
          ∧ r.2.mem ((c.tc : Thread Cert.SGluIdeal.nD Cert.SGluIdeal.τ).loc Cert.SGluIdeal.main_arg0) = m ((c.tc : Thread Cert.SGluIdeal.nD Cert.SGluIdeal.τ).loc Cert.SGluIdeal.main_arg0)
          ∧ r.2.mem ((c.tc : Thread Cert.SGluIdeal.nD Cert.SGluIdeal.τ).loc Cert.SGluIdeal.main_arg1) = m ((c.tc : Thread Cert.SGluIdeal.nD Cert.SGluIdeal.τ).loc Cert.SGluIdeal.main_arg1))
      ∧ θ_run (Cert.SGluRefIdeal.defs (F := Ideal)) (onTc (τ := Cert.SGluRefIdeal.τ) (Cert.SGluRefIdeal.main (F := Ideal))) ⟨m', fun _ => 0, g'⟩ (fun r => ∀ c : Dev Cert.SGluRefIdeal.nD,
          r.2.mem ((c.tc : Thread Cert.SGluRefIdeal.nD Cert.SGluRefIdeal.τ).loc Cert.SGluRefIdeal.main_v14) = v0 c
          ∧ r.2.mem ((c.tc : Thread Cert.SGluRefIdeal.nD Cert.SGluRefIdeal.τ).loc Cert.SGluRefIdeal.main_arg0) = m' ((c.tc : Thread Cert.SGluRefIdeal.nD Cert.SGluRefIdeal.τ).loc Cert.SGluRefIdeal.main_arg0)
          ∧ r.2.mem ((c.tc : Thread Cert.SGluRefIdeal.nD Cert.SGluRefIdeal.τ).loc Cert.SGluRefIdeal.main_arg1) = m' ((c.tc : Thread Cert.SGluRefIdeal.nD Cert.SGluRefIdeal.τ).loc Cert.SGluRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v5_0)) (v1 : (c : Dev Cert.FfnUpIdeal.nD) → Buf (Elt Ideal) ((c.tc : Thread Cert.FfnUpIdeal.nD Cert.FfnUpIdeal.τ).loc Cert.FfnUpIdeal.main_v5_1)) (v2 : (c : Dev Cert.FfnUpIdeal.nD) → Buf (Elt Ideal) ((c.tc : Thread Cert.FfnUpIdeal.nD Cert.FfnUpIdeal.τ).loc Cert.FfnUpIdeal.main_v5_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v5_0) = v0 c
          ∧ r.2.mem ((c.tc : Thread Cert.FfnUpIdeal.nD Cert.FfnUpIdeal.τ).loc Cert.FfnUpIdeal.main_v5_1) = v1 c
          ∧ r.2.mem ((c.tc : Thread Cert.FfnUpIdeal.nD Cert.FfnUpIdeal.τ).loc Cert.FfnUpIdeal.main_v5_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v2) = v0 c
          ∧ r.2.mem ((c.tc : Thread Cert.FfnUpRefIdeal.nD Cert.FfnUpRefIdeal.τ).loc Cert.FfnUpRefIdeal.main_v3) = v1 c
          ∧ r.2.mem ((c.tc : Thread Cert.FfnUpRefIdeal.nD Cert.FfnUpRefIdeal.τ).loc Cert.FfnUpRefIdeal.main_v6) = v2 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v4_0)) (v1 : (c : Dev Cert.DownIdeal.nD) → Buf (Elt Ideal) ((c.tc : Thread Cert.DownIdeal.nD Cert.DownIdeal.τ).loc Cert.DownIdeal.main_v4_1)) (v2 : (c : Dev Cert.DownIdeal.nD) → Buf (Elt Ideal) ((c.tc : Thread Cert.DownIdeal.nD Cert.DownIdeal.τ).loc Cert.DownIdeal.main_v4_2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v4_0) = v0 c
          ∧ r.2.mem ((c.tc : Thread Cert.DownIdeal.nD Cert.DownIdeal.τ).loc Cert.DownIdeal.main_v4_1) = v1 c
          ∧ r.2.mem ((c.tc : Thread Cert.DownIdeal.nD Cert.DownIdeal.τ).loc Cert.DownIdeal.main_v4_2) = v2 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_v27) = v1 c
          ∧ r.2.mem ((c.tc : Thread Cert.DownRefIdeal.nD Cert.DownRefIdeal.τ).loc Cert.DownRefIdeal.main_v28) = v2 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)
      ∧ m' ((c.tc : Thread Cert.RopeRefIdeal.nD Cert.RopeRefIdeal.τ).loc Cert.RopeRefIdeal.main_arg1) = m ((c.tc : Thread Cert.RopeIdeal.nD Cert.RopeIdeal.τ).loc Cert.RopeIdeal.main_arg1)
      ∧ m' ((c.tc : Thread Cert.RopeRefIdeal.nD Cert.RopeRefIdeal.τ).loc Cert.RopeRefIdeal.main_arg2) = m ((c.tc : Thread Cert.RopeIdeal.nD Cert.RopeIdeal.τ).loc Cert.RopeIdeal.main_arg2)) →
    ∃ (v0 : (c : Dev Cert.RopeIdeal.nD) → Buf (Elt Ideal) ((c.tc : Thread Cert.RopeIdeal.nD Cert.RopeIdeal.τ).loc Cert.RopeIdeal.main_v70_0)) (v1 : (c : Dev Cert.RopeIdeal.nD) → Buf (Elt Ideal) ((c.tc : Thread Cert.RopeIdeal.nD Cert.RopeIdeal.τ).loc Cert.RopeIdeal.main_v70_1)) (v2 : (c : Dev Cert.RopeIdeal.nD) → Buf (Elt Ideal) ((c.tc : Thread Cert.RopeIdeal.nD Cert.RopeIdeal.τ).loc Cert.RopeIdeal.main_v70_2)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v70_0) = v0 c
          ∧ r.2.mem ((c.tc : Thread Cert.RopeIdeal.nD Cert.RopeIdeal.τ).loc Cert.RopeIdeal.main_v70_1) = v1 c
          ∧ r.2.mem ((c.tc : Thread Cert.RopeIdeal.nD Cert.RopeIdeal.τ).loc Cert.RopeIdeal.main_v70_2) = v2 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
          ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
          ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v136) = v0 c
          ∧ r.2.mem ((c.tc : Thread Cert.RopeRefIdeal.nD Cert.RopeRefIdeal.τ).loc Cert.RopeRefIdeal.main_v138) = v1 c
          ∧ r.2.mem ((c.tc : Thread Cert.RopeRefIdeal.nD Cert.RopeRefIdeal.τ).loc Cert.RopeRefIdeal.main_v140) = v2 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0)
          ∧ r.2.mem ((c.tc : Thread Cert.RopeRefIdeal.nD Cert.RopeRefIdeal.τ).loc Cert.RopeRefIdeal.main_arg1) = m' ((c.tc : Thread Cert.RopeRefIdeal.nD Cert.RopeRefIdeal.τ).loc Cert.RopeRefIdeal.main_arg1)
          ∧ r.2.mem ((c.tc : Thread Cert.RopeRefIdeal.nD Cert.RopeRefIdeal.τ).loc Cert.RopeRefIdeal.main_arg2) = m' ((c.tc : Thread Cert.RopeRefIdeal.nD Cert.RopeRefIdeal.τ).loc Cert.RopeRefIdeal.main_arg2))

def preserves_RopeBwd_RopeBwdIdeal : Prop :=
  True

def algebraic_RopeBwdIdeal_RopeBwdRefIdeal_pre_finite_ropebwd [hRopeBwdIdeal : Cert.RopeBwdIdeal.Facts] [hRopeBwdRefIdeal : Cert.RopeBwdRefIdeal.Facts] [hPre_finite_ropebwd : Cert.Pre_finite_ropebwd.Facts] : Prop :=
  ∀ (m : (ℓ : Loc Cert.RopeBwdIdeal.nD Cert.RopeBwdIdeal.τ Cert.RopeBwdIdeal.sig) → Buf (Elt Ideal) ℓ) (g : Dev Cert.RopeBwdIdeal.nD → PrngReg)
    (m' : (ℓ : Loc Cert.RopeBwdRefIdeal.nD Cert.RopeBwdRefIdeal.τ Cert.RopeBwdRefIdeal.sig) → Buf (Elt Ideal) ℓ) (g' : Dev Cert.RopeBwdRefIdeal.nD → PrngReg), Pre_RopeBwdIdeal_finite_ropebwd m →
    (∀ c : Dev Cert.RopeBwdIdeal.nD,
      m' ((c.tc : Thread Cert.RopeBwdRefIdeal.nD Cert.RopeBwdRefIdeal.τ).loc Cert.RopeBwdRefIdeal.main_arg0) = m ((c.tc : Thread Cert.RopeBwdIdeal.nD Cert.RopeBwdIdeal.τ).loc Cert.RopeBwdIdeal.main_arg0)
      ∧ m' ((c.tc : Thread Cert.RopeBwdRefIdeal.nD Cert.RopeBwdRefIdeal.τ).loc Cert.RopeBwdRefIdeal.main_arg1) = m ((c.tc : Thread Cert.RopeBwdIdeal.nD Cert.RopeBwdIdeal.τ).loc Cert.RopeBwdIdeal.main_arg1)
      ∧ m' ((c.tc : Thread Cert.RopeBwdRefIdeal.nD Cert.RopeBwdRefIdeal.τ).loc Cert.RopeBwdRefIdeal.main_arg2) = m ((c.tc : Thread Cert.RopeBwdIdeal.nD Cert.RopeBwdIdeal.τ).loc Cert.RopeBwdIdeal.main_arg2)
      ∧ m' ((c.tc : Thread Cert.RopeBwdRefIdeal.nD Cert.RopeBwdRefIdeal.τ).loc Cert.RopeBwdRefIdeal.main_arg3) = m ((c.tc : Thread Cert.RopeBwdIdeal.nD Cert.RopeBwdIdeal.τ).loc Cert.RopeBwdIdeal.main_arg3)
      ∧ m' ((c.tc : Thread Cert.RopeBwdRefIdeal.nD Cert.RopeBwdRefIdeal.τ).loc Cert.RopeBwdRefIdeal.main_arg4) = m ((c.tc : Thread Cert.RopeBwdIdeal.nD Cert.RopeBwdIdeal.τ).loc Cert.RopeBwdIdeal.main_arg4)
      ∧ m' ((c.tc : Thread Cert.RopeBwdRefIdeal.nD Cert.RopeBwdRefIdeal.τ).loc Cert.RopeBwdRefIdeal.main_arg5) = m ((c.tc : Thread Cert.RopeBwdIdeal.nD Cert.RopeBwdIdeal.τ).loc Cert.RopeBwdIdeal.main_arg5)) →
    ∃ (v0 : (c : Dev Cert.RopeBwdIdeal.nD) → Buf (Elt Ideal) ((c.tc : Thread Cert.RopeBwdIdeal.nD Cert.RopeBwdIdeal.τ).loc Cert.RopeBwdIdeal.main_v70_0)) (v1 : (c : Dev Cert.RopeBwdIdeal.nD) → Buf (Elt Ideal) ((c.tc : Thread Cert.RopeBwdIdeal.nD Cert.RopeBwdIdeal.τ).loc Cert.RopeBwdIdeal.main_v72)) (v2 : (c : Dev Cert.RopeBwdIdeal.nD) → Buf (Elt Ideal) ((c.tc : Thread Cert.RopeBwdIdeal.nD Cert.RopeBwdIdeal.τ).loc Cert.RopeBwdIdeal.main_v74)),
      θ_run (Cert.RopeBwdIdeal.defs (F := Ideal)) (onTc (τ := Cert.RopeBwdIdeal.τ) (Cert.RopeBwdIdeal.main (F := Ideal))) ⟨m, fun _ => 0, g⟩ (fun r => ∀ c : Dev Cert.RopeBwdIdeal.nD,
          r.2.mem ((c.tc : Thread Cert.RopeBwdIdeal.nD Cert.RopeBwdIdeal.τ).loc Cert.RopeBwdIdeal.main_v70_0) = v0 c
          ∧ r.2.mem ((c.tc : Thread Cert.RopeBwdIdeal.nD Cert.RopeBwdIdeal.τ).loc Cert.RopeBwdIdeal.main_v72) = v1 c
          ∧ r.2.mem ((c.tc : Thread Cert.RopeBwdIdeal.nD Cert.RopeBwdIdeal.τ).loc Cert.RopeBwdIdeal.main_v74) = v2 c
          ∧ r.2.mem ((c.tc : Thread Cert.RopeBwdIdeal.nD Cert.RopeBwdIdeal.τ).loc Cert.RopeBwdIdeal.main_arg0) = m ((c.tc : Thread Cert.RopeBwdIdeal.nD Cert.RopeBwdIdeal.τ).loc Cert.RopeBwdIdeal.main_arg0)
          ∧ r.2.mem ((c.tc : Thread Cert.RopeBwdIdeal.nD Cert.RopeBwdIdeal.τ).loc Cert.RopeBwdIdeal.main_arg1) = m ((c.tc : Thread Cert.RopeBwdIdeal.nD Cert.RopeBwdIdeal.τ).loc Cert.RopeBwdIdeal.main_arg1)
          ∧ r.2.mem ((c.tc : Thread Cert.RopeBwdIdeal.nD Cert.RopeBwdIdeal.τ).loc Cert.RopeBwdIdeal.main_arg2) = m ((c.tc : Thread Cert.RopeBwdIdeal.nD Cert.RopeBwdIdeal.τ).loc Cert.RopeBwdIdeal.main_arg2)
          ∧ r.2.mem ((c.tc : Thread Cert.RopeBwdIdeal.nD Cert.RopeBwdIdeal.τ).loc Cert.RopeBwdIdeal.main_arg3) = m ((c.tc : Thread Cert.RopeBwdIdeal.nD Cert.RopeBwdIdeal.τ).loc Cert.RopeBwdIdeal.main_arg3)
          ∧ r.2.mem ((c.tc : Thread Cert.RopeBwdIdeal.nD Cert.RopeBwdIdeal.τ).loc Cert.RopeBwdIdeal.main_arg4) = m ((c.tc : Thread Cert.RopeBwdIdeal.nD Cert.RopeBwdIdeal.τ).loc Cert.RopeBwdIdeal.main_arg4)
          ∧ r.2.mem ((c.tc : Thread Cert.RopeBwdIdeal.nD Cert.RopeBwdIdeal.τ).loc Cert.RopeBwdIdeal.main_arg5) = m ((c.tc : Thread Cert.RopeBwdIdeal.nD Cert.RopeBwdIdeal.τ).loc Cert.RopeBwdIdeal.main_arg5))
      ∧ θ_run (Cert.RopeBwdRefIdeal.defs (F := Ideal)) (onTc (τ := Cert.RopeBwdRefIdeal.τ) (Cert.RopeBwdRefIdeal.main (F := Ideal))) ⟨m', fun _ => 0, g'⟩ (fun r => ∀ c : Dev Cert.RopeBwdRefIdeal.nD,
          r.2.mem ((c.tc : Thread Cert.RopeBwdRefIdeal.nD Cert.RopeBwdRefIdeal.τ).loc Cert.RopeBwdRefIdeal.main_v273) = v0 c
          ∧ r.2.mem ((c.tc : Thread Cert.RopeBwdRefIdeal.nD Cert.RopeBwdRefIdeal.τ).loc Cert.RopeBwdRefIdeal.main_v257) = v1 c
          ∧ r.2.mem ((c.tc : Thread Cert.RopeBwdRefIdeal.nD Cert.RopeBwdRefIdeal.τ).loc Cert.RopeBwdRefIdeal.main_v199) = v2 c
          ∧ r.2.mem ((c.tc : Thread Cert.RopeBwdRefIdeal.nD Cert.RopeBwdRefIdeal.τ).loc Cert.RopeBwdRefIdeal.main_arg0) = m' ((c.tc : Thread Cert.RopeBwdRefIdeal.nD Cert.RopeBwdRefIdeal.τ).loc Cert.RopeBwdRefIdeal.main_arg0)
          ∧ r.2.mem ((c.tc : Thread Cert.RopeBwdRefIdeal.nD Cert.RopeBwdRefIdeal.τ).loc Cert.RopeBwdRefIdeal.main_arg1) = m' ((c.tc : Thread Cert.RopeBwdRefIdeal.nD Cert.RopeBwdRefIdeal.τ).loc Cert.RopeBwdRefIdeal.main_arg1)
          ∧ r.2.mem ((c.tc : Thread Cert.RopeBwdRefIdeal.nD Cert.RopeBwdRefIdeal.τ).loc Cert.RopeBwdRefIdeal.main_arg2) = m' ((c.tc : Thread Cert.RopeBwdRefIdeal.nD Cert.RopeBwdRefIdeal.τ).loc Cert.RopeBwdRefIdeal.main_arg2)
          ∧ r.2.mem ((c.tc : Thread Cert.RopeBwdRefIdeal.nD Cert.RopeBwdRefIdeal.τ).loc Cert.RopeBwdRefIdeal.main_arg3) = m' ((c.tc : Thread Cert.RopeBwdRefIdeal.nD Cert.RopeBwdRefIdeal.τ).loc Cert.RopeBwdRefIdeal.main_arg3)
          ∧ r.2.mem ((c.tc : Thread Cert.RopeBwdRefIdeal.nD Cert.RopeBwdRefIdeal.τ).loc Cert.RopeBwdRefIdeal.main_arg4) = m' ((c.tc : Thread Cert.RopeBwdRefIdeal.nD Cert.RopeBwdRefIdeal.τ).loc Cert.RopeBwdRefIdeal.main_arg4)
          ∧ r.2.mem ((c.tc : Thread Cert.RopeBwdRefIdeal.nD Cert.RopeBwdRefIdeal.τ).loc Cert.RopeBwdRefIdeal.main_arg5) = m' ((c.tc : Thread Cert.RopeBwdRefIdeal.nD Cert.RopeBwdRefIdeal.τ).loc Cert.RopeBwdRefIdeal.main_arg5))

def preserves_Mm_MmIdeal : Prop :=
  True

def algebraic_MmIdeal_MmRefIdeal [hMmIdeal : Cert.MmIdeal.Facts] [hMmRefIdeal : Cert.MmRefIdeal.Facts] : Prop :=
  ∀ (m : (ℓ : Loc Cert.MmIdeal.nD Cert.MmIdeal.τ Cert.MmIdeal.sig) → Buf (Elt Ideal) ℓ) (g : Dev Cert.MmIdeal.nD → PrngReg)
    (m' : (ℓ : Loc Cert.MmRefIdeal.nD Cert.MmRefIdeal.τ Cert.MmRefIdeal.sig) → Buf (Elt Ideal) ℓ) (g' : Dev Cert.MmRefIdeal.nD → PrngReg), Pre_MmIdeal m →
    (∀ c : Dev Cert.MmIdeal.nD,
      m' ((c.tc : Thread Cert.MmRefIdeal.nD Cert.MmRefIdeal.τ).loc Cert.MmRefIdeal.main_arg0) = m ((c.tc : Thread Cert.MmIdeal.nD Cert.MmIdeal.τ).loc Cert.MmIdeal.main_arg0)
      ∧ m' ((c.tc : Thread Cert.MmRefIdeal.nD Cert.MmRefIdeal.τ).loc Cert.MmRefIdeal.main_arg1) = m ((c.tc : Thread Cert.MmIdeal.nD Cert.MmIdeal.τ).loc Cert.MmIdeal.main_arg1)) →
    ∃ (v0 : (c : Dev Cert.MmIdeal.nD) → Buf (Elt Ideal) ((c.tc : Thread Cert.MmIdeal.nD Cert.MmIdeal.τ).loc Cert.MmIdeal.main_v3)),
      θ_run (Cert.MmIdeal.defs (F := Ideal)) (onTc (τ := Cert.MmIdeal.τ) (Cert.MmIdeal.main (F := Ideal))) ⟨m, fun _ => 0, g⟩ (fun r => ∀ c : Dev Cert.MmIdeal.nD,
          r.2.mem ((c.tc : Thread Cert.MmIdeal.nD Cert.MmIdeal.τ).loc Cert.MmIdeal.main_v3) = v0 c
          ∧ r.2.mem ((c.tc : Thread Cert.MmIdeal.nD Cert.MmIdeal.τ).loc Cert.MmIdeal.main_arg0) = m ((c.tc : Thread Cert.MmIdeal.nD Cert.MmIdeal.τ).loc Cert.MmIdeal.main_arg0)
          ∧ r.2.mem ((c.tc : Thread Cert.MmIdeal.nD Cert.MmIdeal.τ).loc Cert.MmIdeal.main_arg1) = m ((c.tc : Thread Cert.MmIdeal.nD Cert.MmIdeal.τ).loc Cert.MmIdeal.main_arg1))
      ∧ θ_run (Cert.MmRefIdeal.defs (F := Ideal)) (onTc (τ := Cert.MmRefIdeal.τ) (Cert.MmRefIdeal.main (F := Ideal))) ⟨m', fun _ => 0, g'⟩ (fun r => ∀ c : Dev Cert.MmRefIdeal.nD,
          r.2.mem ((c.tc : Thread Cert.MmRefIdeal.nD Cert.MmRefIdeal.τ).loc Cert.MmRefIdeal.main_v0) = v0 c
          ∧ r.2.mem ((c.tc : Thread Cert.MmRefIdeal.nD Cert.MmRefIdeal.τ).loc Cert.MmRefIdeal.main_arg0) = m' ((c.tc : Thread Cert.MmRefIdeal.nD Cert.MmRefIdeal.τ).loc Cert.MmRefIdeal.main_arg0)
          ∧ r.2.mem ((c.tc : Thread Cert.MmRefIdeal.nD Cert.MmRefIdeal.τ).loc Cert.MmRefIdeal.main_arg1) = m' ((c.tc : Thread Cert.MmRefIdeal.nD Cert.MmRefIdeal.τ).loc Cert.MmRefIdeal.main_arg1))

def preserves_MmTwo_MmTwoIdeal : Prop :=
  True

def algebraic_MmTwoIdeal_MmTwoRefIdeal [hMmTwoIdeal : Cert.MmTwoIdeal.Facts] [hMmTwoRefIdeal : Cert.MmTwoRefIdeal.Facts] : Prop :=
  ∀ (m : (ℓ : Loc Cert.MmTwoIdeal.nD Cert.MmTwoIdeal.τ Cert.MmTwoIdeal.sig) → Buf (Elt Ideal) ℓ) (g : Dev Cert.MmTwoIdeal.nD → PrngReg)
    (m' : (ℓ : Loc Cert.MmTwoRefIdeal.nD Cert.MmTwoRefIdeal.τ Cert.MmTwoRefIdeal.sig) → Buf (Elt Ideal) ℓ) (g' : Dev Cert.MmTwoRefIdeal.nD → PrngReg), Pre_MmTwoIdeal m →
    (∀ c : Dev Cert.MmTwoIdeal.nD,
      m' ((c.tc : Thread Cert.MmTwoRefIdeal.nD Cert.MmTwoRefIdeal.τ).loc Cert.MmTwoRefIdeal.main_arg0) = m ((c.tc : Thread Cert.MmTwoIdeal.nD Cert.MmTwoIdeal.τ).loc Cert.MmTwoIdeal.main_arg0)
      ∧ m' ((c.tc : Thread Cert.MmTwoRefIdeal.nD Cert.MmTwoRefIdeal.τ).loc Cert.MmTwoRefIdeal.main_arg1) = m ((c.tc : Thread Cert.MmTwoIdeal.nD Cert.MmTwoIdeal.τ).loc Cert.MmTwoIdeal.main_arg1)
      ∧ m' ((c.tc : Thread Cert.MmTwoRefIdeal.nD Cert.MmTwoRefIdeal.τ).loc Cert.MmTwoRefIdeal.main_arg2) = m ((c.tc : Thread Cert.MmTwoIdeal.nD Cert.MmTwoIdeal.τ).loc Cert.MmTwoIdeal.main_arg2)
      ∧ m' ((c.tc : Thread Cert.MmTwoRefIdeal.nD Cert.MmTwoRefIdeal.τ).loc Cert.MmTwoRefIdeal.main_arg3) = m ((c.tc : Thread Cert.MmTwoIdeal.nD Cert.MmTwoIdeal.τ).loc Cert.MmTwoIdeal.main_arg3)) →
    ∃ (v0 : (c : Dev Cert.MmTwoIdeal.nD) → Buf (Elt Ideal) ((c.tc : Thread Cert.MmTwoIdeal.nD Cert.MmTwoIdeal.τ).loc Cert.MmTwoIdeal.main_v6)),
      θ_run (Cert.MmTwoIdeal.defs (F := Ideal)) (onTc (τ := Cert.MmTwoIdeal.τ) (Cert.MmTwoIdeal.main (F := Ideal))) ⟨m, fun _ => 0, g⟩ (fun r => ∀ c : Dev Cert.MmTwoIdeal.nD,
          r.2.mem ((c.tc : Thread Cert.MmTwoIdeal.nD Cert.MmTwoIdeal.τ).loc Cert.MmTwoIdeal.main_v6) = v0 c
          ∧ r.2.mem ((c.tc : Thread Cert.MmTwoIdeal.nD Cert.MmTwoIdeal.τ).loc Cert.MmTwoIdeal.main_arg0) = m ((c.tc : Thread Cert.MmTwoIdeal.nD Cert.MmTwoIdeal.τ).loc Cert.MmTwoIdeal.main_arg0)
          ∧ r.2.mem ((c.tc : Thread Cert.MmTwoIdeal.nD Cert.MmTwoIdeal.τ).loc Cert.MmTwoIdeal.main_arg1) = m ((c.tc : Thread Cert.MmTwoIdeal.nD Cert.MmTwoIdeal.τ).loc Cert.MmTwoIdeal.main_arg1)
          ∧ r.2.mem ((c.tc : Thread Cert.MmTwoIdeal.nD Cert.MmTwoIdeal.τ).loc Cert.MmTwoIdeal.main_arg2) = m ((c.tc : Thread Cert.MmTwoIdeal.nD Cert.MmTwoIdeal.τ).loc Cert.MmTwoIdeal.main_arg2)
          ∧ r.2.mem ((c.tc : Thread Cert.MmTwoIdeal.nD Cert.MmTwoIdeal.τ).loc Cert.MmTwoIdeal.main_arg3) = m ((c.tc : Thread Cert.MmTwoIdeal.nD Cert.MmTwoIdeal.τ).loc Cert.MmTwoIdeal.main_arg3))
      ∧ θ_run (Cert.MmTwoRefIdeal.defs (F := Ideal)) (onTc (τ := Cert.MmTwoRefIdeal.τ) (Cert.MmTwoRefIdeal.main (F := Ideal))) ⟨m', fun _ => 0, g'⟩ (fun r => ∀ c : Dev Cert.MmTwoRefIdeal.nD,
          r.2.mem ((c.tc : Thread Cert.MmTwoRefIdeal.nD Cert.MmTwoRefIdeal.τ).loc Cert.MmTwoRefIdeal.main_v5) = v0 c
          ∧ r.2.mem ((c.tc : Thread Cert.MmTwoRefIdeal.nD Cert.MmTwoRefIdeal.τ).loc Cert.MmTwoRefIdeal.main_arg0) = m' ((c.tc : Thread Cert.MmTwoRefIdeal.nD Cert.MmTwoRefIdeal.τ).loc Cert.MmTwoRefIdeal.main_arg0)
          ∧ r.2.mem ((c.tc : Thread Cert.MmTwoRefIdeal.nD Cert.MmTwoRefIdeal.τ).loc Cert.MmTwoRefIdeal.main_arg1) = m' ((c.tc : Thread Cert.MmTwoRefIdeal.nD Cert.MmTwoRefIdeal.τ).loc Cert.MmTwoRefIdeal.main_arg1)
          ∧ r.2.mem ((c.tc : Thread Cert.MmTwoRefIdeal.nD Cert.MmTwoRefIdeal.τ).loc Cert.MmTwoRefIdeal.main_arg2) = m' ((c.tc : Thread Cert.MmTwoRefIdeal.nD Cert.MmTwoRefIdeal.τ).loc Cert.MmTwoRefIdeal.main_arg2)
          ∧ r.2.mem ((c.tc : Thread Cert.MmTwoRefIdeal.nD Cert.MmTwoRefIdeal.τ).loc Cert.MmTwoRefIdeal.main_arg3) = m' ((c.tc : Thread Cert.MmTwoRefIdeal.nD Cert.MmTwoRefIdeal.τ).loc Cert.MmTwoRefIdeal.main_arg3))

def preserves_MmTn_MmTnIdeal : Prop :=
  True

def algebraic_MmTnIdeal_MmTnRefIdeal [hMmTnIdeal : Cert.MmTnIdeal.Facts] [hMmTnRefIdeal : Cert.MmTnRefIdeal.Facts] : Prop :=
  ∀ (m : (ℓ : Loc Cert.MmTnIdeal.nD Cert.MmTnIdeal.τ Cert.MmTnIdeal.sig) → Buf (Elt Ideal) ℓ) (g : Dev Cert.MmTnIdeal.nD → PrngReg)
    (m' : (ℓ : Loc Cert.MmTnRefIdeal.nD Cert.MmTnRefIdeal.τ Cert.MmTnRefIdeal.sig) → Buf (Elt Ideal) ℓ) (g' : Dev Cert.MmTnRefIdeal.nD → PrngReg), Pre_MmTnIdeal m →
    (∀ c : Dev Cert.MmTnIdeal.nD,
      m' ((c.tc : Thread Cert.MmTnRefIdeal.nD Cert.MmTnRefIdeal.τ).loc Cert.MmTnRefIdeal.main_arg0) = m ((c.tc : Thread Cert.MmTnIdeal.nD Cert.MmTnIdeal.τ).loc Cert.MmTnIdeal.main_arg0)
      ∧ m' ((c.tc : Thread Cert.MmTnRefIdeal.nD Cert.MmTnRefIdeal.τ).loc Cert.MmTnRefIdeal.main_arg1) = m ((c.tc : Thread Cert.MmTnIdeal.nD Cert.MmTnIdeal.τ).loc Cert.MmTnIdeal.main_arg1)) →
    ∃ (v0 : (c : Dev Cert.MmTnIdeal.nD) → Buf (Elt Ideal) ((c.tc : Thread Cert.MmTnIdeal.nD Cert.MmTnIdeal.τ).loc Cert.MmTnIdeal.main_v2)),
      θ_run (Cert.MmTnIdeal.defs (F := Ideal)) (onTc (τ := Cert.MmTnIdeal.τ) (Cert.MmTnIdeal.main (F := Ideal))) ⟨m, fun _ => 0, g⟩ (fun r => ∀ c : Dev Cert.MmTnIdeal.nD,
          r.2.mem ((c.tc : Thread Cert.MmTnIdeal.nD Cert.MmTnIdeal.τ).loc Cert.MmTnIdeal.main_v2) = v0 c
          ∧ r.2.mem ((c.tc : Thread Cert.MmTnIdeal.nD Cert.MmTnIdeal.τ).loc Cert.MmTnIdeal.main_arg0) = m ((c.tc : Thread Cert.MmTnIdeal.nD Cert.MmTnIdeal.τ).loc Cert.MmTnIdeal.main_arg0)
          ∧ r.2.mem ((c.tc : Thread Cert.MmTnIdeal.nD Cert.MmTnIdeal.τ).loc Cert.MmTnIdeal.main_arg1) = m ((c.tc : Thread Cert.MmTnIdeal.nD Cert.MmTnIdeal.τ).loc Cert.MmTnIdeal.main_arg1))
      ∧ θ_run (Cert.MmTnRefIdeal.defs (F := Ideal)) (onTc (τ := Cert.MmTnRefIdeal.τ) (Cert.MmTnRefIdeal.main (F := Ideal))) ⟨m', fun _ => 0, g'⟩ (fun r => ∀ c : Dev Cert.MmTnRefIdeal.nD,
          r.2.mem ((c.tc : Thread Cert.MmTnRefIdeal.nD Cert.MmTnRefIdeal.τ).loc Cert.MmTnRefIdeal.main_v3) = v0 c
          ∧ r.2.mem ((c.tc : Thread Cert.MmTnRefIdeal.nD Cert.MmTnRefIdeal.τ).loc Cert.MmTnRefIdeal.main_arg0) = m' ((c.tc : Thread Cert.MmTnRefIdeal.nD Cert.MmTnRefIdeal.τ).loc Cert.MmTnRefIdeal.main_arg0)
          ∧ r.2.mem ((c.tc : Thread Cert.MmTnRefIdeal.nD Cert.MmTnRefIdeal.τ).loc Cert.MmTnRefIdeal.main_arg1) = m' ((c.tc : Thread Cert.MmTnRefIdeal.nD Cert.MmTnRefIdeal.τ).loc Cert.MmTnRefIdeal.main_arg1))

def preserves_Adamw_AdamwIdeal : Prop :=
  True

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)) →
    ∃ (v0 : (c : Dev Cert.AdamwIdeal.nD) → Buf (Elt Ideal) ((c.tc : Thread Cert.AdamwIdeal.nD Cert.AdamwIdeal.τ).loc Cert.AdamwIdeal.main_v4_0)) (v1 : (c : Dev Cert.AdamwIdeal.nD) → Buf (Elt Ideal) ((c.tc : Thread Cert.AdamwIdeal.nD Cert.AdamwIdeal.τ).loc Cert.AdamwIdeal.main_v4_1)) (v2 : (c : Dev Cert.AdamwIdeal.nD) → Buf (Elt Ideal) ((c.tc : Thread Cert.AdamwIdeal.nD Cert.AdamwIdeal.τ).loc Cert.AdamwIdeal.main_v4_2)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v4_0) = v0 c
          ∧ r.2.mem ((c.tc : Thread Cert.AdamwIdeal.nD Cert.AdamwIdeal.τ).loc Cert.AdamwIdeal.main_v4_1) = v1 c
          ∧ r.2.mem ((c.tc : Thread Cert.AdamwIdeal.nD Cert.AdamwIdeal.τ).loc Cert.AdamwIdeal.main_v4_2) = v2 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_v24) = v0 c
          ∧ r.2.mem ((c.tc : Thread Cert.AdamwRefIdeal.nD Cert.AdamwRefIdeal.τ).loc Cert.AdamwRefIdeal.main_v25) = v1 c
          ∧ r.2.mem ((c.tc : Thread Cert.AdamwRefIdeal.nD Cert.AdamwRefIdeal.τ).loc Cert.AdamwRefIdeal.main_v26) = v2 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3))

def preserves_Mixer_MixerIdeal : Prop :=
  True

def algebraic_MixerIdeal_MixerRefIdeal [hMixerIdeal : Cert.MixerIdeal.Facts] [hMixerRefIdeal : Cert.MixerRefIdeal.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)) →
    ∃ (v0 : (c : Dev Cert.MixerIdeal.nD) → Buf (Elt Ideal) ((c.tc : Thread Cert.MixerIdeal.nD Cert.MixerIdeal.τ).loc Cert.MixerIdeal.main_v4_0)) (v1 : (c : Dev Cert.MixerIdeal.nD) → Buf (Elt Ideal) ((c.tc : Thread Cert.MixerIdeal.nD Cert.MixerIdeal.τ).loc Cert.MixerIdeal.main_v4_1)) (v2 : (c : Dev Cert.MixerIdeal.nD) → Buf (Elt Ideal) ((c.tc : Thread Cert.MixerIdeal.nD Cert.MixerIdeal.τ).loc Cert.MixerIdeal.main_v4_2)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v4_0) = v0 c
          ∧ r.2.mem ((c.tc : Thread Cert.MixerIdeal.nD Cert.MixerIdeal.τ).loc Cert.MixerIdeal.main_v4_1) = v1 c
          ∧ r.2.mem ((c.tc : Thread Cert.MixerIdeal.nD Cert.MixerIdeal.τ).loc Cert.MixerIdeal.main_v4_2) = v2 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v3) = v0 c
          ∧ r.2.mem ((c.tc : Thread Cert.MixerRefIdeal.nD Cert.MixerRefIdeal.τ).loc Cert.MixerRefIdeal.main_v27) = v1 c
          ∧ r.2.mem ((c.tc : Thread Cert.MixerRefIdeal.nD Cert.MixerRefIdeal.τ).loc Cert.MixerRefIdeal.main_v28) = v2 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4))

def preserves_SumTwo_SumTwoIdeal : Prop :=
  True

def algebraic_SumTwoIdeal_SumTwoRefIdeal [hSumTwoIdeal : Cert.SumTwoIdeal.Facts] [hSumTwoRefIdeal : Cert.SumTwoRefIdeal.Facts] : Prop :=
  ∀ (m : (ℓ : Loc Cert.SumTwoIdeal.nD Cert.SumTwoIdeal.τ Cert.SumTwoIdeal.sig) → Buf (Elt Ideal) ℓ) (g : Dev Cert.SumTwoIdeal.nD → PrngReg)
    (m' : (ℓ : Loc Cert.SumTwoRefIdeal.nD Cert.SumTwoRefIdeal.τ Cert.SumTwoRefIdeal.sig) → Buf (Elt Ideal) ℓ) (g' : Dev Cert.SumTwoRefIdeal.nD → PrngReg), Pre_SumTwoIdeal m →
    (∀ c : Dev Cert.SumTwoIdeal.nD,
      m' ((c.tc : Thread Cert.SumTwoRefIdeal.nD Cert.SumTwoRefIdeal.τ).loc Cert.SumTwoRefIdeal.main_arg0) = m ((c.tc : Thread Cert.SumTwoIdeal.nD Cert.SumTwoIdeal.τ).loc Cert.SumTwoIdeal.main_arg0)
      ∧ m' ((c.tc : Thread Cert.SumTwoRefIdeal.nD Cert.SumTwoRefIdeal.τ).loc Cert.SumTwoRefIdeal.main_arg1) = m ((c.tc : Thread Cert.SumTwoIdeal.nD Cert.SumTwoIdeal.τ).loc Cert.SumTwoIdeal.main_arg1)) →
    ∃ (v0 : (c : Dev Cert.SumTwoIdeal.nD) → Buf (Elt Ideal) ((c.tc : Thread Cert.SumTwoIdeal.nD Cert.SumTwoIdeal.τ).loc Cert.SumTwoIdeal.main_v2)),
      θ_run (Cert.SumTwoIdeal.defs (F := Ideal)) (onTc (τ := Cert.SumTwoIdeal.τ) (Cert.SumTwoIdeal.main (F := Ideal))) ⟨m, fun _ => 0, g⟩ (fun r => ∀ c : Dev Cert.SumTwoIdeal.nD,
          r.2.mem ((c.tc : Thread Cert.SumTwoIdeal.nD Cert.SumTwoIdeal.τ).loc Cert.SumTwoIdeal.main_v2) = v0 c
          ∧ r.2.mem ((c.tc : Thread Cert.SumTwoIdeal.nD Cert.SumTwoIdeal.τ).loc Cert.SumTwoIdeal.main_arg0) = m ((c.tc : Thread Cert.SumTwoIdeal.nD Cert.SumTwoIdeal.τ).loc Cert.SumTwoIdeal.main_arg0)
          ∧ r.2.mem ((c.tc : Thread Cert.SumTwoIdeal.nD Cert.SumTwoIdeal.τ).loc Cert.SumTwoIdeal.main_arg1) = m ((c.tc : Thread Cert.SumTwoIdeal.nD Cert.SumTwoIdeal.τ).loc Cert.SumTwoIdeal.main_arg1))
      ∧ θ_run (Cert.SumTwoRefIdeal.defs (F := Ideal)) (onTc (τ := Cert.SumTwoRefIdeal.τ) (Cert.SumTwoRefIdeal.main (F := Ideal))) ⟨m', fun _ => 0, g'⟩ (fun r => ∀ c : Dev Cert.SumTwoRefIdeal.nD,
          r.2.mem ((c.tc : Thread Cert.SumTwoRefIdeal.nD Cert.SumTwoRefIdeal.τ).loc Cert.SumTwoRefIdeal.main_v2) = v0 c
          ∧ r.2.mem ((c.tc : Thread Cert.SumTwoRefIdeal.nD Cert.SumTwoRefIdeal.τ).loc Cert.SumTwoRefIdeal.main_arg0) = m' ((c.tc : Thread Cert.SumTwoRefIdeal.nD Cert.SumTwoRefIdeal.τ).loc Cert.SumTwoRefIdeal.main_arg0)
          ∧ r.2.mem ((c.tc : Thread Cert.SumTwoRefIdeal.nD Cert.SumTwoRefIdeal.τ).loc Cert.SumTwoRefIdeal.main_arg1) = m' ((c.tc : Thread Cert.SumTwoRefIdeal.nD Cert.SumTwoRefIdeal.τ).loc Cert.SumTwoRefIdeal.main_arg1))

def preserves_SumFour_SumFourIdeal : Prop :=
  True

def algebraic_SumFourIdeal_SumFourRefIdeal [hSumFourIdeal : Cert.SumFourIdeal.Facts] [hSumFourRefIdeal : Cert.SumFourRefIdeal.Facts] : Prop :=
  ∀ (m : (ℓ : Loc Cert.SumFourIdeal.nD Cert.SumFourIdeal.τ Cert.SumFourIdeal.sig) → Buf (Elt Ideal) ℓ) (g : Dev Cert.SumFourIdeal.nD → PrngReg)
    (m' : (ℓ : Loc Cert.SumFourRefIdeal.nD Cert.SumFourRefIdeal.τ Cert.SumFourRefIdeal.sig) → Buf (Elt Ideal) ℓ) (g' : Dev Cert.SumFourRefIdeal.nD → PrngReg), Pre_SumFourIdeal m →
    (∀ c : Dev Cert.SumFourIdeal.nD,
      m' ((c.tc : Thread Cert.SumFourRefIdeal.nD Cert.SumFourRefIdeal.τ).loc Cert.SumFourRefIdeal.main_arg0) = m ((c.tc : Thread Cert.SumFourIdeal.nD Cert.SumFourIdeal.τ).loc Cert.SumFourIdeal.main_arg0)) →
    ∃ (v0 : (c : Dev Cert.SumFourIdeal.nD) → Buf (Elt Ideal) ((c.tc : Thread Cert.SumFourIdeal.nD Cert.SumFourIdeal.τ).loc Cert.SumFourIdeal.main_v1)),
      θ_run (Cert.SumFourIdeal.defs (F := Ideal)) (onTc (τ := Cert.SumFourIdeal.τ) (Cert.SumFourIdeal.main (F := Ideal))) ⟨m, fun _ => 0, g⟩ (fun r => ∀ c : Dev Cert.SumFourIdeal.nD,
          r.2.mem ((c.tc : Thread Cert.SumFourIdeal.nD Cert.SumFourIdeal.τ).loc Cert.SumFourIdeal.main_v1) = v0 c
          ∧ r.2.mem ((c.tc : Thread Cert.SumFourIdeal.nD Cert.SumFourIdeal.τ).loc Cert.SumFourIdeal.main_arg0) = m ((c.tc : Thread Cert.SumFourIdeal.nD Cert.SumFourIdeal.τ).loc Cert.SumFourIdeal.main_arg0))
      ∧ θ_run (Cert.SumFourRefIdeal.defs (F := Ideal)) (onTc (τ := Cert.SumFourRefIdeal.τ) (Cert.SumFourRefIdeal.main (F := Ideal))) ⟨m', fun _ => 0, g'⟩ (fun r => ∀ c : Dev Cert.SumFourRefIdeal.nD,
          r.2.mem ((c.tc : Thread Cert.SumFourRefIdeal.nD Cert.SumFourRefIdeal.τ).loc Cert.SumFourRefIdeal.main_v0) = v0 c
          ∧ r.2.mem ((c.tc : Thread Cert.SumFourRefIdeal.nD Cert.SumFourRefIdeal.τ).loc Cert.SumFourRefIdeal.main_arg0) = m' ((c.tc : Thread Cert.SumFourRefIdeal.nD Cert.SumFourRefIdeal.τ).loc Cert.SumFourRefIdeal.main_arg0))

def preserves_Groups_GroupsIdeal : Prop :=
  True

def algebraic_GroupsIdeal_GroupsRefIdeal [hGroupsIdeal : Cert.GroupsIdeal.Facts] [hGroupsRefIdeal : Cert.GroupsRefIdeal.Facts] : Prop :=
  ∀ (m : (ℓ : Loc Cert.GroupsIdeal.nD Cert.GroupsIdeal.τ Cert.GroupsIdeal.sig) → Buf (Elt Ideal) ℓ) (g : Dev Cert.GroupsIdeal.nD → PrngReg)
    (m' : (ℓ : Loc Cert.GroupsRefIdeal.nD Cert.GroupsRefIdeal.τ Cert.GroupsRefIdeal.sig) → Buf (Elt Ideal) ℓ) (g' : Dev Cert.GroupsRefIdeal.nD → PrngReg), Pre_GroupsIdeal m →
    (∀ c : Dev Cert.GroupsIdeal.nD,
      m' ((c.tc : Thread Cert.GroupsRefIdeal.nD Cert.GroupsRefIdeal.τ).loc Cert.GroupsRefIdeal.main_arg0) = m ((c.tc : Thread Cert.GroupsIdeal.nD Cert.GroupsIdeal.τ).loc Cert.GroupsIdeal.main_arg0)) →
    ∃ (v0 : (c : Dev Cert.GroupsIdeal.nD) → Buf (Elt Ideal) ((c.tc : Thread Cert.GroupsIdeal.nD Cert.GroupsIdeal.τ).loc Cert.GroupsIdeal.main_v24)),
      θ_run (Cert.GroupsIdeal.defs (F := Ideal)) (onTc (τ := Cert.GroupsIdeal.τ) (Cert.GroupsIdeal.main (F := Ideal))) ⟨m, fun _ => 0, g⟩ (fun r => ∀ c : Dev Cert.GroupsIdeal.nD,
          r.2.mem ((c.tc : Thread Cert.GroupsIdeal.nD Cert.GroupsIdeal.τ).loc Cert.GroupsIdeal.main_v24) = v0 c
          ∧ r.2.mem ((c.tc : Thread Cert.GroupsIdeal.nD Cert.GroupsIdeal.τ).loc Cert.GroupsIdeal.main_arg0) = m ((c.tc : Thread Cert.GroupsIdeal.nD Cert.GroupsIdeal.τ).loc Cert.GroupsIdeal.main_arg0))
      ∧ θ_run (Cert.GroupsRefIdeal.defs (F := Ideal)) (onTc (τ := Cert.GroupsRefIdeal.τ) (Cert.GroupsRefIdeal.main (F := Ideal))) ⟨m', fun _ => 0, g'⟩ (fun r => ∀ c : Dev Cert.GroupsRefIdeal.nD,
          r.2.mem ((c.tc : Thread Cert.GroupsRefIdeal.nD Cert.GroupsRefIdeal.τ).loc Cert.GroupsRefIdeal.main_v6) = v0 c
          ∧ r.2.mem ((c.tc : Thread Cert.GroupsRefIdeal.nD Cert.GroupsRefIdeal.τ).loc Cert.GroupsRefIdeal.main_arg0) = m' ((c.tc : Thread Cert.GroupsRefIdeal.nD Cert.GroupsRefIdeal.τ).loc Cert.GroupsRefIdeal.main_arg0))

def Claim : Prop :=
  ∃ (hGlu : Cert.Glu.Facts) (hGluIdeal : Cert.GluIdeal.Facts) (hGluRefIdeal : Cert.GluRefIdeal.Facts) (hFfn : Cert.Ffn.Facts) (hFfnIdeal : Cert.FfnIdeal.Facts) (hFfnRefIdeal : Cert.FfnRefIdeal.Facts) (hLnTop : Cert.LnTop.Facts) (hLnTopIdeal : Cert.LnTopIdeal.Facts) (hLnTopRefIdeal : Cert.LnTopRefIdeal.Facts) (hLn : Cert.Ln.Facts) (hLnIdeal : Cert.LnIdeal.Facts) (hLnRefIdeal : Cert.LnRefIdeal.Facts) (hAttn : Cert.Attn.Facts) (hAttnIdeal : Cert.AttnIdeal.Facts) (hAttnRefIdeal : Cert.AttnRefIdeal.Facts) (hGelu : Cert.Gelu.Facts) (hGeluIdeal : Cert.GeluIdeal.Facts) (hGeluRefIdeal : Cert.GeluRefIdeal.Facts) (hFlash : Cert.Flash.Facts) (hFlashIdeal : Cert.FlashIdeal.Facts) (hFlashRefIdeal : Cert.FlashRefIdeal.Facts) (hLoss : Cert.Loss.Facts) (hLossIdeal : Cert.LossIdeal.Facts) (hLossRefIdeal : Cert.LossRefIdeal.Facts) (hDh : Cert.Dh.Facts) (hDhIdeal : Cert.DhIdeal.Facts) (hDhRefIdeal : Cert.DhRefIdeal.Facts) (hDelta : Cert.Delta.Facts) (hDeltaIdeal : Cert.DeltaIdeal.Facts) (hDeltaRefIdeal : Cert.DeltaRefIdeal.Facts) (hSGelu : Cert.SGelu.Facts) (hSGeluIdeal : Cert.SGeluIdeal.Facts) (hSGeluRefIdeal : Cert.SGeluRefIdeal.Facts) (hSGlu : Cert.SGlu.Facts) (hSGluIdeal : Cert.SGluIdeal.Facts) (hSGluRefIdeal : Cert.SGluRefIdeal.Facts) (hFfnUp : Cert.FfnUp.Facts) (hFfnUpIdeal : Cert.FfnUpIdeal.Facts) (hFfnUpRefIdeal : Cert.FfnUpRefIdeal.Facts) (hDown : Cert.Down.Facts) (hDownIdeal : Cert.DownIdeal.Facts) (hDownRefIdeal : Cert.DownRefIdeal.Facts) (hRope : Cert.Rope.Facts) (hRopeIdeal : Cert.RopeIdeal.Facts) (hRopeRefIdeal : Cert.RopeRefIdeal.Facts) (hRopeBwd : Cert.RopeBwd.Facts) (hRopeBwdIdeal : Cert.RopeBwdIdeal.Facts) (hRopeBwdRefIdeal : Cert.RopeBwdRefIdeal.Facts) (hMm : Cert.Mm.Facts) (hMmIdeal : Cert.MmIdeal.Facts) (hMmRefIdeal : Cert.MmRefIdeal.Facts) (hMmTwo : Cert.MmTwo.Facts) (hMmTwoIdeal : Cert.MmTwoIdeal.Facts) (hMmTwoRefIdeal : Cert.MmTwoRefIdeal.Facts) (hMmTn : Cert.MmTn.Facts) (hMmTnIdeal : Cert.MmTnIdeal.Facts) (hMmTnRefIdeal : Cert.MmTnRefIdeal.Facts) (hAdamw : Cert.Adamw.Facts) (hAdamwIdeal : Cert.AdamwIdeal.Facts) (hAdamwRefIdeal : Cert.AdamwRefIdeal.Facts) (hMixer : Cert.Mixer.Facts) (hMixerIdeal : Cert.MixerIdeal.Facts) (hMixerRefIdeal : Cert.MixerRefIdeal.Facts) (hSumTwo : Cert.SumTwo.Facts) (hSumTwoIdeal : Cert.SumTwoIdeal.Facts) (hSumTwoRefIdeal : Cert.SumTwoRefIdeal.Facts) (hSumFour : Cert.SumFour.Facts) (hSumFourIdeal : Cert.SumFourIdeal.Facts) (hSumFourRefIdeal : Cert.SumFourRefIdeal.Facts) (hGroups : Cert.Groups.Facts) (hGroupsIdeal : Cert.GroupsIdeal.Facts) (hGroupsRefIdeal : Cert.GroupsRefIdeal.Facts) (hPre_finite_ffn : Cert.Pre_finite_ffn.Facts) (hPre_finite_lntop : Cert.Pre_finite_lntop.Facts) (hPre_finite_ln : Cert.Pre_finite_ln.Facts) (hPre_finite_attn : Cert.Pre_finite_attn.Facts) (hPre_finite_gelu : Cert.Pre_finite_gelu.Facts) (hPre_finite_flash : Cert.Pre_finite_flash.Facts) (hPre_finite_ropebwd : Cert.Pre_finite_ropebwd.Facts),
    quiescent_Glu (hGlu := hGlu)
    ∧ quiescent_GluIdeal (hGluIdeal := hGluIdeal)
    ∧ quiescent_GluRefIdeal (hGluRefIdeal := hGluRefIdeal)
    ∧ quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnRefIdeal (hFfnRefIdeal := hFfnRefIdeal)
    ∧ quiescent_FfnRefIdeal_pre_finite_ffn (hFfnRefIdeal := hFfnRefIdeal) (hPre_finite_ffn := hPre_finite_ffn)
    ∧ quiescent_LnTop (hLnTop := hLnTop)
    ∧ quiescent_LnTopIdeal (hLnTopIdeal := hLnTopIdeal)
    ∧ quiescent_LnTopIdeal_pre_finite_lntop (hLnTopIdeal := hLnTopIdeal) (hPre_finite_lntop := hPre_finite_lntop)
    ∧ quiescent_LnTopRefIdeal (hLnTopRefIdeal := hLnTopRefIdeal)
    ∧ quiescent_LnTopRefIdeal_pre_finite_lntop (hLnTopRefIdeal := hLnTopRefIdeal) (hPre_finite_lntop := hPre_finite_lntop)
    ∧ quiescent_Ln (hLn := hLn)
    ∧ quiescent_LnIdeal (hLnIdeal := hLnIdeal)
    ∧ quiescent_LnIdeal_pre_finite_ln (hLnIdeal := hLnIdeal) (hPre_finite_ln := hPre_finite_ln)
    ∧ quiescent_LnRefIdeal (hLnRefIdeal := hLnRefIdeal)
    ∧ quiescent_LnRefIdeal_pre_finite_ln (hLnRefIdeal := hLnRefIdeal) (hPre_finite_ln := hPre_finite_ln)
    ∧ quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ quiescent_Gelu (hGelu := hGelu)
    ∧ quiescent_GeluIdeal (hGeluIdeal := hGeluIdeal)
    ∧ quiescent_GeluIdeal_pre_finite_gelu (hGeluIdeal := hGeluIdeal) (hPre_finite_gelu := hPre_finite_gelu)
    ∧ quiescent_GeluRefIdeal (hGeluRefIdeal := hGeluRefIdeal)
    ∧ quiescent_GeluRefIdeal_pre_finite_gelu (hGeluRefIdeal := hGeluRefIdeal) (hPre_finite_gelu := hPre_finite_gelu)
    ∧ quiescent_Flash (hFlash := hFlash)
    ∧ quiescent_FlashIdeal (hFlashIdeal := hFlashIdeal)
    ∧ quiescent_FlashIdeal_pre_finite_flash (hFlashIdeal := hFlashIdeal) (hPre_finite_flash := hPre_finite_flash)
    ∧ quiescent_FlashRefIdeal (hFlashRefIdeal := hFlashRefIdeal)
    ∧ quiescent_FlashRefIdeal_pre_finite_flash (hFlashRefIdeal := hFlashRefIdeal) (hPre_finite_flash := hPre_finite_flash)
    ∧ quiescent_Loss (hLoss := hLoss)
    ∧ quiescent_LossIdeal (hLossIdeal := hLossIdeal)
    ∧ quiescent_LossRefIdeal (hLossRefIdeal := hLossRefIdeal)
    ∧ quiescent_Dh (hDh := hDh)
    ∧ quiescent_DhIdeal (hDhIdeal := hDhIdeal)
    ∧ quiescent_DhRefIdeal (hDhRefIdeal := hDhRefIdeal)
    ∧ quiescent_Delta (hDelta := hDelta)
    ∧ quiescent_DeltaIdeal (hDeltaIdeal := hDeltaIdeal)
    ∧ quiescent_DeltaRefIdeal (hDeltaRefIdeal := hDeltaRefIdeal)
    ∧ quiescent_SGelu (hSGelu := hSGelu)
    ∧ quiescent_SGeluIdeal (hSGeluIdeal := hSGeluIdeal)
    ∧ quiescent_SGeluRefIdeal (hSGeluRefIdeal := hSGeluRefIdeal)
    ∧ quiescent_SGlu (hSGlu := hSGlu)
    ∧ quiescent_SGluIdeal (hSGluIdeal := hSGluIdeal)
    ∧ quiescent_SGluRefIdeal (hSGluRefIdeal := hSGluRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_Down (hDown := hDown)
    ∧ quiescent_DownIdeal (hDownIdeal := hDownIdeal)
    ∧ quiescent_DownRefIdeal (hDownRefIdeal := hDownRefIdeal)
    ∧ quiescent_Rope (hRope := hRope)
    ∧ quiescent_RopeIdeal (hRopeIdeal := hRopeIdeal)
    ∧ quiescent_RopeRefIdeal (hRopeRefIdeal := hRopeRefIdeal)
    ∧ quiescent_RopeBwd (hRopeBwd := hRopeBwd)
    ∧ quiescent_RopeBwdIdeal (hRopeBwdIdeal := hRopeBwdIdeal)
    ∧ quiescent_RopeBwdIdeal_pre_finite_ropebwd (hRopeBwdIdeal := hRopeBwdIdeal) (hPre_finite_ropebwd := hPre_finite_ropebwd)
    ∧ quiescent_RopeBwdRefIdeal (hRopeBwdRefIdeal := hRopeBwdRefIdeal)
    ∧ quiescent_RopeBwdRefIdeal_pre_finite_ropebwd (hRopeBwdRefIdeal := hRopeBwdRefIdeal) (hPre_finite_ropebwd := hPre_finite_ropebwd)
    ∧ quiescent_Mm (hMm := hMm)
    ∧ quiescent_MmIdeal (hMmIdeal := hMmIdeal)
    ∧ quiescent_MmRefIdeal (hMmRefIdeal := hMmRefIdeal)
    ∧ quiescent_MmTwo (hMmTwo := hMmTwo)
    ∧ quiescent_MmTwoIdeal (hMmTwoIdeal := hMmTwoIdeal)
    ∧ quiescent_MmTwoRefIdeal (hMmTwoRefIdeal := hMmTwoRefIdeal)
    ∧ quiescent_MmTn (hMmTn := hMmTn)
    ∧ quiescent_MmTnIdeal (hMmTnIdeal := hMmTnIdeal)
    ∧ quiescent_MmTnRefIdeal (hMmTnRefIdeal := hMmTnRefIdeal)
    ∧ quiescent_Adamw (hAdamw := hAdamw)
    ∧ quiescent_AdamwIdeal (hAdamwIdeal := hAdamwIdeal)
    ∧ quiescent_AdamwRefIdeal (hAdamwRefIdeal := hAdamwRefIdeal)
    ∧ quiescent_Mixer (hMixer := hMixer)
    ∧ quiescent_MixerIdeal (hMixerIdeal := hMixerIdeal)
    ∧ quiescent_MixerRefIdeal (hMixerRefIdeal := hMixerRefIdeal)
    ∧ quiescent_SumTwo (hSumTwo := hSumTwo)
    ∧ quiescent_SumTwoIdeal (hSumTwoIdeal := hSumTwoIdeal)
    ∧ quiescent_SumTwoRefIdeal (hSumTwoRefIdeal := hSumTwoRefIdeal)
    ∧ quiescent_SumFour (hSumFour := hSumFour)
    ∧ quiescent_SumFourIdeal (hSumFourIdeal := hSumFourIdeal)
    ∧ quiescent_SumFourRefIdeal (hSumFourRefIdeal := hSumFourRefIdeal)
    ∧ quiescent_Groups (hGroups := hGroups)
    ∧ quiescent_GroupsIdeal (hGroupsIdeal := hGroupsIdeal)
    ∧ quiescent_GroupsRefIdeal (hGroupsRefIdeal := hGroupsRefIdeal)
    ∧ preserves_Glu_GluIdeal
    ∧ algebraic_GluIdeal_GluRefIdeal (hGluIdeal := hGluIdeal) (hGluRefIdeal := hGluRefIdeal)
    ∧ preserves_Ffn_FfnIdeal
    ∧ algebraic_FfnIdeal_FfnRefIdeal_pre_finite_ffn (hFfnIdeal := hFfnIdeal) (hFfnRefIdeal := hFfnRefIdeal) (hPre_finite_ffn := hPre_finite_ffn)
    ∧ preserves_LnTop_LnTopIdeal
    ∧ algebraic_LnTopIdeal_LnTopRefIdeal_pre_finite_lntop (hLnTopIdeal := hLnTopIdeal) (hLnTopRefIdeal := hLnTopRefIdeal) (hPre_finite_lntop := hPre_finite_lntop)
    ∧ preserves_Ln_LnIdeal
    ∧ algebraic_LnIdeal_LnRefIdeal_pre_finite_ln (hLnIdeal := hLnIdeal) (hLnRefIdeal := hLnRefIdeal) (hPre_finite_ln := hPre_finite_ln)
    ∧ preserves_Attn_AttnIdeal
    ∧ algebraic_AttnIdeal_AttnRefIdeal_pre_finite_attn (hAttnIdeal := hAttnIdeal) (hAttnRefIdeal := hAttnRefIdeal) (hPre_finite_attn := hPre_finite_attn)
    ∧ preserves_Gelu_GeluIdeal
    ∧ algebraic_GeluIdeal_GeluRefIdeal_pre_finite_gelu (hGeluIdeal := hGeluIdeal) (hGeluRefIdeal := hGeluRefIdeal) (hPre_finite_gelu := hPre_finite_gelu)
    ∧ preserves_Flash_FlashIdeal
    ∧ algebraic_FlashIdeal_FlashRefIdeal_pre_finite_flash (hFlashIdeal := hFlashIdeal) (hFlashRefIdeal := hFlashRefIdeal) (hPre_finite_flash := hPre_finite_flash)
    ∧ preserves_Loss_LossIdeal
    ∧ algebraic_LossIdeal_LossRefIdeal (hLossIdeal := hLossIdeal) (hLossRefIdeal := hLossRefIdeal)
    ∧ preserves_Dh_DhIdeal
    ∧ algebraic_DhIdeal_DhRefIdeal (hDhIdeal := hDhIdeal) (hDhRefIdeal := hDhRefIdeal)
    ∧ preserves_Delta_DeltaIdeal
    ∧ algebraic_DeltaIdeal_DeltaRefIdeal (hDeltaIdeal := hDeltaIdeal) (hDeltaRefIdeal := hDeltaRefIdeal)
    ∧ preserves_SGelu_SGeluIdeal
    ∧ algebraic_SGeluIdeal_SGeluRefIdeal (hSGeluIdeal := hSGeluIdeal) (hSGeluRefIdeal := hSGeluRefIdeal)
    ∧ preserves_SGlu_SGluIdeal
    ∧ algebraic_SGluIdeal_SGluRefIdeal (hSGluIdeal := hSGluIdeal) (hSGluRefIdeal := hSGluRefIdeal)
    ∧ preserves_FfnUp_FfnUpIdeal
    ∧ algebraic_FfnUpIdeal_FfnUpRefIdeal (hFfnUpIdeal := hFfnUpIdeal) (hFfnUpRefIdeal := hFfnUpRefIdeal)
    ∧ preserves_Down_DownIdeal
    ∧ algebraic_DownIdeal_DownRefIdeal (hDownIdeal := hDownIdeal) (hDownRefIdeal := hDownRefIdeal)
    ∧ preserves_Rope_RopeIdeal
    ∧ algebraic_RopeIdeal_RopeRefIdeal (hRopeIdeal := hRopeIdeal) (hRopeRefIdeal := hRopeRefIdeal)
    ∧ preserves_RopeBwd_RopeBwdIdeal
    ∧ algebraic_RopeBwdIdeal_RopeBwdRefIdeal_pre_finite_ropebwd (hRopeBwdIdeal := hRopeBwdIdeal) (hRopeBwdRefIdeal := hRopeBwdRefIdeal) (hPre_finite_ropebwd := hPre_finite_ropebwd)
    ∧ preserves_Mm_MmIdeal
    ∧ algebraic_MmIdeal_MmRefIdeal (hMmIdeal := hMmIdeal) (hMmRefIdeal := hMmRefIdeal)
    ∧ preserves_MmTwo_MmTwoIdeal
    ∧ algebraic_MmTwoIdeal_MmTwoRefIdeal (hMmTwoIdeal := hMmTwoIdeal) (hMmTwoRefIdeal := hMmTwoRefIdeal)
    ∧ preserves_MmTn_MmTnIdeal
    ∧ algebraic_MmTnIdeal_MmTnRefIdeal (hMmTnIdeal := hMmTnIdeal) (hMmTnRefIdeal := hMmTnRefIdeal)
    ∧ preserves_Adamw_AdamwIdeal
    ∧ algebraic_AdamwIdeal_AdamwRefIdeal (hAdamwIdeal := hAdamwIdeal) (hAdamwRefIdeal := hAdamwRefIdeal)
    ∧ preserves_Mixer_MixerIdeal
    ∧ algebraic_MixerIdeal_MixerRefIdeal (hMixerIdeal := hMixerIdeal) (hMixerRefIdeal := hMixerRefIdeal)
    ∧ preserves_SumTwo_SumTwoIdeal
    ∧ algebraic_SumTwoIdeal_SumTwoRefIdeal (hSumTwoIdeal := hSumTwoIdeal) (hSumTwoRefIdeal := hSumTwoRefIdeal)
    ∧ preserves_SumFour_SumFourIdeal
    ∧ algebraic_SumFourIdeal_SumFourRefIdeal (hSumFourIdeal := hSumFourIdeal) (hSumFourRefIdeal := hSumFourRefIdeal)
    ∧ preserves_Groups_GroupsIdeal
    ∧ algebraic_GroupsIdeal_GroupsRefIdeal (hGroupsIdeal := hGroupsIdeal) (hGroupsRefIdeal := hGroupsRefIdeal)
-- ==== Pre_finite_attn.lean ====
abbrev S8208x1024 : Shape := ⟨2, ![8208, 1024]⟩
abbrev S8208x256 : Shape := ⟨2, ![8208, 256]⟩
abbrev S_ : Shape := ⟨0, ![]⟩

class Facts : Prop where
  bcast_S_S8208x1024 : S_.BroadcastsInDim S8208x1024 (![] : Fin 0 → Fin S8208x1024.rank)
  bcast_S_S8208x256 : S_.BroadcastsInDim S8208x256 (![] : Fin 0 → Fin S8208x256.rank)

variable [Facts]

def fn {F : FTy → Type} [FloatOps F] (main_arg0 : FVec F S8208x1024 .f32) (main_arg1 : FVec F S8208x256 .f32) (main_arg2 : FVec F S8208x256 .f32) (main_arg3 : FVec F S8208x1024 .f32) : IVec S8208x1024 1 × IVec S8208x256 1 × IVec S8208x256 1 × IVec S8208x1024 1 :=
  let main_v0 : FVec F S8208x1024 .f32 := Host.absf main_arg0
  let main_cst : FVec F S_ .f32 := constant S_ .f32 0x7F800000#32
  let main_v1 : FVec F S8208x1024 .f32 := broadcastInDim S8208x1024 ![] bcast_S_S8208x1024 main_cst
  let main_v2 : IVec S8208x1024 1 := cmpf .olt main_v0 main_v1
  let main_v3 : FVec F S8208x256 .f32 := Host.absf main_arg1
  let main_cst_0 : FVec F S_ .f32 := constant S_ .f32 0x7F800000#32
  let main_v4 : FVec F S8208x256 .f32 := broadcastInDim S8208x256 ![] bcast_S_S8208x256 main_cst_0
  let main_v5 : IVec S8208x256 1 := cmpf .olt main_v3 main_v4
  let main_v6 : FVec F S8208x256 .f32 := Host.absf main_arg2
  let main_cst_1 : FVec F S_ .f32 := constant S_ .f32 0x7F800000#32
  let main_v7 : FVec F S8208x256 .f32 := broadcastInDim S8208x256 ![] bcast_S_S8208x256 main_cst_1
  let main_v8 : IVec S8208x256 1 := cmpf .olt main_v6 main_v7
  let main_v9 : FVec F S8208x1024 .f32 := Host.absf main_arg3
  let main_cst_2 : FVec F S_ .f32 := constant S_ .f32 0x7F800000#32
  let main_v10 : FVec F S8208x1024 .f32 := broadcastInDim S8208x1024 ![] bcast_S_S8208x1024 main_cst_2
  let main_v11 : IVec S8208x1024 1 := cmpf .olt main_v9 main_v10
  (main_v2, main_v5, main_v8, main_v11)
-- ==== Pre_finite_ffn.lean ====
abbrev S8448x1024 : Shape := ⟨2, ![8448, 1024]⟩
abbrev S2816x1024 : Shape := ⟨2, ![2816, 1024]⟩
abbrev S8448x2816 : Shape := ⟨2, ![8448, 2816]⟩
abbrev S_ : Shape := ⟨0, ![]⟩

class Facts : Prop where
  bcast_S_S8448x1024 : S_.BroadcastsInDim S8448x1024 (![] : Fin 0 → Fin S8448x1024.rank)
  bcast_S_S2816x1024 : S_.BroadcastsInDim S2816x1024 (![] : Fin 0 → Fin S2816x1024.rank)
  bcast_S_S8448x2816 : S_.BroadcastsInDim S8448x2816 (![] : Fin 0 → Fin S8448x2816.rank)

variable [Facts]

def fn {F : FTy → Type} [FloatOps F] (main_arg0 : FVec F S8448x1024 .f32) (main_arg1 : FVec F S2816x1024 .f32) (main_arg2 : FVec F S8448x2816 .f32) (main_arg3 : FVec F S8448x2816 .f32) : IVec S8448x1024 1 × IVec S2816x1024 1 × IVec S8448x2816 1 × IVec S8448x2816 1 :=
  let main_v0 : FVec F S8448x1024 .f32 := Host.absf main_arg0
  let main_cst : FVec F S_ .f32 := constant S_ .f32 0x7F800000#32
  let main_v1 : FVec F S8448x1024 .f32 := broadcastInDim S8448x1024 ![] bcast_S_S8448x1024 main_cst
  let main_v2 : IVec S8448x1024 1 := cmpf .olt main_v0 main_v1
  let main_v3 : FVec F S2816x1024 .f32 := Host.absf main_arg1
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S8448x2816 .f32 := Host.absf main_arg2
  let main_cst_1 : FVec F S_ .f32 := constant S_ .f32 0x7F800000#32
  let main_v7 : FVec F S8448x2816 .f32 := broadcastInDim S8448x2816 ![] bcast_S_S8448x2816 main_cst_1
  let main_v8 : IVec S8448x2816 1 := cmpf .olt main_v6 main_v7
  let main_v9 : FVec F S8448x2816 .f32 := Host.absf main_arg3
  let main_cst_2 : FVec F S_ .f32 := constant S_ .f32 0x7F800000#32
  let main_v10 : FVec F S8448x2816 .f32 := broadcastInDim S8448x2816 ![] bcast_S_S8448x2816 main_cst_2
  let main_v11 : IVec S8448x2816 1 := cmpf .olt main_v9 main_v10
  (main_v2, main_v5, main_v8, main_v11)
-- ==== Pre_finite_flash.lean ====
abbrev S8208x1024 : Shape := ⟨2, ![8208, 1024]⟩
abbrev S8208x256 : Shape := ⟨2, ![8208, 256]⟩
abbrev S_ : Shape := ⟨0, ![]⟩

class Facts : Prop where
  bcast_S_S8208x1024 : S_.BroadcastsInDim S8208x1024 (![] : Fin 0 → Fin S8208x1024.rank)
  bcast_S_S8208x256 : S_.BroadcastsInDim S8208x256 (![] : Fin 0 → Fin S8208x256.rank)

variable [Facts]

def fn {F : FTy → Type} [FloatOps F] (main_arg0 : FVec F S8208x1024 .f32) (main_arg1 : FVec F S8208x256 .f32) (main_arg2 : FVec F S8208x256 .f32) : IVec S8208x1024 1 × IVec S8208x256 1 × IVec S8208x256 1 :=
  let main_v0 : FVec F S8208x1024 .f32 := Host.absf main_arg0
  let main_cst : FVec F S_ .f32 := constant S_ .f32 0x7F800000#32
  let main_v1 : FVec F S8208x1024 .f32 := broadcastInDim S8208x1024 ![] bcast_S_S8208x1024 main_cst
  let main_v2 : IVec S8208x1024 1 := cmpf .olt main_v0 main_v1
  let main_v3 : FVec F S8208x256 .f32 := Host.absf main_arg1
  let main_cst_0 : FVec F S_ .f32 := constant S_ .f32 0x7F800000#32
  let main_v4 : FVec F S8208x256 .f32 := broadcastInDim S8208x256 ![] bcast_S_S8208x256 main_cst_0
  let main_v5 : IVec S8208x256 1 := cmpf .olt main_v3 main_v4
  let main_v6 : FVec F S8208x256 .f32 := Host.absf main_arg2
  let main_cst_1 : FVec F S_ .f32 := constant S_ .f32 0x7F800000#32
  let main_v7 : FVec F S8208x256 .f32 := broadcastInDim S8208x256 ![] bcast_S_S8208x256 main_cst_1
  let main_v8 : IVec S8208x256 1 := cmpf .olt main_v6 main_v7
  (main_v2, main_v5, main_v8)
-- ==== Pre_finite_gelu.lean ====
abbrev S8448x1024 : Shape := ⟨2, ![8448, 1024]⟩
abbrev S1024 : Shape := ⟨1, ![1024]⟩
abbrev S_ : Shape := ⟨0, ![]⟩

class Facts : Prop where
  bcast_S_S8448x1024 : S_.BroadcastsInDim S8448x1024 (![] : Fin 0 → Fin S8448x1024.rank)
  bcast_S_S1024 : S_.BroadcastsInDim S1024 (![] : Fin 0 → Fin S1024.rank)

variable [Facts]

def fn {F : FTy → Type} [FloatOps F] (main_arg0 : FVec F S8448x1024 .f32) (main_arg1 : FVec F S8448x1024 .f32) (main_arg2 : FVec F S8448x1024 .f32) (main_arg3 : FVec F S8448x1024 .f32) (main_arg4 : FVec F S1024 .f32) : IVec S8448x1024 1 × IVec S8448x1024 1 × IVec S8448x1024 1 × IVec S8448x1024 1 × IVec S1024 1 :=
  let main_v0 : FVec F S8448x1024 .f32 := Host.absf main_arg0
  let main_cst : FVec F S_ .f32 := constant S_ .f32 0x7F800000#32
  let main_v1 : FVec F S8448x1024 .f32 := broadcastInDim S8448x1024 ![] bcast_S_S8448x1024 main_cst
  let main_v2 : IVec S8448x1024 1 := cmpf .olt main_v0 main_v1
  let main_v3 : FVec F S8448x1024 .f32 := Host.absf main_arg1
  let main_cst_0 : FVec F S_ .f32 := constant S_ .f32 0x7F800000#32
  let main_v4 : FVec F S8448x1024 .f32 := broadcastInDim S8448x1024 ![] bcast_S_S8448x1024 main_cst_0
  let main_v5 : IVec S8448x1024 1 := cmpf .olt main_v3 main_v4
  let main_v6 : FVec F S8448x1024 .f32 := Host.absf main_arg2
  let main_cst_1 : FVec F S_ .f32 := constant S_ .f32 0x7F800000#32
  let main_v7 : FVec F S8448x1024 .f32 := broadcastInDim S8448x1024 ![] bcast_S_S8448x1024 main_cst_1
  let main_v8 : IVec S8448x1024 1 := cmpf .olt main_v6 main_v7
  let main_v9 : FVec F S8448x1024 .f32 := Host.absf main_arg3
  let main_cst_2 : FVec F S_ .f32 := constant S_ .f32 0x7F800000#32
  let main_v10 : FVec F S8448x1024 .f32 := broadcastInDim S8448x1024 ![] bcast_S_S8448x1024 main_cst_2
  let main_v11 : IVec S8448x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  (main_v2, main_v5, main_v8, main_v11, main_v14)
-- ==== Pre_finite_ln.lean ====
abbrev S8448x1024 : Shape := ⟨2, ![8448, 1024]⟩
abbrev S1024 : Shape := ⟨1, ![1024]⟩
abbrev S_ : Shape := ⟨0, ![]⟩

class Facts : Prop where
  bcast_S_S8448x1024 : S_.BroadcastsInDim S8448x1024 (![] : Fin 0 → Fin S8448x1024.rank)
  bcast_S_S1024 : S_.BroadcastsInDim S1024 (![] : Fin 0 → Fin S1024.rank)

variable [Facts]

def fn {F : FTy → Type} [FloatOps F] (main_arg0 : FVec F S8448x1024 .f32) (main_arg1 : FVec F S8448x1024 .f32) (main_arg2 : FVec F S8448x1024 .f32) (main_arg3 : FVec F S1024 .f32) : IVec S8448x1024 1 × IVec S8448x1024 1 × IVec S8448x1024 1 × IVec S1024 1 :=
  let main_v0 : FVec F S8448x1024 .f32 := Host.absf main_arg0
  let main_cst : FVec F S_ .f32 := constant S_ .f32 0x7F800000#32
  let main_v1 : FVec F S8448x1024 .f32 := broadcastInDim S8448x1024 ![] bcast_S_S8448x1024 main_cst
  let main_v2 : IVec S8448x1024 1 := cmpf .olt main_v0 main_v1
  let main_v3 : FVec F S8448x1024 .f32 := Host.absf main_arg1
  let main_cst_0 : FVec F S_ .f32 := constant S_ .f32 0x7F800000#32
  let main_v4 : FVec F S8448x1024 .f32 := broadcastInDim S8448x1024 ![] bcast_S_S8448x1024 main_cst_0
  let main_v5 : IVec S8448x1024 1 := cmpf .olt main_v3 main_v4
  let main_v6 : FVec F S8448x1024 .f32 := Host.absf main_arg2
  let main_cst_1 : FVec F S_ .f32 := constant S_ .f32 0x7F800000#32
  let main_v7 : FVec F S8448x1024 .f32 := broadcastInDim S8448x1024 ![] bcast_S_S8448x1024 main_cst_1
  let main_v8 : IVec S8448x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  (main_v2, main_v5, main_v8, main_v11)
-- ==== Pre_finite_lntop.lean ====
abbrev S8448x1024 : Shape := ⟨2, ![8448, 1024]⟩
abbrev S1024 : Shape := ⟨1, ![1024]⟩
abbrev S_ : Shape := ⟨0, ![]⟩

class Facts : Prop where
  bcast_S_S8448x1024 : S_.BroadcastsInDim S8448x1024 (![] : Fin 0 → Fin S8448x1024.rank)
  bcast_S_S1024 : S_.BroadcastsInDim S1024 (![] : Fin 0 → Fin S1024.rank)

variable [Facts]

def fn {F : FTy → Type} [FloatOps F] (main_arg0 : FVec F S8448x1024 .f32) (main_arg1 : FVec F S8448x1024 .f32) (main_arg2 : FVec F S1024 .f32) : IVec S8448x1024 1 × IVec S8448x1024 1 × IVec S1024 1 :=
  let main_v0 : FVec F S8448x1024 .f32 := Host.absf main_arg0
  let main_cst : FVec F S_ .f32 := constant S_ .f32 0x7F800000#32
  let main_v1 : FVec F S8448x1024 .f32 := broadcastInDim S8448x1024 ![] bcast_S_S8448x1024 main_cst
  let main_v2 : IVec S8448x1024 1 := cmpf .olt main_v0 main_v1
  let main_v3 : FVec F S8448x1024 .f32 := Host.absf main_arg1
  let main_cst_0 : FVec F S_ .f32 := constant S_ .f32 0x7F800000#32
  let main_v4 : FVec F S8448x1024 .f32 := broadcastInDim S8448x1024 ![] bcast_S_S8448x1024 main_cst_0
  let main_v5 : IVec S8448x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  (main_v2, main_v5, main_v8)
-- ==== Pre_finite_ropebwd.lean ====
abbrev S8448x1536 : Shape := ⟨2, ![8448, 1536]⟩
abbrev S8448x1024 : Shape := ⟨2, ![8448, 1024]⟩
abbrev S8448x256 : Shape := ⟨2, ![8448, 256]⟩
abbrev S64 : Shape := ⟨1, ![64]⟩
abbrev S_ : Shape := ⟨0, ![]⟩

class Facts : Prop where
  bcast_S_S8448x1536 : S_.BroadcastsInDim S8448x1536 (![] : Fin 0 → Fin S8448x1536.rank)
  bcast_S_S8448x1024 : S_.BroadcastsInDim S8448x1024 (![] : Fin 0 → Fin S8448x1024.rank)
  bcast_S_S8448x256 : S_.BroadcastsInDim S8448x256 (![] : Fin 0 → Fin S8448x256.rank)
  bcast_S_S64 : S_.BroadcastsInDim S64 (![] : Fin 0 → Fin S64.rank)

variable [Facts]

def fn {F : FTy → Type} [FloatOps F] (main_arg0 : FVec F S8448x1536 .f32) (main_arg1 : FVec F S8448x1024 .f32) (main_arg2 : FVec F S8448x256 .f32) (main_arg3 : FVec F S8448x256 .f32) (main_arg4 : FVec F S64 .f32) (main_arg5 : FVec F S64 .f32) : IVec S8448x1536 1 × IVec S8448x1024 1 × IVec S8448x256 1 × IVec S64 1 × IVec S64 1 :=
  let main_v0 : FVec F S8448x1536 .f32 := Host.absf main_arg0
  let main_cst : FVec F S_ .f32 := constant S_ .f32 0x7F800000#32
  let main_v1 : FVec F S8448x1536 .f32 := broadcastInDim S8448x1536 ![] bcast_S_S8448x1536 main_cst
  let main_v2 : IVec S8448x1536 1 := cmpf .olt main_v0 main_v1
  let main_v3 : FVec F S8448x1024 .f32 := Host.absf main_arg1
  let main_cst_0 : FVec F S_ .f32 := constant S_ .f32 0x7F800000#32
  let main_v4 : FVec F S8448x1024 .f32 := broadcastInDim S8448x1024 ![] bcast_S_S8448x1024 main_cst_0
  let main_v5 : IVec S8448x1024 1 := cmpf .olt main_v3 main_v4
  let main_v6 : FVec F S8448x256 .f32 := Host.absf main_arg2
  let main_cst_1 : FVec F S_ .f32 := constant S_ .f32 0x7F800000#32
  let main_v7 : FVec F S8448x256 .f32 := broadcastInDim S8448x256 ![] bcast_S_S8448x256 main_cst_1
  let main_v8 : IVec S8448x256 1 := cmpf .olt main_v6 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_v12 : FVec F S64 .f32 := Host.absf main_arg5
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  (main_v2, main_v5, main_v8, main_v11, main_v14)
-- ==== Glu.lean ====
abbrev S8448x1024 : Shape := ⟨2, ![8448, 1024]⟩
abbrev S768x1024 : Shape := ⟨2, ![768, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x1024, .f32⟩
  | .hbm, ⟨3, _⟩ => ⟨S8448x1024, .bf16⟩
  | .hbm, ⟨4, _⟩ => ⟨S8448x1024, .f32⟩
  | .local _ .vmem, ⟨0, _⟩ => ⟨S768x1024, .f32⟩
  | .local _ .vmem, ⟨1, _⟩ => ⟨S768x1024, .f32⟩
  | .local _ .vmem, ⟨2, _⟩ => ⟨S768x1024, .f32⟩
  | .local _ .vmem, ⟨3, _⟩ => ⟨S768x1024, .f32⟩
  | .local _ .vmem, ⟨4, _⟩ => ⟨S768x1024, .f32⟩
  | .local _ .vmem, ⟨5, _⟩ => ⟨S768x1024, .f32⟩
  | .local _ .vmem, ⟨6, _⟩ => ⟨S768x1024, .bf16⟩
  | .local _ .vmem, ⟨7, _⟩ => ⟨S768x1024, .bf16⟩
  | .local _ .vmem, ⟨8, _⟩ => ⟨S768x1024, .f32⟩
  | .local _ .vmem, ⟨9, _⟩ => ⟨S768x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GluRefIdeal.lean ====
abbrev S8448x1024 : Shape := ⟨2, ![8448, 1024]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x1024, .f32⟩
  | .hbm, ⟨3, _⟩ => ⟨S_, .f32⟩
  | .hbm, ⟨4, _⟩ => ⟨S8448x1024, .f32⟩
  | .hbm, ⟨5, _⟩ => ⟨S8448x1024, .f32⟩
  | .hbm, ⟨6, _⟩ => ⟨S8448x1024, .f32⟩
  | .hbm, ⟨7, _⟩ => ⟨S_, .f32⟩
  | .hbm, ⟨8, _⟩ => ⟨S8448x1024, .f32⟩
  | .hbm, ⟨9, _⟩ => ⟨S8448x1024, .f32⟩
  | .hbm, ⟨10, _⟩ => ⟨S8448x1024, .f32⟩
  | .hbm, ⟨11, _⟩ => ⟨S8448x1024, .f32⟩
  | .hbm, ⟨12, _⟩ => ⟨S8448x1024, .f32⟩
  | .hbm, ⟨13, _⟩ => ⟨S8448x1024, .f32⟩
  | .hbm, ⟨14, _⟩ => ⟨S_, .f32⟩
  | .hbm, ⟨15, _⟩ => ⟨S8448x1024, .f32⟩
  | .hbm, ⟨16, _⟩ => ⟨S8448x1024, .f32⟩
  | .hbm, ⟨17, _⟩ => ⟨S_, .f32⟩
  | .hbm, ⟨18, _⟩ => ⟨S8448x1024, .f32⟩
  | .hbm, ⟨19, _⟩ => ⟨S8448x1024, .f32⟩
  | .hbm, ⟨20, _⟩ => ⟨S_, .f32⟩
  | .hbm, ⟨21, _⟩ => ⟨S8448x1024, .f32⟩
  | .hbm, ⟨22, _⟩ => ⟨S8448x1024, .f32⟩
  | .hbm, ⟨23, _⟩ => ⟨S8448x1024, .f32⟩
  | .hbm, ⟨24, _⟩ => ⟨S8448x1024, .f32⟩
  | .hbm, ⟨25, _⟩ => ⟨S8448x1024, .f32⟩
  | .hbm, ⟨26, _⟩ => ⟨S8448x1024, .f32⟩
  | .hbm, ⟨27, _⟩ => ⟨S8448x1024, .f32⟩
  | .hbm, ⟨28, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Ffn.lean ====
abbrev S8448x1024 : Shape := ⟨2, ![8448, 1024]⟩
abbrev S2816x1024 : Shape := ⟨2, ![2816, 1024]⟩
abbrev S8448x2816 : Shape := ⟨2, ![8448, 2816]⟩
abbrev S256x1024 : Shape := ⟨2, ![256, 1024]⟩
abbrev S256x2816 : Shape := ⟨2, ![256, 2816]⟩

abbrev nBuf : Space → Nat
  | .hbm => 10
  | .vmem => 11
  | .smem => 0
  | _ => 0

abbrev bufTy : (tb : Table) → Fin (tcTables nBuf tb) → BufTy
  | .hbm, ⟨0, _⟩ => ⟨S8448x1024, .f32⟩
  | .hbm, ⟨1, _⟩ => ⟨S2816x1024, .f32⟩
  | .hbm, ⟨2, _⟩ => ⟨S8448x2816, .f32⟩
  | .hbm, ⟨3, _⟩ => ⟨S8448x2816, .f32⟩
  | .hbm, ⟨4, _⟩ => ⟨S8448x1024, .bf16⟩
  | .hbm, ⟨5, _⟩ => ⟨S2816x1024, .bf16⟩
  | .hbm, ⟨6, _⟩ => ⟨S8448x2816, .bf16⟩
  | .hbm, ⟨7, _⟩ => ⟨S8448x2816, .bf16⟩
  | .hbm, ⟨8, _⟩ => ⟨S8448x2816, .bf16⟩
  | .hbm, ⟨9, _⟩ => ⟨S8448x2816, .bf16⟩
  | .local _ .vmem, ⟨0, _⟩ => ⟨S256x1024, .bf16⟩
  | .local _ .vmem, ⟨1, _⟩ => ⟨S256x1024, .bf16⟩
  | .local _ .vmem, ⟨2, _⟩ => ⟨S2816x1024, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S8448x1024 : Shape := ⟨2, ![8448, 1024]⟩
abbrev S2816x1024 : Shape := ⟨2, ![2816, 1024]⟩
abbrev S8448x2816 : Shape := ⟨2, ![8448, 2816]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S2816x1024, .f32⟩
  | .hbm, ⟨2, _⟩ => ⟨S8448x2816, .f32⟩
  | .hbm, ⟨3, _⟩ => ⟨S8448x2816, .f32⟩
  | .hbm, ⟨4, _⟩ => ⟨S8448x2816, .f32⟩
  | .hbm, ⟨5, _⟩ => ⟨S8448x2816, .f32⟩
  | .hbm, ⟨6, _⟩ => ⟨S_, .f32⟩
  | .hbm, ⟨7, _⟩ => ⟨S8448x2816, .f32⟩
  | .hbm, ⟨8, _⟩ => ⟨S8448x2816, .f32⟩
  | .hbm, ⟨9, _⟩ => ⟨S_, .f32⟩
  | .hbm, ⟨10, _⟩ => ⟨S8448x2816, .f32⟩
  | .hbm, ⟨11, _⟩ => ⟨S8448x2816, .f32⟩
  | .hbm, ⟨12, _⟩ => ⟨S_, .f32⟩
  | .hbm, ⟨13, _⟩ => ⟨S8448x2816, .f32⟩
  | .hbm, ⟨14, _⟩ => ⟨S8448x2816, .f32⟩
  | .hbm, ⟨15, _⟩ => ⟨S8448x2816, .f32⟩
  | .hbm, ⟨16, _⟩ => ⟨S8448x2816, .f32⟩
  | .hbm, ⟨17, _⟩ => ⟨S8448x2816, .f32⟩
  | .hbm, ⟨18, _⟩ => ⟨S8448x1024, .f32⟩
  | .hbm, ⟨19, _⟩ => ⟨S8448x2816, .f32⟩
  | .hbm, ⟨20, _⟩ => ⟨S8448x2816, .f32⟩
  | .hbm, ⟨21, _⟩ => ⟨S8448x2816, .f32⟩
  | .hbm, ⟨22, _⟩ => ⟨S8448x2816, .f32⟩
  | .hbm, ⟨23, _⟩ => ⟨S8448x2816, .f32⟩
  | .hbm, ⟨24, _⟩ => ⟨S8448x2816, .f32⟩
  | .hbm, ⟨25, _⟩ => ⟨S8448x2816, .f32⟩
  | .hbm, ⟨26, _⟩ => ⟨S8448x2816, .bf16⟩
  | .hbm, ⟨27, _⟩ => ⟨S8448x2816, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩

abbrev nD : Nat := 1
abbrev τ : Topo := Topo.v7x

variable {F : FTy → Type} [FloatOps F]
-- ==== LnTop.lean ====
abbrev S8448x1024 : Shape := ⟨2, ![8448, 1024]⟩
abbrev S1024 : Shape := ⟨1, ![1024]⟩
abbrev S1x1024 : Shape := ⟨2, ![1, 1024]⟩
abbrev S768x1024 : Shape := ⟨2, ![768, 1024]⟩
abbrev S768 : Shape := ⟨1, ![768]⟩
abbrev S768x1 : Shape := ⟨2, ![768, 1]⟩

abbrev nBuf : Space → Nat
  | .hbm => 8
  | .vmem => 11
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S1024, .f32⟩
  | .hbm, ⟨3, _⟩ => ⟨S1x1024, .f32⟩
  | .hbm, ⟨4, _⟩ => ⟨S8448x1024, .f32⟩
  | .hbm, ⟨5, _⟩ => ⟨S8448x1024, .bf16⟩
  | .hbm, ⟨6, _⟩ => ⟨S1x1024, .f32⟩
  | .hbm, ⟨7, _⟩ => ⟨S1x1024, .f32⟩
  | .local _ .vmem, ⟨0, _⟩ => ⟨S768x1024, .f32⟩
  | .local _ .vmem, ⟨1, _⟩ => ⟨S768x1024, .f32⟩
  | .local _ .vmem, ⟨2, _⟩ => ⟨S768x1024, .f32⟩
  | .local _ .vmem, ⟨3, _⟩ => ⟨S768x1024, .f32⟩
  | .local _ .vmem, ⟨4, _⟩ => ⟨S1x1024, .f32⟩
  | .local _ .vmem, ⟨5, _⟩ => ⟨S768x1024, .f32⟩
  | .local _ .vmem, ⟨6, _⟩ => ⟨S768x1024, .f32⟩
  | .local _ .vmem, ⟨7, _⟩ => ⟨S768x1024, .bf16⟩
  | .local _ .vmem, ⟨8, _⟩ => ⟨S768x1024, .bf16⟩
  | .local _ .vmem, ⟨9, _⟩ => ⟨S1x1024, .f32⟩
  | .local _ .vmem, ⟨10, _⟩ => ⟨S1x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LnTopRefIdeal.lean ====
abbrev S8448x1024 : Shape := ⟨2, ![8448, 1024]⟩
abbrev S1024 : Shape := ⟨1, ![1024]⟩
abbrev S_ : Shape := ⟨0, ![]⟩
abbrev S8448 : Shape := ⟨1, ![8448]⟩
abbrev S8448x1 : Shape := ⟨2, ![8448, 1]⟩
abbrev S1x1024 : Shape := ⟨2, ![1, 1024]⟩

abbrev nBuf : Space → Nat
  | .hbm => 89
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S1024, .f32⟩
  | .hbm, ⟨3, _⟩ => ⟨S_, .f32⟩
  | .hbm, ⟨4, _⟩ => ⟨S1024, .f32⟩
  | .hbm, ⟨5, _⟩ => ⟨S_, .f32⟩
  | .hbm, ⟨6, _⟩ => ⟨S8448, .f32⟩
  | .hbm, ⟨7, _⟩ => ⟨S8448x1, .f32⟩
  | .hbm, ⟨8, _⟩ => ⟨S_, .f32⟩
  | .hbm, ⟨9, _⟩ => ⟨S8448x1, .f32⟩
  | .hbm, ⟨10, _⟩ => ⟨S8448x1, .f32⟩
  | .hbm, ⟨11, _⟩ => ⟨S8448x1024, .f32⟩
  | .hbm, ⟨12, _⟩ => ⟨S8448x1024, .f32⟩
  | .hbm, ⟨13, _⟩ => ⟨S8448x1024, .f32⟩
  | .hbm, ⟨14, _⟩ => ⟨S_, .f32⟩
  | .hbm, ⟨15, _⟩ => ⟨S8448x1024, .f32⟩
  | .hbm, ⟨16, _⟩ => ⟨S8448x1024, .f32⟩
  | .hbm, ⟨17, _⟩ => ⟨S_, .f32⟩
  | .hbm, ⟨18, _⟩ => ⟨S8448, .f32⟩
  | .hbm, ⟨19, _⟩ => ⟨S8448x1, .f32⟩
  | .hbm, ⟨20, _⟩ => ⟨S_, .f32⟩
  | .hbm, ⟨21, _⟩ => ⟨S8448x1, .f32⟩
  | .hbm, ⟨22, _⟩ => ⟨S8448x1, .f32⟩
  | .hbm, ⟨23, _⟩ => ⟨S8448x1024, .f32⟩
  | .hbm, ⟨24, _⟩ => ⟨S8448x1024, .f32⟩
  | .hbm, ⟨25, _⟩ => ⟨S_, .f32⟩
  | .hbm, ⟨26, _⟩ => ⟨S8448x1, .f32⟩
  | .hbm, ⟨27, _⟩ => ⟨S8448x1, .f32⟩
  | .hbm, ⟨28, _⟩ => ⟨S8448x1, .f32⟩
  | .hbm, ⟨29, _⟩ => ⟨S8448x1, .f32⟩
  | .hbm, ⟨30, _⟩ => ⟨S_, .f32⟩
  | .hbm, ⟨31, _⟩ => ⟨S8448x1, .f32⟩
  | .hbm, ⟨32, _⟩ => ⟨S8448x1, .f32⟩
  | .hbm, ⟨33, _⟩ => ⟨S8448x1024, .f32⟩
  | .hbm, ⟨34, _⟩ => ⟨S8448x1024, .f32⟩
  | .hbm, ⟨35, _⟩ => ⟨S1x1024, .f32⟩
  | .hbm, ⟨36, _⟩ => ⟨S8448x1024, .f32⟩
  | .hbm, ⟨37, _⟩ => ⟨S8448x1024, .f32⟩
  | .hbm, ⟨38, _⟩ => ⟨S1x1024, .f32⟩
  | .hbm, ⟨39, _⟩ => ⟨S8448x1024, .f32⟩
  | .hbm, ⟨40, _⟩ => ⟨S8448x1024, .f32⟩
  | .hbm, ⟨41, _⟩ => ⟨S8448x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S_, .f32⟩
  | .hbm, ⟨46, _⟩ => ⟨S1024, .f32⟩
  | .hbm, ⟨47, _⟩ => ⟨S8448x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8448x1024, .f32⟩
  | .hbm, ⟨52, _⟩ => ⟨S8448x1024, .f32⟩
  | .hbm, ⟨53, _⟩ => ⟨S_, .f32⟩
  | .hbm, ⟨54, _⟩ => ⟨S1024, .f32⟩
  | .hbm, ⟨55, _⟩ => ⟨S8448x1024, .f32⟩
  | .hbm, ⟨56, _⟩ => ⟨S_, .f32⟩
  | .hbm, ⟨57, _⟩ => ⟨S8448, .f32⟩
  | .hbm, ⟨58, _⟩ => ⟨S8448x1, .f32⟩
  | .hbm, ⟨59, _⟩ => ⟨S8448x1024, .f32⟩
  | .hbm, ⟨60, _⟩ => ⟨S8448x1024, .f32⟩
  | .hbm, ⟨61, _⟩ => ⟨S8448x1, .f32⟩
  | .hbm, ⟨62, _⟩ => ⟨S8448x1024, .f32⟩
  | .hbm, ⟨63, _⟩ => ⟨S_, .f32⟩
  | .hbm, ⟨64, _⟩ => ⟨S8448, .f32⟩
  | .hbm, ⟨65, _⟩ => ⟨S8448x1, .f32⟩
  | .hbm, ⟨66, _⟩ => ⟨S_, .f32⟩
  | .hbm, ⟨67, _⟩ => ⟨S8448x1, .f32⟩
  | .hbm, ⟨68, _⟩ => ⟨S8448x1, .f32⟩
  | .hbm, ⟨69, _⟩ => ⟨S_, .f32⟩
  | .hbm, ⟨70, _⟩ => ⟨S8448, .f32⟩
  | .hbm, ⟨71, _⟩ => ⟨S8448x1024, .f32⟩
  | .hbm, ⟨72, _⟩ => ⟨S8448x1024, .f32⟩
  | .hbm, ⟨73, _⟩ => ⟨S8448x1024, .f32⟩
  | .hbm, ⟨74, _⟩ => ⟨S_, .f32⟩
  | .hbm, ⟨75, _⟩ => ⟨S8448, .f32⟩
  | .hbm, ⟨76, _⟩ => ⟨S8448x1, .f32⟩
  | .hbm, ⟨77, _⟩ => ⟨S8448x1024, .f32⟩
  | .hbm, ⟨78, _⟩ => ⟨S8448x1, .f32⟩
  | .hbm, ⟨79, _⟩ => ⟨S_, .f32⟩
  | .hbm, ⟨80, _⟩ => ⟨S8448x1, .f32⟩
  | .hbm, ⟨81, _⟩ => ⟨S8448x1, .f32⟩
  | .hbm, ⟨82, _⟩ => ⟨S_, .f32⟩
  | .hbm, ⟨83, _⟩ => ⟨S8448, .f32⟩
  | .hbm, ⟨84, _⟩ => ⟨S8448x1024, .f32⟩
  | .hbm, ⟨85, _⟩ => ⟨S8448x1024, .f32⟩
  | .hbm, ⟨86, _⟩ => ⟨S8448x1024, .bf16⟩
  | .hbm, ⟨87, _⟩ => ⟨S1x1024, .f32⟩
  | .hbm, ⟨88, _⟩ => ⟨S1x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_10 : Ref sig .tc := ⟨.hbm, 53, rfl⟩
abbrev main_v39 : Ref sig .tc := ⟨.hbm, 54, rfl⟩
abbrev main_v40 : Ref sig .tc := ⟨.hbm, 55, rfl⟩
abbrev main_cst_11 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_12 : Ref sig .tc := ⟨.hbm, 63, rfl⟩
abbrev main_v47 : Ref sig .tc := ⟨.hbm, 64, rfl⟩
abbrev main_v48 : Ref sig .tc := ⟨.hbm, 65, rfl⟩
abbrev main_cst_13 : Ref sig .tc := ⟨.hbm, 66, rfl⟩
abbrev main_v49 : Ref sig .tc := ⟨.hbm, 67, rfl⟩
abbrev main_v50 : Ref sig .tc := ⟨.hbm, 68, rfl⟩
abbrev main_cst_14 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_15 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_16 : Ref sig .tc := ⟨.hbm, 79, rfl⟩
abbrev main_v59 : Ref sig .tc := ⟨.hbm, 80, rfl⟩
abbrev main_v60 : Ref sig .tc := ⟨.hbm, 81, rfl⟩
abbrev main_cst_17 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩

abbrev nD : Nat := 1
abbrev τ : Topo := Topo.v7x

variable {F : FTy → Type} [FloatOps F]
-- ==== Ln.lean ====
abbrev S8448x1024 : Shape := ⟨2, ![8448, 1024]⟩
abbrev S1024 : Shape := ⟨1, ![1024]⟩
abbrev S1x1024 : Shape := ⟨2, ![1, 1024]⟩
abbrev S768x1024 : Shape := ⟨2, ![768, 1024]⟩
abbrev S768 : Shape := ⟨1, ![768]⟩
abbrev S768x1 : Shape := ⟨2, ![768, 1]⟩

abbrev nBuf : Space → Nat
  | .hbm => 9
  | .vmem => 13
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x1024, .f32⟩
  | .hbm, ⟨3, _⟩ => ⟨S1024, .f32⟩
  | .hbm, ⟨4, _⟩ => ⟨S1x1024, .f32⟩
  | .hbm, ⟨5, _⟩ => ⟨S8448x1024, .f32⟩
  | .hbm, ⟨6, _⟩ => ⟨S8448x1024, .bf16⟩
  | .hbm, ⟨7, _⟩ => ⟨S1x1024, .f32⟩
  | .hbm, ⟨8, _⟩ => ⟨S1x1024, .f32⟩
  | .local _ .vmem, ⟨0, _⟩ => ⟨S768x1024, .f32⟩
  | .local _ .vmem, ⟨1, _⟩ => ⟨S768x1024, .f32⟩
  | .local _ .vmem, ⟨2, _⟩ => ⟨S768x1024, .f32⟩
  | .local _ .vmem, ⟨3, _⟩ => ⟨S768x1024, .f32⟩
  | .local _ .vmem, ⟨4, _⟩ => ⟨S768x1024, .f32⟩
  | .local _ .vmem, ⟨5, _⟩ => ⟨S768x1024, .f32⟩
  | .local _ .vmem, ⟨6, _⟩ => ⟨S1x1024, .f32⟩
  | .local _ .vmem, ⟨7, _⟩ => ⟨S768x1024, .f32⟩
  | .local _ .vmem, ⟨8, _⟩ => ⟨S768x1024, .f32⟩
  | .local _ .vmem, ⟨9, _⟩ => ⟨S768x1024, .bf16⟩
  | .local _ .vmem, ⟨10, _⟩ => ⟨S768x1024, .bf16⟩
  | .local _ .vmem, ⟨11, _⟩ => ⟨S1x1024, .f32⟩
  | .local _ .vmem, ⟨12, _⟩ => ⟨S1x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S768x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LnRefIdeal.lean ====
abbrev S8448x1024 : Shape := ⟨2, ![8448, 1024]⟩
abbrev S1024 : Shape := ⟨1, ![1024]⟩
abbrev S_ : Shape := ⟨0, ![]⟩
abbrev S8448 : Shape := ⟨1, ![8448]⟩
abbrev S8448x1 : Shape := ⟨2, ![8448, 1]⟩
abbrev S1x1024 : Shape := ⟨2, ![1, 1024]⟩

abbrev nBuf : Space → Nat
  | .hbm => 97
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x1024, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S_, .f32⟩
  | .hbm, ⟨7, _⟩ => ⟨S8448, .f32⟩
  | .hbm, ⟨8, _⟩ => ⟨S8448x1, .f32⟩
  | .hbm, ⟨9, _⟩ => ⟨S_, .f32⟩
  | .hbm, ⟨10, _⟩ => ⟨S8448x1, .f32⟩
  | .hbm, ⟨11, _⟩ => ⟨S8448x1, .f32⟩
  | .hbm, ⟨12, _⟩ => ⟨S8448x1024, .f32⟩
  | .hbm, ⟨13, _⟩ => ⟨S8448x1024, .f32⟩
  | .hbm, ⟨14, _⟩ => ⟨S8448x1024, .f32⟩
  | .hbm, ⟨15, _⟩ => ⟨S_, .f32⟩
  | .hbm, ⟨16, _⟩ => ⟨S8448x1024, .f32⟩
  | .hbm, ⟨17, _⟩ => ⟨S8448x1024, .f32⟩
  | .hbm, ⟨18, _⟩ => ⟨S_, .f32⟩
  | .hbm, ⟨19, _⟩ => ⟨S8448, .f32⟩
  | .hbm, ⟨20, _⟩ => ⟨S8448x1, .f32⟩
  | .hbm, ⟨21, _⟩ => ⟨S_, .f32⟩
  | .hbm, ⟨22, _⟩ => ⟨S8448x1, .f32⟩
  | .hbm, ⟨23, _⟩ => ⟨S8448x1, .f32⟩
  | .hbm, ⟨24, _⟩ => ⟨S8448x1024, .f32⟩
  | .hbm, ⟨25, _⟩ => ⟨S8448x1024, .f32⟩
  | .hbm, ⟨26, _⟩ => ⟨S_, .f32⟩
  | .hbm, ⟨27, _⟩ => ⟨S8448x1, .f32⟩
  | .hbm, ⟨28, _⟩ => ⟨S8448x1, .f32⟩
  | .hbm, ⟨29, _⟩ => ⟨S8448x1, .f32⟩
  | .hbm, ⟨30, _⟩ => ⟨S8448x1, .f32⟩
  | .hbm, ⟨31, _⟩ => ⟨S_, .f32⟩
  | .hbm, ⟨32, _⟩ => ⟨S8448x1, .f32⟩
  | .hbm, ⟨33, _⟩ => ⟨S8448x1, .f32⟩
  | .hbm, ⟨34, _⟩ => ⟨S8448x1024, .f32⟩
  | .hbm, ⟨35, _⟩ => ⟨S8448x1024, .f32⟩
  | .hbm, ⟨36, _⟩ => ⟨S1x1024, .f32⟩
  | .hbm, ⟨37, _⟩ => ⟨S8448x1024, .f32⟩
  | .hbm, ⟨38, _⟩ => ⟨S8448x1024, .f32⟩
  | .hbm, ⟨39, _⟩ => ⟨S1x1024, .f32⟩
  | .hbm, ⟨40, _⟩ => ⟨S8448x1024, .f32⟩
  | .hbm, ⟨41, _⟩ => ⟨S8448x1024, .f32⟩
  | .hbm, ⟨42, _⟩ => ⟨S_, .f32⟩
  | .hbm, ⟨43, _⟩ => ⟨S8448x1024, .f32⟩
  | .hbm, ⟨44, _⟩ => ⟨S8448x1024, .f32⟩
  | .hbm, ⟨45, _⟩ => ⟨S_, .f32⟩
  | .hbm, ⟨46, _⟩ => ⟨S8448x1024, .f32⟩
  | .hbm, ⟨47, _⟩ => ⟨S8448x1024, .f32⟩
  | .hbm, ⟨48, _⟩ => ⟨S8448x1024, .f32⟩
  | .hbm, ⟨49, _⟩ => ⟨S8448x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S_, .f32⟩
  | .hbm, ⟨54, _⟩ => ⟨S1024, .f32⟩
  | .hbm, ⟨55, _⟩ => ⟨S8448x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S8448x1024, .f32⟩
  | .hbm, ⟨60, _⟩ => ⟨S8448x1024, .f32⟩
  | .hbm, ⟨61, _⟩ => ⟨S_, .f32⟩
  | .hbm, ⟨62, _⟩ => ⟨S1024, .f32⟩
  | .hbm, ⟨63, _⟩ => ⟨S8448x1024, .f32⟩
  | .hbm, ⟨64, _⟩ => ⟨S_, .f32⟩
  | .hbm, ⟨65, _⟩ => ⟨S8448, .f32⟩
  | .hbm, ⟨66, _⟩ => ⟨S8448x1, .f32⟩
  | .hbm, ⟨67, _⟩ => ⟨S8448x1024, .f32⟩
  | .hbm, ⟨68, _⟩ => ⟨S8448x1024, .f32⟩
  | .hbm, ⟨69, _⟩ => ⟨S8448x1, .f32⟩
  | .hbm, ⟨70, _⟩ => ⟨S8448x1024, .f32⟩
  | .hbm, ⟨71, _⟩ => ⟨S_, .f32⟩
  | .hbm, ⟨72, _⟩ => ⟨S8448, .f32⟩
  | .hbm, ⟨73, _⟩ => ⟨S8448x1, .f32⟩
  | .hbm, ⟨74, _⟩ => ⟨S_, .f32⟩
  | .hbm, ⟨75, _⟩ => ⟨S8448x1, .f32⟩
  | .hbm, ⟨76, _⟩ => ⟨S8448x1, .f32⟩
  | .hbm, ⟨77, _⟩ => ⟨S_, .f32⟩
  | .hbm, ⟨78, _⟩ => ⟨S8448, .f32⟩
  | .hbm, ⟨79, _⟩ => ⟨S8448x1024, .f32⟩
  | .hbm, ⟨80, _⟩ => ⟨S8448x1024, .f32⟩
  | .hbm, ⟨81, _⟩ => ⟨S8448x1024, .f32⟩
  | .hbm, ⟨82, _⟩ => ⟨S_, .f32⟩
  | .hbm, ⟨83, _⟩ => ⟨S8448, .f32⟩
  | .hbm, ⟨84, _⟩ => ⟨S8448x1, .f32⟩
  | .hbm, ⟨85, _⟩ => ⟨S8448x1024, .f32⟩
  | .hbm, ⟨86, _⟩ => ⟨S8448x1, .f32⟩
  | .hbm, ⟨87, _⟩ => ⟨S_, .f32⟩
  | .hbm, ⟨88, _⟩ => ⟨S8448x1, .f32⟩
  | .hbm, ⟨89, _⟩ => ⟨S8448x1, .f32⟩
  | .hbm, ⟨90, _⟩ => ⟨S_, .f32⟩
  | .hbm, ⟨91, _⟩ => ⟨S8448, .f32⟩
  | .hbm, ⟨92, _⟩ => ⟨S8448x1024, .f32⟩
  | .hbm, ⟨93, _⟩ => ⟨S8448x1024, .f32⟩
  | .hbm, ⟨94, _⟩ => ⟨S8448x1024, .bf16⟩
  | .hbm, ⟨95, _⟩ => ⟨S1x1024, .f32⟩
  | .hbm, ⟨96, _⟩ => ⟨S1x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_cst_10 : Ref sig .tc := ⟨.hbm, 53, rfl⟩
abbrev main_v38 : Ref sig .tc := ⟨.hbm, 54, rfl⟩
abbrev main_v39 : Ref sig .tc := ⟨.hbm, 55, rfl⟩
abbrev main_cst_11 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_12 : Ref sig .tc := ⟨.hbm, 61, rfl⟩
abbrev main_v44 : Ref sig .tc := ⟨.hbm, 62, rfl⟩
abbrev main_v45 : Ref sig .tc := ⟨.hbm, 63, rfl⟩
abbrev main_cst_13 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_14 : Ref sig .tc := ⟨.hbm, 71, rfl⟩
abbrev main_v52 : Ref sig .tc := ⟨.hbm, 72, rfl⟩
abbrev main_v53 : Ref sig .tc := ⟨.hbm, 73, rfl⟩
abbrev main_cst_15 : Ref sig .tc := ⟨.hbm, 74, rfl⟩
abbrev main_v54 : Ref sig .tc := ⟨.hbm, 75, rfl⟩
abbrev main_v55 : Ref sig .tc := ⟨.hbm, 76, rfl⟩
abbrev main_cst_16 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_17 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_18 : Ref sig .tc := ⟨.hbm, 87, rfl⟩
abbrev main_v64 : Ref sig .tc := ⟨.hbm, 88, rfl⟩
abbrev main_v65 : Ref sig .tc := ⟨.hbm, 89, rfl⟩
abbrev main_cst_19 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩

abbrev nD : Nat := 1
abbrev τ : Topo := Topo.v7x

variable {F : FTy → Type} [FloatOps F]
-- ==== Attn.lean ====
abbrev S8208x1024 : Shape := ⟨2, ![8208, 1024]⟩
abbrev S8208x256 : Shape := ⟨2, ![8208, 256]⟩
abbrev S_ : Shape := ⟨0, ![]⟩
abbrev S8448x1024 : Shape := ⟨2, ![8448, 1024]⟩
abbrev S8448x16x64 : Shape := ⟨3, ![8448, 16, 64]⟩
abbrev S16x8448x64 : Shape := ⟨3, ![16, 8448, 64]⟩
abbrev S8448x256 : Shape := ⟨2, ![8448, 256]⟩
abbrev S8448x4x64 : Shape := ⟨3, ![8448, 4, 64]⟩
abbrev S4x8448x64 : Shape := ⟨3, ![4, 8448, 64]⟩
abbrev S4x4x8448x64 : Shape := ⟨4, ![4, 4, 8448, 64]⟩
abbrev S16x8448x8448 : Shape := ⟨3, ![16, 8448, 8448]⟩
abbrev S8448 : Shape := ⟨1, ![8448]⟩
abbrev S1x1x8448 : Shape := ⟨3, ![1, 1, 8448]⟩
abbrev S16x8448 : Shape := ⟨2, ![16, 8448]⟩
abbrev S16x8448x1 : Shape := ⟨3, ![16, 8448, 1]⟩
abbrev S4x64x8448 : Shape := ⟨3, ![4, 64, 8448]⟩
abbrev S16x1x8448 : Shape := ⟨3, ![16, 1, 8448]⟩
abbrev S16x64x8448 : Shape := ⟨3, ![16, 64, 8448]⟩
abbrev S2x8448x64 : Shape := ⟨3, ![2, 8448, 64]⟩
abbrev S2x1x8448 : Shape := ⟨3, ![2, 1, 8448]⟩
abbrev S1x768x64 : Shape := ⟨3, ![1, 768, 64]⟩
abbrev S1x64x768 : Shape := ⟨3, ![1, 64, 768]⟩
abbrev S768x64 : Shape := ⟨2, ![768, 64]⟩
abbrev S64x768 : Shape := ⟨2, ![64, 768]⟩
abbrev S768x1 : Shape := ⟨2, ![768, 1]⟩
abbrev S64x8448 : Shape := ⟨2, ![64, 8448]⟩
abbrev S1x64x8448 : Shape := ⟨3, ![1, 64, 8448]⟩
abbrev S1x256x64 : Shape := ⟨3, ![1, 256, 64]⟩
abbrev S256x64 : Shape := ⟨2, ![256, 64]⟩
abbrev S768x256 : Shape := ⟨2, ![768, 256]⟩
abbrev S1x1x256 : Shape := ⟨3, ![1, 1, 256]⟩
abbrev S1x256 : Shape := ⟨2, ![1, 256]⟩
abbrev S1x64x256 : Shape := ⟨3, ![1, 64, 256]⟩
abbrev S64x256 : Shape := ⟨2, ![64, 256]⟩

abbrev nBuf : Space → Nat
  | .hbm => 80
  | .vmem => 20
  | .smem => 0
  | _ => 0

abbrev bufTy : (tb : Table) → Fin (tcTables nBuf tb) → BufTy
  | .hbm, ⟨0, _⟩ => ⟨S8208x1024, .f32⟩
  | .hbm, ⟨1, _⟩ => ⟨S8208x256, .f32⟩
  | .hbm, ⟨2, _⟩ => ⟨S8208x256, .f32⟩
  | .hbm, ⟨3, _⟩ => ⟨S8208x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8208x1024, .f32⟩
  | .hbm, ⟨9, _⟩ => ⟨S8208x1024, .f32⟩
  | .hbm, ⟨10, _⟩ => ⟨S_, .i32⟩
  | .hbm, ⟨11, _⟩ => ⟨S_, .f32⟩
  | .hbm, ⟨12, _⟩ => ⟨S8448x1024, .f32⟩
  | .hbm, ⟨13, _⟩ => ⟨S8448x1024, .bf16⟩
  | .hbm, ⟨14, _⟩ => ⟨S8448x16x64, .bf16⟩
  | .hbm, ⟨15, _⟩ => ⟨S16x8448x64, .bf16⟩
  | .hbm, ⟨16, _⟩ => ⟨S_, .i32⟩
  | .hbm, ⟨17, _⟩ => ⟨S_, .f32⟩
  | .hbm, ⟨18, _⟩ => ⟨S8448x256, .f32⟩
  | .hbm, ⟨19, _⟩ => ⟨S8448x256, .bf16⟩
  | .hbm, ⟨20, _⟩ => ⟨S8448x4x64, .bf16⟩
  | .hbm, ⟨21, _⟩ => ⟨S4x8448x64, .bf16⟩
  | .hbm, ⟨22, _⟩ => ⟨S_, .i32⟩
  | .hbm, ⟨23, _⟩ => ⟨S_, .f32⟩
  | .hbm, ⟨24, _⟩ => ⟨S8448x256, .f32⟩
  | .hbm, ⟨25, _⟩ => ⟨S8448x256, .bf16⟩
  | .hbm, ⟨26, _⟩ => ⟨S8448x4x64, .bf16⟩
  | .hbm, ⟨27, _⟩ => ⟨S4x8448x64, .bf16⟩
  | .hbm, ⟨28, _⟩ => ⟨S_, .i32⟩
  | .hbm, ⟨29, _⟩ => ⟨S_, .f32⟩
  | .hbm, ⟨30, _⟩ => ⟨S8448x1024, .f32⟩
  | .hbm, ⟨31, _⟩ => ⟨S8448x1024, .bf16⟩
  | .hbm, ⟨32, _⟩ => ⟨S8448x16x64, .bf16⟩
  | .hbm, ⟨33, _⟩ => ⟨S16x8448x64, .bf16⟩
  | .hbm, ⟨34, _⟩ => ⟨S4x4x8448x64, .bf16⟩
  | .hbm, ⟨35, _⟩ => ⟨S16x8448x64, .bf16⟩
  | .hbm, ⟨36, _⟩ => ⟨S16x8448x64, .f32⟩
  | .hbm, ⟨37, _⟩ => ⟨S4x4x8448x64, .bf16⟩
  | .hbm, ⟨38, _⟩ => ⟨S16x8448x64, .bf16⟩
  | .hbm, ⟨39, _⟩ => ⟨S16x8448x64, .f32⟩
  | .hbm, ⟨40, _⟩ => ⟨S16x8448x64, .f32⟩
  | .hbm, ⟨41, _⟩ => ⟨S16x8448x8448, .f32⟩
  | .hbm, ⟨42, _⟩ => ⟨S8448, .i32⟩
  | .hbm, ⟨43, _⟩ => ⟨S1x1x8448, .i32⟩
  | .hbm, ⟨44, _⟩ => ⟨S_, .i32⟩
  | .hbm, ⟨45, _⟩ => ⟨S1x1x8448, .i32⟩
  | .hbm, ⟨46, _⟩ => ⟨S1x1x8448, .i1⟩
  | .hbm, ⟨47, _⟩ => ⟨S_, .f32⟩
  | .hbm, ⟨48, _⟩ => ⟨S_, .f32⟩
  | .hbm, ⟨49, _⟩ => ⟨S16x8448x8448, .i1⟩
  | .hbm, ⟨50, _⟩ => ⟨S16x8448x8448, .f32⟩
  | .hbm, ⟨51, _⟩ => ⟨S16x8448x8448, .f32⟩
  | .hbm, ⟨52, _⟩ => ⟨S_, .f32⟩
  | .hbm, ⟨53, _⟩ => ⟨S16x8448, .f32⟩
  | .hbm, ⟨54, _⟩ => ⟨S16x8448x1, .f32⟩
  | .hbm, ⟨55, _⟩ => ⟨S16x8448x8448, .f32⟩
  | .hbm, ⟨56, _⟩ => ⟨S16x8448x8448, .f32⟩
  | .hbm, ⟨57, _⟩ => ⟨S16x8448x8448, .f32⟩
  | .hbm, ⟨58, _⟩ => ⟨S16x8448x8448, .f32⟩
  | .hbm, ⟨59, _⟩ => ⟨S16x8448x8448, .f32⟩
  | .hbm, ⟨60, _⟩ => ⟨S_, .f32⟩
  | .hbm, ⟨61, _⟩ => ⟨S16x8448, .f32⟩
  | .hbm, ⟨62, _⟩ => ⟨S16x8448x1, .f32⟩
  | .hbm, ⟨63, _⟩ => ⟨S16x8448x64, .f32⟩
  | .hbm, ⟨64, _⟩ => ⟨S16x8448x64, .f32⟩
  | .hbm, ⟨65, _⟩ => ⟨S16x8448x64, .f32⟩
  | .hbm, ⟨66, _⟩ => ⟨S16x8448x1, .f32⟩
  | .hbm, ⟨67, _⟩ => ⟨S16x8448x1, .f32⟩
  | .hbm, ⟨68, _⟩ => ⟨S16x8448x1, .f32⟩
  | .hbm, ⟨69, _⟩ => ⟨S16x8448x1, .f32⟩
  | .hbm, ⟨70, _⟩ => ⟨S16x8448x64, .f32⟩
  | .hbm, ⟨71, _⟩ => ⟨S16x8448x64, .f32⟩
  | .hbm, ⟨72, _⟩ => ⟨S_, .f32⟩
  | .hbm, ⟨73, _⟩ => ⟨S16x8448, .f32⟩
  | .hbm, ⟨74, _⟩ => ⟨S4x64x8448, .bf16⟩
  | .hbm, ⟨75, _⟩ => ⟨S16x1x8448, .f32⟩
  | .hbm, ⟨76, _⟩ => ⟨S16x1x8448, .f32⟩
  | .hbm, ⟨77, _⟩ => ⟨S16x64x8448, .f32⟩
  | .hbm, ⟨78, _⟩ => ⟨S4x8448x64, .f32⟩
  | .hbm, ⟨79, _⟩ => ⟨S4x8448x64, .f32⟩
  | .local _ .vmem, ⟨0, _⟩ => ⟨S2x8448x64, .bf16⟩
  | .local _ .vmem, ⟨1, _⟩ => ⟨S2x8448x64, .bf16⟩
  | .local _ .vmem, ⟨2, _⟩ => ⟨S2x8448x64, .bf16⟩
  | .local _ .vmem, ⟨3, _⟩ => ⟨S2x8448x64, .bf16⟩
  | .local _ .vmem, ⟨4, _⟩ => ⟨S2x1x8448, .f32⟩
  | .local _ .vmem, ⟨5, _⟩ => ⟨S2x1x8448, .f32⟩
  | .local _ .vmem, ⟨6, _⟩ => ⟨S2x1x8448, .f32⟩
  | .local _ .vmem, ⟨7, _⟩ => ⟨S2x1x8448, .f32⟩
  | .local _ .vmem, ⟨8, _⟩ => ⟨S1x768x64, .bf16⟩
  | .local _ .vmem, ⟨9, _⟩ => ⟨S1x768x64, .bf16⟩
  | .local _ .vmem, ⟨10, _⟩ => ⟨S1x64x768, .bf16⟩
  | .local _ .vmem, ⟨11, _⟩ => ⟨S1x64x768, .bf16⟩
  | .local _ .vmem, ⟨12, _⟩ => ⟨S1x768x64, .bf16⟩
  | .local _ .vmem, ⟨13, _⟩ => ⟨S1x768x64, .bf16⟩
  | .local _ .vmem, ⟨14, _⟩ => ⟨S4x64x8448, .f32⟩
  | .local _ .vmem, ⟨15, _⟩ => ⟨S4x64x8448, .f32⟩
  | .local _ .vmem, ⟨16, _⟩ => ⟨S1x768x64, .f32⟩
  | .local _ .vmem, ⟨17, _⟩ => ⟨S1x768x64, .f32⟩
  | .local _ .vmem, ⟨18, _⟩ => ⟨S1x768x64, .f32⟩
  | .local _ .vmem, ⟨19, _⟩ => ⟨S1x768x64, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_call1_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_call2_v0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_call3_v0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_call4_v0 : Ref sig .tc := ⟨.hbm, 48, rfl⟩
abbrev main_call4_v1 : Ref sig .tc := ⟨.hbm, 49, rfl⟩
abbrev main_call4_v2 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_8 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55_0 : Ref sig .tc := ⟨.hbm, 77, rfl⟩
abbrev main_v55_1 : Ref sig .tc := ⟨.hbm, 78, rfl⟩
abbrev main_v55_2 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![4, 11, 2], ![false, false, false]⟩

def k0_cond1 (i : grid0.Coords) : BitVec 1 :=
  let arg1 : BitVec 32 := BitVec.ofNat 32 (i 1).val
  let c0_i32 : BitVec 32 := 0#32
  let v12 : BitVec 1 := Scalar.cmpi .eq arg1 c0_i32
  let v13 : BitVec 32 := Scalar.extui v12
  let c0_i32_8 : BitVec 32 := 0#32
  let v14 : BitVec 1 := Scalar.cmpi .ne v13 c0_i32_8
  v14

def k0_off1 (i : grid0.Coords) (c0_i32_1961 : BitVec 32) : Fin 3 → Nat :=
  let c2_i32_1960 : BitVec 32 := 2#32
  let arg2 : BitVec 32 := BitVec.ofNat 32 (i 2).val
  let v2730 : BitVec 32 := Scalar.muli c2_i32_1960 arg2
  let v2731 : BitVec 32 := Scalar.addi v2730 c0_i32_1961
  let v2732 : Index := Scalar.indexCast v2731
  let c0_1962 : Index := 0#32
  let c0_1963 : Index := 0#32
  ![v2732.toNat, 0, 0]
def k0_off2 (i : grid0.Coords) (c0_i32_47 : BitVec 32) : Fin 3 → Nat :=
  let c2_i32 : BitVec 32 := 2#32
  let arg2 : BitVec 32 := BitVec.ofNat 32 (i 2).val
  let v59 : BitVec 32 := Scalar.muli c2_i32 arg2
  let v60 : BitVec 32 := Scalar.addi v59 c0_i32_47
  let v61 : Index := Scalar.indexCast v60
  let c0_48 : Index := 0#32
  let c0_49 : Index := 0#32
  ![v61.toNat, 0, 0]
def k0_off3 (i : grid0.Coords) (c0_i32_105 : BitVec 32) : Fin 3 → Nat :=
  let c2_i32_104 : BitVec 32 := 2#32
  let arg2 : BitVec 32 := BitVec.ofNat 32 (i 2).val
  let v141 : BitVec 32 := Scalar.muli c2_i32_104 arg2
  let v142 : BitVec 32 := Scalar.addi v141 c0_i32_105
  let v143 : Index := Scalar.indexCast v142
  let c0_106 : Index := 0#32
  let c256_107 : Index := 256#32
  ![v143.toNat, 0, 256]
def k0_off4 (i : grid0.Coords) (c0_i32_164 : BitVec 32) : Fin 3 → Nat :=
  let c2_i32_163 : BitVec 32 := 2#32
  let arg2 : BitVec 32 := BitVec.ofNat 32 (i 2).val
  let v223 : BitVec 32 := Scalar.muli c2_i32_163 arg2
  let v224 : BitVec 32 := Scalar.addi v223 c0_i32_164
  let v225 : Index := Scalar.indexCast v224
  let c0_165 : Index := 0#32
  let c512_166 : Index := 512#32
  ![v225.toNat, 0, 512]
def k0_off5 (i : grid0.Coords) (c0_i32_223 : BitVec 32) : Fin 3 → Nat :=
  let c2_i32_222 : BitVec 32 := 2#32
  let arg2 : BitVec 32 := BitVec.ofNat 32 (i 2).val
  let v305 : BitVec 32 := Scalar.muli c2_i32_222 arg2
  let v306 : BitVec 32 := Scalar.addi v305 c0_i32_223
  let v307 : Index := Scalar.indexCast v306
  let c0_224 : Index := 0#32
  let c768_225 : Index := 768#32
  ![v307.toNat, 0, 768]
def k0_off6 (i : grid0.Coords) (c0_i32_282 : BitVec 32) : Fin 3 → Nat :=
  let c2_i32_281 : BitVec 32 := 2#32
  let arg2 : BitVec 32 := BitVec.ofNat 32 (i 2).val
  let v387 : BitVec 32 := Scalar.muli c2_i32_281 arg2
  let v388 : BitVec 32 := Scalar.addi v387 c0_i32_282
  let v389 : Index := Scalar.indexCast v388
  let c0_283 : Index := 0#32
  let c1024_284 : Index := 1024#32
  ![v389.toNat, 0, 1024]
def k0_off7 (i : grid0.Coords) (c0_i32_341 : BitVec 32) : Fin 3 → Nat :=
  let c2_i32_340 : BitVec 32 := 2#32
  let arg2 : BitVec 32 := BitVec.ofNat 32 (i 2).val
  let v469 : BitVec 32 := Scalar.muli c2_i32_340 arg2
  let v470 : BitVec 32 := Scalar.addi v469 c0_i32_341
  let v471 : Index := Scalar.indexCast v470
  let c0_342 : Index := 0#32
  let c1280_343 : Index := 1280#32
  ![v471.toNat, 0, 1280]
def k0_off8 (i : grid0.Coords) (c0_i32_400 : BitVec 32) : Fin 3 → Nat :=
  let c2_i32_399 : BitVec 32 := 2#32
  let arg2 : BitVec 32 := BitVec.ofNat 32 (i 2).val
  let v551 : BitVec 32 := Scalar.muli c2_i32_399 arg2
  let v552 : BitVec 32 := Scalar.addi v551 c0_i32_400
  let v553 : Index := Scalar.indexCast v552
  let c0_401 : Index := 0#32
  let c1536_402 : Index := 1536#32
  ![v553.toNat, 0, 1536]
def k0_off9 (i : grid0.Coords) (c0_i32_459 : BitVec 32) : Fin 3 → Nat :=
  let c2_i32_458 : BitVec 32 := 2#32
  let arg2 : BitVec 32 := BitVec.ofNat 32 (i 2).val
  let v633 : BitVec 32 := Scalar.muli c2_i32_458 arg2
  let v634 : BitVec 32 := Scalar.addi v633 c0_i32_459
  let v635 : Index := Scalar.indexCast v634
  let c0_460 : Index := 0#32
  let c1792_461 : Index := 1792#32
  ![v635.toNat, 0, 1792]
def k0_off10 (i : grid0.Coords) (c0_i32_518 : BitVec 32) : Fin 3 → Nat :=
  let c2_i32_517 : BitVec 32 := 2#32
  let arg2 : BitVec 32 := BitVec.ofNat 32 (i 2).val
  let v715 : BitVec 32 := Scalar.muli c2_i32_517 arg2
  let v716 : BitVec 32 := Scalar.addi v715 c0_i32_518
  let v717 : Index := Scalar.indexCast v716
  let c0_519 : Index := 0#32
  let c2048_520 : Index := 2048#32
  ![v717.toNat, 0, 2048]
def k0_off11 (i : grid0.Coords) (c0_i32_577 : BitVec 32) : Fin 3 → Nat :=
  let c2_i32_576 : BitVec 32 := 2#32
  let arg2 : BitVec 32 := BitVec.ofNat 32 (i 2).val
  let v797 : BitVec 32 := Scalar.muli c2_i32_576 arg2
  let v798 : BitVec 32 := Scalar.addi v797 c0_i32_577
  let v799 : Index := Scalar.indexCast v798
  let c0_578 : Index := 0#32
  let c2304_579 : Index := 2304#32
  ![v799.toNat, 0, 2304]
def k0_off12 (i : grid0.Coords) (c0_i32_636 : BitVec 32) : Fin 3 → Nat :=
  let c2_i32_635 : BitVec 32 := 2#32
  let arg2 : BitVec 32 := BitVec.ofNat 32 (i 2).val
  let v879 : BitVec 32 := Scalar.muli c2_i32_635 arg2
  let v880 : BitVec 32 := Scalar.addi v879 c0_i32_636
  let v881 : Index := Scalar.indexCast v880
  let c0_637 : Index := 0#32
  let c2560_638 : Index := 2560#32
  ![v881.toNat, 0, 2560]
def k0_off13 (i : grid0.Coords) (c0_i32_695 : BitVec 32) : Fin 3 → Nat :=
  let c2_i32_694 : BitVec 32 := 2#32
  let arg2 : BitVec 32 := BitVec.ofNat 32 (i 2).val
  let v961 : BitVec 32 := Scalar.muli c2_i32_694 arg2
  let v962 : BitVec 32 := Scalar.addi v961 c0_i32_695
  let v963 : Index := Scalar.indexCast v962
  let c0_696 : Index := 0#32
  let c2816_697 : Index := 2816#32
  ![v963.toNat, 0, 2816]
def k0_off14 (i : grid0.Coords) (c0_i32_754 : BitVec 32) : Fin 3 → Nat :=
  let c2_i32_753 : BitVec 32 := 2#32
  let arg2 : BitVec 32 := BitVec.ofNat 32 (i 2).val
  let v1043 : BitVec 32 := Scalar.muli c2_i32_753 arg2
  let v1044 : BitVec 32 := Scalar.addi v1043 c0_i32_754
  let v1045 : Index := Scalar.indexCast v1044
  let c0_755 : Index := 0#32
  let c3072_756 : Index := 3072#32
  ![v1045.toNat, 0, 3072]
def k0_off15 (i : grid0.Coords) (c0_i32_813 : BitVec 32) : Fin 3 → Nat :=
  let c2_i32_812 : BitVec 32 := 2#32
  let arg2 : BitVec 32 := BitVec.ofNat 32 (i 2).val
  let v1125 : BitVec 32 := Scalar.muli c2_i32_812 arg2
  let v1126 : BitVec 32 := Scalar.addi v1125 c0_i32_813
  let v1127 : Index := Scalar.indexCast v1126
  let c0_814 : Index := 0#32
  let c3328_815 : Index := 3328#32
  ![v1127.toNat, 0, 3328]
def k0_off16 (i : grid0.Coords) (c0_i32_872 : BitVec 32) : Fin 3 → Nat :=
  let c2_i32_871 : BitVec 32 := 2#32
  let arg2 : BitVec 32 := BitVec.ofNat 32 (i 2).val
  let v1207 : BitVec 32 := Scalar.muli c2_i32_871 arg2
  let v1208 : BitVec 32 := Scalar.addi v1207 c0_i32_872
  let v1209 : Index := Scalar.indexCast v1208
  let c0_873 : Index := 0#32
  let c3584_874 : Index := 3584#32
  ![v1209.toNat, 0, 3584]
def k0_off17 (i : grid0.Coords) (c0_i32_931 : BitVec 32) : Fin 3 → Nat :=
  let c2_i32_930 : BitVec 32 := 2#32
  let arg2 : BitVec 32 := BitVec.ofNat 32 (i 2).val
  let v1289 : BitVec 32 := Scalar.muli c2_i32_930 arg2
  let v1290 : BitVec 32 := Scalar.addi v1289 c0_i32_931
  let v1291 : Index := Scalar.indexCast v1290
  let c0_932 : Index := 0#32
  let c3840_933 : Index := 3840#32
  ![v1291.toNat, 0, 3840]
def k0_off18 (i : grid0.Coords) (c0_i32_990 : BitVec 32) : Fin 3 → Nat :=
  let c2_i32_989 : BitVec 32 := 2#32
  let arg2 : BitVec 32 := BitVec.ofNat 32 (i 2).val
  let v1371 : BitVec 32 := Scalar.muli c2_i32_989 arg2
  let v1372 : BitVec 32 := Scalar.addi v1371 c0_i32_990
  let v1373 : Index := Scalar.indexCast v1372
  let c0_991 : Index := 0#32
  let c4096_992 : Index := 4096#32
  ![v1373.toNat, 0, 4096]
def k0_off19 (i : grid0.Coords) (c0_i32_1049 : BitVec 32) : Fin 3 → Nat :=
  let c2_i32_1048 : BitVec 32 := 2#32
  let arg2 : BitVec 32 := BitVec.ofNat 32 (i 2).val
  let v1453 : BitVec 32 := Scalar.muli c2_i32_1048 arg2
  let v1454 : BitVec 32 := Scalar.addi v1453 c0_i32_1049
  let v1455 : Index := Scalar.indexCast v1454
  let c0_1050 : Index := 0#32
  let c4352_1051 : Index := 4352#32
  ![v1455.toNat, 0, 4352]
def k0_off20 (i : grid0.Coords) (c0_i32_1108 : BitVec 32) : Fin 3 → Nat :=
  let c2_i32_1107 : BitVec 32 := 2#32
  let arg2 : BitVec 32 := BitVec.ofNat 32 (i 2).val
  let v1535 : BitVec 32 := Scalar.muli c2_i32_1107 arg2
  let v1536 : BitVec 32 := Scalar.addi v1535 c0_i32_1108
  let v1537 : Index := Scalar.indexCast v1536
  let c0_1109 : Index := 0#32
  let c4608_1110 : Index := 4608#32
  ![v1537.toNat, 0, 4608]
def k0_off21 (i : grid0.Coords) (c0_i32_1167 : BitVec 32) : Fin 3 → Nat :=
  let c2_i32_1166 : BitVec 32 := 2#32
  let arg2 : BitVec 32 := BitVec.ofNat 32 (i 2).val
  let v1617 : BitVec 32 := Scalar.muli c2_i32_1166 arg2
  let v1618 : BitVec 32 := Scalar.addi v1617 c0_i32_1167
  let v1619 : Index := Scalar.indexCast v1618
  let c0_1168 : Index := 0#32
  let c4864_1169 : Index := 4864#32
  ![v1619.toNat, 0, 4864]
def k0_off22 (i : grid0.Coords) (c0_i32_1226 : BitVec 32) : Fin 3 → Nat :=
  let c2_i32_1225 : BitVec 32 := 2#32
  let arg2 : BitVec 32 := BitVec.ofNat 32 (i 2).val
  let v1699 : BitVec 32 := Scalar.muli c2_i32_1225 arg2
  let v1700 : BitVec 32 := Scalar.addi v1699 c0_i32_1226
  let v1701 : Index := Scalar.indexCast v1700
  let c0_1227 : Index := 0#32
  let c5120_1228 : Index := 5120#32
  ![v1701.toNat, 0, 5120]
def k0_off23 (i : grid0.Coords) (c0_i32_1285 : BitVec 32) : Fin 3 → Nat :=
  let c2_i32_1284 : BitVec 32 := 2#32
  let arg2 : BitVec 32 := BitVec.ofNat 32 (i 2).val
  let v1781 : BitVec 32 := Scalar.muli c2_i32_1284 arg2
  let v1782 : BitVec 32 := Scalar.addi v1781 c0_i32_1285
  let v1783 : Index := Scalar.indexCast v1782
  let c0_1286 : Index := 0#32
  let c5376_1287 : Index := 5376#32
  ![v1783.toNat, 0, 5376]
def k0_off24 (i : grid0.Coords) (c0_i32_1344 : BitVec 32) : Fin 3 → Nat :=
  let c2_i32_1343 : BitVec 32 := 2#32
  let arg2 : BitVec 32 := BitVec.ofNat 32 (i 2).val
  let v1863 : BitVec 32 := Scalar.muli c2_i32_1343 arg2
  let v1864 : BitVec 32 := Scalar.addi v1863 c0_i32_1344
  let v1865 : Index := Scalar.indexCast v1864
  let c0_1345 : Index := 0#32
  let c5632_1346 : Index := 5632#32
  ![v1865.toNat, 0, 5632]
def k0_off25 (i : grid0.Coords) (c0_i32_1403 : BitVec 32) : Fin 3 → Nat :=
  let c2_i32_1402 : BitVec 32 := 2#32
  let arg2 : BitVec 32 := BitVec.ofNat 32 (i 2).val
  let v1945 : BitVec 32 := Scalar.muli c2_i32_1402 arg2
  let v1946 : BitVec 32 := Scalar.addi v1945 c0_i32_1403
  let v1947 : Index := Scalar.indexCast v1946
  let c0_1404 : Index := 0#32
  let c5888_1405 : Index := 5888#32
  ![v1947.toNat, 0, 5888]
def k0_off26 (i : grid0.Coords) (c0_i32_1462 : BitVec 32) : Fin 3 → Nat :=
  let c2_i32_1461 : BitVec 32 := 2#32
  let arg2 : BitVec 32 := BitVec.ofNat 32 (i 2).val
  let v2027 : BitVec 32 := Scalar.muli c2_i32_1461 arg2
  let v2028 : BitVec 32 := Scalar.addi v2027 c0_i32_1462
  let v2029 : Index := Scalar.indexCast v2028
  let c0_1463 : Index := 0#32
  let c6144_1464 : Index := 6144#32
  ![v2029.toNat, 0, 6144]
def k0_off27 (i : grid0.Coords) (c0_i32_1521 : BitVec 32) : Fin 3 → Nat :=
  let c2_i32_1520 : BitVec 32 := 2#32
  let arg2 : BitVec 32 := BitVec.ofNat 32 (i 2).val
  let v2109 : BitVec 32 := Scalar.muli c2_i32_1520 arg2
  let v2110 : BitVec 32 := Scalar.addi v2109 c0_i32_1521
  let v2111 : Index := Scalar.indexCast v2110
  let c0_1522 : Index := 0#32
  let c6400_1523 : Index := 6400#32
  ![v2111.toNat, 0, 6400]
def k0_off28 (i : grid0.Coords) (c0_i32_1580 : BitVec 32) : Fin 3 → Nat :=
  let c2_i32_1579 : BitVec 32 := 2#32
  let arg2 : BitVec 32 := BitVec.ofNat 32 (i 2).val
  let v2191 : BitVec 32 := Scalar.muli c2_i32_1579 arg2
  let v2192 : BitVec 32 := Scalar.addi v2191 c0_i32_1580
  let v2193 : Index := Scalar.indexCast v2192
  let c0_1581 : Index := 0#32
  let c6656_1582 : Index := 6656#32
  ![v2193.toNat, 0, 6656]
def k0_off29 (i : grid0.Coords) (c0_i32_1639 : BitVec 32) : Fin 3 → Nat :=
  let c2_i32_1638 : BitVec 32 := 2#32
  let arg2 : BitVec 32 := BitVec.ofNat 32 (i 2).val
  let v2273 : BitVec 32 := Scalar.muli c2_i32_1638 arg2
  let v2274 : BitVec 32 := Scalar.addi v2273 c0_i32_1639
  let v2275 : Index := Scalar.indexCast v2274
  let c0_1640 : Index := 0#32
  let c6912_1641 : Index := 6912#32
  ![v2275.toNat, 0, 6912]
def k0_off30 (i : grid0.Coords) (c0_i32_1698 : BitVec 32) : Fin 3 → Nat :=
  let c2_i32_1697 : BitVec 32 := 2#32
  let arg2 : BitVec 32 := BitVec.ofNat 32 (i 2).val
  let v2355 : BitVec 32 := Scalar.muli c2_i32_1697 arg2
  let v2356 : BitVec 32 := Scalar.addi v2355 c0_i32_1698
  let v2357 : Index := Scalar.indexCast v2356
  let c0_1699 : Index := 0#32
  let c7168_1700 : Index := 7168#32
  ![v2357.toNat, 0, 7168]
def k0_off31 (i : grid0.Coords) (c0_i32_1757 : BitVec 32) : Fin 3 → Nat :=
  let c2_i32_1756 : BitVec 32 := 2#32
  let arg2 : BitVec 32 := BitVec.ofNat 32 (i 2).val
  let v2437 : BitVec 32 := Scalar.muli c2_i32_1756 arg2
  let v2438 : BitVec 32 := Scalar.addi v2437 c0_i32_1757
  let v2439 : Index := Scalar.indexCast v2438
  let c0_1758 : Index := 0#32
  let c7424_1759 : Index := 7424#32
  ![v2439.toNat, 0, 7424]
def k0_off32 (i : grid0.Coords) (c0_i32_1816 : BitVec 32) : Fin 3 → Nat :=
  let c2_i32_1815 : BitVec 32 := 2#32
  let arg2 : BitVec 32 := BitVec.ofNat 32 (i 2).val
  let v2519 : BitVec 32 := Scalar.muli c2_i32_1815 arg2
  let v2520 : BitVec 32 := Scalar.addi v2519 c0_i32_1816
  let v2521 : Index := Scalar.indexCast v2520
  let c0_1817 : Index := 0#32
  let c7680_1818 : Index := 7680#32
  ![v2521.toNat, 0, 7680]
def k0_off33 (i : grid0.Coords) (c0_i32_1875 : BitVec 32) : Fin 3 → Nat :=
  let c2_i32_1874 : BitVec 32 := 2#32
  let arg2 : BitVec 32 := BitVec.ofNat 32 (i 2).val
  let v2601 : BitVec 32 := Scalar.muli c2_i32_1874 arg2
  let v2602 : BitVec 32 := Scalar.addi v2601 c0_i32_1875
  let v2603 : Index := Scalar.indexCast v2602
  let c0_1876 : Index := 0#32
  let c7936_1877 : Index := 7936#32
  ![v2603.toNat, 0, 7936]
def k0_off34 (i : grid0.Coords) (c0_i32_1927 : BitVec 32) : Fin 3 → Nat :=
  let c2_i32_1926 : BitVec 32 := 2#32
  let arg2 : BitVec 32 := BitVec.ofNat 32 (i 2).val
  let v2677 : BitVec 32 := Scalar.muli c2_i32_1926 arg2
  let v2678 : BitVec 32 := Scalar.addi v2677 c0_i32_1927
  let v2679 : Index := Scalar.indexCast v2678
  let c0_1928 : Index := 0#32
  let c8192_1929 : Index := 8192#32
  ![v2679.toNat, 0, 8192]
def k0_cond2 (i : grid0.Coords) : BitVec 1 :=
  let arg2 : BitVec 32 := BitVec.ofNat 32 (i 2).val
  let c0_i32_1955 : BitVec 32 := 0#32
  let v2723 : BitVec 1 := Scalar.cmpi .eq arg2 c0_i32_1955
  let v2724 : BitVec 32 := Scalar.extui v2723
  let c0_i32_1956 : BitVec 32 := 0#32
  let v2725 : BitVec 1 := Scalar.cmpi .ne v2724 c0_i32_1956
  v2725

def k0_cond3 (i : grid0.Coords) : BitVec 1 :=
  let arg2 : BitVec 32 := BitVec.ofNat 32 (i 2).val
  let c0_i32_1957 : BitVec 32 := 0#32
  let v2726 : BitVec 1 := Scalar.cmpi .sgt arg2 c0_i32_1957
  let v2727 : BitVec 32 := Scalar.extui v2726
  let c0_i32_1958 : BitVec 32 := 0#32
  let v2728 : BitVec 1 := Scalar.cmpi .ne v2727 c0_i32_1958
  v2728

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2x8448x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x8448x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2x1x8448 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S2x1x8448 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x768x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x64x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x768x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S4x64x8448 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S1x768x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x768x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== AttnIdeal.lean ====
variable {F : FTy → Type} [FloatOps F] [Named F]
def κ : String → Option EReal := fun
  | "mask" => some ⊥
  | _ => none
-- ==== AttnRefIdeal.lean ====
abbrev S8208x1024 : Shape := ⟨2, ![8208, 1024]⟩
abbrev S8208x256 : Shape := ⟨2, ![8208, 256]⟩
abbrev S8208x4x4x64 : Shape := ⟨4, ![8208, 4, 4, 64]⟩
abbrev S8208x4x64 : Shape := ⟨3, ![8208, 4, 64]⟩
abbrev S4x8208x8208x4 : Shape := ⟨4, ![4, 8208, 8208, 4]⟩
abbrev S4x4x8208x8208 : Shape := ⟨4, ![4, 4, 8208, 8208]⟩
abbrev S_ : Shape := ⟨0, ![]⟩
abbrev S4x4x8208 : Shape := ⟨3, ![4, 4, 8208]⟩
abbrev S4x4x8208x1 : Shape := ⟨4, ![4, 4, 8208, 1]⟩
abbrev S4x64x4x8208 : Shape := ⟨4, ![4, 64, 4, 8208]⟩
abbrev S4x64x8208 : Shape := ⟨3, ![4, 64, 8208]⟩
abbrev S4x8208x4x64 : Shape := ⟨4, ![4, 8208, 4, 64]⟩
abbrev S4x8208x64 : Shape := ⟨3, ![4, 8208, 64]⟩
abbrev S8448x1024 : Shape := ⟨2, ![8448, 1024]⟩
abbrev S8448x16x64 : Shape := ⟨3, ![8448, 16, 64]⟩
abbrev S16x64x8448 : Shape := ⟨3, ![16, 64, 8448]⟩
abbrev S8448x256 : Shape := ⟨2, ![8448, 256]⟩
abbrev S8448x4x64 : Shape := ⟨3, ![8448, 4, 64]⟩
abbrev S4x8448x64 : Shape := ⟨3, ![4, 8448, 64]⟩

abbrev nBuf : Space → Nat
  | .hbm => 105
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S8208x256, .f32⟩
  | .hbm, ⟨2, _⟩ => ⟨S8208x256, .f32⟩
  | .hbm, ⟨3, _⟩ => ⟨S8208x1024, .f32⟩
  | .hbm, ⟨4, _⟩ => ⟨S8208x4x4x64, .f32⟩
  | .hbm, ⟨5, _⟩ => ⟨S8208x4x64, .f32⟩
  | .hbm, ⟨6, _⟩ => ⟨S8208x4x64, .f32⟩
  | .hbm, ⟨7, _⟩ => ⟨S4x8208x8208x4, .f32⟩
  | .hbm, ⟨8, _⟩ => ⟨S4x4x8208x8208, .f32⟩
  | .hbm, ⟨9, _⟩ => ⟨S_, .f32⟩
  | .hbm, ⟨10, _⟩ => ⟨S4x4x8208x8208, .f32⟩
  | .hbm, ⟨11, _⟩ => ⟨S4x4x8208x8208, .f32⟩
  | .hbm, ⟨12, _⟩ => ⟨S_, .f32⟩
  | .hbm, ⟨13, _⟩ => ⟨S4x4x8208, .f32⟩
  | .hbm, ⟨14, _⟩ => ⟨S4x4x8208x1, .f32⟩
  | .hbm, ⟨15, _⟩ => ⟨S4x4x8208x8208, .f32⟩
  | .hbm, ⟨16, _⟩ => ⟨S4x4x8208x8208, .i1⟩
  | .hbm, ⟨17, _⟩ => ⟨S4x4x8208x8208, .f32⟩
  | .hbm, ⟨18, _⟩ => ⟨S_, .f32⟩
  | .hbm, ⟨19, _⟩ => ⟨S4x4x8208, .f32⟩
  | .hbm, ⟨20, _⟩ => ⟨S_, .f32⟩
  | .hbm, ⟨21, _⟩ => ⟨S4x4x8208, .f32⟩
  | .hbm, ⟨22, _⟩ => ⟨S4x4x8208, .f32⟩
  | .hbm, ⟨23, _⟩ => ⟨S_, .f32⟩
  | .hbm, ⟨24, _⟩ => ⟨S4x4x8208, .f32⟩
  | .hbm, ⟨25, _⟩ => ⟨S4x4x8208, .i1⟩
  | .hbm, ⟨26, _⟩ => ⟨S_, .f32⟩
  | .hbm, ⟨27, _⟩ => ⟨S4x4x8208, .f32⟩
  | .hbm, ⟨28, _⟩ => ⟨S4x4x8208, .i1⟩
  | .hbm, ⟨29, _⟩ => ⟨S_, .f32⟩
  | .hbm, ⟨30, _⟩ => ⟨S4x4x8208, .f32⟩
  | .hbm, ⟨31, _⟩ => ⟨S_, .f32⟩
  | .hbm, ⟨32, _⟩ => ⟨S4x4x8208, .f32⟩
  | .hbm, ⟨33, _⟩ => ⟨S_, .f32⟩
  | .hbm, ⟨34, _⟩ => ⟨S4x4x8208, .f32⟩
  | .hbm, ⟨35, _⟩ => ⟨S4x4x8208, .f32⟩
  | .hbm, ⟨36, _⟩ => ⟨S4x4x8208, .f32⟩
  | .hbm, ⟨37, _⟩ => ⟨S4x4x8208x1, .f32⟩
  | .hbm, ⟨38, _⟩ => ⟨S4x4x8208x8208, .f32⟩
  | .hbm, ⟨39, _⟩ => ⟨S4x4x8208x8208, .f32⟩
  | .hbm, ⟨40, _⟩ => ⟨S4x4x8208x8208, .f32⟩
  | .hbm, ⟨41, _⟩ => ⟨S_, .f32⟩
  | .hbm, ⟨42, _⟩ => ⟨S4x4x8208, .f32⟩
  | .hbm, ⟨43, _⟩ => ⟨S4x4x8208x1, .f32⟩
  | .hbm, ⟨44, _⟩ => ⟨S4x4x8208x8208, .f32⟩
  | .hbm, ⟨45, _⟩ => ⟨S4x4x8208x8208, .f32⟩
  | .hbm, ⟨46, _⟩ => ⟨S4x4x8208x1, .f32⟩
  | .hbm, ⟨47, _⟩ => ⟨S_, .f32⟩
  | .hbm, ⟨48, _⟩ => ⟨S4x4x8208x1, .f32⟩
  | .hbm, ⟨49, _⟩ => ⟨S4x4x8208x1, .f32⟩
  | .hbm, ⟨50, _⟩ => ⟨S4x64x4x8208, .f32⟩
  | .hbm, ⟨51, _⟩ => ⟨S8208x4x4x64, .f32⟩
  | .hbm, ⟨52, _⟩ => ⟨S8208x1024, .f32⟩
  | .hbm, ⟨53, _⟩ => ⟨S8208x4x4x64, .f32⟩
  | .hbm, ⟨54, _⟩ => ⟨S4x64x4x8208, .f32⟩
  | .hbm, ⟨55, _⟩ => ⟨S4x4x8208x8208, .f32⟩
  | .hbm, ⟨56, _⟩ => ⟨S4x64x8208, .f32⟩
  | .hbm, ⟨57, _⟩ => ⟨S8208x4x64, .f32⟩
  | .hbm, ⟨58, _⟩ => ⟨S4x4x8208x8208, .f32⟩
  | .hbm, ⟨59, _⟩ => ⟨S4x4x8208x8208, .f32⟩
  | .hbm, ⟨60, _⟩ => ⟨S4x4x8208x8208, .f32⟩
  | .hbm, ⟨61, _⟩ => ⟨S_, .f32⟩
  | .hbm, ⟨62, _⟩ => ⟨S4x4x8208, .f32⟩
  | .hbm, ⟨63, _⟩ => ⟨S4x4x8208x1, .f32⟩
  | .hbm, ⟨64, _⟩ => ⟨S4x4x8208x1, .f32⟩
  | .hbm, ⟨65, _⟩ => ⟨S4x4x8208x8208, .f32⟩
  | .hbm, ⟨66, _⟩ => ⟨S4x4x8208x8208, .f32⟩
  | .hbm, ⟨67, _⟩ => ⟨S_, .f32⟩
  | .hbm, ⟨68, _⟩ => ⟨S4x4x8208, .f32⟩
  | .hbm, ⟨69, _⟩ => ⟨S4x4x8208x8208, .f32⟩
  | .hbm, ⟨70, _⟩ => ⟨S4x4x8208x8208, .f32⟩
  | .hbm, ⟨71, _⟩ => ⟨S4x4x8208x8208, .f32⟩
  | .hbm, ⟨72, _⟩ => ⟨S_, .f32⟩
  | .hbm, ⟨73, _⟩ => ⟨S4x4x8208x8208, .f32⟩
  | .hbm, ⟨74, _⟩ => ⟨S4x4x8208x8208, .f32⟩
  | .hbm, ⟨75, _⟩ => ⟨S4x8208x8208x4, .f32⟩
  | .hbm, ⟨76, _⟩ => ⟨S4x8208x4x64, .f32⟩
  | .hbm, ⟨77, _⟩ => ⟨S8208x4x4x64, .f32⟩
  | .hbm, ⟨78, _⟩ => ⟨S4x8208x64, .f32⟩
  | .hbm, ⟨79, _⟩ => ⟨S8208x4x64, .f32⟩
  | .hbm, ⟨80, _⟩ => ⟨S8208x256, .f32⟩
  | .hbm, ⟨81, _⟩ => ⟨S8208x256, .f32⟩
  | .hbm, ⟨82, _⟩ => ⟨S8208x1024, .f32⟩
  | .hbm, ⟨83, _⟩ => ⟨S_, .f32⟩
  | .hbm, ⟨84, _⟩ => ⟨S8208x1024, .f32⟩
  | .hbm, ⟨85, _⟩ => ⟨S8208x1024, .f32⟩
  | .hbm, ⟨86, _⟩ => ⟨S_, .i32⟩
  | .hbm, ⟨87, _⟩ => ⟨S_, .f32⟩
  | .hbm, ⟨88, _⟩ => ⟨S8448x1024, .f32⟩
  | .hbm, ⟨89, _⟩ => ⟨S8448x16x64, .f32⟩
  | .hbm, ⟨90, _⟩ => ⟨S16x64x8448, .f32⟩
  | .hbm, ⟨91, _⟩ => ⟨S_, .f32⟩
  | .hbm, ⟨92, _⟩ => ⟨S_, .f32⟩
  | .hbm, ⟨93, _⟩ => ⟨S8208x256, .f32⟩
  | .hbm, ⟨94, _⟩ => ⟨S8208x256, .f32⟩
  | .hbm, ⟨95, _⟩ => ⟨S_, .i32⟩
  | .hbm, ⟨96, _⟩ => ⟨S_, .f32⟩
  | .hbm, ⟨97, _⟩ => ⟨S8448x256, .f32⟩
  | .hbm, ⟨98, _⟩ => ⟨S8448x4x64, .f32⟩
  | .hbm, ⟨99, _⟩ => ⟨S4x8448x64, .f32⟩
  | .hbm, ⟨100, _⟩ => ⟨S_, .i32⟩
  | .hbm, ⟨101, _⟩ => ⟨S_, .f32⟩
  | .hbm, ⟨102, _⟩ => ⟨S8448x256, .f32⟩
  | .hbm, ⟨103, _⟩ => ⟨S8448x4x64, .f32⟩
  | .hbm, ⟨104, _⟩ => ⟨S4x8448x64, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_10 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_11 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_12 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_13 : Ref sig .tc := ⟨.hbm, 83, rfl⟩
abbrev main_v65 : Ref sig .tc := ⟨.hbm, 84, rfl⟩
abbrev main_v66 : Ref sig .tc := ⟨.hbm, 85, rfl⟩
abbrev main_c : Ref sig .tc := ⟨.hbm, 86, rfl⟩
abbrev main_call0_v0 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_14 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_c_15 : Ref sig .tc := ⟨.hbm, 95, rfl⟩
abbrev main_call1_v0 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_c_16 : Ref sig .tc := ⟨.hbm, 100, rfl⟩
abbrev main_call2_v0 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩

abbrev nD : Nat := 1
abbrev τ : Topo := Topo.v7x

variable {F : FTy → Type} [FloatOps F]
-- ==== Gelu.lean ====
abbrev S8448x1024 : Shape := ⟨2, ![8448, 1024]⟩
abbrev S1024 : Shape := ⟨1, ![1024]⟩
abbrev S1x1024 : Shape := ⟨2, ![1, 1024]⟩
abbrev S768x1024 : Shape := ⟨2, ![768, 1024]⟩

abbrev nBuf : Space → Nat
  | .hbm => 13
  | .vmem => 14
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x1024, .f32⟩
  | .hbm, ⟨3, _⟩ => ⟨S8448x1024, .f32⟩
  | .hbm, ⟨4, _⟩ => ⟨S1024, .f32⟩
  | .hbm, ⟨5, _⟩ => ⟨S1x1024, .f32⟩
  | .hbm, ⟨6, _⟩ => ⟨S8448x1024, .f32⟩
  | .hbm, ⟨7, _⟩ => ⟨S8448x1024, .f32⟩
  | .hbm, ⟨8, _⟩ => ⟨S8448x1024, .f32⟩
  | .hbm, ⟨9, _⟩ => ⟨S1x1024, .f32⟩
  | .hbm, ⟨10, _⟩ => ⟨S8448x1024, .f32⟩
  | .hbm, ⟨11, _⟩ => ⟨S8448x1024, .f32⟩
  | .hbm, ⟨12, _⟩ => ⟨S1x1024, .f32⟩
  | .local _ .vmem, ⟨0, _⟩ => ⟨S768x1024, .f32⟩
  | .local _ .vmem, ⟨1, _⟩ => ⟨S768x1024, .f32⟩
  | .local _ .vmem, ⟨2, _⟩ => ⟨S768x1024, .f32⟩
  | .local _ .vmem, ⟨3, _⟩ => ⟨S768x1024, .f32⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | .local _ .vmem, ⟨7, _⟩ => ⟨S768x1024, .f32⟩
  | .local _ .vmem, ⟨8, _⟩ => ⟨S1x1024, .f32⟩
  | .local _ .vmem, ⟨9, _⟩ => ⟨S768x1024, .f32⟩
  | .local _ .vmem, ⟨10, _⟩ => ⟨S768x1024, .f32⟩
  | .local _ .vmem, ⟨11, _⟩ => ⟨S768x1024, .f32⟩
  | .local _ .vmem, ⟨12, _⟩ => ⟨S768x1024, .f32⟩
  | .local _ .vmem, ⟨13, _⟩ => ⟨S1x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S768x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S768x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== GeluIdeal.lean ====
variable {F : FTy → Type} [FloatOps F] [Named F]
def κ : String → Option EReal := fun
  | "half_sqrt" => some (((Real.sqrt 2)⁻¹ : ℝ) : EReal)
  | "norm" => some (((Real.sqrt (2 * Real.pi))⁻¹ : ℝ) : EReal)
  | _ => none
-- ==== GeluRefIdeal.lean ====
abbrev S8448x1024 : Shape := ⟨2, ![8448, 1024]⟩
abbrev S1024 : Shape := ⟨1, ![1024]⟩
abbrev S1x1024 : Shape := ⟨2, ![1, 1024]⟩

abbrev nBuf : Space → Nat
  | .hbm => 9
  | .vmem => 8
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x1024, .f32⟩
  | .hbm, ⟨3, _⟩ => ⟨S8448x1024, .f32⟩
  | .hbm, ⟨4, _⟩ => ⟨S1024, .f32⟩
  | .hbm, ⟨5, _⟩ => ⟨S1x1024, .f32⟩
  | .hbm, ⟨6, _⟩ => ⟨S8448x1024, .f32⟩
  | .hbm, ⟨7, _⟩ => ⟨S8448x1024, .f32⟩
  | .hbm, ⟨8, _⟩ => ⟨S1x1024, .f32⟩
  | .local _ .vmem, ⟨0, _⟩ => ⟨S8448x1024, .f32⟩
  | .local _ .vmem, ⟨1, _⟩ => ⟨S8448x1024, .f32⟩
  | .local _ .vmem, ⟨2, _⟩ => ⟨S8448x1024, .f32⟩
  | .local _ .vmem, ⟨3, _⟩ => ⟨S8448x1024, .f32⟩
  | .local _ .vmem, ⟨4, _⟩ => ⟨S1x1024, .f32⟩
  | .local _ .vmem, ⟨5, _⟩ => ⟨S8448x1024, .f32⟩
  | .local _ .vmem, ⟨6, _⟩ => ⟨S8448x1024, .f32⟩
  | .local _ .vmem, ⟨7, _⟩ => ⟨S1x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "half_sqrt" => some (((Real.sqrt 2)⁻¹ : ℝ) : EReal)
  | "slope" => some ((2 * (Real.sqrt Real.pi)⁻¹ : ℝ) : EReal)
  | _ => none

abbrev grid0 : Pipeline.Grid := .none

abbrev stage0_0 : Fin 1 → Memref sig .tc .vmem S8448x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8448x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8448x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8448x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8448x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8448x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Flash.lean ====
abbrev S8208x1024 : Shape := ⟨2, ![8208, 1024]⟩
abbrev S8208x256 : Shape := ⟨2, ![8208, 256]⟩
abbrev S_ : Shape := ⟨0, ![]⟩
abbrev S8448x1024 : Shape := ⟨2, ![8448, 1024]⟩
abbrev S8448x16x64 : Shape := ⟨3, ![8448, 16, 64]⟩
abbrev S16x8448x64 : Shape := ⟨3, ![16, 8448, 64]⟩
abbrev S8448x256 : Shape := ⟨2, ![8448, 256]⟩
abbrev S8448x4x64 : Shape := ⟨3, ![8448, 4, 64]⟩
abbrev S4x8448x64 : Shape := ⟨3, ![4, 8448, 64]⟩
abbrev S1 : Shape := ⟨1, ![1]⟩
abbrev S4x8448 : Shape := ⟨2, ![4, 8448]⟩
abbrev S4x8448x128 : Shape := ⟨3, ![4, 8448, 128]⟩
abbrev S8x8448x2 : Shape := ⟨3, ![8, 8448, 2]⟩
abbrev S2x768x64 : Shape := ⟨3, ![2, 768, 64]⟩
abbrev S1x8448x64 : Shape := ⟨3, ![1, 8448, 64]⟩
abbrev S1x8448x128 : Shape := ⟨3, ![1, 8448, 128]⟩
abbrev S768x128 : Shape := ⟨2, ![768, 128]⟩
abbrev S1x768x2 : Shape := ⟨3, ![1, 768, 2]⟩
abbrev S768x1 : Shape := ⟨2, ![768, 1]⟩
abbrev S1x256x64 : Shape := ⟨3, ![1, 256, 64]⟩
abbrev S256x64 : Shape := ⟨2, ![256, 64]⟩
abbrev S1x768x64 : Shape := ⟨3, ![1, 768, 64]⟩
abbrev S768x64 : Shape := ⟨2, ![768, 64]⟩
abbrev S768x256 : Shape := ⟨2, ![768, 256]⟩
abbrev S1x256 : Shape := ⟨2, ![1, 256]⟩
abbrev S768 : Shape := ⟨1, ![768]⟩
abbrev S1x256x128 : Shape := ⟨3, ![1, 256, 128]⟩
abbrev S256x128 : Shape := ⟨2, ![256, 128]⟩
abbrev S768x2 : Shape := ⟨2, ![768, 2]⟩

abbrev nBuf : Space → Nat
  | .hbm => 38
  | .vmem => 12
  | .smem => 0
  | _ => 0

abbrev bufTy : (tb : Table) → Fin (tcTables nBuf tb) → BufTy
  | .hbm, ⟨0, _⟩ => ⟨S8208x1024, .f32⟩
  | .hbm, ⟨1, _⟩ => ⟨S8208x256, .f32⟩
  | .hbm, ⟨2, _⟩ => ⟨S8208x256, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8208x1024, .f32⟩
  | .hbm, ⟨8, _⟩ => ⟨S8208x1024, .f32⟩
  | .hbm, ⟨9, _⟩ => ⟨S_, .i32⟩
  | .hbm, ⟨10, _⟩ => ⟨S_, .f32⟩
  | .hbm, ⟨11, _⟩ => ⟨S8448x1024, .f32⟩
  | .hbm, ⟨12, _⟩ => ⟨S8448x1024, .bf16⟩
  | .hbm, ⟨13, _⟩ => ⟨S8448x16x64, .bf16⟩
  | .hbm, ⟨14, _⟩ => ⟨S16x8448x64, .bf16⟩
  | .hbm, ⟨15, _⟩ => ⟨S_, .i32⟩
  | .hbm, ⟨16, _⟩ => ⟨S_, .f32⟩
  | .hbm, ⟨17, _⟩ => ⟨S8448x256, .f32⟩
  | .hbm, ⟨18, _⟩ => ⟨S8448x256, .bf16⟩
  | .hbm, ⟨19, _⟩ => ⟨S8448x4x64, .bf16⟩
  | .hbm, ⟨20, _⟩ => ⟨S4x8448x64, .bf16⟩
  | .hbm, ⟨21, _⟩ => ⟨S_, .i32⟩
  | .hbm, ⟨22, _⟩ => ⟨S_, .f32⟩
  | .hbm, ⟨23, _⟩ => ⟨S8448x256, .f32⟩
  | .hbm, ⟨24, _⟩ => ⟨S8448x256, .bf16⟩
  | .hbm, ⟨25, _⟩ => ⟨S8448x4x64, .bf16⟩
  | .hbm, ⟨26, _⟩ => ⟨S4x8448x64, .bf16⟩
  | .hbm, ⟨27, _⟩ => ⟨S_, .bf16⟩
  | .hbm, ⟨28, _⟩ => ⟨S4x8448x64, .bf16⟩
  | .hbm, ⟨29, _⟩ => ⟨S_, .i32⟩
  | .hbm, ⟨30, _⟩ => ⟨S1, .i32⟩
  | .hbm, ⟨31, _⟩ => ⟨S_, .bf16⟩
  | .hbm, ⟨32, _⟩ => ⟨S4x8448, .bf16⟩
  | .hbm, ⟨33, _⟩ => ⟨S4x8448x64, .bf16⟩
  | .hbm, ⟨34, _⟩ => ⟨S4x8448x128, .bf16⟩
  | .hbm, ⟨35, _⟩ => ⟨S8448x1024, .f32⟩
  | .hbm, ⟨36, _⟩ => ⟨S8448x1024, .bf16⟩
  | .hbm, ⟨37, _⟩ => ⟨S8x8448x2, .f32⟩
  | .local _ .vmem, ⟨0, _⟩ => ⟨S2x768x64, .bf16⟩
  | .local _ .vmem, ⟨1, _⟩ => ⟨S2x768x64, .bf16⟩
  | .local _ .vmem, ⟨2, _⟩ => ⟨S1x8448x64, .bf16⟩
  | .local _ .vmem, ⟨3, _⟩ => ⟨S1x8448x64, .bf16⟩
  | .local _ .vmem, ⟨4, _⟩ => ⟨S1x8448x128, .bf16⟩
  | .local _ .vmem, ⟨5, _⟩ => ⟨S1x8448x128, .bf16⟩
  | .local _ .vmem, ⟨6, _⟩ => ⟨S768x128, .f32⟩
  | .local _ .vmem, ⟨7, _⟩ => ⟨S768x128, .f32⟩
  | .local _ .vmem, ⟨8, _⟩ => ⟨S768x128, .bf16⟩
  | .local _ .vmem, ⟨9, _⟩ => ⟨S768x128, .bf16⟩
  | .local _ .vmem, ⟨10, _⟩ => ⟨S1x768x2, .f32⟩
  | .local _ .vmem, ⟨11, _⟩ => ⟨S1x768x2, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_call2_v0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21_0 : Ref sig .tc := ⟨.hbm, 35, rfl⟩
abbrev main_v21_1 : Ref sig .tc := ⟨.hbm, 36, rfl⟩
abbrev main_v21_2 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x768x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8448x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S768x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S768x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x768x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FlashIdeal.lean ====
variable {F : FTy → Type} [FloatOps F] [Named F]
def κ : String → Option EReal := fun
  | "inv_log2" => some (((Real.log 2)⁻¹ : ℝ) : EReal)
  | "mask" => some ⊥
  | _ => none
-- ==== FlashRefIdeal.lean ====
abbrev S8208x1024 : Shape := ⟨2, ![8208, 1024]⟩
abbrev S8208x256 : Shape := ⟨2, ![8208, 256]⟩
abbrev S_ : Shape := ⟨0, ![]⟩
abbrev S8448x1024 : Shape := ⟨2, ![8448, 1024]⟩
abbrev S8448x4x4x64 : Shape := ⟨4, ![8448, 4, 4, 64]⟩
abbrev S8208x4x64 : Shape := ⟨3, ![8208, 4, 64]⟩
abbrev S4x8208x8448x4 : Shape := ⟨4, ![4, 8208, 8448, 4]⟩
abbrev S4x4x8448x8208 : Shape := ⟨4, ![4, 4, 8448, 8208]⟩
abbrev S4x4x8448 : Shape := ⟨3, ![4, 4, 8448]⟩
abbrev S4x4x8448x1 : Shape := ⟨4, ![4, 4, 8448, 1]⟩
abbrev S4x64x4x8448 : Shape := ⟨4, ![4, 64, 4, 8448]⟩
abbrev S8x2x8448 : Shape := ⟨3, ![8, 2, 8448]⟩
abbrev S8x8448x2 : Shape := ⟨3, ![8, 8448, 2]⟩

abbrev nBuf : Space → Nat
  | .hbm => 42
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S8208x256, .f32⟩
  | .hbm, ⟨2, _⟩ => ⟨S8208x256, .f32⟩
  | .hbm, ⟨3, _⟩ => ⟨S_, .i32⟩
  | .hbm, ⟨4, _⟩ => ⟨S_, .f32⟩
  | .hbm, ⟨5, _⟩ => ⟨S8448x1024, .f32⟩
  | .hbm, ⟨6, _⟩ => ⟨S8448x4x4x64, .f32⟩
  | .hbm, ⟨7, _⟩ => ⟨S8208x4x64, .f32⟩
  | .hbm, ⟨8, _⟩ => ⟨S8208x4x64, .f32⟩
  | .hbm, ⟨9, _⟩ => ⟨S4x8208x8448x4, .f32⟩
  | .hbm, ⟨10, _⟩ => ⟨S4x4x8448x8208, .f32⟩
  | .hbm, ⟨11, _⟩ => ⟨S_, .f32⟩
  | .hbm, ⟨12, _⟩ => ⟨S4x4x8448x8208, .f32⟩
  | .hbm, ⟨13, _⟩ => ⟨S4x4x8448x8208, .f32⟩
  | .hbm, ⟨14, _⟩ => ⟨S_, .f32⟩
  | .hbm, ⟨15, _⟩ => ⟨S4x4x8448, .f32⟩
  | .hbm, ⟨16, _⟩ => ⟨S_, .f32⟩
  | .hbm, ⟨17, _⟩ => ⟨S4x4x8448, .f32⟩
  | .hbm, ⟨18, _⟩ => ⟨S4x4x8448, .f32⟩
  | .hbm, ⟨19, _⟩ => ⟨S4x4x8448x1, .f32⟩
  | .hbm, ⟨20, _⟩ => ⟨S4x4x8448x8208, .f32⟩
  | .hbm, ⟨21, _⟩ => ⟨S4x4x8448x8208, .f32⟩
  | .hbm, ⟨22, _⟩ => ⟨S4x4x8448x8208, .f32⟩
  | .hbm, ⟨23, _⟩ => ⟨S_, .f32⟩
  | .hbm, ⟨24, _⟩ => ⟨S4x4x8448, .f32⟩
  | .hbm, ⟨25, _⟩ => ⟨S4x4x8448x1, .f32⟩
  | .hbm, ⟨26, _⟩ => ⟨S4x4x8448x8208, .f32⟩
  | .hbm, ⟨27, _⟩ => ⟨S4x4x8448x8208, .f32⟩
  | .hbm, ⟨28, _⟩ => ⟨S4x64x4x8448, .f32⟩
  | .hbm, ⟨29, _⟩ => ⟨S8448x4x4x64, .f32⟩
  | .hbm, ⟨30, _⟩ => ⟨S8448x1024, .f32⟩
  | .hbm, ⟨31, _⟩ => ⟨S4x4x8448x8208, .f32⟩
  | .hbm, ⟨32, _⟩ => ⟨S_, .f32⟩
  | .hbm, ⟨33, _⟩ => ⟨S4x4x8448, .f32⟩
  | .hbm, ⟨34, _⟩ => ⟨S4x4x8448, .f32⟩
  | .hbm, ⟨35, _⟩ => ⟨S_, .f32⟩
  | .hbm, ⟨36, _⟩ => ⟨S_, .f32⟩
  | .hbm, ⟨37, _⟩ => ⟨S4x4x8448, .f32⟩
  | .hbm, ⟨38, _⟩ => ⟨S4x4x8448, .f32⟩
  | .hbm, ⟨39, _⟩ => ⟨S8448x1024, .bf16⟩
  | .hbm, ⟨40, _⟩ => ⟨S8x2x8448, .f32⟩
  | .hbm, ⟨41, _⟩ => ⟨S8x8448x2, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Loss.lean ====
abbrev S8448x1024 : Shape := ⟨2, ![8448, 1024]⟩
abbrev S8192x1024 : Shape := ⟨2, ![8192, 1024]⟩
abbrev S1x1024 : Shape := ⟨2, ![1, 1024]⟩
abbrev S256x1024 : Shape := ⟨2, ![256, 1024]⟩
abbrev S1024 : Shape := ⟨1, ![1024]⟩
abbrev S_ : Shape := ⟨0, ![]⟩

abbrev nBuf : Space → Nat
  | .hbm => 10
  | .vmem => 7
  | .smem => 0
  | _ => 0

abbrev bufTy : (tb : Table) → Fin (tcTables nBuf tb) → BufTy
  | .hbm, ⟨0, _⟩ => ⟨S8448x1024, .f32⟩
  | .hbm, ⟨1, _⟩ => ⟨S8192x1024, .f32⟩
  | .hbm, ⟨2, _⟩ => ⟨S8448x1024, .f32⟩
  | .hbm, ⟨3, _⟩ => ⟨S1x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S8448x1024 : Shape := ⟨2, ![8448, 1024]⟩
abbrev S8192x1024 : Shape := ⟨2, ![8192, 1024]⟩
abbrev S_ : Shape := ⟨0, ![]⟩
abbrev S8192 : Shape := ⟨1, ![8192]⟩

abbrev nBuf : Space → Nat
  | .hbm => 28
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S_, .f32⟩
  | .hbm, ⟨11, _⟩ => ⟨S8192, .f32⟩
  | .hbm, ⟨12, _⟩ => ⟨S8192, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8192, .f32⟩
  | .hbm, ⟨21, _⟩ => ⟨S_, .f32⟩
  | .hbm, ⟨22, _⟩ => ⟨S8192, .f32⟩
  | .hbm, ⟨23, _⟩ => ⟨S8192, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_7 : Ref sig .tc := ⟨.hbm, 26, rfl⟩
abbrev main_v16 : Ref sig .tc := ⟨.hbm, 27, rfl⟩

abbrev nD : Nat := 1
abbrev τ : Topo := Topo.v7x

variable {F : FTy → Type} [FloatOps F]
-- ==== Dh.lean ====
abbrev S8448x1024 : Shape := ⟨2, ![8448, 1024]⟩
abbrev S768x1024 : Shape := ⟨2, ![768, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x1024, .f32⟩
  | .local _ .vmem, ⟨0, _⟩ => ⟨S768x1024, .f32⟩
  | .local _ .vmem, ⟨1, _⟩ => ⟨S768x1024, .f32⟩
  | .local _ .vmem, ⟨2, _⟩ => ⟨S768x1024, .f32⟩
  | .local _ .vmem, ⟨3, _⟩ => ⟨S768x1024, .f32⟩
  | .local _ .vmem, ⟨4, _⟩ => ⟨S768x1024, .f32⟩
  | .local _ .vmem, ⟨5, _⟩ => ⟨S768x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DhRefIdeal.lean ====
abbrev S8448x1024 : Shape := ⟨2, ![8448, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S_, .f32⟩
  | .hbm, ⟨3, _⟩ => ⟨S8448x1024, .f32⟩
  | .hbm, ⟨4, _⟩ => ⟨S_, .f32⟩
  | .hbm, ⟨5, _⟩ => ⟨S8448x1024, .f32⟩
  | .hbm, ⟨6, _⟩ => ⟨S8448x1024, .f32⟩
  | .hbm, ⟨7, _⟩ => ⟨S_, .f32⟩
  | .hbm, ⟨8, _⟩ => ⟨S8448x1024, .f32⟩
  | .hbm, ⟨9, _⟩ => ⟨S8448x1024, .f32⟩
  | .hbm, ⟨10, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Delta.lean ====
abbrev S8448x1024 : Shape := ⟨2, ![8448, 1024]⟩
abbrev S1024 : Shape := ⟨1, ![1024]⟩
abbrev S1024x1 : Shape := ⟨2, ![1024, 1]⟩
abbrev S_ : Shape := ⟨0, ![]⟩
abbrev S128 : Shape := ⟨1, ![128]⟩
abbrev S1x128 : Shape := ⟨2, ![1, 128]⟩
abbrev S1024x128 : Shape := ⟨2, ![1024, 128]⟩
abbrev S128x1024 : Shape := ⟨2, ![128, 1024]⟩
abbrev S8448x128 : Shape := ⟨2, ![8448, 128]⟩
abbrev S768x1024 : Shape := ⟨2, ![768, 1024]⟩
abbrev S768x128 : Shape := ⟨2, ![768, 128]⟩

abbrev nBuf : Space → Nat
  | .hbm => 35
  | .vmem => 7
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S1024, .i32⟩
  | .hbm, ⟨3, _⟩ => ⟨S1024x1, .i32⟩
  | .hbm, ⟨4, _⟩ => ⟨S_, .i32⟩
  | .hbm, ⟨5, _⟩ => ⟨S_, .i32⟩
  | .hbm, ⟨6, _⟩ => ⟨S1024x1, .i32⟩
  | .hbm, ⟨7, _⟩ => ⟨S1024x1, .i32⟩
  | .hbm, ⟨8, _⟩ => ⟨S1024x1, .i32⟩
  | .hbm, ⟨9, _⟩ => ⟨S_, .i32⟩
  | .hbm, ⟨10, _⟩ => ⟨S1024x1, .i32⟩
  | .hbm, ⟨11, _⟩ => ⟨S1024x1, .i1⟩
  | .hbm, ⟨12, _⟩ => ⟨S1024x1, .i32⟩
  | .hbm, ⟨13, _⟩ => ⟨S1024x1, .i32⟩
  | .hbm, ⟨14, _⟩ => ⟨S_, .i32⟩
  | .hbm, ⟨15, _⟩ => ⟨S1024x1, .i32⟩
  | .hbm, ⟨16, _⟩ => ⟨S1024x1, .i1⟩
  | .hbm, ⟨17, _⟩ => ⟨S1024x1, .i1⟩
  | .hbm, ⟨18, _⟩ => ⟨S_, .i32⟩
  | .hbm, ⟨19, _⟩ => ⟨S1024x1, .i32⟩
  | .hbm, ⟨20, _⟩ => ⟨S1024x1, .i32⟩
  | .hbm, ⟨21, _⟩ => ⟨S1024x1, .i32⟩
  | .hbm, ⟨22, _⟩ => ⟨S128, .i32⟩
  | .hbm, ⟨23, _⟩ => ⟨S1x128, .i32⟩
  | .hbm, ⟨24, _⟩ => ⟨S1024x128, .i32⟩
  | .hbm, ⟨25, _⟩ => ⟨S1024x128, .i32⟩
  | .hbm, ⟨26, _⟩ => ⟨S1024x128, .i1⟩
  | .hbm, ⟨27, _⟩ => ⟨S1024x128, .f32⟩
  | .hbm, ⟨28, _⟩ => ⟨S_, .f32⟩
  | .hbm, ⟨29, _⟩ => ⟨S1024x128, .f32⟩
  | .hbm, ⟨30, _⟩ => ⟨S1024x128, .f32⟩
  | .hbm, ⟨31, _⟩ => ⟨S1024x128, .f32⟩
  | .hbm, ⟨32, _⟩ => ⟨S128x1024, .f32⟩
  | .hbm, ⟨33, _⟩ => ⟨S8448x1024, .bf16⟩
  | .hbm, ⟨34, _⟩ => ⟨S8448x128, .f32⟩
  | .local _ .vmem, ⟨0, _⟩ => ⟨S768x1024, .bf16⟩
  | .local _ .vmem, ⟨1, _⟩ => ⟨S768x1024, .bf16⟩
  | .local _ .vmem, ⟨2, _⟩ => ⟨S768x1024, .f32⟩
  | .local _ .vmem, ⟨3, _⟩ => ⟨S768x1024, .f32⟩
  | .local _ .vmem, ⟨4, _⟩ => ⟨S1024x128, .f32⟩
  | .local _ .vmem, ⟨5, _⟩ => ⟨S768x128, .f32⟩
  | .local _ .vmem, ⟨6, _⟩ => ⟨S768x128, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S768x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DeltaRefIdeal.lean ====
abbrev S8448x1024 : Shape := ⟨2, ![8448, 1024]⟩
abbrev S8448x16x64 : Shape := ⟨3, ![8448, 16, 64]⟩
abbrev S_ : Shape := ⟨0, ![]⟩
abbrev S8448x16 : Shape := ⟨2, ![8448, 16]⟩
abbrev S8448x128 : Shape := ⟨2, ![8448, 128]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x1024, .f32⟩
  | .hbm, ⟨3, _⟩ => ⟨S8448x16x64, .f32⟩
  | .hbm, ⟨4, _⟩ => ⟨S_, .f32⟩
  | .hbm, ⟨5, _⟩ => ⟨S8448x16, .f32⟩
  | .hbm, ⟨6, _⟩ => ⟨S_, .i32⟩
  | .hbm, ⟨7, _⟩ => ⟨S_, .f32⟩
  | .hbm, ⟨8, _⟩ => ⟨S8448x128, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== SGelu.lean ====
abbrev S8448x1024 : Shape := ⟨2, ![8448, 1024]⟩
abbrev S1024 : Shape := ⟨1, ![1024]⟩
abbrev S1x1024 : Shape := ⟨2, ![1, 1024]⟩
abbrev S768x1024 : Shape := ⟨2, ![768, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S1024, .f32⟩
  | .hbm, ⟨3, _⟩ => ⟨S1x1024, .f32⟩
  | .hbm, ⟨4, _⟩ => ⟨S8448x1024, .f32⟩
  | .hbm, ⟨5, _⟩ => ⟨S8448x1024, .bf16⟩
  | .local _ .vmem, ⟨0, _⟩ => ⟨S768x1024, .f32⟩
  | .local _ .vmem, ⟨1, _⟩ => ⟨S768x1024, .f32⟩
  | .local _ .vmem, ⟨2, _⟩ => ⟨S768x1024, .f32⟩
  | .local _ .vmem, ⟨3, _⟩ => ⟨S768x1024, .f32⟩
  | .local _ .vmem, ⟨4, _⟩ => ⟨S1x1024, .f32⟩
  | .local _ .vmem, ⟨5, _⟩ => ⟨S768x1024, .f32⟩
  | .local _ .vmem, ⟨6, _⟩ => ⟨S768x1024, .f32⟩
  | .local _ .vmem, ⟨7, _⟩ => ⟨S768x1024, .bf16⟩
  | .local _ .vmem, ⟨8, _⟩ => ⟨S768x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SGeluRefIdeal.lean ====
abbrev S8448x1024 : Shape := ⟨2, ![8448, 1024]⟩
abbrev S1024 : Shape := ⟨1, ![1024]⟩
abbrev S1x1024 : Shape := ⟨2, ![1, 1024]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S1024, .f32⟩
  | .hbm, ⟨3, _⟩ => ⟨S1x1024, .f32⟩
  | .hbm, ⟨4, _⟩ => ⟨S8448x1024, .f32⟩
  | .hbm, ⟨5, _⟩ => ⟨S8448x1024, .f32⟩
  | .hbm, ⟨6, _⟩ => ⟨S8448x1024, .f32⟩
  | .hbm, ⟨7, _⟩ => ⟨S_, .f32⟩
  | .hbm, ⟨8, _⟩ => ⟨S8448x1024, .f32⟩
  | .hbm, ⟨9, _⟩ => ⟨S8448x1024, .f32⟩
  | .hbm, ⟨10, _⟩ => ⟨S8448x1024, .f32⟩
  | .hbm, ⟨11, _⟩ => ⟨S_, .f32⟩
  | .hbm, ⟨12, _⟩ => ⟨S8448x1024, .f32⟩
  | .hbm, ⟨13, _⟩ => ⟨S8448x1024, .f32⟩
  | .hbm, ⟨14, _⟩ => ⟨S8448x1024, .f32⟩
  | .hbm, ⟨15, _⟩ => ⟨S8448x1024, .f32⟩
  | .hbm, ⟨16, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== SGlu.lean ====
abbrev S8448x1024 : Shape := ⟨2, ![8448, 1024]⟩
abbrev S768x1024 : Shape := ⟨2, ![768, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x1024, .bf16⟩
  | .local _ .vmem, ⟨0, _⟩ => ⟨S768x1024, .f32⟩
  | .local _ .vmem, ⟨1, _⟩ => ⟨S768x1024, .f32⟩
  | .local _ .vmem, ⟨2, _⟩ => ⟨S768x1024, .f32⟩
  | .local _ .vmem, ⟨3, _⟩ => ⟨S768x1024, .f32⟩
  | .local _ .vmem, ⟨4, _⟩ => ⟨S768x1024, .bf16⟩
  | .local _ .vmem, ⟨5, _⟩ => ⟨S768x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SGluRefIdeal.lean ====
abbrev S8448x1024 : Shape := ⟨2, ![8448, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S_, .f32⟩
  | .hbm, ⟨3, _⟩ => ⟨S8448x1024, .f32⟩
  | .hbm, ⟨4, _⟩ => ⟨S8448x1024, .f32⟩
  | .hbm, ⟨5, _⟩ => ⟨S8448x1024, .f32⟩
  | .hbm, ⟨6, _⟩ => ⟨S_, .f32⟩
  | .hbm, ⟨7, _⟩ => ⟨S8448x1024, .f32⟩
  | .hbm, ⟨8, _⟩ => ⟨S8448x1024, .f32⟩
  | .hbm, ⟨9, _⟩ => ⟨S8448x1024, .f32⟩
  | .hbm, ⟨10, _⟩ => ⟨S8448x1024, .f32⟩
  | .hbm, ⟨11, _⟩ => ⟨S8448x1024, .f32⟩
  | .hbm, ⟨12, _⟩ => ⟨S8448x1024, .f32⟩
  | .hbm, ⟨13, _⟩ => ⟨S_, .f32⟩
  | .hbm, ⟨14, _⟩ => ⟨S8448x1024, .f32⟩
  | .hbm, ⟨15, _⟩ => ⟨S8448x1024, .f32⟩
  | .hbm, ⟨16, _⟩ => ⟨S_, .f32⟩
  | .hbm, ⟨17, _⟩ => ⟨S8448x1024, .f32⟩
  | .hbm, ⟨18, _⟩ => ⟨S8448x1024, .f32⟩
  | .hbm, ⟨19, _⟩ => ⟨S8448x1024, .f32⟩
  | .hbm, ⟨20, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== FfnUp.lean ====
abbrev S8448x1024 : Shape := ⟨2, ![8448, 1024]⟩
abbrev S1024x2816 : Shape := ⟨2, ![1024, 2816]⟩
abbrev S2816x1024 : Shape := ⟨2, ![2816, 1024]⟩
abbrev S8448x2816 : Shape := ⟨2, ![8448, 2816]⟩
abbrev S256x1024 : Shape := ⟨2, ![256, 1024]⟩
abbrev S256x2816 : Shape := ⟨2, ![256, 2816]⟩

abbrev nBuf : Space → Nat
  | .hbm => 11
  | .vmem => 10
  | .smem => 0
  | _ => 0

abbrev bufTy : (tb : Table) → Fin (tcTables nBuf tb) → BufTy
  | .hbm, ⟨0, _⟩ => ⟨S8448x1024, .f32⟩
  | .hbm, ⟨1, _⟩ => ⟨S1024x2816, .f32⟩
  | .hbm, ⟨2, _⟩ => ⟨S1024x2816, .f32⟩
  | .hbm, ⟨3, _⟩ => ⟨S8448x1024, .bf16⟩
  | .hbm, ⟨4, _⟩ => ⟨S2816x1024, .f32⟩
  | .hbm, ⟨5, _⟩ => ⟨S2816x1024, .bf16⟩
  | .hbm, ⟨6, _⟩ => ⟨S2816x1024, .f32⟩
  | .hbm, ⟨7, _⟩ => ⟨S2816x1024, .bf16⟩
  | .hbm, ⟨8, _⟩ => ⟨S8448x2816, .bf16⟩
  | .hbm, ⟨9, _⟩ => ⟨S8448x2816, .bf16⟩
  | .hbm, ⟨10, _⟩ => ⟨S8448x2816, .bf16⟩
  | .local _ .vmem, ⟨0, _⟩ => ⟨S256x1024, .bf16⟩
  | .local _ .vmem, ⟨1, _⟩ => ⟨S256x1024, .bf16⟩
  | .local _ .vmem, ⟨2, _⟩ => ⟨S2816x1024, .bf16⟩
  | .local _ .vmem, ⟨3, _⟩ => ⟨S2816x1024, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnUpRefIdeal.lean ====
abbrev S8448x1024 : Shape := ⟨2, ![8448, 1024]⟩
abbrev S1024x2816 : Shape := ⟨2, ![1024, 2816]⟩
abbrev S8448x2816 : Shape := ⟨2, ![8448, 2816]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x2816, .f32⟩
  | .hbm, ⟨2, _⟩ => ⟨S1024x2816, .f32⟩
  | .hbm, ⟨3, _⟩ => ⟨S8448x2816, .f32⟩
  | .hbm, ⟨4, _⟩ => ⟨S8448x2816, .f32⟩
  | .hbm, ⟨5, _⟩ => ⟨S8448x2816, .bf16⟩
  | .hbm, ⟨6, _⟩ => ⟨S8448x2816, .bf16⟩
  | .hbm, ⟨7, _⟩ => ⟨S8448x2816, .f32⟩
  | .hbm, ⟨8, _⟩ => ⟨S8448x2816, .f32⟩
  | .hbm, ⟨9, _⟩ => ⟨S_, .f32⟩
  | .hbm, ⟨10, _⟩ => ⟨S8448x2816, .f32⟩
  | .hbm, ⟨11, _⟩ => ⟨S8448x2816, .f32⟩
  | .hbm, ⟨12, _⟩ => ⟨S_, .f32⟩
  | .hbm, ⟨13, _⟩ => ⟨S8448x2816, .f32⟩
  | .hbm, ⟨14, _⟩ => ⟨S8448x2816, .f32⟩
  | .hbm, ⟨15, _⟩ => ⟨S8448x2816, .f32⟩
  | .hbm, ⟨16, _⟩ => ⟨S8448x2816, .f32⟩
  | .hbm, ⟨17, _⟩ => ⟨S8448x2816, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Down.lean ====
abbrev S8448x2816 : Shape := ⟨2, ![8448, 2816]⟩
abbrev S2816x1024 : Shape := ⟨2, ![2816, 1024]⟩
abbrev S8448x1024 : Shape := ⟨2, ![8448, 1024]⟩
abbrev S1024 : Shape := ⟨1, ![1024]⟩
abbrev S1x1024 : Shape := ⟨2, ![1, 1024]⟩
abbrev S768x2816 : Shape := ⟨2, ![768, 2816]⟩
abbrev S768x1024 : Shape := ⟨2, ![768, 1024]⟩
abbrev S768 : Shape := ⟨1, ![768]⟩
abbrev S768x1 : Shape := ⟨2, ![768, 1]⟩

abbrev nBuf : Space → Nat
  | .hbm => 12
  | .vmem => 13
  | .smem => 0
  | _ => 0

abbrev bufTy : (tb : Table) → Fin (tcTables nBuf tb) → BufTy
  | .hbm, ⟨0, _⟩ => ⟨S8448x2816, .f32⟩
  | .hbm, ⟨1, _⟩ => ⟨S2816x1024, .f32⟩
  | .hbm, ⟨2, _⟩ => ⟨S8448x1024, .f32⟩
  | .hbm, ⟨3, _⟩ => ⟨S1024, .f32⟩
  | .hbm, ⟨4, _⟩ => ⟨S1024, .f32⟩
  | .hbm, ⟨5, _⟩ => ⟨S8448x2816, .bf16⟩
  | .hbm, ⟨6, _⟩ => ⟨S2816x1024, .bf16⟩
  | .hbm, ⟨7, _⟩ => ⟨S1x1024, .f32⟩
  | .hbm, ⟨8, _⟩ => ⟨S1x1024, .f32⟩
  | .hbm, ⟨9, _⟩ => ⟨S8448x1024, .f32⟩
  | .hbm, ⟨10, _⟩ => ⟨S8448x1024, .f32⟩
  | .hbm, ⟨11, _⟩ => ⟨S8448x1024, .bf16⟩
  | .local _ .vmem, ⟨0, _⟩ => ⟨S768x2816, .bf16⟩
  | .local _ .vmem, ⟨1, _⟩ => ⟨S768x2816, .bf16⟩
  | .local _ .vmem, ⟨2, _⟩ => ⟨S2816x1024, .bf16⟩
  | .local _ .vmem, ⟨3, _⟩ => ⟨S768x1024, .f32⟩
  | .local _ .vmem, ⟨4, _⟩ => ⟨S768x1024, .f32⟩
  | .local _ .vmem, ⟨5, _⟩ => ⟨S1x1024, .f32⟩
  | .local _ .vmem, ⟨6, _⟩ => ⟨S1x1024, .f32⟩
  | .local _ .vmem, ⟨7, _⟩ => ⟨S768x1024, .f32⟩
  | .local _ .vmem, ⟨8, _⟩ => ⟨S768x1024, .f32⟩
  | .local _ .vmem, ⟨9, _⟩ => ⟨S768x1024, .f32⟩
  | .local _ .vmem, ⟨10, _⟩ => ⟨S768x1024, .f32⟩
  | .local _ .vmem, ⟨11, _⟩ => ⟨S768x1024, .bf16⟩
  | .local _ .vmem, ⟨12, _⟩ => ⟨S768x1024, .bf16⟩
  | _, _ => ⟨S8448x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S768x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S768x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S768x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== DownRefIdeal.lean ====
abbrev S8448x2816 : Shape := ⟨2, ![8448, 2816]⟩
abbrev S2816x1024 : Shape := ⟨2, ![2816, 1024]⟩
abbrev S8448x1024 : Shape := ⟨2, ![8448, 1024]⟩
abbrev S1024 : Shape := ⟨1, ![1024]⟩
abbrev S_ : Shape := ⟨0, ![]⟩
abbrev S8448 : Shape := ⟨1, ![8448]⟩
abbrev S8448x1 : Shape := ⟨2, ![8448, 1]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8448x2816, .f32⟩
  | .hbm, ⟨1, _⟩ => ⟨S2816x1024, .f32⟩
  | .hbm, ⟨2, _⟩ => ⟨S8448x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8448x1024, .f32⟩
  | .hbm, ⟨7, _⟩ => ⟨S8448x1024, .f32⟩
  | .hbm, ⟨8, _⟩ => ⟨S8448x1024, .f32⟩
  | .hbm, ⟨9, _⟩ => ⟨S8448x1024, .f32⟩
  | .hbm, ⟨10, _⟩ => ⟨S_, .f32⟩
  | .hbm, ⟨11, _⟩ => ⟨S8448, .f32⟩
  | .hbm, ⟨12, _⟩ => ⟨S8448x1, .f32⟩
  | .hbm, ⟨13, _⟩ => ⟨S_, .f32⟩
  | .hbm, ⟨14, _⟩ => ⟨S8448x1, .f32⟩
  | .hbm, ⟨15, _⟩ => ⟨S8448x1, .f32⟩
  | .hbm, ⟨16, _⟩ => ⟨S8448x1024, .f32⟩
  | .hbm, ⟨17, _⟩ => ⟨S8448x1024, .f32⟩
  | .hbm, ⟨18, _⟩ => ⟨S8448x1024, .f32⟩
  | .hbm, ⟨19, _⟩ => ⟨S_, .f32⟩
  | .hbm, ⟨20, _⟩ => ⟨S8448, .f32⟩
  | .hbm, ⟨21, _⟩ => ⟨S8448x1, .f32⟩
  | .hbm, ⟨22, _⟩ => ⟨S_, .f32⟩
  | .hbm, ⟨23, _⟩ => ⟨S8448x1, .f32⟩
  | .hbm, ⟨24, _⟩ => ⟨S8448x1, .f32⟩
  | .hbm, ⟨25, _⟩ => ⟨S8448x1024, .f32⟩
  | .hbm, ⟨26, _⟩ => ⟨S8448x1024, .f32⟩
  | .hbm, ⟨27, _⟩ => ⟨S_, .f32⟩
  | .hbm, ⟨28, _⟩ => ⟨S8448x1, .f32⟩
  | .hbm, ⟨29, _⟩ => ⟨S8448x1, .f32⟩
  | .hbm, ⟨30, _⟩ => ⟨S8448x1, .f32⟩
  | .hbm, ⟨31, _⟩ => ⟨S8448x1024, .f32⟩
  | .hbm, ⟨32, _⟩ => ⟨S8448x1024, .f32⟩
  | .hbm, ⟨33, _⟩ => ⟨S1x1024, .f32⟩
  | .hbm, ⟨34, _⟩ => ⟨S8448x1024, .f32⟩
  | .hbm, ⟨35, _⟩ => ⟨S8448x1024, .f32⟩
  | .hbm, ⟨36, _⟩ => ⟨S1x1024, .f32⟩
  | .hbm, ⟨37, _⟩ => ⟨S8448x1024, .f32⟩
  | .hbm, ⟨38, _⟩ => ⟨S8448x1024, .f32⟩
  | .hbm, ⟨39, _⟩ => ⟨S8448x1024, .bf16⟩
  | _, _ => ⟨S8448x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Rope.lean ====
abbrev S8448x1536 : Shape := ⟨2, ![8448, 1536]⟩
abbrev S64 : Shape := ⟨1, ![64]⟩
abbrev S1x64 : Shape := ⟨2, ![1, 64]⟩
abbrev S16x64 : Shape := ⟨2, ![16, 64]⟩
abbrev S1024 : Shape := ⟨1, ![1024]⟩
abbrev S1x1024 : Shape := ⟨2, ![1, 1024]⟩
abbrev S4x64 : Shape := ⟨2, ![4, 64]⟩
abbrev S256 : Shape := ⟨1, ![256]⟩
abbrev S1x256 : Shape := ⟨2, ![1, 256]⟩
abbrev S1024x1 : Shape := ⟨2, ![1024, 1]⟩
abbrev S_ : Shape := ⟨0, ![]⟩
abbrev S128 : Shape := ⟨1, ![128]⟩
abbrev S1x128 : Shape := ⟨2, ![1, 128]⟩
abbrev S1024x128 : Shape := ⟨2, ![1024, 128]⟩
abbrev S128x1024 : Shape := ⟨2, ![128, 1024]⟩
abbrev S8448 : Shape := ⟨1, ![8448]⟩
abbrev S16 : Shape := ⟨1, ![16]⟩
abbrev S8448x1 : Shape := ⟨2, ![8448, 1]⟩
abbrev S1x16 : Shape := ⟨2, ![1, 16]⟩
abbrev S8448x16 : Shape := ⟨2, ![8448, 16]⟩
abbrev S8448x64 : Shape := ⟨2, ![8448, 64]⟩
abbrev S1x8448x1x64 : Shape := ⟨4, ![1, 8448, 1, 64]⟩
abbrev S1x8448x2x64 : Shape := ⟨4, ![1, 8448, 2, 64]⟩
abbrev S8448x128 : Shape := ⟨2, ![8448, 128]⟩
abbrev S8448x1024 : Shape := ⟨2, ![8448, 1024]⟩
abbrev S8448x256 : Shape := ⟨2, ![8448, 256]⟩
abbrev S768x1536 : Shape := ⟨2, ![768, 1536]⟩
abbrev S768x128 : Shape := ⟨2, ![768, 128]⟩
abbrev S768x1024 : Shape := ⟨2, ![768, 1024]⟩
abbrev S768x256 : Shape := ⟨2, ![768, 256]⟩
abbrev S256x128 : Shape := ⟨2, ![256, 128]⟩
abbrev S128x256 : Shape := ⟨2, ![128, 256]⟩

abbrev nBuf : Space → Nat
  | .hbm => 144
  | .vmem => 16
  | .smem => 0
  | _ => 0

abbrev hbmTy0_0 (i : Nat) : BufTy := match i % 128 with
  | 0 => ⟨S8448x1536, .f32⟩
  | 1 => ⟨S64, .f32⟩
  | 2 => ⟨S64, .f32⟩
  | 3 => ⟨S1x64, .f32⟩
  | 4 => ⟨S16x64, .f32⟩
  | 5 => ⟨S1024, .f32⟩
  | 6 => ⟨S1x1024, .f32⟩
  | 7 => ⟨S1x64, .f32⟩
  | 8 => ⟨S4x64, .f32⟩
  | 9 => ⟨S256, .f32⟩
  | 10 => ⟨S1x256, .f32⟩
  | 11 => ⟨S1024, .i32⟩
  | 12 => ⟨S1024x1, .i32⟩
  | 13 => ⟨S_, .i32⟩
  | 14 => ⟨S_, .i32⟩
  | 15 => ⟨S1024x1, .i32⟩
  | 16 => ⟨S1024x1, .i32⟩
  | 17 => ⟨S1024x1, .i32⟩
  | 18 => ⟨S_, .i32⟩
  | 19 => ⟨S1024x1, .i32⟩
  | 20 => ⟨S1024x1, .i1⟩
  | 21 => ⟨S1024x1, .i32⟩
  | 22 => ⟨S1024x1, .i32⟩
  | 23 => ⟨S_, .i32⟩
  | 24 => ⟨S1024x1, .i32⟩
  | 25 => ⟨S1024x1, .i1⟩
  | 26 => ⟨S1024x1, .i1⟩
  | 27 => ⟨S_, .i32⟩
  | 28 => ⟨S1024x1, .i32⟩
  | 29 => ⟨S1024x1, .i32⟩
  | 30 => ⟨S1024x1, .i32⟩
  | 31 => ⟨S128, .i32⟩
  | 32 => ⟨S1x128, .i32⟩
  | 33 => ⟨S1024x128, .i32⟩
  | 34 => ⟨S1024x128, .i32⟩
  | 35 => ⟨S1024x128, .i1⟩
  | 36 => ⟨S1024x128, .f32⟩
  | 37 => ⟨S_, .f32⟩
  | 38 => ⟨S1024x128, .f32⟩
  | 39 => ⟨S1024x128, .f32⟩
  | 40 => ⟨S1024x128, .f32⟩
  | 41 => ⟨S128x1024, .f32⟩
  | 42 => ⟨S8448, .i32⟩
  | 43 => ⟨S_, .i32⟩
  | 44 => ⟨S8448, .i32⟩
  | 45 => ⟨S8448, .i32⟩
  | 46 => ⟨S_, .i32⟩
  | 47 => ⟨S8448, .i32⟩
  | 48 => ⟨S8448, .i1⟩
  | 49 => ⟨S_, .i32⟩
  | 50 => ⟨S_, .i32⟩
  | 51 => ⟨S8448, .i32⟩
  | 52 => ⟨S8448, .i32⟩
  | 53 => ⟨S8448, .i32⟩
  | 54 => ⟨S_, .i32⟩
  | 55 => ⟨S8448, .i32⟩
  | 56 => ⟨S8448, .i1⟩
  | 57 => ⟨S8448, .i32⟩
  | 58 => ⟨S8448, .i32⟩
  | 59 => ⟨S_, .i32⟩
  | 60 => ⟨S8448, .i32⟩
  | 61 => ⟨S8448, .i1⟩
  | 62 => ⟨S8448, .i1⟩
  | 63 => ⟨S_, .i32⟩
  | 64 => ⟨S8448, .i32⟩
  | 65 => ⟨S8448, .i32⟩
  | 66 => ⟨S8448, .i32⟩
  | 67 => ⟨S_, .i32⟩
  | 68 => ⟨S_, .i32⟩
  | 69 => ⟨S8448, .i32⟩
  | 70 => ⟨S8448, .i32⟩
  | 71 => ⟨S8448, .f32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S8448, .i32⟩
  | 79 => ⟨S8448, .i32⟩
  | 80 => ⟨S_, .i32⟩
  | 81 => ⟨S8448, .i32⟩
  | 82 => ⟨S8448, .i1⟩
  | 83 => ⟨S_, .i32⟩
  | 84 => ⟨S8448, .i32⟩
  | 85 => ⟨S8448, .i1⟩
  | 86 => ⟨S_, .i32⟩
  | 87 => ⟨S_, .i1⟩
  | 88 => ⟨S8448, .i1⟩
  | 89 => ⟨S8448, .i1⟩
  | 90 => ⟨S8448, .i1⟩
  | 91 => ⟨S8448, .i32⟩
  | 92 => ⟨S8448, .i32⟩
  | 93 => ⟨S8448, .i32⟩
  | 94 => ⟨S_, .i32⟩
  | 95 => ⟨S_, .i32⟩
  | 96 => ⟨S8448, .i32⟩
  | 97 => ⟨S8448, .i32⟩
  | 98 => ⟨S8448, .f32⟩
  | 99 => ⟨S16, .f32⟩
  | 100 => ⟨S_, .f32⟩
  | 101 => ⟨S16, .f32⟩
  | 102 => ⟨S16, .f32⟩
  | 103 => ⟨S_, .f32⟩
  | 104 => ⟨S16, .f32⟩
  | 105 => ⟨S16, .f32⟩
  | 106 => ⟨S16, .f32⟩
  | 107 => ⟨S_, .f32⟩
  | 108 => ⟨S16, .f32⟩
  | 109 => ⟨S16, .f32⟩
  | 110 => ⟨S_, .f32⟩
  | 111 => ⟨S16, .f32⟩
  | 112 => ⟨S16, .f32⟩
  | 113 => ⟨S8448x1, .f32⟩
  | 114 => ⟨S1x16, .f32⟩
  | 115 => ⟨S8448x16, .f32⟩
  | 116 => ⟨S8448x16, .f32⟩
  | 117 => ⟨S8448x16, .f32⟩
  | 118 => ⟨S8448x1, .f32⟩
  | 119 => ⟨S1x16, .f32⟩
  | 120 => ⟨S8448x16, .f32⟩
  | 121 => ⟨S8448x16, .f32⟩
  | 122 => ⟨S8448x16, .f32⟩
  | 123 => ⟨S8448x16, .f32⟩
  | 124 => ⟨S8448x16, .f32⟩
  | 125 => ⟨S8448x16, .f32⟩
  | 126 => ⟨S8448x16, .f32⟩
  | 127 => ⟨S8448x64, .f32⟩
  | _ => ⟨S8448x1536, .f32⟩

abbrev hbmTy0_1 (i : Nat) : BufTy := match i % 128 with
  | 0 => ⟨S8448x16, .f32⟩
  | 1 => ⟨S8448x16, .f32⟩
  | 2 => ⟨S8448x16, .f32⟩
  | 3 => ⟨S8448x16, .f32⟩
  | 4 => ⟨S8448x16, .f32⟩
  | 5 => ⟨S8448x16, .f32⟩
  | 6 => ⟨S8448x64, .f32⟩
  | 7 => ⟨S1x8448x1x64, .f32⟩
  | 8 => ⟨S1x8448x2x64, .f32⟩
  | 9 => ⟨S8448x128, .f32⟩
  | 10 => ⟨S1x8448x1x64, .f32⟩
  | 11 => ⟨S1x8448x2x64, .f32⟩
  | 12 => ⟨S8448x128, .f32⟩
  | 13 => ⟨S8448x1024, .bf16⟩
  | 14 => ⟨S8448x256, .bf16⟩
  | 15 => ⟨S8448x256, .bf16⟩
  | _ => ⟨S8448x1536, .f32⟩

abbrev hbmTy (i : Nat) : BufTy := match i / 128 with
  | 0 => hbmTy0_0 i
  | 1 => hbmTy0_1 i
  | _ => ⟨S8448x1536, .f32⟩

abbrev bufTy : (tb : Table) → Fin (tcTables nBuf tb) → BufTy
  | .hbm, ⟨i, _⟩ => hbmTy i
  | .local _ .vmem, ⟨0, _⟩ => ⟨S768x1536, .f32⟩
  | .local _ .vmem, ⟨1, _⟩ => ⟨S768x1536, .f32⟩
  | .local _ .vmem, ⟨2, _⟩ => ⟨S768x128, .f32⟩
  | .local _ .vmem, ⟨3, _⟩ => ⟨S768x128, .f32⟩
  | .local _ .vmem, ⟨4, _⟩ => ⟨S768x128, .f32⟩
  | .local _ .vmem, ⟨5, _⟩ => ⟨S768x128, .f32⟩
  | .local _ .vmem, ⟨6, _⟩ => ⟨S1x1024, .f32⟩
  | .local _ .vmem, ⟨7, _⟩ => ⟨S1x256, .f32⟩
  | .local _ .vmem, ⟨8, _⟩ => ⟨S1024x128, .f32⟩
  | .local _ .vmem, ⟨9, _⟩ => ⟨S128x1024, .f32⟩
  | .local _ .vmem, ⟨10, _⟩ => ⟨S768x1024, .bf16⟩
  | .local _ .vmem, ⟨11, _⟩ => ⟨S768x1024, .bf16⟩
  | .local _ .vmem, ⟨12, _⟩ => ⟨S768x256, .bf16⟩
  | .local _ .vmem, ⟨13, _⟩ => ⟨S768x256, .bf16⟩
  | .local _ .vmem, ⟨14, _⟩ => ⟨S768x256, .bf16⟩
  | .local _ .vmem, ⟨15, _⟩ => ⟨S768x256, .bf16⟩
  | _, _ => ⟨S8448x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_0 : Ref sig .tc := ⟨.hbm, 43, rfl⟩
abbrev main_v22 : Ref sig .tc := ⟨.hbm, 44, rfl⟩
abbrev main_v23 : Ref sig .tc := ⟨.hbm, 45, rfl⟩
abbrev main_c_1 : Ref sig .tc := ⟨.hbm, 46, rfl⟩
abbrev main_v24 : Ref sig .tc := ⟨.hbm, 47, rfl⟩
abbrev main_v25 : Ref sig .tc := ⟨.hbm, 48, rfl⟩
abbrev main_c_2 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_c : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_0 : Ref sig .tc := ⟨.hbm, 63, rfl⟩
abbrev main_call1_v12 : Ref sig .tc := ⟨.hbm, 64, rfl⟩
abbrev main_call1_v13 : Ref sig .tc := ⟨.hbm, 65, rfl⟩
abbrev main_v26 : Ref sig .tc := ⟨.hbm, 66, rfl⟩
abbrev main_c_3 : Ref sig .tc := ⟨.hbm, 67, rfl⟩
abbrev main_call2_v0 : Ref sig .tc := ⟨.hbm, 68, rfl⟩
abbrev main_call2_v1 : Ref sig .tc := ⟨.hbm, 69, rfl⟩
abbrev main_v27 : Ref sig .tc := ⟨.hbm, 70, rfl⟩
abbrev main_v28 : Ref sig .tc := ⟨.hbm, 71, rfl⟩
abbrev main_c_4 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v29 : Ref sig .tc := ⟨.hbm, 93, rfl⟩
abbrev main_c_5 : Ref sig .tc := ⟨.hbm, 94, rfl⟩
abbrev main_call4_v0 : Ref sig .tc := ⟨.hbm, 95, rfl⟩
abbrev main_call4_v1 : Ref sig .tc := ⟨.hbm, 96, rfl⟩
abbrev main_v30 : Ref sig .tc := ⟨.hbm, 97, rfl⟩
abbrev main_v31 : Ref sig .tc := ⟨.hbm, 98, rfl⟩
abbrev main_v32 : Ref sig .tc := ⟨.hbm, 99, rfl⟩
abbrev main_cst_6 : Ref sig .tc := ⟨.hbm, 100, rfl⟩
abbrev main_v33 : Ref sig .tc := ⟨.hbm, 101, rfl⟩
abbrev main_v34 : Ref sig .tc := ⟨.hbm, 102, rfl⟩
abbrev main_cst_7 : Ref sig .tc := ⟨.hbm, 103, rfl⟩
abbrev main_v35 : Ref sig .tc := ⟨.hbm, 104, rfl⟩
abbrev main_v36 : Ref sig .tc := ⟨.hbm, 105, rfl⟩
abbrev main_v37 : Ref sig .tc := ⟨.hbm, 106, rfl⟩
abbrev main_cst_8 : Ref sig .tc := ⟨.hbm, 107, rfl⟩
abbrev main_v38 : Ref sig .tc := ⟨.hbm, 108, rfl⟩
abbrev main_v39 : Ref sig .tc := ⟨.hbm, 109, rfl⟩
abbrev main_cst_9 : Ref sig .tc := ⟨.hbm, 110, rfl⟩
abbrev main_v40 : Ref sig .tc := ⟨.hbm, 111, rfl⟩
abbrev main_v41 : Ref sig .tc := ⟨.hbm, 112, rfl⟩
abbrev main_v42 : Ref sig .tc := ⟨.hbm, 113, rfl⟩
abbrev main_v43 : Ref sig .tc := ⟨.hbm, 114, rfl⟩
abbrev main_v44 : Ref sig .tc := ⟨.hbm, 115, rfl⟩
abbrev main_v45 : Ref sig .tc := ⟨.hbm, 116, rfl⟩
abbrev main_v46 : Ref sig .tc := ⟨.hbm, 117, rfl⟩
abbrev main_v47 : Ref sig .tc := ⟨.hbm, 118, rfl⟩
abbrev main_v48 : Ref sig .tc := ⟨.hbm, 119, rfl⟩
abbrev main_v49 : Ref sig .tc := ⟨.hbm, 120, rfl⟩
abbrev main_v50 : Ref sig .tc := ⟨.hbm, 121, rfl⟩
abbrev main_v51 : Ref sig .tc := ⟨.hbm, 122, rfl⟩
abbrev main_v52 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_v59 : Ref sig .tc := ⟨.hbm, 130, rfl⟩
abbrev main_v60 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_v64 : Ref sig .tc := ⟨.hbm, 135, rfl⟩
abbrev main_v65 : Ref sig .tc := ⟨.hbm, 136, rfl⟩
abbrev main_v66 : Ref sig .tc := ⟨.hbm, 137, rfl⟩
abbrev main_v67 : Ref sig .tc := ⟨.hbm, 138, rfl⟩
abbrev main_v68 : Ref sig .tc := ⟨.hbm, 139, rfl⟩
abbrev main_v69 : Ref sig .tc := ⟨.hbm, 140, rfl⟩
abbrev main_v70_0 : Ref sig .tc := ⟨.hbm, 141, rfl⟩
abbrev main_v70_1 : Ref sig .tc := ⟨.hbm, 142, rfl⟩
abbrev main_v70_2 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S768x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S768x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S768x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== RopeRefIdeal.lean ====
abbrev S8448x1536 : Shape := ⟨2, ![8448, 1536]⟩
abbrev S64 : Shape := ⟨1, ![64]⟩
abbrev S128 : Shape := ⟨1, ![128]⟩
abbrev S128x1 : Shape := ⟨2, ![128, 1]⟩
abbrev S128x64 : Shape := ⟨2, ![128, 64]⟩
abbrev S8192 : Shape := ⟨1, ![8192]⟩
abbrev S1x64 : Shape := ⟨2, ![1, 64]⟩
abbrev S_ : Shape := ⟨0, ![]⟩
abbrev S256 : Shape := ⟨1, ![256]⟩
abbrev S8448 : Shape := ⟨1, ![8448]⟩
abbrev S16 : Shape := ⟨1, ![16]⟩
abbrev S8448x1 : Shape := ⟨2, ![8448, 1]⟩
abbrev S1x16 : Shape := ⟨2, ![1, 16]⟩
abbrev S8448x16 : Shape := ⟨2, ![8448, 16]⟩
abbrev S8448x1024 : Shape := ⟨2, ![8448, 1024]⟩
abbrev S8448x16x64 : Shape := ⟨3, ![8448, 16, 64]⟩
abbrev S8448x16x1 : Shape := ⟨3, ![8448, 16, 1]⟩
abbrev S1x1x64 : Shape := ⟨3, ![1, 1, 64]⟩
abbrev S8448x16x32 : Shape := ⟨3, ![8448, 16, 32]⟩
abbrev S8448x16x16 : Shape := ⟨3, ![8448, 16, 16]⟩
abbrev S8448x1x16 : Shape := ⟨3, ![8448, 1, 16]⟩
abbrev S8448x256 : Shape := ⟨2, ![8448, 256]⟩
abbrev S8448x4x64 : Shape := ⟨3, ![8448, 4, 64]⟩
abbrev S8448x4 : Shape := ⟨2, ![8448, 4]⟩
abbrev S8448x4x1 : Shape := ⟨3, ![8448, 4, 1]⟩
abbrev S8448x4x32 : Shape := ⟨3, ![8448, 4, 32]⟩
abbrev S8448x4x16 : Shape := ⟨3, ![8448, 4, 16]⟩

abbrev nBuf : Space → Nat
  | .hbm => 156
  | .vmem => 0
  | .smem => 0
  | _ => 0

abbrev hbmTy0_0 (i : Nat) : BufTy := match i % 128 with
  | 0 => ⟨S8448x1536, .f32⟩
  | 1 => ⟨S64, .f32⟩
  | 2 => ⟨S64, .f32⟩
  | 3 => ⟨S128, .i32⟩
  | 4 => ⟨S128x1, .i32⟩
  | 5 => ⟨S128x64, .i32⟩
  | 6 => ⟨S8192, .i32⟩
  | 7 => ⟨S64, .i32⟩
  | 8 => ⟨S1x64, .i32⟩
  | 9 => ⟨S128x64, .i32⟩
  | 10 => ⟨S8192, .i32⟩
  | 11 => ⟨S_, .i32⟩
  | 12 => ⟨S256, .i32⟩
  | 13 => ⟨S8448, .i32⟩
  | 14 => ⟨S8448, .f32⟩
  | 15 => ⟨S8448, .i32⟩
  | 16 => ⟨S8448, .f32⟩
  | 17 => ⟨S16, .f32⟩
  | 18 => ⟨S_, .f32⟩
  | 19 => ⟨S16, .f32⟩
  | 20 => ⟨S16, .f32⟩
  | 21 => ⟨S_, .f32⟩
  | 22 => ⟨S16, .f32⟩
  | 23 => ⟨S16, .f32⟩
  | 24 => ⟨S16, .f32⟩
  | 25 => ⟨S_, .f32⟩
  | 26 => ⟨S16, .f32⟩
  | 27 => ⟨S16, .f32⟩
  | 28 => ⟨S_, .f32⟩
  | 29 => ⟨S16, .f32⟩
  | 30 => ⟨S16, .f32⟩
  | 31 => ⟨S8448x1, .f32⟩
  | 32 => ⟨S1x16, .f32⟩
  | 33 => ⟨S8448x16, .f32⟩
  | 34 => ⟨S8448x16, .f32⟩
  | 35 => ⟨S8448x16, .f32⟩
  | 36 => ⟨S8448x1, .f32⟩
  | 37 => ⟨S1x16, .f32⟩
  | 38 => ⟨S8448x16, .f32⟩
  | 39 => ⟨S8448x16, .f32⟩
  | 40 => ⟨S8448x16, .f32⟩
  | 41 => ⟨S8448x16, .f32⟩
  | 42 => ⟨S8448x16, .f32⟩
  | 43 => ⟨S8448x16, .f32⟩
  | 44 => ⟨S8448x16, .f32⟩
  | 45 => ⟨S8448x1024, .f32⟩
  | 46 => ⟨S8448x16x64, .f32⟩
  | 47 => ⟨S8448x16x64, .f32⟩
  | 48 => ⟨S_, .f32⟩
  | 49 => ⟨S8448x16, .f32⟩
  | 50 => ⟨S8448x16x1, .f32⟩
  | 51 => ⟨S_, .f32⟩
  | 52 => ⟨S8448x16x1, .f32⟩
  | 53 => ⟨S8448x16x1, .f32⟩
  | 54 => ⟨S_, .f32⟩
  | 55 => ⟨S8448x16x1, .f32⟩
  | 56 => ⟨S8448x16x1, .f32⟩
  | 57 => ⟨S8448x16x1, .f32⟩
  | 58 => ⟨S8448x16x64, .f32⟩
  | 59 => ⟨S8448x16x64, .f32⟩
  | 60 => ⟨S1x1x64, .f32⟩
  | 61 => ⟨S8448x16x64, .f32⟩
  | 62 => ⟨S8448x16x64, .f32⟩
  | 63 => ⟨S8448x16x32, .f32⟩
  | 64 => ⟨S8448x16x16, .f32⟩
  | 65 => ⟨S8448x16x16, .f32⟩
  | 66 => ⟨S8448x1x16, .f32⟩
  | 67 => ⟨S8448x1x16, .f32⟩
  | 68 => ⟨S8448x16x16, .f32⟩
  | 69 => ⟨S8448x16x16, .f32⟩
  | 70 => ⟨S8448x16x16, .f32⟩
  | 71 => ⟨S8448x16x16, .f32⟩
  | 72 => ⟨S8448x16x16, .f32⟩
  | 73 => ⟨S8448x16x16, .f32⟩
  | 74 => ⟨S8448x16x16, .f32⟩
  | 75 => ⟨S8448x16x16, .f32⟩
  | 76 => ⟨S8448x16x16, .f32⟩
  | 77 => ⟨S8448x16x16, .f32⟩
  | 78 => ⟨S8448x16x32, .f32⟩
  | 79 => ⟨S8448x16x32, .f32⟩
  | 80 => ⟨S8448x16x16, .f32⟩
  | 81 => ⟨S8448x16x16, .f32⟩
  | 82 => ⟨S8448x1x16, .f32⟩
  | 83 => ⟨S8448x1x16, .f32⟩
  | 84 => ⟨S8448x16x16, .f32⟩
  | 85 => ⟨S8448x16x16, .f32⟩
  | 86 => ⟨S8448x16x16, .f32⟩
  | 87 => ⟨S8448x16x16, .f32⟩
  | 88 => ⟨S8448x16x16, .f32⟩
  | 89 => ⟨S8448x16x16, .f32⟩
  | 90 => ⟨S8448x16x16, .f32⟩
  | 91 => ⟨S8448x16x16, .f32⟩
  | 92 => ⟨S8448x16x16, .f32⟩
  | 93 => ⟨S8448x16x16, .f32⟩
  | 94 => ⟨S8448x16x32, .f32⟩
  | 95 => ⟨S8448x16x64, .f32⟩
  | 96 => ⟨S8448x256, .f32⟩
  | 97 => ⟨S8448x4x64, .f32⟩
  | 98 => ⟨S8448x4x64, .f32⟩
  | 99 => ⟨S_, .f32⟩
  | 100 => ⟨S8448x4, .f32⟩
  | 101 => ⟨S8448x4x1, .f32⟩
  | 102 => ⟨S_, .f32⟩
  | 103 => ⟨S8448x4x1, .f32⟩
  | 104 => ⟨S8448x4x1, .f32⟩
  | 105 => ⟨S_, .f32⟩
  | 106 => ⟨S8448x4x1, .f32⟩
  | 107 => ⟨S8448x4x1, .f32⟩
  | 108 => ⟨S8448x4x1, .f32⟩
  | 109 => ⟨S8448x4x64, .f32⟩
  | 110 => ⟨S8448x4x64, .f32⟩
  | 111 => ⟨S1x1x64, .f32⟩
  | 112 => ⟨S8448x4x64, .f32⟩
  | 113 => ⟨S8448x4x64, .f32⟩
  | 114 => ⟨S8448x4x32, .f32⟩
  | 115 => ⟨S8448x4x16, .f32⟩
  | 116 => ⟨S8448x4x16, .f32⟩
  | 117 => ⟨S8448x1x16, .f32⟩
  | 118 => ⟨S8448x1x16, .f32⟩
  | 119 => ⟨S8448x4x16, .f32⟩
  | 120 => ⟨S8448x4x16, .f32⟩
  | 121 => ⟨S8448x4x16, .f32⟩
  | 122 => ⟨S8448x4x16, .f32⟩
  | 123 => ⟨S8448x4x16, .f32⟩
  | 124 => ⟨S8448x4x16, .f32⟩
  | 125 => ⟨S8448x4x16, .f32⟩
  | 126 => ⟨S8448x4x16, .f32⟩
  | 127 => ⟨S8448x4x16, .f32⟩
  | _ => ⟨S8448x1536, .f32⟩

abbrev hbmTy0_1 (i : Nat) : BufTy := match i % 128 with
  | 0 => ⟨S8448x4x16, .f32⟩
  | 1 => ⟨S8448x4x32, .f32⟩
  | 2 => ⟨S8448x4x32, .f32⟩
  | 3 => ⟨S8448x4x16, .f32⟩
  | 4 => ⟨S8448x4x16, .f32⟩
  | 5 => ⟨S8448x1x16, .f32⟩
  | 6 => ⟨S8448x1x16, .f32⟩
  | 7 => ⟨S8448x4x16, .f32⟩
  | 8 => ⟨S8448x4x16, .f32⟩
  | 9 => ⟨S8448x4x16, .f32⟩
  | 10 => ⟨S8448x4x16, .f32⟩
  | 11 => ⟨S8448x4x16, .f32⟩
  | 12 => ⟨S8448x4x16, .f32⟩
  | 13 => ⟨S8448x4x16, .f32⟩
  | 14 => ⟨S8448x4x16, .f32⟩
  | 15 => ⟨S8448x4x16, .f32⟩
  | 16 => ⟨S8448x4x16, .f32⟩
  | 17 => ⟨S8448x4x32, .f32⟩
  | 18 => ⟨S8448x4x64, .f32⟩
  | 19 => ⟨S8448x1024, .f32⟩
  | 20 => ⟨S_, .f32⟩
  | 21 => ⟨S8448x1024, .f32⟩
  | 22 => ⟨S8448x1024, .f32⟩
  | 23 => ⟨S8448x1024, .bf16⟩
  | 24 => ⟨S8448x256, .f32⟩
  | 25 => ⟨S8448x256, .bf16⟩
  | 26 => ⟨S8448x256, .f32⟩
  | 27 => ⟨S8448x256, .bf16⟩
  | _ => ⟨S8448x1536, .f32⟩

abbrev hbmTy (i : Nat) : BufTy := match i / 128 with
  | 0 => hbmTy0_0 i
  | 1 => hbmTy0_1 i
  | _ => ⟨S8448x1536, .f32⟩

abbrev bufTy : (tb : Table) → Fin (tcTables nBuf tb) → BufTy
  | .hbm, ⟨i, _⟩ => hbmTy i
  | _, _ => ⟨S8448x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_3 : Ref sig .tc := ⟨.hbm, 48, rfl⟩
abbrev main_v40 : Ref sig .tc := ⟨.hbm, 49, rfl⟩
abbrev main_v41 : Ref sig .tc := ⟨.hbm, 50, rfl⟩
abbrev main_cst_4 : Ref sig .tc := ⟨.hbm, 51, rfl⟩
abbrev main_v42 : Ref sig .tc := ⟨.hbm, 52, rfl⟩
abbrev main_v43 : Ref sig .tc := ⟨.hbm, 53, rfl⟩
abbrev main_cst_5 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_cst_6 : Ref sig .tc := ⟨.hbm, 99, rfl⟩
abbrev main_v88 : Ref sig .tc := ⟨.hbm, 100, rfl⟩
abbrev main_v89 : Ref sig .tc := ⟨.hbm, 101, rfl⟩
abbrev main_cst_7 : Ref sig .tc := ⟨.hbm, 102, rfl⟩
abbrev main_v90 : Ref sig .tc := ⟨.hbm, 103, rfl⟩
abbrev main_v91 : Ref sig .tc := ⟨.hbm, 104, rfl⟩
abbrev main_cst_8 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_cst_9 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩

abbrev nD : Nat := 1
abbrev τ : Topo := Topo.v7x

variable {F : FTy → Type} [FloatOps F]
-- ==== RopeBwd.lean ====
abbrev S8448x1536 : Shape := ⟨2, ![8448, 1536]⟩
abbrev S8448x1024 : Shape := ⟨2, ![8448, 1024]⟩
abbrev S8448x256 : Shape := ⟨2, ![8448, 256]⟩
abbrev S64 : Shape := ⟨1, ![64]⟩
abbrev S1x64 : Shape := ⟨2, ![1, 64]⟩
abbrev S16x64 : Shape := ⟨2, ![16, 64]⟩
abbrev S1024 : Shape := ⟨1, ![1024]⟩
abbrev S1x1024 : Shape := ⟨2, ![1, 1024]⟩
abbrev S4x64 : Shape := ⟨2, ![4, 64]⟩
abbrev S256 : Shape := ⟨1, ![256]⟩
abbrev S1x256 : Shape := ⟨2, ![1, 256]⟩
abbrev S1024x1 : Shape := ⟨2, ![1024, 1]⟩
abbrev S_ : Shape := ⟨0, ![]⟩
abbrev S128 : Shape := ⟨1, ![128]⟩
abbrev S1x128 : Shape := ⟨2, ![1, 128]⟩
abbrev S1024x128 : Shape := ⟨2, ![1024, 128]⟩
abbrev S128x1024 : Shape := ⟨2, ![128, 1024]⟩
abbrev S8448 : Shape := ⟨1, ![8448]⟩
abbrev S16 : Shape := ⟨1, ![16]⟩
abbrev S8448x1 : Shape := ⟨2, ![8448, 1]⟩
abbrev S1x16 : Shape := ⟨2, ![1, 16]⟩
abbrev S8448x16 : Shape := ⟨2, ![8448, 16]⟩
abbrev S8448x64 : Shape := ⟨2, ![8448, 64]⟩
abbrev S1x8448x1x64 : Shape := ⟨4, ![1, 8448, 1, 64]⟩
abbrev S1x8448x2x64 : Shape := ⟨4, ![1, 8448, 2, 64]⟩
abbrev S8448x128 : Shape := ⟨2, ![8448, 128]⟩
abbrev S768x1536 : Shape := ⟨2, ![768, 1536]⟩
abbrev S768x128 : Shape := ⟨2, ![768, 128]⟩
abbrev S768x1024 : Shape := ⟨2, ![768, 1024]⟩
abbrev S768x256 : Shape := ⟨2, ![768, 256]⟩
abbrev S256x128 : Shape := ⟨2, ![256, 128]⟩
abbrev S128x256 : Shape := ⟨2, ![128, 256]⟩

abbrev nBuf : Space → Nat
  | .hbm => 153
  | .vmem => 20
  | .smem => 0
  | _ => 0

abbrev hbmTy0_0 (i : Nat) : BufTy := match i % 128 with
  | 0 => ⟨S8448x1536, .f32⟩
  | 1 => ⟨S8448x1024, .f32⟩
  | 2 => ⟨S8448x256, .f32⟩
  | 3 => ⟨S8448x256, .f32⟩
  | 4 => ⟨S64, .f32⟩
  | 5 => ⟨S64, .f32⟩
  | 6 => ⟨S1x64, .f32⟩
  | 7 => ⟨S16x64, .f32⟩
  | 8 => ⟨S1024, .f32⟩
  | 9 => ⟨S1x1024, .f32⟩
  | 10 => ⟨S1x64, .f32⟩
  | 11 => ⟨S4x64, .f32⟩
  | 12 => ⟨S256, .f32⟩
  | 13 => ⟨S1x256, .f32⟩
  | 14 => ⟨S1024, .i32⟩
  | 15 => ⟨S1024x1, .i32⟩
  | 16 => ⟨S_, .i32⟩
  | 17 => ⟨S_, .i32⟩
  | 18 => ⟨S1024x1, .i32⟩
  | 19 => ⟨S1024x1, .i32⟩
  | 20 => ⟨S1024x1, .i32⟩
  | 21 => ⟨S_, .i32⟩
  | 22 => ⟨S1024x1, .i32⟩
  | 23 => ⟨S1024x1, .i1⟩
  | 24 => ⟨S1024x1, .i32⟩
  | 25 => ⟨S1024x1, .i32⟩
  | 26 => ⟨S_, .i32⟩
  | 27 => ⟨S1024x1, .i32⟩
  | 28 => ⟨S1024x1, .i1⟩
  | 29 => ⟨S1024x1, .i1⟩
  | 30 => ⟨S_, .i32⟩
  | 31 => ⟨S1024x1, .i32⟩
  | 32 => ⟨S1024x1, .i32⟩
  | 33 => ⟨S1024x1, .i32⟩
  | 34 => ⟨S128, .i32⟩
  | 35 => ⟨S1x128, .i32⟩
  | 36 => ⟨S1024x128, .i32⟩
  | 37 => ⟨S1024x128, .i32⟩
  | 38 => ⟨S1024x128, .i1⟩
  | 39 => ⟨S1024x128, .f32⟩
  | 40 => ⟨S_, .f32⟩
  | 41 => ⟨S1024x128, .f32⟩
  | 42 => ⟨S1024x128, .f32⟩
  | 43 => ⟨S1024x128, .f32⟩
  | 44 => ⟨S128x1024, .f32⟩
  | 45 => ⟨S8448, .i32⟩
  | 46 => ⟨S_, .i32⟩
  | 47 => ⟨S8448, .i32⟩
  | 48 => ⟨S8448, .i32⟩
  | 49 => ⟨S_, .i32⟩
  | 50 => ⟨S8448, .i32⟩
  | 51 => ⟨S8448, .i1⟩
  | 52 => ⟨S_, .i32⟩
  | 53 => ⟨S_, .i32⟩
  | 54 => ⟨S8448, .i32⟩
  | 55 => ⟨S8448, .i32⟩
  | 56 => ⟨S8448, .i32⟩
  | 57 => ⟨S_, .i32⟩
  | 58 => ⟨S8448, .i32⟩
  | 59 => ⟨S8448, .i1⟩
  | 60 => ⟨S8448, .i32⟩
  | 61 => ⟨S8448, .i32⟩
  | 62 => ⟨S_, .i32⟩
  | 63 => ⟨S8448, .i32⟩
  | 64 => ⟨S8448, .i1⟩
  | 65 => ⟨S8448, .i1⟩
  | 66 => ⟨S_, .i32⟩
  | 67 => ⟨S8448, .i32⟩
  | 68 => ⟨S8448, .i32⟩
  | 69 => ⟨S8448, .i32⟩
  | 70 => ⟨S_, .i32⟩
  | 71 => ⟨S_, .i32⟩
  | 72 => ⟨S8448, .i32⟩
  | 73 => ⟨S8448, .i32⟩
  | 74 => ⟨S8448, .f32⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S8448, .i32⟩
  | 82 => ⟨S8448, .i32⟩
  | 83 => ⟨S_, .i32⟩
  | 84 => ⟨S8448, .i32⟩
  | 85 => ⟨S8448, .i1⟩
  | 86 => ⟨S_, .i32⟩
  | 87 => ⟨S8448, .i32⟩
  | 88 => ⟨S8448, .i1⟩
  | 89 => ⟨S_, .i32⟩
  | 90 => ⟨S_, .i1⟩
  | 91 => ⟨S8448, .i1⟩
  | 92 => ⟨S8448, .i1⟩
  | 93 => ⟨S8448, .i1⟩
  | 94 => ⟨S8448, .i32⟩
  | 95 => ⟨S8448, .i32⟩
  | 96 => ⟨S8448, .i32⟩
  | 97 => ⟨S_, .i32⟩
  | 98 => ⟨S_, .i32⟩
  | 99 => ⟨S8448, .i32⟩
  | 100 => ⟨S8448, .i32⟩
  | 101 => ⟨S8448, .f32⟩
  | 102 => ⟨S16, .f32⟩
  | 103 => ⟨S_, .f32⟩
  | 104 => ⟨S16, .f32⟩
  | 105 => ⟨S16, .f32⟩
  | 106 => ⟨S_, .f32⟩
  | 107 => ⟨S16, .f32⟩
  | 108 => ⟨S16, .f32⟩
  | 109 => ⟨S16, .f32⟩
  | 110 => ⟨S_, .f32⟩
  | 111 => ⟨S16, .f32⟩
  | 112 => ⟨S16, .f32⟩
  | 113 => ⟨S_, .f32⟩
  | 114 => ⟨S16, .f32⟩
  | 115 => ⟨S16, .f32⟩
  | 116 => ⟨S8448x1, .f32⟩
  | 117 => ⟨S1x16, .f32⟩
  | 118 => ⟨S8448x16, .f32⟩
  | 119 => ⟨S8448x16, .f32⟩
  | 120 => ⟨S8448x16, .f32⟩
  | 121 => ⟨S8448x1, .f32⟩
  | 122 => ⟨S1x16, .f32⟩
  | 123 => ⟨S8448x16, .f32⟩
  | 124 => ⟨S8448x16, .f32⟩
  | 125 => ⟨S8448x16, .f32⟩
  | 126 => ⟨S8448x16, .f32⟩
  | 127 => ⟨S8448x16, .f32⟩
  | _ => ⟨S8448x1536, .f32⟩

abbrev hbmTy0_1 (i : Nat) : BufTy := match i % 128 with
  | 0 => ⟨S8448x16, .f32⟩
  | 1 => ⟨S8448x16, .f32⟩
  | 2 => ⟨S8448x64, .f32⟩
  | 3 => ⟨S8448x16, .f32⟩
  | 4 => ⟨S8448x16, .f32⟩
  | 5 => ⟨S8448x16, .f32⟩
  | 6 => ⟨S8448x16, .f32⟩
  | 7 => ⟨S8448x16, .f32⟩
  | 8 => ⟨S8448x16, .f32⟩
  | 9 => ⟨S8448x64, .f32⟩
  | 10 => ⟨S1x8448x1x64, .f32⟩
  | 11 => ⟨S1x8448x2x64, .f32⟩
  | 12 => ⟨S8448x128, .f32⟩
  | 13 => ⟨S1x8448x1x64, .f32⟩
  | 14 => ⟨S1x8448x2x64, .f32⟩
  | 15 => ⟨S8448x128, .f32⟩
  | 16 => ⟨S8448x1536, .bf16⟩
  | 17 => ⟨S1x1024, .f32⟩
  | 18 => ⟨S1x256, .f32⟩
  | 19 => ⟨S16x64, .f32⟩
  | 20 => ⟨S_, .f32⟩
  | 21 => ⟨S64, .f32⟩
  | 22 => ⟨S4x64, .f32⟩
  | 23 => ⟨S_, .f32⟩
  | 24 => ⟨S64, .f32⟩
  | _ => ⟨S8448x1536, .f32⟩

abbrev hbmTy (i : Nat) : BufTy := match i / 128 with
  | 0 => hbmTy0_0 i
  | 1 => hbmTy0_1 i
  | _ => ⟨S8448x1536, .f32⟩

abbrev bufTy : (tb : Table) → Fin (tcTables nBuf tb) → BufTy
  | .hbm, ⟨i, _⟩ => hbmTy i
  | .local _ .vmem, ⟨0, _⟩ => ⟨S768x1536, .f32⟩
  | .local _ .vmem, ⟨1, _⟩ => ⟨S768x1536, .f32⟩
  | .local _ .vmem, ⟨2, _⟩ => ⟨S768x128, .f32⟩
  | .local _ .vmem, ⟨3, _⟩ => ⟨S768x128, .f32⟩
  | .local _ .vmem, ⟨4, _⟩ => ⟨S768x128, .f32⟩
  | .local _ .vmem, ⟨5, _⟩ => ⟨S768x128, .f32⟩
  | .local _ .vmem, ⟨6, _⟩ => ⟨S768x1024, .f32⟩
  | .local _ .vmem, ⟨7, _⟩ => ⟨S768x1024, .f32⟩
  | .local _ .vmem, ⟨8, _⟩ => ⟨S768x256, .f32⟩
  | .local _ .vmem, ⟨9, _⟩ => ⟨S768x256, .f32⟩
  | .local _ .vmem, ⟨10, _⟩ => ⟨S768x256, .f32⟩
  | .local _ .vmem, ⟨11, _⟩ => ⟨S768x256, .f32⟩
  | .local _ .vmem, ⟨12, _⟩ => ⟨S1x1024, .f32⟩
  | .local _ .vmem, ⟨13, _⟩ => ⟨S1x256, .f32⟩
  | .local _ .vmem, ⟨14, _⟩ => ⟨S1024x128, .f32⟩
  | .local _ .vmem, ⟨15, _⟩ => ⟨S128x1024, .f32⟩
  | .local _ .vmem, ⟨16, _⟩ => ⟨S768x1536, .bf16⟩
  | .local _ .vmem, ⟨17, _⟩ => ⟨S768x1536, .bf16⟩
  | .local _ .vmem, ⟨18, _⟩ => ⟨S1x1024, .f32⟩
  | .local _ .vmem, ⟨19, _⟩ => ⟨S1x256, .f32⟩
  | _, _ => ⟨S8448x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_cst : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_0 : Ref sig .tc := ⟨.hbm, 46, rfl⟩
abbrev main_v22 : Ref sig .tc := ⟨.hbm, 47, rfl⟩
abbrev main_v23 : Ref sig .tc := ⟨.hbm, 48, rfl⟩
abbrev main_c_1 : Ref sig .tc := ⟨.hbm, 49, rfl⟩
abbrev main_v24 : Ref sig .tc := ⟨.hbm, 50, rfl⟩
abbrev main_v25 : Ref sig .tc := ⟨.hbm, 51, rfl⟩
abbrev main_c_2 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_c : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_0 : Ref sig .tc := ⟨.hbm, 66, rfl⟩
abbrev main_call1_v12 : Ref sig .tc := ⟨.hbm, 67, rfl⟩
abbrev main_call1_v13 : Ref sig .tc := ⟨.hbm, 68, rfl⟩
abbrev main_v26 : Ref sig .tc := ⟨.hbm, 69, rfl⟩
abbrev main_c_3 : Ref sig .tc := ⟨.hbm, 70, rfl⟩
abbrev main_call2_v0 : Ref sig .tc := ⟨.hbm, 71, rfl⟩
abbrev main_call2_v1 : Ref sig .tc := ⟨.hbm, 72, rfl⟩
abbrev main_v27 : Ref sig .tc := ⟨.hbm, 73, rfl⟩
abbrev main_v28 : Ref sig .tc := ⟨.hbm, 74, rfl⟩
abbrev main_c_4 : Ref sig .tc := ⟨.hbm, 75, rfl⟩
abbrev main_call3_v0 : Ref sig .tc := ⟨.hbm, 76, rfl⟩
abbrev main_call3_c : Ref sig .tc := ⟨.hbm, 77, rfl⟩
abbrev main_call3_v1 : Ref sig .tc := ⟨.hbm, 78, rfl⟩
abbrev main_call3_c_0 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_call3_c_1 : Ref sig .tc := ⟨.hbm, 83, rfl⟩
abbrev main_call3_v5 : Ref sig .tc := ⟨.hbm, 84, rfl⟩
abbrev main_call3_v6 : Ref sig .tc := ⟨.hbm, 85, rfl⟩
abbrev main_call3_c_2 : Ref sig .tc := ⟨.hbm, 86, rfl⟩
abbrev main_call3_v7 : Ref sig .tc := ⟨.hbm, 87, rfl⟩
abbrev main_call3_v8 : Ref sig .tc := ⟨.hbm, 88, rfl⟩
abbrev main_call3_c_3 : Ref sig .tc := ⟨.hbm, 89, rfl⟩
abbrev main_call3_v9 : Ref sig .tc := ⟨.hbm, 90, rfl⟩
abbrev main_call3_v10 : Ref sig .tc := ⟨.hbm, 91, rfl⟩
abbrev main_call3_v11 : Ref sig .tc := ⟨.hbm, 92, rfl⟩
abbrev main_call3_v12 : Ref sig .tc := ⟨.hbm, 93, rfl⟩
abbrev main_call3_v13 : Ref sig .tc := ⟨.hbm, 94, rfl⟩
abbrev main_call3_v14 : Ref sig .tc := ⟨.hbm, 95, rfl⟩
abbrev main_v29 : Ref sig .tc := ⟨.hbm, 96, rfl⟩
abbrev main_c_5 : Ref sig .tc := ⟨.hbm, 97, rfl⟩
abbrev main_call4_v0 : Ref sig .tc := ⟨.hbm, 98, rfl⟩
abbrev main_call4_v1 : Ref sig .tc := ⟨.hbm, 99, rfl⟩
abbrev main_v30 : Ref sig .tc := ⟨.hbm, 100, rfl⟩
abbrev main_v31 : Ref sig .tc := ⟨.hbm, 101, rfl⟩
abbrev main_v32 : Ref sig .tc := ⟨.hbm, 102, rfl⟩
abbrev main_cst_6 : Ref sig .tc := ⟨.hbm, 103, rfl⟩
abbrev main_v33 : Ref sig .tc := ⟨.hbm, 104, rfl⟩
abbrev main_v34 : Ref sig .tc := ⟨.hbm, 105, rfl⟩
abbrev main_cst_7 : Ref sig .tc := ⟨.hbm, 106, rfl⟩
abbrev main_v35 : Ref sig .tc := ⟨.hbm, 107, rfl⟩
abbrev main_v36 : Ref sig .tc := ⟨.hbm, 108, rfl⟩
abbrev main_v37 : Ref sig .tc := ⟨.hbm, 109, rfl⟩
abbrev main_cst_8 : Ref sig .tc := ⟨.hbm, 110, rfl⟩
abbrev main_v38 : Ref sig .tc := ⟨.hbm, 111, rfl⟩
abbrev main_v39 : Ref sig .tc := ⟨.hbm, 112, rfl⟩
abbrev main_cst_9 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_v44 : Ref sig .tc := ⟨.hbm, 118, rfl⟩
abbrev main_v45 : Ref sig .tc := ⟨.hbm, 119, rfl⟩
abbrev main_v46 : Ref sig .tc := ⟨.hbm, 120, rfl⟩
abbrev main_v47 : Ref sig .tc := ⟨.hbm, 121, rfl⟩
abbrev main_v48 : Ref sig .tc := ⟨.hbm, 122, rfl⟩
abbrev main_v49 : Ref sig .tc := ⟨.hbm, 123, rfl⟩
abbrev main_v50 : Ref sig .tc := ⟨.hbm, 124, rfl⟩
abbrev main_v51 : Ref sig .tc := ⟨.hbm, 125, rfl⟩
abbrev main_v52 : Ref sig .tc := ⟨.hbm, 126, rfl⟩
abbrev main_v53 : Ref sig .tc := ⟨.hbm, 127, rfl⟩
abbrev main_v54 : Ref sig .tc := ⟨.hbm, 128, rfl⟩
abbrev main_v55 : Ref sig .tc := ⟨.hbm, 129, rfl⟩
abbrev main_v56 : Ref sig .tc := ⟨.hbm, 130, rfl⟩
abbrev main_v57 : Ref sig .tc := ⟨.hbm, 131, rfl⟩
abbrev main_v58 : Ref sig .tc := ⟨.hbm, 132, rfl⟩
abbrev main_v59 : Ref sig .tc := ⟨.hbm, 133, rfl⟩
abbrev main_v60 : Ref sig .tc := ⟨.hbm, 134, rfl⟩
abbrev main_v61 : Ref sig .tc := ⟨.hbm, 135, rfl⟩
abbrev main_v62 : Ref sig .tc := ⟨.hbm, 136, rfl⟩
abbrev main_v63 : Ref sig .tc := ⟨.hbm, 137, rfl⟩
abbrev main_v64 : Ref sig .tc := ⟨.hbm, 138, rfl⟩
abbrev main_v65 : Ref sig .tc := ⟨.hbm, 139, rfl⟩
abbrev main_v66 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_v70_0 : Ref sig .tc := ⟨.hbm, 144, rfl⟩
abbrev main_v70_1 : Ref sig .tc := ⟨.hbm, 145, rfl⟩
abbrev main_v70_2 : Ref sig .tc := ⟨.hbm, 146, rfl⟩
abbrev main_v71 : Ref sig .tc := ⟨.hbm, 147, rfl⟩
abbrev main_cst_10 : Ref sig .tc := ⟨.hbm, 148, rfl⟩
abbrev main_v72 : Ref sig .tc := ⟨.hbm, 149, rfl⟩
abbrev main_v73 : Ref sig .tc := ⟨.hbm, 150, rfl⟩
abbrev main_cst_11 : Ref sig .tc := ⟨.hbm, 151, rfl⟩
abbrev main_v74 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S768x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S768x1536 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== RopeBwdRefIdeal.lean ====
abbrev S8448x1536 : Shape := ⟨2, ![8448, 1536]⟩
abbrev S8448x1024 : Shape := ⟨2, ![8448, 1024]⟩
abbrev S8448x256 : Shape := ⟨2, ![8448, 256]⟩
abbrev S64 : Shape := ⟨1, ![64]⟩
abbrev S128 : Shape := ⟨1, ![128]⟩
abbrev S128x1 : Shape := ⟨2, ![128, 1]⟩
abbrev S128x64 : Shape := ⟨2, ![128, 64]⟩
abbrev S8192 : Shape := ⟨1, ![8192]⟩
abbrev S1x64 : Shape := ⟨2, ![1, 64]⟩
abbrev S_ : Shape := ⟨0, ![]⟩
abbrev S256 : Shape := ⟨1, ![256]⟩
abbrev S8448 : Shape := ⟨1, ![8448]⟩
abbrev S16 : Shape := ⟨1, ![16]⟩
abbrev S8448x1 : Shape := ⟨2, ![8448, 1]⟩
abbrev S1x16 : Shape := ⟨2, ![1, 16]⟩
abbrev S8448x16 : Shape := ⟨2, ![8448, 16]⟩
abbrev S8448x16x64 : Shape := ⟨3, ![8448, 16, 64]⟩
abbrev S8448x16x1 : Shape := ⟨3, ![8448, 16, 1]⟩
abbrev S1x1x64 : Shape := ⟨3, ![1, 1, 64]⟩
abbrev S8448x16x32 : Shape := ⟨3, ![8448, 16, 32]⟩
abbrev S8448x16x16 : Shape := ⟨3, ![8448, 16, 16]⟩
abbrev S8448x1x16 : Shape := ⟨3, ![8448, 1, 16]⟩
abbrev S8448x4x64 : Shape := ⟨3, ![8448, 4, 64]⟩
abbrev S8448x4 : Shape := ⟨2, ![8448, 4]⟩
abbrev S8448x4x1 : Shape := ⟨3, ![8448, 4, 1]⟩
abbrev S8448x4x32 : Shape := ⟨3, ![8448, 4, 32]⟩
abbrev S8448x4x16 : Shape := ⟨3, ![8448, 4, 16]⟩

abbrev nBuf : Space → Nat
  | .hbm => 324
  | .vmem => 0
  | .smem => 0
  | _ => 0

abbrev hbmTy0_0 (i : Nat) : BufTy := match i % 128 with
  | 0 => ⟨S8448x1536, .f32⟩
  | 1 => ⟨S8448x1024, .f32⟩
  | 2 => ⟨S8448x256, .f32⟩
  | 3 => ⟨S8448x256, .f32⟩
  | 4 => ⟨S64, .f32⟩
  | 5 => ⟨S64, .f32⟩
  | 6 => ⟨S128, .i32⟩
  | 7 => ⟨S128x1, .i32⟩
  | 8 => ⟨S128x64, .i32⟩
  | 9 => ⟨S8192, .i32⟩
  | 10 => ⟨S64, .i32⟩
  | 11 => ⟨S1x64, .i32⟩
  | 12 => ⟨S128x64, .i32⟩
  | 13 => ⟨S8192, .i32⟩
  | 14 => ⟨S_, .i32⟩
  | 15 => ⟨S256, .i32⟩
  | 16 => ⟨S8448, .i32⟩
  | 17 => ⟨S8448, .f32⟩
  | 18 => ⟨S8448, .i32⟩
  | 19 => ⟨S8448, .f32⟩
  | 20 => ⟨S16, .f32⟩
  | 21 => ⟨S_, .f32⟩
  | 22 => ⟨S16, .f32⟩
  | 23 => ⟨S16, .f32⟩
  | 24 => ⟨S_, .f32⟩
  | 25 => ⟨S16, .f32⟩
  | 26 => ⟨S16, .f32⟩
  | 27 => ⟨S16, .f32⟩
  | 28 => ⟨S_, .f32⟩
  | 29 => ⟨S16, .f32⟩
  | 30 => ⟨S16, .f32⟩
  | 31 => ⟨S_, .f32⟩
  | 32 => ⟨S16, .f32⟩
  | 33 => ⟨S16, .f32⟩
  | 34 => ⟨S8448x1, .f32⟩
  | 35 => ⟨S1x16, .f32⟩
  | 36 => ⟨S8448x16, .f32⟩
  | 37 => ⟨S8448x16, .f32⟩
  | 38 => ⟨S8448x16, .f32⟩
  | 39 => ⟨S8448x1, .f32⟩
  | 40 => ⟨S1x16, .f32⟩
  | 41 => ⟨S8448x16, .f32⟩
  | 42 => ⟨S8448x16, .f32⟩
  | 43 => ⟨S8448x16, .f32⟩
  | 44 => ⟨S8448x16, .f32⟩
  | 45 => ⟨S8448x16, .f32⟩
  | 46 => ⟨S8448x16, .f32⟩
  | 47 => ⟨S8448x16, .f32⟩
  | 48 => ⟨S8448x1024, .f32⟩
  | 49 => ⟨S8448x16x64, .f32⟩
  | 50 => ⟨S8448x16x64, .f32⟩
  | 51 => ⟨S_, .f32⟩
  | 52 => ⟨S8448x16x64, .f32⟩
  | 53 => ⟨S8448x16x64, .f32⟩
  | 54 => ⟨S_, .f32⟩
  | 55 => ⟨S8448x16, .f32⟩
  | 56 => ⟨S8448x16x1, .f32⟩
  | 57 => ⟨S_, .f32⟩
  | 58 => ⟨S8448x16x1, .f32⟩
  | 59 => ⟨S8448x16x1, .f32⟩
  | 60 => ⟨S_, .f32⟩
  | 61 => ⟨S8448x16x1, .f32⟩
  | 62 => ⟨S8448x16x1, .f32⟩
  | 63 => ⟨S8448x16x1, .f32⟩
  | 64 => ⟨S8448x16x1, .f32⟩
  | 65 => ⟨S_, .f32⟩
  | 66 => ⟨S8448x16x1, .f32⟩
  | 67 => ⟨S8448x16x1, .f32⟩
  | 68 => ⟨S8448x16x64, .f32⟩
  | 69 => ⟨S8448x16x64, .f32⟩
  | 70 => ⟨S1x1x64, .f32⟩
  | 71 => ⟨S8448x16x64, .f32⟩
  | 72 => ⟨S8448x16x64, .f32⟩
  | 73 => ⟨S8448x16x32, .f32⟩
  | 74 => ⟨S8448x16x16, .f32⟩
  | 75 => ⟨S8448x16x16, .f32⟩
  | 76 => ⟨S8448x1x16, .f32⟩
  | 77 => ⟨S8448x1x16, .f32⟩
  | 78 => ⟨S8448x16x16, .f32⟩
  | 79 => ⟨S8448x16x16, .f32⟩
  | 80 => ⟨S8448x16x16, .f32⟩
  | 81 => ⟨S8448x16x16, .f32⟩
  | 82 => ⟨S8448x16x16, .f32⟩
  | 83 => ⟨S8448x16x16, .f32⟩
  | 84 => ⟨S8448x16x16, .f32⟩
  | 85 => ⟨S8448x16x16, .f32⟩
  | 86 => ⟨S8448x16x16, .f32⟩
  | 87 => ⟨S8448x16x16, .f32⟩
  | 88 => ⟨S8448x16x32, .f32⟩
  | 89 => ⟨S8448x16x32, .f32⟩
  | 90 => ⟨S8448x16x16, .f32⟩
  | 91 => ⟨S8448x16x16, .f32⟩
  | 92 => ⟨S8448x1x16, .f32⟩
  | 93 => ⟨S8448x1x16, .f32⟩
  | 94 => ⟨S8448x16x16, .f32⟩
  | 95 => ⟨S8448x16x16, .f32⟩
  | 96 => ⟨S8448x16x16, .f32⟩
  | 97 => ⟨S8448x16x16, .f32⟩
  | 98 => ⟨S8448x16x16, .f32⟩
  | 99 => ⟨S8448x16x16, .f32⟩
  | 100 => ⟨S8448x16x16, .f32⟩
  | 101 => ⟨S8448x16x16, .f32⟩
  | 102 => ⟨S8448x16x16, .f32⟩
  | 103 => ⟨S8448x16x16, .f32⟩
  | 104 => ⟨S8448x16x32, .f32⟩
  | 105 => ⟨S8448x16x64, .f32⟩
  | 106 => ⟨S8448x256, .f32⟩
  | 107 => ⟨S8448x4x64, .f32⟩
  | 108 => ⟨S8448x4x64, .f32⟩
  | 109 => ⟨S_, .f32⟩
  | 110 => ⟨S8448x4x64, .f32⟩
  | 111 => ⟨S8448x4x64, .f32⟩
  | 112 => ⟨S_, .f32⟩
  | 113 => ⟨S8448x4, .f32⟩
  | 114 => ⟨S8448x4x1, .f32⟩
  | 115 => ⟨S_, .f32⟩
  | 116 => ⟨S8448x4x1, .f32⟩
  | 117 => ⟨S8448x4x1, .f32⟩
  | 118 => ⟨S_, .f32⟩
  | 119 => ⟨S8448x4x1, .f32⟩
  | 120 => ⟨S8448x4x1, .f32⟩
  | 121 => ⟨S8448x4x1, .f32⟩
  | 122 => ⟨S8448x4x1, .f32⟩
  | 123 => ⟨S_, .f32⟩
  | 124 => ⟨S8448x4x1, .f32⟩
  | 125 => ⟨S8448x4x1, .f32⟩
  | 126 => ⟨S8448x4x64, .f32⟩
  | 127 => ⟨S8448x4x64, .f32⟩
  | _ => ⟨S8448x1536, .f32⟩

abbrev hbmTy0_1 (i : Nat) : BufTy := match i % 128 with
  | 0 => ⟨S1x1x64, .f32⟩
  | 1 => ⟨S8448x4x64, .f32⟩
  | 2 => ⟨S8448x4x64, .f32⟩
  | 3 => ⟨S8448x4x32, .f32⟩
  | 4 => ⟨S8448x4x16, .f32⟩
  | 5 => ⟨S8448x4x16, .f32⟩
  | 6 => ⟨S8448x1x16, .f32⟩
  | 7 => ⟨S8448x1x16, .f32⟩
  | 8 => ⟨S8448x4x16, .f32⟩
  | 9 => ⟨S8448x4x16, .f32⟩
  | 10 => ⟨S8448x4x16, .f32⟩
  | 11 => ⟨S8448x4x16, .f32⟩
  | 12 => ⟨S8448x4x16, .f32⟩
  | 13 => ⟨S8448x4x16, .f32⟩
  | 14 => ⟨S8448x4x16, .f32⟩
  | 15 => ⟨S8448x4x16, .f32⟩
  | 16 => ⟨S8448x4x16, .f32⟩
  | 17 => ⟨S8448x4x16, .f32⟩
  | 18 => ⟨S8448x4x32, .f32⟩
  | 19 => ⟨S8448x4x32, .f32⟩
  | 20 => ⟨S8448x4x16, .f32⟩
  | 21 => ⟨S8448x4x16, .f32⟩
  | 22 => ⟨S8448x1x16, .f32⟩
  | 23 => ⟨S8448x1x16, .f32⟩
  | 24 => ⟨S8448x4x16, .f32⟩
  | 25 => ⟨S8448x4x16, .f32⟩
  | 26 => ⟨S8448x4x16, .f32⟩
  | 27 => ⟨S8448x4x16, .f32⟩
  | 28 => ⟨S8448x4x16, .f32⟩
  | 29 => ⟨S8448x4x16, .f32⟩
  | 30 => ⟨S8448x4x16, .f32⟩
  | 31 => ⟨S8448x4x16, .f32⟩
  | 32 => ⟨S8448x4x16, .f32⟩
  | 33 => ⟨S8448x4x16, .f32⟩
  | 34 => ⟨S8448x4x32, .f32⟩
  | 35 => ⟨S8448x4x64, .f32⟩
  | 36 => ⟨S8448x1024, .f32⟩
  | 37 => ⟨S_, .f32⟩
  | 38 => ⟨S8448x1024, .f32⟩
  | 39 => ⟨S8448x1024, .f32⟩
  | 40 => ⟨S8448x256, .f32⟩
  | 41 => ⟨S_, .f32⟩
  | 42 => ⟨S8448x256, .f32⟩
  | 43 => ⟨S8448x256, .f32⟩
  | 44 => ⟨S8448x256, .f32⟩
  | 45 => ⟨S_, .f32⟩
  | 46 => ⟨S8448x1536, .f32⟩
  | 47 => ⟨S_, .f32⟩
  | 48 => ⟨S8448x256, .f32⟩
  | 49 => ⟨S8448x256, .f32⟩
  | 50 => ⟨S8448x4x64, .f32⟩
  | 51 => ⟨S_, .f32⟩
  | 52 => ⟨S8448x1024, .f32⟩
  | 53 => ⟨S8448x1024, .f32⟩
  | 54 => ⟨S8448x16x64, .f32⟩
  | 55 => ⟨S8448x4x32, .f32⟩
  | 56 => ⟨S8448x4x32, .f32⟩
  | 57 => ⟨S8448x4x16, .f32⟩
  | 58 => ⟨S8448x4x16, .f32⟩
  | 59 => ⟨S8448x4x16, .f32⟩
  | 60 => ⟨S8448x4x16, .f32⟩
  | 61 => ⟨S8448x4x16, .f32⟩
  | 62 => ⟨S8448x4x16, .f32⟩
  | 63 => ⟨S8448x4x16, .f32⟩
  | 64 => ⟨S8448x4x16, .f32⟩
  | 65 => ⟨S8448x4x16, .f32⟩
  | 66 => ⟨S8448x4x16, .f32⟩
  | 67 => ⟨S8448x4x16, .f32⟩
  | 68 => ⟨S8448x4x16, .f32⟩
  | 69 => ⟨S8448x4x16, .f32⟩
  | 70 => ⟨S_, .f32⟩
  | 71 => ⟨S8448x4x32, .f32⟩
  | 72 => ⟨S_, .f32⟩
  | 73 => ⟨S8448x4x32, .f32⟩
  | 74 => ⟨S8448x4x32, .f32⟩
  | 75 => ⟨S_, .f32⟩
  | 76 => ⟨S8448x4x64, .f32⟩
  | 77 => ⟨S8448x4x16, .f32⟩
  | 78 => ⟨S8448x4x16, .f32⟩
  | 79 => ⟨S8448x4x16, .f32⟩
  | 80 => ⟨S8448x4x16, .f32⟩
  | 81 => ⟨S8448x4x16, .f32⟩
  | 82 => ⟨S8448x4x16, .f32⟩
  | 83 => ⟨S8448x4x16, .f32⟩
  | 84 => ⟨S8448x4x16, .f32⟩
  | 85 => ⟨S8448x4x16, .f32⟩
  | 86 => ⟨S8448x4x16, .f32⟩
  | 87 => ⟨S8448x4x16, .f32⟩
  | 88 => ⟨S8448x4x16, .f32⟩
  | 89 => ⟨S8448x4x16, .f32⟩
  | 90 => ⟨S_, .f32⟩
  | 91 => ⟨S8448x4x32, .f32⟩
  | 92 => ⟨S_, .f32⟩
  | 93 => ⟨S8448x4x32, .f32⟩
  | 94 => ⟨S8448x4x32, .f32⟩
  | 95 => ⟨S_, .f32⟩
  | 96 => ⟨S8448x4x64, .f32⟩
  | 97 => ⟨S8448x4x64, .f32⟩
  | 98 => ⟨S8448x4x64, .f32⟩
  | 99 => ⟨S_, .f32⟩
  | 100 => ⟨S64, .f32⟩
  | 101 => ⟨S1x1x64, .f32⟩
  | 102 => ⟨S8448x4x64, .f32⟩
  | 103 => ⟨S8448x4x64, .f32⟩
  | 104 => ⟨S_, .f32⟩
  | 105 => ⟨S64, .f32⟩
  | 106 => ⟨S8448x4x64, .f32⟩
  | 107 => ⟨S_, .f32⟩
  | 108 => ⟨S8448x4, .f32⟩
  | 109 => ⟨S8448x4x1, .f32⟩
  | 110 => ⟨S8448x4x64, .f32⟩
  | 111 => ⟨S8448x4x64, .f32⟩
  | 112 => ⟨S8448x4x1, .f32⟩
  | 113 => ⟨S_, .f32⟩
  | 114 => ⟨S8448x4x1, .f32⟩
  | 115 => ⟨S8448x4x1, .f32⟩
  | 116 => ⟨S_, .f32⟩
  | 117 => ⟨S8448x4, .f32⟩
  | 118 => ⟨S8448x4x64, .f32⟩
  | 119 => ⟨S8448x4x64, .f32⟩
  | 120 => ⟨S8448x4x64, .f32⟩
  | 121 => ⟨S8448x256, .f32⟩
  | 122 => ⟨S_, .f32⟩
  | 123 => ⟨S8448x1536, .f32⟩
  | 124 => ⟨S8448x1536, .f32⟩
  | 125 => ⟨S8448x16x32, .f32⟩
  | 126 => ⟨S8448x16x32, .f32⟩
  | 127 => ⟨S8448x16x16, .f32⟩
  | _ => ⟨S8448x1536, .f32⟩

abbrev hbmTy0_2 (i : Nat) : BufTy := match i % 128 with
  | 0 => ⟨S8448x16x16, .f32⟩
  | 1 => ⟨S8448x16x16, .f32⟩
  | 2 => ⟨S8448x16x16, .f32⟩
  | 3 => ⟨S8448x16x16, .f32⟩
  | 4 => ⟨S8448x16x16, .f32⟩
  | 5 => ⟨S8448x16x16, .f32⟩
  | 6 => ⟨S8448x16x16, .f32⟩
  | 7 => ⟨S8448x16x16, .f32⟩
  | 8 => ⟨S8448x16x16, .f32⟩
  | 9 => ⟨S8448x16x16, .f32⟩
  | 10 => ⟨S8448x16x16, .f32⟩
  | 11 => ⟨S8448x16x16, .f32⟩
  | 12 => ⟨S_, .f32⟩
  | 13 => ⟨S8448x16x32, .f32⟩
  | 14 => ⟨S_, .f32⟩
  | 15 => ⟨S8448x16x32, .f32⟩
  | 16 => ⟨S8448x16x32, .f32⟩
  | 17 => ⟨S_, .f32⟩
  | 18 => ⟨S8448x16x64, .f32⟩
  | 19 => ⟨S8448x16x16, .f32⟩
  | 20 => ⟨S8448x16x16, .f32⟩
  | 21 => ⟨S8448x16x16, .f32⟩
  | 22 => ⟨S8448x16x16, .f32⟩
  | 23 => ⟨S8448x16x16, .f32⟩
  | 24 => ⟨S8448x16x16, .f32⟩
  | 25 => ⟨S8448x16x16, .f32⟩
  | 26 => ⟨S8448x16x16, .f32⟩
  | 27 => ⟨S8448x16x16, .f32⟩
  | 28 => ⟨S8448x16x16, .f32⟩
  | 29 => ⟨S8448x16x16, .f32⟩
  | 30 => ⟨S8448x16x16, .f32⟩
  | 31 => ⟨S8448x16x16, .f32⟩
  | 32 => ⟨S_, .f32⟩
  | 33 => ⟨S8448x16x32, .f32⟩
  | 34 => ⟨S_, .f32⟩
  | 35 => ⟨S8448x16x32, .f32⟩
  | 36 => ⟨S8448x16x32, .f32⟩
  | 37 => ⟨S_, .f32⟩
  | 38 => ⟨S8448x16x64, .f32⟩
  | 39 => ⟨S8448x16x64, .f32⟩
  | 40 => ⟨S8448x16x64, .f32⟩
  | 41 => ⟨S_, .f32⟩
  | 42 => ⟨S64, .f32⟩
  | 43 => ⟨S1x1x64, .f32⟩
  | 44 => ⟨S8448x16x64, .f32⟩
  | 45 => ⟨S8448x16x64, .f32⟩
  | 46 => ⟨S_, .f32⟩
  | 47 => ⟨S64, .f32⟩
  | 48 => ⟨S8448x16x64, .f32⟩
  | 49 => ⟨S_, .f32⟩
  | 50 => ⟨S8448x16, .f32⟩
  | 51 => ⟨S8448x16x1, .f32⟩
  | 52 => ⟨S8448x16x64, .f32⟩
  | 53 => ⟨S8448x16x64, .f32⟩
  | 54 => ⟨S8448x16x1, .f32⟩
  | 55 => ⟨S_, .f32⟩
  | 56 => ⟨S8448x16x1, .f32⟩
  | 57 => ⟨S8448x16x1, .f32⟩
  | 58 => ⟨S_, .f32⟩
  | 59 => ⟨S8448x16, .f32⟩
  | 60 => ⟨S8448x16x64, .f32⟩
  | 61 => ⟨S8448x16x64, .f32⟩
  | 62 => ⟨S8448x16x64, .f32⟩
  | 63 => ⟨S8448x1024, .f32⟩
  | 64 => ⟨S_, .f32⟩
  | 65 => ⟨S8448x1536, .f32⟩
  | 66 => ⟨S8448x1536, .f32⟩
  | 67 => ⟨S8448x1536, .bf16⟩
  | _ => ⟨S8448x1536, .f32⟩

abbrev hbmTy (i : Nat) : BufTy := match i / 128 with
  | 0 => hbmTy0_0 i
  | 1 => hbmTy0_1 i
  | 2 => hbmTy0_2 i
  | _ => ⟨S8448x1536, .f32⟩

abbrev bufTy : (tb : Table) → Fin (tcTables nBuf tb) → BufTy
  | .hbm, ⟨i, _⟩ => hbmTy i
  | _, _ => ⟨S8448x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_3 : Ref sig .tc := ⟨.hbm, 51, rfl⟩
abbrev main_v40 : Ref sig .tc := ⟨.hbm, 52, rfl⟩
abbrev main_v41 : Ref sig .tc := ⟨.hbm, 53, rfl⟩
abbrev main_cst_4 : Ref sig .tc := ⟨.hbm, 54, rfl⟩
abbrev main_v42 : Ref sig .tc := ⟨.hbm, 55, rfl⟩
abbrev main_v43 : Ref sig .tc := ⟨.hbm, 56, rfl⟩
abbrev main_cst_5 : Ref sig .tc := ⟨.hbm, 57, rfl⟩
abbrev main_v44 : Ref sig .tc := ⟨.hbm, 58, rfl⟩
abbrev main_v45 : Ref sig .tc := ⟨.hbm, 59, rfl⟩
abbrev main_cst_6 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_7 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_cst_8 : Ref sig .tc := ⟨.hbm, 109, rfl⟩
abbrev main_v93 : Ref sig .tc := ⟨.hbm, 110, rfl⟩
abbrev main_v94 : Ref sig .tc := ⟨.hbm, 111, rfl⟩
abbrev main_cst_9 : Ref sig .tc := ⟨.hbm, 112, rfl⟩
abbrev main_v95 : Ref sig .tc := ⟨.hbm, 113, rfl⟩
abbrev main_v96 : Ref sig .tc := ⟨.hbm, 114, rfl⟩
abbrev main_cst_10 : Ref sig .tc := ⟨.hbm, 115, rfl⟩
abbrev main_v97 : Ref sig .tc := ⟨.hbm, 116, rfl⟩
abbrev main_v98 : Ref sig .tc := ⟨.hbm, 117, rfl⟩
abbrev main_cst_11 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_cst_12 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_cst_13 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_cst_14 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_cst_15 : Ref sig .tc := ⟨.hbm, 173, rfl⟩
abbrev main_v150 : Ref sig .tc := ⟨.hbm, 174, rfl⟩
abbrev main_cst_16 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_cst_17 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩
abbrev main_v160 : Ref sig .tc := ⟨.hbm, 186, rfl⟩
abbrev main_v161 : Ref sig .tc := ⟨.hbm, 187, rfl⟩
abbrev main_v162 : Ref sig .tc := ⟨.hbm, 188, rfl⟩
abbrev main_v163 : Ref sig .tc := ⟨.hbm, 189, rfl⟩
abbrev main_v164 : Ref sig .tc := ⟨.hbm, 190, rfl⟩
abbrev main_v165 : Ref sig .tc := ⟨.hbm, 191, rfl⟩
abbrev main_v166 : Ref sig .tc := ⟨.hbm, 192, rfl⟩
abbrev main_v167 : Ref sig .tc := ⟨.hbm, 193, rfl⟩
abbrev main_v168 : Ref sig .tc := ⟨.hbm, 194, rfl⟩
abbrev main_v169 : Ref sig .tc := ⟨.hbm, 195, rfl⟩
abbrev main_v170 : Ref sig .tc := ⟨.hbm, 196, rfl⟩
abbrev main_v171 : Ref sig .tc := ⟨.hbm, 197, rfl⟩
abbrev main_cst_18 : Ref sig .tc := ⟨.hbm, 198, rfl⟩
abbrev main_v172 : Ref sig .tc := ⟨.hbm, 199, rfl⟩
abbrev main_cst_19 : Ref sig .tc := ⟨.hbm, 200, rfl⟩
abbrev main_v173 : Ref sig .tc := ⟨.hbm, 201, rfl⟩
abbrev main_v174 : Ref sig .tc := ⟨.hbm, 202, rfl⟩
abbrev main_cst_20 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_cst_21 : Ref sig .tc := ⟨.hbm, 218, rfl⟩
abbrev main_v189 : Ref sig .tc := ⟨.hbm, 219, rfl⟩
abbrev main_cst_22 : Ref sig .tc := ⟨.hbm, 220, rfl⟩
abbrev main_v190 : Ref sig .tc := ⟨.hbm, 221, rfl⟩
abbrev main_v191 : Ref sig .tc := ⟨.hbm, 222, rfl⟩
abbrev main_cst_23 : Ref sig .tc := ⟨.hbm, 223, rfl⟩
abbrev main_v192 : Ref sig .tc := ⟨.hbm, 224, rfl⟩
abbrev main_v193 : Ref sig .tc := ⟨.hbm, 225, rfl⟩
abbrev main_v194 : Ref sig .tc := ⟨.hbm, 226, rfl⟩
abbrev main_cst_24 : Ref sig .tc := ⟨.hbm, 227, rfl⟩
abbrev main_v195 : Ref sig .tc := ⟨.hbm, 228, rfl⟩
abbrev main_v196 : Ref sig .tc := ⟨.hbm, 229, rfl⟩
abbrev main_v197 : Ref sig .tc := ⟨.hbm, 230, rfl⟩
abbrev main_v198 : Ref sig .tc := ⟨.hbm, 231, rfl⟩
abbrev main_cst_25 : Ref sig .tc := ⟨.hbm, 232, rfl⟩
abbrev main_v199 : Ref sig .tc := ⟨.hbm, 233, rfl⟩
abbrev main_v200 : Ref sig .tc := ⟨.hbm, 234, rfl⟩
abbrev main_cst_26 : Ref sig .tc := ⟨.hbm, 235, rfl⟩
abbrev main_v201 : Ref sig .tc := ⟨.hbm, 236, rfl⟩
abbrev main_v202 : Ref sig .tc := ⟨.hbm, 237, rfl⟩
abbrev main_v203 : Ref sig .tc := ⟨.hbm, 238, rfl⟩
abbrev main_v204 : Ref sig .tc := ⟨.hbm, 239, rfl⟩
abbrev main_v205 : Ref sig .tc := ⟨.hbm, 240, rfl⟩
abbrev main_cst_27 : Ref sig .tc := ⟨.hbm, 241, rfl⟩
abbrev main_v206 : Ref sig .tc := ⟨.hbm, 242, rfl⟩
abbrev main_v207 : Ref sig .tc := ⟨.hbm, 243, rfl⟩
abbrev main_cst_28 : Ref sig .tc := ⟨.hbm, 244, rfl⟩
abbrev main_v208 : Ref sig .tc := ⟨.hbm, 245, rfl⟩
abbrev main_v209 : Ref sig .tc := ⟨.hbm, 246, rfl⟩
abbrev main_v210 : Ref sig .tc := ⟨.hbm, 247, rfl⟩
abbrev main_v211 : Ref sig .tc := ⟨.hbm, 248, rfl⟩
abbrev main_v212 : Ref sig .tc := ⟨.hbm, 249, rfl⟩
abbrev main_cst_29 : Ref sig .tc := ⟨.hbm, 250, rfl⟩
abbrev main_v213 : Ref sig .tc := ⟨.hbm, 251, rfl⟩
abbrev main_v214 : Ref sig .tc := ⟨.hbm, 252, rfl⟩
abbrev main_v215 : Ref sig .tc := ⟨.hbm, 253, rfl⟩
abbrev main_v216 : Ref sig .tc := ⟨.hbm, 254, rfl⟩
abbrev main_v217 : Ref sig .tc := ⟨.hbm, 255, rfl⟩
abbrev main_v218 : Ref sig .tc := ⟨.hbm, 256, rfl⟩
abbrev main_v219 : Ref sig .tc := ⟨.hbm, 257, rfl⟩
abbrev main_v220 : Ref sig .tc := ⟨.hbm, 258, rfl⟩
abbrev main_v221 : Ref sig .tc := ⟨.hbm, 259, rfl⟩
abbrev main_v222 : Ref sig .tc := ⟨.hbm, 260, rfl⟩
abbrev main_v223 : Ref sig .tc := ⟨.hbm, 261, rfl⟩
abbrev main_v224 : Ref sig .tc := ⟨.hbm, 262, rfl⟩
abbrev main_v225 : Ref sig .tc := ⟨.hbm, 263, rfl⟩
abbrev main_v226 : Ref sig .tc := ⟨.hbm, 264, rfl⟩
abbrev main_v227 : Ref sig .tc := ⟨.hbm, 265, rfl⟩
abbrev main_v228 : Ref sig .tc := ⟨.hbm, 266, rfl⟩
abbrev main_v229 : Ref sig .tc := ⟨.hbm, 267, rfl⟩
abbrev main_cst_30 : Ref sig .tc := ⟨.hbm, 268, rfl⟩
abbrev main_v230 : Ref sig .tc := ⟨.hbm, 269, rfl⟩
abbrev main_cst_31 : Ref sig .tc := ⟨.hbm, 270, rfl⟩
abbrev main_v231 : Ref sig .tc := ⟨.hbm, 271, rfl⟩
abbrev main_v232 : Ref sig .tc := ⟨.hbm, 272, rfl⟩
abbrev main_cst_32 : Ref sig .tc := ⟨.hbm, 273, rfl⟩
abbrev main_v233 : Ref sig .tc := ⟨.hbm, 274, rfl⟩
abbrev main_v234 : Ref sig .tc := ⟨.hbm, 275, rfl⟩
abbrev main_v235 : Ref sig .tc := ⟨.hbm, 276, rfl⟩
abbrev main_v236 : Ref sig .tc := ⟨.hbm, 277, rfl⟩
abbrev main_v237 : Ref sig .tc := ⟨.hbm, 278, rfl⟩
abbrev main_v238 : Ref sig .tc := ⟨.hbm, 279, rfl⟩
abbrev main_v239 : Ref sig .tc := ⟨.hbm, 280, rfl⟩
abbrev main_v240 : Ref sig .tc := ⟨.hbm, 281, rfl⟩
abbrev main_v241 : Ref sig .tc := ⟨.hbm, 282, rfl⟩
abbrev main_v242 : Ref sig .tc := ⟨.hbm, 283, rfl⟩
abbrev main_v243 : Ref sig .tc := ⟨.hbm, 284, rfl⟩
abbrev main_v244 : Ref sig .tc := ⟨.hbm, 285, rfl⟩
abbrev main_v245 : Ref sig .tc := ⟨.hbm, 286, rfl⟩
abbrev main_v246 : Ref sig .tc := ⟨.hbm, 287, rfl⟩
abbrev main_cst_33 : Ref sig .tc := ⟨.hbm, 288, rfl⟩
abbrev main_v247 : Ref sig .tc := ⟨.hbm, 289, rfl⟩
abbrev main_cst_34 : Ref sig .tc := ⟨.hbm, 290, rfl⟩
abbrev main_v248 : Ref sig .tc := ⟨.hbm, 291, rfl⟩
abbrev main_v249 : Ref sig .tc := ⟨.hbm, 292, rfl⟩
abbrev main_cst_35 : Ref sig .tc := ⟨.hbm, 293, rfl⟩
abbrev main_v250 : Ref sig .tc := ⟨.hbm, 294, rfl⟩
abbrev main_v251 : Ref sig .tc := ⟨.hbm, 295, rfl⟩
abbrev main_v252 : Ref sig .tc := ⟨.hbm, 296, rfl⟩
abbrev main_cst_36 : Ref sig .tc := ⟨.hbm, 297, rfl⟩
abbrev main_v253 : Ref sig .tc := ⟨.hbm, 298, rfl⟩
abbrev main_v254 : Ref sig .tc := ⟨.hbm, 299, rfl⟩
abbrev main_v255 : Ref sig .tc := ⟨.hbm, 300, rfl⟩
abbrev main_v256 : Ref sig .tc := ⟨.hbm, 301, rfl⟩
abbrev main_cst_37 : Ref sig .tc := ⟨.hbm, 302, rfl⟩
abbrev main_v257 : Ref sig .tc := ⟨.hbm, 303, rfl⟩
abbrev main_v258 : Ref sig .tc := ⟨.hbm, 304, rfl⟩
abbrev main_cst_38 : Ref sig .tc := ⟨.hbm, 305, rfl⟩
abbrev main_v259 : Ref sig .tc := ⟨.hbm, 306, rfl⟩
abbrev main_v260 : Ref sig .tc := ⟨.hbm, 307, rfl⟩
abbrev main_v261 : Ref sig .tc := ⟨.hbm, 308, rfl⟩
abbrev main_v262 : Ref sig .tc := ⟨.hbm, 309, rfl⟩
abbrev main_v263 : Ref sig .tc := ⟨.hbm, 310, rfl⟩
abbrev main_cst_39 : Ref sig .tc := ⟨.hbm, 311, rfl⟩
abbrev main_v264 : Ref sig .tc := ⟨.hbm, 312, rfl⟩
abbrev main_v265 : Ref sig .tc := ⟨.hbm, 313, rfl⟩
abbrev main_cst_40 : Ref sig .tc := ⟨.hbm, 314, rfl⟩
abbrev main_v266 : Ref sig .tc := ⟨.hbm, 315, rfl⟩
abbrev main_v267 : Ref sig .tc := ⟨.hbm, 316, rfl⟩
abbrev main_v268 : Ref sig .tc := ⟨.hbm, 317, rfl⟩
abbrev main_v269 : Ref sig .tc := ⟨.hbm, 318, rfl⟩
abbrev main_v270 : Ref sig .tc := ⟨.hbm, 319, rfl⟩
abbrev main_cst_41 : Ref sig .tc := ⟨.hbm, 320, rfl⟩
abbrev main_v271 : Ref sig .tc := ⟨.hbm, 321, rfl⟩
abbrev main_v272 : Ref sig .tc := ⟨.hbm, 322, rfl⟩
abbrev main_v273 : Ref sig .tc := ⟨.hbm, 323, rfl⟩

abbrev nD : Nat := 1
abbrev τ : Topo := Topo.v7x

variable {F : FTy → Type} [FloatOps F]
-- ==== Mm.lean ====
abbrev S8448x1024 : Shape := ⟨2, ![8448, 1024]⟩
abbrev S1024x1536 : Shape := ⟨2, ![1024, 1536]⟩
abbrev S1536x1024 : Shape := ⟨2, ![1536, 1024]⟩
abbrev S8448x1536 : Shape := ⟨2, ![8448, 1536]⟩
abbrev S768x1024 : Shape := ⟨2, ![768, 1024]⟩
abbrev S768x1536 : Shape := ⟨2, ![768, 1536]⟩

abbrev nBuf : Space → Nat
  | .hbm => 6
  | .vmem => 5
  | .smem => 0
  | _ => 0

abbrev bufTy : (tb : Table) → Fin (tcTables nBuf tb) → BufTy
  | .hbm, ⟨0, _⟩ => ⟨S8448x1024, .f32⟩
  | .hbm, ⟨1, _⟩ => ⟨S1024x1536, .f32⟩
  | .hbm, ⟨2, _⟩ => ⟨S8448x1024, .bf16⟩
  | .hbm, ⟨3, _⟩ => ⟨S1536x1024, .f32⟩
  | .hbm, ⟨4, _⟩ => ⟨S1536x1024, .bf16⟩
  | .hbm, ⟨5, _⟩ => ⟨S8448x1536, .f32⟩
  | .local _ .vmem, ⟨0, _⟩ => ⟨S768x1024, .bf16⟩
  | .local _ .vmem, ⟨1, _⟩ => ⟨S768x1024, .bf16⟩
  | .local _ .vmem, ⟨2, _⟩ => ⟨S1536x1024, .bf16⟩
  | .local _ .vmem, ⟨3, _⟩ => ⟨S768x1536, .f32⟩
  | .local _ .vmem, ⟨4, _⟩ => ⟨S768x1536, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MmRefIdeal.lean ====
abbrev S8448x1024 : Shape := ⟨2, ![8448, 1024]⟩
abbrev S1024x1536 : Shape := ⟨2, ![1024, 1536]⟩
abbrev S8448x1536 : Shape := ⟨2, ![8448, 1536]⟩

abbrev nBuf : Space → Nat
  | .hbm => 3
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x1536, .f32⟩
  | .hbm, ⟨2, _⟩ => ⟨S8448x1536, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MmTwo.lean ====
abbrev S8448x2816 : Shape := ⟨2, ![8448, 2816]⟩
abbrev S1024x2816 : Shape := ⟨2, ![1024, 2816]⟩
abbrev S2816x1024 : Shape := ⟨2, ![2816, 1024]⟩
abbrev S8448x1024 : Shape := ⟨2, ![8448, 1024]⟩
abbrev S384x2816 : Shape := ⟨2, ![384, 2816]⟩
abbrev S384x1024 : Shape := ⟨2, ![384, 1024]⟩

abbrev nBuf : Space → Nat
  | .hbm => 11
  | .vmem => 8
  | .smem => 0
  | _ => 0

abbrev bufTy : (tb : Table) → Fin (tcTables nBuf tb) → BufTy
  | .hbm, ⟨0, _⟩ => ⟨S8448x2816, .f32⟩
  | .hbm, ⟨1, _⟩ => ⟨S8448x2816, .f32⟩
  | .hbm, ⟨2, _⟩ => ⟨S1024x2816, .f32⟩
  | .hbm, ⟨3, _⟩ => ⟨S1024x2816, .f32⟩
  | .hbm, ⟨4, _⟩ => ⟨S8448x2816, .bf16⟩
  | .hbm, ⟨5, _⟩ => ⟨S2816x1024, .f32⟩
  | .hbm, ⟨6, _⟩ => ⟨S2816x1024, .bf16⟩
  | .hbm, ⟨7, _⟩ => ⟨S8448x2816, .bf16⟩
  | .hbm, ⟨8, _⟩ => ⟨S2816x1024, .f32⟩
  | .hbm, ⟨9, _⟩ => ⟨S2816x1024, .bf16⟩
  | .hbm, ⟨10, _⟩ => ⟨S8448x1024, .f32⟩
  | .local _ .vmem, ⟨0, _⟩ => ⟨S384x2816, .bf16⟩
  | .local _ .vmem, ⟨1, _⟩ => ⟨S384x2816, .bf16⟩
  | .local _ .vmem, ⟨2, _⟩ => ⟨S2816x1024, .bf16⟩
  | .local _ .vmem, ⟨3, _⟩ => ⟨S384x2816, .bf16⟩
  | .local _ .vmem, ⟨4, _⟩ => ⟨S384x2816, .bf16⟩
  | .local _ .vmem, ⟨5, _⟩ => ⟨S2816x1024, .bf16⟩
  | .local _ .vmem, ⟨6, _⟩ => ⟨S384x1024, .f32⟩
  | .local _ .vmem, ⟨7, _⟩ => ⟨S384x1024, .f32⟩
  | _, _ => ⟨S8448x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MmTwoRefIdeal.lean ====
abbrev S8448x2816 : Shape := ⟨2, ![8448, 2816]⟩
abbrev S1024x2816 : Shape := ⟨2, ![1024, 2816]⟩
abbrev S_ : Shape := ⟨0, ![]⟩
abbrev S8448x1024 : Shape := ⟨2, ![8448, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8448x2816, .f32⟩
  | .hbm, ⟨1, _⟩ => ⟨S8448x2816, .f32⟩
  | .hbm, ⟨2, _⟩ => ⟨S1024x2816, .f32⟩
  | .hbm, ⟨3, _⟩ => ⟨S1024x2816, .f32⟩
  | .hbm, ⟨4, _⟩ => ⟨S_, .f32⟩
  | .hbm, ⟨5, _⟩ => ⟨S8448x1024, .f32⟩
  | .hbm, ⟨6, _⟩ => ⟨S8448x2816, .f32⟩
  | .hbm, ⟨7, _⟩ => ⟨S8448x2816, .f32⟩
  | .hbm, ⟨8, _⟩ => ⟨S8448x1024, .f32⟩
  | .hbm, ⟨9, _⟩ => ⟨S8448x1024, .f32⟩
  | .hbm, ⟨10, _⟩ => ⟨S8448x1024, .f32⟩
  | _, _ => ⟨S8448x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== MmTn.lean ====
abbrev S8448x2816 : Shape := ⟨2, ![8448, 2816]⟩
abbrev S8448x1024 : Shape := ⟨2, ![8448, 1024]⟩
abbrev S2816x1024 : Shape := ⟨2, ![2816, 1024]⟩
abbrev S768x1408 : Shape := ⟨2, ![768, 1408]⟩
abbrev S768x1024 : Shape := ⟨2, ![768, 1024]⟩
abbrev S1408x1024 : Shape := ⟨2, ![1408, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8448x2816, .f32⟩
  | .hbm, ⟨1, _⟩ => ⟨S8448x1024, .f32⟩
  | .hbm, ⟨2, _⟩ => ⟨S8448x2816, .bf16⟩
  | .hbm, ⟨3, _⟩ => ⟨S8448x1024, .bf16⟩
  | .hbm, ⟨4, _⟩ => ⟨S2816x1024, .f32⟩
  | .local _ .vmem, ⟨0, _⟩ => ⟨S768x1408, .bf16⟩
  | .local _ .vmem, ⟨1, _⟩ => ⟨S768x1408, .bf16⟩
  | .local _ .vmem, ⟨2, _⟩ => ⟨S768x1024, .bf16⟩
  | .local _ .vmem, ⟨3, _⟩ => ⟨S768x1024, .bf16⟩
  | .local _ .vmem, ⟨4, _⟩ => ⟨S1408x1024, .f32⟩
  | .local _ .vmem, ⟨5, _⟩ => ⟨S1408x1024, .f32⟩
  | _, _ => ⟨S8448x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== MmTnRefIdeal.lean ====
abbrev S8448x2816 : Shape := ⟨2, ![8448, 2816]⟩
abbrev S8448x1024 : Shape := ⟨2, ![8448, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8448x2816, .f32⟩
  | .hbm, ⟨1, _⟩ => ⟨S8448x1024, .f32⟩
  | .hbm, ⟨2, _⟩ => ⟨S_, .f32⟩
  | .hbm, ⟨3, _⟩ => ⟨S2816x1024, .f32⟩
  | .hbm, ⟨4, _⟩ => ⟨S8448x1024, .f32⟩
  | .hbm, ⟨5, _⟩ => ⟨S1024x2816, .f32⟩
  | .hbm, ⟨6, _⟩ => ⟨S2816x1024, .f32⟩
  | _, _ => ⟨S8448x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Adamw.lean ====
abbrev S4x1024x352 : Shape := ⟨3, ![4, 1024, 352]⟩
abbrev S4096x352 : Shape := ⟨2, ![4096, 352]⟩
abbrev S512x352 : Shape := ⟨2, ![512, 352]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x352, .f32⟩
  | .hbm, ⟨1, _⟩ => ⟨S4x1024x352, .f32⟩
  | .hbm, ⟨2, _⟩ => ⟨S4x1024x352, .f32⟩
  | .hbm, ⟨3, _⟩ => ⟨S4x1024x352, .f32⟩
  | .hbm, ⟨4, _⟩ => ⟨S4096x352, .f32⟩
  | .hbm, ⟨5, _⟩ => ⟨S4096x352, .f32⟩
  | .hbm, ⟨6, _⟩ => ⟨S4096x352, .f32⟩
  | .hbm, ⟨7, _⟩ => ⟨S4096x352, .f32⟩
  | .hbm, ⟨8, _⟩ => ⟨S4096x352, .f32⟩
  | .hbm, ⟨9, _⟩ => ⟨S4096x352, .f32⟩
  | .hbm, ⟨10, _⟩ => ⟨S4096x352, .f32⟩
  | .local _ .vmem, ⟨0, _⟩ => ⟨S512x352, .f32⟩
  | .local _ .vmem, ⟨1, _⟩ => ⟨S512x352, .f32⟩
  | .local _ .vmem, ⟨2, _⟩ => ⟨S512x352, .f32⟩
  | .local _ .vmem, ⟨3, _⟩ => ⟨S512x352, .f32⟩
  | .local _ .vmem, ⟨4, _⟩ => ⟨S512x352, .f32⟩
  | .local _ .vmem, ⟨5, _⟩ => ⟨S512x352, .f32⟩
  | .local _ .vmem, ⟨6, _⟩ => ⟨S512x352, .f32⟩
  | .local _ .vmem, ⟨7, _⟩ => ⟨S512x352, .f32⟩
  | .local _ .vmem, ⟨8, _⟩ => ⟨S512x352, .f32⟩
  | .local _ .vmem, ⟨9, _⟩ => ⟨S512x352, .f32⟩
  | .local _ .vmem, ⟨10, _⟩ => ⟨S512x352, .f32⟩
  | .local _ .vmem, ⟨11, _⟩ => ⟨S512x352, .f32⟩
  | .local _ .vmem, ⟨12, _⟩ => ⟨S512x352, .f32⟩
  | .local _ .vmem, ⟨13, _⟩ => ⟨S512x352, .f32⟩
  | _, _ => ⟨S4x1024x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwRefIdeal.lean ====
abbrev S4x1024x352 : Shape := ⟨3, ![4, 1024, 352]⟩
abbrev S_ : Shape := ⟨0, ![]⟩
abbrev S4096x352 : Shape := ⟨2, ![4096, 352]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x352, .f32⟩
  | .hbm, ⟨1, _⟩ => ⟨S4x1024x352, .f32⟩
  | .hbm, ⟨2, _⟩ => ⟨S4x1024x352, .f32⟩
  | .hbm, ⟨3, _⟩ => ⟨S4x1024x352, .f32⟩
  | .hbm, ⟨4, _⟩ => ⟨S_, .f32⟩
  | .hbm, ⟨5, _⟩ => ⟨S4x1024x352, .f32⟩
  | .hbm, ⟨6, _⟩ => ⟨S4x1024x352, .f32⟩
  | .hbm, ⟨7, _⟩ => ⟨S_, .f32⟩
  | .hbm, ⟨8, _⟩ => ⟨S4x1024x352, .f32⟩
  | .hbm, ⟨9, _⟩ => ⟨S4x1024x352, .f32⟩
  | .hbm, ⟨10, _⟩ => ⟨S4x1024x352, .f32⟩
  | .hbm, ⟨11, _⟩ => ⟨S_, .f32⟩
  | .hbm, ⟨12, _⟩ => ⟨S4x1024x352, .f32⟩
  | .hbm, ⟨13, _⟩ => ⟨S4x1024x352, .f32⟩
  | .hbm, ⟨14, _⟩ => ⟨S4x1024x352, .f32⟩
  | .hbm, ⟨15, _⟩ => ⟨S_, .f32⟩
  | .hbm, ⟨16, _⟩ => ⟨S4x1024x352, .f32⟩
  | .hbm, ⟨17, _⟩ => ⟨S4x1024x352, .f32⟩
  | .hbm, ⟨18, _⟩ => ⟨S4x1024x352, .f32⟩
  | .hbm, ⟨19, _⟩ => ⟨S_, .f32⟩
  | .hbm, ⟨20, _⟩ => ⟨S4x1024x352, .f32⟩
  | .hbm, ⟨21, _⟩ => ⟨S4x1024x352, .f32⟩
  | .hbm, ⟨22, _⟩ => ⟨S_, .f32⟩
  | .hbm, ⟨23, _⟩ => ⟨S4x1024x352, .f32⟩
  | .hbm, ⟨24, _⟩ => ⟨S4x1024x352, .f32⟩
  | .hbm, ⟨25, _⟩ => ⟨S4x1024x352, .f32⟩
  | .hbm, ⟨26, _⟩ => ⟨S_, .f32⟩
  | .hbm, ⟨27, _⟩ => ⟨S4x1024x352, .f32⟩
  | .hbm, ⟨28, _⟩ => ⟨S4x1024x352, .f32⟩
  | .hbm, ⟨29, _⟩ => ⟨S4x1024x352, .f32⟩
  | .hbm, ⟨30, _⟩ => ⟨S_, .f32⟩
  | .hbm, ⟨31, _⟩ => ⟨S4x1024x352, .f32⟩
  | .hbm, ⟨32, _⟩ => ⟨S4x1024x352, .f32⟩
  | .hbm, ⟨33, _⟩ => ⟨S4x1024x352, .f32⟩
  | .hbm, ⟨34, _⟩ => ⟨S_, .f32⟩
  | .hbm, ⟨35, _⟩ => ⟨S4x1024x352, .f32⟩
  | .hbm, ⟨36, _⟩ => ⟨S4x1024x352, .f32⟩
  | .hbm, ⟨37, _⟩ => ⟨S4096x352, .f32⟩
  | .hbm, ⟨38, _⟩ => ⟨S4096x352, .f32⟩
  | .hbm, ⟨39, _⟩ => ⟨S4096x352, .f32⟩
  | _, _ => ⟨S4x1024x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Mixer.lean ====
abbrev S8448x1024 : Shape := ⟨2, ![8448, 1024]⟩
abbrev S1024x1024 : Shape := ⟨2, ![1024, 1024]⟩
abbrev S1024 : Shape := ⟨1, ![1024]⟩
abbrev S1x1024 : Shape := ⟨2, ![1, 1024]⟩
abbrev S768x1024 : Shape := ⟨2, ![768, 1024]⟩
abbrev S768 : Shape := ⟨1, ![768]⟩
abbrev S768x1 : Shape := ⟨2, ![768, 1]⟩

abbrev nBuf : Space → Nat
  | .hbm => 12
  | .vmem => 13
  | .smem => 0
  | _ => 0

abbrev bufTy : (tb : Table) → Fin (tcTables nBuf tb) → BufTy
  | .hbm, ⟨0, _⟩ => ⟨S8448x1024, .f32⟩
  | .hbm, ⟨1, _⟩ => ⟨S1024x1024, .f32⟩
  | .hbm, ⟨2, _⟩ => ⟨S8448x1024, .f32⟩
  | .hbm, ⟨3, _⟩ => ⟨S1024, .f32⟩
  | .hbm, ⟨4, _⟩ => ⟨S1024, .f32⟩
  | .hbm, ⟨5, _⟩ => ⟨S8448x1024, .bf16⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S8448x1024, .f32⟩
  | .hbm, ⟨10, _⟩ => ⟨S8448x1024, .f32⟩
  | .hbm, ⟨11, _⟩ => ⟨S8448x1024, .bf16⟩
  | .local _ .vmem, ⟨0, _⟩ => ⟨S768x1024, .bf16⟩
  | .local _ .vmem, ⟨1, _⟩ => ⟨S768x1024, .bf16⟩
  | .local _ .vmem, ⟨2, _⟩ => ⟨S1024x1024, .bf16⟩
  | .local _ .vmem, ⟨3, _⟩ => ⟨S768x1024, .f32⟩
  | .local _ .vmem, ⟨4, _⟩ => ⟨S768x1024, .f32⟩
  | .local _ .vmem, ⟨5, _⟩ => ⟨S1x1024, .f32⟩
  | .local _ .vmem, ⟨6, _⟩ => ⟨S1x1024, .f32⟩
  | .local _ .vmem, ⟨7, _⟩ => ⟨S768x1024, .f32⟩
  | .local _ .vmem, ⟨8, _⟩ => ⟨S768x1024, .f32⟩
  | .local _ .vmem, ⟨9, _⟩ => ⟨S768x1024, .f32⟩
  | .local _ .vmem, ⟨10, _⟩ => ⟨S768x1024, .f32⟩
  | .local _ .vmem, ⟨11, _⟩ => ⟨S768x1024, .bf16⟩
  | .local _ .vmem, ⟨12, _⟩ => ⟨S768x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S768x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S768x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S768x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MixerRefIdeal.lean ====
abbrev S8448x1024 : Shape := ⟨2, ![8448, 1024]⟩
abbrev S1024x1024 : Shape := ⟨2, ![1024, 1024]⟩
abbrev S1024 : Shape := ⟨1, ![1024]⟩
abbrev S_ : Shape := ⟨0, ![]⟩
abbrev S8448 : Shape := ⟨1, ![8448]⟩
abbrev S8448x1 : Shape := ⟨2, ![8448, 1]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x1024, .f32⟩
  | .hbm, ⟨2, _⟩ => ⟨S8448x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8448x1024, .f32⟩
  | .hbm, ⟨7, _⟩ => ⟨S8448x1024, .f32⟩
  | .hbm, ⟨8, _⟩ => ⟨S8448x1024, .f32⟩
  | .hbm, ⟨9, _⟩ => ⟨S8448x1024, .f32⟩
  | .hbm, ⟨10, _⟩ => ⟨S_, .f32⟩
  | .hbm, ⟨11, _⟩ => ⟨S8448, .f32⟩
  | .hbm, ⟨12, _⟩ => ⟨S8448x1, .f32⟩
  | .hbm, ⟨13, _⟩ => ⟨S_, .f32⟩
  | .hbm, ⟨14, _⟩ => ⟨S8448x1, .f32⟩
  | .hbm, ⟨15, _⟩ => ⟨S8448x1, .f32⟩
  | .hbm, ⟨16, _⟩ => ⟨S8448x1024, .f32⟩
  | .hbm, ⟨17, _⟩ => ⟨S8448x1024, .f32⟩
  | .hbm, ⟨18, _⟩ => ⟨S8448x1024, .f32⟩
  | .hbm, ⟨19, _⟩ => ⟨S_, .f32⟩
  | .hbm, ⟨20, _⟩ => ⟨S8448, .f32⟩
  | .hbm, ⟨21, _⟩ => ⟨S8448x1, .f32⟩
  | .hbm, ⟨22, _⟩ => ⟨S_, .f32⟩
  | .hbm, ⟨23, _⟩ => ⟨S8448x1, .f32⟩
  | .hbm, ⟨24, _⟩ => ⟨S8448x1, .f32⟩
  | .hbm, ⟨25, _⟩ => ⟨S8448x1024, .f32⟩
  | .hbm, ⟨26, _⟩ => ⟨S8448x1024, .f32⟩
  | .hbm, ⟨27, _⟩ => ⟨S_, .f32⟩
  | .hbm, ⟨28, _⟩ => ⟨S8448x1, .f32⟩
  | .hbm, ⟨29, _⟩ => ⟨S8448x1, .f32⟩
  | .hbm, ⟨30, _⟩ => ⟨S8448x1, .f32⟩
  | .hbm, ⟨31, _⟩ => ⟨S8448x1024, .f32⟩
  | .hbm, ⟨32, _⟩ => ⟨S8448x1024, .f32⟩
  | .hbm, ⟨33, _⟩ => ⟨S1x1024, .f32⟩
  | .hbm, ⟨34, _⟩ => ⟨S8448x1024, .f32⟩
  | .hbm, ⟨35, _⟩ => ⟨S8448x1024, .f32⟩
  | .hbm, ⟨36, _⟩ => ⟨S1x1024, .f32⟩
  | .hbm, ⟨37, _⟩ => ⟨S8448x1024, .f32⟩
  | .hbm, ⟨38, _⟩ => ⟨S8448x1024, .f32⟩
  | .hbm, ⟨39, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== SumTwo.lean ====
abbrev S4x5376x1024 : Shape := ⟨3, ![4, 5376, 1024]⟩
abbrev S21504x1024 : Shape := ⟨2, ![21504, 1024]⟩
abbrev S768x1024 : Shape := ⟨2, ![768, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4x5376x1024, .f32⟩
  | .hbm, ⟨1, _⟩ => ⟨S4x5376x1024, .f32⟩
  | .hbm, ⟨2, _⟩ => ⟨S21504x1024, .f32⟩
  | .hbm, ⟨3, _⟩ => ⟨S21504x1024, .f32⟩
  | .hbm, ⟨4, _⟩ => ⟨S21504x1024, .bf16⟩
  | .local _ .vmem, ⟨0, _⟩ => ⟨S768x1024, .f32⟩
  | .local _ .vmem, ⟨1, _⟩ => ⟨S768x1024, .f32⟩
  | .local _ .vmem, ⟨2, _⟩ => ⟨S768x1024, .f32⟩
  | .local _ .vmem, ⟨3, _⟩ => ⟨S768x1024, .f32⟩
  | .local _ .vmem, ⟨4, _⟩ => ⟨S768x1024, .bf16⟩
  | .local _ .vmem, ⟨5, _⟩ => ⟨S768x1024, .bf16⟩
  | _, _ => ⟨S4x5376x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![28], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumTwoRefIdeal.lean ====
abbrev S4x5376x1024 : Shape := ⟨3, ![4, 5376, 1024]⟩
abbrev S21504x1024 : Shape := ⟨2, ![21504, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4x5376x1024, .f32⟩
  | .hbm, ⟨1, _⟩ => ⟨S4x5376x1024, .f32⟩
  | .hbm, ⟨2, _⟩ => ⟨S4x5376x1024, .f32⟩
  | .hbm, ⟨3, _⟩ => ⟨S21504x1024, .f32⟩
  | .hbm, ⟨4, _⟩ => ⟨S21504x1024, .bf16⟩
  | _, _ => ⟨S4x5376x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SumFour.lean ====
abbrev S4x5376x1024 : Shape := ⟨3, ![4, 5376, 1024]⟩
abbrev S5376x1024 : Shape := ⟨2, ![5376, 1024]⟩
abbrev S1x768x1024 : Shape := ⟨3, ![1, 768, 1024]⟩
abbrev S768x1024 : Shape := ⟨2, ![768, 1024]⟩

abbrev nBuf : Space → Nat
  | .hbm => 3
  | .vmem => 10
  | .smem => 0
  | _ => 0

abbrev bufTy : (tb : Table) → Fin (tcTables nBuf tb) → BufTy
  | .hbm, ⟨0, _⟩ => ⟨S4x5376x1024, .f32⟩
  | .hbm, ⟨1, _⟩ => ⟨S4x5376x1024, .bf16⟩
  | .hbm, ⟨2, _⟩ => ⟨S5376x1024, .f32⟩
  | .local _ .vmem, ⟨0, _⟩ => ⟨S1x768x1024, .bf16⟩
  | .local _ .vmem, ⟨1, _⟩ => ⟨S1x768x1024, .bf16⟩
  | .local _ .vmem, ⟨2, _⟩ => ⟨S1x768x1024, .bf16⟩
  | .local _ .vmem, ⟨3, _⟩ => ⟨S1x768x1024, .bf16⟩
  | .local _ .vmem, ⟨4, _⟩ => ⟨S1x768x1024, .bf16⟩
  | .local _ .vmem, ⟨5, _⟩ => ⟨S1x768x1024, .bf16⟩
  | .local _ .vmem, ⟨6, _⟩ => ⟨S1x768x1024, .bf16⟩
  | .local _ .vmem, ⟨7, _⟩ => ⟨S1x768x1024, .bf16⟩
  | .local _ .vmem, ⟨8, _⟩ => ⟨S768x1024, .f32⟩
  | .local _ .vmem, ⟨9, _⟩ => ⟨S768x1024, .f32⟩
  | _, _ => ⟨S4x5376x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![7], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x768x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SumFourRefIdeal.lean ====
abbrev S4x5376x1024 : Shape := ⟨3, ![4, 5376, 1024]⟩
abbrev S_ : Shape := ⟨0, ![]⟩
abbrev S5376x1024 : Shape := ⟨2, ![5376, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4x5376x1024, .f32⟩
  | .hbm, ⟨1, _⟩ => ⟨S_, .f32⟩
  | .hbm, ⟨2, _⟩ => ⟨S5376x1024, .f32⟩
  | _, _ => ⟨S4x5376x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Groups.lean ====
abbrev S8448x1024 : Shape := ⟨2, ![8448, 1024]⟩
abbrev S1024 : Shape := ⟨1, ![1024]⟩
abbrev S_ : Shape := ⟨0, ![]⟩
abbrev S128 : Shape := ⟨1, ![128]⟩
abbrev S8 : Shape := ⟨1, ![8]⟩
abbrev S8x1x1 : Shape := ⟨3, ![8, 1, 1]⟩
abbrev S1x1024x1 : Shape := ⟨3, ![1, 1024, 1]⟩
abbrev S1x1x128 : Shape := ⟨3, ![1, 1, 128]⟩
abbrev S1x1024x128 : Shape := ⟨3, ![1, 1024, 128]⟩
abbrev S8x1x128 : Shape := ⟨3, ![8, 1, 128]⟩
abbrev S8x1024x128 : Shape := ⟨3, ![8, 1024, 128]⟩
abbrev S64x528x256 : Shape := ⟨3, ![64, 528, 256]⟩
abbrev S8448x128 : Shape := ⟨2, ![8448, 128]⟩
abbrev S8x528x256 : Shape := ⟨3, ![8, 528, 256]⟩
abbrev S528x1 : Shape := ⟨2, ![528, 1]⟩
abbrev S528x128 : Shape := ⟨2, ![528, 128]⟩
abbrev S528x1024 : Shape := ⟨2, ![528, 1024]⟩
abbrev S1024x128 : Shape := ⟨2, ![1024, 128]⟩
abbrev S528x256 : Shape := ⟨2, ![528, 256]⟩
abbrev S1x528x256 : Shape := ⟨3, ![1, 528, 256]⟩

abbrev nBuf : Space → Nat
  | .hbm => 101
  | .vmem => 5
  | .smem => 0
  | _ => 0

abbrev bufTy : (tb : Table) → Fin (tcTables nBuf tb) → BufTy
  | .hbm, ⟨0, _⟩ => ⟨S8448x1024, .f32⟩
  | .hbm, ⟨1, _⟩ => ⟨S1024, .i32⟩
  | .hbm, ⟨2, _⟩ => ⟨S_, .i32⟩
  | .hbm, ⟨3, _⟩ => ⟨S_, .i32⟩
  | .hbm, ⟨4, _⟩ => ⟨S1024, .i32⟩
  | .hbm, ⟨5, _⟩ => ⟨S1024, .i32⟩
  | .hbm, ⟨6, _⟩ => ⟨S1024, .i32⟩
  | .hbm, ⟨7, _⟩ => ⟨S_, .i32⟩
  | .hbm, ⟨8, _⟩ => ⟨S1024, .i32⟩
  | .hbm, ⟨9, _⟩ => ⟨S1024, .i1⟩
  | .hbm, ⟨10, _⟩ => ⟨S1024, .i32⟩
  | .hbm, ⟨11, _⟩ => ⟨S1024, .i32⟩
  | .hbm, ⟨12, _⟩ => ⟨S_, .i32⟩
  | .hbm, ⟨13, _⟩ => ⟨S1024, .i32⟩
  | .hbm, ⟨14, _⟩ => ⟨S1024, .i1⟩
  | .hbm, ⟨15, _⟩ => ⟨S1024, .i1⟩
  | .hbm, ⟨16, _⟩ => ⟨S_, .i32⟩
  | .hbm, ⟨17, _⟩ => ⟨S1024, .i32⟩
  | .hbm, ⟨18, _⟩ => ⟨S1024, .i32⟩
  | .hbm, ⟨19, _⟩ => ⟨S1024, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S1024, .i32⟩
  | .hbm, ⟨25, _⟩ => ⟨S1024, .i32⟩
  | .hbm, ⟨26, _⟩ => ⟨S_, .i32⟩
  | .hbm, ⟨27, _⟩ => ⟨S1024, .i32⟩
  | .hbm, ⟨28, _⟩ => ⟨S1024, .i1⟩
  | .hbm, ⟨29, _⟩ => ⟨S_, .i32⟩
  | .hbm, ⟨30, _⟩ => ⟨S1024, .i32⟩
  | .hbm, ⟨31, _⟩ => ⟨S1024, .i1⟩
  | .hbm, ⟨32, _⟩ => ⟨S_, .i32⟩
  | .hbm, ⟨33, _⟩ => ⟨S_, .i1⟩
  | .hbm, ⟨34, _⟩ => ⟨S1024, .i1⟩
  | .hbm, ⟨35, _⟩ => ⟨S1024, .i1⟩
  | .hbm, ⟨36, _⟩ => ⟨S1024, .i1⟩
  | .hbm, ⟨37, _⟩ => ⟨S1024, .i32⟩
  | .hbm, ⟨38, _⟩ => ⟨S1024, .i32⟩
  | .hbm, ⟨39, _⟩ => ⟨S1024, .i32⟩
  | .hbm, ⟨40, _⟩ => ⟨S128, .i32⟩
  | .hbm, ⟨41, _⟩ => ⟨S_, .i32⟩
  | .hbm, ⟨42, _⟩ => ⟨S_, .i32⟩
  | .hbm, ⟨43, _⟩ => ⟨S128, .i32⟩
  | .hbm, ⟨44, _⟩ => ⟨S128, .i32⟩
  | .hbm, ⟨45, _⟩ => ⟨S128, .i32⟩
  | .hbm, ⟨46, _⟩ => ⟨S_, .i32⟩
  | .hbm, ⟨47, _⟩ => ⟨S128, .i32⟩
  | .hbm, ⟨48, _⟩ => ⟨S128, .i1⟩
  | .hbm, ⟨49, _⟩ => ⟨S128, .i32⟩
  | .hbm, ⟨50, _⟩ => ⟨S128, .i32⟩
  | .hbm, ⟨51, _⟩ => ⟨S_, .i32⟩
  | .hbm, ⟨52, _⟩ => ⟨S128, .i32⟩
  | .hbm, ⟨53, _⟩ => ⟨S128, .i1⟩
  | .hbm, ⟨54, _⟩ => ⟨S128, .i1⟩
  | .hbm, ⟨55, _⟩ => ⟨S_, .i32⟩
  | .hbm, ⟨56, _⟩ => ⟨S128, .i32⟩
  | .hbm, ⟨57, _⟩ => ⟨S128, .i32⟩
  | .hbm, ⟨58, _⟩ => ⟨S128, .i32⟩
  | .hbm, ⟨59, _⟩ => ⟨S_, .i32⟩
  | .hbm, ⟨60, _⟩ => ⟨S_, .i1⟩
  | .hbm, ⟨61, _⟩ => ⟨S_, .i32⟩
  | .hbm, ⟨62, _⟩ => ⟨S_, .i32⟩
  | .hbm, ⟨63, _⟩ => ⟨S128, .i32⟩
  | .hbm, ⟨64, _⟩ => ⟨S128, .i32⟩
  | .hbm, ⟨65, _⟩ => ⟨S_, .i32⟩
  | .hbm, ⟨66, _⟩ => ⟨S128, .i32⟩
  | .hbm, ⟨67, _⟩ => ⟨S128, .i1⟩
  | .hbm, ⟨68, _⟩ => ⟨S_, .i32⟩
  | .hbm, ⟨69, _⟩ => ⟨S128, .i32⟩
  | .hbm, ⟨70, _⟩ => ⟨S128, .i1⟩
  | .hbm, ⟨71, _⟩ => ⟨S_, .i32⟩
  | .hbm, ⟨72, _⟩ => ⟨S_, .i1⟩
  | .hbm, ⟨73, _⟩ => ⟨S128, .i1⟩
  | .hbm, ⟨74, _⟩ => ⟨S128, .i1⟩
  | .hbm, ⟨75, _⟩ => ⟨S128, .i1⟩
  | .hbm, ⟨76, _⟩ => ⟨S128, .i32⟩
  | .hbm, ⟨77, _⟩ => ⟨S128, .i32⟩
  | .hbm, ⟨78, _⟩ => ⟨S128, .i32⟩
  | .hbm, ⟨79, _⟩ => ⟨S8, .i32⟩
  | .hbm, ⟨80, _⟩ => ⟨S8x1x1, .i32⟩
  | .hbm, ⟨81, _⟩ => ⟨S1x1024x1, .i32⟩
  | .hbm, ⟨82, _⟩ => ⟨S1x1x128, .i32⟩
  | .hbm, ⟨83, _⟩ => ⟨S1x1024x128, .i32⟩
  | .hbm, ⟨84, _⟩ => ⟨S1x1024x128, .i32⟩
  | .hbm, ⟨85, _⟩ => ⟨S1x1024x128, .i1⟩
  | .hbm, ⟨86, _⟩ => ⟨S1x1024x1, .i32⟩
  | .hbm, ⟨87, _⟩ => ⟨S_, .i32⟩
  | .hbm, ⟨88, _⟩ => ⟨S8x1x1, .i32⟩
  | .hbm, ⟨89, _⟩ => ⟨S8x1x1, .i32⟩
  | .hbm, ⟨90, _⟩ => ⟨S1x1x128, .i32⟩
  | .hbm, ⟨91, _⟩ => ⟨S8x1x128, .i32⟩
  | .hbm, ⟨92, _⟩ => ⟨S8x1x128, .i32⟩
  | .hbm, ⟨93, _⟩ => ⟨S8x1x128, .i32⟩
  | .hbm, ⟨94, _⟩ => ⟨S8x1024x128, .i32⟩
  | .hbm, ⟨95, _⟩ => ⟨S8x1024x128, .i32⟩
  | .hbm, ⟨96, _⟩ => ⟨S8x1024x128, .i1⟩
  | .hbm, ⟨97, _⟩ => ⟨S8x1024x128, .i1⟩
  | .hbm, ⟨98, _⟩ => ⟨S8x1024x128, .i1⟩
  | .hbm, ⟨99, _⟩ => ⟨S8x1024x128, .bf16⟩
  | .hbm, ⟨100, _⟩ => ⟨S64x528x256, .bf16⟩
  | .local _ .vmem, ⟨0, _⟩ => ⟨S8448x128, .f32⟩
  | .local _ .vmem, ⟨1, _⟩ => ⟨S8448x128, .f32⟩
  | .local _ .vmem, ⟨2, _⟩ => ⟨S8x1024x128, .bf16⟩
  | .local _ .vmem, ⟨3, _⟩ => ⟨S8x528x256, .bf16⟩
  | .local _ .vmem, ⟨4, _⟩ => ⟨S8x528x256, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_call0_call0_v0 : Ref sig .tc := ⟨.hbm, 4, rfl⟩
abbrev main_call0_call0_v1 : Ref sig .tc := ⟨.hbm, 5, rfl⟩
abbrev main_call0_call0_v2 : Ref sig .tc := ⟨.hbm, 6, rfl⟩
abbrev main_call0_call0_v3 : Ref sig .tc := ⟨.hbm, 7, rfl⟩
abbrev main_call0_call0_v4 : Ref sig .tc := ⟨.hbm, 8, rfl⟩
abbrev main_call0_call0_v5 : Ref sig .tc := ⟨.hbm, 9, rfl⟩
abbrev main_call0_call0_v6 : Ref sig .tc := ⟨.hbm, 10, rfl⟩
abbrev main_call0_call0_v7 : Ref sig .tc := ⟨.hbm, 11, rfl⟩
abbrev main_call0_call0_c : Ref sig .tc := ⟨.hbm, 12, rfl⟩
abbrev main_call0_call0_v8 : Ref sig .tc := ⟨.hbm, 13, rfl⟩
abbrev main_call0_call0_v9 : Ref sig .tc := ⟨.hbm, 14, rfl⟩
abbrev main_call0_call0_v10 : Ref sig .tc := ⟨.hbm, 15, rfl⟩
abbrev main_call0_call0_c_0 : Ref sig .tc := ⟨.hbm, 16, rfl⟩
abbrev main_call0_call0_v11 : Ref sig .tc := ⟨.hbm, 17, rfl⟩
abbrev main_call0_call0_v12 : Ref sig .tc := ⟨.hbm, 18, rfl⟩
abbrev main_v1_0 : Ref sig .tc := ⟨.hbm, 19, rfl⟩
abbrev main_call0_call1_c : Ref sig .tc := ⟨.hbm, 20, rfl⟩
abbrev main_call0_call1_v0 : Ref sig .tc := ⟨.hbm, 21, rfl⟩
abbrev main_call0_call1_c_0 : Ref sig .tc := ⟨.hbm, 22, rfl⟩
abbrev main_call0_call1_v1 : Ref sig .tc := ⟨.hbm, 23, rfl⟩
abbrev main_call0_call1_v2 : Ref sig .tc := ⟨.hbm, 24, rfl⟩
abbrev main_call0_call1_v3 : Ref sig .tc := ⟨.hbm, 25, rfl⟩
abbrev main_call0_call1_c_1 : Ref sig .tc := ⟨.hbm, 26, rfl⟩
abbrev main_call0_call1_v4 : Ref sig .tc := ⟨.hbm, 27, rfl⟩
abbrev main_call0_call1_v5 : Ref sig .tc := ⟨.hbm, 28, rfl⟩
abbrev main_call0_call1_c_2 : Ref sig .tc := ⟨.hbm, 29, rfl⟩
abbrev main_call0_call1_v6 : Ref sig .tc := ⟨.hbm, 30, rfl⟩
abbrev main_call0_call1_v7 : Ref sig .tc := ⟨.hbm, 31, rfl⟩
abbrev main_call0_call1_c_3 : Ref sig .tc := ⟨.hbm, 32, rfl⟩
abbrev main_call0_call1_v8 : Ref sig .tc := ⟨.hbm, 33, rfl⟩
abbrev main_call0_call1_v9 : Ref sig .tc := ⟨.hbm, 34, rfl⟩
abbrev main_call0_call1_v10 : Ref sig .tc := ⟨.hbm, 35, rfl⟩
abbrev main_call0_call1_v11 : Ref sig .tc := ⟨.hbm, 36, rfl⟩
abbrev main_call0_call1_v12 : Ref sig .tc := ⟨.hbm, 37, rfl⟩
abbrev main_call0_call1_v13 : Ref sig .tc := ⟨.hbm, 38, rfl⟩
abbrev main_v1_1 : Ref sig .tc := ⟨.hbm, 39, rfl⟩
abbrev main_v2 : Ref sig .tc := ⟨.hbm, 40, rfl⟩
abbrev main_c_0 : Ref sig .tc := ⟨.hbm, 41, rfl⟩
abbrev main_call1_v0 : Ref sig .tc := ⟨.hbm, 42, rfl⟩
abbrev main_call1_call0_v0 : Ref sig .tc := ⟨.hbm, 43, rfl⟩
abbrev main_call1_call0_v1 : Ref sig .tc := ⟨.hbm, 44, rfl⟩
abbrev main_call1_call0_v2 : Ref sig .tc := ⟨.hbm, 45, rfl⟩
abbrev main_call1_call0_v3 : Ref sig .tc := ⟨.hbm, 46, rfl⟩
abbrev main_call1_call0_v4 : Ref sig .tc := ⟨.hbm, 47, rfl⟩
abbrev main_call1_call0_v5 : Ref sig .tc := ⟨.hbm, 48, rfl⟩
abbrev main_call1_call0_v6 : Ref sig .tc := ⟨.hbm, 49, rfl⟩
abbrev main_call1_call0_v7 : Ref sig .tc := ⟨.hbm, 50, rfl⟩
abbrev main_call1_call0_c : Ref sig .tc := ⟨.hbm, 51, rfl⟩
abbrev main_call1_call0_v8 : Ref sig .tc := ⟨.hbm, 52, rfl⟩
abbrev main_call1_call0_v9 : Ref sig .tc := ⟨.hbm, 53, rfl⟩
abbrev main_call1_call0_v10 : Ref sig .tc := ⟨.hbm, 54, rfl⟩
abbrev main_call1_call0_c_0 : Ref sig .tc := ⟨.hbm, 55, rfl⟩
abbrev main_call1_call0_v11 : Ref sig .tc := ⟨.hbm, 56, rfl⟩
abbrev main_call1_call0_v12 : Ref sig .tc := ⟨.hbm, 57, rfl⟩
abbrev main_v3_0 : Ref sig .tc := ⟨.hbm, 58, rfl⟩
abbrev main_call1_call1_c : Ref sig .tc := ⟨.hbm, 59, rfl⟩
abbrev main_call1_call1_v0 : Ref sig .tc := ⟨.hbm, 60, rfl⟩
abbrev main_call1_call1_c_0 : Ref sig .tc := ⟨.hbm, 61, rfl⟩
abbrev main_call1_call1_v1 : Ref sig .tc := ⟨.hbm, 62, rfl⟩
abbrev main_call1_call1_v2 : Ref sig .tc := ⟨.hbm, 63, rfl⟩
abbrev main_call1_call1_v3 : Ref sig .tc := ⟨.hbm, 64, rfl⟩
abbrev main_call1_call1_c_1 : Ref sig .tc := ⟨.hbm, 65, rfl⟩
abbrev main_call1_call1_v4 : Ref sig .tc := ⟨.hbm, 66, rfl⟩
abbrev main_call1_call1_v5 : Ref sig .tc := ⟨.hbm, 67, rfl⟩
abbrev main_call1_call1_c_2 : Ref sig .tc := ⟨.hbm, 68, rfl⟩
abbrev main_call1_call1_v6 : Ref sig .tc := ⟨.hbm, 69, rfl⟩
abbrev main_call1_call1_v7 : Ref sig .tc := ⟨.hbm, 70, rfl⟩
abbrev main_call1_call1_c_3 : Ref sig .tc := ⟨.hbm, 71, rfl⟩
abbrev main_call1_call1_v8 : Ref sig .tc := ⟨.hbm, 72, rfl⟩
abbrev main_call1_call1_v9 : Ref sig .tc := ⟨.hbm, 73, rfl⟩
abbrev main_call1_call1_v10 : Ref sig .tc := ⟨.hbm, 74, rfl⟩
abbrev main_call1_call1_v11 : Ref sig .tc := ⟨.hbm, 75, rfl⟩
abbrev main_call1_call1_v12 : Ref sig .tc := ⟨.hbm, 76, rfl⟩
abbrev main_call1_call1_v13 : Ref sig .tc := ⟨.hbm, 77, rfl⟩
abbrev main_v3_1 : Ref sig .tc := ⟨.hbm, 78, rfl⟩
abbrev main_v4 : Ref sig .tc := ⟨.hbm, 79, rfl⟩
abbrev main_v5 : Ref sig .tc := ⟨.hbm, 80, rfl⟩
abbrev main_v6 : Ref sig .tc := ⟨.hbm, 81, rfl⟩
abbrev main_v7 : Ref sig .tc := ⟨.hbm, 82, rfl⟩
abbrev main_v8 : Ref sig .tc := ⟨.hbm, 83, rfl⟩
abbrev main_v9 : Ref sig .tc := ⟨.hbm, 84, rfl⟩
abbrev main_v10 : Ref sig .tc := ⟨.hbm, 85, rfl⟩
abbrev main_v11 : Ref sig .tc := ⟨.hbm, 86, rfl⟩
abbrev main_c_1 : Ref sig .tc := ⟨.hbm, 87, rfl⟩
abbrev main_v12 : Ref sig .tc := ⟨.hbm, 88, rfl⟩
abbrev main_v13 : Ref sig .tc := ⟨.hbm, 89, rfl⟩
abbrev main_v14 : Ref sig .tc := ⟨.hbm, 90, rfl⟩
abbrev main_v15 : Ref sig .tc := ⟨.hbm, 91, rfl⟩
abbrev main_v16 : Ref sig .tc := ⟨.hbm, 92, rfl⟩
abbrev main_v17 : Ref sig .tc := ⟨.hbm, 93, rfl⟩
abbrev main_v18 : Ref sig .tc := ⟨.hbm, 94, rfl⟩
abbrev main_v19 : Ref sig .tc := ⟨.hbm, 95, rfl⟩
abbrev main_v20 : Ref sig .tc := ⟨.hbm, 96, rfl⟩
abbrev main_v21 : Ref sig .tc := ⟨.hbm, 97, rfl⟩
abbrev main_v22 : Ref sig .tc := ⟨.hbm, 98, rfl⟩
abbrev main_v23 : Ref sig .tc := ⟨.hbm, 99, rfl⟩
abbrev main_v24 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8448x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x528x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GroupsRefIdeal.lean ====
abbrev S8448x1024 : Shape := ⟨2, ![8448, 1024]⟩
abbrev S_ : Shape := ⟨0, ![]⟩
abbrev S240x1024 : Shape := ⟨2, ![240, 1024]⟩
abbrev S8208x1024 : Shape := ⟨2, ![8208, 1024]⟩
abbrev S528x16x64x16 : Shape := ⟨4, ![528, 16, 64, 16]⟩
abbrev S64x528x16x16 : Shape := ⟨4, ![64, 528, 16, 16]⟩
abbrev S64x528x256 : Shape := ⟨3, ![64, 528, 256]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S_, .f32⟩
  | .hbm, ⟨2, _⟩ => ⟨S240x1024, .f32⟩
  | .hbm, ⟨3, _⟩ => ⟨S8208x1024, .f32⟩
  | .hbm, ⟨4, _⟩ => ⟨S8448x1024, .f32⟩
  | .hbm, ⟨5, _⟩ => ⟨S528x16x64x16, .f32⟩
  | .hbm, ⟨6, _⟩ => ⟨S64x528x16x16, .f32⟩
  | .hbm, ⟨7, _⟩ => ⟨S64x528x256, .f32⟩
  | .hbm, ⟨8, _⟩ => ⟨S64x528x256, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Proof.GluValue.lean ====
/- The value of the claim about the gated unit: what the kernel writes is the derivative of `gelu y * sigmoid gw`. -/
module

public import proofs.«01_k».proof.Defs
public import proofs.«01_k».proof.Proof.Gen.GluIdeal.Value
public import proofs.«01_k».proof.Proof.Gen.GluRefIdeal.Run
public import Idealize.ShloMosaic.Lib.Claim
public import Idealize.ShloMosaic.Lib.Pointwise

@[expose] public section

noncomputable section

namespace Cert.GluProof

open Idealize.ShloMosaic Idealize.ShloMosaic.TcCoe Idealize.SL.Sem

theorem algebraic : Cert.algebraic_GluIdeal_GluRefIdeal := by
  intro m g m' g' _ hm
  refine ⟨_, _, (θ_run _ _ _).mono (fun r h c => ⟨(h c).1, (h c).2.1, (h c).2.2⟩) (Cert.GluIdeal.Value.run m g),
    (θ_run _ _ _).mono (fun r h c => ⟨(h c).1.trans ?_, (h c).2.1.trans ?_, (h c).2.2⟩) (Cert.GluRefIdeal.Value.run m' g')⟩
  · rw [(hm c).1, (hm c).2.1, (hm c).2.2]
    funext i
    pointwise
    rw [Ideal.erf_def, neg_mul, Ideal.erfc_neg, sub_eq_add_neg 0, zero_add, ← mul_assoc]
    exact congrArg (· * _) (congrArg (· * _) (mul_comm _ _))
  · rw [(hm c).1, (hm c).2.2]
    funext i
    pointwise
    rw [sub_eq_add_neg 0, zero_add]

end Cert.GluProof
end
-- ==== Proof.Reals.lean ====
/- Real arithmetic inside the extended reals: the operations of the ideal reading at real arguments, and what a finiteness
   precondition gives. -/
module

public import Idealize.ShloMosaic.PureOps.Ideal
public import Idealize.ShloMosaic.Lib.Claim
public import Idealize.ShloMosaic.Lib.Pointwise

@[expose] public section

noncomputable section

namespace Cert.Reals

open Idealize.ShloMosaic

/-- The quotient of two reals, the divisor not zero. -/
theorem div_real {x y : ℝ} (h : y ≠ 0) : Ideal.div (x : EReal) (y : EReal) = ((x / y : ℝ) : EReal) := by
  rw [Ideal.div_coe h, ← EReal.coe_mul, mul_one_div]

/-- The reciprocal square root of a positive real. -/
theorem rsqrt_real {x : ℝ} (h : 0 < x) : Ideal.rsqrt (x : EReal) = (((Real.sqrt x)⁻¹ : ℝ) : EReal) := by
  rw [Ideal.rsqrt_coe, if_neg (not_lt.mpr h.le), if_neg h.ne']

/-- A finite sum of reals is a real. -/
theorem sum_real {ι : Type*} [Fintype ι] (f : ι → ℝ) : (∑ k, ((f k : ℝ) : EReal)) = ((∑ k, f k : ℝ) : EReal) := by
  induction (Finset.univ : Finset ι) using Finset.cons_induction with
  | empty => simp
  | cons a s h ih => rw [Finset.sum_cons, Finset.sum_cons, EReal.coe_add, ih]

/-- An extended real whose absolute value is below `+∞` is a real. -/
theorem real_of_abs_lt {x : EReal} (h : Ideal.cmp .olt (max x (-x)) ⊤ = 1#1) : ∃ r : ℝ, x = (r : EReal) := by
  induction x with
  | bot => simp [Ideal.cmp] at h
  | top => simp [Ideal.cmp] at h
  | coe r => exact ⟨r, rfl⟩

/-- A product and a sum of reals are reals. -/
theorem mul_isReal {x y : EReal} (hx : ∃ r : ℝ, x = (r : EReal)) (hy : ∃ r : ℝ, y = (r : EReal)) : ∃ r : ℝ, x * y = (r : EReal) := by
  obtain ⟨a, rfl⟩ := hx; obtain ⟨b, rfl⟩ := hy; exact ⟨a * b, (EReal.coe_mul a b).symm⟩
theorem add_isReal {x y : EReal} (hx : ∃ r : ℝ, x = (r : EReal)) (hy : ∃ r : ℝ, y = (r : EReal)) : ∃ r : ℝ, x + y = (r : EReal) := by
  obtain ⟨a, rfl⟩ := hx; obtain ⟨b, rfl⟩ := hy; exact ⟨a + b, (EReal.coe_add a b).symm⟩

end Cert.Reals
end
-- ==== Proof.FfnValue.lean ====
/- The gradient of the gated product: what the kernel writes is the derivative of `(silu gate * up) · w_down` with respect to both factors. -/
module

public import proofs.«01_k».proof.Defs
public import proofs.«01_k».proof.Proof.Gen.FfnIdeal.Value
public import proofs.«01_k».proof.Proof.Gen.FfnRefIdeal.Run
public import proofs.«01_k».proof.Proof.Gen.Pre_finite_ffn
public import proofs.«01_k».proof.Proof.Reals
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnProof

open Cert.FfnIdeal Cert.FfnIdeal.Gen

variable (m : (ℓ : Loc nD τ sig) → Buf (Elt Ideal) ℓ)

/-- The windows' block indices. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] :=
  (by decide +kernel : ∀ t : Fin grid0.N, _)

/-- The row of the array that a block's row is. -/
abbrev rowAt (t : Fin cfg0.N) (a : Fin 256) : Fin 8448 := ⟨t.val * 256 + a.val, by have := t.isLt; have h : cfg0.N = 33 := N_0; omega⟩

theorem blk_df (c : Dev nD) (t : Fin cfg0.N) (a : Fin 256) (x : Fin 1024) :
    (iblk m c 0 t : FVec Ideal S256x1024 .bf16) (ix2 a x) = m ((c : Thread nD τ).loc main_arg0) (ix2 (rowAt t a) x) := by
  blk_simp [iblk]; entry_read; pointwise; blk_ext [idx t]

theorem blk_w (c : Dev nD) (t : Fin cfg0.N) (a : Fin 2816) (x : Fin 1024) :
    (iblk m c 1 t : FVec Ideal S2816x1024 .bf16) (ix2 a x) = m ((c : Thread nD τ).loc main_arg1) (ix2 a x) := by
  blk_simp [iblk]; entry_read; pointwise; blk_ext [idx t]

theorem blk_gate (c : Dev nD) (t : Fin cfg0.N) (a : Fin 256) (x : Fin 2816) :
    (iblk m c 2 t : FVec Ideal S256x2816 .bf16) (ix2 a x) = m ((c : Thread nD τ).loc main_arg2) (ix2 (rowAt t a) x) := by
  blk_simp [iblk]; entry_read; pointwise; blk_ext [idx t]

theorem blk_up (c : Dev nD) (t : Fin cfg0.N) (a : Fin 256) (x : Fin 2816) :
    (iblk m c 3 t : FVec Ideal S256x2816 .bf16) (ix2 a x) = m ((c : Thread nD τ).loc main_arg3) (ix2 (rowAt t a) x) := by
  blk_simp [iblk]; entry_read; pointwise; blk_ext [idx t]

/-- The gradient of the product's left factor. -/
def dact (DF : FVec Ideal S8448x1024 .f32) (W : FVec Ideal S2816x1024 .f32) : FVec Ideal S8448x2816 .f32 :=
  fun i => ∑ k : Fin 1024, DF (ix2 (i 0) k) * W (ix2 (i 1) k)

/-- The logistic function as the kernel computes it. -/
def sgm (x : EReal) : EReal := Ideal.div 1 (1 + Ideal.exp (0 - x))

/-- What the kernel writes for the gate. -/
def gradGate (DF : FVec Ideal S8448x1024 .f32) (W : FVec Ideal S2816x1024 .f32) (G U : FVec Ideal S8448x2816 .f32) : FVec Ideal S8448x2816 .f32 :=
  fun i => dact DF W i * U i * sgm (G i) * (1 + G i * (1 - sgm (G i)))

/-- What the kernel writes for the other factor. -/
def gradUp (DF : FVec Ideal S8448x1024 .f32) (W : FVec Ideal S2816x1024 .f32) (G : FVec Ideal S8448x2816 .f32) : FVec Ideal S8448x2816 .f32 :=
  fun i => dact DF W i * G i * sgm (G i)

theorem gate_eq (c : Dev nD) : (dats m 0 c).arrAt 4 (cfgs 0).N = gradGate (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t _ y => ?_
  blk_simp
  rw [after0_4]
  frame_out
  idx_vars y
  pointwise [k0_pay1, k0_pay2, k0_pay3, k0_pay4]
  simp only [blk_df, blk_w, blk_gate, blk_up]
  refine Eq.trans (b := gradGate (m ((c : Thread nD τ).loc main_arg0)) (m ((c : Thread nD τ).loc main_arg1)) (m ((c : Thread nD τ).loc main_arg2))
    (m ((c : Thread nD τ).loc main_arg3))
    (ix2 (rowAt t y0) y1)) rfl (congrArg _ ?_)
  blk_ext [idx t]

theorem up_eq (c : Dev nD) : (dats m 0 c).arrAt 5 (cfgs 0).N = gradUp (m ((c : Thread nD τ).loc main_arg0)) (m ((c : Thread nD τ).loc main_arg1))
    (m ((c : Thread nD τ).loc main_arg2)) := by
  refine (dats m 0 c).arrAt_eq_of_covers 5 _ (by decide +kernel) fun t _ y => ?_
  blk_simp
  rw [after0_5]
  frame_out
  idx_vars y
  pointwise [k0_pay1, k0_pay2, k0_pay3, k0_pay5]
  simp only [blk_df, blk_w, blk_gate, blk_up]
  refine Eq.trans (b := gradUp (m ((c : Thread nD τ).loc main_arg0)) (m ((c : Thread nD τ).loc main_arg1)) (m ((c : Thread nD τ).loc main_arg2))
    (ix2 (rowAt t y0) y1)) rfl (congrArg _ ?_)
  blk_ext [idx t]

/-- The logistic function of a real is a real. -/
theorem sgm_real {x : EReal} (h : ∃ r : ℝ, x = (r : EReal)) : ∃ r : ℝ, sgm x = (r : EReal) := by
  obtain ⟨r, rfl⟩ := h
  refine ⟨1 / (1 + Real.exp (-r)), ?_⟩
  have : (1 + Real.exp (-r)) ≠ 0 := by positivity
  unfold sgm
  rw [sub_eq_add_neg, zero_add, ← EReal.coe_neg, Ideal.exp_coe, ← EReal.coe_one, ← EReal.coe_add, Reals.div_real this]

theorem dact_real (DF : FVec Ideal S8448x1024 .f32) (W : FVec Ideal S2816x1024 .f32) (hd : ∀ i, ∃ r : ℝ, DF i = (r : EReal))
    (hw : ∀ i, ∃ r : ℝ, W i = (r : EReal)) (i : S8448x2816.Idx) : ∃ r : ℝ, dact DF W i = (r : EReal) := by
  choose f hf using hd
  choose g hg using hw
  exact ⟨_, by simp only [dact, hf, hg, ← EReal.coe_mul]; exact Reals.sum_real _⟩

/-- The derivative the reference takes is the one the kernel factors. -/
theorem gate_factor {a u g s : EReal} (ha : ∃ r : ℝ, a = (r : EReal)) (hu : ∃ r : ℝ, u = (r : EReal)) (hg : ∃ r : ℝ, g = (r : EReal))
    (hs : ∃ r : ℝ, s = (r : EReal)) : a * u * s + g * (a * u) * (s * (1 - s)) = a * u * s * (1 + g * (1 - s)) := by
  obtain ⟨a, rfl⟩ := ha; obtain ⟨u, rfl⟩ := hu; obtain ⟨g, rfl⟩ := hg; obtain ⟨s, rfl⟩ := hs
  rw [← EReal.coe_one]
  simp only [← EReal.coe_mul, ← EReal.coe_sub, ← EReal.coe_add]
  exact congrArg _ (by ring)

/-- What the reference writes for the gate is what the kernel writes. -/
theorem ref_gate (DF : FVec Ideal S8448x1024 .f32) (W : FVec Ideal S2816x1024 .f32) (G U : FVec Ideal S8448x2816 .f32)
    (hd : ∀ i, ∃ r : ℝ, DF i = (r : EReal)) (hw : ∀ i, ∃ r : ℝ, W i = (r : EReal)) (hg : ∀ i, ∃ r : ℝ, G i = (r : EReal))
    (hu : ∀ i, ∃ r : ℝ, U i = (r : EReal)) (i : S8448x2816.Idx) :
    dact DF W i * U i * sgm (G i) + G i * (dact DF W i * U i) * (sgm (G i) * (1 - sgm (G i))) = gradGate DF W G U i :=
  gate_factor (dact_real DF W hd hw i) (hu i) (hg i) (sgm_real (hg i))

/-- What the reference writes for the other factor, which is the kernel's in another order. -/
theorem ref_up (DF : FVec Ideal S8448x1024 .f32) (W : FVec Ideal S2816x1024 .f32) (G : FVec Ideal S8448x2816 .f32) (i : S8448x2816.Idx) :
    G i * sgm (G i) * dact DF W i = gradUp DF W G i := by
  rw [gradUp, mul_comm, ← mul_assoc]

theorem sgm_neg (x : EReal) : Ideal.div 1 (1 + Ideal.exp (-x)) = sgm x := by rw [sgm, sub_eq_add_neg, zero_add]

/-- The precondition makes every argument an array of reals. -/
theorem reals_of_pre (h : Cert.Pre_FfnIdeal_finite_ffn (hPre_finite_ffn := Cert.Pre_finite_ffn.Gen.facts) m) (c : Dev nD) :
    (∀ i, ∃ r : ℝ, m ((c : Thread nD τ).loc main_arg0) i = (r : EReal)) ∧ (∀ i, ∃ r : ℝ, m ((c : Thread nD τ).loc main_arg1) i = (r : EReal))
      ∧ (∀ i, ∃ r : ℝ, m ((c : Thread nD τ).loc main_arg2) i = (r : EReal)) ∧ ∀ i, ∃ r : ℝ, m ((c : Thread nD τ).loc main_arg3) i = (r : EReal) := by
  have h := h c
  unfold Cert.Pre_finite_ffn.fn at h
  refine ⟨fun i => ?_, fun i => ?_, fun i => ?_, fun i => ?_⟩
  · have h := congrFun h.1 i; exact Reals.real_of_abs_lt (by pointwise at h; exact h)
  · have h := congrFun h.2.1 i; exact Reals.real_of_abs_lt (by pointwise at h; exact h)
  · have h := congrFun h.2.2.1 i; exact Reals.real_of_abs_lt (by pointwise at h; exact h)
  · have h := congrFun h.2.2.2 i; exact Reals.real_of_abs_lt (by pointwise at h; exact h)

/-- The claim: both programs write the same two arrays. -/
theorem algebraic : Cert.algebraic_FfnIdeal_FfnRefIdeal_pre_finite_ffn (hPre_finite_ffn := Cert.Pre_finite_ffn.Gen.facts) := by
  intro m g m' g' hpre hm
  refine ⟨_, _, (θ_run _ _ _).mono (fun r h c => ⟨(h c).1.trans (gate_eq m c), (h c).2.1.trans (up_eq m c), (h c).2.2⟩) (Cert.FfnIdeal.Value.run_blocks m g),
    (θ_run _ _ _).mono (fun r h c => ⟨(h c).1.trans ?_, (h c).2.1.trans ?_, (h c).2.2⟩) (Cert.FfnRefIdeal.Value.run m' g')⟩
  · have hreal := reals_of_pre m hpre c
    rw [(hm c).1, (hm c).2.1, (hm c).2.2.1, (hm c).2.2.2]
    funext i
    idx_vars i
    pointwise
    simp only [sgm_neg]
    exact ref_gate (m (c.tc.loc main_arg0)) (m (c.tc.loc main_arg1)) (m (c.tc.loc main_arg2)) (m (c.tc.loc main_arg3)) hreal.1 hreal.2.1 hreal.2.2.1 hreal.2.2.2 (ix2 i0 i1)
  · rw [(hm c).1, (hm c).2.1, (hm c).2.2.1]
    funext i
    idx_vars i
    pointwise
    simp only [sgm_neg]
    exact ref_up (m (c.tc.loc main_arg0)) (m (c.tc.loc main_arg1)) (m (c.tc.loc main_arg2)) (ix2 i0 i1)

end Cert.FfnProof
end
-- ==== Proof.RowNorm.lean ====
/- The gradient of a layer norm along one row: the two-means form and the chain-rule form agree on real rows. -/
module

public import proofs.«01_k».proof.Proof.Reals

@[expose] public section

noncomputable section

namespace Cert.RowNorm

open Idealize.ShloMosaic Cert.Reals

/-- The row length as its float word. -/
abbrev n : EReal := Ideal.ofBits .f32 1149239296#32
/-- The number added to the variance. -/
abbrev eps : EReal := Ideal.ofBits .f32 925353388#32

theorem n_eq : n = ((1024 : ℝ) : EReal) := by simp [n, Ideal.ofBits, Ideal.ieee, -EReal.coe_mul]; norm_num
theorem eps_eq : ∃ e : ℝ, 0 < e ∧ eps = (e : EReal) :=
  ⟨10995116 / 2 ^ 40, by norm_num, by simp [eps, Ideal.ofBits, Ideal.ieee, -EReal.coe_mul]; norm_num⟩
theorem two_eq : Ideal.ofBits .f32 1073741824#32 = ((2 : ℝ) : EReal) := by simp [Ideal.ofBits, Ideal.ieee, -EReal.coe_mul]; norm_num
theorem neghalf_eq : Ideal.ofBits .f32 3204448256#32 = ((-(1 / 2) : ℝ) : EReal) := by
  simp [Ideal.ofBits, Ideal.ieee, -EReal.coe_mul]; norm_num

/-- The mean of a row. -/
abbrev mean (R : Fin 1024 → EReal) : EReal := Ideal.div (∑ x, R x) n
/-- The variance of a row, plus `eps`. -/
abbrev var (R : Fin 1024 → EReal) : EReal := Ideal.div (∑ x, (R x - mean R) * (R x - mean R)) n + eps
/-- The reciprocal standard deviation of a row. -/
abbrev rstd (R : Fin 1024 → EReal) : EReal := Ideal.rsqrt (var R)

/-- The gradient with respect to the row in the two-means form, `E` being the cotangent times the gain. -/
def twoMeans (E R : Fin 1024 → EReal) (j : Fin 1024) : EReal :=
  rstd R * (E j - Ideal.div (∑ x, E x) n - (R j - mean R) * rstd R * Ideal.div (∑ x, E x * ((R x - mean R) * rstd R)) n)

/-- The same gradient by the chain rule through the variance and the mean. -/
def chain (E R : Fin 1024 → EReal) (j : Fin 1024) : EReal :=
  E j * rstd R + (∑ _ : Fin 1, Ideal.div ((∑ x, (R x - mean R) * E x) * (Ideal.ofBits .f32 3204448256#32 * Ideal.div (rstd R) (var R))) n)
      * (Ideal.ofBits .f32 1073741824#32 * (R j - mean R))
    + ∑ _ : Fin 1, Ideal.div ((∑ x, -(E x * rstd R)) + ∑ x, -((∑ _ : Fin 1,
        Ideal.div ((∑ x, (R x - mean R) * E x) * (Ideal.ofBits .f32 3204448256#32 * Ideal.div (rstd R) (var R))) n)
          * (Ideal.ofBits .f32 1073741824#32 * (R x - mean R)))) n

/-- On real rows the two forms agree. -/
theorem chain_eq (e r : Fin 1024 → ℝ) (j : Fin 1024) :
    chain (fun x => (e x : EReal)) (fun x => (r x : EReal)) j = twoMeans (fun x => (e x : EReal)) (fun x => (r x : EReal)) j := by
  obtain ⟨ε, hε, hεe⟩ := eps_eq
  have h1024 : (1024 : ℝ) ≠ 0 := by norm_num
  unfold chain twoMeans rstd var mean
  rw [n_eq, hεe, two_eq, neghalf_eq]
  simp only [Fin.sum_univ_one, sum_real, div_real h1024, ← EReal.coe_sub, ← EReal.coe_mul, ← EReal.coe_add, ← EReal.coe_neg]
  set mu : ℝ := (∑ k, r k) / 1024 with hmu
  set v : ℝ := (∑ k, (r k - mu) * (r k - mu)) / 1024 + ε with hv
  have hv0 : 0 < v := by
    have : 0 ≤ ∑ k, (r k - mu) * (r k - mu) := Finset.sum_nonneg fun k _ => mul_self_nonneg _
    positivity
  simp only [rsqrt_real hv0, div_real hv0.ne', sum_real, div_real h1024, ← EReal.coe_sub, ← EReal.coe_mul, ← EReal.coe_add, ← EReal.coe_neg]
  set s : ℝ := (Real.sqrt v)⁻¹ with hs
  have hss : s / v = s * s * s := by
    have : s * s = v⁻¹ := by rw [hs, ← mul_inv, Real.mul_self_sqrt hv0.le]
    rw [mul_assoc, this, div_eq_mul_inv]
  have hcenter : ∑ k, (r k - mu) = 0 := by
    rw [Finset.sum_sub_distrib, hmu]; simp; ring
  have hE : ∑ x, e x * ((r x - mu) * s) = (∑ x, (r x - mu) * e x) * s := by
    rw [Finset.sum_mul]; exact Finset.sum_congr rfl fun x _ => by ring
  have hneg : ∑ x, -(e x * s) = -(∑ x, e x) * s := by
    rw [Finset.sum_neg_distrib, ← Finset.sum_mul, neg_mul]
  have hzero (q : ℝ) : ∑ x, -(q * (2 * (r x - mu))) = 0 := by
    have : ∑ x, -(q * (2 * (r x - mu))) = (-(q * 2)) * ∑ x, (r x - mu) := by
      rw [Finset.mul_sum]; exact Finset.sum_congr rfl fun x _ => by ring
    rw [this, hcenter, mul_zero]
  rw [hE, hneg, hzero, hss]
  congr 1
  ring

/-- The same for rows whose entries are known to be real. -/
theorem chain_eq_of_real (E R : Fin 1024 → EReal) (hE : ∀ x, ∃ e : ℝ, E x = (e : EReal)) (hR : ∀ x, ∃ r : ℝ, R x = (r : EReal)) (j : Fin 1024) :
    chain E R j = twoMeans E R j := by
  choose e he using hE
  choose r hr using hR
  obtain rfl : E = fun x => (e x : EReal) := funext he
  obtain rfl : R = fun x => (r x : EReal) := funext hr
  exact chain_eq e r j

end Cert.RowNorm
end
-- ==== Proof.LnTopValue.lean ====
/- The gradient of the last layer norm: what the kernel writes, array by array, and that the derivative of `layer_norm` is the same. -/
module

public import proofs.«01_k».proof.Defs
public import proofs.«01_k».proof.Proof.Gen.LnTopIdeal.Value
public import proofs.«01_k».proof.Proof.Gen.LnTopRefIdeal.Run
public import proofs.«01_k».proof.Proof.Gen.Pre_finite_lntop
public import proofs.«01_k».proof.Proof.RowNorm
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.LnTopProof

open Cert.LnTopIdeal Cert.LnTopIdeal.Gen Cert.RowNorm

variable (m : (ℓ : Loc nD τ sig) → Buf (Elt Ideal) ℓ)

/-- The gradient with respect to the rows. -/
def gradRow (D R : FVec Ideal S8448x1024 .f32) (G : FVec Ideal S1024 .f32) : FVec Ideal S8448x1024 .f32 :=
  fun i => twoMeans (fun x => D (ix2 (i 0) x) * G (ix1 x)) (fun x => R (ix2 (i 0) x)) (i 1)

/-- The gradient with respect to the gain: the column sums of the cotangent times the normalized rows. -/
def gradGain (D R : FVec Ideal S8448x1024 .f32) : FVec Ideal S1x1024 .f32 :=
  fun i => ∑ a : Fin 8448, D (ix2 a (i 1)) * ((R (ix2 a (i 1)) - mean fun x => R (ix2 a x)) * rstd fun x => R (ix2 a x))

/-- The gradient with respect to the bias: the column sums of the cotangent. -/
def gradBias (D : FVec Ideal S8448x1024 .f32) : FVec Ideal S1x1024 .f32 := fun i => ∑ a : Fin 8448, D (ix2 a (i 1))

/-- The windows' block indices. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] ∧ win0_6.index t = ![0, 0] :=
  (by decide +kernel : ∀ t : Fin grid0.N, _)

/-- The row of the array that a block's row is. -/
abbrev rowAt (t : Fin cfg0.N) (a : Fin 768) : Fin 8448 := ⟨t.val * 768 + a.val, by have := t.isLt; have h : cfg0.N = 11 := N_0; omega⟩

theorem blk_d (c : Dev nD) (t : Fin cfg0.N) (a : Fin 768) (x : Fin 1024) :
    (iblk m c 0 t : FVec Ideal S768x1024 .f32) (ix2 a x) = m ((c : Thread nD τ).loc main_arg0) (ix2 (rowAt t a) x) := by
  blk_ext [iblk, V, idx t]

theorem blk_r (c : Dev nD) (t : Fin cfg0.N) (a : Fin 768) (x : Fin 1024) :
    (iblk m c 1 t : FVec Ideal S768x1024 .f32) (ix2 a x) = m ((c : Thread nD τ).loc main_arg1) (ix2 (rowAt t a) x) := by
  blk_ext [iblk, V, idx t]

theorem blk_g (c : Dev nD) (t : Fin cfg0.N) (x : Fin 1024) :
    (iblk m c 2 t : FVec Ideal S1x1024 .f32) (ix2 0 x) = m ((c : Thread nD τ).loc main_arg2) (ix1 x) := by
  blk_simp [iblk]
  entry_read
  pointwise
  blk_ext [idx t]

/-- One entry of the gradient the body computes from a block of rows. -/
theorem pay_row (D R : FVec Ideal S768x1024 .f32) (G : FVec Ideal S1x1024 .f32) (a : Fin 768) (b : Fin 1024) :
    k0_pay9 (F := Ideal) D R G (ix2 a b)
      = twoMeans (fun x => D (ix2 a x) * G (ix2 0 x)) (fun x => R (ix2 a x)) b := by
  pointwise [k0_pay9, k0_pay8, k0_pay7, k0_pay6]
  rfl

/-- The same at a block of the grid: the entry of the whole gradient. -/
theorem pay_row_at (c : Dev nD) (t : Fin cfg0.N) (a : Fin 768) (b : Fin 1024) :
    k0_pay9 (F := Ideal) (iblk m c 0 t) (iblk m c 1 t) (iblk m c 2 t) (ix2 a b)
      = gradRow (m ((c : Thread nD τ).loc main_arg0)) (m ((c : Thread nD τ).loc main_arg1)) (m ((c : Thread nD τ).loc main_arg2))
          (ix2 (rowAt t a) b) := by
  refine (pay_row (iblk m c 0 t) (iblk m c 1 t) (iblk m c 2 t) a b).trans ?_
  simp only [blk_d, blk_r, blk_g]
  rfl

/-- What the first result holds. -/
theorem row_eq (c : Dev nD) : (dats m 0 c).arrAt 3 (cfgs 0).N = gradRow (m ((c : Thread nD τ).loc main_arg0))
    (m ((c : Thread nD τ).loc main_arg1)) (m ((c : Thread nD τ).loc main_arg2)) := by
  refine (dats m 0 c).arrAt_eq_of_covers 3 _ (by decide +kernel) fun t _ y => ?_
  blk_simp
  rw [after0_3]
  have : (outsAt0 m c t.val t.isLt).1 = k0_pay9 (iblk m c 0 t) (iblk m c 1 t) (iblk m c 2 t) := by
    by_cases h : t.val % 11 = 0
    · rw [outsAt0_A m c t h]; frame_out
    · rw [outsAt0_B m c t h]; frame_out
  rw [this]
  idx_vars y
  refine (pay_row_at m c t _ _).trans (congrArg _ ?_)
  blk_ext [idx t]

/-- What the second result holds: the same gradient. -/
theorem row16_eq (c : Dev nD) : (dats m 0 c).arrAt 4 (cfgs 0).N = gradRow (m ((c : Thread nD τ).loc main_arg0))
    (m ((c : Thread nD τ).loc main_arg1)) (m ((c : Thread nD τ).loc main_arg2)) := by
  refine (dats m 0 c).arrAt_eq_of_covers 4 _ (by decide +kernel) fun t _ y => ?_
  blk_simp
  rw [after0_4]
  have : (outsAt0 m c t.val t.isLt).2.1 = k0_pay1 (k0_pay9 (iblk m c 0 t) (iblk m c 1 t) (iblk m c 2 t)) := by
    by_cases h : t.val % 11 = 0
    · rw [outsAt0_A m c t h]; frame_out
    · rw [outsAt0_B m c t h]; frame_out
  rw [this]
  idx_vars y
  refine (pay_row_at m c t _ _).trans (congrArg _ ?_)
  blk_ext [idx t]

/-- One step of the gain's running sum. -/
theorem pay_gain (D R : FVec Ideal S768x1024 .f32) (acc : FVec Ideal S1x1024 .f32) (j : S1x1024.Idx) :
    k0_pay4 (F := Ideal) (k0_pay10 D R) acc j
      = acc j + ∑ a : Fin 768, D (ix2 a (j 1)) * ((R (ix2 a (j 1)) - mean fun x => R (ix2 a x)) * rstd fun x => R (ix2 a x)) := by
  idx_vars j
  pointwise [k0_pay4, k0_pay10, k0_pay8, k0_pay7, k0_pay6]

/-- One step of the bias's running sum. -/
theorem pay_bias (D : FVec Ideal S768x1024 .f32) (acc : FVec Ideal S1x1024 .f32) (j : S1x1024.Idx) :
    k0_pay5 (F := Ideal) (k0_pay11 D) acc j = acc j + ∑ a : Fin 768, D (ix2 a (j 1)) := by
  idx_vars j
  pointwise [k0_pay5, k0_pay11]

theorem zero_gain (j : S1x1024.Idx) : k0_pay2 (F := Ideal) j = 0 := by pointwise [k0_pay2]
theorem zero_bias (j : S1x1024.Idx) : k0_pay3 (F := Ideal) j = 0 := by pointwise [k0_pay3]

/-- What the third result holds. -/
theorem gain_eq (c : Dev nD) : (dats m 0 c).arrAt 5 (cfgs 0).N = gradGain (m ((c : Thread nD τ).loc main_arg0))
    (m ((c : Thread nD τ).loc main_arg1)) := by
  refine (dats m 0 c).arrAt_eq_of_after_last 5 t0_10 (by decide +kernel) _ fun j => ?_
  blk_simp
  rw [after0_5, Pipeline.eq_sum_fin_of_reset_step_apply_last (fun n h => (outsAt0 m c n h).2.2.1) 11 (fun _ => 0) _
    (fun t h j => by rw [outsAt0_A m c t h]; frame_out; rw [pay_gain, zero_gain])
    (fun t h j => by rw [outsAt0_B m c t h]; frame_out; rw [pay_gain])
    (le_of_eq N_0) t0_10 rfl j, zero_add]
  idx_vars j
  simp only [blk_d, blk_r]
  exact Fin.sum_mul_add_congr fun s k hl => rfl

/-- What the fourth result holds. -/
theorem bias_eq (c : Dev nD) : (dats m 0 c).arrAt 6 (cfgs 0).N = gradBias (m ((c : Thread nD τ).loc main_arg0)) := by
  refine (dats m 0 c).arrAt_eq_of_after_last 6 t0_10 (by decide +kernel) _ fun j => ?_
  blk_simp
  rw [after0_6, Pipeline.eq_sum_fin_of_reset_step_apply_last (fun n h => (outsAt0 m c n h).2.2.2) 11 (fun _ => 0) _
    (fun t h j => by rw [outsAt0_A m c t h]; frame_out; rw [pay_bias, zero_bias])
    (fun t h j => by rw [outsAt0_B m c t h]; frame_out; rw [pay_bias])
    (le_of_eq N_0) t0_10 rfl j, zero_add]
  idx_vars j
  simp only [blk_d]
  exact Fin.sum_mul_add_congr fun s k hl => rfl

/-! ## The reference -/

variable (m' : (ℓ : Loc LnTopRefIdeal.nD LnTopRefIdeal.τ LnTopRefIdeal.sig) → Buf (Elt Ideal) ℓ)

/-- The precondition makes every argument an array of reals. -/
theorem reals_of_pre (h : Cert.Pre_LnTopIdeal_finite_lntop (hPre_finite_lntop := Cert.Pre_finite_lntop.Gen.facts) m) (c : Dev nD) :
    (∀ i, ∃ r : ℝ, m ((c : Thread nD τ).loc main_arg0) i = (r : EReal)) ∧ (∀ i, ∃ r : ℝ, m ((c : Thread nD τ).loc main_arg1) i = (r : EReal))
      ∧ ∀ i, ∃ r : ℝ, m ((c : Thread nD τ).loc main_arg2) i = (r : EReal) := by
  have h := h c
  unfold Cert.Pre_finite_lntop.fn at h
  refine ⟨fun i => ?_, fun i => ?_, fun i => ?_⟩
  · have h := congrFun h.1 i; exact Reals.real_of_abs_lt (by pointwise at h; exact h)
  · have h := congrFun h.2.1 i; exact Reals.real_of_abs_lt (by pointwise at h; exact h)
  · have h := congrFun h.2.2 i; exact Reals.real_of_abs_lt (by pointwise at h; exact h)

/-- The gradient with respect to the rows by the chain rule. -/
def chainRow (D R : FVec Ideal S8448x1024 .f32) (G : FVec Ideal S1024 .f32) : FVec Ideal S8448x1024 .f32 :=
  fun i => chain (fun x => D (ix2 (i 0) x) * G (ix1 x)) (fun x => R (ix2 (i 0) x)) (i 1)

/-- One entry of the reference's gradient with respect to the rows. -/
theorem ref_row (c : Dev LnTopRefIdeal.nD) (a : Fin 8448) (b : Fin 1024) : LnTopRefIdeal.Value.res_out0 m' c (ix2 a b)
    = chainRow (m' (c.tc.loc LnTopRefIdeal.main_arg0)) (m' (c.tc.loc LnTopRefIdeal.main_arg1)) (m' (c.tc.loc LnTopRefIdeal.main_arg2)) (ix2 a b) := by
  unfold LnTopRefIdeal.Value.res_out0 LnTopRefIdeal.Value.res_main_v63
  pointwise
  rfl

/-- So the reference's gradient is the kernel's. -/
theorem hrow (c : Dev LnTopRefIdeal.nD)
    (hm : ∀ c : Dev nD, m' (c.tc.loc LnTopRefIdeal.main_arg0) = m (c.tc.loc main_arg0) ∧ m' (c.tc.loc LnTopRefIdeal.main_arg1) = m (c.tc.loc main_arg1)
      ∧ m' (c.tc.loc LnTopRefIdeal.main_arg2) = m (c.tc.loc main_arg2))
    (hpre : Cert.Pre_LnTopIdeal_finite_lntop (hPre_finite_lntop := Cert.Pre_finite_lntop.Gen.facts) m) :
    LnTopRefIdeal.Value.res_out0 m' c = gradRow (m (c.tc.loc main_arg0)) (m (c.tc.loc main_arg1)) (m (c.tc.loc main_arg2)) := by
  have hreal := reals_of_pre m hpre c
  funext i
  idx_vars i
  refine (ref_row m' c _ _).trans ?_
  rw [(hm c).1, (hm c).2.1, (hm c).2.2]
  exact chain_eq_of_real _ _ (fun x => Reals.mul_isReal (hreal.1 _) (hreal.2.2 _)) (fun x => hreal.2.1 _) _

/-- The claim: both programs write the same four arrays. -/
theorem algebraic : Cert.algebraic_LnTopIdeal_LnTopRefIdeal_pre_finite_lntop (hPre_finite_lntop := Cert.Pre_finite_lntop.Gen.facts) := by
  intro m g m' g' hpre hm
  refine ⟨_, _, _, _, (θ_run _ _ _).mono (fun r h c => ⟨(h c).1.trans (row_eq m c), (h c).2.1.trans (row16_eq m c),
      (h c).2.2.1.trans (gain_eq m c), (h c).2.2.2.1.trans (bias_eq m c), (h c).2.2.2.2⟩) (Cert.LnTopIdeal.Value.run_blocks m g),
    (θ_run _ _ _).mono (fun r h c => ⟨(h c).1.trans ?_, (h c).2.1.trans ?_, (h c).2.2.1.trans ?_, (h c).2.2.2.1.trans ?_, (h c).2.2.2.2⟩)
      (Cert.LnTopRefIdeal.Value.run m' g')⟩
  · exact hrow m m' c hm (hpre)
  · exact hrow m m' c hm (hpre)
  · rw [(hm c).1, (hm c).2.1]
    funext i
    idx_vars i
    pointwise
    simp only [Fin.sum_univ_one]
    exact Finset.sum_congr rfl fun x _ => mul_comm _ _
  · rw [(hm c).1]
    funext i
    idx_vars i
    pointwise
    simp only [Fin.sum_univ_one]
    rfl

end Cert.LnTopProof
end
-- ==== Proof.LnValue.lean ====
/- The gradient of an inner layer norm, whose cotangent is that of the residual sum times a constant plus that of the next part:
   what the kernel writes is the last layer norm's gradient at this cotangent, and so is the derivative of the reference. -/
module

public import proofs.«01_k».proof.Defs
public import proofs.«01_k».proof.Proof.Gen.LnIdeal.Value
public import proofs.«01_k».proof.Proof.Gen.LnRefIdeal.Run
public import proofs.«01_k».proof.Proof.Gen.Pre_finite_ln
public import proofs.«01_k».proof.Proof.LnTopValue

@[expose] public section

set_option maxRecDepth 16384

noncomputable section

open Idealize.ShloMosaic Idealize.ShloMosaic.TcCoe Idealize.SL.Sem
open Idealize.ShloMosaic.Pipeline (Dat)

namespace Cert.LnProof

open Cert.LnIdeal Cert.LnIdeal.Gen Cert.RowNorm
open Cert.LnTopProof (gradRow gradGain gradBias chainRow)

variable (m : (ℓ : Loc nD τ sig) → Buf (Elt Ideal) ℓ)

/-- The weight of the residual sum. -/
abbrev alpha : EReal := Ideal.ofBits .f32 1071072509#32

/-- The cotangent of the layer norm's result. -/
def cot (A B : FVec Ideal S8448x1024 .f32) : FVec Ideal S8448x1024 .f32 := fun i => alpha * A i + B i

/-- The windows' block indices. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![0, 0] ∧ win0_7.index t = ![0, 0] :=
  (by decide +kernel : ∀ t : Fin grid0.N, _)

/-- The row of the array that a block's row is. -/
abbrev rowAt (t : Fin cfg0.N) (a : Fin 768) : Fin 8448 := ⟨t.val * 768 + a.val, by have := t.isLt; have h : cfg0.N = 11 := N_0; omega⟩

/-- The cotangent of a block of rows. -/
theorem blk_d (c : Dev nD) (t : Fin cfg0.N) (a : Fin 768) (x : Fin 1024) :
    k0_pay7 (F := Ideal) (iblk m c 0 t) (iblk m c 1 t) (ix2 a x)
      = cot (m ((c : Thread nD τ).loc main_arg0)) (m ((c : Thread nD τ).loc main_arg1)) (ix2 (rowAt t a) x) := by
  pointwise [k0_pay7, cot]
  blk_point [iblk, V, idx t]

theorem blk_r (c : Dev nD) (t : Fin cfg0.N) (a : Fin 768) (x : Fin 1024) :
    (iblk m c 2 t : FVec Ideal S768x1024 .f32) (ix2 a x) = m ((c : Thread nD τ).loc main_arg2) (ix2 (rowAt t a) x) := by
  blk_ext [iblk, V, idx t]

theorem blk_g (c : Dev nD) (t : Fin cfg0.N) (x : Fin 1024) :
    (iblk m c 3 t : FVec Ideal S1x1024 .f32) (ix2 0 x) = m ((c : Thread nD τ).loc main_arg3) (ix1 x) := by
  blk_simp [iblk]
  entry_read
  pointwise
  blk_ext [idx t]

/-- The body computes the last layer norm's gradient at its cotangent. -/
theorem pay_row_at (c : Dev nD) (t : Fin cfg0.N) (a : Fin 768) (b : Fin 1024) :
    k0_pay1 (F := Ideal) (k0_pay11 (iblk m c 0 t) (iblk m c 1 t) (iblk m c 2 t) (iblk m c 3 t)) (k0_pay12 (iblk m c 2 t)) (ix2 a b)
      = gradRow (cot (m ((c : Thread nD τ).loc main_arg0)) (m ((c : Thread nD τ).loc main_arg1))) (m ((c : Thread nD τ).loc main_arg2))
          (m ((c : Thread nD τ).loc main_arg3)) (ix2 (rowAt t a) b) := by
  have h : k0_pay1 (F := Ideal) (k0_pay11 (iblk m c 0 t) (iblk m c 1 t) (iblk m c 2 t) (iblk m c 3 t)) (k0_pay12 (iblk m c 2 t)) (ix2 a b)
      = twoMeans (fun x => k0_pay7 (F := Ideal) (iblk m c 0 t) (iblk m c 1 t) (ix2 a x) * (iblk m c 3 t : FVec Ideal S1x1024 .f32) (ix2 0 x))
          (fun x => (iblk m c 2 t : FVec Ideal S768x1024 .f32) (ix2 a x)) b :=
    LnTopProof.pay_row (k0_pay7 (iblk m c 0 t) (iblk m c 1 t)) (iblk m c 2 t) (iblk m c 3 t) a b
  rw [h]
  simp only [blk_d, blk_r, blk_g]
  rfl

/-- What the first result holds. -/
theorem row_eq (c : Dev nD) : (dats m 0 c).arrAt 4 (cfgs 0).N = gradRow (cot (m ((c : Thread nD τ).loc main_arg0)) (m ((c : Thread nD τ).loc main_arg1)))
    (m ((c : Thread nD τ).loc main_arg2)) (m ((c : Thread nD τ).loc main_arg3)) := by
  refine (dats m 0 c).arrAt_eq_of_covers 4 _ (by decide +kernel) fun t _ y => ?_
  blk_simp
  rw [after0_4]
  have : (outsAt0 m c t.val t.isLt).1 = k0_pay1 (k0_pay11 (iblk m c 0 t) (iblk m c 1 t) (iblk m c 2 t) (iblk m c 3 t)) (k0_pay12 (iblk m c 2 t)) := by
    by_cases h : t.val % 11 = 0
    · rw [outsAt0_A m c t h]; frame_out
    · rw [outsAt0_B m c t h]; frame_out
  rw [this]
  idx_vars y
  refine (pay_row_at m c t _ _).trans (congrArg _ ?_)
  blk_ext [idx t]

/-- What the second result holds: the same gradient. -/
theorem row16_eq (c : Dev nD) : (dats m 0 c).arrAt 5 (cfgs 0).N = gradRow (cot (m ((c : Thread nD τ).loc main_arg0)) (m ((c : Thread nD τ).loc main_arg1)))
    (m ((c : Thread nD τ).loc main_arg2)) (m ((c : Thread nD τ).loc main_arg3)) := by
  refine (dats m 0 c).arrAt_eq_of_covers 5 _ (by decide +kernel) fun t _ y => ?_
  blk_simp
  rw [after0_5]
  have : (outsAt0 m c t.val t.isLt).2.1 = k0_pay2 (k0_pay11 (iblk m c 0 t) (iblk m c 1 t) (iblk m c 2 t) (iblk m c 3 t)) (k0_pay12 (iblk m c 2 t)) := by
    by_cases h : t.val % 11 = 0
    · rw [outsAt0_A m c t h]; frame_out
    · rw [outsAt0_B m c t h]; frame_out
  rw [this]
  idx_vars y
  refine (pay_row_at m c t _ _).trans (congrArg _ ?_)
  blk_ext [idx t]

/-- One step of the gain's running sum. -/
theorem pay_gain (D R : FVec Ideal S768x1024 .f32) (acc : FVec Ideal S1x1024 .f32) (j : S1x1024.Idx) :
    k0_pay5 (F := Ideal) D (k0_pay10 R) acc j
      = acc j + ∑ a : Fin 768, D (ix2 a (j 1)) * ((R (ix2 a (j 1)) - mean fun x => R (ix2 a x)) * rstd fun x => R (ix2 a x)) :=
  LnTopProof.pay_gain D R acc j

/-- One step of the bias's running sum. -/
theorem pay_bias (D : FVec Ideal S768x1024 .f32) (acc : FVec Ideal S1x1024 .f32) (j : S1x1024.Idx) :
    k0_pay6 (F := Ideal) D acc j = acc j + ∑ a : Fin 768, D (ix2 a (j 1)) := LnTopProof.pay_bias D acc j

theorem zero_gain (j : S1x1024.Idx) : k0_pay3 (F := Ideal) j = 0 := LnTopProof.zero_gain j
theorem zero_bias (j : S1x1024.Idx) : k0_pay4 (F := Ideal) j = 0 := LnTopProof.zero_bias j

/-- What the third result holds. -/
theorem gain_eq (c : Dev nD) : (dats m 0 c).arrAt 6 (cfgs 0).N
    = gradGain (cot (m ((c : Thread nD τ).loc main_arg0)) (m ((c : Thread nD τ).loc main_arg1))) (m ((c : Thread nD τ).loc main_arg2)) := by
  refine (dats m 0 c).arrAt_eq_of_after_last 6 t0_10 (by decide +kernel) _ fun j => ?_
  blk_simp
  rw [after0_6, Pipeline.eq_sum_fin_of_reset_step_apply_last (fun n h => (outsAt0 m c n h).2.2.1) 11 (fun _ => 0) _
    (fun t h j => by rw [outsAt0_A m c t h]; frame_out; rw [pay_gain, zero_gain])
    (fun t h j => by rw [outsAt0_B m c t h]; frame_out; rw [pay_gain])
    (le_of_eq N_0) t0_10 rfl j, zero_add]
  idx_vars j
  simp only [blk_d, blk_r]
  exact Fin.sum_mul_add_congr fun s k hl => rfl

/-- What the fourth result holds. -/
theorem bias_eq (c : Dev nD) : (dats m 0 c).arrAt 7 (cfgs 0).N
    = gradBias (cot (m ((c : Thread nD τ).loc main_arg0)) (m ((c : Thread nD τ).loc main_arg1))) := by
  refine (dats m 0 c).arrAt_eq_of_after_last 7 t0_10 (by decide +kernel) _ fun j => ?_
  blk_simp
  rw [after0_7, Pipeline.eq_sum_fin_of_reset_step_apply_last (fun n h => (outsAt0 m c n h).2.2.2) 11 (fun _ => 0) _
    (fun t h j => by rw [outsAt0_A m c t h]; frame_out; rw [pay_bias, zero_bias])
    (fun t h j => by rw [outsAt0_B m c t h]; frame_out; rw [pay_bias])
    (le_of_eq N_0) t0_10 rfl j, zero_add]
  idx_vars j
  simp only [blk_d]
  exact Fin.sum_mul_add_congr fun s k hl => rfl

/-! ## The reference -/

variable (m' : (ℓ : Loc LnRefIdeal.nD LnRefIdeal.τ LnRefIdeal.sig) → Buf (Elt Ideal) ℓ)

/-- The precondition makes every argument an array of reals. -/
theorem reals_of_pre (h : Cert.Pre_LnIdeal_finite_ln (hPre_finite_ln := Cert.Pre_finite_ln.Gen.facts) m) (c : Dev nD) :
    (∀ i, ∃ r : ℝ, m ((c : Thread nD τ).loc main_arg0) i = (r : EReal)) ∧ (∀ i, ∃ r : ℝ, m ((c : Thread nD τ).loc main_arg1) i = (r : EReal))
      ∧ (∀ i, ∃ r : ℝ, m ((c : Thread nD τ).loc main_arg2) i = (r : EReal)) ∧ ∀ i, ∃ r : ℝ, m ((c : Thread nD τ).loc main_arg3) i = (r : EReal) := by
  have h := h c
  unfold Cert.Pre_finite_ln.fn at h
  refine ⟨fun i => ?_, fun i => ?_, fun i => ?_, fun i => ?_⟩
  · have h := congrFun h.1 i; exact Reals.real_of_abs_lt (by pointwise at h; exact h)
  · have h := congrFun h.2.1 i; exact Reals.real_of_abs_lt (by pointwise at h; exact h)
  · have h := congrFun h.2.2.1 i; exact Reals.real_of_abs_lt (by pointwise at h; exact h)
  · have h := congrFun h.2.2.2 i; exact Reals.real_of_abs_lt (by pointwise at h; exact h)

theorem alpha_real : ∃ r : ℝ, alpha = (r : EReal) := ⟨_, by simp [alpha, Ideal.ofBits, Ideal.ieee, -EReal.coe_mul]; rfl⟩

/-- The cotangent as the reference adds it. -/
def cot' (A B : FVec Ideal S8448x1024 .f32) : FVec Ideal S8448x1024 .f32 := fun i => B i + alpha * A i
theorem cot'_eq (A B : FVec Ideal S8448x1024 .f32) : cot' A B = cot A B := funext fun _ => add_comm _ _

/-- One entry of the reference's gradient with respect to the rows. -/
theorem ref_row (c : Dev LnRefIdeal.nD) (a : Fin 8448) (b : Fin 1024) : LnRefIdeal.Value.res_out0 m' c (ix2 a b)
    = chainRow (cot' (m' (c.tc.loc LnRefIdeal.main_arg0)) (m' (c.tc.loc LnRefIdeal.main_arg1))) (m' (c.tc.loc LnRefIdeal.main_arg2))
        (m' (c.tc.loc LnRefIdeal.main_arg3)) (ix2 a b) := by
  unfold LnRefIdeal.Value.res_out0 LnRefIdeal.Value.res_main_v68
  pointwise
  rfl

/-- So the reference's gradient is the kernel's. -/
theorem hrow (c : Dev LnRefIdeal.nD)
    (hm : ∀ c : Dev nD, m' (c.tc.loc LnRefIdeal.main_arg0) = m (c.tc.loc main_arg0) ∧ m' (c.tc.loc LnRefIdeal.main_arg1) = m (c.tc.loc main_arg1)
      ∧ m' (c.tc.loc LnRefIdeal.main_arg2) = m (c.tc.loc main_arg2) ∧ m' (c.tc.loc LnRefIdeal.main_arg3) = m (c.tc.loc main_arg3))
    (hpre : Cert.Pre_LnIdeal_finite_ln (hPre_finite_ln := Cert.Pre_finite_ln.Gen.facts) m) :
    LnRefIdeal.Value.res_out0 m' c
      = gradRow (cot (m (c.tc.loc main_arg0)) (m (c.tc.loc main_arg1))) (m (c.tc.loc main_arg2)) (m (c.tc.loc main_arg3)) := by
  have hreal := reals_of_pre m hpre c
  funext i
  idx_vars i
  refine (ref_row m' c _ _).trans ?_
  rw [(hm c).1, (hm c).2.1, (hm c).2.2.1, (hm c).2.2.2, cot'_eq]
  exact chain_eq_of_real _ _ (fun x => Reals.mul_isReal (Reals.add_isReal (Reals.mul_isReal alpha_real (hreal.1 _)) (hreal.2.1 _)) (hreal.2.2.2 _))
    (fun x => hreal.2.2.1 _) _

/-- The claim: both programs write the same four arrays. -/
theorem algebraic : Cert.algebraic_LnIdeal_LnRefIdeal_pre_finite_ln (hPre_finite_ln := Cert.Pre_finite_ln.Gen.facts) := by
  intro m g m' g' hpre hm
  refine ⟨_, _, _, _, (θ_run _ _ _).mono (fun r h c => ⟨(h c).1.trans (row_eq m c), (h c).2.1.trans (row16_eq m c),
      (h c).2.2.1.trans (gain_eq m c), (h c).2.2.2.1.trans (bias_eq m c), (h c).2.2.2.2⟩) (Cert.LnIdeal.Value.run_blocks m g),
    (θ_run _ _ _).mono (fun r h c => ⟨(h c).1.trans ?_, (h c).2.1.trans ?_, (h c).2.2.1.trans ?_, (h c).2.2.2.1.trans ?_, (h c).2.2.2.2⟩)
      (Cert.LnRefIdeal.Value.run m' g')⟩
  · exact hrow m m' c hm hpre
  · exact hrow m m' c hm hpre
  · rw [(hm c).1, (hm c).2.1, (hm c).2.2.1]
    funext i
    idx_vars i
    pointwise
    simp only [Fin.sum_univ_one]
    exact Finset.sum_congr rfl fun x _ => (mul_comm _ _).trans (congrArg (· * _) (add_comm _ _))
  · rw [(hm c).1, (hm c).2.1]
    funext i
    idx_vars i
    pointwise
    simp only [Fin.sum_univ_one]
    exact Finset.sum_congr rfl fun x _ => add_comm _ _

end Cert.LnProof
end
-- ==== Proof.AttnRun.lean ====
/- The body of the attention gradient's kernel, run once for all grid points: the result blocks' contents that its stores leave, whatever
   the blocks held before, are found by the run. -/
module

public import proofs.«01_k».proof.Proof.Gen.AttnIdeal.Frame
public import proofs.«01_k».proof.Proof.Gen.AttnIdeal.Skeleton

@[expose] public section

set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: checking it walks past the default budget)
set_option maxHeartbeats 4500000 in
/-- The body's triple, with the contents it leaves in the three result blocks: the inputs' staging memrefs at `x0` … `x6`, handed back as
    they were; the results' at any contents `f7`, `f8`, `f9`, handed back at the contents found by running the body. -/
noncomputable def kernelRun (c : Dev nD) (i : grid0.Coords) (arg3 : Memref sig .tc .vmem S2x8448x64 .bf16) (harg3 : arg3.IsWhole) (arg4 : Memref sig .tc .vmem S2x8448x64 .bf16) (harg4 : arg4.IsWhole) (arg5 : Memref sig .tc .vmem S2x1x8448 .f32) (harg5 : arg5.IsWhole) (arg6 : Memref sig .tc .vmem S2x1x8448 .f32) (harg6 : arg6.IsWhole) (arg7 : Memref sig .tc .vmem S1x768x64 .bf16) (harg7 : arg7.IsWhole) (arg8 : Memref sig .tc .vmem S1x64x768 .bf16) (harg8 : arg8.IsWhole) (arg9 : Memref sig .tc .vmem S1x768x64 .bf16) (harg9 : arg9.IsWhole) (arg10 : Memref sig .tc .vmem S4x64x8448 .f32) (harg10 : arg10.IsWhole) (arg11 : Memref sig .tc .vmem S1x768x64 .f32) (harg11 : arg11.IsWhole) (arg12 : Memref sig .tc .vmem S1x768x64 .f32) (harg12 : arg12.IsWhole)
    (x0 : Vec F S2x8448x64 .bf16) (x1 : Vec F S2x8448x64 .bf16) (x2 : Vec F S2x1x8448 .f32) (x3 : Vec F S2x1x8448 .f32) (x4 : Vec F S1x768x64 .bf16) (x5 : Vec F S1x64x768 .bf16) (x6 : Vec F S1x768x64 .bf16)
    (f7 : Buf (Elt F) (arg10.view.loc (c : Thread nD τ))) (f8 : Buf (Elt F) (arg11.view.loc (c : Thread nD τ))) (f9 : Buf (Elt F) (arg12.view.loc (c : Thread nD τ))) :
    Σ' (r7 : Buf (Elt F) (arg10.view.loc (c : Thread nD τ))) (r8 : Buf (Elt F) (arg11.view.loc (c : Thread nD τ))), { r9 : Buf (Elt F) (arg12.view.loc (c : Thread nD τ)) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (arg10.view.loc (c : Thread nD τ) ↦[arg10.view.set]{fullShare} f7) ∗ (arg11.view.loc (c : Thread nD τ) ↦[arg11.view.set]{fullShare} f8) ∗ (arg12.view.loc (c : Thread nD τ) ↦[arg12.view.set]{fullShare} f9)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (arg10.view.loc (c : Thread nD τ) ↦[arg10.view.set]{fullShare} r7) ∗ (arg11.view.loc (c : Thread nD τ) ↦[arg11.view.set]{fullShare} r8) ∗ (arg12.view.loc (c : Thread nD τ) ↦[arg12.view.set]{fullShare} r9)) -∗ K ⟨⟩))
          ⊢ wp frame (wpE (defs₀ (F := F)) Variants.none c none) E (cc0_flash_bwd i arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_flash_bwd_eq_skeleton]; unfold cc0_flash_bwd_skel
    simp only [k0_part81_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton]
    unfold owns
    iintro ⟨⟨%g0, %hf0, H0⟩, ⟨%g1, %hf1, H1⟩, ⟨%g2, %hf2, H2⟩, ⟨%g3, %hf3, H3⟩, ⟨%g4, %hf4, H4⟩, ⟨%g5, %hf5, H5⟩, ⟨%g6, %hf6, H6⟩, H7, H8, H9, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexact H7
    isplitl [H8]
    · iexact H8
    iexact H9

end Cert.AttnIdeal.Gen

end
-- ==== Proof.AttnOpen.lean ====
/- The launch of the attention gradient over any scalars: the body's obligation at every grid point, with the three result windows held to
   any relation that the body keeps, the run, and the arguments that it leaves alone. -/
module

public import proofs.«01_k».proof.Proof.AttnRun
public import Idealize.ShloMosaic.Lib.Pipeline.DatRel
public import Idealize.ShloMosaic.Lib.Pipeline.ArrRel
public import Idealize.ShloMosaic.Lib.Claim

@[expose] public section

set_option maxRecDepth 16384

noncomputable section

namespace Cert.AttnProof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.AttnIdeal Cert.AttnIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The proof data -/

/-- The result windows, held to a relation. -/
def marked : Fin 10 → Bool := fun w => w.val == 7 || w.val == 8 || w.val == 9

/-- Each input's block stays in place; nothing exact is said of the results. -/
def rdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

theorem rA (c : Dev nD) (w : Fin cfg0.W) : (rdats m 0 c).A w = V m c (Pipeline.arrRef spec0 w) := by
  dsimp only [rdats]

theorem rafter0 (c : Dev nD) (t : Fin cfg0.N) : (rdats m 0 c).after 0 t = iblk m c 0 t := by dsimp only [rdats]
theorem rbefore0 (c : Dev nD) (t : Fin cfg0.N) (d) : (rdats m 0 c).before 0 t d = iblk m c 0 t :=
  before0_0_of m (rdats m 0 c) (rA m c 0) (rafter0 m c) t d
theorem rafter1 (c : Dev nD) (t : Fin cfg0.N) : (rdats m 0 c).after 1 t = iblk m c 1 t := by dsimp only [rdats]
theorem rbefore1 (c : Dev nD) (t : Fin cfg0.N) (d) : (rdats m 0 c).before 1 t d = iblk m c 1 t :=
  before0_1_of m (rdats m 0 c) (rA m c 1) (rafter1 m c) t d
theorem rafter2 (c : Dev nD) (t : Fin cfg0.N) : (rdats m 0 c).after 2 t = iblk m c 2 t := by dsimp only [rdats]
theorem rbefore2 (c : Dev nD) (t : Fin cfg0.N) (d) : (rdats m 0 c).before 2 t d = iblk m c 2 t :=
  before0_2_of m (rdats m 0 c) (rA m c 2) (rafter2 m c) t d
theorem rafter3 (c : Dev nD) (t : Fin cfg0.N) : (rdats m 0 c).after 3 t = iblk m c 3 t := by dsimp only [rdats]
theorem rbefore3 (c : Dev nD) (t : Fin cfg0.N) (d) : (rdats m 0 c).before 3 t d = iblk m c 3 t :=
  before0_3_of m (rdats m 0 c) (rA m c 3) (rafter3 m c) t d
theorem rafter4 (c : Dev nD) (t : Fin cfg0.N) : (rdats m 0 c).after 4 t = iblk m c 4 t := by dsimp only [rdats]
theorem rbefore4 (c : Dev nD) (t : Fin cfg0.N) (d) : (rdats m 0 c).before 4 t d = iblk m c 4 t :=
  before0_4_of m (rdats m 0 c) (rA m c 4) (rafter4 m c) t d
theorem rafter5 (c : Dev nD) (t : Fin cfg0.N) : (rdats m 0 c).after 5 t = iblk m c 5 t := by dsimp only [rdats]
theorem rbefore5 (c : Dev nD) (t : Fin cfg0.N) (d) : (rdats m 0 c).before 5 t d = iblk m c 5 t :=
  before0_5_of m (rdats m 0 c) (rA m c 5) (rafter5 m c) t d
theorem rafter6 (c : Dev nD) (t : Fin cfg0.N) : (rdats m 0 c).after 6 t = iblk m c 6 t := by dsimp only [rdats]
theorem rbefore6 (c : Dev nD) (t : Fin cfg0.N) (d) : (rdats m 0 c).before 6 t d = iblk m c 6 t :=
  before0_6_of m (rdats m 0 c) (rA m c 6) (rafter6 m c) t d

/-- The windows' memrefs at a point. -/
abbrev mr0 (t : Fin cfg0.N) : Memref sig .tc .vmem S2x8448x64 .bf16 := win0_0.stage (cfg0.slots t 0)
abbrev hr0 (t : Fin cfg0.N) : (mr0 t).IsWhole := hstage0_0 ((cfg0.slots t 0).cast nbuf0_0)
abbrev mr1 (t : Fin cfg0.N) : Memref sig .tc .vmem S2x8448x64 .bf16 := win0_1.stage (cfg0.slots t 1)
abbrev hr1 (t : Fin cfg0.N) : (mr1 t).IsWhole := hstage0_1 ((cfg0.slots t 1).cast nbuf0_1)
abbrev mr2 (t : Fin cfg0.N) : Memref sig .tc .vmem S2x1x8448 .f32 := win0_2.stage (cfg0.slots t 2)
abbrev hr2 (t : Fin cfg0.N) : (mr2 t).IsWhole := hstage0_2 ((cfg0.slots t 2).cast nbuf0_2)
abbrev mr3 (t : Fin cfg0.N) : Memref sig .tc .vmem S2x1x8448 .f32 := win0_3.stage (cfg0.slots t 3)
abbrev hr3 (t : Fin cfg0.N) : (mr3 t).IsWhole := hstage0_3 ((cfg0.slots t 3).cast nbuf0_3)
abbrev mr4 (t : Fin cfg0.N) : Memref sig .tc .vmem S1x768x64 .bf16 := win0_4.stage (cfg0.slots t 4)
abbrev hr4 (t : Fin cfg0.N) : (mr4 t).IsWhole := hstage0_4 ((cfg0.slots t 4).cast nbuf0_4)
abbrev mr5 (t : Fin cfg0.N) : Memref sig .tc .vmem S1x64x768 .bf16 := win0_5.stage (cfg0.slots t 5)
abbrev hr5 (t : Fin cfg0.N) : (mr5 t).IsWhole := hstage0_5 ((cfg0.slots t 5).cast nbuf0_5)
abbrev mr6 (t : Fin cfg0.N) : Memref sig .tc .vmem S1x768x64 .bf16 := win0_6.stage (cfg0.slots t 6)
abbrev hr6 (t : Fin cfg0.N) : (mr6 t).IsWhole := hstage0_6 ((cfg0.slots t 6).cast nbuf0_6)
abbrev mr7 (t : Fin cfg0.N) : Memref sig .tc .vmem S4x64x8448 .f32 := win0_7.stage (cfg0.slots t 7)
abbrev hr7 (t : Fin cfg0.N) : (mr7 t).IsWhole := hstage0_7 ((cfg0.slots t 7).cast nbuf0_7)
abbrev mr8 (t : Fin cfg0.N) : Memref sig .tc .vmem S1x768x64 .f32 := win0_8.stage (cfg0.slots t 8)
abbrev hr8 (t : Fin cfg0.N) : (mr8 t).IsWhole := hstage0_8 ((cfg0.slots t 8).cast nbuf0_8)
abbrev mr9 (t : Fin cfg0.N) : Memref sig .tc .vmem S1x768x64 .f32 := win0_9.stage (cfg0.slots t 9)
abbrev hr9 (t : Fin cfg0.N) : (mr9 t).IsWhole := hstage0_9 ((cfg0.slots t 9).cast nbuf0_9)

/-- Relations of the result windows' contents after a point. -/
abbrev Rels (F : FTy → Type) : Type := (c : Dev nD) → (w : Fin cfg0.W) → (t : Fin cfg0.N) → ((cfg0.win w).block.Idx → Elt F (cfg0.win w).elt) → Prop

variable (Rl : Rels F)

/-- What a result window holds at a point that follows one which did not write it back. -/
theorem finds_prev (c : Dev nD) (w : Fin cfg0.W) (hw : marked w = true) (t u : Fin cfg0.N) (hu : u.val + 1 = t.val) (hf : (cfg0.win w).fetch t = false)
    (hl : (cfg0.win w).flush u = false) {Y} (h : ((rdats m 0 c).toRRel marked (Rl c)).Finds w t Y) : Rl c w u Y := by
  have e : (⟨t.val - 1, Nat.lt_of_le_of_lt (Nat.sub_le _ _) t.isLt⟩ : Fin cfg0.N) = u := Fin.ext (by show t.val - 1 = u.val; omega)
  have h' := (RDat.finds_of_pos _ hf (by omega) Y).mp h
  rw [e] at h'
  rcases h' with h' | h'
  · rw [hl] at h'; exact absurd h' Bool.false_ne_true
  · exact (rdats m 0 c).toRRel_leaves hw h'

/-! ## The body's obligation -/

def bodyPre (c : Dev nD) (t : Fin cfg0.N) : sProp 𝕄 :=
  iprop((rdats m 0 c).Φ t.castSucc ∗ (rdats m 0 c).owesAt () t.castSucc
    ∗ (∃ d, owns (c : Thread nD τ) (mr0 t) fullShare ((rdats m 0 c).before 0 t d))
    ∗ (∃ d, owns (c : Thread nD τ) (mr1 t) fullShare ((rdats m 0 c).before 1 t d))
    ∗ (∃ d, owns (c : Thread nD τ) (mr2 t) fullShare ((rdats m 0 c).before 2 t d))
    ∗ (∃ d, owns (c : Thread nD τ) (mr3 t) fullShare ((rdats m 0 c).before 3 t d))
    ∗ (∃ d, owns (c : Thread nD τ) (mr4 t) fullShare ((rdats m 0 c).before 4 t d))
    ∗ (∃ d, owns (c : Thread nD τ) (mr5 t) fullShare ((rdats m 0 c).before 5 t d))
    ∗ (∃ d, owns (c : Thread nD τ) (mr6 t) fullShare ((rdats m 0 c).before 6 t d))
    ∗ (∃ Y, ⌜((rdats m 0 c).toRRel marked (Rl c)).Finds 7 t Y⌝ ∗ owns (c : Thread nD τ) (mr7 t) fullShare Y)
    ∗ (∃ Y, ⌜((rdats m 0 c).toRRel marked (Rl c)).Finds 8 t Y⌝ ∗ owns (c : Thread nD τ) (mr8 t) fullShare Y)
    ∗ (∃ Y, ⌜((rdats m 0 c).toRRel marked (Rl c)).Finds 9 t Y⌝ ∗ owns (c : Thread nD τ) (mr9 t) fullShare Y))

def bodyPost (c : Dev nD) (t : Fin cfg0.N) : sProp 𝕄 :=
  iprop((rdats m 0 c).Φ t.succ ∗ (rdats m 0 c).owesAt () t.succ
    ∗ owns (c : Thread nD τ) (mr0 t) fullShare (iblk m c 0 t)
    ∗ owns (c : Thread nD τ) (mr1 t) fullShare (iblk m c 1 t)
    ∗ owns (c : Thread nD τ) (mr2 t) fullShare (iblk m c 2 t)
    ∗ owns (c : Thread nD τ) (mr3 t) fullShare (iblk m c 3 t)
    ∗ owns (c : Thread nD τ) (mr4 t) fullShare (iblk m c 4 t)
    ∗ owns (c : Thread nD τ) (mr5 t) fullShare (iblk m c 5 t)
    ∗ owns (c : Thread nD τ) (mr6 t) fullShare (iblk m c 6 t)
    ∗ (∃ X, ⌜Rl c 7 t X⌝ ∗ owns (c : Thread nD τ) (mr7 t) fullShare X)
    ∗ (∃ X, ⌜Rl c 8 t X⌝ ∗ owns (c : Thread nD τ) (mr8 t) fullShare X)
    ∗ (∃ X, ⌜Rl c 9 t X⌝ ∗ owns (c : Thread nD τ) (mr9 t) fullShare X))

theorem flush_false {w : Fin cfg0.W} {u : Fin cfg0.N} {p : Prop} (h : (cfg0.win w).flush u = true ↔ p) (hp : ¬ p) : (cfg0.win w).flush u = false :=
  Bool.eq_false_iff.mpr fun e => hp (h.mp e)

/-- The run at a point, from the contents `f7`, `f8`, `f9` of the result blocks. -/
abbrev runAt (c : Dev nD) (t : Fin cfg0.N) (f7 : Buf (Elt F) ((mr7 t).view.loc (c : Thread nD τ))) (f8 : Buf (Elt F) ((mr8 t).view.loc (c : Thread nD τ)))
    (f9 : Buf (Elt F) ((mr9 t).view.loc (c : Thread nD τ))) :=
  kernelRun c (grid0.coords t) (mr0 t) (hr0 t) (mr1 t) (hr1 t) (mr2 t) (hr2 t) (mr3 t) (hr3 t) (mr4 t) (hr4 t) (mr5 t) (hr5 t) (mr6 t) (hr6 t) (mr7 t) (hr7 t) (mr8 t) (hr8 t) (mr9 t) (hr9 t) (iblk m c 0 t) (iblk m c 1 t) (iblk m c 2 t) (iblk m c 3 t) (iblk m c 4 t) (iblk m c 5 t) (iblk m c 6 t) f7 f8 f9

/-- The body keeps the relations. -/
def Kept : Prop := ∀ (c : Dev nD) (t : Fin cfg0.N) (f7 : Buf (Elt F) ((mr7 t).view.loc (c : Thread nD τ)))
    (f8 : Buf (Elt F) ((mr8 t).view.loc (c : Thread nD τ))) (f9 : Buf (Elt F) ((mr9 t).view.loc (c : Thread nD τ))),
  ((rdats m 0 c).toRRel marked (Rl c)).Finds 7 t ((mr7 t).view.read (Elt F) f7) → ((rdats m 0 c).toRRel marked (Rl c)).Finds 8 t ((mr8 t).view.read (Elt F) f8) →
  ((rdats m 0 c).toRRel marked (Rl c)).Finds 9 t ((mr9 t).view.read (Elt F) f9) →
  Rl c 7 t ((mr7 t).view.read (Elt F) (runAt m c t f7 f8 f9).1) ∧ Rl c 8 t ((mr8 t).view.read (Elt F) (runAt m c t f7 f8 f9).2.1)
    ∧ Rl c 9 t ((mr9 t).view.read (Elt F) (runAt m c t f7 f8 f9).2.2.1)

variable (hL : Kept m Rl)

include hL in
theorem body_run (c : Dev nD) (t : Fin cfg0.N) :
    bodyPre m Rl c t ⊢ wp frame (wpE (defs₀ (F := F)) Variants.none c none) Set.univ (bodyAt0 t) (fun _ => bodyPost m Rl c t) := by
  unfold bodyPre bodyPost bodyAt0
  simp only [rbefore0, rbefore1, rbefore2, rbefore3, rbefore4, rbefore5, rbefore6]
  rw [show (rdats m 0 c).Φ t.succ = (rdats m 0 c).Φ t.castSucc from rfl,
    show (rdats m 0 c).owesAt () t.succ = (rdats m 0 c).owesAt () t.castSucc from rfl]
  unfold owns
  iintro ⟨HΦ, Ho, ⟨%d0, H0⟩, ⟨%d1, H1⟩, ⟨%d2, H2⟩, ⟨%d3, H3⟩, ⟨%d4, H4⟩, ⟨%d5, H5⟩, ⟨%d6, H6⟩, ⟨%Y7, %hY7, %f7, %hf7, H7⟩, ⟨%Y8, %hY8, %f8, %hf8, H8⟩, ⟨%Y9, %hY9, %f9, %hf9, H9⟩⟩
  subst hf7 hf8 hf9
  iapply ((kernelRun c (grid0.coords t) (mr0 t) (hr0 t) (mr1 t) (hr1 t) (mr2 t) (hr2 t) (mr3 t) (hr3 t) (mr4 t) (hr4 t) (mr5 t) (hr5 t) (mr6 t) (hr6 t) (mr7 t) (hr7 t) (mr8 t) (hr8 t) (mr9 t) (hr9 t) (iblk m c 0 t) (iblk m c 1 t) (iblk m c 2 t) (iblk m c 3 t) (iblk m c 4 t) (iblk m c 5 t) (iblk m c 6 t) f7 f8 f9).2.2.2 Set.univ _)
  unfold owns
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; · ipureintro; exact (hL c t f7 f8 f9 hY7 hY8 hY9).1
    iexists _; isplitr; · ipureintro; rfl
    iexact H7
  isplitl [H8]
  · iexists _; isplitr; · ipureintro; exact (hL c t f7 f8 f9 hY7 hY8 hY9).2.1
    iexists _; isplitr; · ipureintro; rfl
    iexact H8
  · iexists _; isplitr; · ipureintro; exact (hL c t f7 f8 f9 hY7 hY8 hY9).2.2
    iexists _; isplitr; · ipureintro; rfl
    iexact H9

theorem body_row (t : Fin cfg0.N) : defs₀ (F := F) .tc cfg0.body (cfg0.bodyArgs t (cfg0.slots t)) = bodyAt0 t := by
  unfold defs₀; rw [Defs.onTc_tc]

set_option maxHeartbeats 1600000 in
include hL in
theorem obligation (c : Dev nD) : BodyObligationRel (rdats m 0 c) (defs₀ (F := F)) Variants.none () Set.univ marked (Rl c) := fun t => by
  rw [bigSep_W0, bigSep_W0, body_row]
  exact triple_restated (body_run m Rl hL c t) rfl .rfl fun _ => .rfl

/-! ## The run -/

set_option backward.isDefEq.respectTransparency.types false in
include hL in
theorem run_all : θ_run defs (onTc (τ := τ) (main (F := F))) (s₀ m ρ)
    (fun r => (RDat.FramePost (cfgs 0) (fun c => (rdats m 0 c).toRRel marked (Rl c)) (V m)) r ∧ r.2.sem = fun _ => 0) :=
  RDat.θ_run_frame (Q' := _) cfgs (0 : Fin 1) launch0 defs₀ Variants.none (fun c => (rdats m 0 c).toRRel marked (Rl c)) m ρ main
    (hbody := fun c => (obligation m Rl hL c).toRRel) (hshare := fun c => (rdats m 0 c).share_full fun _ => rfl)
    (howed := fun _ _ => rfl) (V := V m) (hmain := hmain m Variants.none) (hA := rA m) (hΦ := fun _ _ => rfl) (hQ' := fun _ h => h)

/-- The run leaves the arguments alone. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_all m ρ (fun _ _ _ _ => True) fun _ _ _ _ _ _ _ _ => ⟨trivial, trivial, trivial⟩)

end Cert.AttnProof
end
-- ==== Proof.AttnFrame.lean ====
/- The frames of the attention gradient's two programs, from the one launch. -/
module

public import proofs.«01_k».proof.Defs
public import proofs.«01_k».proof.Proof.AttnOpen
public import proofs.«01_k».proof.Proof.Gen.Attn.Frame

@[expose] public section

set_option maxRecDepth 16384

noncomputable section

namespace Cert.AttnProof

open Idealize.ShloMosaic Idealize.ShloMosaic.TcCoe Idealize.SL.Sem
open Idealize.ShloMosaic.Tactic

/-- At machine words a named constant is the word that is named. -/
local instance : Named Bits where
  named _ _ {φ} b := FloatOps.ofBits φ b

theorem frame_ideal : Cert.quiescent_AttnIdeal := fun m ρ _ => frame_any (F := Ideal) m ρ

theorem frame_words : Cert.quiescent_Attn := fun m ρ _ => by
  have h := frame_any (F := Bits) m ρ
  refine Eq.mp ?_ h
  sl_kernel_rfl

end Cert.AttnProof
end
-- ==== Proof.AttnBody.lean ====
/- What the body of the attention gradient's kernel leaves in its result blocks, as a walk over the 66 pairs of a chunk of 256 queries and
   a head: pair `n` is chunk `n / 2` of head `n % 2`. -/
module

public import proofs.«01_k».proof.Proof.AttnRun

@[expose] public section

set_option maxRecDepth 16384

noncomputable section

namespace Cert.AttnProof

open Idealize.ShloMosaic Idealize.ShloMosaic.TcCoe Idealize.ShloMosaic.Tactic
open Cert.AttnIdeal Cert.AttnIdeal.Gen

variable {F : FTy → Type} [FloatOps F] [Named F]

/-! ## The loads of a pair -/

theorem inb_rows (n : ℕ) (a : Fin 3) : (![n % 2, n / 2 % 33 * 256, 0] : Fin 3 → Nat) a + S1x256x64.size a ≤ S2x8448x64.size a := by
  fin_cases a <;> simp [S1x256x64, S2x8448x64] <;> omega

theorem inb_lane (n : ℕ) (a : Fin 3) : (![n % 2, 0, n / 2 % 33 * 256] : Fin 3 → Nat) a + S1x1x256.size a ≤ S2x1x8448.size a := by
  fin_cases a <;> simp [S1x1x256, S2x1x8448] <;> omega

/-- The 256 rows of pair `n` in a two-head block. -/
def rowsOf (a : Memref sig .tc .vmem S2x8448x64 .bf16) (ha : a.IsWhole) (x : Vec F S2x8448x64 .bf16) (n : ℕ) : Vec F S1x256x64 .bf16 :=
  View.readAt (Elt F) a.view (Rect.unit (s := S2x8448x64) ![n % 2, n / 2 % 33 * 256, 0] S1x256x64.size (inb_rows n)).toLoadRect (ha.unread x)

/-- The 256 entries of pair `n` in a two-head row. -/
def laneOf (a : Memref sig .tc .vmem S2x1x8448 .f32) (ha : a.IsWhole) (x : Vec F S2x1x8448 .f32) (n : ℕ) : Vec F S1x1x256 .f32 :=
  View.readAt (Elt F) a.view (Rect.unit (s := S2x1x8448) ![n % 2, 0, n / 2 % 33 * 256] S1x1x256.size (inb_lane n)).toLoadRect (ha.unread x)

/-- The keys of a grid point. -/
def keysOf (a : Memref sig .tc .vmem S1x768x64 .bf16) (ha : a.IsWhole) (x : Vec F S1x768x64 .bf16) : FVec F S768x64 .bf16 :=
  k0_pay1 (View.readAt (Elt F) a.view (Rect.unit (s := S1x768x64) ![0, 0, 0] S1x768x64.size inb_S1x768x64_S1x768x64_0_0_0).toLoadRect (ha.unread x))

/-- The transposed keys of a grid point. -/
def keysTOf (a : Memref sig .tc .vmem S1x64x768 .bf16) (ha : a.IsWhole) (x : Vec F S1x64x768 .bf16) : FVec F S64x768 .bf16 :=
  k0_pay3 (View.readAt (Elt F) a.view (Rect.unit (s := S1x64x768) ![0, 0, 0] S1x64x768.size inb_S1x64x768_S1x64x768_0_0_0).toLoadRect (ha.unread x))

/-! ## The walk, over the loaded values -/

section Walk
variable (valid : IVec S768x1 1) (kb vb : FVec F S768x64 .bf16) (ktb : FVec F S64x768 .bf16)
  (q o : ℕ → Vec F S1x256x64 .bf16) (l e : ℕ → Vec F S1x1x256 .f32)

/-- The cotangent of the scores of pair `n`. -/
def dst (n : ℕ) : FVec F S768x256 .bf16 := k0_pay17 valid (k0_pay13 kb (q n)) (k0_pay14 vb (o n)) (l n) (e n)

/-- The keys' gradient after `n` pairs. -/
def dkSum : ℕ → FVec F S768x64 .f32
  | 0 => k0_pay7
  | n + 1 => k0_pay18 valid (dkSum n) (k0_pay13 kb (q n)) (k0_pay14 vb (o n)) (l n) (e n) (q n)

/-- The values' gradient after `n` pairs. -/
def dvSum : ℕ → FVec F S768x64 .f32
  | 0 => k0_pay8
  | n + 1 => k0_pay16 valid (dvSum n) (k0_pay13 kb (q n)) (l n) (o n)

/-- The offsets of pair `n` in the queries' gradient of four heads. -/
def dqOff (i : grid0.Coords) (n : ℕ) : Fin 3 → ℕ :=
  ![(Scalar.indexCast (Scalar.addi (Scalar.muli 2#32 (BitVec.ofNat 32 (i 2).val)) (BitVec.ofNat 32 (n % 2)))).toNat, 0, n / 2 % 33 * 256]

theorem dqOff_zero (i : grid0.Coords) (n : ℕ) : dqOff i n 0 = 2 * (i 2).val + n % 2 := by
  have h2 : (i 2).val < 2 := (i 2).isLt
  have h : n % 2 < 2 := Nat.mod_lt _ (by norm_num)
  simp only [dqOff, Matrix.cons_val_zero]
  generalize (i 2).val = g at h2
  generalize n % 2 = k at h
  interval_cases g <;> interval_cases k <;> decide

theorem inb_dq (i : grid0.Coords) (n : ℕ) (a : Fin 3) : dqOff i n a + S1x64x256.size a ≤ S4x64x8448.size a := by
  have h2 : (i 2).val < 2 := (i 2).isLt
  have h0 := dqOff_zero i n
  fin_cases a
  · show dqOff i n 0 + 1 ≤ 4; omega
  · simp [dqOff, S1x64x256, S4x64x8448]
  · show n / 2 % 33 * 256 + 256 ≤ 8448; omega

/-- The stores into the queries' gradient of the first `n` pairs, last first; each adds to what the block held (`f`). -/
def dqWrites (i : grid0.Coords) (a : Memref sig .tc .vmem S4x64x8448 .f32) {c : Dev nD} (f : Buf (Elt F) (a.view.loc (c : Thread nD τ))) :
    ℕ → List (View.Piece (Elt F) S4x64x8448 .f32)
  | 0 => []
  | n + 1 => ⟨Rect.unit (s := S4x64x8448) (dqOff i n) S1x64x256.size (inb_dq i n),
      k0_pay19 ktb (dst valid kb vb q o l e n) (View.readAt (Elt F) a.view
        (Rect.unit (s := S4x64x8448) (dqOff i n) S1x64x256.size (inb_dq i n)).toLoadRect f)⟩ :: dqWrites i a f n

/-- The whole of a key tile's gradient block. -/
abbrev tileRect : Rect S1x768x64 := Rect.unit (s := S1x768x64) ![0, 0, 0] S1x768x64.size inb_S1x768x64_S1x768x64_0_0_0

/-- A key tile's gradient block after the first store: the sum `S` of this point where the point is the first of its tile. -/
def tileFirst (c : Dev nD) (i : grid0.Coords) (a : Memref sig .tc .vmem S1x768x64 .f32) (f : Buf (Elt F) (a.view.loc (c : Thread nD τ)))
    (S : FVec F S768x64 .f32) : Buf (Elt F) (a.view.loc (c : Thread nD τ)) :=
  if hc : k0_cond2 i = 1#1 then a.view.writes (Elt F) f [⟨tileRect, shapeCast S1x768x64 S shapeCasts_S768x64_S1x768x64⟩] else f

/-- A key tile's gradient block at the end: `S` added to what is there where the point is not the first of its tile. -/
def tileEnd (c : Dev nD) (i : grid0.Coords) (a : Memref sig .tc .vmem S1x768x64 .f32) (f : Buf (Elt F) (a.view.loc (c : Thread nD τ)))
    (S : FVec F S768x64 .f32) : Buf (Elt F) (a.view.loc (c : Thread nD τ)) :=
  if hc : k0_cond3 i = 1#1 then
    a.view.writes (Elt F) (tileFirst c i a f S) [⟨tileRect, shapeCast S1x768x64
      (addf (shapeCast S768x64 (View.readAt (Elt F) a.view tileRect.toLoadRect (tileFirst c i a f S)) shapeCasts_S1x768x64_S768x64) S)
      shapeCasts_S768x64_S1x768x64⟩]
  else tileFirst c i a f S

end Walk

section Run
variable (c : Dev nD) (i : grid0.Coords) (arg3 : Memref sig .tc .vmem S2x8448x64 .bf16) (harg3 : arg3.IsWhole) (arg4 : Memref sig .tc .vmem S2x8448x64 .bf16) (harg4 : arg4.IsWhole) (arg5 : Memref sig .tc .vmem S2x1x8448 .f32) (harg5 : arg5.IsWhole) (arg6 : Memref sig .tc .vmem S2x1x8448 .f32) (harg6 : arg6.IsWhole) (arg7 : Memref sig .tc .vmem S1x768x64 .bf16) (harg7 : arg7.IsWhole) (arg8 : Memref sig .tc .vmem S1x64x768 .bf16) (harg8 : arg8.IsWhole) (arg9 : Memref sig .tc .vmem S1x768x64 .bf16) (harg9 : arg9.IsWhole) (arg10 : Memref sig .tc .vmem S4x64x8448 .f32) (harg10 : arg10.IsWhole) (arg11 : Memref sig .tc .vmem S1x768x64 .f32) (harg11 : arg11.IsWhole) (arg12 : Memref sig .tc .vmem S1x768x64 .f32) (harg12 : arg12.IsWhole)
    (x0 : Vec F S2x8448x64 .bf16) (x1 : Vec F S2x8448x64 .bf16) (x2 : Vec F S2x1x8448 .f32) (x3 : Vec F S2x1x8448 .f32) (x4 : Vec F S1x768x64 .bf16) (x5 : Vec F S1x64x768 .bf16) (x6 : Vec F S1x768x64 .bf16)
    (f7 : Buf (Elt F) (arg10.view.loc (c : Thread nD τ))) (f8 : Buf (Elt F) (arg11.view.loc (c : Thread nD τ))) (f9 : Buf (Elt F) (arg12.view.loc (c : Thread nD τ)))

/-- The queries' gradient as the pairs find it: set to zero at the first key tile, for the point's two heads. -/
def dqStart : Buf (Elt F) (arg10.view.loc (c : Thread nD τ)) :=
  if hc : k0_cond1 i = 1#1 then
    arg10.view.writes (Elt F) f7
      [⟨Rect.unit (s := S4x64x8448) (k0_off1 i 1#32) S1x64x8448.size (k0_off1_inb i hc 1), k0_pay5⟩,
        ⟨Rect.unit (s := S4x64x8448) (k0_off1 i 0#32) S1x64x8448.size (k0_off1_inb i hc 0), k0_pay5⟩]
  else f7

theorem run_dq : (kernelRun c i arg3 harg3 arg4 harg4 arg5 harg5 arg6 harg6 arg7 harg7 arg8 harg8 arg9 harg9 arg10 harg10 arg11 harg11 arg12 harg12 x0 x1 x2 x3 x4 x5 x6 f7 f8 f9).1
    = arg10.view.writes (Elt F) (dqStart c i arg10 f7)
        (dqWrites (k0_pay4 i) (keysOf arg7 harg7 x4) (keysOf arg9 harg9 x6) (keysTOf arg8 harg8 x5) (rowsOf arg3 harg3 x0) (rowsOf arg4 harg4 x1)
          (laneOf arg5 harg5 x2) (laneOf arg6 harg6 x3) i arg10 (dqStart c i arg10 f7) 66) := by
  sl_kernel_rfl

theorem run_dk : (kernelRun c i arg3 harg3 arg4 harg4 arg5 harg5 arg6 harg6 arg7 harg7 arg8 harg8 arg9 harg9 arg10 harg10 arg11 harg11 arg12 harg12 x0 x1 x2 x3 x4 x5 x6 f7 f8 f9).2.1
    = tileEnd c i arg11 f8 (dkSum (k0_pay4 i) (keysOf arg7 harg7 x4) (keysOf arg9 harg9 x6) (rowsOf arg3 harg3 x0) (rowsOf arg4 harg4 x1)
        (laneOf arg5 harg5 x2) (laneOf arg6 harg6 x3) 66) := by
  sl_kernel_rfl

theorem run_dv : (kernelRun c i arg3 harg3 arg4 harg4 arg5 harg5 arg6 harg6 arg7 harg7 arg8 harg8 arg9 harg9 arg10 harg10 arg11 harg11 arg12 harg12 x0 x1 x2 x3 x4 x5 x6 f7 f8 f9).2.2.1
    = tileEnd c i arg12 f9 (dvSum (k0_pay4 i) (keysOf arg7 harg7 x4) (rowsOf arg3 harg3 x0) (rowsOf arg4 harg4 x1) (laneOf arg5 harg5 x2) 66) := by
  sl_kernel_rfl

end Run

end Cert.AttnProof

end
-- ==== Proof.AttnWalk.lean ====
/- The walk over the pairs of a chunk and a head, entry by entry at the ideal reading. -/
module

public import proofs.«01_k».proof.Proof.AttnBody
public import Idealize.ShloMosaic.Lib.Pipeline.ValueKit
public import Idealize.ShloMosaic.Lib.WholeRead

@[expose] public section

set_option maxRecDepth 16384

noncomputable section

namespace Cert.AttnProof

open Idealize.ShloMosaic Idealize.ShloMosaic.TcCoe Idealize.ShloMosaic.Tactic
open Cert.AttnIdeal Cert.AttnIdeal.Gen

/-- The score of a key and a query, after the mask and the row's log-sum, as a weight. -/
def wt (live : Prop) [Decidable live] (s l : EReal) : EReal := (FloatOps.exp2 (F := Ideal) (φ := .f32) ((if live then s else ⊥) - l) : EReal)

section Walk
variable (valid : IVec S768x1 1) (kb vb : FVec Ideal S768x64 .bf16) (ktb : FVec Ideal S64x768 .bf16)
  (q o : ℕ → Vec Ideal S1x256x64 .bf16) (l e : ℕ → Vec Ideal S1x1x256 .f32)

theorem named_mask : Named.named (F := Ideal) κ "mask" (φ := .f32) 0xF149F2CA#32 = (⊥ : EReal) := by
  simp [Named.named, κ]

theorem dst_apply (n : ℕ) (s : Fin 768) (r : Fin 256) : dst valid kb vb q o l e n (ix2 s r)
    = wt (valid (ix2 s 0) = 1) (∑ x, kb (ix2 s x) * q n (ix3 0 r x)) (l n (ix3 0 0 r)) * (∑ x, vb (ix2 s x) * o n (ix3 0 r x) - e n (ix3 0 0 r)) := by
  pointwise [dst, k0_pay17, k0_pay15, k0_pay13, k0_pay14]
  rw [named_mask]
  rfl

theorem dk_apply (n : ℕ) (s : Fin 768) (d : Fin 64) : dkSum valid kb vb q o l e n (ix2 s d)
    = ∑ i ∈ Finset.range n, ∑ r : Fin 256, dst valid kb vb q o l e i (ix2 s r) * q i (ix3 0 r d) := by
  induction n with
  | zero => rw [dkSum]; pointwise [k0_pay7]; simp
  | succ n ih => rw [dkSum, Finset.sum_range_succ, ← ih]; pointwise [k0_pay18]; rfl

theorem dv_apply (n : ℕ) (s : Fin 768) (d : Fin 64) : dvSum valid kb q o l n (ix2 s d)
    = ∑ i ∈ Finset.range n, ∑ r : Fin 256, wt (valid (ix2 s 0) = 1) (∑ x, kb (ix2 s x) * q i (ix3 0 r x)) (l i (ix3 0 0 r)) * o i (ix3 0 r d) := by
  induction n with
  | zero => rw [dvSum]; pointwise [k0_pay8]; simp
  | succ n ih =>
    rw [dvSum, Finset.sum_range_succ, ← ih]
    pointwise [k0_pay16, k0_pay15, k0_pay13]
    rw [named_mask]
    rfl

theorem dq_pay (n : ℕ) (v) (d : Fin 64) (r : Fin 256) : k0_pay19 ktb (dst valid kb vb q o l e n) v (ix3 0 d r)
    = v (ix3 0 d r) + ∑ x, ktb (ix2 d x) * dst valid kb vb q o l e n (ix2 x r) := by
  pointwise [k0_pay19]

end Walk

/-! ## The loads -/

theorem valid_iff (i : grid0.Coords) (s : Fin 768) : k0_pay4 i (ix2 s 0) = 1 ↔ 240 ≤ (i 1).val * 768 + s.val := by
  have h1 : (i 1).val < 11 := (i 1).isLt
  have hs := s.isLt
  pointwise [k0_pay4]
  have e : IntOp.addi (BitVec.ofNat 32 s.val) (Scalar.muli (BitVec.ofNat 32 (i 1).val) 768#32) = BitVec.ofNat 32 ((i 1).val * 768 + s.val) := by
    rw [show (768#32 : BitVec 32) = BitVec.ofNat 32 768 from rfl]
    simp only [IntOp.addi, Scalar.muli, IntOp.muli, ← BitVec.ofNat_mul, ← BitVec.ofNat_add]
    rw [Nat.add_comm]
  rw [e]
  exact (by decide +kernel : ∀ x : Fin 8448, IntOp.cmpi CmpIPredicate.sge (BitVec.ofNat 32 x.val) 240#32 = 1 ↔ 240 ≤ x.val)
    ⟨(i 1).val * 768 + s.val, by omega⟩

theorem rowsOf_apply (a : Memref sig .tc .vmem S2x8448x64 .bf16) (ha : a.IsWhole) (x : Vec Ideal S2x8448x64 .bf16) (n : ℕ) (h : Fin 2) (k : Fin 33)
    (hh : n % 2 = h.val) (hk : n / 2 = k.val) (r : Fin 256) (d : Fin 64) :
    rowsOf a ha x n (ix3 0 r d) = x (ix3 h ⟨k.val * 256 + r.val, by omega⟩ d) := by
  unfold rowsOf
  rw [Memref.IsWhole.readAt_unread ha]
  congr 1
  funext b
  apply Fin.ext
  rw [LoadRect.idx_apply]
  fin_cases b
  · show n % 2 + 1 * 0 = h.val; omega
  · show n / 2 % 33 * 256 + 1 * r.val = k.val * 256 + r.val; omega
  · show 0 + 1 * d.val = d.val; omega

theorem laneOf_apply (a : Memref sig .tc .vmem S2x1x8448 .f32) (ha : a.IsWhole) (x : Vec Ideal S2x1x8448 .f32) (n : ℕ) (h : Fin 2) (k : Fin 33)
    (hh : n % 2 = h.val) (hk : n / 2 = k.val) (r : Fin 256) :
    laneOf a ha x n (ix3 0 0 r) = x (ix3 h 0 ⟨k.val * 256 + r.val, by omega⟩) := by
  unfold laneOf
  rw [Memref.IsWhole.readAt_unread ha]
  congr 1
  funext b
  apply Fin.ext
  rw [LoadRect.idx_apply]
  fin_cases b
  · show n % 2 + 1 * 0 = h.val; omega
  · show 0 + 1 * 0 = 0; omega
  · show n / 2 % 33 * 256 + 1 * r.val = k.val * 256 + r.val; omega

theorem keysOf_apply (a : Memref sig .tc .vmem S1x768x64 .bf16) (ha : a.IsWhole) (x : Vec Ideal S1x768x64 .bf16) (s : Fin 768) (d : Fin 64) :
    keysOf a ha x (ix2 s d) = x (ix3 0 s d) := by
  unfold keysOf
  pointwise [k0_pay1]
  rw [Memref.IsWhole.readAt_unread ha]
  congr 1
  funext b
  apply Fin.ext
  rw [LoadRect.idx_apply]
  fin_cases b
  · rfl
  · show 0 + 1 * s.val = s.val; omega
  · show 0 + 1 * d.val = d.val; omega

theorem keysTOf_apply (a : Memref sig .tc .vmem S1x64x768 .bf16) (ha : a.IsWhole) (x : Vec Ideal S1x64x768 .bf16) (d : Fin 64) (s : Fin 768) :
    keysTOf a ha x (ix2 d s) = x (ix3 0 d s) := by
  unfold keysTOf
  pointwise [k0_pay3]
  rw [Memref.IsWhole.readAt_unread ha]
  congr 1
  funext b
  apply Fin.ext
  rw [LoadRect.idx_apply]
  fin_cases b
  · rfl
  · show 0 + 1 * d.val = d.val; omega
  · show 0 + 1 * s.val = s.val; omega

/-- A sum over the 66 pairs and the 256 queries of each is the sum over the two heads and all queries. -/
theorem sum_pairs (f : Fin 2 → Fin 8448 → EReal) (g : ℕ → Fin 256 → EReal)
    (hg : ∀ n (h : Fin 2) (k : Fin 33) (r : Fin 256), n % 2 = h.val → n / 2 = k.val → g n r = f h ⟨k.val * 256 + r.val, by omega⟩) :
    ∑ i ∈ Finset.range 66, ∑ r : Fin 256, g i r = ∑ h : Fin 2, ∑ n : Fin 8448, f h n := by
  have e1 : ∀ h : Fin 2, ∑ n : Fin 8448, f h n = ∑ k : Fin 33, ∑ r : Fin 256, f h ⟨k.val * 256 + r.val, by omega⟩ := fun h => by
    rw [← Fintype.sum_prod_type', ← (finProdFinEquiv (m := 33) (n := 256)).sum_comp]
    refine Finset.sum_congr rfl fun p _ => congrArg _ (Fin.ext ?_)
    simp [finProdFinEquiv]; ring
  simp only [e1]
  rw [← Fin.sum_univ_eq_sum_range (fun i => ∑ r : Fin 256, g i r) 66, Finset.sum_comm (s := (Finset.univ : Finset (Fin 2))),
    ← Fintype.sum_prod_type' (f := fun (k : Fin 33) (h : Fin 2) => ∑ r : Fin 256, f h ⟨k.val * 256 + r.val, by omega⟩),
    ← (finProdFinEquiv (m := 33) (n := 2)).sum_comp]
  refine Finset.sum_congr rfl fun p _ => Finset.sum_congr rfl fun r _ => ?_
  exact hg _ p.2 p.1 r (by simp [finProdFinEquiv]; omega) (by simp [finProdFinEquiv]; omega)

end Cert.AttnProof
end
-- ==== Proof.AttnBlock.lean ====
/- One grid point of the attention gradient: the blocks it leaves, from the blocks it finds. -/
module

public import proofs.«01_k».proof.Proof.AttnWalk

@[expose] public section

set_option maxRecDepth 16384

noncomputable section

namespace Cert.AttnProof

open Idealize.ShloMosaic Idealize.ShloMosaic.TcCoe Idealize.ShloMosaic.Tactic
open Cert.AttnIdeal Cert.AttnIdeal.Gen

/-! ## The conditions -/

theorem cond1_iff (i : grid0.Coords) : k0_cond1 i = 1#1 ↔ (i 1).val = 0 := by
  have h : (i 1).val < 11 := (i 1).isLt
  unfold k0_cond1
  generalize (i 1).val = j at h
  interval_cases j <;> decide

theorem cond2_iff (i : grid0.Coords) : k0_cond2 i = 1#1 ↔ (i 2).val = 0 := by
  have h : (i 2).val < 2 := (i 2).isLt
  unfold k0_cond2
  generalize (i 2).val = j at h
  interval_cases j <;> decide

theorem cond3_iff (i : grid0.Coords) : k0_cond3 i = 1#1 ↔ (i 2).val ≠ 0 := by
  have h : (i 2).val < 2 := (i 2).isLt
  unfold k0_cond3
  generalize (i 2).val = j at h
  interval_cases j <;> decide

theorem off1_zero (i : grid0.Coords) (h : Fin 2) : k0_off1 i (BitVec.ofNat 32 h.val) 0 = 2 * (i 2).val + h.val := by
  have h2 : (i 2).val < 2 := (i 2).isLt
  simp only [k0_off1, Matrix.cons_val_zero]
  generalize (i 2).val = g at h2
  fin_cases h <;> interval_cases g <;> decide

/-! ## The queries' gradient -/

section Dq
variable (valid : IVec S768x1 1) (kb vb : FVec Ideal S768x64 .bf16) (ktb : FVec Ideal S64x768 .bf16)
  (q o : ℕ → Vec Ideal S1x256x64 .bf16) (l e : ℕ → Vec Ideal S1x1x256 .f32) (i : grid0.Coords)
  (a : Memref sig .tc .vmem S4x64x8448 .f32) {c : Dev nD} (f : Buf (Elt Ideal) (a.view.loc (c : Thread nD τ)))

theorem dq_read (n : ℕ) (hn : n ≤ 66) (hh : Fin 4) (d : Fin 64) (k : Fin 33) (r : Fin 256) :
    a.view.read (Elt Ideal) (a.view.writes (Elt Ideal) f (dqWrites valid kb vb ktb q o l e i a f n)) (ix3 hh d ⟨k.val * 256 + r.val, by omega⟩)
      = if hh.val / 2 = (i 2).val ∧ 2 * k.val + hh.val % 2 < n then
          a.view.read (Elt Ideal) f (ix3 hh d ⟨k.val * 256 + r.val, by omega⟩)
            + ∑ x, ktb (ix2 d x) * dst valid kb vb q o l e (2 * k.val + hh.val % 2) (ix2 x r)
        else a.view.read (Elt Ideal) f (ix3 hh d ⟨k.val * 256 + r.val, by omega⟩) := by
  induction n with
  | zero => rw [if_neg (by omega)]; rfl
  | succ n ih =>
    rw [dqWrites]
    by_cases hit : hh.val / 2 = (i 2).val ∧ 2 * k.val + hh.val % 2 = n
    · rw [if_pos (by omega), View.read_writes_cons_hit_of_coords _ _ _ _ _ (ix3 0 d r) _ (fun b => ?_), dq_pay, hit.2]
      · congr 1
        rw [View.readAt_apply]
        congr 1
        funext b
        apply Fin.ext
        rw [LoadRect.idx_apply]
        fin_cases b
        · show dqOff i n 0 + 1 * 0 = hh.val; rw [dqOff_zero]; omega
        · show 0 + 1 * d.val = d.val; omega
        · show n / 2 % 33 * 256 + 1 * r.val = k.val * 256 + r.val; omega
      · fin_cases b
        · show hh.val = dqOff i n 0 + 1 * 0; rw [dqOff_zero]; omega
        · show d.val = 0 + 1 * d.val; omega
        · show k.val * 256 + r.val = n / 2 % 33 * 256 + 1 * r.val; omega
    · rw [View.read_writes_cons_miss _ _ _ _ _ (fun hm => hit ?_), ih (by omega)]
      · exact if_congr (by omega) rfl rfl
      · obtain ⟨x, hx, h0⟩ := (LoadRect.mem_set _).mp hm 0
        obtain ⟨x', hx', h2⟩ := (LoadRect.mem_set _).mp hm 2
        have hx : x < 1 := hx
        have hx' : x' < 256 := hx'
        have h0 : hh.val = dqOff i n 0 + 1 * x := h0
        have h2 : k.val * 256 + r.val = n / 2 % 33 * 256 + 1 * x' := h2
        rw [dqOff_zero] at h0
        omega

theorem dqStart_read (hh : Fin 4) (d : Fin 64) (m : Fin 8448) :
    a.view.read (Elt Ideal) (dqStart c i a f) (ix3 hh d m)
      = if (i 1).val = 0 ∧ hh.val / 2 = (i 2).val then 0 else a.view.read (Elt Ideal) f (ix3 hh d m) := by
  unfold dqStart
  by_cases hc : k0_cond1 i = 1#1
  · rw [dif_pos hc]
    have hj := (cond1_iff i).mp hc
    have e0 := off1_zero i 0
    have e1 := off1_zero i 1
    have z : ∀ x, (k0_pay5 (F := Ideal)) x = 0 := fun x => by pointwise [k0_pay5]
    by_cases h1 : hh.val = 2 * (i 2).val + 1
    · rw [if_pos ⟨hj, by omega⟩, View.read_writes_cons_hit_of_coords _ _ _ _ _ (ix3 0 d m) _ (fun b => ?_)]
      · exact z _
      · fin_cases b
        · show hh.val = k0_off1 i (BitVec.ofNat 32 (1 : Fin 2).val) 0 + 1 * 0; rw [e1, h1]; rfl
        · show d.val = 0 + 1 * d.val; omega
        · show m.val = 0 + 1 * m.val; omega
    · rw [View.read_writes_cons_miss _ _ _ _ _ (fun hm => h1 ?_)]
      · by_cases h0 : hh.val = 2 * (i 2).val
        · rw [if_pos ⟨hj, by omega⟩, View.read_writes_cons_hit_of_coords _ _ _ _ _ (ix3 0 d m) _ (fun b => ?_)]
          · exact z _
          · fin_cases b
            · show hh.val = k0_off1 i (BitVec.ofNat 32 (0 : Fin 2).val) 0 + 1 * 0; rw [e0, h0]; rfl
            · show d.val = 0 + 1 * d.val; omega
            · show m.val = 0 + 1 * m.val; omega
        · rw [if_neg (by omega), View.read_writes_cons_miss _ _ _ _ _ (fun hm => h0 ?_)]
          · rfl
          · obtain ⟨x, hx, hm⟩ := (LoadRect.mem_set _).mp hm 0
            have hx : x < 1 := hx
            have hm : hh.val = k0_off1 i (BitVec.ofNat 32 (0 : Fin 2).val) 0 + 1 * x := hm
            rw [e0, Fin.val_zero] at hm
            omega
      · obtain ⟨x, hx, hm⟩ := (LoadRect.mem_set _).mp hm 0
        have hx : x < 1 := hx
        have hm : hh.val = k0_off1 i (BitVec.ofNat 32 (1 : Fin 2).val) 0 + 1 * x := hm
        rw [e1, Fin.val_one] at hm
        omega
  · rw [dif_neg hc, if_neg fun h => hc ((cond1_iff i).mpr h.1)]

end Dq

/-! ## The keys' and values' gradients -/

theorem tile_read (i : grid0.Coords) (a : Memref sig .tc .vmem S1x768x64 .f32) {c : Dev nD} (f : Buf (Elt Ideal) (a.view.loc (c : Thread nD τ)))
    (S : FVec Ideal S768x64 .f32) (s : Fin 768) (d : Fin 64) :
    a.view.read (Elt Ideal) (tileEnd c i a f S) (ix3 0 s d)
      = if (i 2).val = 0 then S (ix2 s d) else a.view.read (Elt Ideal) f (ix3 0 s d) + S (ix2 s d) := by
  by_cases h : (i 2).val = 0
  · have h3 : ¬ k0_cond3 i = 1#1 := fun h3 => (cond3_iff i).mp h3 h
    unfold tileEnd tileFirst
    rw [if_pos h, dif_neg h3, dif_pos ((cond2_iff i).mpr h), View.read_writes_cons_hit_of_coords _ _ _ _ _ (ix3 0 s d) _ (fun b => ?_)]
    · pointwise
    · fin_cases b
      · rfl
      · show s.val = 0 + 1 * s.val; omega
      · show d.val = 0 + 1 * d.val; omega
  · have h2 : ¬ k0_cond2 i = 1#1 := fun h2 => h ((cond2_iff i).mp h2)
    unfold tileEnd tileFirst
    rw [if_neg h, dif_pos ((cond3_iff i).mpr h), dif_neg h2, View.read_writes_cons_hit_of_coords _ _ _ _ _ (ix3 0 s d) _ (fun b => ?_)]
    · pointwise
      congr 1
      rw [View.readAt_apply]
      congr 1
      funext b
      apply Fin.ext
      rw [LoadRect.idx_apply]
      fin_cases b
      · rfl
      · show 0 + 1 * s.val = s.val; omega
      · show 0 + 1 * d.val = d.val; omega
    · fin_cases b
      · rfl
      · show s.val = 0 + 1 * s.val; omega
      · show d.val = 0 + 1 * d.val; omega

end Cert.AttnProof
end
-- ==== Proof.AttnPoint.lean ====
/- The three result blocks of one grid point of the attention gradient, read entry by entry. -/
module

public import proofs.«01_k».proof.Proof.AttnBlock

@[expose] public section

set_option maxRecDepth 16384

noncomputable section

namespace Cert.AttnProof

open Idealize.ShloMosaic Idealize.ShloMosaic.TcCoe Idealize.ShloMosaic.Tactic
open Cert.AttnIdeal Cert.AttnIdeal.Gen

/-- The probability of key `s` of tile `j` for query `m` of the point's head `h`. -/
def pB (j : ℕ) (x0 : Vec Ideal S2x8448x64 .bf16) (x2 : Vec Ideal S2x1x8448 .f32) (x4 : Vec Ideal S1x768x64 .bf16) (h : Fin 2) (s : Fin 768) (m : Fin 8448) :
    EReal :=
  wt (240 ≤ j * 768 + s.val) (∑ x : Fin 64, (x4 (ix3 0 s x) * x0 (ix3 h m x) : EReal)) (x2 (ix3 h 0 m))

/-- The gradient of the score of key `s` of tile `j` and query `m` of the point's head `h`. -/
def dB (j : ℕ) (x0 x1 : Vec Ideal S2x8448x64 .bf16) (x2 x3 : Vec Ideal S2x1x8448 .f32) (x4 x6 : Vec Ideal S1x768x64 .bf16) (h : Fin 2) (s : Fin 768)
    (m : Fin 8448) : EReal :=
  pB j x0 x2 x4 h s m * (∑ x : Fin 64, (x6 (ix3 0 s x) * x1 (ix3 h m x) : EReal) - x3 (ix3 h 0 m))

theorem wt_congr {p p' : Prop} [Decidable p] [Decidable p'] (h : p ↔ p') {s s' l l' : EReal} (hs : s = s') (hl : l = l') : wt p s l = wt p' s' l' := by
  subst hs hl
  unfold wt
  congr 2
  exact if_congr h rfl rfl

section Point
variable (c : Dev nD) (i : grid0.Coords) (arg3 : Memref sig .tc .vmem S2x8448x64 .bf16) (harg3 : arg3.IsWhole) (arg4 : Memref sig .tc .vmem S2x8448x64 .bf16) (harg4 : arg4.IsWhole) (arg5 : Memref sig .tc .vmem S2x1x8448 .f32) (harg5 : arg5.IsWhole) (arg6 : Memref sig .tc .vmem S2x1x8448 .f32) (harg6 : arg6.IsWhole) (arg7 : Memref sig .tc .vmem S1x768x64 .bf16) (harg7 : arg7.IsWhole) (arg8 : Memref sig .tc .vmem S1x64x768 .bf16) (harg8 : arg8.IsWhole) (arg9 : Memref sig .tc .vmem S1x768x64 .bf16) (harg9 : arg9.IsWhole) (arg10 : Memref sig .tc .vmem S4x64x8448 .f32) (harg10 : arg10.IsWhole) (arg11 : Memref sig .tc .vmem S1x768x64 .f32) (harg11 : arg11.IsWhole) (arg12 : Memref sig .tc .vmem S1x768x64 .f32) (harg12 : arg12.IsWhole)
    (x0 : Vec Ideal S2x8448x64 .bf16) (x1 : Vec Ideal S2x8448x64 .bf16) (x2 : Vec Ideal S2x1x8448 .f32) (x3 : Vec Ideal S2x1x8448 .f32) (x4 : Vec Ideal S1x768x64 .bf16) (x5 : Vec Ideal S1x64x768 .bf16) (x6 : Vec Ideal S1x768x64 .bf16)
    (f7 : Buf (Elt Ideal) (arg10.view.loc (c : Thread nD τ))) (f8 : Buf (Elt Ideal) (arg11.view.loc (c : Thread nD τ))) (f9 : Buf (Elt Ideal) (arg12.view.loc (c : Thread nD τ)))

theorem pB_of (n : ℕ) (h : Fin 2) (k : Fin 33) (hh : n % 2 = h.val) (hk : n / 2 = k.val) (s : Fin 768) (r : Fin 256) :
    wt (k0_pay4 i (ix2 s 0) = 1) (∑ x, keysOf arg7 harg7 x4 (ix2 s x) * rowsOf arg3 harg3 x0 n (ix3 0 r x)) (laneOf arg5 harg5 x2 n (ix3 0 0 r))
      = pB (i 1).val x0 x2 x4 h s ⟨k.val * 256 + r.val, by omega⟩ :=
  wt_congr (valid_iff i s)
    (Finset.sum_congr rfl fun x _ => congrArg₂ (· * · : EReal → EReal → EReal) (keysOf_apply arg7 harg7 x4 s x) (rowsOf_apply arg3 harg3 x0 n h k hh hk r x))
    (laneOf_apply arg5 harg5 x2 n h k hh hk r)

theorem dB_of (n : ℕ) (h : Fin 2) (k : Fin 33) (hh : n % 2 = h.val) (hk : n / 2 = k.val) (s : Fin 768) (r : Fin 256) :
    dst (k0_pay4 i) (keysOf arg7 harg7 x4) (keysOf arg9 harg9 x6) (rowsOf arg3 harg3 x0) (rowsOf arg4 harg4 x1) (laneOf arg5 harg5 x2) (laneOf arg6 harg6 x3)
        n (ix2 s r)
      = dB (i 1).val x0 x1 x2 x3 x4 x6 h s ⟨k.val * 256 + r.val, by omega⟩ := by
  rw [dst_apply, pB_of i arg3 harg3 arg5 harg5 arg7 harg7 x0 x2 x4 n h k hh hk s r, laneOf_apply arg6 harg6 x3 n h k hh hk r]
  exact congrArg (fun z : EReal => pB (i 1).val x0 x2 x4 h s _ * (z - _))
    (Finset.sum_congr rfl fun x _ => congrArg₂ (· * · : EReal → EReal → EReal) (keysOf_apply arg9 harg9 x6 s x) (rowsOf_apply arg4 harg4 x1 n h k hh hk r x))

theorem dk_read (s : Fin 768) (d : Fin 64) :
    arg11.view.read (Elt Ideal) (kernelRun c i arg3 harg3 arg4 harg4 arg5 harg5 arg6 harg6 arg7 harg7 arg8 harg8 arg9 harg9 arg10 harg10 arg11 harg11 arg12 harg12 x0 x1 x2 x3 x4 x5 x6 f7 f8 f9).2.1 (ix3 0 s d)
      = if (i 2).val = 0 then ∑ h : Fin 2, ∑ m : Fin 8448, dB (i 1).val x0 x1 x2 x3 x4 x6 h s m * x0 (ix3 h m d)
        else arg11.view.read (Elt Ideal) f8 (ix3 0 s d)
          + ∑ h : Fin 2, ∑ m : Fin 8448, (dB (i 1).val x0 x1 x2 x3 x4 x6 h s m * x0 (ix3 h m d) : EReal) := by
  rw [run_dk, tile_read, dk_apply, sum_pairs (fun h m => dB (i 1).val x0 x1 x2 x3 x4 x6 h s m * x0 (ix3 h m d)) _ (fun n h k r hh hk => ?_)]
  exact congrArg₂ (· * · : EReal → EReal → EReal)
    (dB_of i arg3 harg3 arg4 harg4 arg5 harg5 arg6 harg6 arg7 harg7 arg9 harg9 x0 x1 x2 x3 x4 x6 n h k hh hk s r) (rowsOf_apply arg3 harg3 x0 n h k hh hk r d)

theorem dv_read (s : Fin 768) (d : Fin 64) :
    arg12.view.read (Elt Ideal) (kernelRun c i arg3 harg3 arg4 harg4 arg5 harg5 arg6 harg6 arg7 harg7 arg8 harg8 arg9 harg9 arg10 harg10 arg11 harg11 arg12 harg12 x0 x1 x2 x3 x4 x5 x6 f7 f8 f9).2.2.1 (ix3 0 s d)
      = if (i 2).val = 0 then ∑ h : Fin 2, ∑ m : Fin 8448, pB (i 1).val x0 x2 x4 h s m * x1 (ix3 h m d)
        else arg12.view.read (Elt Ideal) f9 (ix3 0 s d)
          + ∑ h : Fin 2, ∑ m : Fin 8448, (pB (i 1).val x0 x2 x4 h s m * x1 (ix3 h m d) : EReal) := by
  rw [run_dv, tile_read, dv_apply, sum_pairs (fun h m => pB (i 1).val x0 x2 x4 h s m * x1 (ix3 h m d)) _ (fun n h k r hh hk => ?_)]
  exact congrArg₂ (· * · : EReal → EReal → EReal)
    (pB_of i arg3 harg3 arg5 harg5 arg7 harg7 x0 x2 x4 n h k hh hk s r) (rowsOf_apply arg4 harg4 x1 n h k hh hk r d)

theorem dq_block (hh : Fin 4) (d : Fin 64) (m : Fin 8448) (h : Fin 2) (e : hh.val % 2 = h.val) :
    arg10.view.read (Elt Ideal) (kernelRun c i arg3 harg3 arg4 harg4 arg5 harg5 arg6 harg6 arg7 harg7 arg8 harg8 arg9 harg9 arg10 harg10 arg11 harg11 arg12 harg12 x0 x1 x2 x3 x4 x5 x6 f7 f8 f9).1 (ix3 hh d m)
      = if hh.val / 2 = (i 2).val then
          (if (i 1).val = 0 then 0 else arg10.view.read (Elt Ideal) f7 (ix3 hh d m))
            + ∑ s : Fin 768, (x5 (ix3 0 d s) * dB (i 1).val x0 x1 x2 x3 x4 x6 h s m : EReal)
        else arg10.view.read (Elt Ideal) f7 (ix3 hh d m) := by
  obtain ⟨k, r, rfl⟩ : ∃ (k : Fin 33) (r : Fin 256), m = ⟨k.val * 256 + r.val, by omega⟩ :=
    ⟨⟨m.val / 256, by omega⟩, ⟨m.val % 256, by omega⟩, Fin.ext (by show m.val = m.val / 256 * 256 + m.val % 256; omega)⟩
  rw [run_dq, dq_read _ _ _ _ _ _ _ _ _ _ _ 66 le_rfl, dqStart_read]
  by_cases hg : hh.val / 2 = (i 2).val
  · rw [if_pos ⟨hg, by omega⟩, if_pos hg, if_congr (and_iff_left hg) rfl rfl]
    refine congrArg (_ + · : EReal → EReal) (Finset.sum_congr rfl fun s _ => congrArg₂ (· * · : EReal → EReal → EReal) (keysTOf_apply arg8 harg8 x5 d s) ?_)
    exact dB_of i arg3 harg3 arg4 harg4 arg5 harg5 arg6 harg6 arg7 harg7 arg9 harg9 x0 x1 x2 x3 x4 x6 _ h k (by omega) (by omega) s r
  · rw [if_neg fun h => hg h.1, if_neg hg, if_neg fun h => hg h.2]

end Point

end Cert.AttnProof
end
-- ==== Proof.AttnGrid.lean ====
/- The grid of the attention gradient: the windows' blocks in the arrays, what the three result blocks hold after each grid point, and why the
   body carries that from point to point. -/
module

public import proofs.«01_k».proof.Proof.AttnPoint
public import Idealize.ShloMosaic.Lib.Pipeline.ValueKit

@[expose] public section

set_option maxRecDepth 16384

noncomputable section

namespace Cert.AttnProof

open Idealize.ShloMosaic Idealize.ShloMosaic.TcCoe Idealize.ShloMosaic.Tactic
open Cert.AttnIdeal Cert.AttnIdeal.Gen

/-! ## The whole arrays -/

section Whole
variable (Q DO : Vec Ideal S16x8448x64 .bf16) (L E : Vec Ideal S16x1x8448 .f32) (K W : Vec Ideal S4x8448x64 .bf16) (KT : Vec Ideal S4x64x8448 .bf16)

/-- The key head that a query head reads. -/
abbrev kvOf (h : Fin 16) : Fin 4 := ⟨h.val / 4, by omega⟩

/-- The probability of key `r` for query `m` of head `h`. -/
def pG (h : Fin 16) (r m : Fin 8448) : EReal := wt (240 ≤ r.val) (∑ x : Fin 64, (K (ix3 (kvOf h) r x) * Q (ix3 h m x) : EReal)) (L (ix3 h 0 m))

/-- The gradient of the score of key `r` and query `m` of head `h`. -/
def dG (h : Fin 16) (r m : Fin 8448) : EReal := pG Q L K h r m * (∑ x : Fin 64, (W (ix3 (kvOf h) r x) * DO (ix3 h m x) : EReal) - E (ix3 h 0 m))

/-- The sum of the first `b` terms. -/
def below (b : ℕ) (f : Fin 8448 → EReal) : EReal := ∑ x ∈ Finset.range b, if h : x < 8448 then f ⟨x, h⟩ else 0

theorem below_zero (f : Fin 8448 → EReal) : below 0 f = 0 := rfl

theorem below_add (j : ℕ) (hj : j < 11) (f : Fin 8448 → EReal) :
    below (768 * (j + 1)) f = below (768 * j) f + ∑ s : Fin 768, f ⟨j * 768 + s.val, by omega⟩ := by
  unfold below
  rw [Nat.mul_succ, Finset.sum_range_add, Finset.sum_range (n := 768)]
  refine congrArg (_ + · : EReal → EReal) (Finset.sum_congr rfl fun s _ => ?_)
  have hs := s.isLt
  rw [dif_pos (by omega)]
  exact congrArg f (Fin.ext (by show 768 * j + s.val = j * 768 + s.val; omega))

theorem below_all (f : Fin 8448 → EReal) : below 8448 f = ∑ r, f r := by
  unfold below
  rw [Finset.sum_range (n := 8448)]
  exact Finset.sum_congr rfl fun r _ => dif_pos r.isLt

/-- One head of the point's key head. -/
abbrev headAt (kv : Fin 4) (hh : Fin 4) : Fin 16 := ⟨4 * kv.val + hh.val, by omega⟩

/-- What the queries' block holds after point `(kv, j, g)`: of each head already met, the sum over the keys already met. -/
def RelQ (kv : Fin 4) (j g : ℕ) (X : Vec Ideal S4x64x8448 .f32) : Prop :=
  ∀ (hh : Fin 4) (d : Fin 64) (m : Fin 8448), (hh.val / 2 ≤ g ∨ 0 < j) →
    X (ix3 hh d m) = below (768 * (if hh.val / 2 ≤ g then j + 1 else j)) fun r => KT (ix3 kv d r) * dG Q DO L E K W (headAt kv hh) r m

/-- The contribution of a pair of heads to a tile's keys. -/
def pairK (kv : Fin 4) (f : Fin 16 → Fin 8448 → EReal) (g : Fin 2) : EReal :=
  ∑ h : Fin 2, ∑ m : Fin 8448, f (headAt kv ⟨2 * g.val + h.val, by omega⟩) m

/-- What a tile's block holds after point `(kv, j, g)`: the contributions of the pairs of heads already met. -/
def RelT (f : Fin 16 → Fin 8448 → Fin 64 → Fin 8448 → EReal) (kv : Fin 4) (j : Fin 11) (g : ℕ) (X : Vec Ideal S1x768x64 .f32) : Prop :=
  ∀ (s : Fin 768) (d : Fin 64), X (ix3 0 s d)
    = if g = 0 then pairK kv (fun h m => f h ⟨j.val * 768 + s.val, by omega⟩ d m) 0
      else pairK kv (fun h m => f h ⟨j.val * 768 + s.val, by omega⟩ d m) 0 + pairK kv (fun h m => f h ⟨j.val * 768 + s.val, by omega⟩ d m) 1

end Whole

/-! ## The blocks -/

variable (m : (ℓ : Loc nD τ sig) → Buf (Elt Ideal) ℓ)

/-- The arrays that the grid finds. -/
def aQ (c : Dev nD) : Vec Ideal S16x8448x64 .bf16 := V m c (Pipeline.arrRef spec0 0)
def aDO (c : Dev nD) : Vec Ideal S16x8448x64 .bf16 := V m c (Pipeline.arrRef spec0 1)
def aL (c : Dev nD) : Vec Ideal S16x1x8448 .f32 := V m c (Pipeline.arrRef spec0 2)
def aE (c : Dev nD) : Vec Ideal S16x1x8448 .f32 := V m c (Pipeline.arrRef spec0 3)
def aK (c : Dev nD) : Vec Ideal S4x8448x64 .bf16 := V m c (Pipeline.arrRef spec0 4)
def aKT (c : Dev nD) : Vec Ideal S4x64x8448 .bf16 := V m c (Pipeline.arrRef spec0 5)
def aW (c : Dev nD) : Vec Ideal S4x8448x64 .bf16 := V m c (Pipeline.arrRef spec0 6)

theorem coords_val : ∀ t : Fin cfg0.N, (grid0.coords t 0).val = t.val / 22 ∧ (grid0.coords t 1).val = t.val / 2 % 11 ∧ (grid0.coords t 2).val = t.val % 2 :=
  (by decide +kernel : ∀ t : Fin grid0.N, _)

theorem idx : ∀ t : Fin cfg0.N, win0_0.index t = ![t.val / 22 * 2 + t.val % 2, 0, 0] ∧ win0_1.index t = ![t.val / 22 * 2 + t.val % 2, 0, 0]
    ∧ win0_2.index t = ![t.val / 22 * 2 + t.val % 2, 0, 0] ∧ win0_3.index t = ![t.val / 22 * 2 + t.val % 2, 0, 0]
    ∧ win0_4.index t = ![t.val / 22, t.val / 2 % 11, 0] ∧ win0_5.index t = ![t.val / 22, 0, t.val / 2 % 11] ∧ win0_6.index t = ![t.val / 22, t.val / 2 % 11, 0]
    ∧ win0_7.index t = ![t.val / 22, 0, 0] ∧ win0_8.index t = ![t.val / 22, t.val / 2 % 11, 0] ∧ win0_9.index t = ![t.val / 22, t.val / 2 % 11, 0] :=
  (by decide +kernel : ∀ t : Fin grid0.N, _)

theorem lt_88 (t : Fin cfg0.N) : t.val < 88 := lt_of_lt_of_eq t.isLt N_0

/-- The coordinates of a point. -/
abbrev kvAt (t : Fin cfg0.N) : Fin 4 := ⟨t.val / 22, by have := lt_88 t; omega⟩
abbrev jAt (t : Fin cfg0.N) : Fin 11 := ⟨t.val / 2 % 11, by omega⟩
abbrev gAt (t : Fin cfg0.N) : Fin 2 := ⟨t.val % 2, by omega⟩
abbrev hAt (t : Fin cfg0.N) (h : Fin 2) : Fin 16 := headAt (kvAt t) ⟨2 * (gAt t).val + h.val, by omega⟩
abbrev rAt (t : Fin cfg0.N) (s : Fin 768) : Fin 8448 := ⟨(jAt t).val * 768 + s.val, by have := (jAt t).isLt; omega⟩

theorem read_q (c : Dev nD) (A : Buf (Elt Ideal) ((cfg0.win 0).arr.view.loc (c : Thread nD τ))) (t : Fin cfg0.N) (h : Fin 2) (r : Fin 8448) (x : Fin 64) :
    (((cfg0.win 0).blk t).view.read (Elt Ideal) A : Vec Ideal S2x8448x64 .bf16) (ix3 h r x) = (A : Vec Ideal S16x8448x64 .bf16) (ix3 (hAt t h) r x) := by
  blk_ext [idx t]
theorem blk_q (c : Dev nD) (t : Fin cfg0.N) (h : Fin 2) (r : Fin 8448) (x : Fin 64) :
    (iblk m c 0 t : Vec Ideal S2x8448x64 .bf16) (ix3 h r x) = aQ m c (ix3 (hAt t h) r x) := read_q c (V m c (Pipeline.arrRef spec0 0)) t h r x
theorem read_do (c : Dev nD) (A : Buf (Elt Ideal) ((cfg0.win 1).arr.view.loc (c : Thread nD τ))) (t : Fin cfg0.N) (h : Fin 2) (r : Fin 8448) (x : Fin 64) :
    (((cfg0.win 1).blk t).view.read (Elt Ideal) A : Vec Ideal S2x8448x64 .bf16) (ix3 h r x) = (A : Vec Ideal S16x8448x64 .bf16) (ix3 (hAt t h) r x) := by
  blk_ext [idx t]
theorem blk_do (c : Dev nD) (t : Fin cfg0.N) (h : Fin 2) (r : Fin 8448) (x : Fin 64) :
    (iblk m c 1 t : Vec Ideal S2x8448x64 .bf16) (ix3 h r x) = aDO m c (ix3 (hAt t h) r x) := read_do c (V m c (Pipeline.arrRef spec0 1)) t h r x
theorem read_l (c : Dev nD) (A : Buf (Elt Ideal) ((cfg0.win 2).arr.view.loc (c : Thread nD τ))) (t : Fin cfg0.N) (h : Fin 2) (r : Fin 8448) :
    (((cfg0.win 2).blk t).view.read (Elt Ideal) A : Vec Ideal S2x1x8448 .f32) (ix3 h 0 r) = (A : Vec Ideal S16x1x8448 .f32) (ix3 (hAt t h) 0 r) := by
  blk_ext [idx t]
theorem blk_l (c : Dev nD) (t : Fin cfg0.N) (h : Fin 2) (r : Fin 8448) :
    (iblk m c 2 t : Vec Ideal S2x1x8448 .f32) (ix3 h 0 r) = aL m c (ix3 (hAt t h) 0 r) := read_l c (V m c (Pipeline.arrRef spec0 2)) t h r
theorem read_e (c : Dev nD) (A : Buf (Elt Ideal) ((cfg0.win 3).arr.view.loc (c : Thread nD τ))) (t : Fin cfg0.N) (h : Fin 2) (r : Fin 8448) :
    (((cfg0.win 3).blk t).view.read (Elt Ideal) A : Vec Ideal S2x1x8448 .f32) (ix3 h 0 r) = (A : Vec Ideal S16x1x8448 .f32) (ix3 (hAt t h) 0 r) := by
  blk_ext [idx t]
theorem blk_e (c : Dev nD) (t : Fin cfg0.N) (h : Fin 2) (r : Fin 8448) :
    (iblk m c 3 t : Vec Ideal S2x1x8448 .f32) (ix3 h 0 r) = aE m c (ix3 (hAt t h) 0 r) := read_e c (V m c (Pipeline.arrRef spec0 3)) t h r
theorem read_k (c : Dev nD) (A : Buf (Elt Ideal) ((cfg0.win 4).arr.view.loc (c : Thread nD τ))) (t : Fin cfg0.N) (s : Fin 768) (x : Fin 64) :
    (((cfg0.win 4).blk t).view.read (Elt Ideal) A : Vec Ideal S1x768x64 .bf16) (ix3 0 s x) = (A : Vec Ideal S4x8448x64 .bf16) (ix3 (kvAt t) (rAt t s) x) := by
  blk_ext [idx t]
theorem blk_k (c : Dev nD) (t : Fin cfg0.N) (s : Fin 768) (x : Fin 64) :
    (iblk m c 4 t : Vec Ideal S1x768x64 .bf16) (ix3 0 s x) = aK m c (ix3 (kvAt t) (rAt t s) x) := read_k c (V m c (Pipeline.arrRef spec0 4)) t s x
theorem read_kt (c : Dev nD) (A : Buf (Elt Ideal) ((cfg0.win 5).arr.view.loc (c : Thread nD τ))) (t : Fin cfg0.N) (s : Fin 768) (x : Fin 64) :
    (((cfg0.win 5).blk t).view.read (Elt Ideal) A : Vec Ideal S1x64x768 .bf16) (ix3 0 x s) = (A : Vec Ideal S4x64x8448 .bf16) (ix3 (kvAt t) x (rAt t s)) := by
  blk_ext [idx t]
theorem blk_kt (c : Dev nD) (t : Fin cfg0.N) (s : Fin 768) (x : Fin 64) :
    (iblk m c 5 t : Vec Ideal S1x64x768 .bf16) (ix3 0 x s) = aKT m c (ix3 (kvAt t) x (rAt t s)) := read_kt c (V m c (Pipeline.arrRef spec0 5)) t s x
theorem read_w (c : Dev nD) (A : Buf (Elt Ideal) ((cfg0.win 6).arr.view.loc (c : Thread nD τ))) (t : Fin cfg0.N) (s : Fin 768) (x : Fin 64) :
    (((cfg0.win 6).blk t).view.read (Elt Ideal) A : Vec Ideal S1x768x64 .bf16) (ix3 0 s x) = (A : Vec Ideal S4x8448x64 .bf16) (ix3 (kvAt t) (rAt t s) x) := by
  blk_ext [idx t]
theorem blk_w (c : Dev nD) (t : Fin cfg0.N) (s : Fin 768) (x : Fin 64) :
    (iblk m c 6 t : Vec Ideal S1x768x64 .bf16) (ix3 0 s x) = aW m c (ix3 (kvAt t) (rAt t s) x) := read_w c (V m c (Pipeline.arrRef spec0 6)) t s x

theorem kvOf_hAt (t : Fin cfg0.N) (h : Fin 2) : kvOf (hAt t h) = kvAt t :=
  Fin.ext (by show (4 * (t.val / 22) + (2 * (t.val % 2) + h.val)) / 4 = t.val / 22; omega)

theorem pB_eq (c : Dev nD) (t : Fin cfg0.N) (h : Fin 2) (s : Fin 768) (n : Fin 8448) :
    pB (grid0.coords t 1).val (iblk m c 0 t) (iblk m c 2 t) (iblk m c 4 t) h s n = pG (aQ m c) (aL m c) (aK m c) (hAt t h) (rAt t s) n := by
  unfold pB pG
  refine wt_congr (iff_of_eq (congrArg (fun j => 240 ≤ j * 768 + s.val) (coords_val t).2.1)) (Finset.sum_congr rfl fun x _ => ?_) (blk_l m c t h n)
  rw [kvOf_hAt]
  exact congrArg₂ (· * · : EReal → EReal → EReal) (blk_k m c t s x) (blk_q m c t h n x)

theorem dB_eq (c : Dev nD) (t : Fin cfg0.N) (h : Fin 2) (s : Fin 768) (n : Fin 8448) :
    dB (grid0.coords t 1).val (iblk m c 0 t) (iblk m c 1 t) (iblk m c 2 t) (iblk m c 3 t) (iblk m c 4 t) (iblk m c 6 t) h s n
      = dG (aQ m c) (aDO m c) (aL m c) (aE m c) (aK m c) (aW m c) (hAt t h) (rAt t s) n := by
  unfold dB dG
  rw [pB_eq, kvOf_hAt]
  refine congrArg₂ (fun a b : EReal => pG (aQ m c) (aL m c) (aK m c) (hAt t h) (rAt t s) n * (a - b)) (Finset.sum_congr rfl fun x _ => ?_) (blk_e m c t h n)
  exact congrArg₂ (· * · : EReal → EReal → EReal) (blk_w m c t s x) (blk_do m c t h n x)

/-! ## One step -/

theorem stepQ (Q DO : Vec Ideal S16x8448x64 .bf16) (L E : Vec Ideal S16x1x8448 .f32) (K W : Vec Ideal S4x8448x64 .bf16) (KT : Vec Ideal S4x64x8448 .bf16)
    (t : Fin cfg0.N) (Y X : Vec Ideal S4x64x8448 .f32)
    (hY : ∀ u : Fin cfg0.N, u.val + 1 = t.val → t.val % 22 ≠ 0 → RelQ Q DO L E K W KT (kvAt u) (jAt u).val (gAt u).val Y)
    (hX : ∀ (hh : Fin 4) (d : Fin 64) (n : Fin 8448) (h : Fin 2), hh.val % 2 = h.val → X (ix3 hh d n)
      = if hh.val / 2 = t.val % 2 then (if t.val / 2 % 11 = 0 then 0 else Y (ix3 hh d n))
          + ∑ s : Fin 768, (KT (ix3 (kvAt t) d (rAt t s)) * dG Q DO L E K W (hAt t h) (rAt t s) n : EReal)
        else Y (ix3 hh d n)) :
    RelQ Q DO L E K W KT (kvAt t) (jAt t).val (gAt t).val X := by
  intro hh d n hseen
  have ht := lt_88 t
  rw [hX hh d n ⟨hh.val % 2, by omega⟩ rfl]
  by_cases hg : hh.val / 2 = t.val % 2
  · rw [if_pos hg, if_pos (le_of_eq hg)]
    have hhead : hAt t ⟨hh.val % 2, by omega⟩ = headAt (kvAt t) hh := Fin.ext (by show 4 * _ + (2 * (t.val % 2) + hh.val % 2) = 4 * _ + hh.val; omega)
    rw [hhead, below_add _ (jAt t).isLt]
    refine congrArg (· + _ : EReal → EReal) ?_
    by_cases hj : t.val / 2 % 11 = 0
    · rw [if_pos hj, show (jAt t).val = 0 from hj]; rfl
    · rw [if_neg hj]
      have hu : t.val - 1 < cfg0.N := lt_of_le_of_lt (Nat.sub_le _ _) t.isLt
      have hkv : kvAt ⟨t.val - 1, hu⟩ = kvAt t := Fin.ext (by show (t.val - 1) / 22 = t.val / 22; omega)
      rw [hY ⟨t.val - 1, hu⟩ (by show t.val - 1 + 1 = t.val; omega) (by omega) hh d n (by show hh.val / 2 ≤ (t.val - 1) % 2 ∨ 0 < (t.val - 1) / 2 % 11; omega), hkv]
      refine congrArg (fun b => below (768 * b) _) ?_
      show (if hh.val / 2 ≤ (t.val - 1) % 2 then (t.val - 1) / 2 % 11 + 1 else (t.val - 1) / 2 % 11) = t.val / 2 % 11
      split_ifs <;> omega
  · rw [if_neg hg]
    have hseen : hh.val / 2 ≤ t.val % 2 ∨ 0 < t.val / 2 % 11 := hseen
    have hu : t.val - 1 < cfg0.N := lt_of_le_of_lt (Nat.sub_le _ _) t.isLt
    have hkv : kvAt ⟨t.val - 1, hu⟩ = kvAt t := Fin.ext (by show (t.val - 1) / 22 = t.val / 22; omega)
    rw [hY ⟨t.val - 1, hu⟩ (by show t.val - 1 + 1 = t.val; omega) (by omega) hh d n (by show hh.val / 2 ≤ (t.val - 1) % 2 ∨ 0 < (t.val - 1) / 2 % 11; omega), hkv]
    refine congrArg (fun b => below (768 * b) _) ?_
    show (if hh.val / 2 ≤ (t.val - 1) % 2 then (t.val - 1) / 2 % 11 + 1 else (t.val - 1) / 2 % 11) = if hh.val / 2 ≤ t.val % 2 then t.val / 2 % 11 + 1 else t.val / 2 % 11
    split_ifs <;> omega

/-- The sum over the point's heads is the contribution of its pair. -/
theorem pair_eq (f : Fin 16 → Fin 8448 → Fin 64 → Fin 8448 → EReal) (t : Fin cfg0.N) (s : Fin 768) (d : Fin 64) :
    ∑ h : Fin 2, ∑ n : Fin 8448, f (hAt t h) (rAt t s) d n = pairK (kvAt t) (fun h m => f h (rAt t s) d m) (gAt t) := rfl

theorem stepT (f : Fin 16 → Fin 8448 → Fin 64 → Fin 8448 → EReal) (t : Fin cfg0.N) (Y X : Vec Ideal S1x768x64 .f32)
    (hY : ∀ u : Fin cfg0.N, u.val + 1 = t.val → t.val % 2 ≠ 0 → RelT f (kvAt u) (jAt u) (gAt u).val Y)
    (hX : ∀ (s : Fin 768) (d : Fin 64), X (ix3 0 s d)
      = if t.val % 2 = 0 then ∑ h : Fin 2, ∑ n : Fin 8448, f (hAt t h) (rAt t s) d n
        else Y (ix3 0 s d) + ∑ h : Fin 2, ∑ n : Fin 8448, f (hAt t h) (rAt t s) d n) :
    RelT f (kvAt t) (jAt t) (gAt t).val X := by
  intro s d
  have ht := lt_88 t
  rw [hX s d]
  by_cases hg : t.val % 2 = 0
  · have e : gAt t = 0 := Fin.ext hg
    rw [if_pos hg, if_pos hg, pair_eq, e]
  · have e : gAt t = 1 := Fin.ext (by show t.val % 2 = 1; omega)
    have hu : t.val - 1 < cfg0.N := lt_of_le_of_lt (Nat.sub_le _ _) t.isLt
    have hkv : kvAt ⟨t.val - 1, hu⟩ = kvAt t := Fin.ext (by show (t.val - 1) / 22 = t.val / 22; omega)
    have hj : jAt ⟨t.val - 1, hu⟩ = jAt t := Fin.ext (by show (t.val - 1) / 2 % 11 = t.val / 2 % 11; omega)
    rw [if_neg hg, if_neg hg, hY ⟨t.val - 1, hu⟩ (by show t.val - 1 + 1 = t.val; omega) hg s d, if_pos (by show (t.val - 1) % 2 = 0; omega), hkv, hj, pair_eq, e]

end Cert.AttnProof
end
-- ==== Proof.AttnLaunch.lean ====
/- The launch of the attention gradient at the ideal scalars: what the three result windows hold after each point. -/
module

public import proofs.«01_k».proof.Proof.AttnGrid
public import proofs.«01_k».proof.Proof.AttnOpen
public import Idealize.ShloMosaic.Lib.Pipeline.DatRel
public import Idealize.ShloMosaic.Lib.Pipeline.ArrRel
public import Idealize.ShloMosaic.Lib.Claim

@[expose] public section

set_option maxRecDepth 16384

noncomputable section

namespace Cert.AttnProof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.AttnIdeal Cert.AttnIdeal.Gen

local notation "𝕄" => MT nD τ sig Unit (Elt Ideal) ℕ (UR sig nD τ) ℕ

variable (m : (ℓ : Loc nD τ sig) → Buf (Elt Ideal) ℓ) (ρ : Dev nD → PrngReg)

/-- The summands of the keys' gradient. -/
def fK (c : Dev nD) (h : Fin 16) (r : Fin 8448) (d : Fin 64) (n : Fin 8448) : EReal :=
  dG (aQ m c) (aDO m c) (aL m c) (aE m c) (aK m c) (aW m c) h r n * aQ m c (ix3 h n d)

/-- The summands of the values' gradient. -/
def fV (c : Dev nD) (h : Fin 16) (r : Fin 8448) (d : Fin 64) (n : Fin 8448) : EReal :=
  pG (aQ m c) (aL m c) (aK m c) h r n * aDO m c (ix3 h n d)

/-- What each result window holds after each point. -/
def Rl (c : Dev nD) : (w : Fin cfg0.W) → Fin cfg0.N → ((cfg0.win w).block.Idx → Elt Ideal (cfg0.win w).elt) → Prop := fun w t =>
  match w with
  | ⟨7, _⟩ => fun X => RelQ (aQ m c) (aDO m c) (aL m c) (aE m c) (aK m c) (aW m c) (aKT m c) (kvAt t) (jAt t).val (gAt t).val X
  | ⟨8, _⟩ => fun X => RelT (fK m c) (kvAt t) (jAt t) (gAt t).val X
  | ⟨9, _⟩ => fun X => RelT (fV m c) (kvAt t) (jAt t) (gAt t).val X
  | _ => fun _ => True

/-- What the run leaves in the queries' block. -/
theorem leavesQ (c : Dev nD) (t : Fin cfg0.N) (f7 : Buf (Elt Ideal) ((mr7 t).view.loc (c : Thread nD τ))) (f8 : Buf (Elt Ideal) ((mr8 t).view.loc (c : Thread nD τ)))
    (f9 : Buf (Elt Ideal) ((mr9 t).view.loc (c : Thread nD τ))) (h : ((rdats m 0 c).toRRel marked (Rl m c)).Finds 7 t ((mr7 t).view.read (Elt Ideal) f7)) :
    Rl m c 7 t ((mr7 t).view.read (Elt Ideal) (runAt m c t f7 f8 f9).1) := by
  refine stepQ _ _ _ _ _ _ _ t ((mr7 t).view.read (Elt Ideal) f7) _ (fun u hu ht => ?_) fun hh d n h' e => ?_
  · exact finds_prev m (Rl m) c 7 rfl t u hu rfl (flush_false (flush0_7 u) (by omega)) h
  · rw [dq_block (h := h') (e := e), (coords_val t).2.2]
    refine if_congr Iff.rfl (congrArg₂ (· + · : EReal → EReal → EReal) (if_congr (by rw [(coords_val t).2.1]) rfl rfl) ?_) rfl
    exact Finset.sum_congr rfl fun s _ => congrArg₂ (· * · : EReal → EReal → EReal) (blk_kt m c t s d) (dB_eq m c t h' s n)

/-- What the run leaves in the keys' block. -/
theorem leavesK (c : Dev nD) (t : Fin cfg0.N) (f7 : Buf (Elt Ideal) ((mr7 t).view.loc (c : Thread nD τ))) (f8 : Buf (Elt Ideal) ((mr8 t).view.loc (c : Thread nD τ)))
    (f9 : Buf (Elt Ideal) ((mr9 t).view.loc (c : Thread nD τ))) (h : ((rdats m 0 c).toRRel marked (Rl m c)).Finds 8 t ((mr8 t).view.read (Elt Ideal) f8)) :
    Rl m c 8 t ((mr8 t).view.read (Elt Ideal) (runAt m c t f7 f8 f9).2.1) := by
  refine stepT (fK m c) t ((mr8 t).view.read (Elt Ideal) f8) _ (fun u hu ht => ?_) fun s d => ?_
  · exact finds_prev m (Rl m) c 8 rfl t u hu rfl (flush_false (flush0_8 u) (by omega)) h
  · have e : ∀ h' : Fin 2, ∀ n : Fin 8448, (dB (grid0.coords t 1).val (iblk m c 0 t) (iblk m c 1 t) (iblk m c 2 t) (iblk m c 3 t) (iblk m c 4 t) (iblk m c 6 t) h' s n
        * (iblk m c 0 t : Vec Ideal S2x8448x64 .bf16) (ix3 h' n d) : EReal) = fK m c (hAt t h') (rAt t s) d n := fun h' n =>
      congrArg₂ (· * · : EReal → EReal → EReal) (dB_eq m c t h' s n) (blk_q m c t h' n d)
    have e' := Finset.sum_congr rfl fun h' (_ : h' ∈ Finset.univ) => Finset.sum_congr rfl fun n (_ : n ∈ Finset.univ) => e h' n
    rw [dk_read, (coords_val t).2.2]
    exact if_congr Iff.rfl e' (congrArg (_ + · : EReal → EReal) e')

/-- What the run leaves in the values' block. -/
theorem leavesV (c : Dev nD) (t : Fin cfg0.N) (f7 : Buf (Elt Ideal) ((mr7 t).view.loc (c : Thread nD τ))) (f8 : Buf (Elt Ideal) ((mr8 t).view.loc (c : Thread nD τ)))
    (f9 : Buf (Elt Ideal) ((mr9 t).view.loc (c : Thread nD τ))) (h : ((rdats m 0 c).toRRel marked (Rl m c)).Finds 9 t ((mr9 t).view.read (Elt Ideal) f9)) :
    Rl m c 9 t ((mr9 t).view.read (Elt Ideal) (runAt m c t f7 f8 f9).2.2.1) := by
  refine stepT (fV m c) t ((mr9 t).view.read (Elt Ideal) f9) _ (fun u hu ht => ?_) fun s d => ?_
  · exact finds_prev m (Rl m) c 9 rfl t u hu rfl (flush_false (flush0_9 u) (by omega)) h
  · have e : ∀ h' : Fin 2, ∀ n : Fin 8448, (pB (grid0.coords t 1).val (iblk m c 0 t) (iblk m c 2 t) (iblk m c 4 t) h' s n
        * (iblk m c 1 t : Vec Ideal S2x8448x64 .bf16) (ix3 h' n d) : EReal) = fV m c (hAt t h') (rAt t s) d n := fun h' n =>
      congrArg₂ (· * · : EReal → EReal → EReal) (pB_eq m c t h' s n) (blk_do m c t h' n d)
    have e' := Finset.sum_congr rfl fun h' (_ : h' ∈ Finset.univ) => Finset.sum_congr rfl fun n (_ : n ∈ Finset.univ) => e h' n
    rw [dv_read, (coords_val t).2.2]
    exact if_congr Iff.rfl e' (congrArg (_ + · : EReal → EReal) e')

theorem kept : Kept m (Rl m) := fun c t f7 f8 f9 h7 h8 h9 => ⟨leavesQ m c t f7 f8 f9 h7, leavesK m c t f7 f8 f9 h8, leavesV m c t f7 f8 f9 h9⟩

/-- The run, with what the result arrays end with. -/
theorem run_values : θ_run defs (onTc (τ := τ) (main (F := Ideal))) (s₀ m ρ)
    (fun r => (RDat.FramePost (cfgs 0) (fun c => (rdats m 0 c).toRRel marked (Rl m c)) (V m)) r ∧ r.2.sem = fun _ => 0) :=
  run_all m ρ (Rl m) (kept m)

end Cert.AttnProof
end
-- ==== Proof.AttnFinal.lean ====
/- What the three result arrays of the attention gradient hold when the launch has ended. -/
module

public import proofs.«01_k».proof.Proof.AttnLaunch

@[expose] public section

set_option maxRecDepth 16384

noncomputable section

namespace Cert.AttnProof

open Idealize.ShloMosaic Idealize.ShloMosaic.TcCoe Idealize.ShloMosaic.Tactic
open Idealize.ShloMosaic.Pipeline (Dat RDat Cfg Window)
open Cert.AttnIdeal Cert.AttnIdeal.Gen

variable (m : (ℓ : Loc nD τ sig) → Buf (Elt Ideal) ℓ)

/-- The queries' gradient: for each head the sum over the keys. -/
def gQ (c : Dev nD) : Vec Ideal S16x64x8448 .f32 := fun i =>
  ∑ r : Fin 8448, (aKT m c (ix3 (kvOf (i 0)) (i 1) r) * dG (aQ m c) (aDO m c) (aL m c) (aE m c) (aK m c) (aW m c) (i 0) r (i 2) : EReal)

/-- A key tile's gradient: the sum over the four heads that read it and over all queries. -/
def gT (f : Fin 16 → Fin 8448 → Fin 64 → Fin 8448 → EReal) : Vec Ideal S4x8448x64 .f32 := fun i =>
  ∑ hh : Fin 4, ∑ n : Fin 8448, f (headAt (i 0) hh) (i 1) (i 2) n

theorem pairs_all (kv : Fin 4) (f : Fin 16 → Fin 8448 → EReal) : pairK kv f 0 + pairK kv f 1 = ∑ hh : Fin 4, ∑ n : Fin 8448, f (headAt kv hh) n := by
  rw [Fin.sum_univ_four, pairK, pairK, Fin.sum_univ_two, Fin.sum_univ_two, add_assoc, add_assoc, add_assoc]
  rfl

variable {m} in
theorem final_q {r : PUnit × MemSt nD τ sig (Elt Ideal)} (h : RDat.FramePost (cfgs 0) (fun c => (rdats m 0 c).toRRel marked (Rl m c)) (V m) r) (c : Dev nD) :
    r.2.mem ((c : Thread nD τ).loc (Pipeline.arrRef spec0 7)) = gQ m c := by
  obtain ⟨after, hL, hA⟩ := RDat.FramePost.exists_exact h c
  refine (hA 7).trans ?_
  refine Dat.arrAt_eq_of_covers _ 7 _ (by decide +kernel) fun t hf y => ?_
  have hX : Rl m c 7 t (after 7 t) := (rdats m 0 c).toRRel_leaves rfl (hL 7 t hf)
  blk_simp
  show after 7 t y = _
  have ht := lt_88 t
  have h22 : t.val % 22 = 21 := (flush0_7 t).mp hf
  obtain ⟨hh, d, n, rfl⟩ : ∃ (hh : Fin 4) (d : Fin 64) (n : Fin 8448), y = (ix3 hh d n : S4x64x8448.Idx) :=
    ⟨y 0, y 1, y 2, funext fun a => by fin_cases a <;> rfl⟩
  rw [show (win0_7.blk t).view.emb (ix3 hh d n : S4x64x8448.Idx) = (ix3 (headAt (kvAt t) hh) d n : S16x64x8448.Idx) from by
    blk_ext [idx t]]
  refine (hX hh d n (Or.inr (by show 0 < t.val / 2 % 11; omega))).trans ?_
  have hb : 768 * (if hh.val / 2 ≤ (gAt t).val then (jAt t).val + 1 else (jAt t).val) = 8448 := by
    show 768 * (if hh.val / 2 ≤ t.val % 2 then t.val / 2 % 11 + 1 else t.val / 2 % 11) = 8448
    rw [if_pos (by omega)]; omega
  rw [hb, below_all]
  have hk : kvOf (headAt (kvAt t) hh) = kvAt t := Fin.ext (by show (4 * (t.val / 22) + hh.val) / 4 = t.val / 22; omega)
  unfold gQ
  show _ = ∑ r : Fin 8448, (aKT m c (ix3 (kvOf (headAt (kvAt t) hh)) d r) * _ : EReal)
  rw [hk]
  rfl

variable {m} in
theorem final_k {r : PUnit × MemSt nD τ sig (Elt Ideal)} (h : RDat.FramePost (cfgs 0) (fun c => (rdats m 0 c).toRRel marked (Rl m c)) (V m) r) (c : Dev nD) :
    r.2.mem ((c : Thread nD τ).loc (Pipeline.arrRef spec0 8)) = gT (fK m c) := by
  obtain ⟨after, hL, hA⟩ := RDat.FramePost.exists_exact h c
  refine (hA 8).trans ?_
  refine Dat.arrAt_eq_of_covers _ 8 _ (by decide +kernel) fun t hf y => ?_
  have hX : Rl m c 8 t (after 8 t) := (rdats m 0 c).toRRel_leaves rfl (hL 8 t hf)
  blk_simp
  show after 8 t y = _
  have h2 : t.val % 2 = 1 := (flush0_8 t).mp hf
  obtain ⟨z, s, d, rfl⟩ : ∃ (z : Fin 1) (s : Fin 768) (d : Fin 64), y = (ix3 z s d : S1x768x64.Idx) :=
    ⟨y 0, y 1, y 2, funext fun a => by fin_cases a <;> rfl⟩
  obtain rfl : z = 0 := Subsingleton.elim _ _
  rw [show (win0_8.blk t).view.emb (ix3 0 s d : S1x768x64.Idx) = (ix3 (kvAt t) (rAt t s) d : S4x8448x64.Idx) from by
    blk_ext [idx t]]
  refine (hX s d).trans ?_
  rw [if_neg (by show ¬ t.val % 2 = 0; omega), pairs_all]
  rfl

variable {m} in
theorem final_v {r : PUnit × MemSt nD τ sig (Elt Ideal)} (h : RDat.FramePost (cfgs 0) (fun c => (rdats m 0 c).toRRel marked (Rl m c)) (V m) r) (c : Dev nD) :
    r.2.mem ((c : Thread nD τ).loc (Pipeline.arrRef spec0 9)) = gT (fV m c) := by
  obtain ⟨after, hL, hA⟩ := RDat.FramePost.exists_exact h c
  refine (hA 9).trans ?_
  refine Dat.arrAt_eq_of_covers _ 9 _ (by decide +kernel) fun t hf y => ?_
  have hX : Rl m c 9 t (after 9 t) := (rdats m 0 c).toRRel_leaves rfl (hL 9 t hf)
  blk_simp
  show after 9 t y = _
  have h2 : t.val % 2 = 1 := (flush0_9 t).mp hf
  obtain ⟨z, s, d, rfl⟩ : ∃ (z : Fin 1) (s : Fin 768) (d : Fin 64), y = (ix3 z s d : S1x768x64.Idx) :=
    ⟨y 0, y 1, y 2, funext fun a => by fin_cases a <;> rfl⟩
  obtain rfl : z = 0 := Subsingleton.elim _ _
  rw [show (win0_9.blk t).view.emb (ix3 0 s d : S1x768x64.Idx) = (ix3 (kvAt t) (rAt t s) d : S4x8448x64.Idx) from by
    blk_ext [idx t]]
  refine (hX s d).trans ?_
  rw [if_neg (by show ¬ t.val % 2 = 0; omega), pairs_all]
  rfl

end Cert.AttnProof
end
-- ==== Proof.AttnHost.lean ====
/- What the host lines before the attention gradient's kernel hand it, as array functions of the arguments: padding and splitting into heads, and
   the forward pass's scores, row maxima, exponentials, log-sums and row sums. -/
module

public import proofs.«01_k».proof.Proof.Gen.AttnIdeal.Frame
public import Idealize.ShloMosaic.Lib.Pipeline.ValueKit

@[expose] public section

noncomputable section

namespace Cert.AttnProof

open Cert.AttnIdeal Cert.AttnIdeal.Gen Idealize.ShloMosaic Idealize.ShloMosaic.TcCoe Idealize.SL.Sem Idealize.ShloMosaic.StableHlo
open Idealize.ShloMosaic.Tactic

/-- The query-wide rows padded and split into 16 heads. -/
def heads16 (x : FVec Ideal S8208x1024 .f32) : FVec Ideal S16x8448x64 .bf16 :=
  transpose S16x8448x64 [1, 0, 2]
    (shapeCast S8448x16x64 (truncf .bf16 (pad S8448x1024 ![240, 0] ![0, 0] ![0, 0] x (sitofp .f32 (constantI S_ 32 0#32))
      pads_S8208x1024_S8448x1024_24000_000 h_S_) bitsLt_bf16_f32) shapeCasts_S8448x1024_S8448x16x64)
    transposes_S8448x16x64_S16x8448x64_1_0_2

/-- The key-wide rows padded and split into 4 heads. -/
def heads4 (x : FVec Ideal S8208x256 .f32) : FVec Ideal S4x8448x64 .bf16 :=
  transpose S4x8448x64 [1, 0, 2]
    (shapeCast S8448x4x64 (truncf .bf16 (pad S8448x256 ![240, 0] ![0, 0] ![0, 0] x (sitofp .f32 (constantI S_ 32 0#32))
      pads_S8208x256_S8448x256_24000_000 h_S_) bitsLt_bf16_f32) shapeCasts_S8448x256_S8448x4x64)
    transposes_S8448x4x64_S4x8448x64_1_0_2

/-- The logarithm of 2, as the host computes it. -/
def log2 : FVec Ideal S_ .f32 := Host.log (constant S_ .f32 0x40000000#32)

/-- The queries scaled by `HD ** -0.5 / log 2`. -/
def scaled (x : FVec Ideal S8208x1024 .f32) : FVec Ideal S8208x1024 .f32 :=
  mulf x (broadcastInDim S8208x1024 ![] bcast_S_S8208x1024 (Host.divf (constant S_ .f32 0x3E000000#32) log2))

/-- Every key head repeated for the four query heads that read it. -/
def repeat4 (k : FVec Ideal S4x8448x64 .bf16) : FVec Ideal S16x8448x64 .f32 :=
  extf .f32 (shapeCast S16x8448x64 (broadcastInDim S4x4x8448x64 ![0, 2, 3] bcast_S4x8448x64_S4x4x8448x64_0_2_3 k)
    shapeCasts_S4x4x8448x64_S16x8448x64) bitsLt_bf16_f32

/-- The scores, the keys of the padding masked. -/
def scores (q : FVec Ideal S16x8448x64 .bf16) (k : FVec Ideal S4x8448x64 .bf16) : FVec Ideal S16x8448x8448 .f32 :=
  select (broadcastInDim S16x8448x8448 ![0, 1, 2] bcast_S1x1x8448_S16x8448x8448_0_1_2
      (cmpi .sge (broadcastInDim S1x1x8448 ![2] bcast_S8448_S1x1x8448_2 (iotaInDim S8448 32 0))
        (broadcastInDim S1x1x8448 ![] bcast_S_S1x1x8448 (constantI S_ 32 240#32))))
    (Host.dotGeneral dot_S16x8448x64_S16x8448x64_S16x8448x8448_2_2_1_1_0_0 none (extf .f32 q bitsLt_bf16_f32 : FVec Ideal S16x8448x64 .f32) (repeat4 k))
    (broadcastInDim S16x8448x8448 ![] bcast_S_S16x8448x8448 (constant S_ .f32 0xFF800000#32 : FVec Ideal S_ .f32))

/-- The row maxima. -/
def rowMax (s : FVec Ideal S16x8448x8448 .f32) : FVec Ideal S16x8448 .f32 :=
  Host.reduce FloatOps.maximumf s (constant S_ .f32 0xFF800000#32 : FVec Ideal S_ .f32) reducesTo_S16x8448x8448_S16x8448_d2 h_S_

/-- The exponentials in base 2 of the scores less the row's maximum. -/
def expRow (s : FVec Ideal S16x8448x8448 .f32) (mx : FVec Ideal S16x8448 .f32) : FVec Ideal S16x8448x8448 .f32 :=
  Host.exp (mulf (broadcastInDim S16x8448x8448 ![] bcast_S_S16x8448x8448 log2)
    (subf s (broadcastInDim S16x8448x8448 ![0, 1, 2] bcast_S16x8448x1_S16x8448x8448_0_1_2
      (broadcastInDim S16x8448x1 ![0, 1] bcast_S16x8448_S16x8448x1_0_1 mx))))

/-- The row sums of the exponentials. -/
def rowSum (p : FVec Ideal S16x8448x8448 .f32) : FVec Ideal S16x8448x1 .f32 :=
  broadcastInDim S16x8448x1 ![0, 1] bcast_S16x8448_S16x8448x1_0_1
    (Host.reduceAdd p (constant S_ .f32 0x00000000#32 : FVec Ideal S_ .f32) reducesTo_S16x8448x8448_S16x8448_d2 h_S_)

/-- The log-sums in base 2. -/
def lseArr (mx : FVec Ideal S16x8448 .f32) (l : FVec Ideal S16x8448x1 .f32) : FVec Ideal S16x1x8448 .f32 :=
  shapeCast S16x1x8448 (addf (broadcastInDim S16x8448x1 ![0, 1] bcast_S16x8448_S16x8448x1_0_1 mx)
    (Host.divf (Host.log l) (broadcastInDim S16x8448x1 ![] bcast_S_S16x8448x1 log2))) shapeCasts_S16x8448x1_S16x1x8448

/-- The row sums of the cotangent times the output. -/
def deltaArr (dO : FVec Ideal S16x8448x64 .bf16) (p : FVec Ideal S16x8448x8448 .f32) (l : FVec Ideal S16x8448x1 .f32)
    (v : FVec Ideal S4x8448x64 .bf16) : FVec Ideal S16x1x8448 .f32 :=
  shapeCast S16x1x8448 (Host.reduceAdd (mulf (extf .f32 dO bitsLt_bf16_f32 : FVec Ideal S16x8448x64 .f32)
      (Host.divf (Host.dotGeneral dot_S16x8448x8448_S16x8448x64_S16x8448x64_2_1_1_2_0_0 none p (repeat4 v))
        (broadcastInDim S16x8448x64 ![0, 1, 2] bcast_S16x8448x1_S16x8448x64_0_1_2 l)))
    (constant S_ .f32 0x00000000#32 : FVec Ideal S_ .f32) reducesTo_S16x8448x64_S16x8448_d2 h_S_) shapeCasts_S16x8448_S16x1x8448

/-! ## The operands the region finds -/

variable (m : (ℓ : Loc nD τ sig) → Buf (Elt Ideal) ℓ) (c : Dev nD)

abbrev argQ : FVec Ideal S8208x1024 .f32 := m ((c.tc : Thread nD τ).loc main_arg0)
abbrev argK : FVec Ideal S8208x256 .f32 := m ((c.tc : Thread nD τ).loc main_arg1)
abbrev argV : FVec Ideal S8208x256 .f32 := m ((c.tc : Thread nD τ).loc main_arg2)
abbrev argDO : FVec Ideal S8208x1024 .f32 := m ((c.tc : Thread nD τ).loc main_arg3)

/-- The scores, exponentials and row sums of the forward pass at the arguments. -/
def sA : FVec Ideal S16x8448x8448 .f32 := scores (heads16 (scaled (argQ m c))) (heads4 (argK m c))
def pA : FVec Ideal S16x8448x8448 .f32 := expRow (sA m c) (rowMax (sA m c))

theorem V_q : V m c main_v7 = heads16 (scaled (argQ m c)) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  rfl

theorem V_k : V m c main_v11 = heads4 (argK m c) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  rfl

theorem V_v : V m c main_v15 = heads4 (argV m c) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  rfl

theorem V_do : V m c main_v19 = heads16 (argDO m c) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  rfl

theorem V_kt : V m c main_v52 = transpose S4x64x8448 [0, 2, 1] (heads4 (argK m c)) transposes_S4x8448x64_S4x64x8448_0_2_1 := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  rfl

theorem V_lse : V m c main_v53 = lseArr (rowMax (sA m c)) (rowSum (pA m c)) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  rfl

theorem V_delta : V m c main_v54 = deltaArr (heads16 (argDO m c)) (pA m c) (rowSum (pA m c)) (heads4 (argV m c)) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  rfl

end Cert.AttnProof
end
-- ==== Proof.SoftmaxRow.lean ====
/- One row of a softmax over the extended reals, in base 2 with rows of padding that are masked by minus infinity: its maximum is a real, its
   exponentials are those of the real scores, and the weight rebuilt from the row's log-sum is the softmax weight. -/
module

public import proofs.«01_k».proof.Proof.Reals

@[expose] public section

noncomputable section

namespace Cert.Softmax

open Idealize.ShloMosaic Cert.Reals

/-- The greatest of finitely many extended reals, none of them plus infinity and one of them above minus infinity, is a real. -/
theorem fold_max_real {ι : Type*} (s : Finset ι) (f : ι → EReal) (hf : ∀ i ∈ s, f i ≠ ⊤) {i : ι} (hi : i ∈ s) (hb : f i ≠ ⊥) :
    ∃ r : ℝ, s.fold max ⊥ f = (r : EReal) := by
  have h1 : s.fold max ⊥ f ≠ ⊤ := ((Finset.fold_max_lt _).mpr ⟨bot_lt_top, fun x hx => lt_top_iff_ne_top.mpr (hf x hx)⟩).ne
  have h2 : s.fold max ⊥ f ≠ ⊥ := (lt_of_lt_of_le (bot_lt_iff_ne_bot.mpr hb) ((Finset.le_fold_max _).mpr (Or.inr ⟨i, hi, le_rfl⟩))).ne'
  exact ⟨_, (EReal.coe_toReal h1 h2).symm⟩

/-- The natural logarithm of 2. -/
abbrev ln2 : ℝ := Real.log 2

theorem ln2_pos : 0 < ln2 := Real.log_pos one_lt_two
theorem ln2_ne : ln2 ≠ 0 := ln2_pos.ne'

theorem log_two : Ideal.log ((2 : ℝ) : EReal) = (ln2 : EReal) := by
  rw [Ideal.log_coe, if_neg (by norm_num)]

/-- The real row `j` among the padded rows. -/
abbrev up (j : Fin 8208) : Fin 8448 := ⟨240 + j.val, by omega⟩

/-- A padded row that is a real one, among the real rows. -/
abbrev down (r : Fin 8448) (h : 240 ≤ r.val) : Fin 8208 := ⟨r.val - 240, by omega⟩

theorem up_down (r : Fin 8448) (h : 240 ≤ r.val) : up (down r h) = r := Fin.ext (by show 240 + (r.val - 240) = r.val; omega)
theorem down_up (j : Fin 8208) (h : 240 ≤ (up j).val) : down (up j) h = j := Fin.ext (by show 240 + j.val - 240 = j.val; omega)

/-- A sum over the padded rows whose terms vanish on the padding. -/
theorem sum_up (F : Fin 8448 → EReal) (h : ∀ r : Fin 8448, r.val < 240 → F r = 0) : ∑ r, F r = ∑ j, F (up j) := by
  rw [← Finset.sum_subset (Finset.subset_univ (Finset.univ.image up)) fun r _ hr => ?_, Finset.sum_image fun a _ b _ e => ?_]
  · exact Fin.ext (by have := congrArg Fin.val e; simp only [up] at this; omega)
  · refine h r ?_
    by_contra hc
    exact hr (Finset.mem_image.mpr ⟨down r (not_lt.mp hc), Finset.mem_univ _, up_down r _⟩)

/-- A sum over the padded rows of reals that vanishes on the padding. -/
theorem sum_up_real (F : Fin 8448 → EReal) (f : Fin 8208 → ℝ) (h : ∀ r : Fin 8448, r.val < 240 → F r = 0) (hu : ∀ j, F (up j) = (f j : EReal)) :
    ∑ r, F r = ((∑ j, f j : ℝ) : EReal) := by
  rw [sum_up F h, ← sum_real]
  exact Finset.sum_congr rfl fun j _ => hu j

/-- A row of scores with the padding masked. -/
def masked (s : Fin 8448 → EReal) (r : Fin 8448) : EReal := if 240 ≤ r.val then s r else ⊥

theorem masked_up (s : Fin 8448 → EReal) (j : Fin 8208) : masked s (up j) = s (up j) := if_pos (Nat.le_add_right 240 j.val)
theorem masked_pad (s : Fin 8448 → EReal) {r : Fin 8448} (h : r.val < 240) : masked s r = ⊥ := if_neg (not_le.mpr h)

/-- The greatest score of a masked row of reals is a real. -/
theorem masked_max (s : Fin 8448 → EReal) (hs : ∀ r, ∃ x : ℝ, s r = (x : EReal)) :
    ∃ M : ℝ, (Finset.univ : Finset (Fin 8448)).fold max ⊥ (masked s) = (M : EReal) := by
  refine fold_max_real _ _ (fun r _ => ?_) (Finset.mem_univ (up ⟨0, by omega⟩)) ?_
  · unfold masked
    split
    · obtain ⟨x, hx⟩ := hs r; rw [hx]; exact EReal.coe_ne_top x
    · exact bot_ne_top
  · rw [masked_up]; obtain ⟨x, hx⟩ := hs (up ⟨0, by omega⟩); rw [hx]; exact EReal.coe_ne_bot x

/-- The exponential of a masked score below the greatest one, in base 2. -/
def expM (s : Fin 8448 → EReal) (M : EReal) (r : Fin 8448) : EReal := Ideal.exp ((ln2 : EReal) * (masked s r - M))

theorem expM_pad (s : Fin 8448 → EReal) (M : ℝ) {r : Fin 8448} (h : r.val < 240) : expM s M r = 0 := by
  unfold expM
  rw [masked_pad s h, EReal.bot_sub, EReal.coe_mul_bot_of_pos ln2_pos, Ideal.exp_bot]

theorem expM_up (s : Fin 8448 → EReal) (t : Fin 8208 → ℝ) (hs : ∀ j, s (up j) = (t j : EReal)) (M : ℝ) (j : Fin 8208) :
    expM s M (up j) = ((Real.exp (ln2 * (t j - M)) : ℝ) : EReal) := by
  unfold expM
  rw [masked_up, hs, ← EReal.coe_sub, ← EReal.coe_mul, Ideal.exp_coe]

theorem sum_expM (s : Fin 8448 → EReal) (t : Fin 8208 → ℝ) (hs : ∀ j, s (up j) = (t j : EReal)) (M : ℝ) :
    ∑ r, expM s M r = ((∑ j, Real.exp (ln2 * (t j - M)) : ℝ) : EReal) :=
  sum_up_real _ _ (fun _ h => expM_pad s M h) fun j => expM_up s t hs M j

theorem sum_exp_pos {n : ℕ} [NeZero n] (f : Fin n → ℝ) : 0 < ∑ j, Real.exp (f j) :=
  Finset.sum_pos (fun j _ => Real.exp_pos _) ⟨0, Finset.mem_univ _⟩

theorem exp_shift {n : ℕ} (t : Fin n → ℝ) (a M : ℝ) : ∑ j, Real.exp (a * (t j - M)) = (∑ j, Real.exp (a * t j)) * Real.exp (-(a * M)) := by
  rw [Finset.sum_mul]
  exact Finset.sum_congr rfl fun j _ => by rw [← Real.exp_add]; congr 1; ring

/-- The softmax weight of score `j` in a row of real scores. -/
def soft {n : ℕ} (z : Fin n → ℝ) (j : Fin n) : ℝ := Real.exp (z j) / ∑ i, Real.exp (z i)

/-- The softmax does not see what is subtracted from a whole row. -/
theorem soft_shift {n : ℕ} [NeZero n] (t : Fin n → ℝ) (a M : ℝ) (j : Fin n) :
    Real.exp (a * (t j - M)) / ∑ i, Real.exp (a * (t i - M)) = soft (fun i => a * t i) j := by
  rw [exp_shift, show a * (t j - M) = a * t j + -(a * M) by ring, Real.exp_add, soft]
  exact mul_div_mul_right _ _ (Real.exp_pos _).ne'

/-- The log-sum of a masked row, in base 2. -/
def lseM (s : Fin 8448 → EReal) (M : EReal) : EReal := M + Ideal.div (Ideal.log (∑ r, expM s M r)) (ln2 : EReal)

theorem lseM_real (s : Fin 8448 → EReal) (t : Fin 8208 → ℝ) (hs : ∀ j, s (up j) = (t j : EReal)) (M : ℝ) :
    lseM s M = ((M + Real.log (∑ j, Real.exp (ln2 * (t j - M))) / ln2 : ℝ) : EReal) := by
  unfold lseM
  rw [sum_expM s t hs M, Ideal.log_coe, if_neg (not_le.mpr (sum_exp_pos _)), div_real ln2_ne, ← EReal.coe_add]

/-- The weight rebuilt from the log-sum is the softmax weight. -/
theorem exp2_lse (t : Fin 8208 → ℝ) (M : ℝ) (j : Fin 8208) :
    Real.rpow 2 (t j - (M + Real.log (∑ i, Real.exp (ln2 * (t i - M))) / ln2)) = soft (fun i => ln2 * t i) j := by
  rw [← soft_shift t ln2 M j]
  rw [show ∀ x, Real.rpow 2 x = (2 : ℝ) ^ x from fun _ => rfl, Real.rpow_def_of_pos two_pos, show Real.log 2 * (t j - (M + Real.log (∑ i, Real.exp (ln2 * (t i - M))) / ln2))
      = ln2 * (t j - M) - Real.log (∑ i, Real.exp (ln2 * (t i - M))) by have := ln2_ne; field_simp; ring, Real.exp_sub, Real.exp_log (sum_exp_pos _)]

/-- The softmax's pull-back: the derivative of the weights along the scores, applied to a cotangent row `w`. -/
def pull {n : ℕ} (z w : Fin n → ℝ) (j : Fin n) : ℝ := soft z j * (w j - ∑ i, soft z i * w i)

/-- The pull-back as the quotient rule writes it: exponentials `e`, their sum `l`, and the correction through the sum. -/
theorem pull_quotient {n : ℕ} [NeZero n] (z w : Fin n → ℝ) (M : ℝ) (j : Fin n) :
    (w j / (∑ i, Real.exp (z i - M)) + -(∑ i, w i * (1 / ((∑ i, Real.exp (z i - M)) * ∑ i, Real.exp (z i - M))) * Real.exp (z i - M)))
      * Real.exp (z j - M) = pull z w j := by
  have hs : ∀ i, soft z i = Real.exp (z i - M) / ∑ i, Real.exp (z i - M) := fun i => by
    have := soft_shift z 1 M i
    simp only [one_mul] at this
    exact this.symm
  unfold pull
  simp only [hs]
  have hl := (sum_exp_pos fun i => z i - M).ne'
  generalize (∑ i, Real.exp (z i - M)) = l at hl ⊢
  rw [add_mul, mul_sub, neg_mul, Finset.sum_mul, Finset.mul_sum, ← sub_eq_add_neg]
  refine congrArg₂ (· - ·) (by field_simp) (Finset.sum_congr rfl fun i _ => by field_simp)

end Cert.Softmax
end
-- ==== Proof.AttnHostAt.lean ====
/- The host lines before the attention gradient's kernel, read at an index. -/
module

public import proofs.«01_k».proof.Proof.AttnHost
public import proofs.«01_k».proof.Proof.SoftmaxRow

@[expose] public section

set_option maxRecDepth 16384

noncomputable section

namespace Cert.AttnProof

open Cert.AttnIdeal Cert.AttnIdeal.Gen Idealize.ShloMosaic Idealize.ShloMosaic.TcCoe
open Idealize.ShloMosaic.Tactic Cert.Reals Cert.Softmax

theorem eighth_word : Ideal.ofBits .f32 1040187392#32 = ((1 / 8 : ℝ) : EReal) := by simp [Ideal.ofBits, Ideal.ieee, -EReal.coe_mul]; norm_num
theorem two_word : Ideal.ofBits .f32 1073741824#32 = ((2 : ℝ) : EReal) := by simp [Ideal.ofBits, Ideal.ieee, -EReal.coe_mul]; norm_num
theorem bot_word : Ideal.ofBits .f32 4286578688#32 = (⊥ : EReal) := by simp [Ideal.ofBits, Ideal.ieee]
theorem zero_int : (FloatOps.sitofp (F := Ideal) FTy.f32 (0#32 : BitVec 32) : EReal) = 0 := by
  show (((0#32 : BitVec 32).toInt : ℝ) : EReal) = 0
  simp

theorem key_iff (r : Fin 8448) : IntOp.cmpi CmpIPredicate.sge (BitVec.ofNat 32 r.val) 240#32 = 1 ↔ 240 ≤ r.val :=
  (by decide +kernel : ∀ x : Fin 8448, IntOp.cmpi CmpIPredicate.sge (BitVec.ofNat 32 x.val) 240#32 = 1 ↔ 240 ≤ x.val) r

/-- The columns of a head. -/
abbrev col16 (h : Fin 16) (d : Fin 64) : Fin 1024 := ⟨h.val * 64 + d.val, by omega⟩
abbrev col4 (g : Fin 4) (d : Fin 64) : Fin 256 := ⟨g.val * 64 + d.val, by omega⟩

/-- The key head that a query head reads. -/
abbrev keyHead (h : Fin 16) : Fin 4 := ⟨h.val / 4, by omega⟩

theorem heads16_at (x : FVec Ideal S8208x1024 .f32) (h : Fin 16) (r : Fin 8448) (d : Fin 64) :
    heads16 x (ix3 h r d) = if hr : 240 ≤ r.val then x (ix2 (down r hr) (col16 h d)) else 0 := by
  pointwise [heads16]
  by_cases hr : 240 ≤ r.val
  · rw [dif_pos ⟨⟨hr, by omega⟩, by omega⟩, dif_pos hr]
  · rw [dif_neg fun e => hr e.1.1, dif_neg hr]; exact zero_int

theorem heads4_at (x : FVec Ideal S8208x256 .f32) (h : Fin 4) (r : Fin 8448) (d : Fin 64) :
    heads4 x (ix3 h r d) = if hr : 240 ≤ r.val then x (ix2 (down r hr) (col4 h d)) else 0 := by
  pointwise [heads4]
  by_cases hr : 240 ≤ r.val
  · rw [dif_pos ⟨⟨hr, by omega⟩, by omega⟩, dif_pos hr]
  · rw [dif_neg fun e => hr e.1.1, dif_neg hr]; exact zero_int

theorem scaled_at (x : FVec Ideal S8208x1024 .f32) (n : Fin 8208) (d : Fin 1024) :
    scaled x (ix2 n d) = x (ix2 n d) * ((1 / 8 / ln2 : ℝ) : EReal) := by
  pointwise [scaled, log2]
  rw [eighth_word, two_word, log_two, div_real ln2_ne]

theorem scores_at (q : FVec Ideal S16x8448x64 .bf16) (k : FVec Ideal S4x8448x64 .bf16) (h : Fin 16) (n r : Fin 8448) :
    scores q k (ix3 h n r) = masked (fun r => ∑ x : Fin 64, k (ix3 (keyHead h) r x) * q (ix3 h n x)) r := by
  pointwise [scores, repeat4]
  unfold masked
  have e := key_iff r
  by_cases hr : 240 ≤ r.val
  · rw [if_pos hr, Scalar.select, if_pos (e.mpr hr)]
    exact Finset.sum_congr rfl fun x _ => mul_comm _ _
  · rw [if_neg hr, Scalar.select, if_neg (fun h => hr (e.mp h)), bot_word]

theorem rowMax_at (s : FVec Ideal S16x8448x8448 .f32) (h : Fin 16) (n : Fin 8448) :
    rowMax s (ix2 h n) = (Finset.univ : Finset (Fin 8448)).fold max ⊥ fun r => s (ix3 h n r) := by
  pointwise [rowMax]
  rw [bot_word]

theorem expRow_at (s : FVec Ideal S16x8448x8448 .f32) (mx : FVec Ideal S16x8448 .f32) (h : Fin 16) (n r : Fin 8448) :
    expRow s mx (ix3 h n r) = Ideal.exp ((ln2 : EReal) * (s (ix3 h n r) - mx (ix2 h n))) := by
  pointwise [expRow, log2]
  rw [two_word, log_two]

theorem rowSum_at (p : FVec Ideal S16x8448x8448 .f32) (h : Fin 16) (n : Fin 8448) : rowSum p (ix3 h n 0) = ∑ r : Fin 8448, p (ix3 h n r) := by
  pointwise [rowSum]

theorem lse_at (mx : FVec Ideal S16x8448 .f32) (l : FVec Ideal S16x8448x1 .f32) (h : Fin 16) (n : Fin 8448) :
    lseArr mx l (ix3 h 0 n) = mx (ix2 h n) + Ideal.div (Ideal.log (l (ix3 h n 0))) (ln2 : EReal) := by
  pointwise [lseArr, log2]
  rw [two_word, log_two]

theorem delta_at (dO : FVec Ideal S16x8448x64 .bf16) (p : FVec Ideal S16x8448x8448 .f32) (l : FVec Ideal S16x8448x1 .f32)
    (v : FVec Ideal S4x8448x64 .bf16) (h : Fin 16) (n : Fin 8448) :
    deltaArr dO p l v (ix3 h 0 n)
      = ∑ d : Fin 64, dO (ix3 h n d) * Ideal.div (∑ r : Fin 8448, p (ix3 h n r) * v (ix3 (keyHead h) r d)) (l (ix3 h n 0)) := by
  pointwise [deltaArr, repeat4]

theorem kt_at (k : FVec Ideal S4x8448x64 .bf16) (g : Fin 4) (d : Fin 64) (r : Fin 8448) :
    transpose S4x64x8448 [0, 2, 1] k transposes_S4x8448x64_S4x64x8448_0_2_1 (ix3 g d r) = k (ix3 g r d) := by
  pointwise

/-! ## The operands at the arguments -/

variable (m : (ℓ : Loc nD τ sig) → Buf (Elt Ideal) ℓ) (c : Dev nD)

/-- The row of scores of query `n` of head `h`, before the mask. -/
def row (h : Fin 16) (n : Fin 8448) (r : Fin 8448) : EReal :=
  ∑ x : Fin 64, heads4 (argK m c) (ix3 (keyHead h) r x) * heads16 (scaled (argQ m c)) (ix3 h n x)

/-- The greatest masked score of a row. -/
def top (h : Fin 16) (n : Fin 8448) : EReal := (Finset.univ : Finset (Fin 8448)).fold max ⊥ (masked (row m c h n))

theorem sA_at (h : Fin 16) (n r : Fin 8448) : sA m c (ix3 h n r) = masked (row m c h n) r := scores_at _ _ h n r

theorem max_at (h : Fin 16) (n : Fin 8448) : rowMax (sA m c) (ix2 h n) = top m c h n :=
  (rowMax_at _ h n).trans (congrArg (fun f => Finset.univ.fold max ⊥ f) (funext fun r => sA_at m c h n r))

theorem pA_at (h : Fin 16) (n r : Fin 8448) : pA m c (ix3 h n r) = expM (row m c h n) (top m c h n) r := by
  unfold pA
  rw [expRow_at, sA_at, max_at, expM]

theorem sum_at (h : Fin 16) (n : Fin 8448) : rowSum (pA m c) (ix3 h n 0) = ∑ r, expM (row m c h n) (top m c h n) r :=
  (rowSum_at _ h n).trans (Finset.sum_congr rfl fun r _ => pA_at m c h n r)

theorem V_lse_at (h : Fin 16) (n : Fin 8448) : (V m c main_v53 : FVec Ideal S16x1x8448 .f32) (ix3 h 0 n) = lseM (row m c h n) (top m c h n) := by
  rw [V_lse, lse_at, max_at, sum_at, lseM]

theorem V_delta_at (h : Fin 16) (n : Fin 8448) : (V m c main_v54 : FVec Ideal S16x1x8448 .f32) (ix3 h 0 n)
    = ∑ d : Fin 64, heads16 (argDO m c) (ix3 h n d) * Ideal.div (∑ r, expM (row m c h n) (top m c h n) r * heads4 (argV m c) (ix3 (keyHead h) r d))
        (∑ r, expM (row m c h n) (top m c h n) r) := by
  rw [V_delta, delta_at, sum_at]
  simp only [pA_at]

end Cert.AttnProof
end
-- ==== Proof.AttnSoft.lean ====
/- The three results of the attention gradient's kernel at finite arguments: the softmax's pull-back against the keys and the queries, and the
   softmax weights against the cotangent, with zeros on the rows of padding. -/
module

public import proofs.«01_k».proof.Proof.AttnGrid
public import proofs.«01_k».proof.Proof.AttnHostAt

@[expose] public section

set_option maxRecDepth 16384

noncomputable section

namespace Cert.AttnProof

open Cert.AttnIdeal Cert.AttnIdeal.Gen Idealize.ShloMosaic Idealize.ShloMosaic.TcCoe
open Idealize.ShloMosaic.Tactic Cert.Reals Cert.Softmax

variable (m : (ℓ : Loc nD τ sig) → Buf (Elt Ideal) ℓ) (c : Dev nD)

theorem aQ_eq : aQ m c = heads16 (scaled (argQ m c)) := V_q m c
theorem aDO_eq : aDO m c = heads16 (argDO m c) := V_do m c
theorem aK_eq : aK m c = heads4 (argK m c) := V_k m c
theorem aW_eq : aW m c = heads4 (argV m c) := V_v m c
theorem aL_at (h : Fin 16) (n : Fin 8448) : aL m c (ix3 h 0 n) = lseM (row m c h n) (top m c h n) := V_lse_at m c h n
theorem aE_at (h : Fin 16) (n : Fin 8448) : aE m c (ix3 h 0 n)
    = ∑ d : Fin 64, heads16 (argDO m c) (ix3 h n d) * Ideal.div (∑ r, expM (row m c h n) (top m c h n) r * heads4 (argV m c) (ix3 (keyHead h) r d))
        (∑ r, expM (row m c h n) (top m c h n) r) := V_delta_at m c h n
theorem aKT_at (g : Fin 4) (d : Fin 64) (r : Fin 8448) : aKT m c (ix3 g d r) = heads4 (argK m c) (ix3 g r d) :=
  (congrFun (V_kt m c) (ix3 g d r)).trans (kt_at _ g d r)

theorem pG_at (h : Fin 16) (r n : Fin 8448) :
    pG (aQ m c) (aL m c) (aK m c) h r n = Ideal.exp2 (masked (row m c h n) r - lseM (row m c h n) (top m c h n)) := by
  unfold pG wt
  rw [aL_at, aQ_eq, aK_eq]
  rfl

/-! ## Finite arguments -/

variable (q dO : Fin 8208 → Fin 1024 → ℝ) (k v : Fin 8208 → Fin 256 → ℝ)

/-- The arguments hold the reals `q`, `k`, `v`, `dO`. -/
structure Holds : Prop where
  q : ∀ n d, argQ m c (ix2 n d) = (q n d : EReal)
  k : ∀ n d, argK m c (ix2 n d) = (k n d : EReal)
  v : ∀ n d, argV m c (ix2 n d) = (v n d : EReal)
  dO : ∀ n d, argDO m c (ix2 n d) = (dO n d : EReal)

/-- The scores of query `n` of head `h`. -/
def sc (h : Fin 16) (n j : Fin 8208) : ℝ := (∑ x : Fin 64, k j (col4 (keyHead h) x) * q n (col16 h x)) * (1 / 8)

/-- The cotangent of the weight of key `j` for query `n` of head `h`. -/
def cot (h : Fin 16) (n j : Fin 8208) : ℝ := ∑ x : Fin 64, v j (col4 (keyHead h) x) * dO n (col16 h x)

/-- The scores in base 2, as the kernel scales them. -/
def sc2 (h : Fin 16) (n j : Fin 8208) : ℝ := ∑ x : Fin 64, k j (col4 (keyHead h) x) * (q n (col16 h x) * (1 / 8 / ln2))

theorem sc2_eq (h : Fin 16) (n j : Fin 8208) : ln2 * sc2 q k h n j = sc q k h n j := by
  unfold sc2 sc
  rw [Finset.mul_sum, Finset.sum_mul]
  refine Finset.sum_congr rfl fun x _ => ?_
  have := ln2_ne
  field_simp

variable {m c q dO k v} (H : Holds m c q dO k v)
include H

theorem q_up (h : Fin 16) (n : Fin 8208) (x : Fin 64) :
    heads16 (scaled (argQ m c)) (ix3 h (up n) x) = ((q n (col16 h x) * (1 / 8 / ln2) : ℝ) : EReal) := by
  rw [heads16_at, dif_pos (Nat.le_add_right 240 n.val), down_up, scaled_at, H.q, ← EReal.coe_mul]
theorem k_up (g : Fin 4) (n : Fin 8208) (x : Fin 64) : heads4 (argK m c) (ix3 g (up n) x) = (k n (col4 g x) : EReal) := by
  rw [heads4_at, dif_pos (Nat.le_add_right 240 n.val), down_up, H.k]
theorem v_up (g : Fin 4) (n : Fin 8208) (x : Fin 64) : heads4 (argV m c) (ix3 g (up n) x) = (v n (col4 g x) : EReal) := by
  rw [heads4_at, dif_pos (Nat.le_add_right 240 n.val), down_up, H.v]
theorem do_up (h : Fin 16) (n : Fin 8208) (x : Fin 64) : heads16 (argDO m c) (ix3 h (up n) x) = (dO n (col16 h x) : EReal) := by
  rw [heads16_at, dif_pos (Nat.le_add_right 240 n.val), down_up, H.dO]

omit H in
theorem pad16 (x : FVec Ideal S8208x1024 .f32) (h : Fin 16) {r : Fin 8448} (hr : r.val < 240) (d : Fin 64) : heads16 x (ix3 h r d) = 0 := by
  rw [heads16_at, dif_neg (not_le.mpr hr)]
omit H in
theorem pad4 (x : FVec Ideal S8208x256 .f32) (g : Fin 4) {r : Fin 8448} (hr : r.val < 240) (d : Fin 64) : heads4 x (ix3 g r d) = 0 := by
  rw [heads4_at, dif_neg (not_le.mpr hr)]

/-- The scores of a real query against the real keys. -/
theorem row_up (h : Fin 16) (n j : Fin 8208) : row m c h (up n) (up j) = (sc2 q k h n j : EReal) := by
  unfold row sc2
  rw [← sum_real]
  exact Finset.sum_congr rfl fun x _ => by rw [k_up H, q_up H, ← EReal.coe_mul]

omit H in
/-- A query of the padding scores zero everywhere. -/
theorem row_pad (h : Fin 16) {n : Fin 8448} (hn : n.val < 240) (r : Fin 8448) : row m c h n r = ((0 : ℝ) : EReal) := by
  unfold row
  rw [EReal.coe_zero]
  exact Finset.sum_eq_zero fun x _ => by rw [pad16 _ _ hn, mul_zero]

/-- The score of any two rows is a real. -/
theorem row_real (h : Fin 16) (n r : Fin 8448) : ∃ x : ℝ, row m c h n r = (x : EReal) := by
  by_cases hn : n.val < 240
  · exact ⟨0, row_pad h hn r⟩
  by_cases hr : r.val < 240
  · refine ⟨0, ?_⟩
    unfold row
    rw [EReal.coe_zero]
    exact Finset.sum_eq_zero fun x _ => by rw [pad4 _ _ hr, zero_mul]
  · have := row_up H h (down n (not_lt.mp hn)) (down r (not_lt.mp hr))
    rw [up_down, up_down] at this
    exact ⟨_, this⟩

theorem top_real (h : Fin 16) (n : Fin 8448) : ∃ M : ℝ, top m c h n = (M : EReal) := masked_max _ (row_real H h n)

/-! ## The weights and the scores' gradients -/

theorem weight_up (h : Fin 16) (n j : Fin 8208) : pG (aQ m c) (aL m c) (aK m c) h (up j) (up n) = (soft (sc q k h n) j : EReal) := by
  obtain ⟨M, hM⟩ := top_real H h (up n)
  rw [pG_at, hM, lseM_real _ _ (row_up H h n) M, masked_up, row_up H, ← EReal.coe_sub, Ideal.exp2_coe, exp2_lse]
  exact congrArg (fun f => ((soft f j : ℝ) : EReal)) (funext fun i => sc2_eq q k h n i)

theorem weight_pad (h : Fin 16) {r : Fin 8448} (hr : r.val < 240) (n : Fin 8448) : pG (aQ m c) (aL m c) (aK m c) h r n = 0 := by
  rw [pG_at, masked_pad _ hr, EReal.bot_sub, Ideal.exp2_bot]

/-- The row sum of the cotangent times the output. -/
theorem delta_up (h : Fin 16) (n : Fin 8208) : aE m c (ix3 h 0 (up n)) = ((∑ i, soft (sc q k h n) i * cot dO v h n i : ℝ) : EReal) := by
  obtain ⟨M, hM⟩ := top_real H h (up n)
  have hl := (sum_exp_pos fun i => ln2 * (sc2 q k h n i - M)).ne'
  have hs : ∀ i, soft (sc q k h n) i = Real.exp (ln2 * (sc2 q k h n i - M)) / ∑ i, Real.exp (ln2 * (sc2 q k h n i - M)) := fun i => by
    rw [soft_shift]
    exact congrArg (fun f => soft f i) (funext fun i => (sc2_eq q k h n i).symm)
  have ho : ∀ d : Fin 64, ∑ r, expM (row m c h (up n)) (M : EReal) r * heads4 (argV m c) (ix3 (keyHead h) r d)
      = ((∑ i, Real.exp (ln2 * (sc2 q k h n i - M)) * v i (col4 (keyHead h) d) : ℝ) : EReal) := fun d =>
    sum_up_real _ _ (fun r hr => by rw [expM_pad _ M hr, zero_mul])
      fun j => by rw [expM_up _ _ (row_up H h n) M j, v_up H, ← EReal.coe_mul]
  rw [aE_at, hM, sum_expM _ _ (row_up H h n) M]
  simp only [ho, div_real hl, do_up H, ← EReal.coe_mul]
  rw [sum_real]
  refine congrArg _ ?_
  simp only [hs, cot, Finset.sum_div, Finset.mul_sum]
  rw [Finset.sum_comm]
  exact Finset.sum_congr rfl fun i _ => Finset.sum_congr rfl fun x _ => by ring

omit H in
theorem delta_pad (h : Fin 16) {n : Fin 8448} (hn : n.val < 240) : aE m c (ix3 h 0 n) = 0 := by
  rw [aE_at]
  exact Finset.sum_eq_zero fun d _ => by rw [pad16 _ _ hn, zero_mul]

theorem grad_up (h : Fin 16) (n j : Fin 8208) :
    dG (aQ m c) (aDO m c) (aL m c) (aE m c) (aK m c) (aW m c) h (up j) (up n) = (pull (sc q k h n) (cot dO v h n) j : EReal) := by
  unfold dG pull
  rw [weight_up H, delta_up H, aDO_eq, aW_eq, show ∑ x : Fin 64, (heads4 (argV m c) (ix3 (kvOf h) (up j) x) * heads16 (argDO m c) (ix3 h (up n) x) : EReal)
      = ((cot dO v h n j : ℝ) : EReal) from ?_, ← EReal.coe_sub, ← EReal.coe_mul]
  unfold cot
  rw [← sum_real]
  exact Finset.sum_congr rfl fun x _ => by rw [v_up H, do_up H, ← EReal.coe_mul]

theorem grad_padKey (h : Fin 16) {r : Fin 8448} (hr : r.val < 240) (n : Fin 8448) :
    dG (aQ m c) (aDO m c) (aL m c) (aE m c) (aK m c) (aW m c) h r n = 0 := by
  unfold dG
  rw [weight_pad H h hr, zero_mul]

omit H in
theorem grad_padQuery (h : Fin 16) (r : Fin 8448) {n : Fin 8448} (hn : n.val < 240) :
    dG (aQ m c) (aDO m c) (aL m c) (aE m c) (aK m c) (aW m c) h r n = 0 := by
  unfold dG
  rw [delta_pad h hn, aDO_eq, Finset.sum_eq_zero fun x _ => by rw [pad16 _ _ hn, mul_zero], sub_zero, mul_zero]

/-! ## The results -/

/-- The queries' gradient at a real row. -/
def dQ (q dO : Fin 8208 → Fin 1024 → ℝ) (k v : Fin 8208 → Fin 256 → ℝ) (h : Fin 16) (d : Fin 64) (n : Fin 8208) : ℝ :=
  ∑ j, k j (col4 (keyHead h) d) * pull (sc q k h n) (cot dO v h n) j

/-- The keys' gradient at a real row, in base 2. -/
def dK (q dO : Fin 8208 → Fin 1024 → ℝ) (k v : Fin 8208 → Fin 256 → ℝ) (g : Fin 4) (j : Fin 8208) (d : Fin 64) : ℝ :=
  ∑ hh : Fin 4, ∑ n, pull (sc q k (headAt g hh) n) (cot dO v (headAt g hh) n) j * (q n (col16 (headAt g hh) d) * (1 / 8 / ln2))

/-- The values' gradient at a real row. -/
def dV (q dO : Fin 8208 → Fin 1024 → ℝ) (k : Fin 8208 → Fin 256 → ℝ) (g : Fin 4) (j : Fin 8208) (d : Fin 64) : ℝ :=
  ∑ hh : Fin 4, ∑ n, soft (sc q k (headAt g hh) n) j * dO n (col16 (headAt g hh) d)

theorem resQ_up (h : Fin 16) (d : Fin 64) (n : Fin 8208) :
    ∑ r : Fin 8448, (aKT m c (ix3 (kvOf h) d r) * dG (aQ m c) (aDO m c) (aL m c) (aE m c) (aK m c) (aW m c) h r (up n) : EReal)
      = (dQ q dO k v h d n : EReal) :=
  sum_up_real _ _ (fun r hr => by rw [grad_padKey H h hr, mul_zero]) fun j => by rw [aKT_at, k_up H, grad_up H, ← EReal.coe_mul]

omit H in
theorem resQ_pad (h : Fin 16) (d : Fin 64) {n : Fin 8448} (hn : n.val < 240) :
    ∑ r : Fin 8448, (aKT m c (ix3 (kvOf h) d r) * dG (aQ m c) (aDO m c) (aL m c) (aE m c) (aK m c) (aW m c) h r n : EReal) = 0 :=
  Finset.sum_eq_zero fun r _ => by rw [grad_padQuery h r hn, mul_zero]

theorem resK_up (g : Fin 4) (j : Fin 8208) (d : Fin 64) :
    ∑ hh : Fin 4, ∑ n : Fin 8448, (dG (aQ m c) (aDO m c) (aL m c) (aE m c) (aK m c) (aW m c) (headAt g hh) (up j) n * aQ m c (ix3 (headAt g hh) n d) : EReal)
      = (dK q dO k v g j d : EReal) := by
  unfold dK
  rw [← sum_real]
  exact Finset.sum_congr rfl fun hh _ => sum_up_real _ _ (fun n hn => by rw [grad_padQuery _ _ hn, zero_mul])
    fun n => by rw [grad_up H, aQ_eq, q_up H, ← EReal.coe_mul]

theorem resK_pad (g : Fin 4) {r : Fin 8448} (hr : r.val < 240) (d : Fin 64) :
    ∑ hh : Fin 4, ∑ n : Fin 8448, (dG (aQ m c) (aDO m c) (aL m c) (aE m c) (aK m c) (aW m c) (headAt g hh) r n * aQ m c (ix3 (headAt g hh) n d) : EReal)
      = 0 :=
  Finset.sum_eq_zero fun hh _ => Finset.sum_eq_zero fun n _ => by rw [grad_padKey H _ hr, zero_mul]

theorem resV_up (g : Fin 4) (j : Fin 8208) (d : Fin 64) :
    ∑ hh : Fin 4, ∑ n : Fin 8448, (pG (aQ m c) (aL m c) (aK m c) (headAt g hh) (up j) n * aDO m c (ix3 (headAt g hh) n d) : EReal)
      = (dV q dO k g j d : EReal) := by
  unfold dV
  rw [← sum_real]
  exact Finset.sum_congr rfl fun hh _ => sum_up_real _ _ (fun n hn => by rw [aDO_eq, pad16 _ _ hn, mul_zero])
    fun n => by rw [weight_up H, aDO_eq, do_up H, ← EReal.coe_mul]

theorem resV_pad (g : Fin 4) {r : Fin 8448} (hr : r.val < 240) (d : Fin 64) :
    ∑ hh : Fin 4, ∑ n : Fin 8448, (pG (aQ m c) (aL m c) (aK m c) (headAt g hh) r n * aDO m c (ix3 (headAt g hh) n d) : EReal) = 0 :=
  Finset.sum_eq_zero fun hh _ => Finset.sum_eq_zero fun n _ => by rw [weight_pad H _ hr, zero_mul]

end Cert.AttnProof
end
-- ==== Proof.AttnRefAt.lean ====
/- What the attention gradient's reference computes at finite arguments: the same pull-back of the softmax as the kernel, written by the quotient
   rule over exponentials whose row maximum is subtracted. -/
module

public import proofs.«01_k».proof.Proof.AttnSoft
public import proofs.«01_k».proof.Proof.Gen.AttnRefIdeal.Read

@[expose] public section

set_option maxRecDepth 16384

noncomputable section

namespace Cert.AttnProof.Ref

open Cert.AttnRefIdeal Cert.AttnRefIdeal.Gen Cert.AttnRefIdeal.Read Idealize.ShloMosaic Idealize.ShloMosaic.TcCoe
open Idealize.ShloMosaic.Tactic Cert.Reals Cert.Softmax

theorem eight_word : Ideal.ofBits .f32 1090519040#32 = ((8 : ℝ) : EReal) := by simp [Ideal.ofBits, Ideal.ieee, -EReal.coe_mul]; norm_num

theorem keyHead_headAt (g hh : Fin 4) : keyHead (headAt g hh) = g := Fin.ext (by show (4 * g.val + hh.val) / 4 = g.val; omega)
theorem col_headAt (g hh : Fin 4) (x : Fin 64) (p : g.val * 256 + hh.val * 64 + x.val < 1024) :
    (⟨g.val * 256 + hh.val * 64 + x.val, p⟩ : Fin 1024) = col16 (headAt g hh) x :=
  Fin.ext (by show g.val * 256 + hh.val * 64 + x.val = (4 * g.val + hh.val) * 64 + x.val; omega)

/-- The maximum of the last axis of any array. -/
theorem rowMax_at (A : FVec Ideal S4x4x8208x8208 .f32) (g hh : Fin 4) (n : Fin 8208) :
    Host.reduce FloatOps.maximumf A (constant S_ .f32 0xFF800000#32) reducesTo_S4x4x8208x8208_S4x4x8208_d3 h_S_ (ix3 g hh n)
      = (Finset.univ : Finset (Fin 8208)).fold max ⊥ fun x => A (ix4 g hh n x) := by
  pointwise []
  rw [bot_word]

variable {x0 x3 : FVec Ideal S8208x1024 .f32} {x1 x2 : FVec Ideal S8208x256 .f32}
variable {q dO : Fin 8208 → Fin 1024 → ℝ} {k v : Fin 8208 → Fin 256 → ℝ}
variable (hq : ∀ n d, x0 (ix2 n d) = (q n d : EReal)) (hk : ∀ n d, x1 (ix2 n d) = (k n d : EReal))
  (hv : ∀ n d, x2 (ix2 n d) = (v n d : EReal)) (hdo : ∀ n d, x3 (ix2 n d) = (dO n d : EReal))

include hq hk

theorem scores_at (g hh : Fin 4) (n s : Fin 8208) : val_main_v6 (F := Ideal) x0 x1 (ix4 g hh n s) = (sc q k (headAt g hh) n s : EReal) := by
  pointwise [val_main_v6, val_main_v5, val_main_cst, val_main_v4, val_main_v3, val_main_v1, val_main_v0]
  unfold sc
  rw [eighth_word, EReal.coe_mul, ← sum_real]
  refine congrArg (fun a : EReal => a * _) (Finset.sum_congr rfl fun x _ => ?_)
  rw [col_headAt, hk, hq, keyHead_headAt, ← EReal.coe_mul]

/-- The row maximum is a real: which one does not matter. -/
theorem max_real (g hh : Fin 4) (n : Fin 8208) : ∃ M : ℝ, val_main_v14 (F := Ideal) x0 x1 (ix3 g hh n) = (M : EReal) := by
  obtain ⟨M, hM⟩ := fold_max_real (Finset.univ : Finset (Fin 8208)) (fun x => val_main_v6 (F := Ideal) x0 x1 (ix4 g hh n x))
    (fun x _ => by rw [scores_at hq hk]; exact EReal.coe_ne_top _) (Finset.mem_univ ⟨0, by omega⟩) (by rw [scores_at hq hk]; exact EReal.coe_ne_bot _)
  refine ⟨M, ?_⟩
  rw [val_main_v14_apply, val_main_v13_apply, val_main_cst_2_apply]
  show max (Ideal.ofBits .f32 4286578688#32) (val_main_v7 (F := Ideal) x0 x1 (ix3 g hh n)) = _
  rw [bot_word, max_eq_right bot_le]
  exact (rowMax_at _ g hh n).trans hM

/-- A row's exponentials, with some real subtracted from all its scores. -/
theorem exp_at (g hh : Fin 4) (n : Fin 8208) :
    ∃ M : ℝ, ∀ s, val_main_v27 (F := Ideal) x0 x1 (ix4 g hh n s) = (Real.exp (sc q k (headAt g hh) n s - M) : EReal) := by
  obtain ⟨M, hM⟩ := max_real hq hk g hh n
  refine ⟨M, fun s => ?_⟩
  pointwise [val_main_v27, val_main_v26, val_main_v25, val_main_v24]
  rw [hM, scores_at hq hk, ← EReal.coe_sub, Ideal.exp_coe]

omit hq hk in
theorem sum_at {g hh : Fin 4} {n : Fin 8208} {e : Fin 8208 → ℝ} (he : ∀ s, val_main_v27 (F := Ideal) x0 x1 (ix4 g hh n s) = (e s : EReal)) :
    val_main_v28 (F := Ideal) x0 x1 (ix3 g hh n) = ((∑ s, e s : ℝ) : EReal) := by
  pointwise [val_main_v28, val_main_cst_8]
  simp only [he]
  exact sum_real _

theorem soft_at (g hh : Fin 4) (n s : Fin 8208) : val_main_v31 (F := Ideal) x0 x1 (ix4 g hh n s) = (soft (sc q k (headAt g hh) n) s : EReal) := by
  obtain ⟨M, hM⟩ := exp_at hq hk g hh n
  pointwise [val_main_v31, val_main_v30, val_main_v29]
  rw [sum_at hM, hM, div_real (sum_exp_pos _).ne']
  have := soft_shift (sc q k (headAt g hh) n) 1 M s
  simp only [one_mul] at this
  rw [this]

include hv hdo

omit hq hk in
theorem cot_at (g hh : Fin 4) (n s : Fin 8208) : val_main_v40 (F := Ideal) x2 x3 (ix4 g hh n s) = (cot dO v (headAt g hh) n s : EReal) := by
  pointwise [val_main_v40, val_main_v39, val_main_v38, val_main_v2]
  unfold cot
  rw [← sum_real]
  refine Finset.sum_congr rfl fun x _ => ?_
  rw [col_headAt, hv, hdo, keyHead_headAt, mul_comm, ← EReal.coe_mul]

theorem pull_at (g hh : Fin 4) (n s : Fin 8208) : val_main_v56 (F := Ideal) x0 x1 x2 x3 (ix4 g hh n s)
    = ((pull (sc q k (headAt g hh) n) (cot dO v (headAt g hh) n) s * (1 / 8) : ℝ) : EReal) := by
  obtain ⟨M, hM⟩ := exp_at hq hk g hh n
  have hl := (sum_exp_pos fun s => sc q k (headAt g hh) n s - M).ne'
  have hc : val_main_v46 (F := Ideal) x0 x1 x2 x3 (ix3 g hh n) = ((∑ i, cot dO v (headAt g hh) n i
      * (1 / ((∑ i, Real.exp (sc q k (headAt g hh) n i - M)) * ∑ i, Real.exp (sc q k (headAt g hh) n i - M))) * Real.exp (sc q k (headAt g hh) n i - M) : ℝ) : EReal) := by
    pointwise [val_main_v46, val_main_cst_10, val_main_v45, val_main_v44, val_main_v43, val_main_v34, val_main_v33, val_main_cst_9, val_main_v32, val_main_v29]
    rw [sum_at hM, ← EReal.coe_mul, ← EReal.coe_one, div_real (mul_ne_zero hl hl), ← sum_real]
    exact Finset.sum_congr rfl fun x _ => by rw [hM, cot_at hv hdo, ← EReal.coe_mul, ← EReal.coe_mul]
  pointwise [val_main_v56, val_main_v55, val_main_cst_12, val_main_v54, val_main_v53, val_main_v52, val_main_v51, val_main_cst_11, val_main_v48, val_main_v47,
    val_main_v50, val_main_v49, val_main_v29]
  rw [Fin.sum_univ_one, hc, sum_at hM, hM, cot_at hv hdo, eighth_word, div_real hl, ← EReal.coe_neg, ← EReal.coe_add, ← EReal.coe_mul, ← EReal.coe_mul,
    pull_quotient]

theorem pull_head (h : Fin 16) (n s : Fin 8208) {g hh : Fin 4} (e : headAt g hh = h) : val_main_v56 (F := Ideal) x0 x1 x2 x3 (ix4 g hh n s)
    = ((pull (sc q k h n) (cot dO v h n) s * (1 / 8) : ℝ) : EReal) := by
  subst e
  exact pull_at hq hk hv hdo g hh n s

/-! ## The results -/

theorem outQ_at (h : Fin 16) (d : Fin 64) (r : Fin 8448) : val_main_v69 (F := Ideal) x0 x1 x2 x3 (ix3 h d r)
    = if hr : 240 ≤ r.val then (dQ q dO k v h d (down r hr) : EReal) else 0 := by
  pointwise [val_main_v69, val_main_v68, val_main_v67, val_main_call0_v0, val_main_c, val_main_v66, val_main_v65, val_main_cst_13, val_main_v64,
    val_main_v59, val_main_v58, val_main_v57, val_main_v1]
  by_cases hr : 240 ≤ r.val
  · have e : dQ q dO k v h d (down r hr)
        = (∑ j, k j (col4 (keyHead h) d) * (pull (sc q k h (down r hr)) (cot dO v h (down r hr)) j * (1 / 8))) * 8 := by
      rw [Finset.sum_mul, dQ]
      exact Finset.sum_congr rfl fun j _ => by ring
    refine (dif_pos ⟨⟨hr, by omega⟩, by omega⟩).trans (Eq.trans ?_ (dif_pos hr).symm)
    refine Eq.trans ?_ ((congrArg _ e).trans (EReal.coe_mul _ _)).symm
    refine congrArg₂ (fun a b : EReal => a * b) (Eq.trans (Finset.sum_congr rfl fun j _ => ?_) (sum_real _)) eight_word
    refine (congrArg₂ (fun a b : EReal => a * b) (pull_head hq hk hv hdo h _ j
      (Fin.ext (by show 4 * ((h.val * 64 + d.val) / 256) + (h.val * 64 + d.val) / 64 % 4 = h.val; omega)))
      ((congrArg (fun a => x1 (ix2 j a)) (Fin.ext (by show (h.val * 64 + d.val) / 256 * 64 + d.val = h.val / 4 * 64 + d.val; omega))).trans
        (hk j (col4 (keyHead h) d)))).trans ?_
    exact (mul_comm _ _).trans (EReal.coe_mul _ _).symm
  · rw [dif_neg fun e => hr e.1.1, dif_neg hr]; exact zero_int

theorem outK_at (g : Fin 4) (r : Fin 8448) (d : Fin 64) : val_main_v75 (F := Ideal) x0 x1 x2 x3 (ix3 g r d)
    = if hr : 240 ≤ r.val then (dK q dO k v g (down r hr) d : EReal) else 0 := by
  pointwise [val_main_v75, val_main_v74, val_main_v73, val_main_call1_v0, val_main_c_15, val_main_v72, val_main_v71, val_main_v70, val_main_cst_14,
    val_main_v63, val_main_v61, val_main_v60, val_main_v57, val_main_v0]
  by_cases hr : 240 ≤ r.val
  · rw [dif_pos ⟨⟨hr, by omega⟩, by omega⟩, dif_pos hr, two_word, log_two]
    have hs : ∀ n : Fin 8208, ∀ hh : Fin 4, (val_main_v56 (F := Ideal) x0 x1 x2 x3 (ix4 g hh n (down r hr)) * x0 (ix2 n (col16 (headAt g hh) d)) : EReal)
        = ((pull (sc q k (headAt g hh) n) (cot dO v (headAt g hh) n) (down r hr) * (1 / 8) * q n (col16 (headAt g hh) d) : ℝ) : EReal) := fun n hh => by
      rw [pull_at hq hk hv hdo, hq, ← EReal.coe_mul]
    simp only [col_headAt]
    refine Eq.trans (b := Ideal.div (∑ n : Fin 8208, ∑ hh : Fin 4,
      (val_main_v56 (F := Ideal) x0 x1 x2 x3 (ix4 g hh n (down r hr)) * x0 (ix2 n (col16 (headAt g hh) d)) : EReal)) (ln2 : EReal)) rfl ?_
    simp only [hs, sum_real]
    rw [div_real ln2_ne, dK, Finset.sum_comm, Finset.sum_div]
    refine congrArg (fun a : ℝ => (a : EReal)) (Finset.sum_congr rfl fun hh _ => ?_)
    rw [Finset.sum_div]
    exact Finset.sum_congr rfl fun n _ => by have := ln2_ne; field_simp
  · rw [dif_neg fun e => hr e.1.1, dif_neg hr]; exact zero_int

omit hv in
theorem outV_at (g : Fin 4) (r : Fin 8448) (d : Fin 64) : val_main_v78 (F := Ideal) x0 x1 x3 (ix3 g r d)
    = if hr : 240 ≤ r.val then (dV q dO k g (down r hr) d : EReal) else 0 := by
  pointwise [val_main_v78, val_main_v77, val_main_v76, val_main_call2_v0, val_main_c_16, val_main_v62, val_main_v42, val_main_v41, val_main_v39, val_main_v38]
  by_cases hr : 240 ≤ r.val
  · rw [dif_pos ⟨⟨hr, by omega⟩, by omega⟩, dif_pos hr, dV, ← sum_real]
    refine Finset.sum_congr rfl fun hh _ => ?_
    rw [← sum_real]
    refine Finset.sum_congr rfl fun n _ => ?_
    rw [col_headAt, hdo]
    refine (congrArg (fun a : EReal => _ * a) (soft_at hq hk g hh n (down r hr))).trans ?_
    rw [mul_comm, ← EReal.coe_mul]
  · rw [dif_neg fun e => hr e.1.1, dif_neg hr]; exact zero_int

end Cert.AttnProof.Ref
end
-- ==== Proof.AttnValue.lean ====
/- The attention gradient's claim: at finite arguments the kernel writes what the reference returns. -/
module

public import proofs.«01_k».proof.Proof.AttnFinal
public import proofs.«01_k».proof.Proof.AttnRefAt
public import proofs.«01_k».proof.Proof.Gen.AttnRefIdeal.Run
public import proofs.«01_k».proof.Proof.Gen.Pre_finite_attn
public import proofs.«01_k».proof.Defs

@[expose] public section

set_option maxRecDepth 16384

noncomputable section

namespace Cert.AttnProof

open Cert.AttnIdeal Cert.AttnIdeal.Gen Idealize.ShloMosaic Idealize.ShloMosaic.TcCoe Idealize.SL.Sem
open Idealize.ShloMosaic.Tactic Cert.Reals Cert.Softmax

variable (m : (ℓ : Loc nD τ sig) → Buf (Elt Ideal) ℓ) (m' : (ℓ : Loc AttnRefIdeal.nD AttnRefIdeal.τ AttnRefIdeal.sig) → Buf (Elt Ideal) ℓ)

/-- Under the precondition the four arguments hold reals. -/
theorem holds_of_pre (hpre : Cert.Pre_AttnIdeal_finite_attn (hPre_finite_attn := Cert.Pre_finite_attn.Gen.facts) m) (c : Dev nD) :
    ∃ q dO k v, Holds m c q dO k v := by
  have h := hpre c
  unfold Cert.Pre_finite_attn.fn at h
  have hq : ∀ i, ∃ r : ℝ, argQ m c i = (r : EReal) := fun i => by have h := congrFun h.1 i; exact real_of_abs_lt (by pointwise at h; exact h)
  have hk : ∀ i, ∃ r : ℝ, argK m c i = (r : EReal) := fun i => by have h := congrFun h.2.1 i; exact real_of_abs_lt (by pointwise at h; exact h)
  have hv : ∀ i, ∃ r : ℝ, argV m c i = (r : EReal) := fun i => by have h := congrFun h.2.2.1 i; exact real_of_abs_lt (by pointwise at h; exact h)
  have hd : ∀ i, ∃ r : ℝ, argDO m c i = (r : EReal) := fun i => by have h := congrFun h.2.2.2 i; exact real_of_abs_lt (by pointwise at h; exact h)
  choose q hq using hq
  choose k hk using hk
  choose v hv using hv
  choose dO hd using hd
  exact ⟨fun n d => q (ix2 n d), fun n d => dO (ix2 n d), fun n d => k (ix2 n d), fun n d => v (ix2 n d),
    fun n d => hq _, fun n d => hk _, fun n d => hv _, fun n d => hd _⟩

variable {m} {c : Dev nD} {q dO : Fin 8208 → Fin 1024 → ℝ} {k v : Fin 8208 → Fin 256 → ℝ} (H : Holds m c q dO k v)
include H

theorem gQ_at (h : Fin 16) (d : Fin 64) (r : Fin 8448) : gQ m c (ix3 h d r) = if hr : 240 ≤ r.val then (dQ q dO k v h d (down r hr) : EReal) else 0 := by
  by_cases hr : 240 ≤ r.val
  · rw [dif_pos hr]
    have := resQ_up H h d (down r hr)
    rw [up_down] at this
    exact this
  · rw [dif_neg hr]
    exact resQ_pad h d (not_le.mp hr)

theorem gK_at (g : Fin 4) (r : Fin 8448) (d : Fin 64) :
    gT (fK m c) (ix3 g r d) = if hr : 240 ≤ r.val then (dK q dO k v g (down r hr) d : EReal) else 0 := by
  by_cases hr : 240 ≤ r.val
  · rw [dif_pos hr]
    have := resK_up H g (down r hr) d
    rw [up_down] at this
    exact this
  · rw [dif_neg hr]
    exact resK_pad H g (not_le.mp hr) d

theorem gV_at (g : Fin 4) (r : Fin 8448) (d : Fin 64) :
    gT (fV m c) (ix3 g r d) = if hr : 240 ≤ r.val then (dV q dO k g (down r hr) d : EReal) else 0 := by
  by_cases hr : 240 ≤ r.val
  · rw [dif_pos hr]
    have := resV_up H g (down r hr) d
    rw [up_down] at this
    exact this
  · rw [dif_neg hr]
    exact resV_pad H g (not_le.mp hr) d

omit H in
/-- The claim: both programs write the gradients of the queries, of the keys and of the values. -/
theorem algebraic : Cert.algebraic_AttnIdeal_AttnRefIdeal_pre_finite_attn (hPre_finite_attn := Cert.Pre_finite_attn.Gen.facts) := by
  intro m g m' g' hpre hm
  refine ⟨fun c => gQ m c, fun c => gT (fK m c), fun c => gT (fV m c), (θ_run _ _ _).mono (fun r h c => ⟨final_q h.1 c, final_k h.1 c, final_v h.1 c,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩) (run_values m g),
    (θ_run _ _ _).mono (fun r h c => ⟨(h c).1.trans ?_, (h c).2.1.trans ?_, (h c).2.2.1.trans ?_, (h c).2.2.2⟩) (Cert.AttnRefIdeal.Value.run m' g')⟩
  all_goals obtain ⟨q, dO, k, v, H⟩ := holds_of_pre m hpre c
  · rw [AttnRefIdeal.Read.val_main_v69_eq, (hm c).1, (hm c).2.1, (hm c).2.2.1, (hm c).2.2.2]
    funext i
    idx_vars i
    exact (Ref.outQ_at H.q H.k H.v H.dO _ _ _).trans (gQ_at H _ _ _).symm
  · rw [AttnRefIdeal.Read.val_main_v75_eq, (hm c).1, (hm c).2.1, (hm c).2.2.1, (hm c).2.2.2]
    funext i
    idx_vars i
    exact (Ref.outK_at H.q H.k H.v H.dO _ _ _).trans (gK_at H _ _ _).symm
  · refine (AttnRefIdeal.Read.val_main_v78_eq _ _ _).trans ?_
    rw [(hm c).1, (hm c).2.1, (hm c).2.2.2]
    funext i
    idx_vars i
    exact (Ref.outV_at H.q H.k H.dO _ _ _).trans (gV_at H _ _ _).symm

end Cert.AttnProof
end
-- ==== Proof.GeluValue.lean ====
/- The gradient of the exact Gelu of `ys + d * h`, whose result is used twice: what the kernel writes is the derivative. -/
module

public import proofs.«01_k».proof.Defs
public import proofs.«01_k».proof.Proof.Gen.GeluIdeal.Value
public import proofs.«01_k».proof.Proof.Gen.GeluRefIdeal.Value
public import proofs.«01_k».proof.Proof.Gen.Pre_finite_gelu
public import proofs.«01_k».proof.Proof.Reals
public import Idealize.ShloMosaic.Lib.Pipeline.ValueKit

@[expose] public section

set_option maxRecDepth 16384

noncomputable section

open Idealize.ShloMosaic Idealize.ShloMosaic.TcCoe Idealize.SL.Sem
open Idealize.ShloMosaic.Tactic

namespace Cert.GeluProof

/-! ## The slope of Gelu -/

/-- The slope of Gelu at `y`, as the kernel computes it. -/
def slope (y : EReal) : EReal :=
  Ideal.ofBits .f32 1056964608#32 * (1 + Ideal.erf (y * (((Real.sqrt 2)⁻¹ : ℝ) : EReal)))
    + y * Ideal.exp (Ideal.ofBits .f32 3204448256#32 * y * y) * (((Real.sqrt (2 * Real.pi))⁻¹ : ℝ) : EReal)

/-- The cotangent `a` through Gelu at `y`, by the chain rule through the error function. -/
def chain (a y : EReal) : EReal :=
  ((2 * (Real.sqrt Real.pi)⁻¹ : ℝ) : EReal) * (y * Ideal.ofBits .f32 1056964608#32 * a)
      * Ideal.exp (0 - y * (((Real.sqrt 2)⁻¹ : ℝ) : EReal) * (y * (((Real.sqrt 2)⁻¹ : ℝ) : EReal))) * (((Real.sqrt 2)⁻¹ : ℝ) : EReal)
    + a * (1 + Ideal.erf (y * (((Real.sqrt 2)⁻¹ : ℝ) : EReal))) * Ideal.ofBits .f32 1056964608#32

theorem half_word : Ideal.ofBits .f32 1056964608#32 = ((1 / 2 : ℝ) : EReal) := by simp [Ideal.ofBits, Ideal.ieee, -EReal.coe_mul]; norm_num
theorem neg_half_word : Ideal.ofBits .f32 3204448256#32 = ((-1 / 2 : ℝ) : EReal) := by simp [Ideal.ofBits, Ideal.ieee, -EReal.coe_mul]; norm_num

/-- For reals the two agree. -/
theorem chain_eq (a y : ℝ) : chain a y = a * slope y := by
  have h2 : Real.sqrt 2 ≠ 0 := (Real.sqrt_pos.mpr two_pos).ne'
  have hp : Real.sqrt Real.pi ≠ 0 := (Real.sqrt_pos.mpr Real.pi_pos).ne'
  have hs : Real.sqrt 2 * Real.sqrt 2 = 2 := Real.mul_self_sqrt two_pos.le
  obtain ⟨w, hw⟩ : ∃ w : ℝ, Ideal.erf ((y * (Real.sqrt 2)⁻¹ : ℝ) : EReal) = (w : EReal) := ⟨_, Ideal.erf_coe _⟩
  have he : 0 - y * (Real.sqrt 2)⁻¹ * (y * (Real.sqrt 2)⁻¹) = -1 / 2 * y * y := by
    field_simp
    rw [pow_two, hs]
    ring
  unfold chain slope
  rw [half_word, neg_half_word, ← EReal.coe_mul y (Real.sqrt 2)⁻¹, hw]
  simp only [← EReal.coe_zero, ← EReal.coe_one, ← EReal.coe_mul, ← EReal.coe_add, ← EReal.coe_sub, Ideal.exp_coe]
  rw [he, Real.sqrt_mul two_pos.le]
  refine congrArg (fun r : ℝ => (r : EReal)) ?_
  field_simp
  ring

/-- The argument of Gelu. -/
def arg (YS H : FVec Ideal Cert.GeluIdeal.S8448x1024 .f32) (D : FVec Ideal Cert.GeluIdeal.S1024 .f32) (a : Fin 8448) (b : Fin 1024) : EReal :=
  YS (ix2 a b) + D (ix1 b) * H (ix2 a b)

/-- The arguments of Gelu, as an array. -/
def argArr (YS H : FVec Ideal Cert.GeluIdeal.S8448x1024 .f32) (D : FVec Ideal Cert.GeluIdeal.S1024 .f32) : FVec Ideal Cert.GeluIdeal.S8448x1024 .f32 :=
  fun i => YS i + D (ix1 (i 1)) * H i

/-- The gradient with respect to the argument of Gelu. -/
def gradY (A B YS H : FVec Ideal Cert.GeluIdeal.S8448x1024 .f32) (D : FVec Ideal Cert.GeluIdeal.S1024 .f32) (a : Fin 8448) (b : Fin 1024) : EReal :=
  (A (ix2 a b) + B (ix2 a b)) * slope (arg YS H D a b)

/-! ## The kernel -/

section kernel

open Cert.GeluIdeal Cert.GeluIdeal.Gen

variable (m : (ℓ : Loc nD τ sig) → Buf (Elt Ideal) ℓ) (c : Dev nD)

abbrev argA : FVec Ideal S8448x1024 .f32 := m ((c.tc : Thread nD τ).loc main_arg0)
abbrev argB : FVec Ideal S8448x1024 .f32 := m ((c.tc : Thread nD τ).loc main_arg1)
abbrev argYS : FVec Ideal S8448x1024 .f32 := m ((c.tc : Thread nD τ).loc main_arg2)
abbrev argH : FVec Ideal S8448x1024 .f32 := m ((c.tc : Thread nD τ).loc main_arg3)
abbrev argD : FVec Ideal S1024 .f32 := m ((c.tc : Thread nD τ).loc main_arg4)

theorem named_half : Named.named (F := Ideal) κ "half_sqrt" (φ := .f32) 0x3F3504F3#32 = (((Real.sqrt 2)⁻¹ : ℝ) : EReal) := by
  simp [Named.named, κ]
theorem named_norm : Named.named (F := Ideal) κ "norm" (φ := .f32) 0x3ECC422A#32 = (((Real.sqrt (2 * Real.pi))⁻¹ : ℝ) : EReal) := by
  simp [Named.named, κ]

/-- The windows' block indices. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] ∧ win0_6.index t = ![t.val, 0] ∧ win0_7.index t = ![0, 0] :=
  (by decide +kernel : ∀ t : Fin grid0.N, _)

/-- The row of the array that a block's row is. -/
abbrev rowAt (t : Fin cfg0.N) (a : Fin 768) : Fin 8448 := ⟨t.val * 768 + a.val, by have := t.isLt; have h : cfg0.N = 11 := N_0; omega⟩

theorem blk_a (t : Fin cfg0.N) (a : Fin 768) (x : Fin 1024) :
    (iblk m c 0 t : FVec Ideal S768x1024 .f32) (ix2 a x) = argA m c (ix2 (rowAt t a) x) := by blk_ext [iblk, V, idx t]
theorem blk_b (t : Fin cfg0.N) (a : Fin 768) (x : Fin 1024) :
    (iblk m c 1 t : FVec Ideal S768x1024 .f32) (ix2 a x) = argB m c (ix2 (rowAt t a) x) := by blk_ext [iblk, V, idx t]
theorem blk_h (t : Fin cfg0.N) (a : Fin 768) (x : Fin 1024) :
    (iblk m c 3 t : FVec Ideal S768x1024 .f32) (ix2 a x) = argH m c (ix2 (rowAt t a) x) := by blk_ext [iblk, V, idx t]

/-- A block of the argument of Gelu, which the host computes. -/
theorem blk_y (t : Fin cfg0.N) (a : Fin 768) (x : Fin 1024) :
    (iblk m c 2 t : FVec Ideal S768x1024 .f32) (ix2 a x) = arg (argYS m c) (argH m c) (argD m c) (rowAt t a) x := by
  blk_simp [iblk]
  entry_read
  pointwise
  show argArr (argYS m c) (argH m c) (argD m c) _ = argArr (argYS m c) (argH m c) (argD m c) (ix2 (rowAt t a) x)
  refine congrArg _ ?_
  blk_ext [idx t]
theorem blk_d (t : Fin cfg0.N) (x : Fin 1024) : (iblk m c 4 t : FVec Ideal S1x1024 .f32) (ix2 0 x) = argD m c (ix1 x) := by
  blk_simp [iblk]
  entry_read
  pointwise
  blk_ext [idx t]

theorem pay_y (A B Y : FVec Ideal S768x1024 .f32) (a : Fin 768) (b : Fin 1024) :
    k0_pay2 (F := Ideal) A B Y (ix2 a b) = (A (ix2 a b) + B (ix2 a b)) * slope (Y (ix2 a b)) := by
  pointwise [k0_pay2]
  rw [named_half, named_norm]
  rfl

theorem pay_h (A B Y : FVec Ideal S768x1024 .f32) (D : FVec Ideal S1x1024 .f32) (a : Fin 768) (b : Fin 1024) :
    k0_pay3 (F := Ideal) A B Y D (ix2 a b) = k0_pay2 (F := Ideal) A B Y (ix2 a b) * D (ix2 0 b) := by
  pointwise [k0_pay3]

/-- One step of the running sum. -/
theorem pay_d (A B Y H : FVec Ideal S768x1024 .f32) (acc : FVec Ideal S1x1024 .f32) (j : S1x1024.Idx) :
    k0_pay1 (F := Ideal) (k0_pay4 (F := Ideal) A B Y H) acc j = acc j + ∑ a : Fin 768, k0_pay2 (F := Ideal) A B Y (ix2 a (j 1)) * H (ix2 a (j 1)) := by
  idx_vars j
  pointwise [k0_pay4, k0_pay1]

theorem zero_d (j : S1x1024.Idx) : k0_pay5 (F := Ideal) j = 0 := by pointwise [k0_pay5]

/-- The kernel's gradient. -/
abbrev gY (a : Fin 8448) (b : Fin 1024) : EReal := gradY (argA m c) (argB m c) (argYS m c) (argH m c) (argD m c) a b

/-- The three results, as arrays. -/
def outY : FVec Ideal S8448x1024 .f32 := fun i => gY m c (i 0) (i 1)
def outH : FVec Ideal S8448x1024 .f32 := fun i => gY m c (i 0) (i 1) * argD m c (ix1 (i 1))
def outD : FVec Ideal S1x1024 .f32 := fun i => ∑ a : Fin 8448, gY m c a (i 1) * argH m c (ix2 a (i 1))

theorem pay_y_at (t : Fin cfg0.N) (a : Fin 768) (b : Fin 1024) :
    k0_pay2 (F := Ideal) (iblk m c 0 t) (iblk m c 1 t) (iblk m c 2 t) (ix2 a b) = gY m c (rowAt t a) b := by
  refine (pay_y (iblk m c 0 t) (iblk m c 1 t) (iblk m c 2 t) a b).trans ?_
  rw [blk_a, blk_b, blk_y]
  rfl

/-- What the first result holds. -/
theorem y_eq : (dats m 0 c).arrAt 5 (cfgs 0).N = outY m c := by
  refine (dats m 0 c).arrAt_eq_of_covers 5 _ (by decide +kernel) fun t _ y => ?_
  blk_simp
  rw [after0_5]
  have : (outsAt0 m c t.val t.isLt).1 = k0_pay2 (iblk m c 0 t) (iblk m c 1 t) (iblk m c 2 t) := by
    by_cases h : t.val % 11 = 0
    · rw [outsAt0_A m c t h]; frame_out
    · rw [outsAt0_B m c t h]; frame_out
  rw [this]
  idx_vars y
  refine (pay_y_at m c t _ _).trans (congrArg (outY m c) (?_ : ix2 (rowAt t y0) y1 = _))
  blk_ext [idx t]

/-- What the second result holds. -/
theorem h_eq : (dats m 0 c).arrAt 6 (cfgs 0).N = outH m c := by
  refine (dats m 0 c).arrAt_eq_of_covers 6 _ (by decide +kernel) fun t _ y => ?_
  blk_simp
  rw [after0_6]
  have : (outsAt0 m c t.val t.isLt).2.1 = k0_pay3 (iblk m c 0 t) (iblk m c 1 t) (iblk m c 2 t) (iblk m c 4 t) := by
    by_cases h : t.val % 11 = 0
    · rw [outsAt0_A m c t h]; frame_out
    · rw [outsAt0_B m c t h]; frame_out
  rw [this]
  idx_vars y
  refine (pay_h _ _ _ _ _ _).trans ?_
  rw [pay_y_at, blk_d]
  refine congrArg (outH m c) (?_ : ix2 (rowAt t y0) y1 = _)
  blk_ext [idx t]

/-- What the third result holds. -/
theorem d_eq : (dats m 0 c).arrAt 7 (cfgs 0).N = outD m c := by
  refine (dats m 0 c).arrAt_eq_of_after_last 7 t0_10 (by decide +kernel) _ fun j => ?_
  blk_simp
  rw [after0_7, Pipeline.eq_sum_fin_of_reset_step_apply_last (fun n h => (outsAt0 m c n h).2.2) 11 (fun _ => 0) _
    (fun t h j => by rw [outsAt0_A m c t h]; frame_out; rw [pay_d, zero_d])
    (fun t h j => by rw [outsAt0_B m c t h]; frame_out; rw [pay_d])
    (le_of_eq N_0) t0_10 rfl j, zero_add]
  idx_vars j
  simp only [pay_y_at, blk_h]
  unfold outD
  exact Fin.sum_mul_add_congr fun s k hl => rfl

end kernel

/-! ## The reference -/

section reference

open Cert.GeluRefIdeal Cert.GeluRefIdeal.Gen

variable (m' : (ℓ : Loc nD τ sig) → Buf (Elt Ideal) ℓ) (c : Dev nD)

theorem ref_half : Named.named (F := Ideal) κ "half_sqrt" (φ := .f32) 0x3F3504F3#32 = (((Real.sqrt 2)⁻¹ : ℝ) : EReal) := by
  simp [Named.named, κ]
theorem ref_slope : Named.named (F := Ideal) κ "slope" (φ := .f32) 0x3F906EBB#32 = ((2 * (Real.sqrt Real.pi)⁻¹ : ℝ) : EReal) := by
  simp [Named.named, κ]

theorem ref_y (YS H A B : FVec Ideal S8448x1024 .f32) (D : FVec Ideal S1x1024 .f32) (a : Fin 8448) (b : Fin 1024) :
    k0_pay2 (F := Ideal) YS H D A B (ix2 a b) = chain (A (ix2 a b) + B (ix2 a b)) (YS (ix2 a b) + D (ix2 0 b) * H (ix2 a b)) := by
  pointwise [k0_pay2, k0_pay1]
  rw [ref_half, ref_slope]
  rfl
theorem ref_h (YS H A B : FVec Ideal S8448x1024 .f32) (D : FVec Ideal S1x1024 .f32) (a : Fin 8448) (b : Fin 1024) :
    k0_pay3 (F := Ideal) YS H D A B (ix2 a b) = D (ix2 0 b) * k0_pay2 (F := Ideal) YS H D A B (ix2 a b) := by
  pointwise [k0_pay3, k0_pay1]
theorem ref_d (YS H A B : FVec Ideal S8448x1024 .f32) (D : FVec Ideal S1x1024 .f32) (b : Fin 1024) :
    k0_pay4 (F := Ideal) YS H D A B (ix2 0 b) = ∑ a, k0_pay2 (F := Ideal) YS H D A B (ix2 a b) * H (ix2 a b) := by
  pointwise [k0_pay4, k0_pay1]

abbrev rA : FVec Ideal S8448x1024 .f32 := m' ((c.tc : Thread nD τ).loc main_arg0)
abbrev rB : FVec Ideal S8448x1024 .f32 := m' ((c.tc : Thread nD τ).loc main_arg1)
abbrev rYS : FVec Ideal S8448x1024 .f32 := m' ((c.tc : Thread nD τ).loc main_arg2)
abbrev rH : FVec Ideal S8448x1024 .f32 := m' ((c.tc : Thread nD τ).loc main_arg3)
abbrev rD : FVec Ideal S1024 .f32 := m' ((c.tc : Thread nD τ).loc main_arg4)

/-- Each window is one block. -/
theorem ridx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

theorem rblk_a (t : Fin cfg0.N) (a : Fin 8448) (x : Fin 1024) :
    (iblk m' c 0 t : FVec Ideal S8448x1024 .f32) (ix2 a x) = rA m' c (ix2 a x) := by blk_ext [iblk, V, ridx t]
theorem rblk_b (t : Fin cfg0.N) (a : Fin 8448) (x : Fin 1024) :
    (iblk m' c 1 t : FVec Ideal S8448x1024 .f32) (ix2 a x) = rB m' c (ix2 a x) := by blk_ext [iblk, V, ridx t]
theorem rblk_y (t : Fin cfg0.N) (a : Fin 8448) (x : Fin 1024) :
    (iblk m' c 2 t : FVec Ideal S8448x1024 .f32) (ix2 a x) = rYS m' c (ix2 a x) := by blk_ext [iblk, V, ridx t]
theorem rblk_h (t : Fin cfg0.N) (a : Fin 8448) (x : Fin 1024) :
    (iblk m' c 3 t : FVec Ideal S8448x1024 .f32) (ix2 a x) = rH m' c (ix2 a x) := by blk_ext [iblk, V, ridx t]
theorem rblk_d (t : Fin cfg0.N) (x : Fin 1024) : (iblk m' c 4 t : FVec Ideal S1x1024 .f32) (ix2 0 x) = rD m' c (ix1 x) := by
  blk_simp [iblk]
  entry_read
  pointwise
  blk_ext [ridx t]

/-- The reference's gradient. -/
def cY (a : Fin 8448) (b : Fin 1024) : EReal :=
  chain (rA m' c (ix2 a b) + rB m' c (ix2 a b)) (rYS m' c (ix2 a b) + rD m' c (ix1 b) * rH m' c (ix2 a b))

/-- The three results, as arrays. -/
def rOutY : FVec Ideal S8448x1024 .f32 := fun i => cY m' c (i 0) (i 1)
def rOutH : FVec Ideal S8448x1024 .f32 := fun i => rD m' c (ix1 (i 1)) * cY m' c (i 0) (i 1)
def rOutD : FVec Ideal S1x1024 .f32 := fun i => ∑ a : Fin 8448, cY m' c a (i 1) * rH m' c (ix2 a (i 1))

theorem ref_y_at (t : Fin cfg0.N) (a : Fin 8448) (b : Fin 1024) :
    k0_pay2 (F := Ideal) (iblk m' c 2 t) (iblk m' c 3 t) (iblk m' c 4 t) (iblk m' c 0 t) (iblk m' c 1 t) (ix2 a b) = cY m' c a b := by
  refine (ref_y (iblk m' c 2 t) (iblk m' c 3 t) (iblk m' c 0 t) (iblk m' c 1 t) (iblk m' c 4 t) a b).trans ?_
  rw [rblk_a, rblk_b, rblk_y, rblk_h, rblk_d]
  rfl

theorem ry_eq : (dats m' 0 c).arrAt 5 (cfgs 0).N = rOutY m' c := by
  refine (dats m' 0 c).arrAt_eq_of_covers 5 _ (by decide +kernel) fun t _ y => ?_
  blk_simp
  rw [after0_5]
  frame_out
  idx_vars y
  refine (ref_y_at m' c t y0 y1).trans ?_
  have e : cY m' c y0 y1 = rOutY m' c (ix2 y0 y1) := by unfold rOutY; rfl
  rw [e]
  refine congrArg _ ?_
  blk_ext [ridx t]

theorem rh_eq : (dats m' 0 c).arrAt 6 (cfgs 0).N = rOutH m' c := by
  refine (dats m' 0 c).arrAt_eq_of_covers 6 _ (by decide +kernel) fun t _ y => ?_
  blk_simp
  rw [after0_6]
  frame_out
  idx_vars y
  refine (ref_h _ _ _ _ _ _ _).trans ?_
  rw [ref_y_at, rblk_d]
  refine congrArg (rOutH m' c) (?_ : ix2 y0 y1 = _)
  blk_ext [ridx t]

theorem rd_eq : (dats m' 0 c).arrAt 7 (cfgs 0).N = rOutD m' c := by
  refine (dats m' 0 c).arrAt_eq_of_covers 7 _ (by decide +kernel) fun t _ y => ?_
  blk_simp
  rw [after0_7]
  frame_out
  idx_vars y
  obtain rfl := Subsingleton.elim y0 0
  refine (ref_d _ _ _ _ _ _).trans ?_
  simp only [ref_y_at, rblk_h]
  show rOutD m' c (ix2 0 y1) = _
  refine congrArg _ ?_
  blk_ext [ridx t]

end reference

/-! ## The claim -/

open Cert.GeluIdeal in
/-- Under the precondition the arguments hold reals, so the two gradients agree. -/
theorem agree (m : (ℓ : Loc nD τ sig) → Buf (Elt Ideal) ℓ)
    (h : Cert.Pre_GeluIdeal_finite_gelu (hPre_finite_gelu := Cert.Pre_finite_gelu.Gen.facts) m) (c : Dev nD) (a : Fin 8448) (b : Fin 1024) :
    chain (argA m c (ix2 a b) + argB m c (ix2 a b)) (arg (argYS m c) (argH m c) (argD m c) a b) = gY m c a b := by
  have h := h c
  unfold Cert.Pre_finite_gelu.fn at h
  have h0 : ∀ i, ∃ r : ℝ, argA m c i = (r : EReal) := fun i => by have h := congrFun h.1 i; exact Reals.real_of_abs_lt (by pointwise at h; exact h)
  have h1 : ∀ i, ∃ r : ℝ, argB m c i = (r : EReal) := fun i => by have h := congrFun h.2.1 i; exact Reals.real_of_abs_lt (by pointwise at h; exact h)
  have h2 : ∀ i, ∃ r : ℝ, argYS m c i = (r : EReal) := fun i => by have h := congrFun h.2.2.1 i; exact Reals.real_of_abs_lt (by pointwise at h; exact h)
  have h3 : ∀ i, ∃ r : ℝ, argH m c i = (r : EReal) := fun i => by have h := congrFun h.2.2.2.1 i; exact Reals.real_of_abs_lt (by pointwise at h; exact h)
  have h4 : ∀ i, ∃ r : ℝ, argD m c i = (r : EReal) := fun i => by have h := congrFun h.2.2.2.2 i; exact Reals.real_of_abs_lt (by pointwise at h; exact h)
  obtain ⟨u, hu⟩ := Reals.add_isReal (h0 (ix2 a b)) (h1 (ix2 a b))
  obtain ⟨y, hy⟩ := Reals.add_isReal (h2 (ix2 a b)) (Reals.mul_isReal (h4 (ix1 b)) (h3 (ix2 a b)))
  unfold gY gradY arg
  rw [hu, hy, chain_eq]

/-- The claim: both programs write the same three arrays. -/
theorem algebraic : Cert.algebraic_GeluIdeal_GeluRefIdeal_pre_finite_gelu (hPre_finite_gelu := Cert.Pre_finite_gelu.Gen.facts) := by
  intro m g m' g' hpre hm
  have e : ∀ c a b, cY m' c a b = gY m c a b := fun c a b => by
    refine Eq.trans ?_ (agree m hpre c a b)
    unfold cY arg rA rB rYS rH rD
    rw [(hm c).1, (hm c).2.1, (hm c).2.2.1, (hm c).2.2.2.1, (hm c).2.2.2.2]
  refine ⟨_, _, _, (θ_run _ _ _).mono (fun r h c => ⟨(h c).1.trans (y_eq m c), (h c).2.1.trans (h_eq m c), (h c).2.2.1.trans (d_eq m c),
      (h c).2.2.2⟩) (Cert.GeluIdeal.Value.run_blocks m g),
    (θ_run _ _ _).mono (fun r h c => ⟨(h c).1.trans ((ry_eq m' c).trans ?_), (h c).2.1.trans ((rh_eq m' c).trans ?_),
      (h c).2.2.1.trans ((rd_eq m' c).trans ?_), (h c).2.2.2⟩) (Cert.GeluRefIdeal.Value.run_blocks m' g')⟩
  · refine funext fun i => ?_
    idx_vars i
    exact e c _ _
  · refine funext fun i => ?_
    idx_vars i
    refine (mul_comm _ _).trans (congrArg₂ (fun x y : EReal => x * y) (e c _ _) (congrFun (hm c).2.2.2.2 _))
  · refine funext fun i => ?_
    idx_vars i
    exact Finset.sum_congr rfl fun a _ => congrArg₂ (fun x y : EReal => x * y) (e c _ _) (congrFun (hm c).2.2.2.1 _)

end Cert.GeluProof
end
-- ==== Proof.FlashBody.lean ====
/- What the body of the attention's forward kernel leaves in its result blocks, as a walk over the 33 chunks of 256 keys: the scores of a
   chunk, the running maximum of a row and the running sum of the weighted values. -/
module

public import proofs.«01_k».proof.Proof.Gen.FlashIdeal.Frame

@[expose] public section

set_option maxRecDepth 16384

noncomputable section

namespace Cert.FlashProof

open Idealize.ShloMosaic Idealize.ShloMosaic.TcCoe Idealize.ShloMosaic.Tactic
open Cert.FlashIdeal Cert.FlashIdeal.Gen

variable {F : FTy → Type} [FloatOps F] [Named F]

/-! ## The loads -/

theorem inb_keys (n : ℕ) (a : Fin 3) : (![0, n % 33 * 256, 0] : Fin 3 → Nat) a + S1x256x64.size a ≤ S1x8448x64.size a := by
  fin_cases a <;> simp [S1x256x64, S1x8448x64] <;> omega

theorem inb_vals (n : ℕ) (a : Fin 3) : (![0, n % 33 * 256, 0] : Fin 3 → Nat) a + S1x256x128.size a ≤ S1x8448x128.size a := by
  fin_cases a <;> simp [S1x256x128, S1x8448x128] <;> omega

theorem inb_head (h : ℕ) (a : Fin 3) : (![h % 2, 0, 0] : Fin 3 → Nat) a + S1x768x64.size a ≤ S2x768x64.size a := by
  fin_cases a <;> simp [S1x768x64, S2x768x64] <;> omega

/-- Chunk `n` of the keys. -/
def keysOf (x : Vec F S1x8448x64 .bf16) (n : ℕ) : Vec F S1x256x64 .bf16 :=
  View.ld x (Rect.unit (s := S1x8448x64) ![0, n % 33 * 256, 0] S1x256x64.size (inb_keys n))

/-- Chunk `n` of the values with their column of ones. -/
def valsOf (x : Vec F S1x8448x128 .bf16) (n : ℕ) : Vec F S1x256x128 .bf16 :=
  View.ld x (Rect.unit (s := S1x8448x128) ![0, n % 33 * 256, 0] S1x256x128.size (inb_vals n))

/-- The queries of one of the two heads. -/
def headOf (x : Vec F S2x768x64 .bf16) (h : ℕ) : Vec F S1x768x64 .bf16 :=
  View.ld x (Rect.unit (s := S2x768x64) ![h % 2, 0, 0] S1x768x64.size (inb_head h))

/-! ## The walk -/

section Walk
variable (ks : ℕ → Vec F S1x256x64 .bf16) (vs : ℕ → Vec F S1x256x128 .bf16) (q : Vec F S1x768x64 .bf16)

/-- The scores of chunk `n`; in the first chunk those of the PAD keys are masked. -/
def score : ℕ → FVec F S768x256 .f32
  | 0 => k0_pay6 (ks 0) q
  | n + 1 => k0_pay12 (ks (n + 1)) q

/-- The largest score of a row in the first `n` chunks. -/
def mx : ℕ → FVec F S768x1 .f32
  | 0 => k0_pay2
  | n + 1 => k0_pay10 (mx n) (score ks q n)

/-- The weighted sum of the values of the first `n` chunks, the weights relative to the largest score. -/
def acc : ℕ → FVec F S768x128 .f32
  | 0 => k0_pay4
  | n + 1 => k0_pay11 (mx ks q n) (acc n) (score ks q n) (vs n)

end Walk

/-- A sum of weighted values divided by the sum of the weights, its column 64. -/
def quot (a : FVec F S768x128 .f32) : FVec F S768x64 .f32 :=
  divf (extractStridedSlice S768x64 ![0, 0] a slices_S768x128_o0_0_S768x64)
    (broadcastTo S768x64 (extractStridedSlice S768x1 ![0, 64] a slices_S768x128_o0_64_S768x1) broadcasts_S768x1_S768x64)

section Run
variable (x0 : Vec F S2x768x64 .bf16) (x1 : Vec F S1x8448x64 .bf16) (x2 : Vec F S1x8448x128 .bf16)

/-- The averaged values of the two heads side by side. -/
def heads : FVec F S768x128 .f32 :=
  concatenate S768x128 1 [⟨S768x64, quot (acc (keysOf x1) (valsOf x2) (headOf x0 0) 33)⟩, ⟨S768x64, quot (acc (keysOf x1) (valsOf x2) (headOf x0 1) 33)⟩]
    concatenates_S768x64_S768x64_S768x128_d1

/-- The base-2 log-sums of the two heads side by side. -/
def sums : FVec F S1x768x2 .f32 :=
  k0_pay1 (mx (keysOf x1) (headOf x0 0) 33) (mx (keysOf x1) (headOf x0 1) 33)
    (extractStridedSlice S768x1 ![0, 64] (acc (keysOf x1) (valsOf x2) (headOf x0 1) 33) slices_S768x128_o0_64_S768x1)
    (log (extractStridedSlice S768x1 ![0, 64] (acc (keysOf x1) (valsOf x2) (headOf x0 0) 33) slices_S768x128_o0_64_S768x1))
    (Named.named κ "inv_log2" 0x3FB8AA3B#32)

theorem out3_eq : out0_3 x0 x1 x2 = View.canon [⟨r0_68, heads x0 x1 x2⟩] := by
  sl_kernel_rfl

theorem out4_eq : out0_4 x0 x1 x2 = View.canon [⟨r0_68, truncf .bf16 (heads x0 x1 x2) bitsLt_bf16_f32⟩] := by
  sl_kernel_rfl

theorem out5_eq : out0_5 x0 x1 x2 = View.canon [⟨r0_69, sums x0 x1 x2⟩] := by
  sl_kernel_rfl

end Run

end Cert.FlashProof

end
-- ==== Proof.SoftmaxWalk.lean ====
/- A row of a softmax summed chunk by chunk with a running maximum, over the extended reals and in base 2. The maximum starts at minus
   infinity and the sum at zero; after the first chunk, which holds unmasked keys, the maximum is a real `m` and the sum is `2 ^ (-m)` times
   the sum of the weighted values, whatever `m` is. -/
module

public import proofs.«01_k».proof.Proof.SoftmaxRow

@[expose] public section

noncomputable section

namespace Cert.Softmax

open Idealize.ShloMosaic Cert.Reals

theorem exp2_real (x : ℝ) : Ideal.exp2 (x : EReal) = (((2 : ℝ) ^ x : ℝ) : EReal) := rfl

/-- The scores of chunk `n`: in the first chunk the keys below 240 are masked. -/
def chunkScore (t : ℕ → Fin 256 → ℝ) (n : ℕ) (j : Fin 256) : EReal := if n = 0 ∧ j.val < 240 then ⊥ else (t n j : EReal)

/-- The weight of a key, not relative to any maximum. -/
def chunkWeight (t : ℕ → Fin 256 → ℝ) (n : ℕ) (j : Fin 256) : ℝ := if n = 0 ∧ j.val < 240 then 0 else (2 : ℝ) ^ t n j

/-- The running maximum after `n` chunks. -/
def runMax (s : ℕ → Fin 256 → EReal) : ℕ → EReal
  | 0 => ⊥
  | n + 1 => max (runMax s n) (Finset.univ.fold max ⊥ (s n))

/-- The running sum after `n` chunks. -/
def runSum (s v : ℕ → Fin 256 → EReal) : ℕ → EReal
  | 0 => 0
  | n + 1 => Ideal.exp2 (runMax s n - runMax s (n + 1)) * runSum s v n + ∑ j, Ideal.exp2 (s n j - runMax s (n + 1)) * v n j

/-- The sum of the weighted values of the first `n` chunks. -/
def total (t v : ℕ → Fin 256 → ℝ) (n : ℕ) : ℝ := ∑ k ∈ Finset.range n, ∑ j, chunkWeight t k j * v k j

theorem chunk_max (t : ℕ → Fin 256 → ℝ) (n : ℕ) : ∃ r : ℝ, Finset.univ.fold max ⊥ (chunkScore t n) = (r : EReal) := by
  refine fold_max_real _ _ (fun j _ => ?_) (Finset.mem_univ (255 : Fin 256)) ?_
  · unfold chunkScore; split
    · exact bot_ne_top
    · exact EReal.coe_ne_top _
  · unfold chunkScore
    rw [if_neg (by rintro ⟨-, h⟩; exact absurd h (by decide))]
    exact EReal.coe_ne_bot _

theorem runMax_real (t : ℕ → Fin 256 → ℝ) (n : ℕ) : ∃ r : ℝ, runMax (chunkScore t) (n + 1) = (r : EReal) := by
  obtain ⟨b, hb⟩ := chunk_max t n
  cases n with
  | zero => exact ⟨b, by rw [runMax, runMax, hb, max_eq_right bot_le]⟩
  | succ n =>
    obtain ⟨a, ha⟩ := runMax_real t n
    exact ⟨max a b, by rw [runMax, ha, hb]; exact EReal.coe_strictMono.monotone.map_max.symm⟩

theorem weight_eq (t : ℕ → Fin 256 → ℝ) (n : ℕ) (j : Fin 256) (m : ℝ) :
    Ideal.exp2 (chunkScore t n j - (m : EReal)) = (((2 : ℝ) ^ (-m) * chunkWeight t n j : ℝ) : EReal) := by
  unfold chunkScore chunkWeight
  split
  · rw [EReal.bot_sub, Ideal.exp2_bot, mul_zero, EReal.coe_zero]
  · rw [← EReal.coe_sub, exp2_real, ← Real.rpow_add two_pos, show -m + t n j = t n j - m by ring]

theorem chunk_sum (t v : ℕ → Fin 256 → ℝ) (n : ℕ) (m : ℝ) :
    ∑ j, Ideal.exp2 (chunkScore t n j - (m : EReal)) * (v n j : EReal)
      = (((2 : ℝ) ^ (-m) * ∑ j, chunkWeight t n j * v n j : ℝ) : EReal) := by
  rw [Finset.mul_sum, ← sum_real]
  refine Finset.sum_congr rfl fun j _ => ?_
  rw [weight_eq, ← EReal.coe_mul, mul_assoc]

theorem runSum_real (t v : ℕ → Fin 256 → ℝ) (n : ℕ) (m : ℝ) (hm : runMax (chunkScore t) (n + 1) = (m : EReal)) :
    runSum (chunkScore t) (fun k j => (v k j : EReal)) (n + 1) = (((2 : ℝ) ^ (-m) * total t v (n + 1) : ℝ) : EReal) := by
  unfold runSum total
  rw [hm, chunk_sum, Finset.sum_range_succ]
  cases n with
  | zero =>
    rw [runSum, mul_zero, zero_add, Finset.sum_range_zero, zero_add]
  | succ n =>
    obtain ⟨a, ha⟩ := runMax_real t n
    rw [ha, runSum_real t v n a ha, ← EReal.coe_sub, exp2_real, ← EReal.coe_mul, ← EReal.coe_add, total]
    congr 1
    rw [mul_add, ← mul_assoc, ← Real.rpow_add two_pos, show a - m + -a = -m by ring]

/-- The chunks of 256 keys make up the 8448 padded keys. -/
theorem total_rows (t v : ℕ → Fin 256 → ℝ) (z w : Fin 8208 → ℝ)
    (ht : ∀ (n : ℕ) (j : Fin 256) (r : Fin 8208), n * 256 + j.val = 240 + r.val → t n j = z r)
    (hv : ∀ (n : ℕ) (j : Fin 256) (r : Fin 8208), n * 256 + j.val = 240 + r.val → v n j = w r) :
    total t v 33 = ∑ r, (2 : ℝ) ^ z r * w r := by
  have e : ∑ r : Fin 8448, (if h : 240 ≤ r.val then (2 : ℝ) ^ z (down r h) * w (down r h) else 0) = ∑ r, (2 : ℝ) ^ z r * w r := by
    rw [← EReal.coe_eq_coe_iff, ← sum_real]
    refine sum_up_real _ _ (fun r h => ?_) fun j => ?_
    · rw [dif_neg (by omega), EReal.coe_zero]
    · rw [dif_pos (Nat.le_add_right 240 j.val), down_up]
  rw [← e, total, Finset.sum_range, ← Finset.sum_product', ← (finProdFinEquiv (m := 33) (n := 256)).sum_comp]
  refine Finset.sum_congr rfl fun p _ => ?_
  obtain ⟨n, j⟩ := p
  have hp : (finProdFinEquiv (n, j) : Fin (33 * 256)).val = j.val + 256 * n.val := rfl
  show chunkWeight t n.val j * v n.val j = _
  have hr : ∀ r : Fin 8448, r.val = n.val * 256 + j.val →
      chunkWeight t n.val j * v n.val j = (if h : 240 ≤ r.val then (2 : ℝ) ^ z (down r h) * w (down r h) else 0) := fun r hr => by
    unfold chunkWeight
    by_cases h : 240 ≤ r.val
    · rw [dif_pos h, if_neg (by omega), ht n.val j (down r h) (by show _ = 240 + (r.val - 240); omega),
        hv n.val j (down r h) (by show _ = 240 + (r.val - 240); omega)]
    · rw [dif_neg h, if_pos (by omega), zero_mul]
  exact hr _ (by omega)

/-- The quotient of two running sums is the quotient of the sums of the weighted values. -/
theorem run_quotient (t v u : ℕ → Fin 256 → ℝ) (hu : 0 < total t u 33) :
    Ideal.div (runSum (chunkScore t) (fun k j => (v k j : EReal)) 33) (runSum (chunkScore t) (fun k j => (u k j : EReal)) 33)
      = ((total t v 33 / total t u 33 : ℝ) : EReal) := by
  obtain ⟨m, hm⟩ := runMax_real t 32
  have hp : (0 : ℝ) < (2 : ℝ) ^ (-m) := Real.rpow_pos_of_pos two_pos _
  rw [runSum_real t v 32 m hm, runSum_real t u 32 m hm, div_real (mul_pos hp hu).ne', mul_div_mul_left _ _ hp.ne']

/-- The maximum plus the base-2 logarithm of the running sum is that of the sum of the weights. -/
theorem run_lse (t u : ℕ → Fin 256 → ℝ) (hu : 0 < total t u 33) :
    runMax (chunkScore t) 33 + Ideal.log (runSum (chunkScore t) (fun k j => (u k j : EReal)) 33) * ((ln2⁻¹ : ℝ) : EReal)
      = ((Real.log (total t u 33) / ln2 : ℝ) : EReal) := by
  obtain ⟨m, hm⟩ := runMax_real t 32
  have hp : (0 : ℝ) < (2 : ℝ) ^ (-m) := Real.rpow_pos_of_pos two_pos _
  rw [runSum_real t u 32 m hm, hm, Ideal.log_coe, if_neg (not_le.mpr (mul_pos hp hu)), ← EReal.coe_mul, ← EReal.coe_add,
    Real.log_mul hp.ne' hu.ne', Real.log_rpow two_pos]
  congr 1
  have := ln2_ne
  field_simp
  ring

end Cert.Softmax
end
-- ==== Proof.FlashPoint.lean ====
/- The two result blocks of one grid point of the attention's forward kernel, read entry by entry: each row is the walk of `SoftmaxWalk`. -/
module

public import proofs.«01_k».proof.Proof.FlashBody
public import proofs.«01_k».proof.Proof.SoftmaxWalk
public import Idealize.ShloMosaic.Lib.Pipeline.ValueKit

@[expose] public section

set_option maxRecDepth 16384

noncomputable section

namespace Cert.FlashProof

open Idealize.ShloMosaic Idealize.ShloMosaic.TcCoe Idealize.ShloMosaic.Tactic
open Cert.FlashIdeal Cert.FlashIdeal.Gen Cert.Softmax

theorem named_mask : Named.named (F := Ideal) κ "mask" (φ := .f32) 0xF149F2CA#32 = (⊥ : EReal) := by simp [Named.named, κ]
theorem named_log : Named.named (F := Ideal) κ "inv_log2" (φ := .f32) 0x3FB8AA3B#32 = ((ln2⁻¹ : ℝ) : EReal) := by simp [Named.named, κ]
theorem zero_word : Ideal.ofBits .f32 0#32 = (0 : EReal) := by simp [Ideal.ofBits, Ideal.ieee]
theorem bot_word : Ideal.ofBits .f32 4286578688#32 = (⊥ : EReal) := by simp [Ideal.ofBits, Ideal.ieee]

theorem chunk_iff (r : Fin 256) : IntOp.cmpi CmpIPredicate.sge (BitVec.ofNat 32 r.val) 240#32 = 1 ↔ 240 ≤ r.val :=
  (by decide +kernel : ∀ x : Fin 256, IntOp.cmpi CmpIPredicate.sge (BitVec.ofNat 32 x.val) 240#32 = 1 ↔ 240 ≤ x.val) r

/-! ## The loads -/

theorem keysOf_apply (x : Vec Ideal S1x8448x64 .bf16) (n : ℕ) (j : Fin 256) (d : Fin 64) :
    keysOf x n (ix3 0 j d) = x (ix3 0 ⟨n % 33 * 256 + j.val, by omega⟩ d) := by
  unfold keysOf
  refine congrArg x (funext fun a => Fin.ext ?_)
  fin_cases a <;> simp

theorem valsOf_apply (x : Vec Ideal S1x8448x128 .bf16) (n : ℕ) (j : Fin 256) (d : Fin 128) :
    valsOf x n (ix3 0 j d) = x (ix3 0 ⟨n % 33 * 256 + j.val, by omega⟩ d) := by
  unfold valsOf
  refine congrArg x (funext fun a => Fin.ext ?_)
  fin_cases a <;> simp

theorem headOf_apply (x : Vec Ideal S2x768x64 .bf16) (h : Fin 2) (r : Fin 768) (d : Fin 64) :
    headOf x h.val (ix3 0 r d) = x (ix3 h r d) := by
  unfold headOf
  refine congrArg x (funext fun a => Fin.ext ?_)
  have := h.isLt
  fin_cases a <;> simp <;> omega

/-! ## One step of the walk -/

section Step
variable (k : Vec Ideal S1x256x64 .bf16) (q : Vec Ideal S1x768x64 .bf16) (v : Vec Ideal S1x256x128 .bf16)
  (s : FVec Ideal S768x256 .f32) (mo : FVec Ideal S768x1 .f32) (ao : FVec Ideal S768x128 .f32)

theorem first_at (r : Fin 768) (j : Fin 256) :
    k0_pay6 k q (ix2 r j) = if j.val < 240 then ⊥ else ∑ d : Fin 64, (q (ix3 0 r d) * k (ix3 0 j d) : EReal) := by
  pointwise [k0_pay6]
  have e := chunk_iff j
  by_cases hj : 240 ≤ j.val
  · rw [if_neg (by omega), Scalar.select, if_pos (e.mpr hj)]
  · rw [if_pos (by omega), Scalar.select, if_neg (fun h => hj (e.mp h)), named_mask]

theorem plain_at (r : Fin 768) (j : Fin 256) : k0_pay12 k q (ix2 r j) = ∑ d : Fin 64, (q (ix3 0 r d) * k (ix3 0 j d) : EReal) := by
  pointwise [k0_pay12]

theorem max_step_at (r : Fin 768) :
    k0_pay10 mo s (ix2 r 0) = max (mo (ix2 r 0)) (Finset.univ.fold max ⊥ fun j : Fin 256 => (s (ix2 r j) : EReal)) := by
  pointwise [k0_pay10]
  rw [bot_word]

theorem sum_step_at (r : Fin 768) (d : Fin 128) :
    k0_pay11 mo ao s v (ix2 r d)
      = Ideal.exp2 (mo (ix2 r 0) - k0_pay10 mo s (ix2 r 0)) * ao (ix2 r d)
        + ∑ j : Fin 256, (Ideal.exp2 (s (ix2 r j) - k0_pay10 mo s (ix2 r 0)) * v (ix3 0 j d) : EReal) := by
  pointwise [k0_pay11]
  rfl

end Step

/-! ## The walk of one row -/

section Row
variable (ks : ℕ → Vec Ideal S1x256x64 .bf16) (vs : ℕ → Vec Ideal S1x256x128 .bf16) (q : Vec Ideal S1x768x64 .bf16) (r : Fin 768) (t : ℕ → Fin 256 → ℝ)
  (ht : ∀ n j, ∑ d : Fin 64, (q (ix3 0 r d) * ks n (ix3 0 j d) : EReal) = (t n j : EReal))
include ht

theorem score_row (n : ℕ) (j : Fin 256) : score ks q n (ix2 r j) = chunkScore t n j := by
  unfold chunkScore
  cases n with
  | zero =>
    show k0_pay6 (ks 0) q (ix2 r j) = _
    rw [first_at, ht]
    exact if_congr (by simp) rfl rfl
  | succ n =>
    show k0_pay12 (ks (n + 1)) q (ix2 r j) = _
    rw [plain_at, ht, if_neg fun h => Nat.succ_ne_zero n h.1]

theorem mx_row (n : ℕ) : mx ks q n (ix2 r 0) = runMax (chunkScore t) n := by
  induction n with
  | zero => exact named_mask
  | succ n ih =>
    rw [mx, max_step_at, ih, runMax]
    exact congrArg (max _) (congrArg (fun f => Finset.univ.fold max ⊥ f) (funext fun j => score_row ks q r t ht n j))

theorem acc_row (n : ℕ) (d : Fin 128) : acc ks vs q n (ix2 r d) = runSum (chunkScore t) (fun k j => vs k (ix3 0 j d)) n := by
  induction n with
  | zero => exact zero_word
  | succ n ih =>
    have e : k0_pay10 (mx ks q n) (score ks q n) (ix2 r 0) = runMax (chunkScore t) (n + 1) := mx_row ks q r t ht (n + 1)
    rw [acc, sum_step_at, ih, e, mx_row ks q r t ht n, runSum]
    exact congrArg (_ + · : EReal → EReal) (Finset.sum_congr rfl fun j _ => by rw [score_row ks q r t ht n j])

end Row

/-! ## The result blocks -/

theorem quot_at (a : FVec Ideal S768x128 .f32) (r : Fin 768) (d : Fin 64) :
    quot a (ix2 r d) = Ideal.div (a (ix2 r ⟨d.val, by omega⟩)) (a (ix2 r 64)) := by
  pointwise [quot]

theorem side_at (f : Fin 2 → FVec Ideal S768x64 .f32) (r : Fin 768) (e : Fin 2) (d : Fin 64) :
    concatenate S768x128 1 [⟨S768x64, f 0⟩, ⟨S768x64, f 1⟩] concatenates_S768x64_S768x64_S768x128_d1 (ix2 r ⟨e.val * 64 + d.val, by omega⟩)
      = f e (ix2 r d) := by
  fin_cases e <;> pointwise <;> rfl

theorem lse_at (f l : Fin 2 → FVec Ideal S768x1 .f32) (r : Fin 768) (e : Fin 2) :
    k0_pay1 (f 0) (f 1) (l 1) (log (l 0)) (Named.named κ "inv_log2" 0x3FB8AA3B#32) (ix3 0 r e)
      = f e (ix2 r 0) + Ideal.log (l e (ix2 r 0)) * ((ln2⁻¹ : ℝ) : EReal) := by
  fin_cases e <;> pointwise [k0_pay1] <;> rw [named_log] <;> rfl

theorem column_at (a : FVec Ideal S768x128 .f32) (r : Fin 768) :
    extractStridedSlice S768x1 ![0, 64] a slices_S768x128_o0_64_S768x1 (ix2 r 0) = a (ix2 r 64) := by
  pointwise

attribute [local irreducible] mx acc

section Block
variable (x0 : Vec Ideal S2x768x64 .bf16) (x1 : Vec Ideal S1x8448x64 .bf16) (x2 : Vec Ideal S1x8448x128 .bf16) (r : Fin 768) (e : Fin 2)
  (t u : ℕ → Fin 256 → ℝ)
  (ht : ∀ n j, ∑ d : Fin 64, (headOf x0 e.val (ix3 0 r d) * keysOf x1 n (ix3 0 j d) : EReal) = (t n j : EReal))
  (hu : ∀ n j, (valsOf x2 n (ix3 0 j 64) : EReal) = (u n j : EReal)) (hp : 0 < total t u 33)
include ht hu hp

theorem quot_row (d : Fin 64) (v : ℕ → Fin 256 → ℝ) (hv : ∀ n j, (valsOf x2 n (ix3 0 j ⟨d.val, by omega⟩) : EReal) = (v n j : EReal)) :
    quot (acc (keysOf x1) (valsOf x2) (headOf x0 e.val) 33) (ix2 r d) = ((total t v 33 / total t u 33 : ℝ) : EReal) := by
  rw [quot_at, acc_row _ _ _ r t ht, acc_row _ _ _ r t ht, funext fun n => funext fun j => hv n j, funext fun n => funext fun j => hu n j]
  exact run_quotient t v u hp

theorem heads_row (d : Fin 64) (v : ℕ → Fin 256 → ℝ) (hv : ∀ n j, (valsOf x2 n (ix3 0 j ⟨d.val, by omega⟩) : EReal) = (v n j : EReal)) :
    heads x0 x1 x2 (ix2 r ⟨e.val * 64 + d.val, by omega⟩) = ((total t v 33 / total t u 33 : ℝ) : EReal) := by
  exact (side_at (fun e => quot (acc (keysOf x1) (valsOf x2) (headOf x0 e.val) 33)) r e d).trans (quot_row x0 x1 x2 r e t u ht hu hp d v hv)

theorem sums_row : sums x0 x1 x2 (ix3 0 r e) = ((Real.log (total t u 33) / ln2 : ℝ) : EReal) := by
  have h : mx (keysOf x1) (headOf x0 e.val) 33 (ix2 r 0)
      + Ideal.log (acc (keysOf x1) (valsOf x2) (headOf x0 e.val) 33 (ix2 r 64)) * ((ln2⁻¹ : ℝ) : EReal) = ((Real.log (total t u 33) / ln2 : ℝ) : EReal) := by
    rw [mx_row _ _ r t ht, acc_row _ _ _ r t ht, funext fun n => funext fun j => hu n j]
    exact run_lse t u hp
  refine (lse_at (fun e => mx (keysOf x1) (headOf x0 e.val) 33)
    (fun e => extractStridedSlice S768x1 ![0, 64] (acc (keysOf x1) (valsOf x2) (headOf x0 e.val) 33) slices_S768x128_o0_64_S768x1) r e).trans ?_
  rw [column_at]
  exact h

end Block

end Cert.FlashProof
end
-- ==== Proof.FlashHost.lean ====
/- The host lines before the attention's forward kernel: what its operands hold. -/
module

public import proofs.«01_k».proof.Proof.FlashPoint
public import Idealize.ShloMosaic.Lib.Routing.OpsSet
public import Idealize.ShloMosaic.Lib.Routing.OpsPair

@[expose] public section

set_option maxRecDepth 16384

noncomputable section

namespace Cert.FlashProof

open Cert.FlashIdeal Cert.FlashIdeal.Gen Idealize.ShloMosaic Idealize.ShloMosaic.TcCoe
open Idealize.ShloMosaic.Tactic Idealize.ShloMosaic.Routing Cert.Reals Cert.Softmax

/-- The query-wide rows padded and split into 16 heads. -/
def heads16 (x : FVec Ideal S8208x1024 .f32) : FVec Ideal S16x8448x64 .bf16 :=
  transpose S16x8448x64 [1, 0, 2]
    (shapeCast S8448x16x64 (truncf .bf16 (pad S8448x1024 ![240, 0] ![0, 0] ![0, 0] x (sitofp .f32 (constantI S_ 32 0#32))
      pads_S8208x1024_S8448x1024_24000_000 h_S_) bitsLt_bf16_f32) shapeCasts_S8448x1024_S8448x16x64)
    transposes_S8448x16x64_S16x8448x64_1_0_2

/-- The key-wide rows padded and split into 4 heads. -/
def heads4 (x : FVec Ideal S8208x256 .f32) : FVec Ideal S4x8448x64 .bf16 :=
  transpose S4x8448x64 [1, 0, 2]
    (shapeCast S8448x4x64 (truncf .bf16 (pad S8448x256 ![240, 0] ![0, 0] ![0, 0] x (sitofp .f32 (constantI S_ 32 0#32))
      pads_S8208x256_S8448x256_24000_000 h_S_) bitsLt_bf16_f32) shapeCasts_S8448x256_S8448x4x64)
    transposes_S8448x4x64_S4x8448x64_1_0_2

/-- The queries scaled by `HD ** -0.5 / log 2`. -/
def scaled (x : FVec Ideal S8208x1024 .f32) : FVec Ideal S8208x1024 .f32 :=
  mulf x (broadcastInDim S8208x1024 ![] bcast_S_S8208x1024 (Host.divf (constant S_ .f32 0x3E000000#32) (Host.log (constant S_ .f32 0x40000000#32))))

/-- Zeros with ones in column 0. -/
def onesCol : FVec Ideal S4x8448x64 .bf16 :=
  Host.scatter scatter_S4x8448x64_S1_S4x8448_01_2_2_0 (fun _ b => b) (broadcastInDim S4x8448x64 ![] bcast_S_S4x8448x64 (constant S_ .bf16 0x0000#16 : FVec Ideal S_ .bf16))
    (broadcastInDim S1 ![] bcast_S_S1 (constantI S_ 32 0#32)) (broadcastInDim S4x8448 ![] bcast_S_S4x8448 (constant S_ .bf16 0x3F80#16 : FVec Ideal S_ .bf16))

/-- The values with the ones beside them. -/
def withOnes (v : FVec Ideal S4x8448x64 .bf16) : FVec Ideal S4x8448x128 .bf16 :=
  concatenate S4x8448x128 2 [⟨S4x8448x64, v⟩, ⟨S4x8448x64, onesCol⟩] concatenates_S4x8448x64_S4x8448x64_S4x8448x128_d2

variable (m : (ℓ : Loc nD τ sig) → Buf (Elt Ideal) ℓ) (c : Dev nD)

abbrev argQ : FVec Ideal S8208x1024 .f32 := m ((c.tc : Thread nD τ).loc main_arg0)
abbrev argK : FVec Ideal S8208x256 .f32 := m ((c.tc : Thread nD τ).loc main_arg1)
abbrev argV : FVec Ideal S8208x256 .f32 := m ((c.tc : Thread nD τ).loc main_arg2)

theorem V_q : (V m c main_v7 : FVec Ideal S16x8448x64 .bf16) = heads16 (scaled (argQ m c)) := by
  simp only [V, hostOps0, hostOps0_1, hostOps0_2, hostOps0_3, hostOps0_4, hostOps0_5, hostOps0_6, List.flatten_cons, List.flatten_nil, List.append_nil, List.cons_append, List.nil_append]
  entry_read
  rfl

theorem V_k : (V m c main_v11 : FVec Ideal S4x8448x64 .bf16) = heads4 (argK m c) := by
  simp only [V, hostOps0, hostOps0_1, hostOps0_2, hostOps0_3, hostOps0_4, hostOps0_5, hostOps0_6, List.flatten_cons, List.flatten_nil, List.append_nil, List.cons_append, List.nil_append]
  entry_read
  rfl

theorem V_v : (V m c main_v20 : FVec Ideal S4x8448x128 .bf16) = withOnes (heads4 (argV m c)) := by
  simp only [V, hostOps0, hostOps0_1, hostOps0_2, hostOps0_3, hostOps0_4, hostOps0_5, hostOps0_6, List.flatten_cons, List.flatten_nil, List.append_nil, List.cons_append, List.nil_append]
  entry_read
  rfl

/-! ## The operands at an index -/

theorem eighth_word : Ideal.ofBits .f32 1040187392#32 = ((1 / 8 : ℝ) : EReal) := by simp [Ideal.ofBits, Ideal.ieee, -EReal.coe_mul]; norm_num
theorem two_word : Ideal.ofBits .f32 1073741824#32 = ((2 : ℝ) : EReal) := by simp [Ideal.ofBits, Ideal.ieee, -EReal.coe_mul]; norm_num
theorem one_word : Ideal.ofBits .bf16 16256#16 = ((1 : ℝ) : EReal) := by simp [Ideal.ofBits, Ideal.ieee, -EReal.coe_mul]; norm_num
theorem zero_int : (FloatOps.sitofp (F := Ideal) FTy.f32 (0#32 : BitVec 32) : EReal) = 0 := by
  show (((0#32 : BitVec 32).toInt : ℝ) : EReal) = 0
  simp

/-- The columns of a head. -/
abbrev col16 (h : Fin 16) (d : Fin 64) : Fin 1024 := ⟨h.val * 64 + d.val, by omega⟩
abbrev col4 (g : Fin 4) (d : Fin 64) : Fin 256 := ⟨g.val * 64 + d.val, by omega⟩

/-- The key head that a query head reads. -/
abbrev keyHead (h : Fin 16) : Fin 4 := ⟨h.val / 4, by omega⟩

theorem heads16_at (x : FVec Ideal S8208x1024 .f32) (h : Fin 16) (r : Fin 8448) (d : Fin 64) :
    heads16 x (ix3 h r d) = if hr : 240 ≤ r.val then x (ix2 (down r hr) (col16 h d)) else 0 := by
  pointwise [heads16]
  by_cases hr : 240 ≤ r.val
  · rw [dif_pos ⟨⟨hr, by omega⟩, by omega⟩, dif_pos hr]
  · rw [dif_neg fun e => hr e.1.1, dif_neg hr]; exact zero_int

theorem heads4_at (x : FVec Ideal S8208x256 .f32) (h : Fin 4) (r : Fin 8448) (d : Fin 64) :
    heads4 x (ix3 h r d) = if hr : 240 ≤ r.val then x (ix2 (down r hr) (col4 h d)) else 0 := by
  pointwise [heads4]
  by_cases hr : 240 ≤ r.val
  · rw [dif_pos ⟨⟨hr, by omega⟩, by omega⟩, dif_pos hr]
  · rw [dif_neg fun e => hr e.1.1, dif_neg hr]; exact zero_int

theorem scaled_at (x : FVec Ideal S8208x1024 .f32) (n : Fin 8208) (d : Fin 1024) :
    scaled x (ix2 n d) = x (ix2 n d) * ((1 / 8 / ln2 : ℝ) : EReal) := by
  pointwise [scaled]
  rw [eighth_word, two_word, log_two, div_real ln2_ne]

theorem lands_start (j : S4x8448.Idx) (a : Fin 3) :
    scatter_S4x8448x64_S1_S4x8448_01_2_2_0.start j (broadcastInDim S1 ![] bcast_S_S1 (constantI S_ 32 0#32)) a = 0 := by
  fin_cases a <;> rfl

theorem lands_window (g : Fin 4) (r : Fin 8448) (a : Fin 3) :
    scatter_S4x8448x64_S1_S4x8448_01_2_2_0.window (ix2 g r) a = (ix3 g r (0 : Fin 64) a).val := by
  fin_cases a <;> rfl

theorem onesCol_at (g : Fin 4) (r : Fin 8448) : onesCol (ix3 g r 0) = ((1 : ℝ) : EReal) := by
  refine scatter_set_hit _ _ _ _ _ _ (fun k _ => one_word) (ix2 g r) ?_
  rw [resultIdx?_eq_some]
  intro a
  rw [lands_start, lands_window, zero_add]

theorem withOnes_val (v : FVec Ideal S4x8448x64 .bf16) (g : Fin 4) (r : Fin 8448) (d : Fin 64) :
    withOnes v (ix3 g r ⟨d.val, by omega⟩) = v (ix3 g r d) := by
  pointwise [withOnes]

theorem withOnes_one (v : FVec Ideal S4x8448x64 .bf16) (g : Fin 4) (r : Fin 8448) : withOnes v (ix3 g r 64) = ((1 : ℝ) : EReal) := by
  pointwise [withOnes]
  exact onesCol_at g r

end Cert.FlashProof
end
-- ==== Proof.FlashRef.lean ====
/- What the attention's reference computes: the average of the values under the softmax weights, and the logarithm in base 2 of a row's sum. -/
module

public import proofs.«01_k».proof.Proof.FlashHost
public import proofs.«01_k».proof.Proof.Gen.FlashRefIdeal.Read

@[expose] public section

set_option maxRecDepth 16384

noncomputable section

namespace Cert.FlashProof

open Idealize.ShloMosaic Idealize.ShloMosaic.TcCoe Cert.Reals Cert.Softmax

/-- Query head `hh` of the four that read key head `g`. -/
abbrev headAt (g hh : Fin 4) : Fin 16 := ⟨4 * g.val + hh.val, by omega⟩

/-- The queries with zeros for the padding. -/
def padded (q : Fin 8208 → Fin 1024 → ℝ) (n : Fin 8448) (d : Fin 1024) : ℝ := if h : 240 ≤ n.val then q (down n h) d else 0

/-- The scaled scores. -/
def sc (q : Fin 8208 → Fin 1024 → ℝ) (k : Fin 8208 → Fin 256 → ℝ) (h : Fin 16) (n : Fin 8448) (j : Fin 8208) : ℝ :=
  (∑ x : Fin 64, k j (col4 (keyHead h) x) * padded q n (col16 h x)) * (1 / 8)

/-- The attention's output. -/
def att (q : Fin 8208 → Fin 1024 → ℝ) (k v : Fin 8208 → Fin 256 → ℝ) (h : Fin 16) (n : Fin 8448) (d : Fin 64) : ℝ :=
  ∑ j, v j (col4 (keyHead h) d) * soft (sc q k h n) j

/-- A row's log-sum in base 2. -/
def lse (q : Fin 8208 → Fin 1024 → ℝ) (k : Fin 8208 → Fin 256 → ℝ) (h : Fin 16) (n : Fin 8448) : ℝ :=
  Real.log (∑ j, Real.exp (sc q k h n j)) / ln2

theorem keyHead_headAt (g hh : Fin 4) : keyHead (headAt g hh) = g := Fin.ext (by show (4 * g.val + hh.val) / 4 = g.val; omega)
theorem col_headAt (g hh : Fin 4) (x : Fin 64) (p : g.val * 256 + hh.val * 64 + x.val < 1024) :
    (⟨g.val * 256 + hh.val * 64 + x.val, p⟩ : Fin 1024) = col16 (headAt g hh) x :=
  Fin.ext (by show g.val * 256 + hh.val * 64 + x.val = (4 * g.val + hh.val) * 64 + x.val; omega)

theorem term_congr (q : Fin 8208 → Fin 1024 → ℝ) (k v : Fin 8208 → Fin 256 → ℝ) (n : Fin 8448) (x : Fin 8208) {g g' hh hh' : Fin 4} {c c' : Fin 256}
    (hg : g' = g) (he : hh' = hh) (hc : c' = c) :
    ((v x c' * soft (sc q k (headAt g' hh') n) x : ℝ) : EReal) = ((v x c * soft (sc q k (headAt g hh) n) x : ℝ) : EReal) := by
  subst hg he hc; rfl

namespace Ref

open Cert.FlashRefIdeal Cert.FlashRefIdeal.Gen Cert.FlashRefIdeal.Read Idealize.ShloMosaic.Tactic

/-- The maximum of the last axis of any array. -/
theorem rowMax_at (A : FVec Ideal S4x4x8448x8208 .f32) (g hh : Fin 4) (n : Fin 8448) :
    Host.reduce FloatOps.maximumf A (constant S_ .f32 0xFF800000#32) reducesTo_S4x4x8448x8208_S4x4x8448_d3 h_S_ (ix3 g hh n)
      = (Finset.univ : Finset (Fin 8208)).fold max ⊥ fun x => A (ix4 g hh n x) := by
  pointwise []
  rw [bot_word]

variable {x0 : FVec Ideal S8208x1024 .f32} {x1 x2 : FVec Ideal S8208x256 .f32}
variable {q : Fin 8208 → Fin 1024 → ℝ} {k v : Fin 8208 → Fin 256 → ℝ}
variable (hq : ∀ n d, x0 (ix2 n d) = (q n d : EReal)) (hk : ∀ n d, x1 (ix2 n d) = (k n d : EReal))
  (hv : ∀ n d, x2 (ix2 n d) = (v n d : EReal))

include hq in
theorem padded_at (n : Fin 8448) (d : Fin 1024) : val_main_v0 (F := Ideal) x0 (ix2 n d) = (padded q n d : EReal) := by
  pointwise [val_main_v0, val_main_call0_v0, val_main_c]
  unfold padded
  by_cases hr : 240 ≤ n.val
  · rw [dif_pos ⟨hr, by omega⟩, dif_pos hr]; exact hq _ _
  · rw [dif_neg fun e => hr e.1, dif_neg hr]; exact zero_int

include hq hk

theorem scores_at (g hh : Fin 4) (n : Fin 8448) (s : Fin 8208) :
    val_main_v7 (F := Ideal) x0 x1 (ix4 g hh n s) = (sc q k (headAt g hh) n s : EReal) := by
  pointwise [val_main_v7, val_main_v6, val_main_cst, val_main_v5, val_main_v4, val_main_v2, val_main_v1]
  unfold sc
  rw [eighth_word, EReal.coe_mul, ← sum_real]
  refine congrArg (fun a : EReal => a * _) (Finset.sum_congr rfl fun x _ => ?_)
  rw [col_headAt, hk, padded_at hq, keyHead_headAt, ← EReal.coe_mul]

/-- The row maximum is a real: which one does not matter. -/
theorem max_real (g hh : Fin 4) (n : Fin 8448) : ∃ M : ℝ, val_main_v10 (F := Ideal) x0 x1 (ix3 g hh n) = (M : EReal) := by
  obtain ⟨M, hM⟩ := fold_max_real (Finset.univ : Finset (Fin 8208)) (fun x => val_main_v7 (F := Ideal) x0 x1 (ix4 g hh n x))
    (fun x _ => by rw [scores_at hq hk]; exact EReal.coe_ne_top _) (Finset.mem_univ ⟨0, by omega⟩) (by rw [scores_at hq hk]; exact EReal.coe_ne_bot _)
  refine ⟨M, ?_⟩
  rw [val_main_v10_apply, val_main_v9_apply, val_main_cst_1_apply]
  show max (Ideal.ofBits .f32 4286578688#32) (val_main_v8 (F := Ideal) x0 x1 (ix3 g hh n)) = _
  rw [bot_word, max_eq_right bot_le]
  exact (rowMax_at _ g hh n).trans hM

/-- A row's exponentials, with some real subtracted from all its scores. -/
theorem exp_at (g hh : Fin 4) (n : Fin 8448) :
    ∃ M : ℝ, ∀ s, val_main_v14 (F := Ideal) x0 x1 (ix4 g hh n s) = (Real.exp (sc q k (headAt g hh) n s - M) : EReal) := by
  obtain ⟨M, hM⟩ := max_real hq hk g hh n
  refine ⟨M, fun s => ?_⟩
  pointwise [val_main_v14, val_main_v13, val_main_v12, val_main_v11]
  rw [hM, scores_at hq hk, ← EReal.coe_sub, Ideal.exp_coe]

omit hq hk in
theorem sum_at {g hh : Fin 4} {n : Fin 8448} {e : Fin 8208 → ℝ} (he : ∀ s, val_main_v14 (F := Ideal) x0 x1 (ix4 g hh n s) = (e s : EReal)) :
    val_main_v15 (F := Ideal) x0 x1 (ix3 g hh n) = ((∑ s, e s : ℝ) : EReal) := by
  pointwise [val_main_v15, val_main_cst_2]
  simp only [he]
  exact sum_real _

theorem soft_at (g hh : Fin 4) (n : Fin 8448) (s : Fin 8208) :
    val_main_v18 (F := Ideal) x0 x1 (ix4 g hh n s) = (soft (sc q k (headAt g hh) n) s : EReal) := by
  obtain ⟨M, hM⟩ := exp_at hq hk g hh n
  pointwise [val_main_v18, val_main_v17, val_main_v16]
  rw [sum_at hM, hM, div_real (sum_exp_pos _).ne']
  have := soft_shift (sc q k (headAt g hh) n) 1 M s
  simp only [one_mul] at this
  rw [this]

/-- The plain log-sum of a row, in base 2. -/
theorem lse_at (g hh : Fin 4) (n : Fin 8448) : val_main_v27 (F := Ideal) x0 x1 (ix3 g hh n) = (lse q k (headAt g hh) n : EReal) := by
  have e : ∑ s, val_main_v22 (F := Ideal) x0 x1 (ix4 g hh n s) = ((∑ s, Real.exp (sc q k (headAt g hh) n s) : ℝ) : EReal) := by
    rw [← sum_real]
    refine Finset.sum_congr rfl fun s _ => ?_
    rw [val_main_v22_apply, scores_at hq hk]
    exact Ideal.exp_coe _
  pointwise [val_main_v27, val_main_v26, val_main_v25, val_main_cst_4, val_main_v24, val_main_v23, val_main_cst_3]
  rw [e, two_word, log_two, Ideal.log_coe, if_neg (not_le.mpr (sum_exp_pos _)), div_real ln2_ne, lse]

theorem lseOut_at (hp : Fin 8) (n : Fin 8448) (e : Fin 2) :
    val_main_v30 (F := Ideal) x0 x1 (ix3 hp n e) = (lse q k ⟨2 * hp.val + e.val, by omega⟩ n : EReal) := by
  pointwise [val_main_v30, val_main_v29]
  rw [lse_at hq hk]
  exact congrArg (fun h => (lse q k h n : EReal)) (Fin.ext (by simp only []; omega))

include hv

theorem att_at (g hh : Fin 4) (n : Fin 8448) (d : Fin 64) :
    val_main_v21 (F := Ideal) x0 x1 x2 (ix2 n (col16 (headAt g hh) d)) = (att q k v (headAt g hh) n d : EReal) := by
  pointwise [val_main_v21, val_main_v20, val_main_v19, val_main_v3]
  unfold att
  rw [← sum_real]
  refine Finset.sum_congr rfl fun x _ => ?_
  rw [soft_at hq hk, hv, keyHead_headAt, ← EReal.coe_mul]
  exact term_congr _ _ _ n x (Fin.ext (by simp only []; omega)) (Fin.ext (by simp only []; omega)) (Fin.ext (by simp only []; omega))

end Ref

end Cert.FlashProof
end
-- ==== Proof.FlashValue.lean ====
/- The claim for the attention's forward kernel: at finite arguments it writes what the reference returns. -/
module

public import proofs.«01_k».proof.Proof.FlashHost
public import proofs.«01_k».proof.Proof.FlashRef
public import proofs.«01_k».proof.Proof.Gen.FlashRefIdeal.Run
public import proofs.«01_k».proof.Proof.Gen.Pre_finite_flash
public import proofs.«01_k».proof.Defs

@[expose] public section

set_option maxRecDepth 16384

noncomputable section

namespace Cert.FlashProof

open Cert.FlashIdeal Cert.FlashIdeal.Gen Idealize.ShloMosaic Idealize.ShloMosaic.TcCoe Idealize.SL.Sem
open Idealize.ShloMosaic.Tactic Cert.Reals Cert.Softmax

/-- The three arguments hold these reals. -/
structure Holds (m : (ℓ : Loc nD τ sig) → Buf (Elt Ideal) ℓ) (c : Dev nD) (q : Fin 8208 → Fin 1024 → ℝ) (k v : Fin 8208 → Fin 256 → ℝ) : Prop where
  q : ∀ n d, argQ m c (ix2 n d) = (q n d : EReal)
  k : ∀ n d, argK m c (ix2 n d) = (k n d : EReal)
  v : ∀ n d, argV m c (ix2 n d) = (v n d : EReal)

/-! ## Where the blocks lie -/

theorem idx : ∀ t : Fin cfg0.N, win0_0.index t = ![t.val / 11, t.val % 11, 0] ∧ win0_1.index t = ![t.val / 22, 0, 0]
    ∧ win0_2.index t = ![t.val / 22, 0, 0] ∧ win0_3.index t = ![t.val % 11, t.val / 11] ∧ win0_4.index t = ![t.val % 11, t.val / 11]
    ∧ win0_5.index t = ![t.val / 11, t.val % 11, 0] :=
  (by decide +kernel : ∀ t : Fin grid0.N, _)

theorem point_lt (t : Fin cfg0.N) : t.val < 88 := by have h : cfg0.N = 88 := N_0; omega

/-- The row of the padded queries that a block's row is. -/
abbrev rowAt (t : Fin cfg0.N) (r : Fin 768) : Fin 8448 := ⟨t.val % 11 * 768 + r.val, by omega⟩
/-- The pair of heads of a grid point. -/
abbrev pairAt (t : Fin cfg0.N) : Fin 8 := ⟨t.val / 11, by have := point_lt t; omega⟩
/-- The query head of a grid point's side. -/
abbrev headOfPoint (t : Fin cfg0.N) (e : Fin 2) : Fin 16 := ⟨2 * (t.val / 11) + e.val, by have := point_lt t; omega⟩
abbrev keyAt (t : Fin cfg0.N) : Fin 4 := ⟨t.val / 22, by have := point_lt t; omega⟩

theorem keyHead_point (t : Fin cfg0.N) (e : Fin 2) : keyHead (headOfPoint t e) = keyAt t :=
  Fin.ext (by show (2 * (t.val / 11) + e.val) / 4 = t.val / 22; omega)

section Blocks

variable (t : Fin cfg0.N)

theorem block_q (A : FVec Ideal S16x8448x64 .bf16) (e : Fin 2) (r : Fin 768) (d : Fin 64) :
    (((cfg0.win 0).blk t).view.read (Elt Ideal) A : FVec Ideal S2x768x64 .bf16) (ix3 e r d) = A (ix3 (headOfPoint t e) (rowAt t r) d) := by
  blk_ext [idx t]
theorem block_k (A : FVec Ideal S4x8448x64 .bf16) (r : Fin 8448) (d : Fin 64) :
    (((cfg0.win 1).blk t).view.read (Elt Ideal) A : FVec Ideal S1x8448x64 .bf16) (ix3 0 r d) = A (ix3 (keyAt t) r d) := by
  blk_ext [idx t]
theorem block_v (A : FVec Ideal S4x8448x128 .bf16) (r : Fin 8448) (d : Fin 128) :
    (((cfg0.win 2).blk t).view.read (Elt Ideal) A : FVec Ideal S1x8448x128 .bf16) (ix3 0 r d) = A (ix3 (keyAt t) r d) := by
  blk_ext [idx t]

end Blocks

/-! ## What a grid point reads -/

/-- A row of the padded keys or values, as reals. -/
def paddedKey (k : Fin 8208 → Fin 256 → ℝ) (n : Fin 8448) (d : Fin 256) : ℝ := if h : 240 ≤ n.val then k (down n h) d else 0

/-- The padded row that row `j` of chunk `n` is. -/
abbrev chunkRow (n : ℕ) (j : Fin 256) : Fin 8448 := ⟨n % 33 * 256 + j.val, by omega⟩

/-- The scores in base 2. -/
def sc2 (q : Fin 8208 → Fin 1024 → ℝ) (k : Fin 8208 → Fin 256 → ℝ) (h : Fin 16) (n : Fin 8448) (a : ℕ) (j : Fin 256) : ℝ :=
  ∑ d : Fin 64, padded q n (col16 h d) * (1 / 8 / ln2) * paddedKey k (chunkRow a j) (col4 (keyHead h) d)

theorem paddedKey_up (k : Fin 8208 → Fin 256 → ℝ) (a : ℕ) (j : Fin 256) (r : Fin 8208) (e : a * 256 + j.val = 240 + r.val) (d : Fin 256) :
    paddedKey k (chunkRow a j) d = k r d := by
  have ha : a % 33 = a := Nat.mod_eq_of_lt (by omega)
  unfold paddedKey
  rw [dif_pos (show 240 ≤ (chunkRow a j).val by show 240 ≤ a % 33 * 256 + j.val; rw [ha]; omega)]
  exact congrArg (fun r => k r d) (Fin.ext (by show a % 33 * 256 + j.val - 240 = r.val; rw [ha]; omega))

theorem sc2_up (q : Fin 8208 → Fin 1024 → ℝ) (k : Fin 8208 → Fin 256 → ℝ) (h : Fin 16) (n : Fin 8448) (a : ℕ) (j : Fin 256) (r : Fin 8208)
    (e : a * 256 + j.val = 240 + r.val) : sc2 q k h n a j = sc q k h n r / ln2 := by
  unfold sc2 sc
  simp only [paddedKey_up k a j r e]
  rw [Finset.sum_mul, Finset.sum_div]
  exact Finset.sum_congr rfl fun d _ => by ring

theorem two_pow (x : ℝ) : (2 : ℝ) ^ (x / ln2) = Real.exp x := by
  rw [Real.rpow_def_of_pos two_pos]
  exact congrArg Real.exp (mul_div_cancel₀ x ln2_ne)

theorem total_one (q : Fin 8208 → Fin 1024 → ℝ) (k : Fin 8208 → Fin 256 → ℝ) (h : Fin 16) (n : Fin 8448) :
    total (sc2 q k h n) (fun _ _ => 1) 33 = ∑ r, Real.exp (sc q k h n r) := by
  rw [total_rows _ _ (fun r => sc q k h n r / ln2) (fun _ => 1) (sc2_up q k h n) fun _ _ _ _ => rfl]
  simp only [two_pow, mul_one]

theorem total_val (q : Fin 8208 → Fin 1024 → ℝ) (k v : Fin 8208 → Fin 256 → ℝ) (h : Fin 16) (n : Fin 8448) (d : Fin 64) :
    total (sc2 q k h n) (fun a j => paddedKey v (chunkRow a j) (col4 (keyHead h) d)) 33 / total (sc2 q k h n) (fun _ _ => 1) 33 = att q k v h n d := by
  rw [total_one, total_rows _ _ (fun r => sc q k h n r / ln2) (fun r => v r (col4 (keyHead h) d)) (sc2_up q k h n)
    fun a j r e => paddedKey_up v a j r e _, att, Finset.sum_div]
  simp only [two_pow]
  refine Finset.sum_congr rfl fun r _ => ?_
  unfold soft
  ring

theorem total_pos (q : Fin 8208 → Fin 1024 → ℝ) (k : Fin 8208 → Fin 256 → ℝ) (h : Fin 16) (n : Fin 8448) :
    0 < total (sc2 q k h n) (fun _ _ => 1) 33 := by rw [total_one]; exact sum_exp_pos _

variable {m : (ℓ : Loc nD τ sig) → Buf (Elt Ideal) ℓ} {c : Dev nD} {q : Fin 8208 → Fin 1024 → ℝ} {k v : Fin 8208 → Fin 256 → ℝ}

section Point

variable (H : Holds m c q k v) (t : Fin cfg0.N)
include H

theorem q_at (e : Fin 2) (r : Fin 768) (d : Fin 64) :
    (iblk m c 0 t : FVec Ideal S2x768x64 .bf16) (ix3 e r d) = ((padded q (rowAt t r) (col16 (headOfPoint t e) d) * (1 / 8 / ln2) : ℝ) : EReal) := by
  refine (block_q t _ e r d).trans ((congrFun (V_q m c) _).trans ?_)
  rw [heads16_at]
  unfold padded
  by_cases h : 240 ≤ (rowAt t r).val
  · rw [dif_pos h, dif_pos h, scaled_at, H.q, ← EReal.coe_mul]
  · rw [dif_neg h, dif_neg h, zero_mul, EReal.coe_zero]

theorem k_at (r : Fin 8448) (d : Fin 64) :
    (iblk m c 1 t : FVec Ideal S1x8448x64 .bf16) (ix3 0 r d) = (paddedKey k r (col4 (keyAt t) d) : EReal) := by
  refine (block_k t _ r d).trans ((congrFun (V_k m c) _).trans ?_)
  rw [heads4_at]
  unfold paddedKey
  by_cases h : 240 ≤ r.val
  · rw [dif_pos h, dif_pos h, H.k]
  · rw [dif_neg h, dif_neg h, EReal.coe_zero]

theorem v_at (r : Fin 8448) (d : Fin 64) :
    (iblk m c 2 t : FVec Ideal S1x8448x128 .bf16) (ix3 0 r ⟨d.val, by omega⟩) = (paddedKey v r (col4 (keyAt t) d) : EReal) := by
  refine (block_v t _ r _).trans ((congrFun (V_v m c) _).trans ?_)
  rw [withOnes_val, heads4_at]
  unfold paddedKey
  by_cases h : 240 ≤ r.val
  · rw [dif_pos h, dif_pos h, H.v]
  · rw [dif_neg h, dif_neg h, EReal.coe_zero]

omit H in
theorem one_at (r : Fin 8448) : (iblk m c 2 t : FVec Ideal S1x8448x128 .bf16) (ix3 0 r 64) = ((1 : ℝ) : EReal) :=
  (block_v t _ r _).trans ((congrFun (V_v m c) _).trans (withOnes_one _ _ _))

theorem scores_at (e : Fin 2) (r : Fin 768) (a : ℕ) (j : Fin 256) :
    ∑ d : Fin 64, (headOf (iblk m c 0 t) e.val (ix3 0 r d) * keysOf (iblk m c 1 t) a (ix3 0 j d) : EReal)
      = (sc2 q k (headOfPoint t e) (rowAt t r) a j : EReal) := by
  unfold sc2
  rw [← sum_real]
  refine Finset.sum_congr rfl fun d _ => ?_
  rw [EReal.coe_mul]
  refine congrArg₂ _ ((headOf_apply _ e r d).trans (q_at H t e r d)) (((keysOf_apply _ a j d).trans (k_at H t _ d)).trans ?_)
  rw [keyHead_point]

/-- The output block's entries. -/
theorem heads_point (r : Fin 768) (e : Fin 2) (d : Fin 64) :
    heads (iblk m c 0 t) (iblk m c 1 t) (iblk m c 2 t) (ix2 r ⟨e.val * 64 + d.val, by omega⟩) = (att q k v (headOfPoint t e) (rowAt t r) d : EReal) := by
  rw [← total_val, keyHead_point]
  exact heads_row _ _ _ r e _ _ (scores_at H t e r) (fun a j => (valsOf_apply _ a j _).trans (one_at t _)) (total_pos q k _ _) d _
    fun a j => (valsOf_apply _ a j _).trans (v_at H t _ d)

/-- The log-sum block's entries. -/
theorem sums_point (r : Fin 768) (e : Fin 2) :
    sums (iblk m c 0 t) (iblk m c 1 t) (iblk m c 2 t) (ix3 0 r e) = (lse q k (headOfPoint t e) (rowAt t r) : EReal) := by
  rw [lse, ← total_one]
  exact sums_row _ _ _ r e _ _ (scores_at H t e r) (fun a j => (valsOf_apply _ a j _).trans (one_at t _)) (total_pos q k _ _)

end Point

/-! ## The arrays -/

/-- The output, as an array. -/
def outO (q : Fin 8208 → Fin 1024 → ℝ) (k v : Fin 8208 → Fin 256 → ℝ) : FVec Ideal S8448x1024 .f32 :=
  fun i => (att q k v ⟨(i 1).val / 64, by have : (i 1).val < 1024 := (i 1).isLt; omega⟩ (i 0) ⟨(i 1).val % 64, by omega⟩ : EReal)

/-- The row log-sums, as an array. -/
def outL (q : Fin 8208 → Fin 1024 → ℝ) (k : Fin 8208 → Fin 256 → ℝ) : FVec Ideal S8x8448x2 .f32 :=
  fun i => (lse q k ⟨2 * (i 0).val + (i 2).val, by have : (i 0).val < 8 := (i 0).isLt; have : (i 2).val < 2 := (i 2).isLt; omega⟩ (i 1) : EReal)

theorem outO_at (q : Fin 8208 → Fin 1024 → ℝ) (k v : Fin 8208 → Fin 256 → ℝ) (n : Fin 8448) (h : Fin 16) (d : Fin 64) (x : Fin 1024)
    (e : x.val = h.val * 64 + d.val) : outO q k v (ix2 n x) = (att q k v h n d : EReal) := by
  have e1 : (⟨x.val / 64, by omega⟩ : Fin 16) = h := Fin.ext (by show x.val / 64 = _; omega)
  have e2 : (⟨x.val % 64, by omega⟩ : Fin 64) = d := Fin.ext (by show x.val % 64 = _; omega)
  show (att q k v ⟨x.val / 64, _⟩ n ⟨x.val % 64, _⟩ : EReal) = _
  rw [e1, e2]

variable (H : Holds m c q k v)
include H

/-- An entry of the output block, at any column. -/
theorem heads_any (t : Fin cfg0.N) (r : Fin 768) (x : Fin 128) :
    heads (iblk m c 0 t) (iblk m c 1 t) (iblk m c 2 t) (ix2 r x) = outO q k v (ix2 (rowAt t r) ⟨t.val / 11 * 128 + x.val, by have := point_lt t; omega⟩) := by
  have e : x = (⟨(⟨x.val / 64, by omega⟩ : Fin 2).val * 64 + (⟨x.val % 64, by omega⟩ : Fin 64).val, by simp only []; omega⟩ : Fin 128) :=
    Fin.ext (by show x.val = x.val / 64 * 64 + x.val % 64; omega)
  refine ((congrArg (fun x => heads (iblk m c 0 t) (iblk m c 1 t) (iblk m c 2 t) (ix2 r x)) e).trans (heads_point H t r _ _)).trans (outO_at q k v _ _ _ _ ?_).symm
  show t.val / 11 * 128 + x.val = (2 * (t.val / 11) + x.val / 64) * 64 + x.val % 64
  omega

theorem o_eq : (dats m 0 c).arrAt 3 (cfgs 0).N = outO q k v := by
  refine (dats m 0 c).arrAt_eq_of_covers 3 _ (by decide +kernel) fun t _ y => ?_
  blk_simp
  rw [after0_3, out3_eq]
  idx_vars y
  frame_out
  refine (heads_any H t y0 y1).trans (congrArg (outO q k v) ?_)
  blk_ext [idx t]

theorem ob_eq : (dats m 0 c).arrAt 4 (cfgs 0).N = outO q k v := by
  refine (dats m 0 c).arrAt_eq_of_covers 4 _ (by decide +kernel) fun t _ y => ?_
  blk_simp
  rw [after0_4, out4_eq]
  idx_vars y
  frame_out
  refine (heads_any H t y0 y1).trans (congrArg (outO q k v) ?_)
  blk_ext [idx t]

omit H in
theorem outL_at (q : Fin 8208 → Fin 1024 → ℝ) (k : Fin 8208 → Fin 256 → ℝ) (p : Fin 8) (n : Fin 8448) (e : Fin 2) :
    outL q k (ix3 p n e) = (lse q k ⟨2 * p.val + e.val, by omega⟩ n : EReal) := rfl

/-- An entry of the log-sum block. -/
theorem sums_any (t : Fin cfg0.N) (z : Fin 1) (r : Fin 768) (e : Fin 2) :
    sums (iblk m c 0 t) (iblk m c 1 t) (iblk m c 2 t) (ix3 z r e) = outL q k (ix3 (pairAt t) (rowAt t r) e) := by
  have hz : z = 0 := Fin.ext (by omega)
  rw [hz, outL_at]
  exact sums_point H t r e

theorem l_eq : (dats m 0 c).arrAt 5 (cfgs 0).N = outL q k := by
  refine (dats m 0 c).arrAt_eq_of_covers 5 _ (by decide +kernel) fun t _ y => ?_
  blk_simp
  rw [after0_5, out5_eq]
  idx_vars y
  frame_out
  refine (sums_any H t y0 y1 y2).trans (congrArg (outL q k) ?_)
  blk_ext [idx t]

omit H in
/-- Under the precondition the three arguments hold reals. -/
theorem holds_of_pre (m : (ℓ : Loc nD τ sig) → Buf (Elt Ideal) ℓ)
    (hpre : Cert.Pre_FlashIdeal_finite_flash (hPre_finite_flash := Cert.Pre_finite_flash.Gen.facts) m) (c : Dev nD) :
    ∃ q k v, Holds m c q k v := by
  have h := hpre c
  unfold Cert.Pre_finite_flash.fn at h
  have hq : ∀ i, ∃ r : ℝ, argQ m c i = (r : EReal) := fun i => by have h := congrFun h.1 i; exact real_of_abs_lt (by pointwise at h; exact h)
  have hk : ∀ i, ∃ r : ℝ, argK m c i = (r : EReal) := fun i => by have h := congrFun h.2.1 i; exact real_of_abs_lt (by pointwise at h; exact h)
  have hv : ∀ i, ∃ r : ℝ, argV m c i = (r : EReal) := fun i => by have h := congrFun h.2.2 i; exact real_of_abs_lt (by pointwise at h; exact h)
  choose q hq using hq
  choose k hk using hk
  choose v hv using hv
  exact ⟨fun n d => q (ix2 n d), fun n d => k (ix2 n d), fun n d => v (ix2 n d), fun n d => hq _, fun n d => hk _, fun n d => hv _⟩

omit H in
/-- The reference's output at any column. -/
theorem ref_o {x0 : FVec Ideal S8208x1024 .f32} {x1 x2 : FVec Ideal S8208x256 .f32} (hq : ∀ n d, x0 (ix2 n d) = (q n d : EReal))
    (hk : ∀ n d, x1 (ix2 n d) = (k n d : EReal)) (hv : ∀ n d, x2 (ix2 n d) = (v n d : EReal)) :
    FlashRefIdeal.Read.val_main_v21 (F := Ideal) x0 x1 x2 = outO q k v := by
  refine funext fun i => ?_
  idx_vars i
  have e : i1 = col16 (headAt ⟨i1.val / 256, by omega⟩ ⟨i1.val / 64 % 4, by omega⟩) ⟨i1.val % 64, by omega⟩ :=
    Fin.ext (by show i1.val = (4 * (i1.val / 256) + i1.val / 64 % 4) * 64 + i1.val % 64; omega)
  refine ((congrArg (fun x => FlashRefIdeal.Read.val_main_v21 (F := Ideal) x0 x1 x2 (ix2 i0 x)) e).trans (Ref.att_at hq hk hv _ _ _ _)).trans
    (outO_at q k v _ _ _ _ ?_).symm
  show i1.val = (4 * (i1.val / 256) + i1.val / 64 % 4) * 64 + i1.val % 64
  omega

omit H in
/-- The claim: both programs write the attention's output in both formats, and the row log-sums. -/
theorem algebraic : Cert.algebraic_FlashIdeal_FlashRefIdeal_pre_finite_flash (hPre_finite_flash := Cert.Pre_finite_flash.Gen.facts) := by
  intro m g m' g' hpre hm
  refine ⟨fun c => (dats m 0 c).arrAt 3 cfg0.N, fun c => (dats m 0 c).arrAt 4 cfg0.N, fun c => (dats m 0 c).arrAt 5 cfg0.N,
    (θ_run _ _ _).mono (fun r h c => ⟨(h.1 c).1 3, (h.1 c).1 4, (h.1 c).1 5,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩) (run_main_quiescent m g),
    (θ_run _ _ _).mono (fun r h c => ⟨(h c).1.trans ?_, (h c).2.1.trans ?_, (h c).2.2.1.trans ?_, (h c).2.2.2⟩) (Cert.FlashRefIdeal.Value.run m' g')⟩
  all_goals obtain ⟨q, k, v, H⟩ := holds_of_pre m hpre c
  · rw [FlashRefIdeal.Read.val_main_v21_eq, (hm c).1, (hm c).2.1, (hm c).2.2]
    exact (ref_o H.q H.k H.v).trans (o_eq H).symm
  · rw [FlashRefIdeal.Read.val_main_v28_eq, (hm c).1, (hm c).2.1, (hm c).2.2]
    exact (ref_o H.q H.k H.v).trans (ob_eq H).symm
  · refine (FlashRefIdeal.Read.val_main_v30_eq _ _).trans ?_
    rw [(hm c).1, (hm c).2.1]
    refine (funext fun i => ?_ : _ = outL q k).trans (l_eq H).symm
    idx_vars i
    exact (Ref.lseOut_at H.q H.k i0 i1 i2).trans (outL_at q k i0 i1 i2).symm

end Cert.FlashProof
end
-- ==== Proof.RealFactor.lean ====
/- A nonnegative real factor goes into a finite sum of extended reals. -/
module

public import Idealize.ShloMosaic.Lib.Pointwise

@[expose] public section

noncomputable section

namespace Cert.RealFactor

theorem mul_sum {ι : Type*} {x : ℝ} (hx : 0 ≤ x) (s : Finset ι) (f : ι → EReal) : (x : EReal) * ∑ k ∈ s, f k = ∑ k ∈ s, (x : EReal) * f k := by
  classical
  induction s using Finset.induction_on with
  | empty => simp
  | insert a s ha ih => rw [Finset.sum_insert ha, Finset.sum_insert ha, EReal.left_distrib_of_nonneg_of_ne_top (EReal.coe_nonneg.mpr hx) (EReal.coe_ne_top x), ih]

end Cert.RealFactor
end
-- ==== Proof.LossValue.lean ====
/- Half the sum of the mean square errors and its gradient: the kernel writes what the reference returns. -/
module

public import proofs.«01_k».proof.Defs
public import proofs.«01_k».proof.Proof.Gen.LossIdeal.Frame
public import proofs.«01_k».proof.Proof.Gen.LossRefIdeal.Run
public import proofs.«01_k».proof.Proof.Gen.LossRefIdeal.Read
public import proofs.«01_k».proof.Proof.RealFactor
public import Idealize.ShloMosaic.Lib.Pipeline.ValueKit

@[expose] public section

set_option maxRecDepth 16384

noncomputable section

namespace Cert.LossProof

open Cert.LossIdeal Cert.LossIdeal.Gen Idealize.ShloMosaic Idealize.ShloMosaic.TcCoe Idealize.SL.Sem

/-- The windows' block indices. -/
theorem idx : ∀ t : Fin cfg0.N, win0_0.index t = ![t.val, 0] ∧ win0_1.index t = ![t.val - 1, 0] ∧ win0_2.index t = ![t.val, 0] ∧ win0_3.index t = ![0, 0] :=
  (by decide +kernel : ∀ t : Fin grid0.N, _)

theorem lt_N (t : Fin cfg0.N) : t.val < 33 := by have := t.isLt; have h : cfg0.N = 33 := N_0; omega

/-- The row of the array that a block's row is. -/
abbrev rowAt (t : Fin cfg0.N) (a : Fin 256) : Fin 8448 := ⟨t.val * 256 + a.val, by have := lt_N t; omega⟩
/-- The row of the target; the first block, of no token, holds the second's. -/
abbrev tokAt (t : Fin cfg0.N) (a : Fin 256) : Fin 8192 := ⟨(t.val - 1) * 256 + a.val, by have := lt_N t; omega⟩

variable (m : (ℓ : Loc nD τ sig) → Buf (Elt Ideal) ℓ) (c : Dev nD)

abbrev argH : FVec Ideal S8448x1024 .f32 := m ((c.tc : Thread nD τ).loc main_arg0)
abbrev argT : FVec Ideal S8192x1024 .f32 := m ((c.tc : Thread nD τ).loc main_arg1)

theorem blk_h (t : Fin cfg0.N) (a : Fin 256) (x : Fin 1024) :
    (iblk m c 0 t : FVec Ideal S256x1024 .f32) (ix2 a x) = argH m c (ix2 (rowAt t a) x) := by blk_ext [iblk, V, idx t]
theorem blk_t (t : Fin cfg0.N) (a : Fin 256) (x : Fin 1024) :
    (iblk m c 1 t : FVec Ideal S256x1024 .f32) (ix2 a x) = argT m c (ix2 (tokAt t a) x) := by blk_ext [iblk, V, idx t]

/-- The error of a token. -/
def err (H : FVec Ideal S8448x1024 .f32) (T : FVec Ideal S8192x1024 .f32) (r : Fin 8192) (x : Fin 1024) : EReal :=
  H (ix2 ⟨256 + r.val, by have := r.isLt; omega⟩ x) - T (ix2 r x)

/-- The gradient: no token's rows have none. -/
def gradAt (H : FVec Ideal S8448x1024 .f32) (T : FVec Ideal S8192x1024 .f32) (r : Fin 8448) (x : Fin 1024) : EReal :=
  if h : 256 ≤ r.val then err H T ⟨r.val - 256, by have h0 := r.isLt; omega⟩ x * Ideal.ofBits .f32 981467136#32 else 0

/-- The gradient, as an array. -/
def grad (H : FVec Ideal S8448x1024 .f32) (T : FVec Ideal S8192x1024 .f32) : FVec Ideal S8448x1024 .f32 := fun i => gradAt H T (i 0) (i 1)

/-- The sums of the squares, by column. -/
def squares (H : FVec Ideal S8448x1024 .f32) (T : FVec Ideal S8192x1024 .f32) : FVec Ideal S1x1024 .f32 :=
  fun i => ∑ r : Fin 8192, err H T r (i 1) * err H T r (i 1)

/-- The error of a block's row. -/
theorem err_at (t : Fin cfg0.N) (ht : 1 ≤ t.val) (a : Fin 256) (x : Fin 1024) :
    argH m c (ix2 (rowAt t a) x) - argT m c (ix2 (tokAt t a) x) = err (argH m c) (argT m c) (tokAt t a) x := by
  have e : rowAt t a = ⟨256 + (tokAt t a).val, by have := (tokAt t a).isLt; omega⟩ := Fin.ext (by show t.val * 256 + a.val = 256 + ((t.val - 1) * 256 + a.val); omega)
  unfold err
  rw [e]

/-- What the gradient's block holds after a point. -/
theorem grad_at (t : Fin cfg0.N) (a : Fin 256) (x : Fin 1024) : (outsAt0 m c t.val t.isLt).1 (ix2 a x) = gradAt (argH m c) (argT m c) (rowAt t a) x := by
  have hN := lt_N t
  have ha := a.isLt
  unfold gradAt
  by_cases h : 1 ≤ t.val
  · rw [outsAt0_B m c t (by omega) h, dif_pos (show 256 ≤ t.val * 256 + a.val by omega)]
    frame_out
    pointwise [k0_pay4, k0_pay3]
    rw [blk_h, blk_t, err_at m c t h]
    have e : tokAt t a = ⟨t.val * 256 + a.val - 256, by omega⟩ := Fin.ext (by show (t.val - 1) * 256 + a.val = t.val * 256 + a.val - 256; omega)
    rw [e]
  · rw [outsAt0_A m c t (by omega) h, dif_neg (show ¬ 256 ≤ t.val * 256 + a.val by omega)]
    frame_out
    pointwise [k0_pay1]

theorem grad_eq : (dats m 0 c).arrAt 2 (cfgs 0).N = grad (argH m c) (argT m c) := by
  refine (dats m 0 c).arrAt_eq_of_covers 2 _ (by decide +kernel) fun t _ y => ?_
  blk_simp
  rw [after0_2]
  idx_vars y
  refine (grad_at m c t y0 y1).trans (congrArg (grad (argH m c) (argT m c)) (?_ : ix2 (rowAt t y0) y1 = _))
  blk_ext [idx t]

/-- What a point adds to the sum of a column. -/
def part (H : FVec Ideal S8448x1024 .f32) (T : FVec Ideal S8192x1024 .f32) (t : Fin cfg0.N) (x : Fin 1024) : EReal :=
  if 1 ≤ t.val then ∑ a : Fin 256, err H T (tokAt t a) x * err H T (tokAt t a) x else 0

/-- All points together. -/
theorem part_sum (H : FVec Ideal S8448x1024 .f32) (T : FVec Ideal S8192x1024 .f32) (x : Fin 1024) :
    ∑ t : Fin cfg0.N, part H T t x = ∑ r : Fin 8192, err H T r x * err H T r x := by
  refine (Fin.sum_univ_succ (n := 32) (fun t => part H T t x)).trans ?_
  refine (congrArg₂ (· + ·) (if_neg (by decide)) rfl).trans ((zero_add _).trans ?_)
  refine Eq.trans (Finset.sum_congr rfl fun t _ => if_pos (Nat.succ_le_succ (Nat.zero_le _))) ?_
  exact Fin.sum_mul_add_congr (f := fun r => err H T r x * err H T r x) fun s k hl => rfl

/-- One step of the running sums. -/
theorem pay_s (h t : FVec Ideal S256x1024 .f32) (acc : FVec Ideal S1x1024 .f32) (j : Fin 1) (x : Fin 1024) :
    k0_pay5 (F := Ideal) h t acc (ix2 j x) = acc (ix2 j x) + ∑ a : Fin 256, (h (ix2 a x) - t (ix2 a x)) * (h (ix2 a x) - t (ix2 a x)) := by
  obtain rfl : j = 0 := Subsingleton.elim _ _
  pointwise [k0_pay5, k0_pay3]

theorem step_s (t : Fin cfg0.N) (h1 : 1 ≤ t.val) (acc : FVec Ideal S1x1024 .f32) (j : Fin 1) (x : Fin 1024) :
    k0_pay5 (F := Ideal) (iblk m c 0 t) (iblk m c 1 t) acc (ix2 j x) = acc (ix2 j x) + part (argH m c) (argT m c) t x := by
  refine (pay_s (iblk m c 0 t) (iblk m c 1 t) acc j x).trans ?_
  simp only [blk_h, blk_t, err_at m c t h1]
  exact congrArg _ (if_pos h1).symm

/-- The last point. -/
abbrev last : Fin cfg0.N := ⟨32, by have h : cfg0.N = 33 := N_0; omega⟩

theorem squares_eq : (dats m 0 c).arrAt 3 (cfgs 0).N = squares (argH m c) (argT m c) := by
  refine (dats m 0 c).arrAt_eq_of_after_last 3 last (by decide +kernel) _ fun j => ?_
  blk_simp
  rw [after0_3, Pipeline.eq_sum_fin_of_reset_step_apply_last (fun n h => (outsAt0 m c n h).2) 33 (fun _ => 0) (fun t j => part (argH m c) (argT m c) t (j 1))
    (fun t h j => by
      have h1 : ¬ 1 ≤ t.val := by have := lt_N t; omega
      rw [outsAt0_A m c t h h1]; frame_out; idx_vars j; pointwise [k0_pay2]; exact (if_neg h1).symm)
    (fun t h j => by
      have h1 : 1 ≤ t.val := by have := lt_N t; omega
      rw [outsAt0_B m c t h h1]; frame_out; idx_vars j; exact step_s m c t h1 _ j0 j1)
    (le_of_eq N_0) last rfl j, zero_add]
  idx_vars j
  exact part_sum _ _ j1

/-! ## The loss -/

theorem word_n : Ideal.ofBits .f32 1149239296#32 = ((1024 : ℝ) : EReal) := by simp [Ideal.ofBits, Ideal.ieee, -EReal.coe_mul]; norm_num
theorem word_inv : Ideal.ofBits .f32 981467136#32 = ((1 / 1024 : ℝ) : EReal) := by simp [Ideal.ofBits, Ideal.ieee, -EReal.coe_mul]; norm_num
theorem word_half : Ideal.ofBits .f32 1056964608#32 = ((1 / 2 : ℝ) : EReal) := by simp [Ideal.ofBits, Ideal.ieee, -EReal.coe_mul]; norm_num
theorem word_one : Ideal.ofBits .f32 1065353216#32 = ((1 : ℝ) : EReal) := by simp [Ideal.ofBits, Ideal.ieee, -EReal.coe_mul]; norm_num
theorem word_two : Ideal.ofBits .f32 1073741824#32 = ((2 : ℝ) : EReal) := by simp [Ideal.ofBits, Ideal.ieee, -EReal.coe_mul]; norm_num

/-- The loss as the kernel's host lines compute it from the sums by column. -/
def loss (S : FVec Ideal S1x1024 .f32) : FVec Ideal S_ .f32 := fun _ =>
  Ideal.ofBits .f32 1056964608#32 * (∑ x : Fin 1024, S (ix2 0 x)) * Ideal.ofBits .f32 981467136#32

theorem loss_host (A : FVec Ideal S1x1024 .f32) :
    mulf (mulf (constant S_ .f32 1056964608#32) (Host.reduceAdd A (constant S_ .f32 0#32) reducesTo_S1x1024_S_d0_1 h_S_)) (constant S_ .f32 981467136#32) = loss A := by
  funext i
  obtain rfl : i = ix0 := Subsingleton.elim _ _
  pointwise
  rw [Fin.sum_univ_one]
  rfl

theorem tail_eq (A : FVec Ideal S1x1024 .f32) (h : (dats m 0 c).arrAt 3 (cfgs 0).N = A) : Pipeline.afterTail₀ cfgs (dats m) 0 (V0 m) [hostOps1] c main_v3 = loss A := by
  unfold Pipeline.afterTail₀
  simp only [hostOps1, List.flatten_cons, List.flatten_nil, List.append_nil]
  after_results
  have e : Pipeline.withArrays (cfgs 0).spec c (V0 m c) (fun w => (dats m 0 c).arrAt w (cfgs 0).N) (Proc.tc.devRef main_v0_1) = A :=
    (Pipeline.withArrays_arr (cfgs 0).spec (by decide) c (V0 m c) (fun w => (dats m 0 c).arrAt w (cfgs 0).N) 3).trans h
  rw [e]
  exact loss_host A

section reference

open Cert.LossRefIdeal.Read

theorem zero : FloatOps.ofBits (F := Ideal) .f32 0#32 = (0 : EReal) := by simp [Ideal.ofBits, Ideal.ieee]

theorem div_n (x : EReal) : Ideal.div x (Ideal.ofBits .f32 1149239296#32) = x * ((1 / 1024 : ℝ) : EReal) := by
  rw [word_n, Ideal.div_coe (by norm_num)]

variable (H : FVec Ideal S8448x1024 .f32) (T : FVec Ideal S8192x1024 .f32)

theorem ref_loss : val_main_v9 (F := Ideal) H T = loss (squares H T) := by
  refine funext fun i => ?_
  obtain rfl : i = ix0 := Subsingleton.elim _ _
  pointwise [val_main_v9, val_main_v8, val_main_v7, val_main_v6, val_main_v5, val_main_v4, val_main_v3, val_main_v2, val_main_v1, val_main_v0]
  simp only [val_main_cst_0_apply, val_main_cst_1_apply, val_main_cst_2_apply, val_main_cst_3_apply, zero, zero_add]
  show Ideal.ofBits .f32 1056964608#32 * ∑ r : Fin 8192, Ideal.div (∑ x : Fin 1024, err H T r x * err H T r x) (Ideal.ofBits .f32 1149239296#32)
    = Ideal.ofBits .f32 1056964608#32 * (∑ x : Fin 1024, ∑ r : Fin 8192, err H T r x * err H T r x) * Ideal.ofBits .f32 981467136#32
  rw [Finset.sum_comm, word_inv, mul_assoc, mul_comm (∑ y, _) (((1 / 1024 : ℝ) : EReal)), RealFactor.mul_sum (by norm_num)]
  refine congrArg _ (Finset.sum_congr rfl fun r _ => ?_)
  rw [div_n, mul_comm]

theorem ref_grad : val_main_v16 (F := Ideal) H T = grad H T := by
  refine funext fun i => ?_
  idx_vars i
  pointwise [val_main_v16, val_main_v15, val_main_v14, val_main_v13, val_main_v12, val_main_v11, val_main_v10, val_main_v9, val_main_v8, val_main_v7, val_main_v6, val_main_v5, val_main_v4, val_main_v3, val_main_v2, val_main_v1, val_main_v0]
  simp only [val_main_cst_apply, val_main_cst_4_apply, val_main_cst_5_apply, val_main_cst_6_apply, val_main_cst_7_apply]
  unfold grad
  show _ = gradAt H T i0 i1
  unfold gradAt
  rw [show FloatOps.ofBits (F := Ideal) .f32 1056964608#32 = ((1 / 2 : ℝ) : EReal) from word_half,
    show FloatOps.ofBits (F := Ideal) .f32 1065353216#32 = ((1 : ℝ) : EReal) from word_one,
    show FloatOps.ofBits (F := Ideal) .f32 1149239296#32 = ((1024 : ℝ) : EReal) from word_n,
    show FloatOps.ofBits (F := Ideal) .f32 1073741824#32 = ((2 : ℝ) : EReal) from word_two, word_inv, zero]
  by_cases h : 256 ≤ i0.val
  · rw [dif_pos ⟨h, by have := i0.isLt; omega⟩, dif_pos h, Ideal.div_coe (by norm_num), ← EReal.coe_mul, ← EReal.coe_mul, ← mul_assoc, ← EReal.coe_mul, mul_comm]
    refine congrArg₂ (· * ·) rfl (congrArg _ ?_)
    norm_num
  · rw [dif_neg fun e => h e.1, dif_neg h]

end reference

/-- The claim: both write the loss and its gradient. -/
theorem algebraic : Cert.algebraic_LossIdeal_LossRefIdeal := by
  intro m g m' g' _ hm
  refine ⟨fun c => loss (squares (argH m c) (argT m c)), fun c => grad (argH m c) (argT m c),
    (θ_run _ _ _).mono (fun r ⟨h, h'⟩ c => ⟨((h.1 c).2 main_v3 (Pipeline.mem_restRefs_of main_v3 (by decide) (by decide))).trans (tail_eq m c _ (squares_eq m c)),
      ((h.1 c).1 2).trans (grad_eq m c), (h'.1 c).1, (h'.1 c).2⟩) (θ_run_and (run_main_quiescent m g) (frame m g)),
    (θ_run _ _ _).mono (fun r h c => ⟨(h c).1.trans ?_, (h c).2.1.trans ?_, (h c).2.2⟩) (Cert.LossRefIdeal.Value.run m' g')⟩
  · rw [(hm c).1, (hm c).2]
    exact ref_loss _ _
  · rw [(hm c).1, (hm c).2]
    exact ref_grad _ _

end Cert.LossProof
end
-- ==== Proof.DhValue.lean ====
/- The gradient of the residual's input: the kernel writes what the reference returns. -/
module

public import proofs.«01_k».proof.Defs
public import proofs.«01_k».proof.Proof.Gen.DhIdeal.Value
public import proofs.«01_k».proof.Proof.Gen.DhRefIdeal.Run
public import proofs.«01_k».proof.Proof.Gen.DhRefIdeal.Read
public import Idealize.ShloMosaic.Lib.Pipeline.ValueKit

@[expose] public section

set_option maxRecDepth 16384

noncomputable section

namespace Cert.DhProof

open Cert.DhIdeal Cert.DhIdeal.Gen Idealize.ShloMosaic Idealize.ShloMosaic.TcCoe Idealize.SL.Sem

/-- The claim: both write `ALPHA * da + db`. -/
theorem algebraic : Cert.algebraic_DhIdeal_DhRefIdeal := by
  intro m g m' g' _ hm
  refine ⟨_, Cert.DhIdeal.Value.run m g,
    (θ_run _ _ _).mono (fun r h c => ⟨(h c).1.trans ?_, (h c).2⟩) (Cert.DhRefIdeal.Value.run m' g')⟩
  rw [(hm c).1, (hm c).2]
  funext i
  pointwise [Cert.DhIdeal.Value.G2]
  exact add_comm _ _

end Cert.DhProof
end
-- ==== Proof.DeltaValue.lean ====
/- Per head, the row sums of `do * o`: the kernel, which multiplies with a matrix of ones and zeros, writes what the reference returns. -/
module

public import proofs.«01_k».proof.Defs
public import proofs.«01_k».proof.Proof.Gen.DeltaIdeal.Value
public import proofs.«01_k».proof.Proof.Gen.DeltaRefIdeal.Run
public import proofs.«01_k».proof.Proof.Gen.DeltaRefIdeal.Read
public import proofs.«01_k».proof.Proof.RealFactor
public import Idealize.ShloMosaic.Lib.Pipeline.ValueKit

@[expose] public section

set_option maxRecDepth 16384

noncomputable section

namespace Cert.DeltaProof

open Cert.DeltaIdeal Cert.DeltaIdeal.Gen Idealize.ShloMosaic Idealize.ShloMosaic.TcCoe Idealize.SL.Sem

/-- The windows' block indices. -/
theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

/-- The row of the array that a block's row is. -/
abbrev rowAt (t : Fin cfg0.N) (a : Fin 768) : Fin 8448 := ⟨t.val * 768 + a.val, by have := t.isLt; have h : cfg0.N = 11 := N_0; omega⟩

/-! ## The matrix of the heads -/

/-- The head of a column, in the host's integers: the quotient by 64, rounded down. -/
def head (x : BitVec 32) : BitVec 32 :=
  Scalar.select
    (IntOp.andi
      (IntOp.cmpi (w := 32) CmpIPredicate.ne (if x = 0 then 0 else if x.msb = true then -1 else 1) (if 64#32 = 0 then 0 else if (64#32).msb = true then -1 else 1))
      (IntOp.cmpi CmpIPredicate.ne (IntOp.remsi ArithUnit.host x 64#32) 0#32))
    (IntOp.subi (IntOp.divsi ArithUnit.host x 64#32) 1#32)
    (IntOp.divsi ArithUnit.host x 64#32)

theorem head_eq : ∀ x : Fin 1024, head (BitVec.ofNat 32 x.val) = BitVec.ofNat 32 (x.val / 64) := by decide +kernel

/-- The matrix: one over the head's width where the column belongs to the head. -/
def heads : FVec Ideal S1024x128 .f32 := fun i => (if (i 0).val / 64 = (i 1).val then 1 else 0) * ((1 / 64 : ℝ) : EReal)

theorem word64 : Ideal.ofBits .f32 1115684864#32 = ((64 : ℝ) : EReal) := by simp [Ideal.ofBits, Ideal.ieee, -EReal.coe_mul]; norm_num
theorem wordInv : Ideal.ofBits .f32 1015021568#32 = ((1 / 64 : ℝ) : EReal) := by simp [Ideal.ofBits, Ideal.ieee, -EReal.coe_mul]; norm_num

theorem flag (a b : BitVec 32) : FloatOps.uitofp (F := Ideal) .f32 (IntOp.cmpi CmpIPredicate.eq a b) = ((if a = b then 1 else 0 : EReal)) := by
  by_cases h : a = b <;> simp [IntOp.cmpi, h, FloatOps.uitofp]

variable (m : (ℓ : Loc nD τ sig) → Buf (Elt Ideal) ℓ) (c : Dev nD)

theorem heads_eq : (V m c main_v10 : FVec Ideal S1024x128 .f32) = heads := by
  simp only [V, hostOps0, hostOps0_1, hostOps0_2, List.flatten_cons, List.flatten_nil, List.append_nil, List.cons_append, List.nil_append]
  entry_read
  simp only [StableHlo.TRef.toBuf, StableHlo.TRef.ofBuf, cast_eq]
  funext i
  idx_vars i
  pointwise
  show FloatOps.uitofp (F := Ideal) .f32 (IntOp.cmpi CmpIPredicate.eq (head (BitVec.ofNat 32 i0.val)) (BitVec.ofNat 32 i1.val)) * _ = _
  rw [flag, head_eq, wordInv]
  unfold heads
  refine congrArg₂ (· * ·) (if_congr ?_ rfl rfl) rfl
  constructor
  · intro h
    have := congrArg BitVec.toNat h
    simp only [BitVec.toNat_ofNat] at this
    have h0 := i0.isLt
    have h1 := i1.isLt
    show i0.val / 64 = i1.val
    omega
  · intro h
    exact congrArg _ h

/-! ## The kernel -/

abbrev argD : FVec Ideal S8448x1024 .f32 := m ((c.tc : Thread nD τ).loc main_arg0)
abbrev argO : FVec Ideal S8448x1024 .f32 := m ((c.tc : Thread nD τ).loc main_arg1)

theorem blk_d (t : Fin cfg0.N) (a : Fin 768) (x : Fin 1024) :
    (iblk m c 0 t : FVec Ideal S768x1024 .bf16) (ix2 a x) = argD m c (ix2 (rowAt t a) x) := by
  blk_simp [iblk]
  simp only [V, hostOps0, hostOps0_1, hostOps0_2, List.flatten_cons, List.flatten_nil, List.append_nil, List.cons_append, List.nil_append]
  entry_read
  pointwise
  blk_ext [idx t]
theorem blk_o (t : Fin cfg0.N) (a : Fin 768) (x : Fin 1024) :
    (iblk m c 1 t : FVec Ideal S768x1024 .f32) (ix2 a x) = argO m c (ix2 (rowAt t a) x) := by
  blk_simp [iblk]
  simp only [V, hostOps0, hostOps0_1, hostOps0_2, List.flatten_cons, List.flatten_nil, List.append_nil, List.cons_append, List.nil_append]
  entry_read
  blk_ext [idx t]
theorem blk_any (t : Fin cfg0.N) (A : FVec Ideal S1024x128 .f32) (x : Fin 1024) (y : Fin 128) :
    (((cfg0.win 2).blk t).view.read (Elt Ideal) A : FVec Ideal S1024x128 .f32) (ix2 x y) = A (ix2 x y) := by blk_ext [idx t]
theorem blk_e (t : Fin cfg0.N) (x : Fin 1024) (y : Fin 128) : (iblk m c 2 t : FVec Ideal S1024x128 .f32) (ix2 x y) = heads (ix2 x y) :=
  (blk_any t (V m c main_v10) x y).trans (congrFun (heads_eq m c) _)

/-- What the kernel writes. -/
def out (D O : FVec Ideal S8448x1024 .f32) : FVec Ideal S8448x128 .f32 :=
  fun i => (∑ x : Fin 1024, D (ix2 (i 0) x) * O (ix2 (i 0) x) * heads (ix2 x (i 1))) * Ideal.ofBits .f32 1115684864#32

theorem out_eq : (dats m 0 c).arrAt 3 (cfgs 0).N = out (argD m c) (argO m c) := by
  refine (dats m 0 c).arrAt_eq_of_covers 3 _ (by decide +kernel) fun t _ y => ?_
  blk_simp
  rw [after0_3]
  frame_out
  idx_vars y
  pointwise [k0_pay1]
  simp only [blk_d, blk_o, blk_e]
  refine Eq.trans (?_ : _ = out (argD m c) (argO m c) (ix2 (rowAt t y0) y1)) (congrArg _ ?_)
  · rfl
  · blk_ext [idx t]

/-! ## The sums of the heads -/

/-- The product with the matrix of the heads sums the head's columns. -/
theorem head_sum (P : Fin 1024 → EReal) (j : Fin 128) :
    (∑ x : Fin 1024, P x * heads (ix2 x j)) * Ideal.ofBits .f32 1115684864#32
      = if h : j.val < 16 then ∑ d : Fin 64, P ⟨j.val * 64 + d.val, by have := d.isLt; omega⟩ else 0 := by
  have term : ∀ x : Fin 1024, ((64 : ℝ) : EReal) * (P x * heads (ix2 x j)) = if x.val / 64 = j.val then P x else 0 := by
    intro x
    show ((64 : ℝ) : EReal) * (P x * ((if x.val / 64 = j.val then 1 else 0) * ((1 / 64 : ℝ) : EReal))) = _
    by_cases h : x.val / 64 = j.val
    · rw [if_pos h, if_pos h, one_mul, mul_comm, mul_assoc, ← EReal.coe_mul]
      norm_num
    · rw [if_neg h, if_neg h, zero_mul, mul_zero, mul_zero]
  rw [word64, mul_comm, RealFactor.mul_sum (by norm_num)]
  simp only [term]
  rw [← Fin.sum_mul_add_congr (S := 16) (n := 64) (F := fun s k => if s.val = j.val then P ⟨s.val * 64 + k.val, by have := s.isLt; have := k.isLt; omega⟩ else 0)
    (fun s k hl => by
      have hk := k.isLt
      have : (s.val * 64 + k.val) / 64 = s.val := by omega
      simp only [this])]
  by_cases h : j.val < 16
  · rw [dif_pos h, Finset.sum_eq_single (⟨j.val, h⟩ : Fin 16)]
    · exact Finset.sum_congr rfl fun d _ => if_pos rfl
    · exact fun s _ hs => Finset.sum_eq_zero fun k _ => if_neg fun e => hs (Fin.ext e)
    · exact fun hs => absurd (Finset.mem_univ _) hs
  · rw [dif_neg h]
    exact Finset.sum_eq_zero fun s _ => Finset.sum_eq_zero fun k _ => if_neg fun (e : s.val = j.val) => h (e ▸ s.isLt)

section reference

open Cert.DeltaRefIdeal.Read

theorem ref_eq (D O : FVec Ideal S8448x1024 .f32) : val_main_v3 (F := Ideal) D O = out D O := by
  refine funext fun i => ?_
  idx_vars i
  refine Eq.trans ?_ (head_sum (fun x => D (ix2 i0 x) * O (ix2 i0 x)) i1).symm
  pointwise [val_main_v3, val_main_v2, val_main_v1, val_main_v0]
  have z : val_main_cst (F := Ideal) (Shape.Idx.first Cert.DeltaRefIdeal.Gen.h_S_) = 0 := by simp [val_main_cst_apply, Ideal.ofBits, Ideal.ieee]
  have z' : val_main_call0_v0 (F := Ideal) (Shape.Idx.first Cert.DeltaRefIdeal.Gen.h_S_) = 0 := by
    rw [val_main_call0_v0_apply, val_main_c_apply]; simp [FloatOps.sitofp]
  rw [z, z']
  simp only [zero_add]

end reference

/-- The claim: both write the sums of the heads, padded to the width of the lanes. -/
theorem algebraic : Cert.algebraic_DeltaIdeal_DeltaRefIdeal := by
  intro m g m' g' _ hm
  refine ⟨_, (θ_run _ _ _).mono (fun r h c => ⟨(h c).1.trans (out_eq m c), (h c).2⟩) (Cert.DeltaIdeal.Value.run_blocks m g),
    (θ_run _ _ _).mono (fun r h c => ⟨(h c).1.trans ?_, (h c).2⟩) (Cert.DeltaRefIdeal.Value.run m' g')⟩
  rw [(hm c).1, (hm c).2]
  exact ref_eq _ _

end Cert.DeltaProof
end
-- ==== Proof.GeluErf.lean ====
/- The two ways of writing GELU: with the error function, and with its complement. -/
module

public import Idealize.ShloMosaic.Lib.Pointwise

@[expose] public section

noncomputable section

namespace Cert.GeluErf

open Idealize.ShloMosaic

theorem erf_add (y s : EReal) : 1 + Ideal.erf (y * s) = Ideal.erfc (-y * s) := by
  rw [neg_mul, Ideal.erfc_neg]

end Cert.GeluErf
end
-- ==== Proof.SGeluValue.lean ====
/- GELU of the recurrence's output with its skip: the kernel writes what the reference returns. -/
module

public import proofs.«01_k».proof.Defs
public import proofs.«01_k».proof.Proof.Gen.SGeluIdeal.Value
public import proofs.«01_k».proof.Proof.Gen.SGeluRefIdeal.Run
public import proofs.«01_k».proof.Proof.Gen.SGeluRefIdeal.Read
public import proofs.«01_k».proof.Proof.GeluErf
public import Idealize.ShloMosaic.Lib.Pipeline.ValueKit

@[expose] public section

set_option maxRecDepth 16384

noncomputable section

namespace Cert.SGeluProof

open Cert.SGeluIdeal Cert.SGeluIdeal.Gen Idealize.ShloMosaic Idealize.ShloMosaic.TcCoe Idealize.SL.Sem

/-- The windows' block indices. -/
theorem idx : ∀ t : Fin cfg0.N, win0_0.index t = ![t.val, 0] ∧ win0_1.index t = ![t.val, 0] ∧ win0_2.index t = ![0, 0] ∧ win0_3.index t = ![t.val, 0] ∧ win0_4.index t = ![t.val, 0] :=
  (by decide +kernel : ∀ t : Fin grid0.N, _)

/-- The row of the array that a block's row is. -/
abbrev rowAt (t : Fin cfg0.N) (a : Fin 768) : Fin 8448 := ⟨t.val * 768 + a.val, by have := t.isLt; have h : cfg0.N = 11 := N_0; omega⟩

variable (m : (ℓ : Loc nD τ sig) → Buf (Elt Ideal) ℓ) (c : Dev nD)

abbrev argY : FVec Ideal S8448x1024 .f32 := m ((c.tc : Thread nD τ).loc main_arg0)
abbrev argH : FVec Ideal S8448x1024 .f32 := m ((c.tc : Thread nD τ).loc main_arg1)
abbrev argD : FVec Ideal S1024 .f32 := m ((c.tc : Thread nD τ).loc main_arg2)

theorem blk_y (t : Fin cfg0.N) (a : Fin 768) (x : Fin 1024) :
    (iblk m c 0 t : FVec Ideal S768x1024 .f32) (ix2 a x) = argY m c (ix2 (rowAt t a) x) := by blk_ext [iblk, V, idx t]
theorem blk_h (t : Fin cfg0.N) (a : Fin 768) (x : Fin 1024) :
    (iblk m c 1 t : FVec Ideal S768x1024 .f32) (ix2 a x) = argH m c (ix2 (rowAt t a) x) := by blk_ext [iblk, V, idx t]
theorem blk_d (t : Fin cfg0.N) (x : Fin 1024) : (iblk m c 2 t : FVec Ideal S1x1024 .f32) (ix2 0 x) = argD m c (ix1 x) := by
  blk_simp [iblk]; entry_read; pointwise; blk_ext [idx t]

/-- GELU's argument. -/
def outY (Y H : FVec Ideal S8448x1024 .f32) (D : FVec Ideal S1024 .f32) : FVec Ideal S8448x1024 .f32 := fun i => Y i + D (ix1 (i 1)) * H i

/-- GELU of an array. -/
def gelu (Y : FVec Ideal S8448x1024 .f32) : FVec Ideal S8448x1024 .bf16 :=
  fun i => Ideal.ofBits .f32 1056964608#32 * Y i * (1 + Ideal.erf (Y i * Ideal.ofBits .f32 1060439283#32))

theorem pay_y (t : Fin cfg0.N) (a : Fin 768) (b : Fin 1024) :
    k0_pay1 (F := Ideal) (iblk m c 0 t) (iblk m c 1 t) (iblk m c 2 t) (ix2 a b) = outY (argY m c) (argH m c) (argD m c) (ix2 (rowAt t a) b) := by
  pointwise [k0_pay1]
  rw [blk_y, blk_h, blk_d]
  rfl

theorem y_eq : (dats m 0 c).arrAt 3 (cfgs 0).N = outY (argY m c) (argH m c) (argD m c) := by
  refine (dats m 0 c).arrAt_eq_of_covers 3 _ (by decide +kernel) fun t _ y => ?_
  blk_simp
  rw [after0_3]
  frame_out
  idx_vars y
  refine (pay_y m c t _ _).trans (congrArg (outY (argY m c) (argH m c) (argD m c)) (?_ : ix2 (rowAt t y0) y1 = _))
  blk_ext [idx t]

theorem g_eq : (dats m 0 c).arrAt 4 (cfgs 0).N = gelu (outY (argY m c) (argH m c) (argD m c)) := by
  refine (dats m 0 c).arrAt_eq_of_covers 4 _ (by decide +kernel) fun t _ y => ?_
  blk_simp
  rw [after0_4]
  frame_out
  idx_vars y
  pointwise [k0_pay2]
  rw [pay_y]
  refine Eq.trans (?_ : _ = gelu (outY (argY m c) (argH m c) (argD m c)) (ix2 (rowAt t y0) y1)) (congrArg _ ?_)
  · rfl
  · blk_ext [idx t]

/-- The claim: both write GELU's argument and its value. -/
theorem algebraic : Cert.algebraic_SGeluIdeal_SGeluRefIdeal := by
  intro m g m' g' _ hm
  refine ⟨_, _, (θ_run _ _ _).mono (fun r h c => ⟨(h c).1.trans (y_eq m c), (h c).2.1.trans (g_eq m c), (h c).2.2⟩) (Cert.SGeluIdeal.Value.run_blocks m g),
    (θ_run _ _ _).mono (fun r h c => ⟨(h c).1.trans ?_, (h c).2.1.trans ?_, (h c).2.2⟩) (Cert.SGeluRefIdeal.Value.run m' g')⟩
  all_goals
    rw [(hm c).1, (hm c).2.1, (hm c).2.2]
    funext i
    idx_vars i
    pointwise
  · rfl
  · rw [← GeluErf.erf_add]; rfl

end Cert.SGeluProof
end
-- ==== Proof.SGluValue.lean ====
/- The gated unit: the kernel writes what the reference returns. -/
module

public import proofs.«01_k».proof.Defs
public import proofs.«01_k».proof.Proof.Gen.SGluIdeal.Value
public import proofs.«01_k».proof.Proof.Gen.SGluRefIdeal.Run
public import proofs.«01_k».proof.Proof.Gen.SGluRefIdeal.Read
public import proofs.«01_k».proof.Proof.GeluErf
public import Idealize.ShloMosaic.Lib.Pipeline.ValueKit

@[expose] public section

set_option maxRecDepth 16384

noncomputable section

namespace Cert.SGluProof

open Cert.SGluIdeal Cert.SGluIdeal.Gen Idealize.ShloMosaic Idealize.ShloMosaic.TcCoe Idealize.SL.Sem

/-- The claim: both write `gelu y * sigmoid gw`. -/
theorem algebraic : Cert.algebraic_SGluIdeal_SGluRefIdeal := by
  intro m g m' g' _ hm
  refine ⟨_, Cert.SGluIdeal.Value.run m g,
    (θ_run _ _ _).mono (fun r h c => ⟨(h c).1.trans ?_, (h c).2⟩) (Cert.SGluRefIdeal.Value.run m' g')⟩
  rw [(hm c).1, (hm c).2]
  funext i
  pointwise [Cert.SGluIdeal.Value.G2]
  rw [← GeluErf.erf_add, sub_eq_add_neg 0, zero_add]
  rfl

end Cert.SGluProof
end
-- ==== Proof.FfnUpValue.lean ====
/- The feed-forward's two products and its gate: the kernel writes what the reference returns. -/
module

public import proofs.«01_k».proof.Defs
public import proofs.«01_k».proof.Proof.Gen.FfnUpIdeal.Value
public import proofs.«01_k».proof.Proof.Gen.FfnUpRefIdeal.Run
public import proofs.«01_k».proof.Proof.Gen.FfnUpRefIdeal.Read
public import Idealize.ShloMosaic.Lib.Pipeline.ValueKit

@[expose] public section

set_option maxRecDepth 16384

noncomputable section

namespace Cert.FfnUpProof

open Cert.FfnUpIdeal Cert.FfnUpIdeal.Gen Idealize.ShloMosaic Idealize.ShloMosaic.TcCoe Idealize.SL.Sem

/-- The windows' block indices. -/
theorem idx : ∀ t : Fin cfg0.N, win0_0.index t = ![t.val, 0] ∧ win0_1.index t = ![0, 0] ∧ win0_2.index t = ![0, 0] ∧ win0_3.index t = ![t.val, 0] ∧ win0_4.index t = ![t.val, 0] ∧ win0_5.index t = ![t.val, 0] :=
  (by decide +kernel : ∀ t : Fin grid0.N, _)

/-- The row of the array that a block's row is. -/
abbrev rowAt (t : Fin cfg0.N) (a : Fin 256) : Fin 8448 := ⟨t.val * 256 + a.val, by have := t.isLt; have h : cfg0.N = 33 := N_0; omega⟩

variable (m : (ℓ : Loc nD τ sig) → Buf (Elt Ideal) ℓ) (c : Dev nD)

abbrev argH : FVec Ideal S8448x1024 .f32 := m ((c.tc : Thread nD τ).loc main_arg0)
abbrev argG : FVec Ideal S1024x2816 .f32 := m ((c.tc : Thread nD τ).loc main_arg1)
abbrev argU : FVec Ideal S1024x2816 .f32 := m ((c.tc : Thread nD τ).loc main_arg2)

theorem blk_h (t : Fin cfg0.N) (a : Fin 256) (x : Fin 1024) :
    (iblk m c 0 t : FVec Ideal S256x1024 .bf16) (ix2 a x) = argH m c (ix2 (rowAt t a) x) := by
  blk_simp [iblk]; entry_read; pointwise; blk_ext [idx t]
theorem blk_g (t : Fin cfg0.N) (a : Fin 2816) (x : Fin 1024) :
    (iblk m c 1 t : FVec Ideal S2816x1024 .bf16) (ix2 a x) = argG m c (ix2 x a) := by
  blk_simp [iblk]; entry_read; pointwise; blk_ext [idx t]
theorem blk_u (t : Fin cfg0.N) (a : Fin 2816) (x : Fin 1024) :
    (iblk m c 2 t : FVec Ideal S2816x1024 .bf16) (ix2 a x) = argU m c (ix2 x a) := by
  blk_simp [iblk]; entry_read; pointwise; blk_ext [idx t]

/-- A product with a weight. -/
def prod (H : FVec Ideal S8448x1024 .f32) (W : FVec Ideal S1024x2816 .f32) : FVec Ideal S8448x2816 .bf16 :=
  fun i => ∑ k : Fin 1024, H (ix2 (i 0) k) * W (ix2 k (i 1))

/-- The logistic function as the kernel computes it. -/
def sgm (x : EReal) : EReal := Ideal.div (1) (1 + Ideal.exp (0 - x))

theorem sgm_neg (x : EReal) : sgm x = Ideal.div (1) (1 + Ideal.exp (-x)) := by
  rw [sgm, sub_eq_add_neg 0, zero_add]

/-- The gate. -/
def gated (G U : FVec Ideal S8448x2816 .bf16) : FVec Ideal S8448x2816 .bf16 := fun i => G i * sgm (G i) * U i

theorem pay_g (t : Fin cfg0.N) (a : Fin 256) (b : Fin 2816) :
    k0_pay2 (F := Ideal) (iblk m c 0 t) (iblk m c 1 t) (ix2 a b) = prod (argH m c) (argG m c) (ix2 (rowAt t a) b) := by
  pointwise [k0_pay2, k0_pay1]
  simp only [blk_h, blk_g]
  rfl
theorem pay_u (t : Fin cfg0.N) (a : Fin 256) (b : Fin 2816) :
    k0_pay3 (F := Ideal) (iblk m c 0 t) (iblk m c 2 t) (ix2 a b) = prod (argH m c) (argU m c) (ix2 (rowAt t a) b) := by
  pointwise [k0_pay3, k0_pay1]
  simp only [blk_h, blk_u]
  rfl

theorem g_eq : (dats m 0 c).arrAt 3 (cfgs 0).N = prod (argH m c) (argG m c) := by
  refine (dats m 0 c).arrAt_eq_of_covers 3 _ (by decide +kernel) fun t _ y => ?_
  blk_simp
  rw [after0_3]
  frame_out
  idx_vars y
  refine (pay_g m c t _ _).trans (congrArg (prod (argH m c) (argG m c)) (?_ : ix2 (rowAt t y0) y1 = _))
  blk_ext [idx t]

theorem u_eq : (dats m 0 c).arrAt 4 (cfgs 0).N = prod (argH m c) (argU m c) := by
  refine (dats m 0 c).arrAt_eq_of_covers 4 _ (by decide +kernel) fun t _ y => ?_
  blk_simp
  rw [after0_4]
  frame_out
  idx_vars y
  refine (pay_u m c t _ _).trans (congrArg (prod (argH m c) (argU m c)) (?_ : ix2 (rowAt t y0) y1 = _))
  blk_ext [idx t]

theorem a_eq : (dats m 0 c).arrAt 5 (cfgs 0).N = gated (prod (argH m c) (argG m c)) (prod (argH m c) (argU m c)) := by
  refine (dats m 0 c).arrAt_eq_of_covers 5 _ (by decide +kernel) fun t _ y => ?_
  blk_simp
  rw [after0_5]
  frame_out
  idx_vars y
  pointwise [k0_pay4]
  rw [pay_g, pay_u]
  refine Eq.trans (?_ : _ = gated (prod (argH m c) (argG m c)) (prod (argH m c) (argU m c)) (ix2 (rowAt t y0) y1)) (congrArg _ ?_)
  · rfl
  · blk_ext [idx t]

/-- The claim: both write the two products and the gate. -/
theorem algebraic : Cert.algebraic_FfnUpIdeal_FfnUpRefIdeal := by
  intro m g m' g' _ hm
  refine ⟨_, _, _, (θ_run _ _ _).mono (fun r h c => ⟨(h c).1.trans (g_eq m c), (h c).2.1.trans (u_eq m c), (h c).2.2.1.trans (a_eq m c), (h c).2.2.2⟩)
      (Cert.FfnUpIdeal.Value.run_blocks m g),
    (θ_run _ _ _).mono (fun r h c => ⟨(h c).1.trans ?_, (h c).2.1.trans ?_, (h c).2.2.1.trans ?_, (h c).2.2.2⟩) (Cert.FfnUpRefIdeal.Value.run m' g')⟩
  · rw [(hm c).1, (hm c).2.1]
    funext i
    idx_vars i
    pointwise
    rfl
  · rw [(hm c).1, (hm c).2.2]
    funext i
    idx_vars i
    pointwise
    rfl
  · rw [(hm c).1, (hm c).2.1, (hm c).2.2]
    funext i
    idx_vars i
    pointwise
    rw [← sgm_neg]
    rfl

end Cert.FfnUpProof
end
-- ==== Proof.DownValue.lean ====
/- The feed-forward's last product with the residual and the layer norm: the kernel writes what the reference returns. -/
module

public import proofs.«01_k».proof.Defs
public import proofs.«01_k».proof.Proof.Gen.DownIdeal.Value
public import proofs.«01_k».proof.Proof.Gen.DownRefIdeal.Run
public import proofs.«01_k».proof.Proof.Gen.DownRefIdeal.Read
public import proofs.«01_k».proof.Proof.RowNorm
public import Idealize.ShloMosaic.Lib.Pipeline.ValueKit

@[expose] public section

set_option maxRecDepth 16384

noncomputable section

namespace Cert.DownProof

open Cert.DownIdeal Cert.DownIdeal.Gen Idealize.ShloMosaic Idealize.ShloMosaic.TcCoe Idealize.SL.Sem

/-- The windows' block indices. -/
theorem idx : ∀ t : Fin cfg0.N, win0_0.index t = ![t.val, 0] ∧ win0_1.index t = ![0, 0] ∧ win0_2.index t = ![t.val, 0] ∧ win0_3.index t = ![0, 0] ∧ win0_4.index t = ![0, 0] ∧ win0_5.index t = ![t.val, 0] ∧ win0_6.index t = ![t.val, 0] ∧ win0_7.index t = ![t.val, 0] :=
  (by decide +kernel : ∀ t : Fin grid0.N, _)

/-- The row of the array that a block's row is. -/
abbrev rowAt (t : Fin cfg0.N) (a : Fin 768) : Fin 8448 := ⟨t.val * 768 + a.val, by have := t.isLt; have h : cfg0.N = 11 := N_0; omega⟩

variable (m : (ℓ : Loc nD τ sig) → Buf (Elt Ideal) ℓ) (c : Dev nD)

abbrev argA : FVec Ideal S8448x2816 .f32 := m ((c.tc : Thread nD τ).loc main_arg0)
abbrev argW : FVec Ideal S2816x1024 .f32 := m ((c.tc : Thread nD τ).loc main_arg1)
abbrev argH : FVec Ideal S8448x1024 .f32 := m ((c.tc : Thread nD τ).loc main_arg2)
abbrev argG : FVec Ideal S1024 .f32 := m ((c.tc : Thread nD τ).loc main_arg3)
abbrev argB : FVec Ideal S1024 .f32 := m ((c.tc : Thread nD τ).loc main_arg4)

theorem blk_a (t : Fin cfg0.N) (a : Fin 768) (x : Fin 2816) :
    (iblk m c 0 t : FVec Ideal S768x2816 .bf16) (ix2 a x) = argA m c (ix2 (rowAt t a) x) := by
  blk_simp [iblk]; entry_read; pointwise; blk_ext [idx t]
theorem blk_w (t : Fin cfg0.N) (a : Fin 2816) (x : Fin 1024) :
    (iblk m c 1 t : FVec Ideal S2816x1024 .bf16) (ix2 a x) = argW m c (ix2 a x) := by
  blk_simp [iblk]; entry_read; pointwise; blk_ext [idx t]
theorem blk_h (t : Fin cfg0.N) (a : Fin 768) (x : Fin 1024) :
    (iblk m c 2 t : FVec Ideal S768x1024 .f32) (ix2 a x) = argH m c (ix2 (rowAt t a) x) := by blk_ext [iblk, V, idx t]
theorem blk_g (t : Fin cfg0.N) (x : Fin 1024) : (iblk m c 3 t : FVec Ideal S1x1024 .f32) (ix2 0 x) = argG m c (ix1 x) := by
  blk_simp [iblk]; entry_read; pointwise; blk_ext [idx t]
theorem blk_b (t : Fin cfg0.N) (x : Fin 1024) : (iblk m c 4 t : FVec Ideal S1x1024 .f32) (ix2 0 x) = argB m c (ix1 x) := by
  blk_simp [iblk]; entry_read; pointwise; blk_ext [idx t]

/-- The residual sum. -/
def res (A : FVec Ideal S8448x2816 .f32) (W : FVec Ideal S2816x1024 .f32) (H : FVec Ideal S8448x1024 .f32) : FVec Ideal S8448x1024 .f32 :=
  fun i => Ideal.ofBits .f32 1071072509#32 * H i + ∑ k : Fin 2816, A (ix2 (i 0) k) * W (ix2 k (i 1))

/-- The layer norm of an array's rows. -/
def norm (R : FVec Ideal S8448x1024 .f32) (G B : FVec Ideal S1024 .f32) : FVec Ideal S8448x1024 .f32 :=
  fun i => (R i - RowNorm.mean fun x => R (ix2 (i 0) x)) * (RowNorm.rstd fun x => R (ix2 (i 0) x)) * G (ix1 (i 1)) + B (ix1 (i 1))

theorem pay_r (t : Fin cfg0.N) (a : Fin 768) (b : Fin 1024) :
    k0_pay1 (F := Ideal) (iblk m c 2 t) (iblk m c 0 t) (iblk m c 1 t) (ix2 a b) = res (argA m c) (argW m c) (argH m c) (ix2 (rowAt t a) b) := by
  pointwise [k0_pay1]
  simp only [blk_h, blk_a, blk_w]
  rfl

theorem pay_y (t : Fin cfg0.N) (a : Fin 768) (b : Fin 1024) :
    k0_pay2 (F := Ideal) (iblk m c 2 t) (iblk m c 0 t) (iblk m c 1 t) (iblk m c 3 t) (iblk m c 4 t) (ix2 a b)
      = norm (res (argA m c) (argW m c) (argH m c)) (argG m c) (argB m c) (ix2 (rowAt t a) b) := by
  pointwise [k0_pay2]
  simp only [pay_r, blk_g, blk_b]
  rfl

theorem r_eq : (dats m 0 c).arrAt 5 (cfgs 0).N = res (argA m c) (argW m c) (argH m c) := by
  refine (dats m 0 c).arrAt_eq_of_covers 5 _ (by decide +kernel) fun t _ y => ?_
  blk_simp
  rw [after0_5]
  frame_out
  idx_vars y
  refine (pay_r m c t _ _).trans (congrArg (res (argA m c) (argW m c) (argH m c)) (?_ : ix2 (rowAt t y0) y1 = _))
  blk_ext [idx t]

theorem y_eq : (dats m 0 c).arrAt 6 (cfgs 0).N = norm (res (argA m c) (argW m c) (argH m c)) (argG m c) (argB m c) := by
  refine (dats m 0 c).arrAt_eq_of_covers 6 _ (by decide +kernel) fun t _ y => ?_
  blk_simp
  rw [after0_6]
  frame_out
  idx_vars y
  refine (pay_y m c t _ _).trans (congrArg (norm (res (argA m c) (argW m c) (argH m c)) (argG m c) (argB m c)) (?_ : ix2 (rowAt t y0) y1 = _))
  blk_ext [idx t]

theorem yb_eq : (dats m 0 c).arrAt 7 (cfgs 0).N = norm (res (argA m c) (argW m c) (argH m c)) (argG m c) (argB m c) := by
  refine (dats m 0 c).arrAt_eq_of_covers 7 _ (by decide +kernel) fun t _ y => ?_
  blk_simp
  rw [after0_7]
  frame_out
  idx_vars y
  refine (pay_y m c t _ _).trans (congrArg (norm (res (argA m c) (argW m c) (argH m c)) (argG m c) (argB m c)) (?_ : ix2 (rowAt t y0) y1 = _))
  blk_ext [idx t]

/-! ## The reference -/

section reference

open Cert.DownRefIdeal.Read

variable (A : FVec Ideal S8448x2816 .f32) (W : FVec Ideal S2816x1024 .f32) (H : FVec Ideal S8448x1024 .f32) (G B : FVec Ideal S1024 .f32)

theorem ref_r : val_main_v3 (F := Ideal) A W H = res A W H := by
  refine funext fun i => ?_
  idx_vars i
  pointwise [val_main_v3, val_main_v2, val_main_v1, val_main_v0]
  rfl

theorem zero : FloatOps.ofBits (F := Ideal) .f32 0#32 = (0 : EReal) := by simp [Ideal.ofBits, Ideal.ieee]

theorem ref_y : val_main_v27 (F := Ideal) A W H G B = norm (res A W H) G B := by
  refine funext fun i => ?_
  idx_vars i
  pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4]
  simp only [ref_r, val_main_cst_0_apply, val_main_cst_1_apply, val_main_cst_2_apply, val_main_cst_3_apply, val_main_cst_4_apply, zero]
  simp only [zero_add]
  rfl

end reference

/-- The claim: both write the residual sum and its layer norm. -/
theorem algebraic : Cert.algebraic_DownIdeal_DownRefIdeal := by
  intro m g m' g' _ hm
  refine ⟨_, _, _, (θ_run _ _ _).mono (fun r h c => ⟨(h c).1.trans (r_eq m c), (h c).2.1.trans (y_eq m c), (h c).2.2.1.trans (yb_eq m c), (h c).2.2.2⟩)
      (Cert.DownIdeal.Value.run_blocks m g),
    (θ_run _ _ _).mono (fun r h c => ⟨(h c).1.trans ?_, (h c).2.1.trans ?_, (h c).2.2.1.trans ?_, (h c).2.2.2⟩) (Cert.DownRefIdeal.Value.run m' g')⟩
  · rw [(hm c).1, (hm c).2.1, (hm c).2.2.1]
    exact ref_r _ _ _
  · rw [(hm c).1, (hm c).2.1, (hm c).2.2.1, (hm c).2.2.2.1, (hm c).2.2.2.2]
    exact ref_y _ _ _ _ _
  · rw [(hm c).1, (hm c).2.1, (hm c).2.2.1, (hm c).2.2.2.1, (hm c).2.2.2.2]
    exact ref_y _ _ _ _ _

end Cert.DownProof
end
-- ==== Proof.RopeMath.lean ====
/- The rotary norm, written once: positions of the rows, angles, the mean over a head, and the norm with its rotation.
   The kernel sums heads by products with 0/1 matrices; here these products are the sums over the head's columns. -/
module

public import proofs.«01_k».proof.Defs
public import proofs.«01_k».proof.Proof.RealFactor
public import Idealize.ShloMosaic.Lib.Pipeline.ValueKit

@[expose] public section

set_option maxRecDepth 16384

noncomputable section

namespace Cert.RopeMath

open Idealize.ShloMosaic

/-! ## Positions and angles -/

/-- A row's position on the grid of tokens, in the host's integers: the quotient by 64, zero before the tokens. -/
abbrev rowBits (x : BitVec 32) : BitVec 32 :=
  Scalar.select (IntOp.cmpi CmpIPredicate.sge x 0#32)
    (Scalar.select
      (IntOp.andi
        (IntOp.cmpi (w := 32) CmpIPredicate.ne (if x = 0 then 0 else if x.msb = true then -1 else 1) (if 64#32 = 0 then 0 else if (64#32).msb = true then -1 else 1))
        (IntOp.cmpi CmpIPredicate.ne (IntOp.remsi ArithUnit.host x 64#32) 0#32))
      (IntOp.subi (IntOp.divsi ArithUnit.host x 64#32) 1#32)
      (IntOp.divsi ArithUnit.host x 64#32))
    0#32

/-- The same for the column: the remainder by 64. -/
abbrev colBits (x : BitVec 32) : BitVec 32 :=
  Scalar.select (IntOp.cmpi CmpIPredicate.sge x 0#32)
    (Scalar.select
      (IntOp.andi
        (IntOp.cmpi CmpIPredicate.ne
          (IntOp.cmpi CmpIPredicate.slt
            (IntOp.remsi ArithUnit.host x (Scalar.select (IntOp.cmpi CmpIPredicate.eq 64#32 0#32) 1#32 64#32)) 0#32)
          (IntOp.cmpi CmpIPredicate.slt (Scalar.select (IntOp.cmpi CmpIPredicate.eq 64#32 0#32) 1#32 64#32) 0#32))
        (IntOp.cmpi CmpIPredicate.ne
          (IntOp.remsi ArithUnit.host x (Scalar.select (IntOp.cmpi CmpIPredicate.eq 64#32 0#32) 1#32 64#32)) 0#32))
      (IntOp.addi
        (IntOp.remsi ArithUnit.host x (Scalar.select (IntOp.cmpi CmpIPredicate.eq 64#32 0#32) 1#32 64#32))
        (Scalar.select (IntOp.cmpi CmpIPredicate.eq 64#32 0#32) 1#32 64#32))
      (IntOp.remsi ArithUnit.host x (Scalar.select (IntOp.cmpi CmpIPredicate.eq 64#32 0#32) 1#32 64#32)))
    0#32

theorem row_eq : ∀ r : Fin 8448, rowBits (IntOp.subi (BitVec.ofNat 32 r.val) 256#32) = BitVec.ofNat 32 ((r.val - 256) / 64) := by decide +kernel
theorem col_eq : ∀ r : Fin 8448, colBits (IntOp.subi (BitVec.ofNat 32 r.val) 256#32) = BitVec.ofNat 32 ((r.val - 256) % 64) := by decide +kernel

/-- The angle per unit of position. -/
def freq (k : ℕ) : EReal :=
  Ideal.pow (Ideal.ofBits .f32 1176256512#32)
    (Ideal.div (-(Ideal.ofBits .f32 1073741824#32 * FloatOps.sitofp (F := Ideal) .f32 (BitVec.ofNat 32 k))) (Ideal.ofBits .f32 1107296256#32))

/-- The angle of a row at a column of a head: the first half turns with the row's position, the second with the column's. -/
def angle (r : Fin 8448) (l : ℕ) : EReal :=
  FloatOps.sitofp (F := Ideal) .f32 (BitVec.ofNat 32 (if l < 32 then (r.val - 256) / 64 else (r.val - 256) % 64)) * freq (l % 16)

/-- The sine with the sign it has in the rotation. -/
def sine (r : Fin 8448) (l : ℕ) : EReal := if l % 32 < 16 then -Ideal.sin (angle r l) else Ideal.sin (angle r l)

/-- The column that the rotation exchanges with this one. -/
def other (l : Fin 64) : Fin 64 := if h : l.val % 32 < 16 then ⟨l.val + 16, by omega⟩ else ⟨l.val - 16, by omega⟩

/-! ## Sums over a head -/

/-- A product with the matrix of the heads is the mean over the head's columns. -/
theorem head_mean {H L : ℕ} (hL : L = H * 64) (P : Fin L → EReal) (j : ℕ) :
    (∑ x : Fin L, P x * ((if x.val / 64 = j then 1 else 0) * ((1 / 64 : ℝ) : EReal)))
      = if h : j < H then (∑ d : Fin 64, P ⟨j * 64 + d.val, by have := d.isLt; omega⟩) * ((1 / 64 : ℝ) : EReal) else 0 := by
  subst hL
  have term : ∀ x : Fin (H * 64), P x * ((if x.val / 64 = j then 1 else 0) * ((1 / 64 : ℝ) : EReal))
      = ((1 / 64 : ℝ) : EReal) * if x.val / 64 = j then P x else 0 := by
    intro x
    by_cases h : x.val / 64 = j
    · rw [if_pos h, if_pos h, one_mul, mul_comm]
    · rw [if_neg h, if_neg h, zero_mul, mul_zero, mul_zero]
  simp only [term]
  rw [← RealFactor.mul_sum (by norm_num)]
  rw [← Fin.sum_mul_add_congr (S := H) (n := 64) (F := fun s k => if s.val = j then P ⟨s.val * 64 + k.val, by have := s.isLt; have := k.isLt; omega⟩ else 0)
    (fun s k hl => by
      have hk := k.isLt
      have : (s.val * 64 + k.val) / 64 = s.val := by omega
      simp only [this])]
  by_cases h : j < H
  · rw [dif_pos h, Finset.sum_eq_single (⟨j, h⟩ : Fin H), mul_comm]
    · exact congrArg (· * _) (Finset.sum_congr rfl fun d _ => if_pos rfl)
    · exact fun s _ hs => Finset.sum_eq_zero fun k _ => if_neg fun e => hs (Fin.ext e)
    · exact fun hs => absurd (Finset.mem_univ _) hs
  · rw [dif_neg h, Finset.sum_eq_zero, mul_zero]
    exact fun s _ => Finset.sum_eq_zero fun k _ => if_neg fun (e : s.val = j) => h (e ▸ s.isLt)

/-- A product with the transposed matrix picks a column's head. -/
theorem spread (f : Fin 128 → EReal) (h : ℕ) (hh : h < 128) :
    (∑ y : Fin 128, f y * (if h = y.val then 1 else 0)) = f ⟨h, hh⟩ := by
  rw [Finset.sum_eq_single (⟨h, hh⟩ : Fin 128)]
  · rw [if_pos rfl, mul_one]
  · exact fun y _ hy => by rw [if_neg fun e => hy (Fin.ext e.symm), mul_zero]
  · exact fun hs => absurd (Finset.mem_univ _) hs

/-- The columns of the head that a column belongs to. -/
def headAt {L : ℕ} (P : Fin L → EReal) (hL : 64 ∣ L) (j : Fin L) (d : Fin 64) : EReal :=
  P ⟨j.val / 64 * 64 + d.val, by have := d.isLt; have := j.isLt; omega⟩

/-- The reciprocal root of a head's mean square. -/
def unit (t : Fin 64 → EReal) : EReal :=
  Ideal.rsqrt ((∑ d : Fin 64, t d * t d) * ((1 / 64 : ℝ) : EReal) + Ideal.ofBits .f32 897988541#32)

theorem spread_unit {H L : ℕ} (hL : L = H * 64) (hH : H ≤ 128) (P : Fin L → EReal) (j : Fin L) :
    (∑ y : Fin 128, Ideal.rsqrt ((∑ x : Fin L, P x * P x * ((if x.val / 64 = y.val then 1 else 0) * ((1 / 64 : ℝ) : EReal)))
        + Ideal.ofBits .f32 897988541#32) * (if j.val / 64 = y.val then 1 else 0))
      = unit (headAt P ⟨H, by omega⟩ j) := by
  have hj := j.isLt
  have hd : j.val / 64 < H := by omega
  rw [spread _ (j.val / 64) (by omega)]
  rw [head_mean hL (fun x => P x * P x) (j.val / 64), dif_pos hd]
  rfl

/-! ## The norm and the rotation -/

/-- The column in its head. -/
abbrev lane {L : ℕ} (j : Fin L) : Fin 64 := ⟨j.val % 64, Nat.mod_lt _ (by norm_num)⟩

def normed (t g : Fin 64 → EReal) (l : Fin 64) : EReal := t l * unit t * g l

def rope (t g : Fin 64 → EReal) (r : Fin 8448) (l : Fin 64) : EReal :=
  normed t g l * Ideal.cos (angle r l.val) + normed t g (other l) * sine r l.val

theorem angle_congr (r : Fin 8448) (l l' : ℕ) (h : l < 32 ↔ l' < 32) (h' : l % 16 = l' % 16) : angle r l = angle r l' := by
  unfold angle
  rw [h', if_congr h rfl rfl]

/-- The rotation as the reference writes it: a difference in the first quarter of each half, a sum in the second. -/
theorem rope_quarters (t g : Fin 64 → EReal) (r : Fin 8448) (d : Fin 64) :
    (if h1 : d.val < 32 then
      if h2 : d.val < 16 then
        normed t g d * Ideal.cos (angle r d.val) - normed t g ⟨16 + d.val, by omega⟩ * Ideal.sin (angle r d.val)
      else
        normed t g ⟨16 + (d.val - 16), by omega⟩ * Ideal.cos (angle r (d.val - 16)) + normed t g ⟨d.val - 16, by omega⟩ * Ideal.sin (angle r (d.val - 16))
    else
      if h2 : d.val - 32 < 16 then
        normed t g ⟨32 + (d.val - 32), by omega⟩ * Ideal.cos (angle r (32 + (d.val - 32)))
          - normed t g ⟨32 + (16 + (d.val - 32)), by omega⟩ * Ideal.sin (angle r (32 + (d.val - 32)))
      else
        normed t g ⟨32 + (16 + (d.val - 32 - 16)), by omega⟩ * Ideal.cos (angle r (32 + (d.val - 32 - 16)))
          + normed t g ⟨32 + (d.val - 32 - 16), by omega⟩ * Ideal.sin (angle r (32 + (d.val - 32 - 16)))) = rope t g r d := by
  have hd := d.isLt
  have same : ∀ (l : ℕ) (hl : l < 64), l = d.val → normed t g ⟨l, hl⟩ = normed t g d := fun l hl e => congrArg _ (Fin.ext e)
  have up : ∀ (l : ℕ) (hl : l < 64), d.val % 32 < 16 → l = d.val + 16 → normed t g ⟨l, hl⟩ = normed t g (other d) := fun l hl h e => by
    unfold other; rw [dif_pos h]; exact congrArg _ (Fin.ext e)
  have down : ∀ (l : ℕ) (hl : l < 64), ¬d.val % 32 < 16 → l = d.val - 16 → normed t g ⟨l, hl⟩ = normed t g (other d) := fun l hl h e => by
    unfold other; rw [dif_neg h]; exact congrArg _ (Fin.ext e)
  unfold rope sine
  by_cases h1 : d.val < 32
  · rw [dif_pos h1]
    by_cases h2 : d.val < 16
    · rw [dif_pos h2, if_pos (by omega), mul_neg, ← sub_eq_add_neg, up (16 + d.val) (by omega) (by omega) (by omega)]
    · rw [dif_neg h2, if_neg (by omega), same (16 + (d.val - 16)) (by omega) (by omega), down (d.val - 16) (by omega) (by omega) (by omega), angle_congr r (d.val - 16) d.val (by omega) (by omega)]
  · rw [dif_neg h1]
    by_cases h2 : d.val - 32 < 16
    · rw [dif_pos h2, if_pos (by omega), mul_neg, ← sub_eq_add_neg, same (32 + (d.val - 32)) (by omega) (by omega), up (32 + (16 + (d.val - 32))) (by omega) (by omega) (by omega), angle_congr r (32 + (d.val - 32)) d.val (by omega) (by omega)]
    · rw [dif_neg h2, if_neg (by omega), same (32 + (16 + (d.val - 32 - 16))) (by omega) (by omega), down (32 + (d.val - 32 - 16)) (by omega) (by omega) (by omega), angle_congr r (32 + (d.val - 32 - 16)) d.val (by omega) (by omega)]

/-- A head's columns over the root of their mean square, as the reference writes it. -/
theorem unit_div (t : Fin 64 → EReal) :
    Ideal.rsqrt (Ideal.div (∑ d : Fin 64, t d * t d) (Ideal.ofBits .f32 1115684864#32) + Ideal.ofBits .f32 897988541#32) = unit t := by
  rw [show Ideal.ofBits .f32 1115684864#32 = ((64 : ℝ) : EReal) by simp [Ideal.ofBits, Ideal.ieee, -EReal.coe_mul]; norm_num, Ideal.div_coe (by norm_num)]
  rfl

/-! ## A table of 128 columns, repeated -/

theorem tile8 (s : Fin 128 → EReal) (j : Fin 1024) :
    (if h : j.val < 128 then s ⟨j.val, h⟩ else if h : j.val - 128 < 128 then s ⟨j.val - 128, h⟩
      else if h : j.val - 128 - 128 < 128 then s ⟨j.val - 128 - 128, h⟩
      else if h : j.val - 128 - 128 - 128 < 128 then s ⟨j.val - 128 - 128 - 128, h⟩
      else if h : j.val - 128 - 128 - 128 - 128 < 128 then s ⟨j.val - 128 - 128 - 128 - 128, h⟩
      else if h : j.val - 128 - 128 - 128 - 128 - 128 < 128 then s ⟨j.val - 128 - 128 - 128 - 128 - 128, h⟩
      else if h : j.val - 128 - 128 - 128 - 128 - 128 - 128 < 128 then s ⟨j.val - 128 - 128 - 128 - 128 - 128 - 128, h⟩
      else s ⟨j.val - 128 - 128 - 128 - 128 - 128 - 128 - 128, by omega⟩) = s ⟨j.val % 128, Nat.mod_lt _ (by norm_num)⟩ := by
  repeat' split
  all_goals exact congrArg s (Fin.ext (by simp only; omega))

theorem tile2 (s : Fin 128 → EReal) (j : Fin 256) :
    (if h : j.val < 128 then s ⟨j.val, h⟩ else s ⟨j.val - 128, by omega⟩) = s ⟨j.val % 128, Nat.mod_lt _ (by norm_num)⟩ := by
  split
  all_goals exact congrArg s (Fin.ext (by simp only; omega))

/-- Whether a column turns with its right neighbour, in the kernel's integers. -/
abbrev leftBits (x : BitVec 32) : BitVec 1 :=
  IntOp.cmpi CmpIPredicate.slt
    (Scalar.select
      (IntOp.andi
        (IntOp.xori
          (IntOp.cmpi CmpIPredicate.slt (IntOp.remsi ArithUnit.vector x (Scalar.select (Scalar.cmpi CmpIPredicate.eq 32#32 0#32) 1#32 32#32)) 0#32)
          (Scalar.cmpi CmpIPredicate.slt (Scalar.select (Scalar.cmpi CmpIPredicate.eq 32#32 0#32) 1#32 32#32) 0#32))
        (IntOp.cmpi CmpIPredicate.ne (IntOp.remsi ArithUnit.vector x (Scalar.select (Scalar.cmpi CmpIPredicate.eq 32#32 0#32) 1#32 32#32)) 0#32))
      (IntOp.addi (IntOp.remsi ArithUnit.vector x (Scalar.select (Scalar.cmpi CmpIPredicate.eq 32#32 0#32) 1#32 32#32)) 32#32)
      (IntOp.remsi ArithUnit.vector x (Scalar.select (Scalar.cmpi CmpIPredicate.eq 32#32 0#32) 1#32 32#32)))
    16#32

theorem left_eq : ∀ j : Fin 1024, leftBits (BitVec.ofNat 32 j.val) = if j.val % 32 < 16 then 1#1 else 0#1 := by decide +kernel

/-- One over the head's width, and the flag of an equality as a float. -/
theorem wordInv : Ideal.ofBits .f32 1015021568#32 = ((1 / 64 : ℝ) : EReal) := by simp [Ideal.ofBits, Ideal.ieee, -EReal.coe_mul]; norm_num
theorem flag (a b : BitVec 32) : FloatOps.uitofp (F := Ideal) .f32 (IntOp.cmpi CmpIPredicate.eq a b) = ((if a = b then 1 else 0 : EReal)) := by
  by_cases h : a = b <;> simp [IntOp.cmpi, h, FloatOps.uitofp]

/-! ## The host's integers at the rows and columns -/

/-- A row's position as a number. -/
abbrev num (x : BitVec 32) : EReal := FloatOps.sitofp (F := Ideal) .f32 x
/-- A row's distance from the first token, in the host's integers. -/
abbrev dist (r : Fin 8448) : BitVec 32 := IntOp.subi (BitVec.ofNat 32 r.val) 256#32

/-- The angle, in each of the four quarters of a head. -/
theorem angle_row (r : Fin 8448) (l k : ℕ) (h : l < 32) (hk : k = l % 16) : num (rowBits (dist r)) * freq k = angle r l := by
  rw [row_eq r, hk, angle, if_pos h]
theorem angle_col (r : Fin 8448) (l k : ℕ) (h : ¬l < 32) (hk : k = l % 16) : num (colBits (dist r)) * freq k = angle r l := by
  rw [col_eq r, hk, angle, if_neg h]

theorem heads_flag (x : Fin 1024) (y : Fin 128) (b : BitVec 32) (hb : b = BitVec.ofNat 32 (x.val / 64)) :
    FloatOps.uitofp (F := Ideal) .f32 (IntOp.cmpi CmpIPredicate.eq b (BitVec.ofNat 32 y.val)) = if x.val / 64 = y.val then 1 else 0 := by
  rw [flag, hb]
  refine if_congr ⟨fun h => ?_, fun h => congrArg _ h⟩ rfl rfl
  have := congrArg BitVec.toNat h
  simp only [BitVec.toNat_ofNat] at this
  have h0 := x.isLt
  have h1 := y.isLt
  omega

/-- The head of a column, in the host's integers. -/
abbrev head (x : BitVec 32) : BitVec 32 :=
  Scalar.select
    (IntOp.andi
      (IntOp.cmpi (w := 32) CmpIPredicate.ne (if x = 0 then 0 else if x.msb = true then -1 else 1) (if 64#32 = 0 then 0 else if (64#32).msb = true then -1 else 1))
      (IntOp.cmpi CmpIPredicate.ne (IntOp.remsi ArithUnit.host x 64#32) 0#32))
    (IntOp.subi (IntOp.divsi ArithUnit.host x 64#32) 1#32)
    (IntOp.divsi ArithUnit.host x 64#32)
theorem head_eq : ∀ x : Fin 1024, head (BitVec.ofNat 32 x.val) = BitVec.ofNat 32 (x.val / 64) := by decide +kernel

theorem zero : FloatOps.ofBits (F := Ideal) .f32 0#32 = (0 : EReal) := by simp [Ideal.ofBits, Ideal.ieee]

/-- The reference's positions: zeros before the tokens. -/
theorem ref_row (r : Fin 8448) (k : Fin 16) :
    FloatOps.sitofp (F := Ideal) .f32 (if h : r.val < 256 then 0#32 else BitVec.ofNat 32 ((r.val - 256) / 64)) * freq k.val = angle r k.val := by
  have hk := k.isLt
  unfold angle
  rw [if_pos (by omega), Nat.mod_eq_of_lt hk]
  refine congrArg (fun z => FloatOps.sitofp (F := Ideal) .f32 z * _) ?_
  split
  · rw [show (r.val - 256) / 64 = 0 by omega]
  · rfl
theorem ref_col (r : Fin 8448) (k : Fin 16) :
    FloatOps.sitofp (F := Ideal) .f32 (if h : r.val < 256 then 0#32 else BitVec.ofNat 32 ((r.val - 256) % 64)) * freq k.val = angle r (32 + k.val) := by
  have hk := k.isLt
  unfold angle
  rw [if_neg (by omega), show (32 + k.val) % 16 = k.val by omega]
  refine congrArg (fun z => FloatOps.sitofp (F := Ideal) .f32 z * _) ?_
  split
  · rw [show (r.val - 256) % 64 = 0 by omega]
  · rfl

end Cert.RopeMath
end
-- ==== Proof.RopeTables.lean ====
/- The rotary norm's kernel: the tables, the matrices of the heads and the gains that the host lines hand to it. -/
module

public import proofs.«01_k».proof.Proof.Gen.RopeIdeal.Value
public import proofs.«01_k».proof.Proof.RopeMath
public import Idealize.ShloMosaic.Lib.StableHlo.RunRead

@[expose] public section

set_option maxRecDepth 16384

noncomputable section

namespace Cert.RopeProof

open Cert.RopeIdeal Cert.RopeIdeal.Gen Idealize.ShloMosaic Idealize.ShloMosaic.TcCoe Idealize.SL.Sem
open Cert.RopeMath hiding unit

variable (m : (ℓ : Loc nD τ sig) → Buf (Elt Ideal) ℓ) (c : Dev nD)

/-- The table of cosines: two heads side by side. -/
def cosines : FVec Ideal S8448x128 .f32 := fun i => Ideal.cos (angle (i 0) ((i 1).val % 64))
/-- The table of sines, with their signs. -/
def sines : FVec Ideal S8448x128 .f32 := fun i => sine (i 0) ((i 1).val % 64)
/-- One over the head's width where the column belongs to the head. -/
def means : FVec Ideal S1024x128 .f32 := fun i => (if (i 0).val / 64 = (i 1).val then 1 else 0) * ((1 / 64 : ℝ) : EReal)
/-- One where the column belongs to the head. -/
def spreads : FVec Ideal S128x1024 .f32 := fun i => if (i 1).val / 64 = (i 0).val then 1 else 0

set_option maxHeartbeats 1000000 in
theorem cosines_eq : (V m c main_v66 : FVec Ideal S8448x128 .f32) = cosines := by
  unfold V
  after_reads_simp
  funext i
  idx_vars i
  pointwise
  after_reads_simp
  simp only [StableHlo.TRef.toBuf, StableHlo.TRef.ofBuf, cast_eq, id_eq]
  pointwise
  show (if h : i1.val % 64 < 16 then Ideal.cos (num (rowBits (dist i0)) * freq (i1.val % 64))
    else if h : i1.val % 64 - 16 < 16 then Ideal.cos (num (rowBits (dist i0)) * freq (i1.val % 64 - 16))
    else if h : i1.val % 64 - 16 - 16 < 16 then Ideal.cos (num (colBits (dist i0)) * freq (i1.val % 64 - 16 - 16))
    else Ideal.cos (num (colBits (dist i0)) * freq (i1.val % 64 - 16 - 16 - 16))) = Ideal.cos (angle i0 (i1.val % 64))
  have := i1.isLt
  repeat' split
  · rw [angle_row i0 (i1.val % 64) _ (by omega) (by omega)]
  · rw [angle_row i0 (i1.val % 64) _ (by omega) (by omega)]
  · rw [angle_col i0 (i1.val % 64) _ (by omega) (by omega)]
  · rw [angle_col i0 (i1.val % 64) _ (by omega) (by omega)]

set_option maxHeartbeats 1000000 in
theorem sines_eq : (V m c main_v69 : FVec Ideal S8448x128 .f32) = sines := by
  unfold V
  after_reads_simp
  funext i
  idx_vars i
  pointwise
  after_reads_simp
  simp only [StableHlo.TRef.toBuf, StableHlo.TRef.ofBuf, cast_eq, id_eq]
  pointwise
  show (if h : i1.val % 64 < 16 then -Ideal.sin (num (rowBits (dist i0)) * freq (i1.val % 64))
    else if h : i1.val % 64 - 16 < 16 then Ideal.sin (num (rowBits (dist i0)) * freq (i1.val % 64 - 16))
    else if h : i1.val % 64 - 16 - 16 < 16 then -Ideal.sin (num (colBits (dist i0)) * freq (i1.val % 64 - 16 - 16))
    else Ideal.sin (num (colBits (dist i0)) * freq (i1.val % 64 - 16 - 16 - 16))) = sine i0 (i1.val % 64)
  have := i1.isLt
  unfold sine
  repeat' split
  any_goals omega
  · rw [angle_row i0 (i1.val % 64) _ (by omega) (by omega)]
  · rw [angle_row i0 (i1.val % 64) _ (by omega) (by omega)]
  · rw [angle_col i0 (i1.val % 64) _ (by omega) (by omega)]
  · rw [angle_col i0 (i1.val % 64) _ (by omega) (by omega)]

theorem means_eq : (V m c main_v18 : FVec Ideal S1024x128 .f32) = means := by
  unfold V
  after_reads_simp
  simp only [StableHlo.TRef.toBuf, StableHlo.TRef.ofBuf, cast_eq, id_eq]
  funext i
  idx_vars i
  pointwise
  exact congrArg₂ (· * ·) (heads_flag i0 i1 _ (head_eq i0)) wordInv

theorem spreads_eq : (V m c main_v20 : FVec Ideal S128x1024 .f32) = spreads := by
  unfold V
  after_reads_simp
  simp only [StableHlo.TRef.toBuf, StableHlo.TRef.ofBuf, cast_eq, id_eq]
  funext i
  idx_vars i
  pointwise
  exact heads_flag i1 i0 _ (head_eq i1)

/-- The gains, once per head. -/
theorem qgain_eq (x : Fin 1024) : (V m c main_v3 : FVec Ideal S1x1024 .f32) (ix2 0 x) = (m ((c.tc : Thread nD τ).loc main_arg1) : FVec Ideal S64 .f32) (ix1 (lane x)) := by
  unfold V
  after_reads_simp
  pointwise
theorem kgain_eq (x : Fin 256) : (V m c main_v7 : FVec Ideal S1x256 .f32) (ix2 0 x) = (m ((c.tc : Thread nD τ).loc main_arg2) : FVec Ideal S64 .f32) (ix1 (lane x)) := by
  unfold V
  after_reads_simp
  pointwise

end Cert.RopeProof
end
-- ==== Proof.RopeKernel.lean ====
/- The rotary norm's kernel: what its three arrays hold. -/
module

public import proofs.«01_k».proof.Proof.RopeTables

@[expose] public section

set_option maxRecDepth 16384

noncomputable section

namespace Cert.RopeProof

open Cert.RopeIdeal Cert.RopeIdeal.Gen Idealize.ShloMosaic Idealize.ShloMosaic.TcCoe Idealize.SL.Sem
open Cert.RopeMath hiding unit

/-! ## What the arrays hold -/

/-- The columns of the queries and of the keys in a row. -/
def queries (X : FVec Ideal S8448x1536 .f32) (r : Fin 8448) (x : Fin 1024) : EReal := X (ix2 r ⟨x.val, by have := x.isLt; omega⟩)
def keys (X : FVec Ideal S8448x1536 .f32) (r : Fin 8448) (x : Fin 256) : EReal := X (ix2 r ⟨1024 + x.val, by have := x.isLt; omega⟩)

abbrev gain (g : FVec Ideal S64 .f32) (l : Fin 64) : EReal := g (ix1 l)

/-- A head's columns, normed. -/
def unitQ (X : FVec Ideal S8448x1536 .f32) (g : FVec Ideal S64 .f32) (r : Fin 8448) (j : Fin 1024) : EReal :=
  normed (headAt (queries X r) ⟨16, rfl⟩ j) (gain g) (lane j)
def unitK (X : FVec Ideal S8448x1536 .f32) (g : FVec Ideal S64 .f32) (r : Fin 8448) (j : Fin 256) : EReal :=
  normed (headAt (keys X r) ⟨4, rfl⟩ j) (gain g) (lane j)

def outQ (X : FVec Ideal S8448x1536 .f32) (g : FVec Ideal S64 .f32) : FVec Ideal S8448x1024 .bf16 :=
  fun i => rope (headAt (queries X (i 0)) ⟨16, rfl⟩ (i 1 : Fin 1024)) (gain g) (i 0) (lane (i 1 : Fin 1024)) * Ideal.ofBits .f32 1043900987#32
def outK (X : FVec Ideal S8448x1536 .f32) (g : FVec Ideal S64 .f32) : FVec Ideal S8448x256 .bf16 :=
  fun i => rope (headAt (keys X (i 0)) ⟨4, rfl⟩ (i 1 : Fin 256)) (gain g) (i 0) (lane (i 1 : Fin 256))
def outV (X : FVec Ideal S8448x1536 .f32) : FVec Ideal S8448x256 .bf16 :=
  fun i => X (ix2 (i 0) ⟨1280 + (i 1).val, by have h : (i 1).val < 256 := (i 1).isLt; omega⟩)

/-- The exchanged column of the same head. -/
theorem unit_other {H L : ℕ} (hL : L = H * 64) (P : Fin L → EReal) (hd : 64 ∣ L) (g : Fin 64 → EReal) (j j' : Fin L)
    (h : j'.val = if j.val % 32 < 16 then j.val + 16 else j.val - 16) :
    normed (headAt P hd j') g (lane j') = normed (headAt P hd j) g (other (lane j)) := by
  have e : j'.val / 64 = j.val / 64 := by split at h <;> omega
  have l : lane j' = other (lane j) := by
    unfold other
    split <;> rename_i h' <;> refine Fin.ext ?_ <;> simp only [lane] at h' ⊢ <;> split at h <;> omega
  have p : headAt P hd j' = headAt P hd j := by
    funext d
    unfold headAt
    exact congrArg P (Fin.ext (by simp only [e]))
  rw [l, p]

/-! ## The blocks -/

/-- The windows' block indices. -/
theorem idx : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![0, 0] ∧ win0_6.index t = ![0, 0] ∧ win0_7.index t = ![t.val, 0] ∧ win0_8.index t = ![t.val, 0] ∧ win0_9.index t = ![t.val, 0] :=
  (by decide +kernel : ∀ t : Fin grid0.N, _)

/-- The row of the array that a block's row is. -/
abbrev rowAt (t : Fin cfg0.N) (a : Fin 768) : Fin 8448 := ⟨t.val * 768 + a.val, by have := t.isLt; have h : cfg0.N = 11 := N_0; omega⟩

variable (m : (ℓ : Loc nD τ sig) → Buf (Elt Ideal) ℓ) (c : Dev nD)

abbrev argX : FVec Ideal S8448x1536 .f32 := m ((c.tc : Thread nD τ).loc main_arg0)
abbrev argG : FVec Ideal S64 .f32 := m ((c.tc : Thread nD τ).loc main_arg1)
abbrev argH : FVec Ideal S64 .f32 := m ((c.tc : Thread nD τ).loc main_arg2)

theorem any_0 (t : Fin cfg0.N) (A : FVec Ideal S8448x1536 .f32) (a : Fin 768) (x : Fin 1536) :
    (((cfg0.win 0).blk t).view.read (Elt Ideal) A : FVec Ideal S768x1536 .f32) (ix2 a x) = A (ix2 (rowAt t a) x) := by blk_ext [idx t]
theorem any_1 (t : Fin cfg0.N) (A : FVec Ideal S8448x128 .f32) (a : Fin 768) (x : Fin 128) :
    (((cfg0.win 1).blk t).view.read (Elt Ideal) A : FVec Ideal S768x128 .f32) (ix2 a x) = A (ix2 (rowAt t a) x) := by blk_ext [idx t]
theorem any_2 (t : Fin cfg0.N) (A : FVec Ideal S8448x128 .f32) (a : Fin 768) (x : Fin 128) :
    (((cfg0.win 2).blk t).view.read (Elt Ideal) A : FVec Ideal S768x128 .f32) (ix2 a x) = A (ix2 (rowAt t a) x) := by blk_ext [idx t]
theorem any_3 (t : Fin cfg0.N) (A : FVec Ideal S1x1024 .f32) (x : Fin 1024) :
    (((cfg0.win 3).blk t).view.read (Elt Ideal) A : FVec Ideal S1x1024 .f32) (ix2 0 x) = A (ix2 0 x) := by blk_ext [idx t]
theorem any_4 (t : Fin cfg0.N) (A : FVec Ideal S1x256 .f32) (x : Fin 256) :
    (((cfg0.win 4).blk t).view.read (Elt Ideal) A : FVec Ideal S1x256 .f32) (ix2 0 x) = A (ix2 0 x) := by blk_ext [idx t]
theorem any_5 (t : Fin cfg0.N) (A : FVec Ideal S1024x128 .f32) (x : Fin 1024) (y : Fin 128) :
    (((cfg0.win 5).blk t).view.read (Elt Ideal) A : FVec Ideal S1024x128 .f32) (ix2 x y) = A (ix2 x y) := by blk_ext [idx t]
theorem any_6 (t : Fin cfg0.N) (A : FVec Ideal S128x1024 .f32) (y : Fin 128) (x : Fin 1024) :
    (((cfg0.win 6).blk t).view.read (Elt Ideal) A : FVec Ideal S128x1024 .f32) (ix2 y x) = A (ix2 y x) := by blk_ext [idx t]

theorem blk_x (t : Fin cfg0.N) (a : Fin 768) (x : Fin 1536) : (iblk m c 0 t : FVec Ideal S768x1536 .f32) (ix2 a x) = argX m c (ix2 (rowAt t a) x) :=
  (any_0 t (V m c main_arg0) a x).trans (congrFun (V_main_arg0 m c) _)
theorem blk_cos (t : Fin cfg0.N) (a : Fin 768) (x : Fin 128) : (iblk m c 1 t : FVec Ideal S768x128 .f32) (ix2 a x) = cosines (ix2 (rowAt t a) x) :=
  (any_1 t (V m c main_v66) a x).trans (congrFun (cosines_eq m c) _)
theorem blk_sin (t : Fin cfg0.N) (a : Fin 768) (x : Fin 128) : (iblk m c 2 t : FVec Ideal S768x128 .f32) (ix2 a x) = sines (ix2 (rowAt t a) x) :=
  (any_2 t (V m c main_v69) a x).trans (congrFun (sines_eq m c) _)
theorem blk_g (t : Fin cfg0.N) (x : Fin 1024) : (iblk m c 3 t : FVec Ideal S1x1024 .f32) (ix2 0 x) = gain (argG m c) (lane x) :=
  (any_3 t (V m c main_v3) x).trans (qgain_eq m c x)
theorem blk_h (t : Fin cfg0.N) (x : Fin 256) : (iblk m c 4 t : FVec Ideal S1x256 .f32) (ix2 0 x) = gain (argH m c) (lane x) :=
  (any_4 t (V m c main_v7) x).trans (kgain_eq m c x)
theorem blk_e (t : Fin cfg0.N) (x : Fin 1024) (y : Fin 128) : (iblk m c 5 t : FVec Ideal S1024x128 .f32) (ix2 x y) = means (ix2 x y) :=
  (any_5 t (V m c main_v18) x y).trans (congrFun (means_eq m c) _)
theorem blk_et (t : Fin cfg0.N) (y : Fin 128) (x : Fin 1024) : (iblk m c 6 t : FVec Ideal S128x1024 .f32) (ix2 y x) = spreads (ix2 y x) :=
  (any_6 t (V m c main_v20) y x).trans (congrFun (spreads_eq m c) _)

/-! ## The body on the blocks -/

theorem norm_q (t : Fin cfg0.N) (a : Fin 768) (j : Fin 1024) :
    k0_pay9 (F := Ideal) (iblk m c 0 t) (iblk m c 3 t) (iblk m c 5 t) (iblk m c 6 t) (ix2 a j) = unitQ (argX m c) (argG m c) (rowAt t a) j := by
  pointwise [k0_pay9, k0_pay7, k0_pay8]
  simp only [blk_x, blk_g, blk_e, blk_et]
  exact (congrArg (fun z => queries (argX m c) (rowAt t a) j * z * gain (argG m c) (lane j)) (spread_unit (H := 16) rfl (by norm_num) (queries (argX m c) (rowAt t a)) j)).trans
    (congrArg (fun z => z * _ * _) (congrArg (queries (argX m c) (rowAt t a)) (Fin.ext (by simp only [lane]; omega))))

theorem norm_k (t : Fin cfg0.N) (a : Fin 768) (j : Fin 256) :
    k0_pay16 (F := Ideal) (iblk m c 0 t) (k0_pay6 (iblk m c 4 t)) (k0_pay7 (iblk m c 5 t)) (k0_pay8 (iblk m c 6 t)) (ix2 a j) = unitK (argX m c) (argH m c) (rowAt t a) j := by
  pointwise [k0_pay16, k0_pay6, k0_pay7, k0_pay8]
  simp only [blk_x, blk_h, blk_e, blk_et]
  exact (congrArg (fun z => keys (argX m c) (rowAt t a) j * z * gain (argH m c) (lane j)) (spread_unit (H := 4) rfl (by norm_num) (keys (argX m c) (rowAt t a)) j)).trans
    (congrArg (fun z => z * _ * _) (congrArg (keys (argX m c) (rowAt t a)) (Fin.ext (by simp only [lane]; omega))))

theorem cos_q (t : Fin cfg0.N) (a : Fin 768) (j : Fin 1024) :
    k0_pay10 (F := Ideal) (iblk m c 0 t) (iblk m c 1 t) (iblk m c 3 t) (iblk m c 5 t) (iblk m c 6 t) (ix2 a j)
      = unitQ (argX m c) (argG m c) (rowAt t a) j * Ideal.cos (angle (rowAt t a) (j.val % 64)) := by
  pointwise [k0_pay10, k0_pay4]
  rw [norm_q]
  simp only [blk_cos]
  have h := tile8 (fun x => cosines (ix2 (rowAt t a) x)) j
  beta_reduce at h
  rw [h]
  refine congrArg (fun z => _ * Ideal.cos (angle _ z)) ?_
  show j.val % 128 % 64 = j.val % 64
  omega

theorem cos_k (t : Fin cfg0.N) (a : Fin 768) (j : Fin 256) :
    k0_pay17 (F := Ideal) (iblk m c 0 t) (k0_pay4 (iblk m c 1 t)) (k0_pay6 (iblk m c 4 t)) (k0_pay7 (iblk m c 5 t)) (k0_pay8 (iblk m c 6 t)) (ix2 a j)
      = unitK (argX m c) (argH m c) (rowAt t a) j * Ideal.cos (angle (rowAt t a) (j.val % 64)) := by
  pointwise [k0_pay17, k0_pay4]
  rw [norm_k]
  simp only [blk_cos]
  have h := tile2 (fun x => cosines (ix2 (rowAt t a) x)) j
  beta_reduce at h
  rw [h]
  refine congrArg (fun z => _ * Ideal.cos (angle _ z)) ?_
  show j.val % 128 % 64 = j.val % 64
  omega

end Cert.RopeProof
end
-- ==== Proof.RopeValue.lean ====
/- The rotary norm: the kernel writes what the reference returns. -/
module

public import proofs.«01_k».proof.Proof.RopeKernel
public import proofs.«01_k».proof.Proof.Gen.RopeRefIdeal.Run
public import proofs.«01_k».proof.Proof.Gen.RopeRefIdeal.Read

@[expose] public section

set_option maxRecDepth 16384

noncomputable section

namespace Cert.RopeProof

open Cert.RopeIdeal Cert.RopeIdeal.Gen Idealize.ShloMosaic Idealize.ShloMosaic.TcCoe Idealize.SL.Sem
open Cert.RopeMath hiding unit

variable (m : (ℓ : Loc nD τ sig) → Buf (Elt Ideal) ℓ) (c : Dev nD)

/-- The selected neighbour: the column that the rotation exchanges with this one. -/
theorem pick (x y z : EReal) (j : Fin 1024) (hy : j.val % 32 < 16 → y = x) (hz : ¬j.val % 32 < 16 → z = x) :
    Scalar.select (leftBits (BitVec.ofNat 32 j.val)) y z = x := by
  rw [left_eq]
  by_cases h : j.val % 32 < 16
  · rw [if_pos h, ← hy h]; rfl
  · rw [if_neg h, ← hz h]; rfl

theorem q_eq : (dats m 0 c).arrAt 7 (cfgs 0).N = outQ (argX m c) (argG m c) := by
  refine (dats m 0 c).arrAt_eq_of_covers 7 _ (by decide +kernel) fun t _ y => ?_
  blk_simp
  rw [after0_7]
  frame_out
  idx_vars y
  pointwise [k0_pay1, k0_pay15, k0_pay19, k0_pay5, k0_pay11, k0_pay12, k0_pay13, k0_pay14]
  rw [cos_q]
  simp only [norm_q, blk_sin]
  have h := tile8 (fun x => sines (ix2 (rowAt t y0) x)) y1
  beta_reduce at h
  rw [h]
  refine Eq.trans (?_ : _ = outQ (argX m c) (argG m c) (ix2 (rowAt t y0) y1)) (congrArg _ ?_)
  · refine congrArg (· * Ideal.ofBits .f32 1043900987#32) (congrArg₂ (· + ·) rfl (congrArg₂ (· * ·) ?_ ?_))
    · refine pick _ _ _ y1 (fun h => ?_) (fun h => ?_)
      · exact unit_other (H := 16) rfl (queries (argX m c) (rowAt t y0)) ⟨16, rfl⟩ (gain (argG m c)) y1 _ (by rw [if_pos h]; show (y1.val + 1024 - 1008) % 1024 = _; have := y1.isLt; omega)
      · exact unit_other (H := 16) rfl (queries (argX m c) (rowAt t y0)) ⟨16, rfl⟩ (gain (argG m c)) y1 _ (by rw [if_neg h]; show (y1.val + 1024 - 16) % 1024 = _; have := y1.isLt; omega)
    · show sine _ (y1.val % 128 % 64) = sine _ (y1.val % 64)
      exact congrArg _ (by omega)
  · blk_ext [idx t]

theorem zeros : ∀ a : Fin 2, (![0, 0] : Fin 2 → ℕ) a = 0 := by decide
theorem norm_k' (t : Fin cfg0.N) (a : Fin 768) (j : Fin 256) :
    k0_pay16 (F := Ideal) (iblk m c 0 t) (k0_pay6 (View.ld (iblk m c 4 t) r0_3)) (k0_pay7 (View.ld (iblk m c 5 t) r0_4)) (k0_pay8 (View.ld (iblk m c 6 t) r0_5)) (ix2 a j)
      = unitK (argX m c) (argH m c) (rowAt t a) j := by
  have e4 : View.ld (iblk m c 4 t : FVec Ideal S1x256 .f32) r0_3 = iblk m c 4 t := View.ld_unit_lit _ _ zeros
  have e5 : View.ld (iblk m c 5 t : FVec Ideal S1024x128 .f32) r0_4 = iblk m c 5 t := View.ld_unit_lit _ _ zeros
  have e6 : View.ld (iblk m c 6 t : FVec Ideal S128x1024 .f32) r0_5 = iblk m c 6 t := View.ld_unit_lit _ _ zeros
  rw [e4, e5, e6, norm_k]
theorem cos_k' (t : Fin cfg0.N) (a : Fin 768) (j : Fin 256) :
    k0_pay17 (F := Ideal) (iblk m c 0 t) (k0_pay4 (iblk m c 1 t)) (k0_pay6 (View.ld (iblk m c 4 t) r0_3)) (k0_pay7 (View.ld (iblk m c 5 t) r0_4)) (k0_pay8 (View.ld (iblk m c 6 t) r0_5)) (ix2 a j)
      = unitK (argX m c) (argH m c) (rowAt t a) j * Ideal.cos (angle (rowAt t a) (j.val % 64)) := by
  have e4 : View.ld (iblk m c 4 t : FVec Ideal S1x256 .f32) r0_3 = iblk m c 4 t := View.ld_unit_lit _ _ zeros
  have e5 : View.ld (iblk m c 5 t : FVec Ideal S1024x128 .f32) r0_4 = iblk m c 5 t := View.ld_unit_lit _ _ zeros
  have e6 : View.ld (iblk m c 6 t : FVec Ideal S128x1024 .f32) r0_5 = iblk m c 6 t := View.ld_unit_lit _ _ zeros
  rw [e4, e5, e6, cos_k]

theorem k_eq : (dats m 0 c).arrAt 8 (cfgs 0).N = outK (argX m c) (argH m c) := by
  refine (dats m 0 c).arrAt_eq_of_covers 8 _ (by decide +kernel) fun t _ y => ?_
  blk_simp
  rw [after0_8]
  frame_out
  idx_vars y
  pointwise [k0_pay2, k0_pay5, k0_pay18, k0_pay19, k0_pay20, k0_pay21, k0_pay22]
  refine Eq.trans (?_ : _ = outK (argX m c) (argH m c) (ix2 (rowAt t y0) y1)) (congrArg _ ?_)
  · refine congrArg₂ (· + ·) (cos_k' _ _ t y0 y1) (congrArg₂ (· * ·) ?_ ?_)
    · refine pick _ _ _ ⟨y1.val, by have := y1.isLt; omega⟩ (fun h => (norm_k' _ _ t y0 _).trans ?_) (fun h => (norm_k' _ _ t y0 _).trans ?_)
      · exact unit_other (H := 4) rfl (keys (argX m c) (rowAt t y0)) ⟨4, rfl⟩ (gain (argH m c)) y1 _ (by rw [if_pos h]; show (y1.val + 256 - 240) % 256 = _; have := y1.isLt; simp only at h; omega)
      · exact unit_other (H := 4) rfl (keys (argX m c) (rowAt t y0)) ⟨4, rfl⟩ (gain (argH m c)) y1 _ (by rw [if_neg h]; show (y1.val + 256 - 16) % 256 = _; have := y1.isLt; simp only at h; omega)
    · simp only [blk_sin]
      have h := tile2 (fun x => sines (ix2 (rowAt t y0) x)) y1
      beta_reduce at h
      rw [h]
      show sine _ (y1.val % 128 % 64) = sine _ (y1.val % 64)
      exact congrArg _ (by omega)
  · blk_ext [idx t]

theorem v_eq : (dats m 0 c).arrAt 9 (cfgs 0).N = outV (argX m c) := by
  refine (dats m 0 c).arrAt_eq_of_covers 9 _ (by decide +kernel) fun t _ y => ?_
  blk_simp
  rw [after0_9]
  frame_out
  idx_vars y
  pointwise [k0_pay3]
  rw [blk_x]
  refine Eq.trans (?_ : _ = outV (argX m c) (ix2 (rowAt t y0) y1)) (congrArg _ ?_)
  · rfl
  · blk_ext [idx t]

section reference
open Cert.RopeRefIdeal.Read

/-- The angles of the two halves of a head. -/
theorem row (r : Fin 8448) (k : Fin 16) : val_main_v27 (F := Ideal) (ix2 r k) = angle r k.val := by
  pointwise [val_main_v27, val_main_v25, val_main_v26, val_main_v23, val_main_v24, val_main_v10, val_main_v9, val_main_v8, val_main_v3, val_main_v2, val_main_v1, val_main_v0, val_main_v22, val_main_v21, val_main_v20, val_main_v19, val_main_v18, val_main_v17, val_main_v16, val_main_v15, val_main_v14, val_main_v13]
  simp only [val_main_cst_apply, val_main_cst_0_apply, val_main_cst_1_apply, val_main_cst_2_apply, val_main_c_apply, zero, zero_add]
  exact ref_row r k
theorem col (r : Fin 8448) (k : Fin 16) : val_main_v32 (F := Ideal) (ix2 r k) = angle r (32 + k.val) := by
  pointwise [val_main_v32, val_main_v30, val_main_v31, val_main_v28, val_main_v29, val_main_v12, val_main_v11, val_main_v8, val_main_v7, val_main_v6, val_main_v5, val_main_v4, val_main_v22, val_main_v21, val_main_v20, val_main_v19, val_main_v18, val_main_v17, val_main_v16, val_main_v15, val_main_v14, val_main_v13]
  simp only [val_main_cst_apply, val_main_cst_0_apply, val_main_cst_1_apply, val_main_cst_2_apply, val_main_c_apply, zero, zero_add]
  exact ref_col r k

theorem unitQ_ref (X : FVec Ideal S8448x1536 .f32) (g : FVec Ideal S64 .f32) (r : Fin 8448) (h : Fin 16) (d : Fin 64) :
    val_main_v51 (F := Ideal) X g (ix3 r h d) = normed (fun e => queries X r ⟨h.val * 64 + e.val, by have := h.isLt; have := e.isLt; omega⟩) (gain g) d := by
  pointwise [val_main_v51, val_main_v50, val_main_v49, val_main_v48, val_main_v47, val_main_v46, val_main_v45, val_main_v44, val_main_v43, val_main_v42, val_main_v41, val_main_v40, val_main_v39, val_main_v38, val_main_v37]
  simp only [val_main_cst_3_apply, val_main_cst_4_apply, val_main_cst_5_apply, zero, zero_add]
  exact congrArg (fun z => queries X r ⟨h.val * 64 + d.val, by have := h.isLt; have := d.isLt; omega⟩ * z * gain g d)
    (unit_div fun e => queries X r ⟨h.val * 64 + e.val, by have := h.isLt; have := e.isLt; omega⟩)
theorem ropeQ_ref (X : FVec Ideal S8448x1536 .f32) (g : FVec Ideal S64 .f32) (r : Fin 8448) (h : Fin 16) (d : Fin 64) :
    val_main_v84 (F := Ideal) X g (ix3 r h d) = rope (fun e => queries X r ⟨h.val * 64 + e.val, by have := h.isLt; have := e.isLt; omega⟩) (gain g) r d := by
  pointwise [val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v33, val_main_v34, val_main_v35, val_main_v36]
  simp only [row, col, unitQ_ref]
  exact rope_quarters _ (gain g) r d

theorem unitK_ref (X : FVec Ideal S8448x1536 .f32) (g : FVec Ideal S64 .f32) (r : Fin 8448) (h : Fin 4) (d : Fin 64) :
    val_main_v99 (F := Ideal) X g (ix3 r h d) = normed (fun e => keys X r ⟨h.val * 64 + e.val, by have := h.isLt; have := e.isLt; omega⟩) (gain g) d := by
  pointwise [val_main_v99, val_main_v98, val_main_v97, val_main_v96, val_main_v95, val_main_v94, val_main_v93, val_main_v92, val_main_v91, val_main_v90, val_main_v89, val_main_v88, val_main_v87, val_main_v86, val_main_v85]
  simp only [val_main_cst_6_apply, val_main_cst_7_apply, val_main_cst_8_apply, zero, zero_add]
  exact congrArg (fun z => keys X r ⟨h.val * 64 + d.val, by have := h.isLt; have := d.isLt; omega⟩ * z * gain g d)
    (unit_div fun e => keys X r ⟨h.val * 64 + e.val, by have := h.isLt; have := e.isLt; omega⟩)
theorem ropeK_ref (X : FVec Ideal S8448x1536 .f32) (g : FVec Ideal S64 .f32) (r : Fin 8448) (h : Fin 4) (d : Fin 64) :
    val_main_v132 (F := Ideal) X g (ix3 r h d) = rope (fun e => keys X r ⟨h.val * 64 + e.val, by have := h.isLt; have := e.isLt; omega⟩) (gain g) r d := by
  pointwise [val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v33, val_main_v34, val_main_v35, val_main_v36]
  simp only [row, col, unitK_ref]
  exact rope_quarters _ (gain g) r d

theorem q_ref (X : FVec Ideal S8448x1536 .f32) (g : FVec Ideal S64 .f32) : val_main_v136 (F := Ideal) X g = outQ X g := by
  refine funext fun i => ?_
  idx_vars i
  pointwise [val_main_v136, val_main_v135, val_main_v134, val_main_v133]
  simp only [ropeQ_ref, val_main_cst_9_apply]
  rfl
theorem k_ref (X : FVec Ideal S8448x1536 .f32) (g : FVec Ideal S64 .f32) : val_main_v138 (F := Ideal) X g = outK X g := by
  refine funext fun i => ?_
  idx_vars i
  pointwise [val_main_v138, val_main_v137]
  simp only [ropeK_ref]
  rfl
end reference

/-- The claim: both write the rotated queries and keys and the values. -/
theorem algebraic : Cert.algebraic_RopeIdeal_RopeRefIdeal := by
  intro m g m' g' _ hm
  refine ⟨_, _, _, (θ_run _ _ _).mono (fun r h c => ⟨(h c).1.trans (q_eq m c), (h c).2.1.trans (k_eq m c), (h c).2.2.1.trans (v_eq m c), (h c).2.2.2⟩)
      (Cert.RopeIdeal.Value.run_blocks m g),
    (θ_run _ _ _).mono (fun r h c => ⟨(h c).1.trans ?_, (h c).2.1.trans ?_, (h c).2.2.1.trans ?_, (h c).2.2.2⟩) (Cert.RopeRefIdeal.Value.run m' g')⟩
  · refine Eq.trans (b := Cert.RopeRefIdeal.Read.val_main_v136 (F := Ideal) (m' (c.tc.loc Cert.RopeRefIdeal.main_arg0)) (m' (c.tc.loc Cert.RopeRefIdeal.main_arg1))) rfl ?_
    rw [q_ref, (hm c).1, (hm c).2.1]
  · refine Eq.trans (b := Cert.RopeRefIdeal.Read.val_main_v138 (F := Ideal) (m' (c.tc.loc Cert.RopeRefIdeal.main_arg0)) (m' (c.tc.loc Cert.RopeRefIdeal.main_arg2))) rfl ?_
    rw [k_ref, (hm c).1, (hm c).2.2]
  · rw [(hm c).1]
    funext i
    idx_vars i
    pointwise
    rfl

end Cert.RopeProof
end
-- ==== Proof.RopeBwdTables.lean ====
/- The rotary norm's kernel: the tables, the matrices of the heads and the gains that the host lines hand to it. -/
module

public import proofs.«01_k».proof.Proof.Gen.RopeBwdIdeal.Frame
public import proofs.«01_k».proof.Proof.RopeMath
public import Idealize.ShloMosaic.Lib.StableHlo.RunRead

@[expose] public section

set_option maxRecDepth 16384

noncomputable section

namespace Cert.RopeBwdProof

open Cert.RopeBwdIdeal Cert.RopeBwdIdeal.Gen Idealize.ShloMosaic Idealize.ShloMosaic.TcCoe Idealize.SL.Sem
open Cert.RopeMath hiding unit

variable (m : (ℓ : Loc nD τ sig) → Buf (Elt Ideal) ℓ) (c : Dev nD)

/-- The table of cosines: two heads side by side. -/
def cosines : FVec Ideal S8448x128 .f32 := fun i => Ideal.cos (angle (i 0) ((i 1).val % 64))
/-- The table of sines, with their signs. -/
def sines : FVec Ideal S8448x128 .f32 := fun i => sine (i 0) ((i 1).val % 64)
/-- One over the head's width where the column belongs to the head. -/
def means : FVec Ideal S1024x128 .f32 := fun i => (if (i 0).val / 64 = (i 1).val then 1 else 0) * ((1 / 64 : ℝ) : EReal)
/-- One where the column belongs to the head. -/
def spreads : FVec Ideal S128x1024 .f32 := fun i => if (i 1).val / 64 = (i 0).val then 1 else 0

set_option maxHeartbeats 1000000 in
theorem cosines_eq : (V m c main_v66 : FVec Ideal S8448x128 .f32) = cosines := by
  unfold V
  after_reads_simp
  funext i
  idx_vars i
  pointwise
  after_reads_simp
  simp only [StableHlo.TRef.toBuf, StableHlo.TRef.ofBuf, cast_eq, id_eq]
  pointwise
  show (if h : i1.val % 64 < 16 then Ideal.cos (num (rowBits (dist i0)) * freq (i1.val % 64))
    else if h : i1.val % 64 - 16 < 16 then Ideal.cos (num (rowBits (dist i0)) * freq (i1.val % 64 - 16))
    else if h : i1.val % 64 - 16 - 16 < 16 then Ideal.cos (num (colBits (dist i0)) * freq (i1.val % 64 - 16 - 16))
    else Ideal.cos (num (colBits (dist i0)) * freq (i1.val % 64 - 16 - 16 - 16))) = Ideal.cos (angle i0 (i1.val % 64))
  have := i1.isLt
  repeat' split
  · rw [angle_row i0 (i1.val % 64) _ (by omega) (by omega)]
  · rw [angle_row i0 (i1.val % 64) _ (by omega) (by omega)]
  · rw [angle_col i0 (i1.val % 64) _ (by omega) (by omega)]
  · rw [angle_col i0 (i1.val % 64) _ (by omega) (by omega)]

set_option maxHeartbeats 1000000 in
theorem sines_eq : (V m c main_v69 : FVec Ideal S8448x128 .f32) = sines := by
  unfold V
  after_reads_simp
  funext i
  idx_vars i
  pointwise
  after_reads_simp
  simp only [StableHlo.TRef.toBuf, StableHlo.TRef.ofBuf, cast_eq, id_eq]
  pointwise
  show (if h : i1.val % 64 < 16 then -Ideal.sin (num (rowBits (dist i0)) * freq (i1.val % 64))
    else if h : i1.val % 64 - 16 < 16 then Ideal.sin (num (rowBits (dist i0)) * freq (i1.val % 64 - 16))
    else if h : i1.val % 64 - 16 - 16 < 16 then -Ideal.sin (num (colBits (dist i0)) * freq (i1.val % 64 - 16 - 16))
    else Ideal.sin (num (colBits (dist i0)) * freq (i1.val % 64 - 16 - 16 - 16))) = sine i0 (i1.val % 64)
  have := i1.isLt
  unfold sine
  repeat' split
  any_goals omega
  · rw [angle_row i0 (i1.val % 64) _ (by omega) (by omega)]
  · rw [angle_row i0 (i1.val % 64) _ (by omega) (by omega)]
  · rw [angle_col i0 (i1.val % 64) _ (by omega) (by omega)]
  · rw [angle_col i0 (i1.val % 64) _ (by omega) (by omega)]

theorem means_eq : (V m c main_v18 : FVec Ideal S1024x128 .f32) = means := by
  unfold V
  after_reads_simp
  simp only [StableHlo.TRef.toBuf, StableHlo.TRef.ofBuf, cast_eq, id_eq]
  funext i
  idx_vars i
  pointwise
  exact congrArg₂ (· * ·) (heads_flag i0 i1 _ (head_eq i0)) wordInv

theorem spreads_eq : (V m c main_v20 : FVec Ideal S128x1024 .f32) = spreads := by
  unfold V
  after_reads_simp
  simp only [StableHlo.TRef.toBuf, StableHlo.TRef.ofBuf, cast_eq, id_eq]
  funext i
  idx_vars i
  pointwise
  exact heads_flag i1 i0 _ (head_eq i1)

/-- The gains, once per head. -/
theorem qgain_eq (x : Fin 1024) : (V m c main_v3 : FVec Ideal S1x1024 .f32) (ix2 0 x) = (m ((c.tc : Thread nD τ).loc main_arg4) : FVec Ideal S64 .f32) (ix1 (lane x)) := by
  unfold V
  after_reads_simp
  pointwise
theorem kgain_eq (x : Fin 256) : (V m c main_v7 : FVec Ideal S1x256 .f32) (ix2 0 x) = (m ((c.tc : Thread nD τ).loc main_arg5) : FVec Ideal S64 .f32) (ix1 (lane x)) := by
  unfold V
  after_reads_simp
  pointwise

end Cert.RopeBwdProof
end
-- ==== Proof.RopeBwdMath.lean ====
/- The gradient of the rotary norm: the arithmetic of one head. -/
module

public import proofs.«01_k».proof.Proof.RopeMath
public import proofs.«01_k».proof.Proof.Reals

@[expose] public section

noncomputable section

namespace Cert.RopeMath

open Idealize.ShloMosaic

/-- The rotation undone on a head's gradient. -/
def turned (d : Fin 64 → EReal) (r : Fin 8448) (l : Fin 64) : EReal :=
  d l * Ideal.cos (angle r l.val) + d (other l) * sine r (other l).val

/-- The gradient of a head's norm, from the gradient of the normed columns. -/
def normBack (t D : Fin 64 → EReal) (l : Fin 64) : EReal :=
  unit t * (D l - t l * unit t * ((∑ e : Fin 64, D e * (t e * unit t)) * ((1 / 64 : ℝ) : EReal)))

theorem word_eps : Ideal.ofBits .f32 897988541#32 = ((8796093 / 8796093022208 : ℝ) : EReal) := by
  simp [Ideal.ofBits, Ideal.ieee, -EReal.coe_mul]; norm_num
theorem word_64 : Ideal.ofBits .f32 1115684864#32 = ((64 : ℝ) : EReal) := by simp [Ideal.ofBits, Ideal.ieee, -EReal.coe_mul]; norm_num
theorem word_2 : Ideal.ofBits .f32 1073741824#32 = ((2 : ℝ) : EReal) := by simp [Ideal.ofBits, Ideal.ieee, -EReal.coe_mul]; norm_num
theorem word_half : Ideal.ofBits .f32 3204448256#32 = ((-(1 / 2) : ℝ) : EReal) := by simp [Ideal.ofBits, Ideal.ieee, -EReal.coe_mul]; norm_num

/-- The reference's form of that gradient, for real entries. -/
theorem norm_back (t D : Fin 64 → EReal) (ht : ∀ e, ∃ r : ℝ, t e = (r : EReal)) (hD : ∀ e, ∃ r : ℝ, D e = (r : EReal)) (l : Fin 64) :
    D l * unit t
      + Ideal.div ((∑ e : Fin 64, t e * D e) * (Ideal.ofBits .f32 3204448256#32 *
          Ideal.div (unit t) (Ideal.div (∑ d : Fin 64, t d * t d) (Ideal.ofBits .f32 1115684864#32) + Ideal.ofBits .f32 897988541#32)))
        (Ideal.ofBits .f32 1115684864#32) * (Ideal.ofBits .f32 1073741824#32 * t l)
      = normBack t D l := by
  choose T hT using ht
  choose E hE using hD
  obtain rfl : t = fun e => ((T e : ℝ) : EReal) := funext hT
  obtain rfl : D = fun e => ((E e : ℝ) : EReal) := funext hE
  set v : ℝ := (∑ d, T d * T d) * (1 / 64) + 8796093 / 8796093022208 with hv
  have pos : 0 < v := by
    have : 0 ≤ ∑ d, T d * T d := Finset.sum_nonneg fun d _ => mul_self_nonneg _
    positivity
  have e1 : (∑ d : Fin 64, ((T d : ℝ) : EReal) * ((T d : ℝ) : EReal)) = ((∑ d, T d * T d : ℝ) : EReal) := by
    rw [← Reals.sum_real]; exact Finset.sum_congr rfl fun d _ => (EReal.coe_mul _ _).symm
  have e2 : Ideal.div (∑ d : Fin 64, ((T d : ℝ) : EReal) * ((T d : ℝ) : EReal)) (Ideal.ofBits .f32 1115684864#32) + Ideal.ofBits .f32 897988541#32 = ((v : ℝ) : EReal) := by
    rw [e1, word_64, word_eps, Ideal.div_coe (by norm_num), ← EReal.coe_mul, ← EReal.coe_add]
  have e3 : unit (fun e => ((T e : ℝ) : EReal)) = (((Real.sqrt v)⁻¹ : ℝ) : EReal) := by
    unfold unit
    rw [e1, word_eps, ← EReal.coe_mul, ← EReal.coe_add, ← hv, Reals.rsqrt_real pos]
  have e4 : (∑ e : Fin 64, ((T e : ℝ) : EReal) * ((E e : ℝ) : EReal)) = ((∑ e, T e * E e : ℝ) : EReal) := by
    rw [← Reals.sum_real]; exact Finset.sum_congr rfl fun d _ => (EReal.coe_mul _ _).symm
  set u : ℝ := (Real.sqrt v)⁻¹ with hu
  have e5 : (∑ e : Fin 64, ((E e : ℝ) : EReal) * (((T e : ℝ) : EReal) * ((u : ℝ) : EReal))) = ((u * ∑ e, T e * E e : ℝ) : EReal) := by
    rw [Finset.mul_sum, ← Reals.sum_real]; refine Finset.sum_congr rfl fun d _ => ?_
    rw [← EReal.coe_mul, ← EReal.coe_mul]; exact congrArg _ (by ring)
  have e6 : u / v = u * (u * u) := by
    have : u * u = 1 / v := by rw [hu, ← mul_inv, Real.mul_self_sqrt pos.le, one_div]
    rw [this]; ring
  unfold normBack
  rw [e2, e3, e4, e5, word_half, word_64, word_2, Reals.div_real pos.ne', ← EReal.coe_mul, ← EReal.coe_mul, ← EReal.coe_mul, Reals.div_real (by norm_num),
    ← EReal.coe_mul, ← EReal.coe_mul, ← EReal.coe_mul, ← EReal.coe_add, ← EReal.coe_mul, ← EReal.coe_mul, ← EReal.coe_sub, ← EReal.coe_mul, e6]
  exact congrArg _ (by ring)

theorem turned_real (d : Fin 64 → EReal) (hd : ∀ e, ∃ r : ℝ, d e = (r : EReal)) (r : Fin 8448) (ha : ∀ l, ∃ x : ℝ, angle r l = (x : EReal)) (l : Fin 64) :
    ∃ x : ℝ, turned d r l = (x : EReal) := by
  obtain ⟨a, ha1⟩ := ha l.val
  obtain ⟨b, hb⟩ := ha (other l).val
  refine Reals.add_isReal (Reals.mul_isReal (hd l) ⟨Real.cos a, by rw [ha1]; rfl⟩) (Reals.mul_isReal (hd _) ?_)
  unfold sine
  rw [hb]
  split
  · exact ⟨-Real.sin b, by rw [EReal.coe_neg]; rfl⟩
  · exact ⟨Real.sin b, rfl⟩

/-- The rotation undone, as the reference writes it: the four quarters of a head, each in its place among zeros. -/
theorem turned_quarters (t : Fin 64 → EReal) (r : Fin 8448) (d : Fin 64) :
    (if h1 : 32 ≤ d.val ∧ d.val - 32 < 32 then
        (if h2 : 16 ≤ d.val - 32 ∧ d.val - 32 - 16 < 16 then
            t ⟨32 + (16 + (d.val - 32 - 16)), by omega⟩ * Ideal.cos (angle r (32 + (d.val - 32 - 16)))
              + -(t ⟨32 + (d.val - 32 - 16), by omega⟩) * Ideal.sin (angle r (32 + (d.val - 32 - 16)))
          else 0)
        + (if h2 : d.val - 32 < 16 then
            t ⟨32 + (16 + (d.val - 32)), by omega⟩ * Ideal.sin (angle r (32 + (d.val - 32)))
              + t ⟨32 + (d.val - 32), by omega⟩ * Ideal.cos (angle r (32 + (d.val - 32)))
          else 0)
      else 0)
    + (if h1 : d.val < 32 then
        (if h2 : 16 ≤ d.val ∧ d.val - 16 < 16 then
            t ⟨16 + (d.val - 16), by omega⟩ * Ideal.cos (angle r (d.val - 16)) + -(t ⟨d.val - 16, by omega⟩) * Ideal.sin (angle r (d.val - 16))
          else 0)
        + (if h2 : d.val < 16 then
            t ⟨16 + d.val, by omega⟩ * Ideal.sin (angle r d.val) + t d * Ideal.cos (angle r d.val)
          else 0)
      else 0) = turned t r d := by
  have hd := d.isLt
  have same : ∀ (l : ℕ) (hl : l < 64), l = d.val → t ⟨l, hl⟩ = t d := fun l hl e => congrArg _ (Fin.ext e)
  have up : ∀ (l : ℕ) (hl : l < 64), d.val % 32 < 16 → l = d.val + 16 → t ⟨l, hl⟩ = t (other d) := fun l hl h e => by
    unfold other; rw [dif_pos h]; exact congrArg _ (Fin.ext e)
  have down : ∀ (l : ℕ) (hl : l < 64), ¬d.val % 32 < 16 → l = d.val - 16 → t ⟨l, hl⟩ = t (other d) := fun l hl h e => by
    unfold other; rw [dif_neg h]; exact congrArg _ (Fin.ext e)
  have sinUp : d.val % 32 < 16 → sine r (other d).val = Ideal.sin (angle r d.val) := fun h => by
    unfold other sine
    rw [dif_pos h, if_neg (by show ¬(d.val + 16) % 32 < 16; omega)]
    exact congrArg _ (angle_congr r _ _ (by show d.val + 16 < 32 ↔ _; omega) (by show (d.val + 16) % 16 = _; omega))
  have sinDown : ¬d.val % 32 < 16 → sine r (other d).val = -Ideal.sin (angle r d.val) := fun h => by
    unfold other sine
    rw [dif_neg h, if_pos (by show (d.val - 16) % 32 < 16; omega)]
    exact congrArg (fun z => -Ideal.sin z) (angle_congr r _ _ (by show d.val - 16 < 32 ↔ _; omega) (by show (d.val - 16) % 16 = _; omega))
  unfold turned
  by_cases h1 : d.val < 32
  · rw [dif_neg (by omega), dif_pos h1, zero_add]
    by_cases h2 : d.val < 16
    · rw [dif_neg (by omega), dif_pos h2, zero_add, up (16 + d.val) (by omega) (by omega) (by omega), sinUp (by omega), add_comm]
    · rw [dif_pos (by omega), dif_neg h2, add_zero, same (16 + (d.val - 16)) (by omega) (by omega), down (d.val - 16) (by omega) (by omega) (by omega), sinDown (by omega),
        angle_congr r (d.val - 16) d.val (by omega) (by omega), mul_neg, neg_mul]
  · rw [dif_pos (by omega), dif_neg h1, add_zero]
    by_cases h2 : d.val - 32 < 16
    · rw [dif_neg (by omega), dif_pos h2, zero_add, up (32 + (16 + (d.val - 32))) (by omega) (by omega) (by omega), same (32 + (d.val - 32)) (by omega) (by omega), sinUp (by omega),
        angle_congr r (32 + (d.val - 32)) d.val (by omega) (by omega), add_comm]
    · rw [dif_pos (by omega), dif_neg h2, add_zero, same (32 + (16 + (d.val - 32 - 16))) (by omega) (by omega), down (32 + (d.val - 32 - 16)) (by omega) (by omega) (by omega),
        sinDown (by omega), angle_congr r (32 + (d.val - 32 - 16)) d.val (by omega) (by omega), mul_neg, neg_mul]

theorem word_theta : Ideal.ofBits .f32 1176256512#32 = ((10000 : ℝ) : EReal) := by simp [Ideal.ofBits, Ideal.ieee, -EReal.coe_mul]; norm_num
theorem word_32 : Ideal.ofBits .f32 1107296256#32 = ((32 : ℝ) : EReal) := by simp [Ideal.ofBits, Ideal.ieee, -EReal.coe_mul]; norm_num

theorem angle_real (r : Fin 8448) (l : ℕ) : ∃ x : ℝ, angle r l = (x : EReal) := by
  unfold angle
  refine Reals.mul_isReal ⟨_, rfl⟩ ?_
  unfold freq
  rw [word_theta, word_2, word_32, Ideal.div_coe (by norm_num)]
  exact ⟨_, rfl⟩

end Cert.RopeMath
end
-- ==== Proof.RopeBwdKernel.lean ====
/- The gradient of the rotary norm: the blocks of the kernel and what its body computes on them. -/
module

public import proofs.«01_k».proof.Proof.RopeBwdTables
public import proofs.«01_k».proof.Proof.RopeBwdMath

@[expose] public section

set_option maxRecDepth 16384

noncomputable section

namespace Cert.RopeBwdProof

open Cert.RopeBwdIdeal Cert.RopeBwdIdeal.Gen Idealize.ShloMosaic Idealize.ShloMosaic.TcCoe Idealize.SL.Sem
open Cert.RopeMath hiding unit

/-! ## The rows -/

/-- The columns of the queries and of the keys in a row, and of their gradients with the factors they come with. -/
def queries (X : FVec Ideal S8448x1536 .f32) (r : Fin 8448) (x : Fin 1024) : EReal := X (ix2 r ⟨x.val, by have := x.isLt; omega⟩)
def keys (X : FVec Ideal S8448x1536 .f32) (r : Fin 8448) (x : Fin 256) : EReal := X (ix2 r ⟨1024 + x.val, by have := x.isLt; omega⟩)
def dqueries (Q : FVec Ideal S8448x1024 .f32) (r : Fin 8448) (x : Fin 1024) : EReal := Q (ix2 r x) * Ideal.ofBits .f32 1040187392#32
def dkeys (K : FVec Ideal S8448x256 .f32) (r : Fin 8448) (x : Fin 256) : EReal := K (ix2 r x) * Ideal.ofBits .f32 1060205080#32

abbrev gain (g : FVec Ideal S64 .f32) (l : Fin 64) : EReal := g (ix1 l)

/-- The gradient of the normed columns: the rotation undone. -/
abbrev back {L : ℕ} (hL : 64 ∣ L) (d : Fin L → EReal) (r : Fin 8448) (j : Fin L) : EReal := turned (headAt d hL j) r (lane j)

/-- The gradient of a column of the argument. -/
abbrev grad {L : ℕ} (hL : 64 ∣ L) (t d : Fin L → EReal) (g : FVec Ideal S64 .f32) (r : Fin 8448) (j : Fin L) : EReal :=
  normBack (headAt t hL j) (fun l => turned (headAt d hL j) r l * gain g l) (lane j)

/-- A row's part of the gain's gradient. -/
abbrev part {L : ℕ} (hL : 64 ∣ L) (t d : Fin L → EReal) (r : Fin 8448) (j : Fin L) : EReal :=
  back hL d r j * (t j * Cert.RopeMath.unit (headAt t hL j))

theorem headAt_lane {L : ℕ} (P : Fin L → EReal) (hL : 64 ∣ L) (j : Fin L) : headAt P hL j (lane j) = P j :=
  congrArg P (Fin.ext (by simp only [lane]; omega))

theorem headAt_head {L : ℕ} (P : Fin L → EReal) (hL : 64 ∣ L) (j x : Fin L) (h : x.val / 64 = j.val / 64) : headAt P hL x = headAt P hL j := by
  funext d
  unfold headAt
  exact congrArg P (Fin.ext (by simp only [h]))

/-- The exchanged column of the same head. -/
theorem other_at {L : ℕ} (hL : 64 ∣ L) (P : Fin L → EReal) (r : Fin 8448) (j j' : Fin L)
    (h : j'.val = if j.val % 32 < 16 then j.val + 16 else j.val - 16) :
    P j' * sine r (j'.val % 64) = headAt P hL j (other (lane j)) * sine r (other (lane j)).val := by
  have e : j'.val / 64 = j.val / 64 := by split at h <;> omega
  have l : lane j' = other (lane j) := by
    unfold other
    split <;> rename_i h' <;> refine Fin.ext ?_ <;> simp only [lane] at h' ⊢ <;> split at h <;> omega
  rw [← l, ← headAt_head P hL j j' e, headAt_lane]

/-- The body's mean over a head, spread to the head's columns. -/
theorem spread_mean {H L : ℕ} (hL : L = H * 64) (hH : H ≤ 128) (P : Fin L → EReal) (j : Fin L) :
    (∑ y : Fin 128, (∑ x : Fin L, P x * ((if x.val / 64 = y.val then 1 else 0) * ((1 / 64 : ℝ) : EReal))) * (if j.val / 64 = y.val then 1 else 0))
      = (∑ d : Fin 64, headAt P ⟨H, by omega⟩ j d) * ((1 / 64 : ℝ) : EReal) := by
  have hj := j.isLt
  have hd : j.val / 64 < H := by omega
  rw [spread _ (j.val / 64) (by omega)]
  rw [head_mean hL P (j.val / 64), dif_pos hd]
  rfl

/-- The selected neighbour: the column that the rotation exchanges with this one. -/
theorem pick (x y z : EReal) (j : Fin 1024) (hy : j.val % 32 < 16 → y = x) (hz : ¬j.val % 32 < 16 → z = x) :
    Scalar.select (leftBits (BitVec.ofNat 32 j.val)) y z = x := by
  rw [left_eq]
  by_cases h : j.val % 32 < 16
  · rw [if_pos h]; exact hy h
  · rw [if_neg h]; exact hz h

/-- The head of a product of rows. -/
theorem grad_of {H L : ℕ} (hL : L = H * 64) (hd : 64 ∣ L) (hH : H ≤ 128) (t d : Fin L → EReal) (g : FVec Ideal S64 .f32) (r : Fin 8448) (j : Fin L) :
    Cert.RopeMath.unit (headAt t hd j) * (back hd d r j * gain g (lane j) - t j * Cert.RopeMath.unit (headAt t hd j)
      * ∑ y : Fin 128, (∑ x : Fin L, (back hd d r x * gain g (lane x) * (t x * Cert.RopeMath.unit (headAt t hd x)))
          * ((if x.val / 64 = y.val then 1 else 0) * ((1 / 64 : ℝ) : EReal))) * (if j.val / 64 = y.val then 1 else 0))
      = grad hd t d g r j := by
  rw [spread_mean hL hH (fun x => back hd d r x * gain g (lane x) * (t x * Cert.RopeMath.unit (headAt t hd x))) j]
  unfold grad normBack
  rw [headAt_lane]
  refine congrArg (fun z => _ * (_ - _ * (z * _))) (Finset.sum_congr rfl fun e _ => ?_)
  have he := e.isLt
  have hj := j.isLt
  have q : (j.val / 64 * 64 + e.val) / 64 = j.val / 64 := by omega
  have l : lane (⟨j.val / 64 * 64 + e.val, by omega⟩ : Fin L) = e := Fin.ext (by simp only [lane]; omega)
  show back hd d r ⟨j.val / 64 * 64 + e.val, by omega⟩ * gain g (lane (⟨j.val / 64 * 64 + e.val, by omega⟩ : Fin L))
    * (headAt t hd j e * Cert.RopeMath.unit (headAt t hd ⟨j.val / 64 * 64 + e.val, by omega⟩)) = _
  unfold back
  have q' : (⟨j.val / 64 * 64 + e.val, by omega⟩ : Fin L).val / 64 = j.val / 64 := q
  rw [headAt_head t hd j _ q', headAt_head d hd j _ q', l]

/-! ## The blocks -/

/-- The windows' block indices. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![0, 0] ∧ win0_7.index t = ![0, 0] ∧ win0_8.index t = ![0, 0] ∧ win0_9.index t = ![0, 0] ∧ win0_10.index t = ![t.val, 0] :=
  (by decide +kernel : ∀ t : Fin grid0.N, _)

/-- The row of the array that a block's row is. -/
abbrev rowAt (t : Fin cfg0.N) (a : Fin 768) : Fin 8448 := ⟨t.val * 768 + a.val, by have := t.isLt; have h : cfg0.N = 11 := N_0; omega⟩

variable (m : (ℓ : Loc nD τ sig) → Buf (Elt Ideal) ℓ) (c : Dev nD)

abbrev argX : FVec Ideal S8448x1536 .f32 := m ((c.tc : Thread nD τ).loc main_arg0)
abbrev argQ : FVec Ideal S8448x1024 .f32 := m ((c.tc : Thread nD τ).loc main_arg1)
abbrev argK : FVec Ideal S8448x256 .f32 := m ((c.tc : Thread nD τ).loc main_arg2)
abbrev argV : FVec Ideal S8448x256 .f32 := m ((c.tc : Thread nD τ).loc main_arg3)
abbrev argG : FVec Ideal S64 .f32 := m ((c.tc : Thread nD τ).loc main_arg4)
abbrev argH : FVec Ideal S64 .f32 := m ((c.tc : Thread nD τ).loc main_arg5)

theorem any_0 (t : Fin cfg0.N) (A : FVec Ideal S8448x1536 .f32) (a : Fin 768) (x : Fin 1536) :
    (((cfg0.win 0).blk t).view.read (Elt Ideal) A : FVec Ideal S768x1536 .f32) (ix2 a x) = A (ix2 (rowAt t a) x) := by blk_ext [idx t]
theorem any_1 (t : Fin cfg0.N) (A : FVec Ideal S8448x128 .f32) (a : Fin 768) (x : Fin 128) :
    (((cfg0.win 1).blk t).view.read (Elt Ideal) A : FVec Ideal S768x128 .f32) (ix2 a x) = A (ix2 (rowAt t a) x) := by blk_ext [idx t]
theorem any_2 (t : Fin cfg0.N) (A : FVec Ideal S8448x128 .f32) (a : Fin 768) (x : Fin 128) :
    (((cfg0.win 2).blk t).view.read (Elt Ideal) A : FVec Ideal S768x128 .f32) (ix2 a x) = A (ix2 (rowAt t a) x) := by blk_ext [idx t]
theorem any_3 (t : Fin cfg0.N) (A : FVec Ideal S8448x1024 .f32) (a : Fin 768) (x : Fin 1024) :
    (((cfg0.win 3).blk t).view.read (Elt Ideal) A : FVec Ideal S768x1024 .f32) (ix2 a x) = A (ix2 (rowAt t a) x) := by blk_ext [idx t]
theorem any_4 (t : Fin cfg0.N) (A : FVec Ideal S8448x256 .f32) (a : Fin 768) (x : Fin 256) :
    (((cfg0.win 4).blk t).view.read (Elt Ideal) A : FVec Ideal S768x256 .f32) (ix2 a x) = A (ix2 (rowAt t a) x) := by blk_ext [idx t]
theorem any_5 (t : Fin cfg0.N) (A : FVec Ideal S8448x256 .f32) (a : Fin 768) (x : Fin 256) :
    (((cfg0.win 5).blk t).view.read (Elt Ideal) A : FVec Ideal S768x256 .f32) (ix2 a x) = A (ix2 (rowAt t a) x) := by blk_ext [idx t]
theorem any_6 (t : Fin cfg0.N) (A : FVec Ideal S1x1024 .f32) (x : Fin 1024) :
    (((cfg0.win 6).blk t).view.read (Elt Ideal) A : FVec Ideal S1x1024 .f32) (ix2 0 x) = A (ix2 0 x) := by blk_ext [idx t]
theorem any_7 (t : Fin cfg0.N) (A : FVec Ideal S1x256 .f32) (x : Fin 256) :
    (((cfg0.win 7).blk t).view.read (Elt Ideal) A : FVec Ideal S1x256 .f32) (ix2 0 x) = A (ix2 0 x) := by blk_ext [idx t]
theorem any_8 (t : Fin cfg0.N) (A : FVec Ideal S1024x128 .f32) (x : Fin 1024) (y : Fin 128) :
    (((cfg0.win 8).blk t).view.read (Elt Ideal) A : FVec Ideal S1024x128 .f32) (ix2 x y) = A (ix2 x y) := by blk_ext [idx t]
theorem any_9 (t : Fin cfg0.N) (A : FVec Ideal S128x1024 .f32) (x : Fin 128) (y : Fin 1024) :
    (((cfg0.win 9).blk t).view.read (Elt Ideal) A : FVec Ideal S128x1024 .f32) (ix2 x y) = A (ix2 x y) := by blk_ext [idx t]

theorem blk_x (t : Fin cfg0.N) (a : Fin 768) (x : Fin 1536) : (iblk m c 0 t : FVec Ideal S768x1536 .f32) (ix2 a x) = argX m c (ix2 (rowAt t a) x) :=
  (any_0 t (V m c main_arg0) a x).trans (congrFun (V_main_arg0 m c) _)
theorem blk_dq (t : Fin cfg0.N) (a : Fin 768) (x : Fin 1024) : (iblk m c 3 t : FVec Ideal S768x1024 .f32) (ix2 a x) = argQ m c (ix2 (rowAt t a) x) :=
  (any_3 t (V m c main_arg1) a x).trans (congrFun (V_main_arg1 m c) _)
theorem blk_dk (t : Fin cfg0.N) (a : Fin 768) (x : Fin 256) : (iblk m c 4 t : FVec Ideal S768x256 .f32) (ix2 a x) = argK m c (ix2 (rowAt t a) x) :=
  (any_4 t (V m c main_arg2) a x).trans (congrFun (V_main_arg2 m c) _)
theorem blk_dv (t : Fin cfg0.N) (a : Fin 768) (x : Fin 256) : (iblk m c 5 t : FVec Ideal S768x256 .f32) (ix2 a x) = argV m c (ix2 (rowAt t a) x) :=
  (any_5 t (V m c main_arg3) a x).trans (congrFun (V_main_arg3 m c) _)
theorem blk_cos (t : Fin cfg0.N) (a : Fin 768) (x : Fin 128) : (iblk m c 1 t : FVec Ideal S768x128 .f32) (ix2 a x) = cosines (ix2 (rowAt t a) x) :=
  (any_1 t (V m c main_v66) a x).trans (congrFun (cosines_eq m c) _)
theorem blk_sin (t : Fin cfg0.N) (a : Fin 768) (x : Fin 128) : (iblk m c 2 t : FVec Ideal S768x128 .f32) (ix2 a x) = sines (ix2 (rowAt t a) x) :=
  (any_2 t (V m c main_v69) a x).trans (congrFun (sines_eq m c) _)
theorem blk_g (t : Fin cfg0.N) (x : Fin 1024) : (iblk m c 6 t : FVec Ideal S1x1024 .f32) (ix2 0 x) = gain (argG m c) (lane x) :=
  (any_6 t (V m c main_v3) x).trans (qgain_eq m c x)
theorem blk_h (t : Fin cfg0.N) (x : Fin 256) : (iblk m c 7 t : FVec Ideal S1x256 .f32) (ix2 0 x) = gain (argH m c) (lane x) :=
  (any_7 t (V m c main_v7) x).trans (kgain_eq m c x)
theorem blk_e (t : Fin cfg0.N) (x : Fin 1024) (y : Fin 128) : (iblk m c 8 t : FVec Ideal S1024x128 .f32) (ix2 x y) = means (ix2 x y) :=
  (any_8 t (V m c main_v18) x y).trans (congrFun (means_eq m c) _)
theorem blk_et (t : Fin cfg0.N) (x : Fin 128) (y : Fin 1024) : (iblk m c 9 t : FVec Ideal S128x1024 .f32) (ix2 x y) = spreads (ix2 x y) :=
  (any_9 t (V m c main_v20) x y).trans (congrFun (spreads_eq m c) _)

/-! ## The body on the blocks -/

section
variable (t : Fin cfg0.N)
abbrev rootQ : FVec Ideal S768x1024 .f32 := k0_pay11 (iblk m c 0 t) (iblk m c 8 t) (iblk m c 9 t)
abbrev normQ : FVec Ideal S768x1024 .f32 := k0_pay12 (iblk m c 0 t) (iblk m c 8 t) (iblk m c 9 t)
abbrev cosQ : FVec Ideal S768x1024 .f32 := k0_pay13 (iblk m c 1 t) (iblk m c 3 t)
abbrev turnQ : FVec Ideal S768x1024 .f32 := k0_pay15 (cosQ m c t) (k0_pay14 (iblk m c 2 t) (iblk m c 3 t)) (iota Kind.tc S768x1024 32 [1] iota_S768x1024_d1_w32) 32#32 0#1 1#32

theorem rootQ_at (a : Fin 768) (j : Fin 1024) : rootQ m c t (ix2 a j) = Cert.RopeMath.unit (headAt (queries (argX m c) (rowAt t a)) ⟨16, rfl⟩ j) := by
  unfold rootQ
  pointwise [k0_pay11, k0_pay10, k0_pay7, k0_pay8]
  simp only [blk_x, blk_e, blk_et]
  exact spread_unit (H := 16) rfl (by norm_num) (queries (argX m c) (rowAt t a)) j
theorem normQ_at (a : Fin 768) (j : Fin 1024) : normQ m c t (ix2 a j) = queries (argX m c) (rowAt t a) j * Cert.RopeMath.unit (headAt (queries (argX m c) (rowAt t a)) ⟨16, rfl⟩ j) := by
  unfold normQ
  pointwise [k0_pay12, k0_pay10]
  refine congrArg₂ (· * ·) ?_ (rootQ_at m c t a j)
  rw [blk_x]
  rfl
theorem cosQ_at (a : Fin 768) (j : Fin 1024) : cosQ m c t (ix2 a j) = dqueries (argQ m c) (rowAt t a) j * Ideal.cos (angle (rowAt t a) (j.val % 64)) := by
  unfold cosQ
  pointwise [k0_pay13, k0_pay9, k0_pay3]
  simp only [blk_dq, blk_cos]
  have h := tile8 (fun x => cosines (ix2 (rowAt t a) x)) j
  beta_reduce at h
  rw [h]
  refine congrArg (fun z => _ * Ideal.cos (angle _ z)) ?_
  show j.val % 128 % 64 = j.val % 64
  omega
theorem sinQ_at (a : Fin 768) (j : Fin 1024) : (k0_pay14 (iblk m c 2 t) (iblk m c 3 t) : FVec Ideal S768x1024 .f32) (ix2 a j) = dqueries (argQ m c) (rowAt t a) j * sine (rowAt t a) (j.val % 64) := by
  pointwise [k0_pay14, k0_pay9, k0_pay4]
  simp only [blk_dq, blk_sin]
  have h := tile8 (fun x => sines (ix2 (rowAt t a) x)) j
  beta_reduce at h
  rw [h]
  refine congrArg (fun z => _ * sine _ z) ?_
  show j.val % 128 % 64 = j.val % 64
  omega
theorem turnQ_at (a : Fin 768) (j : Fin 1024) : turnQ m c t (ix2 a j) = back ⟨16, rfl⟩ (dqueries (argQ m c) (rowAt t a)) (rowAt t a) j := by
  have hj := j.isLt
  unfold turnQ
  pointwise [k0_pay15]
  refine (congrArg₂ (· + ·) (cosQ_at m c t a j) (pick (dqueries (argQ m c) (rowAt t a) |> fun P => headAt P ⟨16, rfl⟩ j (other (lane j)) * sine (rowAt t a) (other (lane j)).val) _ _ ⟨j.val, by omega⟩
    (fun h => ?_) (fun h => ?_))).trans ?_
  · refine (sinQ_at m c t a _).trans (other_at ⟨16, rfl⟩ (dqueries (argQ m c) (rowAt t a)) (rowAt t a) j _ ?_)
    rw [if_pos h]
    show (j.val + 1024 - 1008) % 1024 = _
    simp only at h
    omega
  · refine (sinQ_at m c t a _).trans (other_at ⟨16, rfl⟩ (dqueries (argQ m c) (rowAt t a)) (rowAt t a) j _ ?_)
    rw [if_neg h]
    show (j.val + 1024 - 16) % 1024 = _
    simp only at h
    omega
  · unfold back turned
    rw [headAt_lane]
end

section
variable (t : Fin cfg0.N)
abbrev rootK : FVec Ideal S768x256 .f32 := k0_pay21 (iblk m c 0 t) (k0_pay7 (iblk m c 8 t)) (k0_pay8 (iblk m c 9 t))
abbrev normK : FVec Ideal S768x256 .f32 := k0_pay22 (iblk m c 0 t) (k0_pay7 (iblk m c 8 t)) (k0_pay8 (iblk m c 9 t))
abbrev cosK : FVec Ideal S768x256 .f32 := k0_pay23 (k0_pay3 (iblk m c 1 t)) (iblk m c 4 t)
abbrev turnK : FVec Ideal S768x256 .f32 := k0_pay25 (k0_pay18 (iblk m c 4 t)) (cosK m c t) (k0_pay24 (k0_pay4 (iblk m c 2 t)))

theorem rootK_at (a : Fin 768) (j : Fin 256) : rootK m c t (ix2 a j) = Cert.RopeMath.unit (headAt (keys (argX m c) (rowAt t a)) ⟨4, rfl⟩ j) := by
  unfold rootK
  pointwise [k0_pay21, k0_pay19, k0_pay20, k0_pay7, k0_pay8]
  simp only [blk_x, blk_e, blk_et]
  exact spread_unit (H := 4) rfl (by norm_num) (keys (argX m c) (rowAt t a)) j
theorem normK_at (a : Fin 768) (j : Fin 256) : normK m c t (ix2 a j) = keys (argX m c) (rowAt t a) j * Cert.RopeMath.unit (headAt (keys (argX m c) (rowAt t a)) ⟨4, rfl⟩ j) := by
  unfold normK
  pointwise [k0_pay22, k0_pay19]
  refine congrArg₂ (· * ·) ?_ (rootK_at m c t a j)
  rw [blk_x]
  rfl
theorem cosK_at (a : Fin 768) (j : Fin 256) : cosK m c t (ix2 a j) = dkeys (argK m c) (rowAt t a) j * Ideal.cos (angle (rowAt t a) (j.val % 64)) := by
  unfold cosK
  pointwise [k0_pay23, k0_pay18, k0_pay3]
  simp only [blk_dk, blk_cos]
  have h := tile2 (fun x => cosines (ix2 (rowAt t a) x)) j
  beta_reduce at h
  rw [h]
  refine congrArg (fun z => _ * Ideal.cos (angle _ z)) ?_
  show j.val % 128 % 64 = j.val % 64
  omega
theorem sinK_at (a : Fin 768) (j : Fin 256) : (mulf (k0_pay18 (iblk m c 4 t)) (k0_pay24 (k0_pay4 (iblk m c 2 t))) : FVec Ideal S768x256 .f32) (ix2 a j) = dkeys (argK m c) (rowAt t a) j * sine (rowAt t a) (j.val % 64) := by
  pointwise [k0_pay18, k0_pay24, k0_pay4]
  simp only [blk_dk, blk_sin]
  have h := tile2 (fun x => sines (ix2 (rowAt t a) x)) j
  beta_reduce at h
  rw [h]
  refine congrArg (fun z => _ * sine _ z) ?_
  show j.val % 128 % 64 = j.val % 64
  omega
theorem turnK_at (a : Fin 768) (j : Fin 256) : turnK m c t (ix2 a j) = back ⟨4, rfl⟩ (dkeys (argK m c) (rowAt t a)) (rowAt t a) j := by
  have hj := j.isLt
  unfold turnK
  pointwise [k0_pay25]
  refine (congrArg₂ (· + ·) (cosK_at m c t a j) (pick (dkeys (argK m c) (rowAt t a) |> fun P => headAt P ⟨4, rfl⟩ j (other (lane j)) * sine (rowAt t a) (other (lane j)).val) _ _ ⟨j.val, by omega⟩
    (fun h => ?_) (fun h => ?_))).trans ?_
  · refine (sinK_at m c t a _).trans (other_at ⟨4, rfl⟩ (dkeys (argK m c) (rowAt t a)) (rowAt t a) j _ ?_)
    rw [if_pos h]
    show (j.val + 256 - 240) % 256 = _
    simp only at h
    omega
  · refine (sinK_at m c t a _).trans (other_at ⟨4, rfl⟩ (dkeys (argK m c) (rowAt t a)) (rowAt t a) j _ ?_)
    rw [if_neg h]
    show (j.val + 256 - 16) % 256 = _
    simp only at h
    omega
  · unfold back turned
    rw [headAt_lane]
end

/-- The gradient of the queries. -/
theorem gradQ_at (t : Fin cfg0.N) (a : Fin 768) (j : Fin 1024) :
    (k0_pay16 (k0_pay5 (iblk m c 6 t)) (k0_pay7 (iblk m c 8 t)) (k0_pay8 (iblk m c 9 t)) (rootQ m c t) (normQ m c t) (cosQ m c t) (k0_pay14 (iblk m c 2 t) (iblk m c 3 t)) (iota Kind.tc S768x1024 32 [1] iota_S768x1024_d1_w32) 32#32 0#1 1#32 : FVec Ideal S768x1024 .f32) (ix2 a j)
      = grad ⟨16, rfl⟩ (queries (argX m c) (rowAt t a)) (dqueries (argQ m c) (rowAt t a)) (argG m c) (rowAt t a) j := by
  have e : k0_pay15 (cosQ m c t) (k0_pay14 (iblk m c 2 t) (iblk m c 3 t)) (iota Kind.tc S768x1024 32 [1] iota_S768x1024_d1_w32) 32#32 0#1 1#32 = turnQ m c t := rfl
  unfold k0_pay16
  rw [e]
  generalize hN : normQ m c t = n
  generalize hR : rootQ m c t = ro
  generalize hT : turnQ m c t = tu
  pointwise [k0_pay5, k0_pay7, k0_pay8]
  subst hN hR hT
  simp only [rootQ_at, normQ_at, turnQ_at, blk_g, blk_e, blk_et]
  exact grad_of (H := 16) rfl ⟨16, rfl⟩ (by norm_num) (queries (argX m c) (rowAt t a)) (dqueries (argQ m c) (rowAt t a)) (argG m c) (rowAt t a) j

/-- What a point adds to the gains' gradients. -/
theorem partQ_at (t : Fin cfg0.N) (j : Fin 1024) :
    (k0_pay17 (normQ m c t) (cosQ m c t) (k0_pay14 (iblk m c 2 t) (iblk m c 3 t)) (iota Kind.tc S768x1024 32 [1] iota_S768x1024_d1_w32) 32#32 0#1 1#32 : FVec Ideal S1x1024 .f32) (ix2 0 j)
      = ∑ a : Fin 768, part ⟨16, rfl⟩ (queries (argX m c) (rowAt t a)) (dqueries (argQ m c) (rowAt t a)) (rowAt t a) j := by
  have e : k0_pay15 (cosQ m c t) (k0_pay14 (iblk m c 2 t) (iblk m c 3 t)) (iota Kind.tc S768x1024 32 [1] iota_S768x1024_d1_w32) 32#32 0#1 1#32 = turnQ m c t := rfl
  unfold k0_pay17
  rw [e]
  generalize hN : normQ m c t = n
  generalize hT : turnQ m c t = tu
  pointwise
  subst hN hT
  simp only [normQ_at, turnQ_at]
theorem partK_at (t : Fin cfg0.N) (j : Fin 256) :
    (k0_pay26 (k0_pay18 (iblk m c 4 t)) (normK m c t) (cosK m c t) (k0_pay24 (k0_pay4 (iblk m c 2 t))) : FVec Ideal S1x256 .f32) (ix2 0 j)
      = ∑ a : Fin 768, part ⟨4, rfl⟩ (keys (argX m c) (rowAt t a)) (dkeys (argK m c) (rowAt t a)) (rowAt t a) j := by
  have e : k0_pay25 (k0_pay18 (iblk m c 4 t)) (cosK m c t) (k0_pay24 (k0_pay4 (iblk m c 2 t))) = turnK m c t := rfl
  unfold k0_pay26
  rw [e]
  generalize hN : normK m c t = n
  generalize hT : turnK m c t = tu
  pointwise
  subst hN hT
  simp only [normK_at, turnK_at]

/-- The row of a block. -/
theorem out_at (t : Fin cfg0.N) (a : Fin 768) (j : Fin 1536) :
    (k0_pay27 (iblk m c 5 t) (k0_pay6 (iblk m c 7 t)) (k0_pay7 (iblk m c 8 t))
      (k0_pay16 (k0_pay5 (iblk m c 6 t)) (k0_pay7 (iblk m c 8 t)) (k0_pay8 (iblk m c 9 t)) (rootQ m c t) (normQ m c t) (cosQ m c t) (k0_pay14 (iblk m c 2 t) (iblk m c 3 t)) (iota Kind.tc S768x1024 32 [1] iota_S768x1024_d1_w32) 32#32 0#1 1#32)
      (k0_pay18 (iblk m c 4 t)) (k0_pay20 (k0_pay8 (iblk m c 9 t))) (rootK m c t) (normK m c t) (cosK m c t) (k0_pay24 (k0_pay4 (iblk m c 2 t))) : FVec Ideal S768x1536 .bf16) (ix2 a j)
      = if h : j.val < 1024 then grad ⟨16, rfl⟩ (queries (argX m c) (rowAt t a)) (dqueries (argQ m c) (rowAt t a)) (argG m c) (rowAt t a) ⟨j.val, h⟩
        else if h' : j.val < 1280 then grad ⟨4, rfl⟩ (keys (argX m c) (rowAt t a)) (dkeys (argK m c) (rowAt t a)) (argH m c) (rowAt t a) ⟨j.val - 1024, by omega⟩
        else argV m c (ix2 (rowAt t a) ⟨j.val - 1280, by have := j.isLt; omega⟩) := by
  have e : k0_pay25 (k0_pay18 (iblk m c 4 t)) (cosK m c t) (k0_pay24 (k0_pay4 (iblk m c 2 t))) = turnK m c t := rfl
  have q := gradQ_at m c t a
  unfold k0_pay27
  rw [e]
  generalize hQ : (k0_pay16 (k0_pay5 (iblk m c 6 t)) (k0_pay7 (iblk m c 8 t)) (k0_pay8 (iblk m c 9 t)) (rootQ m c t) (normQ m c t) (cosQ m c t) (k0_pay14 (iblk m c 2 t) (iblk m c 3 t)) (iota Kind.tc S768x1024 32 [1] iota_S768x1024_d1_w32) 32#32 0#1 1#32 : FVec Ideal S768x1024 .f32) = gq at q ⊢
  generalize hN : normK m c t = n
  generalize hR : rootK m c t = ro
  generalize hT : turnK m c t = tu
  pointwise [k0_pay6, k0_pay7, k0_pay8, k0_pay20]
  subst hN hR hT
  simp only [rootK_at, normK_at, turnK_at, blk_h, blk_e, blk_et, blk_dv, q]
  by_cases h : j.val < 1024
  · rw [dif_pos h, dif_pos h]
  · rw [dif_neg h, dif_neg h]
    by_cases h' : j.val < 1280
    · rw [dif_pos (by omega : j.val - 1024 < 256), dif_pos h']
      exact grad_of (H := 4) rfl ⟨4, rfl⟩ (by norm_num) (keys (argX m c) (rowAt t a)) (dkeys (argK m c) (rowAt t a)) (argH m c) (rowAt t a) ⟨j.val - 1024, by omega⟩
    · rw [dif_neg (by omega : ¬j.val - 1024 < 256), dif_neg h']
      exact congrArg (fun x => argV m c (ix2 (rowAt t a) x)) (Fin.ext (by show j.val - 1024 - 256 = j.val - 1280; omega))

end Cert.RopeBwdProof
end
-- ==== Proof.RopeBwdArrays.lean ====
/- The gradient of the rotary norm: what the kernel's arrays hold, and the host lines after it. -/
module

public import proofs.«01_k».proof.Proof.RopeBwdKernel

@[expose] public section

set_option maxRecDepth 16384

noncomputable section

namespace Cert.RopeBwdProof

open Cert.RopeBwdIdeal Cert.RopeBwdIdeal.Gen Idealize.ShloMosaic Idealize.ShloMosaic.TcCoe Idealize.SL.Sem
open Cert.RopeMath hiding unit

/-- The gradient with respect to the projected rows: the queries' columns, the keys', the values'. -/
def outX (X : FVec Ideal S8448x1536 .f32) (Q : FVec Ideal S8448x1024 .f32) (K V : FVec Ideal S8448x256 .f32) (G H : FVec Ideal S64 .f32) : FVec Ideal S8448x1536 .bf16 := fun i =>
  if h : (i 1).val < 1024 then grad ⟨16, rfl⟩ (queries X (i 0)) (dqueries Q (i 0)) G (i 0) ⟨(i 1).val, h⟩
  else if h' : (i 1).val < 1280 then grad ⟨4, rfl⟩ (keys X (i 0)) (dkeys K (i 0)) H (i 0) ⟨(i 1).val - 1024, by omega⟩
  else V (ix2 (i 0) ⟨(i 1).val - 1280, by have h : (i 1).val < 1536 := (i 1).isLt; omega⟩)

/-- The gains' gradients, one entry per column of the heads. -/
def sumQ (X : FVec Ideal S8448x1536 .f32) (Q : FVec Ideal S8448x1024 .f32) : FVec Ideal S1x1024 .f32 := fun i =>
  ∑ r : Fin 8448, part ⟨16, rfl⟩ (queries X r) (dqueries Q r) r (i 1 : Fin 1024)
def sumK (X : FVec Ideal S8448x1536 .f32) (K : FVec Ideal S8448x256 .f32) : FVec Ideal S1x256 .f32 := fun i =>
  ∑ r : Fin 8448, part ⟨4, rfl⟩ (keys X r) (dkeys K r) r (i 1 : Fin 256)

/-- The gains' gradients. -/
def gainQ (X : FVec Ideal S8448x1536 .f32) (Q : FVec Ideal S8448x1024 .f32) : FVec Ideal S64 .f32 := fun i =>
  ∑ h : Fin 16, sumQ X Q (ix2 0 ⟨h.val * 64 + (i 0).val, by have := h.isLt; have e : (i 0).val < 64 := (i 0).isLt; omega⟩)
def gainK (X : FVec Ideal S8448x1536 .f32) (K : FVec Ideal S8448x256 .f32) : FVec Ideal S64 .f32 := fun i =>
  ∑ h : Fin 4, sumK X K (ix2 0 ⟨h.val * 64 + (i 0).val, by have := h.isLt; have e : (i 0).val < 64 := (i 0).isLt; omega⟩)

variable (m : (ℓ : Loc nD τ sig) → Buf (Elt Ideal) ℓ) (c : Dev nD)

theorem out_eq : (dats m 0 c).arrAt 10 (cfgs 0).N = outX (argX m c) (argQ m c) (argK m c) (argV m c) (argG m c) (argH m c) := by
  refine (dats m 0 c).arrAt_eq_of_covers 10 _ (by decide +kernel) fun t _ y => ?_
  blk_simp
  rw [after0_10]
  idx_vars y
  refine Eq.trans (?_ : _ = outX (argX m c) (argQ m c) (argK m c) (argV m c) (argG m c) (argH m c) (ix2 (rowAt t y0) y1)) (congrArg _ ?_)
  · by_cases h0 : t.val % 11 = 0
    · rw [outsAt0_A m c t h0]
      frame_out
      exact out_at m c t y0 y1
    · rw [outsAt0_B m c t h0]
      frame_out
      exact out_at m c t y0 y1
  · blk_ext [idx t]

/-- The last point. -/
abbrev last : Fin cfg0.N := ⟨10, by have h : cfg0.N = 11 := N_0; omega⟩

/-- The points' sums together are the sum over all rows. -/
theorem rows_sum (f : Fin 8448 → EReal) : (∑ t : Fin cfg0.N, ∑ a : Fin 768, f (rowAt t a)) = ∑ r : Fin 8448, f r :=
  Fin.sum_mul_add_congr (S := 11) (n := 768) (F := fun t a => f ⟨t.val * 768 + a.val, by have := t.isLt; have := a.isLt; omega⟩) (f := f) fun s k hl => rfl

theorem sumQ_eq : (dats m 0 c).arrAt 11 (cfgs 0).N = sumQ (argX m c) (argQ m c) := by
  refine (dats m 0 c).arrAt_eq_of_after_last 11 last (by decide +kernel) _ fun j => ?_
  blk_simp
  rw [after0_11, Pipeline.eq_sum_fin_of_reset_step_apply_last (fun n h => (outsAt0 m c n h).2.1) 11 (fun _ => 0)
    (fun t j => ∑ a : Fin 768, part ⟨16, rfl⟩ (queries (argX m c) (rowAt t a)) (dqueries (argQ m c) (rowAt t a)) (rowAt t a) (j 1 : Fin 1024))
    (fun t h j => by
      rw [outsAt0_A m c t h]
      frame_out
      idx_vars j
      obtain rfl : j0 = 0 := Subsingleton.elim _ _
      pointwise [k0_pay1, k0_pay28]
      rw [partQ_at m c t j1])
    (fun t h j => by
      rw [outsAt0_B m c t h]
      frame_out
      idx_vars j
      obtain rfl : j0 = 0 := Subsingleton.elim _ _
      pointwise [k0_pay1]
      rw [partQ_at m c t j1])
    (le_of_eq N_0) last rfl j, zero_add]
  idx_vars j
  exact rows_sum fun r => part ⟨16, rfl⟩ (queries (argX m c) r) (dqueries (argQ m c) r) r j1

theorem tailQ : Pipeline.afterTail₀ cfgs (dats m) 0 (V0 m) [hostOps1] c main_v72 = gainQ (argX m c) (argQ m c) := by
  unfold Pipeline.afterTail₀
  simp only [hostOps1, List.flatten_cons, List.flatten_nil, List.append_nil]
  after_results
  have e : Pipeline.withArrays (cfgs 0).spec c (V0 m c) (fun w => (dats m 0 c).arrAt w (cfgs 0).N) (Proc.tc.devRef main_v70_1) = sumQ (argX m c) (argQ m c) :=
    (Pipeline.withArrays_arr (cfgs 0).spec (by decide) c (V0 m c) (fun w => (dats m 0 c).arrAt w (cfgs 0).N) 11).trans (sumQ_eq m c)
  rw [e]
  generalize hA : sumQ (argX m c) (argQ m c) = A
  funext i
  idx_vars i
  pointwise
  subst hA
  rfl

theorem sumK_eq : (dats m 0 c).arrAt 12 (cfgs 0).N = sumK (argX m c) (argK m c) := by
  refine (dats m 0 c).arrAt_eq_of_after_last 12 last (by decide +kernel) _ fun j => ?_
  blk_simp
  rw [after0_12, Pipeline.eq_sum_fin_of_reset_step_apply_last (fun n h => (outsAt0 m c n h).2.2) 11 (fun _ => 0)
    (fun t j => ∑ a : Fin 768, part ⟨4, rfl⟩ (keys (argX m c) (rowAt t a)) (dkeys (argK m c) (rowAt t a)) (rowAt t a) (j 1 : Fin 256))
    (fun t h j => by
      rw [outsAt0_A m c t h]
      frame_out
      idx_vars j
      obtain rfl : j0 = 0 := Subsingleton.elim _ _
      pointwise [k0_pay2, k0_pay29]
      rw [partK_at m c t j1])
    (fun t h j => by
      rw [outsAt0_B m c t h]
      frame_out
      idx_vars j
      obtain rfl : j0 = 0 := Subsingleton.elim _ _
      pointwise [k0_pay2]
      rw [partK_at m c t j1])
    (le_of_eq N_0) last rfl j, zero_add]
  idx_vars j
  exact rows_sum fun r => part ⟨4, rfl⟩ (keys (argX m c) r) (dkeys (argK m c) r) r j1

theorem tailK : Pipeline.afterTail₀ cfgs (dats m) 0 (V0 m) [hostOps1] c main_v74 = gainK (argX m c) (argK m c) := by
  unfold Pipeline.afterTail₀
  simp only [hostOps1, List.flatten_cons, List.flatten_nil, List.append_nil]
  after_results
  have e : Pipeline.withArrays (cfgs 0).spec c (V0 m c) (fun w => (dats m 0 c).arrAt w (cfgs 0).N) (Proc.tc.devRef main_v70_2) = sumK (argX m c) (argK m c) :=
    (Pipeline.withArrays_arr (cfgs 0).spec (by decide) c (V0 m c) (fun w => (dats m 0 c).arrAt w (cfgs 0).N) 12).trans (sumK_eq m c)
  rw [e]
  generalize hA : sumK (argX m c) (argK m c) = A
  funext i
  idx_vars i
  pointwise
  subst hA
  rfl

end Cert.RopeBwdProof
end
-- ==== Proof.RopeBwdRef.lean ====
/- The gradient of the rotary norm: what the reference returns. -/
module

public import proofs.«01_k».proof.Proof.RopeBwdArrays
public import proofs.«01_k».proof.Proof.Gen.RopeBwdRefIdeal.Run
public import proofs.«01_k».proof.Proof.Gen.RopeBwdRefIdeal.Read
public import proofs.«01_k».proof.Proof.Gen.Pre_finite_ropebwd

@[expose] public section

set_option maxRecDepth 16384

noncomputable section

namespace Cert.RopeBwdProof

open Cert.RopeBwdIdeal Cert.RopeBwdIdeal.Gen Idealize.ShloMosaic Idealize.ShloMosaic.TcCoe Idealize.SL.Sem
open Cert.RopeMath hiding unit
open Cert.RopeBwdRefIdeal.Read

/-- The angles of the two halves of a head. -/
theorem row (r : Fin 8448) (k : Fin 16) : val_main_v27 (F := Ideal) (ix2 r k) = angle r k.val := by
  pointwise [val_main_v27, val_main_v25, val_main_v26, val_main_v23, val_main_v24, val_main_v10, val_main_v9, val_main_v8, val_main_v3, val_main_v2, val_main_v1, val_main_v0, val_main_v22, val_main_v21, val_main_v20, val_main_v19, val_main_v18, val_main_v17, val_main_v16, val_main_v15, val_main_v14, val_main_v13]
  simp only [val_main_cst_apply, val_main_cst_0_apply, val_main_cst_1_apply, val_main_cst_2_apply, val_main_c_apply, zero, zero_add]
  exact ref_row r k
theorem col (r : Fin 8448) (k : Fin 16) : val_main_v32 (F := Ideal) (ix2 r k) = angle r (32 + k.val) := by
  pointwise [val_main_v32, val_main_v30, val_main_v31, val_main_v28, val_main_v29, val_main_v12, val_main_v11, val_main_v8, val_main_v7, val_main_v6, val_main_v5, val_main_v4, val_main_v22, val_main_v21, val_main_v20, val_main_v19, val_main_v18, val_main_v17, val_main_v16, val_main_v15, val_main_v14, val_main_v13]
  simp only [val_main_cst_apply, val_main_cst_0_apply, val_main_cst_1_apply, val_main_cst_2_apply, val_main_c_apply, zero, zero_add]
  exact ref_col r k

theorem word_Q : Ideal.ofBits .f32 1040187392#32 = ((1 / 8 : ℝ) : EReal) := by simp [Ideal.ofBits, Ideal.ieee, -EReal.coe_mul]; norm_num
theorem word_K : Ideal.ofBits .f32 1060205080#32 = ((11629080 / 16777216 : ℝ) : EReal) := by simp [Ideal.ofBits, Ideal.ieee, -EReal.coe_mul]; norm_num

/-- A sum over the two front axes of three. -/
theorem sum_front {n0 n1 n2 : ℕ} (h : (⟨3, ![n0, n1, n2]⟩ : Shape).ReducesTo [0, 1] ⟨1, ![n2]⟩) (v : FVec Ideal ⟨3, ![n0, n1, n2]⟩ .f32)
    (z : EReal) (l : Fin n2) : Ideal.hostReduceAdd h v z (ix1 l) = z + ∑ a : Fin n0, ∑ b : Fin n1, v (ix3 a b l) := by
  refine congrArg (z + ·) ((Finset.sum_filter_eq_sum_of_fiber _ (fun k : Fin n0 × Fin n1 => ix3 k.1 k.2 l)
    (fun _ _ e => Prod.ext (congrFun e 0) (congrFun e 1)) (fun i => ⟨fun e => ⟨(i 0, i 1), ?_⟩, ?_⟩) v).trans (by simp only [Fintype.sum_prod_type]))
  · funext a
    apply Fin.ext
    match a with
    | ⟨0, _⟩ => rfl
    | ⟨1, _⟩ => rfl
    | ⟨2, _⟩ => exact (congrArg Fin.val (congrFun e 0)).symm
  · rintro ⟨k, rfl⟩
    funext a
    apply Fin.ext
    match a with
    | ⟨0, _⟩ => rfl

/-- A head of a row. -/
abbrev headOf {L H : ℕ} (hL : L = H * 64) (P : Fin L → EReal) (h : Fin H) (e : Fin 64) : EReal :=
  P ⟨h.val * 64 + e.val, by have := h.isLt; have := e.isLt; omega⟩

/-- A row's part of the gain's gradient, head by head. -/
theorem part_head {L H : ℕ} (hL : L = H * 64) (hd : 64 ∣ L) (t d : Fin L → EReal) (r : Fin 8448) (h : Fin H) (e : Fin 64) :
    part hd t d r ⟨h.val * 64 + e.val, by have := h.isLt; have := e.isLt; omega⟩
      = headOf hL t h e * Cert.RopeMath.unit (headOf hL t h) * turned (headOf hL d h) r e := by
  have he := e.isLt
  have hh := h.isLt
  have at_head : ∀ P : Fin L → EReal, headAt P hd ⟨h.val * 64 + e.val, by omega⟩ = headOf hL P h := fun P => funext fun x =>
    congrArg P (Fin.ext (by show (h.val * 64 + e.val) / 64 * 64 + x.val = h.val * 64 + x.val; omega))
  have at_lane : (lane (⟨h.val * 64 + e.val, by omega⟩ : Fin L) : Fin 64) = e := Fin.ext (by show (h.val * 64 + e.val) % 64 = e.val; omega)
  unfold part back
  rw [at_head, at_head, at_lane, mul_comm]

section

variable (X : FVec Ideal S8448x1536 .f32) (DQ : FVec Ideal S8448x1024 .f32) (g : FVec Ideal S64 .f32) (r : Fin 8448) (h : Fin 16) (d : Fin 64)

theorem rootQ_ref : val_main_v48 (F := Ideal) X (ix3 r h 0) = Cert.RopeMath.unit (headOf rfl (queries X r) h) := by
  pointwise [val_main_v48, val_main_v47, val_main_v46, val_main_v45, val_main_v44, val_main_v43, val_main_v42, val_main_v41, val_main_v40, val_main_v39, val_main_v38, val_main_v37]
  simp only [val_main_cst_3_apply, val_main_cst_4_apply, val_main_cst_5_apply, val_main_cst_6_apply, zero, zero_add]
  exact unit_div (headOf rfl (queries X r) h)
theorem turnQ_ref : val_main_v251 (F := Ideal) DQ (ix3 r h d) = turned (headOf rfl (dqueries DQ r) h) r d := by
  pointwise [val_main_v251, val_main_v250, val_main_v249, val_main_v248, val_main_v247, val_main_v246, val_main_v245, val_main_v244, val_main_v243, val_main_v242, val_main_v241, val_main_v240, val_main_v239, val_main_v238, val_main_v237, val_main_v236, val_main_v235, val_main_v234, val_main_v233, val_main_v232, val_main_v231, val_main_v230, val_main_v229, val_main_v228, val_main_v227, val_main_v226, val_main_v225, val_main_v224, val_main_v223, val_main_v222, val_main_v221, val_main_v220, val_main_v219, val_main_v218, val_main_v217, val_main_v216, val_main_v215, val_main_v156, val_main_v155, val_main_v154, val_main_v77, val_main_v76, val_main_v61, val_main_v60, val_main_v33, val_main_v34, val_main_v35, val_main_v36]
  simp only [row, col, val_main_cst_17_apply, val_main_cst_30_apply, val_main_cst_31_apply, val_main_cst_32_apply, val_main_cst_33_apply, val_main_cst_34_apply, val_main_cst_35_apply, zero, zero_add]
  exact turned_quarters (headOf rfl (dqueries DQ r) h) r d

theorem normQ_ref (hX : ∀ i, ∃ x : ℝ, X i = (x : EReal)) (hD : ∀ i, ∃ x : ℝ, DQ i = (x : EReal)) (hg : ∀ i, ∃ x : ℝ, g i = (x : EReal)) :
    val_main_v269 (F := Ideal) X DQ g (ix3 r h d) = normBack (headOf rfl (queries X r) h) (fun l => turned (headOf rfl (dqueries DQ r) h) r l * gain g l) d := by
  pointwise [val_main_v269, val_main_v268, val_main_v267, val_main_v266, val_main_v265, val_main_v264, val_main_v263, val_main_v262, val_main_v261, val_main_v260, val_main_v259, val_main_v258, val_main_v256, val_main_v255, val_main_v54, val_main_v51, val_main_v50, val_main_v49, val_main_v47, val_main_v46, val_main_v45, val_main_v44, val_main_v43, val_main_v42, val_main_v41, val_main_v40, val_main_v39, val_main_v38, val_main_v37]
  simp only [rootQ_ref, turnQ_ref, val_main_cst_3_apply, val_main_cst_4_apply, val_main_cst_5_apply, val_main_cst_6_apply, val_main_cst_7_apply, val_main_cst_38_apply, val_main_cst_39_apply, val_main_cst_40_apply, zero, zero_add]
  simp only [Fin.sum_univ_one, rootQ_ref]
  exact norm_back (headOf rfl (queries X r) h) (fun l => turned (headOf rfl (dqueries DQ r) h) r l * gain g l) (fun e => hX _)
    (fun e => Reals.mul_isReal (turned_real _ (fun e => Reals.mul_isReal (hD _) ⟨_, word_Q⟩) r (angle_real r) e) (hg _)) d
theorem gainQ_ref : val_main_v257 (F := Ideal) X DQ = gainQ X DQ := by
  refine funext fun i => ?_
  idx_vars i
  have inner : val_main_v253 (F := Ideal) X DQ (ix1 i0) = ∑ r : Fin 8448, ∑ h : Fin 16, val_main_v252 (F := Ideal) X DQ (ix3 r h i0) := by
    refine (sum_front _ (val_main_v252 (F := Ideal) X DQ) _ i0).trans ?_
    rw [val_main_cst_36_apply, zero, zero_add]
  refine (sum_front _ (val_main_v254 (F := Ideal) X DQ) _ i0).trans ?_
  rw [val_main_cst_37_apply, zero, zero_add, Fin.sum_univ_one, Fin.sum_univ_one]
  have same : val_main_v254 (F := Ideal) X DQ (ix3 0 0 i0) = val_main_v253 (F := Ideal) X DQ (ix1 i0) := by
    generalize hA : val_main_v253 (F := Ideal) X DQ = A
    pointwise [val_main_v254]
    rw [hA]
  rw [same, inner, Finset.sum_comm]
  unfold gainQ sumQ
  refine Finset.sum_congr rfl fun h _ => Finset.sum_congr rfl fun r _ => ?_
  refine Eq.trans ?_ (part_head (H := 16) rfl ⟨16, rfl⟩ (queries X r) (dqueries DQ r) r h i0).symm
  pointwise [val_main_v252, val_main_v53, val_main_v52, val_main_v38, val_main_v37]
  rw [rootQ_ref, turnQ_ref]
  rfl
end
section

variable (X : FVec Ideal S8448x1536 .f32) (DK : FVec Ideal S8448x256 .f32) (g : FVec Ideal S64 .f32) (r : Fin 8448) (h : Fin 4) (d : Fin 64)

theorem rootK_ref : val_main_v101 (F := Ideal) X (ix3 r h 0) = Cert.RopeMath.unit (headOf rfl (keys X r) h) := by
  pointwise [val_main_v101, val_main_v100, val_main_v99, val_main_v98, val_main_v97, val_main_v96, val_main_v95, val_main_v94, val_main_v93, val_main_v92, val_main_v91, val_main_v90]
  simp only [val_main_cst_8_apply, val_main_cst_9_apply, val_main_cst_10_apply, val_main_cst_11_apply, zero, zero_add]
  exact unit_div (headOf rfl (keys X r) h)
theorem turnK_ref : val_main_v193 (F := Ideal) DK (ix3 r h d) = turned (headOf rfl (dkeys DK r) h) r d := by
  pointwise [val_main_v193, val_main_v192, val_main_v191, val_main_v190, val_main_v189, val_main_v188, val_main_v187, val_main_v186, val_main_v185, val_main_v184, val_main_v183, val_main_v182, val_main_v181, val_main_v180, val_main_v179, val_main_v178, val_main_v177, val_main_v176, val_main_v175, val_main_v174, val_main_v173, val_main_v172, val_main_v171, val_main_v170, val_main_v169, val_main_v168, val_main_v167, val_main_v166, val_main_v165, val_main_v164, val_main_v163, val_main_v162, val_main_v161, val_main_v160, val_main_v159, val_main_v158, val_main_v157, val_main_v153, val_main_v152, val_main_v151, val_main_v130, val_main_v129, val_main_v114, val_main_v113, val_main_v33, val_main_v34, val_main_v35, val_main_v36]
  simp only [row, col, val_main_cst_16_apply, val_main_cst_18_apply, val_main_cst_19_apply, val_main_cst_20_apply, val_main_cst_21_apply, val_main_cst_22_apply, val_main_cst_23_apply, zero, zero_add]
  exact turned_quarters (headOf rfl (dkeys DK r) h) r d

theorem normK_ref (hX : ∀ i, ∃ x : ℝ, X i = (x : EReal)) (hD : ∀ i, ∃ x : ℝ, DK i = (x : EReal)) (hg : ∀ i, ∃ x : ℝ, g i = (x : EReal)) :
    val_main_v211 (F := Ideal) X DK g (ix3 r h d) = normBack (headOf rfl (keys X r) h) (fun l => turned (headOf rfl (dkeys DK r) h) r l * gain g l) d := by
  pointwise [val_main_v211, val_main_v210, val_main_v209, val_main_v208, val_main_v207, val_main_v206, val_main_v205, val_main_v204, val_main_v203, val_main_v202, val_main_v201, val_main_v200, val_main_v198, val_main_v197, val_main_v107, val_main_v104, val_main_v103, val_main_v102, val_main_v100, val_main_v99, val_main_v98, val_main_v97, val_main_v96, val_main_v95, val_main_v94, val_main_v93, val_main_v92, val_main_v91, val_main_v90]
  simp only [rootK_ref, turnK_ref, val_main_cst_8_apply, val_main_cst_9_apply, val_main_cst_10_apply, val_main_cst_11_apply, val_main_cst_12_apply, val_main_cst_26_apply, val_main_cst_27_apply, val_main_cst_28_apply, zero, zero_add]
  simp only [Fin.sum_univ_one, rootK_ref]
  exact norm_back (headOf rfl (keys X r) h) (fun l => turned (headOf rfl (dkeys DK r) h) r l * gain g l) (fun e => hX _)
    (fun e => Reals.mul_isReal (turned_real _ (fun e => Reals.mul_isReal (hD _) ⟨_, word_K⟩) r (angle_real r) e) (hg _)) d
theorem gainK_ref : val_main_v199 (F := Ideal) X DK = gainK X DK := by
  refine funext fun i => ?_
  idx_vars i
  have inner : val_main_v195 (F := Ideal) X DK (ix1 i0) = ∑ r : Fin 8448, ∑ h : Fin 4, val_main_v194 (F := Ideal) X DK (ix3 r h i0) := by
    refine (sum_front _ (val_main_v194 (F := Ideal) X DK) _ i0).trans ?_
    rw [val_main_cst_24_apply, zero, zero_add]
  refine (sum_front _ (val_main_v196 (F := Ideal) X DK) _ i0).trans ?_
  rw [val_main_cst_25_apply, zero, zero_add, Fin.sum_univ_one, Fin.sum_univ_one]
  have same : val_main_v196 (F := Ideal) X DK (ix3 0 0 i0) = val_main_v195 (F := Ideal) X DK (ix1 i0) := by
    generalize hA : val_main_v195 (F := Ideal) X DK = A
    pointwise [val_main_v196]
    rw [hA]
  rw [same, inner, Finset.sum_comm]
  unfold gainK sumK
  refine Finset.sum_congr rfl fun h _ => Finset.sum_congr rfl fun r _ => ?_
  refine Eq.trans ?_ (part_head (H := 4) rfl ⟨4, rfl⟩ (keys X r) (dkeys DK r) r h i0).symm
  pointwise [val_main_v194, val_main_v106, val_main_v105, val_main_v91, val_main_v90]
  rw [rootK_ref, turnK_ref]
  rfl
end

theorem out_ref (X : FVec Ideal S8448x1536 .f32) (Q : FVec Ideal S8448x1024 .f32) (K V : FVec Ideal S8448x256 .f32) (G H : FVec Ideal S64 .f32)
    (hX : ∀ i, ∃ x : ℝ, X i = (x : EReal)) (hQ : ∀ i, ∃ x : ℝ, Q i = (x : EReal)) (hK : ∀ i, ∃ x : ℝ, K i = (x : EReal))
    (hG : ∀ i, ∃ x : ℝ, G i = (x : EReal)) (hH : ∀ i, ∃ x : ℝ, H i = (x : EReal)) :
    val_main_v273 (F := Ideal) X Q K V G H = outX X Q K V G H := by
  refine funext fun i => ?_
  idx_vars i
  have hi := i1.isLt
  pointwise [val_main_v273, val_main_v272, val_main_v271, val_main_v270, val_main_v214, val_main_v213, val_main_v212, val_main_v150]
  simp only [normQ_ref X Q G _ _ _ hX hQ hG, normK_ref X K H _ _ _ hX hK hH, val_main_cst_15_apply, val_main_cst_29_apply, val_main_cst_41_apply, zero]
  show _ = outX X Q K V G H (ix2 i0 i1)
  unfold outX
  by_cases h1 : i1.val < 1024
  · rw [dif_neg (by omega), dif_neg (by omega), dif_pos h1, dif_pos (show ((ix2 i0 i1 : S8448x1536.Idx) 1).val < 1024 from h1), zero_add, zero_add]
    rfl
  · rw [dif_neg h1, dif_neg (show ¬((ix2 i0 i1 : S8448x1536.Idx) 1).val < 1024 from h1), add_zero]
    by_cases h2 : i1.val < 1280
    · rw [dif_neg (by omega), dif_pos (by omega), dif_pos (show ((ix2 i0 i1 : S8448x1536.Idx) 1).val < 1280 from h2), zero_add]
      rfl
    · rw [dif_pos (by omega), dif_neg (by omega), dif_neg (show ¬((ix2 i0 i1 : S8448x1536.Idx) 1).val < 1280 from h2), add_zero]
      rfl

variable (m : (ℓ : Loc nD τ sig) → Buf (Elt Ideal) ℓ) (c : Dev nD)

/-- The precondition makes every argument but the values' gradient an array of reals. -/
theorem reals_of_pre (h : Cert.Pre_RopeBwdIdeal_finite_ropebwd (hPre_finite_ropebwd := Cert.Pre_finite_ropebwd.Gen.facts) m) :
    (∀ i, ∃ r : ℝ, argX m c i = (r : EReal)) ∧ (∀ i, ∃ r : ℝ, argQ m c i = (r : EReal)) ∧ (∀ i, ∃ r : ℝ, argK m c i = (r : EReal))
      ∧ (∀ i, ∃ r : ℝ, argG m c i = (r : EReal)) ∧ ∀ i, ∃ r : ℝ, argH m c i = (r : EReal) := by
  have h := h c
  unfold Cert.Pre_finite_ropebwd.fn at h
  refine ⟨fun i => ?_, fun i => ?_, fun i => ?_, fun i => ?_, fun i => ?_⟩
  · have h := congrFun h.1 i; exact Reals.real_of_abs_lt (by pointwise at h; exact h)
  · have h := congrFun h.2.1 i; exact Reals.real_of_abs_lt (by pointwise at h; exact h)
  · have h := congrFun h.2.2.1 i; exact Reals.real_of_abs_lt (by pointwise at h; exact h)
  · have h := congrFun h.2.2.2.1 i; exact Reals.real_of_abs_lt (by pointwise at h; exact h)
  · have h := congrFun h.2.2.2.2 i; exact Reals.real_of_abs_lt (by pointwise at h; exact h)

/-- The claim: both programs return the same three gradients. -/
theorem algebraic : Cert.algebraic_RopeBwdIdeal_RopeBwdRefIdeal_pre_finite_ropebwd (hPre_finite_ropebwd := Cert.Pre_finite_ropebwd.Gen.facts) := by
  intro m g m' g' hpre hm
  refine ⟨fun c => outX (argX m c) (argQ m c) (argK m c) (argV m c) (argG m c) (argH m c), fun c => gainQ (argX m c) (argQ m c), fun c => gainK (argX m c) (argK m c),
    (θ_run _ _ _).mono (fun r ⟨h, h'⟩ c => ⟨((h.1 c).1 10).trans (out_eq m c),
      ((h.1 c).2 main_v72 (Pipeline.mem_restRefs_of main_v72 (by decide) (by decide))).trans (tailQ m c),
      ((h.1 c).2 main_v74 (Pipeline.mem_restRefs_of main_v74 (by decide) (by decide))).trans (tailK m c), h'.1 c⟩)
      (θ_run_and (run_main_quiescent m g) (frame m g)),
    (θ_run _ _ _).mono (fun r h c => ⟨(h c).1.trans ?_, (h c).2.1.trans ?_, (h c).2.2.1.trans ?_, (h c).2.2.2⟩) (Cert.RopeBwdRefIdeal.Value.run m' g')⟩
  · refine Eq.trans (b := val_main_v273 (F := Ideal) (m' (c.tc.loc Cert.RopeBwdRefIdeal.main_arg0)) (m' (c.tc.loc Cert.RopeBwdRefIdeal.main_arg1))
      (m' (c.tc.loc Cert.RopeBwdRefIdeal.main_arg2)) (m' (c.tc.loc Cert.RopeBwdRefIdeal.main_arg3)) (m' (c.tc.loc Cert.RopeBwdRefIdeal.main_arg4))
      (m' (c.tc.loc Cert.RopeBwdRefIdeal.main_arg5))) rfl ?_
    obtain ⟨hX, hQ, hK, hG, hH⟩ := reals_of_pre m c hpre
    rw [(hm c).1, (hm c).2.1, (hm c).2.2.1, (hm c).2.2.2.1, (hm c).2.2.2.2.1, (hm c).2.2.2.2.2]
    exact out_ref _ _ _ _ _ _ hX hQ hK hG hH
  · refine Eq.trans (b := val_main_v257 (F := Ideal) (m' (c.tc.loc Cert.RopeBwdRefIdeal.main_arg0)) (m' (c.tc.loc Cert.RopeBwdRefIdeal.main_arg1))) rfl ?_
    rw [(hm c).1, (hm c).2.1]
    exact gainQ_ref _ _
  · refine Eq.trans (b := val_main_v199 (F := Ideal) (m' (c.tc.loc Cert.RopeBwdRefIdeal.main_arg0)) (m' (c.tc.loc Cert.RopeBwdRefIdeal.main_arg2))) rfl ?_
    rw [(hm c).1, (hm c).2.2.1]
    exact gainK_ref _ _

end Cert.RopeBwdProof
end
-- ==== Proof.MmValue.lean ====
/- A plain product with a weight: the kernel writes what the reference returns. -/
module

public import proofs.«01_k».proof.Defs
public import proofs.«01_k».proof.Proof.Gen.MmIdeal.Value
public import proofs.«01_k».proof.Proof.Gen.MmRefIdeal.Run
public import proofs.«01_k».proof.Proof.Gen.MmRefIdeal.Read
public import Idealize.ShloMosaic.Lib.Pipeline.ValueKit

@[expose] public section

set_option maxRecDepth 16384

noncomputable section

namespace Cert.MmProof

open Cert.MmIdeal Cert.MmIdeal.Gen Idealize.ShloMosaic Idealize.ShloMosaic.TcCoe Idealize.SL.Sem

/-- The windows' block indices. -/
theorem idx : ∀ t : Fin cfg0.N, win0_0.index t = ![t.val, 0] ∧ win0_1.index t = ![0, 0] ∧ win0_2.index t = ![t.val, 0] :=
  (by decide +kernel : ∀ t : Fin grid0.N, _)

/-- The row of the array that a block's row is. -/
abbrev rowAt (t : Fin cfg0.N) (a : Fin 768) : Fin 8448 := ⟨t.val * 768 + a.val, by have := t.isLt; have h : cfg0.N = 11 := N_0; omega⟩

variable (m : (ℓ : Loc nD τ sig) → Buf (Elt Ideal) ℓ) (c : Dev nD)

abbrev argA : FVec Ideal S8448x1024 .f32 := m ((c.tc : Thread nD τ).loc main_arg0)
abbrev argW : FVec Ideal S1024x1536 .f32 := m ((c.tc : Thread nD τ).loc main_arg1)

theorem blk_a (t : Fin cfg0.N) (a : Fin 768) (x : Fin 1024) :
    (iblk m c 0 t : FVec Ideal S768x1024 .bf16) (ix2 a x) = argA m c (ix2 (rowAt t a) x) := by
  blk_simp [iblk]; entry_read; pointwise; blk_ext [idx t]
theorem blk_w (t : Fin cfg0.N) (a : Fin 1536) (x : Fin 1024) :
    (iblk m c 1 t : FVec Ideal S1536x1024 .bf16) (ix2 a x) = argW m c (ix2 x a) := by
  blk_simp [iblk]; entry_read; pointwise; blk_ext [idx t]

/-- The product. -/
def prod (A : FVec Ideal S8448x1024 .f32) (W : FVec Ideal S1024x1536 .f32) : FVec Ideal S8448x1536 .f32 :=
  fun i => ∑ k : Fin 1024, A (ix2 (i 0) k) * W (ix2 k (i 1))

theorem pay (t : Fin cfg0.N) (a : Fin 768) (b : Fin 1536) :
    k0_pay1 (F := Ideal) (iblk m c 0 t) (iblk m c 1 t) (ix2 a b) = prod (argA m c) (argW m c) (ix2 (rowAt t a) b) := by
  pointwise [k0_pay1]
  simp only [blk_a, blk_w]
  rfl

theorem out_eq : (dats m 0 c).arrAt 2 (cfgs 0).N = prod (argA m c) (argW m c) := by
  refine (dats m 0 c).arrAt_eq_of_covers 2 _ (by decide +kernel) fun t _ y => ?_
  blk_simp
  rw [after0_2]
  frame_out
  idx_vars y
  refine (pay m c t _ _).trans (congrArg (prod (argA m c) (argW m c)) (?_ : ix2 (rowAt t y0) y1 = _))
  blk_ext [idx t]

/-- The claim: both write the product. -/
theorem algebraic : Cert.algebraic_MmIdeal_MmRefIdeal := by
  intro m g m' g' _ hm
  refine ⟨_, (θ_run _ _ _).mono (fun r h c => ⟨(h c).1.trans (out_eq m c), (h c).2⟩) (Cert.MmIdeal.Value.run_blocks m g),
    (θ_run _ _ _).mono (fun r h c => ⟨(h c).1.trans ?_, (h c).2⟩) (Cert.MmRefIdeal.Value.run m' g')⟩
  rw [(hm c).1, (hm c).2]
  funext i
  idx_vars i
  pointwise
  rfl

end Cert.MmProof
end
-- ==== Proof.MmTwoValue.lean ====
/- Two products with weights summed: the kernel writes what the reference returns. -/
module

public import proofs.«01_k».proof.Defs
public import proofs.«01_k».proof.Proof.Gen.MmTwoIdeal.Value
public import proofs.«01_k».proof.Proof.Gen.MmTwoRefIdeal.Run
public import proofs.«01_k».proof.Proof.Gen.MmTwoRefIdeal.Read
public import Idealize.ShloMosaic.Lib.Pipeline.ValueKit

@[expose] public section

set_option maxRecDepth 16384

noncomputable section

namespace Cert.MmTwoProof

open Cert.MmTwoIdeal Cert.MmTwoIdeal.Gen Idealize.ShloMosaic Idealize.ShloMosaic.TcCoe Idealize.SL.Sem

/-- The windows' block indices. -/
theorem idx : ∀ t : Fin cfg0.N, win0_0.index t = ![t.val, 0] ∧ win0_1.index t = ![0, 0] ∧ win0_2.index t = ![t.val, 0] ∧ win0_3.index t = ![0, 0] ∧ win0_4.index t = ![t.val, 0] :=
  (by decide +kernel : ∀ t : Fin grid0.N, _)

/-- The row of the array that a block's row is. -/
abbrev rowAt (t : Fin cfg0.N) (a : Fin 384) : Fin 8448 := ⟨t.val * 384 + a.val, by have := t.isLt; have h : cfg0.N = 22 := N_0; omega⟩

variable (m : (ℓ : Loc nD τ sig) → Buf (Elt Ideal) ℓ) (c : Dev nD)

abbrev argA : FVec Ideal S8448x2816 .f32 := m ((c.tc : Thread nD τ).loc main_arg0)
abbrev argB : FVec Ideal S8448x2816 .f32 := m ((c.tc : Thread nD τ).loc main_arg1)
abbrev argV : FVec Ideal S1024x2816 .f32 := m ((c.tc : Thread nD τ).loc main_arg2)
abbrev argW : FVec Ideal S1024x2816 .f32 := m ((c.tc : Thread nD τ).loc main_arg3)

theorem blk_a (t : Fin cfg0.N) (a : Fin 384) (x : Fin 2816) :
    (iblk m c 0 t : FVec Ideal S384x2816 .bf16) (ix2 a x) = argA m c (ix2 (rowAt t a) x) := by
  blk_simp [iblk]; entry_read; pointwise; blk_ext [idx t]
theorem blk_v (t : Fin cfg0.N) (a : Fin 2816) (x : Fin 1024) :
    (iblk m c 1 t : FVec Ideal S2816x1024 .bf16) (ix2 a x) = argV m c (ix2 x a) := by
  blk_simp [iblk]; entry_read; pointwise; blk_ext [idx t]
theorem blk_b (t : Fin cfg0.N) (a : Fin 384) (x : Fin 2816) :
    (iblk m c 2 t : FVec Ideal S384x2816 .bf16) (ix2 a x) = argB m c (ix2 (rowAt t a) x) := by
  blk_simp [iblk]; entry_read; pointwise; blk_ext [idx t]
theorem blk_w (t : Fin cfg0.N) (a : Fin 2816) (x : Fin 1024) :
    (iblk m c 3 t : FVec Ideal S2816x1024 .bf16) (ix2 a x) = argW m c (ix2 x a) := by
  blk_simp [iblk]; entry_read; pointwise; blk_ext [idx t]

/-- The sum of the two products. -/
def prods (A B : FVec Ideal S8448x2816 .f32) (V W : FVec Ideal S1024x2816 .f32) : FVec Ideal S8448x1024 .f32 :=
  fun i => (∑ k : Fin 2816, A (ix2 (i 0) k) * V (ix2 (i 1) k)) + ∑ k : Fin 2816, B (ix2 (i 0) k) * W (ix2 (i 1) k)

theorem pay (t : Fin cfg0.N) (a : Fin 384) (b : Fin 1024) :
    k0_pay1 (F := Ideal) (iblk m c 0 t) (iblk m c 1 t) (iblk m c 2 t) (iblk m c 3 t) (ix2 a b)
      = prods (argA m c) (argB m c) (argV m c) (argW m c) (ix2 (rowAt t a) b) := by
  pointwise [k0_pay1]
  simp only [blk_a, blk_v, blk_b, blk_w]
  rfl

theorem out_eq : (dats m 0 c).arrAt 4 (cfgs 0).N = prods (argA m c) (argB m c) (argV m c) (argW m c) := by
  refine (dats m 0 c).arrAt_eq_of_covers 4 _ (by decide +kernel) fun t _ y => ?_
  blk_simp
  rw [after0_4]
  frame_out
  idx_vars y
  refine (pay m c t _ _).trans (congrArg (prods (argA m c) (argB m c) (argV m c) (argW m c)) (?_ : ix2 (rowAt t y0) y1 = _))
  blk_ext [idx t]

/-- The claim: both write the sum of the products. -/
theorem algebraic : Cert.algebraic_MmTwoIdeal_MmTwoRefIdeal := by
  intro m g m' g' _ hm
  refine ⟨_, (θ_run _ _ _).mono (fun r h c => ⟨(h c).1.trans (out_eq m c), (h c).2⟩) (Cert.MmTwoIdeal.Value.run_blocks m g),
    (θ_run _ _ _).mono (fun r h c => ⟨(h c).1.trans ?_, (h c).2⟩) (Cert.MmTwoRefIdeal.Value.run m' g')⟩
  rw [(hm c).1, (hm c).2.1, (hm c).2.2.1, (hm c).2.2.2]
  funext i
  idx_vars i
  pointwise
  exact add_comm _ _

end Cert.MmTwoProof
end
-- ==== Proof.MmTnValue.lean ====
/- The gradient of a weight: the products of the blocks of rows, added up over the inner grid axis, are the product over all rows. -/
module

public import proofs.«01_k».proof.Defs
public import proofs.«01_k».proof.Proof.Gen.MmTnIdeal.Value
public import proofs.«01_k».proof.Proof.Gen.MmTnRefIdeal.Run
public import proofs.«01_k».proof.Proof.Gen.MmTnRefIdeal.Read
public import Idealize.ShloMosaic.Lib.Pipeline.ValueKit

@[expose] public section

set_option maxRecDepth 16384

noncomputable section

namespace Cert.MmTnProof

open Cert.MmTnIdeal Cert.MmTnIdeal.Gen Idealize.ShloMosaic Idealize.ShloMosaic.TcCoe Idealize.SL.Sem

/-- The windows' block indices: the outer grid axis picks the weight's rows, the inner one the arrays' rows. -/
theorem idx : ∀ t : Fin cfg0.N, win0_0.index t = ![t.val % 11, t.val / 11] ∧ win0_1.index t = ![t.val % 11, 0] ∧ win0_2.index t = ![t.val / 11, 0] :=
  (by decide +kernel : ∀ t : Fin grid0.N, _)

/-- The row of the arrays that a block's row is. -/
abbrev rowAt (l : ℕ) (hl : l < 11) (a : Fin 768) : Fin 8448 := ⟨l * 768 + a.val, by omega⟩
/-- The row of the weight that a block's row is. -/
abbrev colAt (t : Fin cfg0.N) (b : Fin 1408) : Fin 2816 := ⟨t.val / 11 * 1408 + b.val, by have := t.isLt; have h : cfg0.N = 22 := N_0; omega⟩

variable (m : (ℓ : Loc nD τ sig) → Buf (Elt Ideal) ℓ) (c : Dev nD)

abbrev argA : FVec Ideal S8448x2816 .f32 := m ((c.tc : Thread nD τ).loc main_arg0)
abbrev argB : FVec Ideal S8448x1024 .f32 := m ((c.tc : Thread nD τ).loc main_arg1)

theorem inner (t : Fin cfg0.N) : t.val % 11 < 11 := Nat.mod_lt _ (by decide)

theorem blk_a (t : Fin cfg0.N) (a : Fin 768) (b : Fin 1408) :
    (iblk m c 0 t : FVec Ideal S768x1408 .bf16) (ix2 a b) = argA m c (ix2 (rowAt (t.val % 11) (inner t) a) (colAt t b)) := by
  blk_simp [iblk]; entry_read; pointwise; blk_ext [idx t]
theorem blk_b (t : Fin cfg0.N) (a : Fin 768) (b : Fin 1024) :
    (iblk m c 1 t : FVec Ideal S768x1024 .bf16) (ix2 a b) = argB m c (ix2 (rowAt (t.val % 11) (inner t) a) b) := by
  blk_simp [iblk]; entry_read; pointwise; blk_ext [idx t]

/-- One row's share of the gradient. -/
def term (A : FVec Ideal S8448x2816 .f32) (B : FVec Ideal S8448x1024 .f32) (p : Fin 2816) (q : Fin 1024) (r : Fin 8448) : EReal :=
  A (ix2 r p) * B (ix2 r q)

/-- The weight's gradient. -/
def grad (A : FVec Ideal S8448x2816 .f32) (B : FVec Ideal S8448x1024 .f32) : FVec Ideal S2816x1024 .f32 :=
  fun i => ∑ r : Fin 8448, term A B (i 0) (i 1) r

/-- The blocks' sums together are the sum over all rows. -/
theorem rows_sum (f : Fin 8448 → EReal) : (∑ s : Fin 11, ∑ a : Fin 768, f (rowAt s.val s.isLt a)) = ∑ r : Fin 8448, f r :=
  Fin.sum_mul_add_congr (S := 11) (n := 768) (F := fun s a => f (rowAt s.val s.isLt a)) (f := f) fun s k hl => rfl

/-- What a point adds. -/
def part (t : Fin cfg0.N) (j : S1408x1024.Idx) : EReal :=
  ∑ a : Fin 768, term (argA m c) (argB m c) (colAt t (j 0)) (j 1) (rowAt (t.val % 11) (inner t) a)

theorem first (t : Fin cfg0.N) (h : t.val % 11 = 0) (j : S1408x1024.Idx) : outsAt0 m c t.val t.isLt j = 0 + part m c t j := by
  rw [outsAt0_A m c t h]
  frame_out
  idx_vars j
  pointwise [k0_pay1, k0_pay2]
  simp only [blk_a, blk_b]
  rfl

theorem later (t : Fin cfg0.N) (h : ¬t.val % 11 = 0) (j : S1408x1024.Idx) :
    outsAt0 m c t.val t.isLt j = outsAt0 m c (t.val - 1) (Nat.lt_of_le_of_lt (Nat.sub_le _ _) t.isLt) j + part m c t j := by
  rw [outsAt0_B m c t h]
  frame_out
  idx_vars j
  pointwise [k0_pay2]
  simp only [blk_a, blk_b]
  rfl

/-- After a run's last point the buffer holds the gradient's block. -/
theorem full (t : Fin cfg0.N) (hf : (cfg0.win 2).flush t = true) (a : Fin 1408) (b : Fin 1024) :
    outsAt0 m c t.val t.isLt (ix2 a b) = grad (argA m c) (argB m c) (ix2 (colAt t a) b) := by
  rw [Pipeline.eq_sum_fin_of_reset_step_apply_of_flush (fun n h => outsAt0 m c n h) 11 (fun _ => 0) (part m c)
    (first m c) (later m c) t ((flush0_2 t).mp hf) (ix2 a b), zero_add]
  refine Eq.trans (Finset.sum_congr rfl fun s _ => ?_) (rows_sum (term (argA m c) (argB m c) (colAt t a) b))
  refine Finset.sum_congr rfl fun k _ => ?_
  have h1 : (11 * (t.val / 11) + s.val) / 11 = t.val / 11 := by have := s.isLt; omega
  have h2 : (11 * (t.val / 11) + s.val) % 11 = s.val := by have := s.isLt; omega
  exact congrArg₂ (fun p r => term (argA m c) (argB m c) p b r)
    (Fin.ext (by show (11 * (t.val / 11) + s.val) / 11 * 1408 + a.val = t.val / 11 * 1408 + a.val; rw [h1]))
    (Fin.ext (by show (11 * (t.val / 11) + s.val) % 11 * 768 + k.val = s.val * 768 + k.val; rw [h2]))

theorem out_eq : (dats m 0 c).arrAt 2 (cfgs 0).N = grad (argA m c) (argB m c) := by
  refine (dats m 0 c).arrAt_eq_of_covers 2 _ (by decide +kernel) fun t hf y => ?_
  blk_simp
  rw [after0_2]
  idx_vars y
  refine (full m c t hf _ _).trans (congrArg (grad (argA m c) (argB m c)) (?_ : ix2 (colAt t y0) y1 = _))
  blk_ext [idx t]

/-- The claim: both write the gradient. -/
theorem algebraic : Cert.algebraic_MmTnIdeal_MmTnRefIdeal := by
  intro m g m' g' _ hm
  refine ⟨_, (θ_run _ _ _).mono (fun r h c => ⟨(h c).1.trans (out_eq m c), (h c).2⟩) (Cert.MmTnIdeal.Value.run_blocks m g),
    (θ_run _ _ _).mono (fun r h c => ⟨(h c).1.trans ?_, (h c).2⟩) (Cert.MmTnRefIdeal.Value.run m' g')⟩
  rw [(hm c).1, (hm c).2]
  funext i
  idx_vars i
  pointwise
  exact Finset.sum_congr rfl fun r _ => mul_comm _ _

end Cert.MmTnProof
end
-- ==== Proof.AdamwValue.lean ====
/- The optimiser's step: on every block of rows the kernel computes the two moving averages and the step that the reference computes on the whole array. -/
module

public import proofs.«01_k».proof.Defs
public import proofs.«01_k».proof.Proof.Gen.AdamwIdeal.Value
public import proofs.«01_k».proof.Proof.Gen.AdamwRefIdeal.Run
public import proofs.«01_k».proof.Proof.Gen.AdamwRefIdeal.Read
public import Idealize.ShloMosaic.Lib.Pipeline.ValueKit

@[expose] public section

set_option maxRecDepth 16384

noncomputable section

namespace Cert.AdamwProof

open Cert.AdamwIdeal Cert.AdamwIdeal.Gen Idealize.ShloMosaic Idealize.ShloMosaic.TcCoe Idealize.SL.Sem

/-- The windows' block indices: all seven are the point's rows. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

/-- The row of the array that a block's row is. -/
abbrev rowAt (t : Fin cfg0.N) (a : Fin 512) : Fin 4096 := ⟨t.val * 512 + a.val, by have := t.isLt; have h : cfg0.N = 8 := N_0; omega⟩

/-- An array of the parameters, and the same rows in one axis. -/
abbrev Arr := FVec Ideal S4x1024x352 .f32
abbrev rows (A : Arr) : FVec Ideal S4096x352 .f32 := shapeCast _ A shapeCasts_S4x1024x352_S4096x352

/-- The first moving average of one parameter. -/
def mean (g m : EReal) : EReal := Scalar.ofBits (F := Ideal) .f32 0x3F666666#32 * m + Scalar.ofBits (F := Ideal) .f32 0x3DCCCCCD#32 * g
/-- The second moving average. -/
def square (g v : EReal) : EReal := Scalar.ofBits (F := Ideal) .f32 0x3F7FBE77#32 * v + Scalar.ofBits (F := Ideal) .f32 0x3A83126F#32 * (g * g)
/-- The step. -/
def step (w g m v : EReal) : EReal :=
  Scalar.ofBits (F := Ideal) .f32 0xBA83126F#32 *
    (Ideal.div (Ideal.div (mean g m) (Scalar.ofBits (F := Ideal) .f32 0x3F26BD02#32))
        (Ideal.sqrt (Ideal.div (square g v) (Scalar.ofBits (F := Ideal) .f32 0x3C231ACC#32)) + Scalar.ofBits (F := Ideal) .f32 0x322BCC77#32)
      + Scalar.ofBits (F := Ideal) .f32 0x3C23D70A#32 * w)

variable (m : (ℓ : Loc nD τ sig) → Buf (Elt Ideal) ℓ) (c : Dev nD)

abbrev argW : Arr := m ((c.tc : Thread nD τ).loc main_arg0)
abbrev argG : Arr := m ((c.tc : Thread nD τ).loc main_arg1)
abbrev argM : Arr := m ((c.tc : Thread nD τ).loc main_arg2)
abbrev argV : Arr := m ((c.tc : Thread nD τ).loc main_arg3)

theorem blk_w (t : Fin cfg0.N) (a : Fin 512) (x : Fin 352) :
    (iblk m c 0 t : FVec Ideal S512x352 .f32) (ix2 a x) = rows (argW m c) (ix2 (rowAt t a) x) := by
  blk_simp [iblk]; entry_read; blk_ext [idx t]
theorem blk_g (t : Fin cfg0.N) (a : Fin 512) (x : Fin 352) :
    (iblk m c 1 t : FVec Ideal S512x352 .f32) (ix2 a x) = rows (argG m c) (ix2 (rowAt t a) x) := by
  blk_simp [iblk]; entry_read; blk_ext [idx t]
theorem blk_m (t : Fin cfg0.N) (a : Fin 512) (x : Fin 352) :
    (iblk m c 2 t : FVec Ideal S512x352 .f32) (ix2 a x) = rows (argM m c) (ix2 (rowAt t a) x) := by
  blk_simp [iblk]; entry_read; blk_ext [idx t]
theorem blk_v (t : Fin cfg0.N) (a : Fin 512) (x : Fin 352) :
    (iblk m c 3 t : FVec Ideal S512x352 .f32) (ix2 a x) = rows (argV m c) (ix2 (rowAt t a) x) := by
  blk_simp [iblk]; entry_read; blk_ext [idx t]

theorem mean_at (x y : FVec Ideal S512x352 .f32) (a : Fin 512) (b : Fin 352) :
    k0_pay2 (F := Ideal) x y (ix2 a b) = mean (x (ix2 a b)) (y (ix2 a b)) := by
  pointwise [k0_pay2, k0_pay1]
  rfl
theorem square_at (x y : FVec Ideal S512x352 .f32) (a : Fin 512) (b : Fin 352) :
    k0_pay3 (F := Ideal) x y (ix2 a b) = square (x (ix2 a b)) (y (ix2 a b)) := by
  pointwise [k0_pay3, k0_pay1]
  rfl
theorem step_at (w x y z : FVec Ideal S512x352 .f32) (a : Fin 512) (b : Fin 352) :
    k0_pay4 (F := Ideal) w x y z (ix2 a b) = step (w (ix2 a b)) (x (ix2 a b)) (y (ix2 a b)) (z (ix2 a b)) := by
  pointwise [k0_pay4]
  rw [mean_at, square_at]
  rfl

/-- The three results. -/
def means (G M : Arr) : FVec Ideal S4096x352 .f32 := rows fun i => mean (G i) (M i)
def squares (G V : Arr) : FVec Ideal S4096x352 .f32 := rows fun i => square (G i) (V i)
def steps (W G M V : Arr) : FVec Ideal S4096x352 .f32 := rows fun i => step (W i) (G i) (M i) (V i)

theorem steps_eq : (dats m 0 c).arrAt 4 (cfgs 0).N = steps (argW m c) (argG m c) (argM m c) (argV m c) := by
  refine (dats m 0 c).arrAt_eq_of_covers 4 _ (by decide +kernel) fun t _ y => ?_
  blk_simp
  rw [after0_4]
  frame_out
  idx_vars y
  rw [step_at, blk_w, blk_g, blk_m, blk_v]
  refine congrArg (steps (argW m c) (argG m c) (argM m c) (argV m c)) (?_ : ix2 (rowAt t y0) y1 = _)
  blk_ext [idx t]

theorem means_eq : (dats m 0 c).arrAt 5 (cfgs 0).N = means (argG m c) (argM m c) := by
  refine (dats m 0 c).arrAt_eq_of_covers 5 _ (by decide +kernel) fun t _ y => ?_
  blk_simp
  rw [after0_5]
  frame_out
  idx_vars y
  rw [mean_at, blk_g, blk_m]
  refine congrArg (means (argG m c) (argM m c)) (?_ : ix2 (rowAt t y0) y1 = _)
  blk_ext [idx t]

theorem squares_eq : (dats m 0 c).arrAt 6 (cfgs 0).N = squares (argG m c) (argV m c) := by
  refine (dats m 0 c).arrAt_eq_of_covers 6 _ (by decide +kernel) fun t _ y => ?_
  blk_simp
  rw [after0_6]
  frame_out
  idx_vars y
  rw [square_at, blk_g, blk_v]
  refine congrArg (squares (argG m c) (argV m c)) (?_ : ix2 (rowAt t y0) y1 = _)
  blk_ext [idx t]

/-- The claim: both write the step and the two averages. -/
theorem algebraic : Cert.algebraic_AdamwIdeal_AdamwRefIdeal := by
  intro m g m' g' _ hm
  refine ⟨_, _, _, (θ_run _ _ _).mono (fun r h c => ⟨(h c).1.trans (steps_eq m c), (h c).2.1.trans (means_eq m c), (h c).2.2.1.trans (squares_eq m c), (h c).2.2.2⟩)
      (Cert.AdamwIdeal.Value.run_blocks m g),
    (θ_run _ _ _).mono (fun r h c => ⟨(h c).1.trans ?_, (h c).2.1.trans ?_, (h c).2.2.1.trans ?_, (h c).2.2.2⟩) (Cert.AdamwRefIdeal.Value.run m' g')⟩
  all_goals
    simp only [(hm c).1, (hm c).2.1, (hm c).2.2.1, (hm c).2.2.2]
    rfl

end Cert.AdamwProof
end
-- ==== Proof.MixerValue.lean ====
/- Attention's output projection with the residual and the layer norm: the kernel writes what the reference returns. -/
module

public import proofs.«01_k».proof.Defs
public import proofs.«01_k».proof.Proof.Gen.MixerIdeal.Value
public import proofs.«01_k».proof.Proof.Gen.MixerRefIdeal.Run
public import proofs.«01_k».proof.Proof.Gen.MixerRefIdeal.Read
public import proofs.«01_k».proof.Proof.RowNorm
public import Idealize.ShloMosaic.Lib.Pipeline.ValueKit

@[expose] public section

set_option maxRecDepth 16384

noncomputable section

namespace Cert.MixerProof

open Cert.MixerIdeal Cert.MixerIdeal.Gen Idealize.ShloMosaic Idealize.ShloMosaic.TcCoe Idealize.SL.Sem

/-- The windows' block indices. -/
theorem idx : ∀ t : Fin cfg0.N, win0_0.index t = ![t.val, 0] ∧ win0_1.index t = ![0, 0] ∧ win0_2.index t = ![t.val, 0] ∧ win0_3.index t = ![0, 0] ∧ win0_4.index t = ![0, 0] ∧ win0_5.index t = ![t.val, 0] ∧ win0_6.index t = ![t.val, 0] ∧ win0_7.index t = ![t.val, 0] :=
  (by decide +kernel : ∀ t : Fin grid0.N, _)

/-- The row of the array that a block's row is. -/
abbrev rowAt (t : Fin cfg0.N) (a : Fin 768) : Fin 8448 := ⟨t.val * 768 + a.val, by have := t.isLt; have h : cfg0.N = 11 := N_0; omega⟩

variable (m : (ℓ : Loc nD τ sig) → Buf (Elt Ideal) ℓ) (c : Dev nD)

abbrev argA : FVec Ideal S8448x1024 .f32 := m ((c.tc : Thread nD τ).loc main_arg0)
abbrev argW : FVec Ideal S1024x1024 .f32 := m ((c.tc : Thread nD τ).loc main_arg1)
abbrev argH : FVec Ideal S8448x1024 .f32 := m ((c.tc : Thread nD τ).loc main_arg2)
abbrev argG : FVec Ideal S1024 .f32 := m ((c.tc : Thread nD τ).loc main_arg3)
abbrev argB : FVec Ideal S1024 .f32 := m ((c.tc : Thread nD τ).loc main_arg4)

theorem blk_a (t : Fin cfg0.N) (a : Fin 768) (x : Fin 1024) :
    (iblk m c 0 t : FVec Ideal S768x1024 .bf16) (ix2 a x) = argA m c (ix2 (rowAt t a) x) := by
  blk_simp [iblk]; entry_read; pointwise; blk_ext [idx t]
theorem blk_w (t : Fin cfg0.N) (a : Fin 1024) (x : Fin 1024) :
    (iblk m c 1 t : FVec Ideal S1024x1024 .bf16) (ix2 a x) = argW m c (ix2 a x) := by
  blk_simp [iblk]; entry_read; pointwise; blk_ext [idx t]
theorem blk_h (t : Fin cfg0.N) (a : Fin 768) (x : Fin 1024) :
    (iblk m c 2 t : FVec Ideal S768x1024 .f32) (ix2 a x) = argH m c (ix2 (rowAt t a) x) := by blk_ext [iblk, V, idx t]
theorem blk_g (t : Fin cfg0.N) (x : Fin 1024) : (iblk m c 3 t : FVec Ideal S1x1024 .f32) (ix2 0 x) = argG m c (ix1 x) := by
  blk_simp [iblk]; entry_read; pointwise; blk_ext [idx t]
theorem blk_b (t : Fin cfg0.N) (x : Fin 1024) : (iblk m c 4 t : FVec Ideal S1x1024 .f32) (ix2 0 x) = argB m c (ix1 x) := by
  blk_simp [iblk]; entry_read; pointwise; blk_ext [idx t]

/-- The residual sum. -/
def res (A : FVec Ideal S8448x1024 .f32) (W : FVec Ideal S1024x1024 .f32) (H : FVec Ideal S8448x1024 .f32) : FVec Ideal S8448x1024 .f32 :=
  fun i => Ideal.ofBits .f32 1071072509#32 * H i + ∑ k : Fin 1024, A (ix2 (i 0) k) * W (ix2 k (i 1))

/-- The layer norm of an array's rows. -/
def norm (R : FVec Ideal S8448x1024 .f32) (G B : FVec Ideal S1024 .f32) : FVec Ideal S8448x1024 .f32 :=
  fun i => (R i - RowNorm.mean fun x => R (ix2 (i 0) x)) * (RowNorm.rstd fun x => R (ix2 (i 0) x)) * G (ix1 (i 1)) + B (ix1 (i 1))

theorem pay_r (t : Fin cfg0.N) (a : Fin 768) (b : Fin 1024) :
    k0_pay1 (F := Ideal) (iblk m c 2 t) (iblk m c 0 t) (iblk m c 1 t) (ix2 a b) = res (argA m c) (argW m c) (argH m c) (ix2 (rowAt t a) b) := by
  pointwise [k0_pay1]
  simp only [blk_h, blk_a, blk_w]
  rfl

theorem pay_y (t : Fin cfg0.N) (a : Fin 768) (b : Fin 1024) :
    k0_pay2 (F := Ideal) (iblk m c 2 t) (iblk m c 0 t) (iblk m c 1 t) (iblk m c 3 t) (iblk m c 4 t) (ix2 a b)
      = norm (res (argA m c) (argW m c) (argH m c)) (argG m c) (argB m c) (ix2 (rowAt t a) b) := by
  pointwise [k0_pay2]
  simp only [pay_r, blk_g, blk_b]
  rfl

theorem r_eq : (dats m 0 c).arrAt 5 (cfgs 0).N = res (argA m c) (argW m c) (argH m c) := by
  refine (dats m 0 c).arrAt_eq_of_covers 5 _ (by decide +kernel) fun t _ y => ?_
  blk_simp
  rw [after0_5]
  frame_out
  idx_vars y
  refine (pay_r m c t _ _).trans (congrArg (res (argA m c) (argW m c) (argH m c)) (?_ : ix2 (rowAt t y0) y1 = _))
  blk_ext [idx t]

theorem y_eq : (dats m 0 c).arrAt 6 (cfgs 0).N = norm (res (argA m c) (argW m c) (argH m c)) (argG m c) (argB m c) := by
  refine (dats m 0 c).arrAt_eq_of_covers 6 _ (by decide +kernel) fun t _ y => ?_
  blk_simp
  rw [after0_6]
  frame_out
  idx_vars y
  refine (pay_y m c t _ _).trans (congrArg (norm (res (argA m c) (argW m c) (argH m c)) (argG m c) (argB m c)) (?_ : ix2 (rowAt t y0) y1 = _))
  blk_ext [idx t]

theorem yb_eq : (dats m 0 c).arrAt 7 (cfgs 0).N = norm (res (argA m c) (argW m c) (argH m c)) (argG m c) (argB m c) := by
  refine (dats m 0 c).arrAt_eq_of_covers 7 _ (by decide +kernel) fun t _ y => ?_
  blk_simp
  rw [after0_7]
  frame_out
  idx_vars y
  refine (pay_y m c t _ _).trans (congrArg (norm (res (argA m c) (argW m c) (argH m c)) (argG m c) (argB m c)) (?_ : ix2 (rowAt t y0) y1 = _))
  blk_ext [idx t]

/-! ## The reference -/

section reference

open Cert.MixerRefIdeal.Read

variable (A : FVec Ideal S8448x1024 .f32) (W : FVec Ideal S1024x1024 .f32) (H : FVec Ideal S8448x1024 .f32) (G B : FVec Ideal S1024 .f32)

theorem ref_r : val_main_v3 (F := Ideal) A W H = res A W H := by
  refine funext fun i => ?_
  idx_vars i
  pointwise [val_main_v3, val_main_v2, val_main_v1, val_main_v0]
  rfl

theorem zero : FloatOps.ofBits (F := Ideal) .f32 0#32 = (0 : EReal) := by simp [Ideal.ofBits, Ideal.ieee]

theorem ref_y : val_main_v27 (F := Ideal) A W H G B = norm (res A W H) G B := by
  refine funext fun i => ?_
  idx_vars i
  pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4]
  simp only [ref_r, val_main_cst_0_apply, val_main_cst_1_apply, val_main_cst_2_apply, val_main_cst_3_apply, val_main_cst_4_apply, zero]
  simp only [zero_add]
  rfl

end reference

/-- The claim: both write the residual sum and its layer norm. -/
theorem algebraic : Cert.algebraic_MixerIdeal_MixerRefIdeal := by
  intro m g m' g' _ hm
  refine ⟨_, _, _, (θ_run _ _ _).mono (fun r h c => ⟨(h c).1.trans (r_eq m c), (h c).2.1.trans (y_eq m c), (h c).2.2.1.trans (yb_eq m c), (h c).2.2.2⟩)
      (Cert.MixerIdeal.Value.run_blocks m g),
    (θ_run _ _ _).mono (fun r h c => ⟨(h c).1.trans ?_, (h c).2.1.trans ?_, (h c).2.2.1.trans ?_, (h c).2.2.2⟩) (Cert.MixerRefIdeal.Value.run m' g')⟩
  · rw [(hm c).1, (hm c).2.1, (hm c).2.2.1]
    exact ref_r _ _ _
  · rw [(hm c).1, (hm c).2.1, (hm c).2.2.1, (hm c).2.2.2.1, (hm c).2.2.2.2]
    exact ref_y _ _ _ _ _
  · rw [(hm c).1, (hm c).2.1, (hm c).2.2.1, (hm c).2.2.2.1, (hm c).2.2.2.2]
    exact ref_y _ _ _ _ _

end Cert.MixerProof
end
-- ==== Proof.SumTwoValue.lean ====
/- The sum of the two halves of a chip's gradients: the kernel adds them block of rows by block of rows. -/
module

public import proofs.«01_k».proof.Defs
public import proofs.«01_k».proof.Proof.Gen.SumTwoIdeal.Value
public import proofs.«01_k».proof.Proof.Gen.SumTwoRefIdeal.Run
public import proofs.«01_k».proof.Proof.Gen.SumTwoRefIdeal.Read
public import Idealize.ShloMosaic.Lib.Pipeline.ValueKit

@[expose] public section

set_option maxRecDepth 16384

noncomputable section

namespace Cert.SumTwoProof

open Cert.SumTwoIdeal Cert.SumTwoIdeal.Gen Idealize.ShloMosaic Idealize.ShloMosaic.TcCoe Idealize.SL.Sem

/-- The windows' block indices: all three are the point's rows. -/
theorem idx : ∀ t : Fin cfg0.N, win0_0.index t = ![t.val, 0] ∧ win0_1.index t = ![t.val, 0] ∧ win0_2.index t = ![t.val, 0] :=
  (by decide +kernel : ∀ t : Fin grid0.N, _)

/-- The row of the array that a block's row is. -/
abbrev rowAt (t : Fin cfg0.N) (a : Fin 768) : Fin 21504 := ⟨t.val * 768 + a.val, by have := t.isLt; have h : cfg0.N = 28 := N_0; omega⟩

/-- The four shards, and the same rows in one axis. -/
abbrev Arr := FVec Ideal S4x5376x1024 .f32
abbrev rows (A : Arr) : FVec Ideal S21504x1024 .f32 := shapeCast _ A shapeCasts_S4x5376x1024_S21504x1024

variable (m : (ℓ : Loc nD τ sig) → Buf (Elt Ideal) ℓ) (c : Dev nD)

abbrev argA : Arr := m ((c.tc : Thread nD τ).loc main_arg0)
abbrev argB : Arr := m ((c.tc : Thread nD τ).loc main_arg1)

theorem blk_a (t : Fin cfg0.N) (a : Fin 768) (x : Fin 1024) :
    (iblk m c 0 t : FVec Ideal S768x1024 .f32) (ix2 a x) = rows (argA m c) (ix2 (rowAt t a) x) := by
  blk_simp [iblk]; entry_read; blk_ext [idx t]
theorem blk_b (t : Fin cfg0.N) (a : Fin 768) (x : Fin 1024) :
    (iblk m c 1 t : FVec Ideal S768x1024 .f32) (ix2 a x) = rows (argB m c) (ix2 (rowAt t a) x) := by
  blk_simp [iblk]; entry_read; blk_ext [idx t]

/-- The sum. -/
def total (A B : Arr) : FVec Ideal S21504x1024 .bf16 := rows fun i => A i + B i

theorem pay (t : Fin cfg0.N) (a : Fin 768) (b : Fin 1024) :
    k0_pay1 (F := Ideal) (iblk m c 0 t) (iblk m c 1 t) (ix2 a b) = total (argA m c) (argB m c) (ix2 (rowAt t a) b) := by
  pointwise [k0_pay1]
  rw [blk_a, blk_b]
  rfl

theorem out_eq : (dats m 0 c).arrAt 2 (cfgs 0).N = total (argA m c) (argB m c) := by
  refine (dats m 0 c).arrAt_eq_of_covers 2 _ (by decide +kernel) fun t _ y => ?_
  blk_simp
  rw [after0_2]
  frame_out
  idx_vars y
  refine (pay m c t _ _).trans (congrArg (total (argA m c) (argB m c)) (?_ : ix2 (rowAt t y0) y1 = _))
  blk_ext [idx t]

/-- The claim: both write the sum. -/
theorem algebraic : Cert.algebraic_SumTwoIdeal_SumTwoRefIdeal := by
  intro m g m' g' _ hm
  refine ⟨_, (θ_run _ _ _).mono (fun r h c => ⟨(h c).1.trans (out_eq m c), (h c).2⟩) (Cert.SumTwoIdeal.Value.run_blocks m g),
    (θ_run _ _ _).mono (fun r h c => ⟨(h c).1.trans ?_, (h c).2⟩) (Cert.SumTwoRefIdeal.Value.run m' g')⟩
  rw [(hm c).1, (hm c).2]
  rfl

end Cert.SumTwoProof
end
-- ==== Proof.SumFourValue.lean ====
/- The sum of the four chips' gradients: the kernel adds the four layers of the array block of rows by block of rows. -/
module

public import proofs.«01_k».proof.Defs
public import proofs.«01_k».proof.Proof.Gen.SumFourIdeal.Value
public import proofs.«01_k».proof.Proof.Gen.SumFourRefIdeal.Run
public import proofs.«01_k».proof.Proof.Gen.SumFourRefIdeal.Read
public import Idealize.ShloMosaic.Lib.Pipeline.ValueKit

@[expose] public section

set_option maxRecDepth 16384

noncomputable section

namespace Cert.SumFourProof

open Cert.SumFourIdeal Cert.SumFourIdeal.Gen Idealize.ShloMosaic Idealize.ShloMosaic.TcCoe Idealize.SL.Sem

/-- The windows' block indices: one layer each, and the point's rows. -/
theorem idx : ∀ t : Fin cfg0.N, win0_0.index t = ![0, t.val, 0] ∧ win0_1.index t = ![1, t.val, 0] ∧ win0_2.index t = ![2, t.val, 0]
    ∧ win0_3.index t = ![3, t.val, 0] ∧ win0_4.index t = ![t.val, 0] :=
  (by decide +kernel : ∀ t : Fin grid0.N, _)

/-- The row of the array that a block's row is. -/
abbrev rowAt (t : Fin cfg0.N) (a : Fin 768) : Fin 5376 := ⟨t.val * 768 + a.val, by have := t.isLt; have h : cfg0.N = 7 := N_0; omega⟩

variable (m : (ℓ : Loc nD τ sig) → Buf (Elt Ideal) ℓ) (c : Dev nD)

abbrev argT : FVec Ideal S4x5376x1024 .f32 := m ((c.tc : Thread nD τ).loc main_arg0)

theorem blk_0 (t : Fin cfg0.N) (z : Fin 1) (a : Fin 768) (x : Fin 1024) :
    (iblk m c 0 t : FVec Ideal S1x768x1024 .bf16) (ix3 z a x) = argT m c (ix3 0 (rowAt t a) x) := by
  obtain rfl : z = 0 := Subsingleton.elim _ _
  blk_simp [iblk]; entry_read; pointwise; blk_ext [idx t]
theorem blk_1 (t : Fin cfg0.N) (z : Fin 1) (a : Fin 768) (x : Fin 1024) :
    (iblk m c 1 t : FVec Ideal S1x768x1024 .bf16) (ix3 z a x) = argT m c (ix3 1 (rowAt t a) x) := by
  obtain rfl : z = 0 := Subsingleton.elim _ _
  blk_simp [iblk]; entry_read; pointwise; blk_ext [idx t]
theorem blk_2 (t : Fin cfg0.N) (z : Fin 1) (a : Fin 768) (x : Fin 1024) :
    (iblk m c 2 t : FVec Ideal S1x768x1024 .bf16) (ix3 z a x) = argT m c (ix3 2 (rowAt t a) x) := by
  obtain rfl : z = 0 := Subsingleton.elim _ _
  blk_simp [iblk]; entry_read; pointwise; blk_ext [idx t]
theorem blk_3 (t : Fin cfg0.N) (z : Fin 1) (a : Fin 768) (x : Fin 1024) :
    (iblk m c 3 t : FVec Ideal S1x768x1024 .bf16) (ix3 z a x) = argT m c (ix3 3 (rowAt t a) x) := by
  obtain rfl : z = 0 := Subsingleton.elim _ _
  blk_simp [iblk]; entry_read; pointwise; blk_ext [idx t]

/-- The sum over the layers. -/
def total (A : FVec Ideal S4x5376x1024 .f32) : FVec Ideal S5376x1024 .f32 := fun i => ∑ k : Fin 4, A (ix3 k (i 0) (i 1))

theorem pay (t : Fin cfg0.N) (a : Fin 768) (b : Fin 1024) :
    k0_pay1 (F := Ideal) (iblk m c 0 t) (iblk m c 1 t) (iblk m c 2 t) (iblk m c 3 t) (ix2 a b) = total (argT m c) (ix2 (rowAt t a) b) := by
  pointwise [k0_pay1]
  rw [blk_0, blk_1, blk_2, blk_3]
  exact (Fin.sum_univ_four fun k => argT m c (ix3 k (rowAt t a) b)).symm

theorem out_eq : (dats m 0 c).arrAt 4 (cfgs 0).N = total (argT m c) := by
  refine (dats m 0 c).arrAt_eq_of_covers 4 _ (by decide +kernel) fun t _ y => ?_
  blk_simp
  rw [after0_4]
  frame_out
  idx_vars y
  refine (pay m c t _ _).trans (congrArg (total (argT m c)) (?_ : ix2 (rowAt t y0) y1 = _))
  blk_ext [idx t]

/-- The claim: both write the sum. -/
theorem algebraic : Cert.algebraic_SumFourIdeal_SumFourRefIdeal := by
  intro m g m' g' _ hm
  refine ⟨_, (θ_run _ _ _).mono (fun r h c => ⟨(h c).1.trans (out_eq m c), (h c).2⟩) (Cert.SumFourIdeal.Value.run_blocks m g),
    (θ_run _ _ _).mono (fun r h c => ⟨(h c).1.trans ?_, (h c).2⟩) (Cert.SumFourRefIdeal.Value.run m' g')⟩
  rw [hm c]
  funext i
  idx_vars i
  pointwise
  rfl

end Cert.SumFourProof
end
-- ==== Proof.GroupsValue.lean ====
/- The recurrence's input, sorted into groups of channels and chunks of rows. -/
module

public import proofs.«01_k».proof.Defs
public import proofs.«01_k».proof.Proof.Gen.GroupsIdeal.Value
public import proofs.«01_k».proof.Proof.Gen.GroupsRefIdeal.Run
public import proofs.«01_k».proof.Proof.Gen.GroupsRefIdeal.Read
public import Idealize.ShloMosaic.Lib.Pipeline.ValueKit
public import Idealize.ShloMosaic.Lib.StableHlo.RunRead

@[expose] public section

set_option maxRecDepth 16384

noncomputable section

namespace Cert.GroupsProof

open Cert.GroupsIdeal Cert.GroupsIdeal.Gen Idealize.ShloMosaic Idealize.ShloMosaic.TcCoe Idealize.SL.Sem

/-- The windows' block indices: the input's columns and the output's groups are the point's. -/
theorem idx : ∀ t : Fin cfg0.N, win0_0.index t = ![0, t.val] ∧ win0_1.index t = ![0, 0, 0] ∧ win0_2.index t = ![t.val, 0, 0] :=
  (by decide +kernel : ∀ t : Fin grid0.N, _)

variable (m : (ℓ : Loc nD τ sig) → Buf (Elt Ideal) ℓ) (c : Dev nD)

abbrev argX : FVec Ideal S8448x1024 .f32 := m ((c.tc : Thread nD τ).loc main_arg0)

theorem point (t : Fin cfg0.N) : t.val < 8 := lt_of_lt_of_eq t.isLt N_0

/-! ## The matrices that move the channels -/

/-- The quotient of a host integer, rounded down, as the host computes it. -/
abbrev quot (x d : BitVec 32) : BitVec 32 :=
  Scalar.select
    (IntOp.andi
      (IntOp.cmpi (w := 32) CmpIPredicate.ne (if x = 0 then 0 else if x.msb = true then -1 else 1) (if d = 0 then 0 else if d.msb = true then -1 else 1))
      (IntOp.cmpi CmpIPredicate.ne (IntOp.remsi ArithUnit.host x d) 0#32))
    (IntOp.subi (IntOp.divsi ArithUnit.host x d) 1#32)
    (IntOp.divsi ArithUnit.host x d)

/-- Its remainder, by a divisor that the host first checks. -/
abbrev rest (x d : BitVec 32) : BitVec 32 :=
  let e := Scalar.select (IntOp.cmpi CmpIPredicate.eq d 0#32) 1#32 d
  Scalar.select
    (IntOp.andi
      (IntOp.cmpi CmpIPredicate.ne (IntOp.cmpi CmpIPredicate.slt (IntOp.remsi ArithUnit.host x e) 0#32) (IntOp.cmpi CmpIPredicate.slt e 0#32))
      (IntOp.cmpi CmpIPredicate.ne (IntOp.remsi ArithUnit.host x e) 0#32))
    (IntOp.addi (IntOp.remsi ArithUnit.host x e) e)
    (IntOp.remsi ArithUnit.host x e)

theorem quot_128 : ∀ k : Fin 1024, quot (BitVec.ofNat 32 k.val) 128#32 = BitVec.ofNat 32 (k.val / 128) := by decide +kernel
theorem quot_16 : ∀ x : Fin 128, quot (BitVec.ofNat 32 x.val) 16#32 = BitVec.ofNat 32 (x.val / 16) := by decide +kernel
theorem rest_128 : ∀ k : Fin 1024, rest (BitVec.ofNat 32 k.val) 128#32 = BitVec.ofNat 32 (k.val % 128) := by decide +kernel
theorem rest_16 : ∀ x : Fin 128, rest (BitVec.ofNat 32 x.val) 16#32 = BitVec.ofNat 32 (x.val % 16) := by decide +kernel

theorem column : ∀ (g : Fin 8) (r : Fin 16), IntOp.addi (IntOp.muli 16#32 (BitVec.ofNat 32 g.val)) (BitVec.ofNat 32 r.val) = BitVec.ofNat 32 (16 * g.val + r.val) := by
  decide +kernel

/-- Two comparisons for equality, as a number. -/
theorem both (a b a' b' : BitVec 32) :
    FloatOps.uitofp (F := Ideal) .bf16 (IntOp.andi (IntOp.cmpi CmpIPredicate.eq a b) (IntOp.cmpi CmpIPredicate.eq a' b'))
      = if a = b ∧ a' = b' then (1 : EReal) else 0 := by
  by_cases h : a = b <;> by_cases h' : a' = b' <;> simp [h, h', IntOp.andi, IntOp.cmpi, FloatOps.uitofp, beq_eq_false_iff_ne.mpr]

/-- The matrices: one in each column. -/
def movers : FVec Ideal S8x1024x128 .bf16 := fun i =>
  if (i 1).val = (i 2).val / 16 * 128 + 16 * (i 0).val + (i 2).val % 16 then (1 : EReal) else 0

theorem word (a b : ℕ) (ha : a < 1024) (hb : b < 1024) : BitVec.ofNat 32 a = BitVec.ofNat 32 b ↔ a = b := by
  refine ⟨fun h => ?_, fun h => congrArg _ h⟩
  have := congrArg BitVec.toNat h
  simp only [BitVec.toNat_ofNat] at this
  omega

theorem movers_eq : (V m c main_v23 : FVec Ideal S8x1024x128 .bf16) = movers := by
  unfold V
  after_reads_simp
  simp only [StableHlo.TRef.toBuf, StableHlo.TRef.ofBuf, cast_eq, id_eq]
  funext i
  idx_vars i
  pointwise
  have h0 := i0.isLt
  have h1 := i1.isLt
  have h2 := i2.isLt
  refine (congrArg₂ (fun a b => FloatOps.uitofp (F := Ideal) .bf16 (IntOp.andi a b))
    (congrArg₂ (IntOp.cmpi CmpIPredicate.eq) (quot_128 i1) (quot_16 i2))
    (congrArg₂ (IntOp.cmpi CmpIPredicate.eq) (rest_128 i1)
      ((congrArg (IntOp.addi _) (rest_16 i2)).trans (column i0 ⟨i2.val % 16, by omega⟩)))).trans ?_
  rw [both]
  refine if_congr ((and_congr (word _ _ (by omega) (by omega)) (word _ _ (by omega) (by dsimp only; omega))).trans ?_) rfl rfl
  show _ ∧ i1.val % 128 = 16 * i0.val + i2.val % 16 ↔ i1.val = i2.val / 16 * 128 + 16 * i0.val + i2.val % 16
  omega

/-! ## The blocks -/

theorem blk_x (t : Fin cfg0.N) (a : Fin 8448) (x : Fin 128) :
    (iblk m c 0 t : FVec Ideal S8448x128 .f32) (ix2 a x) = argX m c (ix2 a ⟨t.val * 128 + x.val, by have := point t; omega⟩) := by
  blk_simp [iblk]; entry_read; blk_ext [idx t]

theorem blk_m (t : Fin cfg0.N) (g : Fin 8) (k : Fin 1024) (x : Fin 128) :
    (iblk m c 1 t : FVec Ideal S8x1024x128 .bf16) (ix3 g k x) = if k.val = x.val / 16 * 128 + 16 * g.val + x.val % 16 then (1 : EReal) else 0 := by
  have h : (iblk m c 1 t : FVec Ideal S8x1024x128 .bf16) (ix3 g k x) = (V m c main_v23 : FVec Ideal S8x1024x128 .bf16) (ix3 g k x) := by
    blk_ext [iblk, idx t]
  rw [h, movers_eq]
  rfl

/-- A row of every chunk, read with a stride. -/
theorem read_at (t : Fin cfg0.N) (q : ℕ) (hq : q < 16) (inb) (n : Fin 528) (b : Fin 128) :
    View.readAt (Elt Ideal) (ms0_0 t).view (⟨![q, 0], ![528, 128], ![16, 1], inb⟩ : LoadRect S8448x128) ((hs0_0 t).unread (iblk m c 0 t)) (ix2 n b)
      = argX m c (ix2 ⟨16 * n.val + q, by omega⟩ ⟨t.val * 128 + b.val, by have := point t; omega⟩) := by
  rw [View.readAt_apply, (hs0_0 t).read_unread]
  refine Eq.trans (congrArg (iblk m c 0 t) (?_ : _ = ix2 ⟨16 * n.val + q, by omega⟩ b)) (blk_x m c t _ _)
  refine funext fun a => Fin.ext ?_
  fin_cases a
  · show q + 16 * n.val = 16 * n.val + q
    omega
  · show 0 + 1 * b.val = b.val
    omega

theorem mask (n : Fin 528) (a : EReal) : Scalar.select (IntOp.cmpi CmpIPredicate.sge (BitVec.ofNat 32 n.val) 15#32) a 0 = if n.val < 15 then 0 else a := by
  have h : ∀ n : Fin 528, IntOp.cmpi CmpIPredicate.sge (BitVec.ofNat 32 n.val) 15#32 = if n.val < 15 then 0#1 else 1#1 := by decide +kernel
  rw [h]
  split <;> rfl

/-- What the packed array holds: a group's channels of a chunk's rows, and zeros in the first chunks. -/
def packed (X : FVec Ideal S8448x1024 .f32) : FVec Ideal S64x528x256 .bf16 := fun i =>
  if (i 1).val < 15 then (0 : EReal)
  else X (ix2 ⟨16 * (i 1).val + (i 2).val / 16, by have h1 := (i 1).isLt; have h2 := (i 2).isLt; change _ < 528 at h1; change _ < 256 at h2; omega⟩
    ⟨16 * (i 0).val + (i 2).val % 16, by have h0 := (i 0).isLt; change _ < 64 at h0; omega⟩)

/-- A row of a chunk under the mask. -/
def row (t : Fin cfg0.N) (n : Fin 528) (q : Fin 16) (b : Fin 128) : EReal :=
  if n.val < 15 then 0 else argX m c (ix2 ⟨16 * n.val + q.val, by omega⟩ ⟨t.val * 128 + b.val, by have := point t; omega⟩)

/-- Eight rows side by side. -/
theorem ladder (f : Fin 8 → Fin 128 → EReal) (k : Fin 1024) :
    (if h : k.val < 128 then f 0 ⟨k.val, h⟩
      else if h : k.val - 128 < 128 then f 1 ⟨k.val - 128, h⟩
      else if h : k.val - 128 - 128 < 128 then f 2 ⟨k.val - 128 - 128, h⟩
      else if h : k.val - 128 - 128 - 128 < 128 then f 3 ⟨k.val - 128 - 128 - 128, h⟩
      else if h : k.val - 128 - 128 - 128 - 128 < 128 then f 4 ⟨k.val - 128 - 128 - 128 - 128, h⟩
      else if h : k.val - 128 - 128 - 128 - 128 - 128 < 128 then f 5 ⟨k.val - 128 - 128 - 128 - 128 - 128, h⟩
      else if h : k.val - 128 - 128 - 128 - 128 - 128 - 128 < 128 then f 6 ⟨k.val - 128 - 128 - 128 - 128 - 128 - 128, h⟩
      else f 7 ⟨k.val - 128 - 128 - 128 - 128 - 128 - 128 - 128, by omega⟩)
      = f ⟨k.val / 128, by omega⟩ ⟨k.val % 128, by omega⟩ := by
  have hk := k.isLt
  split_ifs <;> exact congrArg₂ f (Fin.ext (by dsimp only [Fin.val_ofNat]; omega)) (Fin.ext (by dsimp only; omega))

/-- The product with a moving matrix picks one entry of a row. -/
theorem pick (t : Fin cfg0.N) (f : Fin 8 → Fin 128 → EReal) (g : Fin 8) (x : Fin 128) :
    ∑ k : Fin 1024, f ⟨k.val / 128, by omega⟩ ⟨k.val % 128, by omega⟩ * (iblk m c 1 t : FVec Ideal S8x1024x128 .bf16) (ix3 g k x)
      = f ⟨x.val / 16, by omega⟩ ⟨16 * g.val + x.val % 16, by omega⟩ := by
  simp only [blk_m]
  rw [Finset.sum_eq_single (⟨x.val / 16 * 128 + 16 * g.val + x.val % 16, by omega⟩ : Fin 1024)]
  · rw [if_pos rfl, mul_one]
    exact congrArg₂ f (Fin.ext (by dsimp only; omega)) (Fin.ext (by dsimp only; omega))
  · intro k _ hk
    rw [if_neg fun h => hk (Fin.ext h), mul_zero]
  · intro h
    exact absurd (Finset.mem_univ _) h

theorem zero : FloatOps.ofBits (F := Ideal) .f32 0#32 = (0 : EReal) := by simp [Ideal.ofBits, Ideal.ieee]

/-- Eight masked rows side by side, the first half of a chunk's. -/
def first (v : Fin 8 → FVec Ideal S528x128 .f32) : FVec Ideal S528x1024 .bf16 :=
  k0_pay18 (k0_pay3 (v 0)) (k0_pay5 (v 1) (FloatOps.ofBits .f32 0#32) k0_pay4) (k0_pay6 k0_pay2 (v 2)) (k0_pay7 k0_pay2 (v 3)) (k0_pay8 k0_pay2 (v 4))
    (k0_pay9 k0_pay2 (v 5)) (k0_pay10 k0_pay2 (v 6)) (k0_pay11 k0_pay2 (v 7))

/-- The second half. -/
def second (v : Fin 8 → FVec Ideal S528x128 .f32) : FVec Ideal S528x1024 .bf16 :=
  k0_pay19 k0_pay2 (v 5) (v 6) (v 7) (k0_pay12 k0_pay2 (v 0)) (k0_pay13 k0_pay2 (v 1)) (k0_pay14 k0_pay2 (v 2)) (k0_pay15 k0_pay2 (v 3))
    (k0_pay16 k0_pay2 (v 4)) (FloatOps.ofBits .f32 0#32) (k0_pay17 k0_pay2)

/-- A row under the mask. -/
abbrev masked (n : Fin 528) (a : EReal) : EReal := Scalar.select (IntOp.cmpi CmpIPredicate.sge (BitVec.ofNat 32 n.val) 15#32) a 0

theorem first_at (v : Fin 8 → FVec Ideal S528x128 .f32) (n : Fin 528) (k : Fin 1024) :
    first v (ix2 n k) = masked n (v ⟨k.val / 128, by omega⟩ (ix2 n ⟨k.val % 128, by omega⟩)) := by
  unfold first
  pointwise [k0_pay18, k0_pay3, k0_pay5, k0_pay4, k0_pay6, k0_pay7, k0_pay8, k0_pay9, k0_pay10, k0_pay11, k0_pay2]
  exact ladder (fun q b => masked n (v q (ix2 n b))) k

theorem second_at (v : Fin 8 → FVec Ideal S528x128 .f32) (n : Fin 528) (k : Fin 1024) :
    second v (ix2 n k) = masked n (v ⟨k.val / 128, by omega⟩ (ix2 n ⟨k.val % 128, by omega⟩)) := by
  unfold second
  pointwise [k0_pay19, k0_pay12, k0_pay13, k0_pay14, k0_pay15, k0_pay16, k0_pay17, k0_pay2]
  exact ladder (fun q b => masked n (v q (ix2 n b))) k

theorem row_inb (q : Fin 16) (a : Fin S8448x128.rank) :
    (![528, 128] : Fin 2 → ℕ) a = 0 ∨ (![q.val, 0] : Fin 2 → ℕ) a + (![16, 1] : Fin 2 → ℕ) a * ((![528, 128] : Fin 2 → ℕ) a - 1) < S8448x128.size a := by
  right
  have := q.isLt
  fin_cases a
  · show q.val + 16 * (528 - 1) < 8448
    omega
  · show 0 + 1 * (128 - 1) < 128
    omega

/-- A chunk's row `q`, read with a stride. -/
def rd (t : Fin cfg0.N) (q : Fin 16) : FVec Ideal S528x128 .f32 :=
  View.readAt (Elt Ideal) (ms0_0 t).view (⟨![q.val, 0], ![528, 128], ![16, 1], row_inb q⟩ : LoadRect S8448x128) ((hs0_0 t).unread (iblk m c 0 t))

theorem rd_at (t : Fin cfg0.N) (q : Fin 16) (n : Fin 528) (b : Fin 128) :
    rd m c t q (ix2 n b) = argX m c (ix2 ⟨16 * n.val + q.val, by omega⟩ ⟨t.val * 128 + b.val, by have := point t; omega⟩) :=
  read_at m c t q.val q.isLt (row_inb q) n b

/-- The first eight rows of every chunk, side by side. -/
def lo (t : Fin cfg0.N) : FVec Ideal S528x1024 .bf16 := first fun q => rd m c t ⟨q.val, by omega⟩
/-- The last eight rows of every chunk, side by side. -/
def hi (t : Fin cfg0.N) : FVec Ideal S528x1024 .bf16 := second fun q => rd m c t ⟨8 + q.val, by omega⟩

theorem lo_at (t : Fin cfg0.N) (n : Fin 528) (k : Fin 1024) :
    lo m c t (ix2 n k) = row m c t n ⟨k.val / 128, by omega⟩ ⟨k.val % 128, by omega⟩ :=
  (first_at _ n k).trans ((mask n _).trans (if_congr Iff.rfl rfl (rd_at m c t _ n _)))

theorem hi_at (t : Fin cfg0.N) (n : Fin 528) (k : Fin 1024) :
    hi m c t (ix2 n k) = row m c t n ⟨8 + k.val / 128, by omega⟩ ⟨k.val % 128, by omega⟩ :=
  (second_at _ n k).trans ((mask n _).trans (if_congr Iff.rfl rfl (rd_at m c t _ n _)))

theorem pay_at (A B : FVec Ideal S528x1024 .bf16) (W : FVec Ideal S1x1024x128 .bf16) (n : Fin 528) (j : Fin 256) :
    k0_pay1 (F := Ideal) A B W W (ix3 0 n j)
      = if h : j.val < 128 then ∑ k : Fin 1024, A (ix2 n k) * W (ix3 0 k ⟨j.val, h⟩) else ∑ k : Fin 1024, B (ix2 n k) * W (ix3 0 k ⟨j.val - 128, by omega⟩) := by
  pointwise [k0_pay1]

/-- What a point stores for the group `g` of its eight. -/
theorem piece (t : Fin cfg0.N) (g : Fin 8) (n : Fin 528) (j : Fin 256) (W : FVec Ideal S1x1024x128 .bf16)
    (hW : ∀ k x, W (ix3 0 k x) = (iblk m c 1 t : FVec Ideal S8x1024x128 .bf16) (ix3 g k x)) :
    k0_pay1 (F := Ideal) (lo m c t) (hi m c t) W W (ix3 0 n j) = packed (argX m c) (ix3 ⟨t.val * 8 + g.val, by have := point t; omega⟩ n j) := by
  have ht := point t
  have hj := j.isLt
  have hp : packed (argX m c) (ix3 ⟨t.val * 8 + g.val, by omega⟩ n j) = row m c t n ⟨j.val / 16, by omega⟩ ⟨16 * g.val + j.val % 16, by omega⟩ :=
    if_congr Iff.rfl rfl (congrArg (argX m c) (congrArg₂ ix2 rfl (Fin.ext (show 16 * (t.val * 8 + g.val) + j.val % 16 = t.val * 128 + (16 * g.val + j.val % 16) by omega))))
  rw [pay_at, hp]
  split
  · simp only [hW, lo_at]
    exact pick m c t (fun q b => row m c t n ⟨q.val, by omega⟩ b) g ⟨j.val, _⟩
  · simp only [hW, hi_at]
    refine (pick m c t (fun q b => row m c t n ⟨8 + q.val, by omega⟩ b) g ⟨j.val - 128, by omega⟩).trans ?_
    exact congrArg₂ (row m c t n) (Fin.ext (by dsimp only; omega)) (Fin.ext (by dsimp only; omega))

/-- One of the eight matrices, loaded. -/
theorem ld_at (X : FVec Ideal S8x1024x128 .bf16) (g : Fin 8) (off : Fin 3 → ℕ) (ho : off = ![g.val, 0, 0]) (inb) (k : Fin 1024) (z : Fin 128) :
    View.ld (Val := Elt Ideal) (e' := .bf16) X (Rect.unit (s := S8x1024x128) off (![1, 1024, 128] : Fin 3 → ℕ) inb) (ix3 (0 : Fin 1) k z) = X (ix3 g k z) := by
  subst ho
  refine congrArg X (funext fun a => Fin.ext ?_)
  fin_cases a
  · show g.val + 1 * 0 = g.val
    omega
  · show 0 + 1 * k.val = k.val
    omega
  · show 0 + 1 * z.val = z.val
    omega

/-- The same at an index of the stored block. -/
theorem at_index (t : Fin cfg0.N) (g : Fin 8) (x : S1x528x256.Idx) (y : S8x528x256.Idx) (h0 : (y 0).val = g.val) (h1 : y 1 = x 1) (h2 : y 2 = x 2)
    (W : FVec Ideal S1x1024x128 .bf16) {v : EReal} (hv : v = k0_pay1 (F := Ideal) (lo m c t) (hi m c t) W W x)
    (hW : ∀ k x, W (ix3 0 k x) = (iblk m c 1 t : FVec Ideal S8x1024x128 .bf16) (ix3 g k x)) :
    v = packed (argX m c) (ix3 ⟨t.val * 8 + (y 0).val, by have := point t; omega⟩ (y 1) (y 2)) := by
  have hx : x = ix3 0 (x 1) (x 2) := by
    refine funext fun a => ?_
    fin_cases a
    · exact Subsingleton.elim (α := Fin 1) _ _
    · rfl
    · rfl
  refine hv.trans ((congrArg (k0_pay1 (F := Ideal) (lo m c t) (hi m c t) W W) hx).trans ((piece m c t g (x 1) (x 2) W hW).trans ?_))
  rw [h1, h2]
  exact congrArg (fun a => packed (argX m c) (ix3 a (x 1) (x 2))) (Fin.ext (by dsimp only; omega))

set_option maxHeartbeats 4000000 in
theorem out_at (t : Fin cfg0.N) (y : S8x528x256.Idx) :
    outsAt0 m c t y = packed (argX m c) (ix3 ⟨t.val * 8 + (y 0).val, by have := point t; have h := (y 0).isLt; change _ < 8 at h; omega⟩ (y 1) (y 2)) := by
  unfold outsAt0 out0_A_2
  frame_out
  canon_tiles x h
  case piece0 =>
    exact at_index m c t 7 x y (by omega) (Fin.ext h1) (Fin.ext h2)
      (View.ld (iblk m c 1 t) (Rect.unit ![7, 0, 0] ![1, 1024, 128] inb_S8x1024x128_S1x1024x128_7_0_0)) rfl (fun k z => ld_at _ 7 _ rfl _ k z)
  case piece1 =>
    exact at_index m c t 6 x y (by omega) (Fin.ext h1) (Fin.ext h2)
      (View.ld (iblk m c 1 t) (Rect.unit ![6, 0, 0] ![1, 1024, 128] inb_S8x1024x128_S1x1024x128_6_0_0)) rfl (fun k z => ld_at _ 6 _ rfl _ k z)
  case piece2 =>
    exact at_index m c t 5 x y (by omega) (Fin.ext h1) (Fin.ext h2)
      (View.ld (iblk m c 1 t) (Rect.unit ![5, 0, 0] ![1, 1024, 128] inb_S8x1024x128_S1x1024x128_5_0_0)) rfl (fun k z => ld_at _ 5 _ rfl _ k z)
  case piece3 =>
    exact at_index m c t 4 x y (by omega) (Fin.ext h1) (Fin.ext h2)
      (View.ld (iblk m c 1 t) (Rect.unit ![4, 0, 0] ![1, 1024, 128] inb_S8x1024x128_S1x1024x128_4_0_0)) rfl (fun k z => ld_at _ 4 _ rfl _ k z)
  case piece4 =>
    exact at_index m c t 3 x y (by omega) (Fin.ext h1) (Fin.ext h2)
      (View.ld (iblk m c 1 t) (Rect.unit ![3, 0, 0] ![1, 1024, 128] inb_S8x1024x128_S1x1024x128_3_0_0)) rfl (fun k z => ld_at _ 3 _ rfl _ k z)
  case piece5 =>
    exact at_index m c t 2 x y (by omega) (Fin.ext h1) (Fin.ext h2)
      (View.ld (iblk m c 1 t) (Rect.unit ![2, 0, 0] ![1, 1024, 128] inb_S8x1024x128_S1x1024x128_2_0_0)) rfl (fun k z => ld_at _ 2 _ rfl _ k z)
  case piece6 =>
    exact at_index m c t 1 x y (by omega) (Fin.ext h1) (Fin.ext h2)
      (View.ld (iblk m c 1 t) (Rect.unit ![1, 0, 0] ![1, 1024, 128] inb_S8x1024x128_S1x1024x128_1_0_0)) rfl (fun k z => ld_at _ 1 _ rfl _ k z)
  case piece7 =>
    exact at_index m c t 0 x y (by omega) (Fin.ext h1) (Fin.ext h2)
      (View.ld (iblk m c 1 t) (Rect.unit ![0, 0, 0] ![1, 1024, 128] inb_S8x1024x128_S1x1024x128_0_0_0)) rfl (fun k z => ld_at _ 0 _ rfl _ k z)

theorem ref (A : FVec Ideal S8448x1024 .f32) : Cert.GroupsRefIdeal.Read.val_main_v6 (F := Ideal) A = packed A := by
  funext i
  idx_vars i
  pointwise [Cert.GroupsRefIdeal.Read.val_main_v6, Cert.GroupsRefIdeal.Read.val_main_v5, Cert.GroupsRefIdeal.Read.val_main_v4, Cert.GroupsRefIdeal.Read.val_main_v3, Cert.GroupsRefIdeal.Read.val_main_v2, Cert.GroupsRefIdeal.Read.val_main_v1, Cert.GroupsRefIdeal.Read.val_main_v0]
  unfold packed
  by_cases h : i1.val < 15
  · rw [dif_pos (by omega)]
    exact zero.trans (if_pos h).symm
  · rw [dif_neg (by omega)]
    refine Eq.trans ?_ (if_neg h).symm
    blk_ext

theorem out_eq : (dats m 0 c).arrAt 2 (cfgs 0).N = packed (argX m c) := by
  refine (dats m 0 c).arrAt_eq_of_covers 2 _ (by decide +kernel) fun t _ y => ?_
  blk_simp
  rw [after0_2]
  refine (out_at m c t y).trans (congrArg (packed (argX m c)) ?_)
  idx_vars y
  blk_ext [idx t]

/-- The claim: both write the packed input. -/
theorem algebraic : Cert.algebraic_GroupsIdeal_GroupsRefIdeal := by
  intro m g m' g' _ hm
  refine ⟨_, (θ_run _ _ _).mono (fun r h c => ⟨(h c).1.trans (out_eq m c), (h c).2⟩) (Cert.GroupsIdeal.Value.run_blocks m g),
    (θ_run _ _ _).mono (fun r h c => ⟨(h c).1.trans ?_, (h c).2⟩) (Cert.GroupsRefIdeal.Value.run m' g')⟩
  rw [hm c]
  exact ref _

end Cert.GroupsProof
end
-- ==== Proof.lean ====
module

public import proofs.«01_k».proof.Defs
public import proofs.«01_k».proof.Proof.Gen.Glu.Frame
public import proofs.«01_k».proof.Proof.Gen.GluIdeal.Value
public import proofs.«01_k».proof.Proof.Gen.GluRefIdeal.Run
public import proofs.«01_k».proof.Proof.GluValue
public import proofs.«01_k».proof.Proof.Gen.Ffn.Frame
public import proofs.«01_k».proof.Proof.Gen.FfnIdeal.Value
public import proofs.«01_k».proof.Proof.Gen.FfnRefIdeal.Run
public import proofs.«01_k».proof.Proof.FfnValue
public import proofs.«01_k».proof.Proof.Gen.LnTop.Frame
public import proofs.«01_k».proof.Proof.Gen.LnTopIdeal.Value
public import proofs.«01_k».proof.Proof.Gen.LnTopRefIdeal.Run
public import proofs.«01_k».proof.Proof.LnTopValue
public import proofs.«01_k».proof.Proof.Gen.Ln.Frame
public import proofs.«01_k».proof.Proof.Gen.LnIdeal.Value
public import proofs.«01_k».proof.Proof.Gen.LnRefIdeal.Run
public import proofs.«01_k».proof.Proof.LnValue
public import proofs.«01_k».proof.Proof.Gen.Attn.Frame
public import proofs.«01_k».proof.Proof.Gen.AttnRefIdeal.Run
public import proofs.«01_k».proof.Proof.Gen.AttnRefIdeal.Read
public import proofs.«01_k».proof.Proof.AttnFrame
public import proofs.«01_k».proof.Proof.AttnValue
public import proofs.«01_k».proof.Proof.Gen.Gelu.Frame
public import proofs.«01_k».proof.Proof.Gen.GeluIdeal.Value
public import proofs.«01_k».proof.Proof.Gen.GeluRefIdeal.Value
public import proofs.«01_k».proof.Proof.GeluValue
public import proofs.«01_k».proof.Proof.Gen.Flash.Frame
public import proofs.«01_k».proof.Proof.Gen.FlashIdeal.Frame
public import proofs.«01_k».proof.Proof.Gen.FlashRefIdeal.Run
public import proofs.«01_k».proof.Proof.Gen.FlashRefIdeal.Read
public import proofs.«01_k».proof.Proof.FlashValue
public import proofs.«01_k».proof.Proof.Gen.Loss.Frame
public import proofs.«01_k».proof.Proof.Gen.LossIdeal.Frame
public import proofs.«01_k».proof.Proof.Gen.LossRefIdeal.Run
public import proofs.«01_k».proof.Proof.Gen.LossRefIdeal.Read
public import proofs.«01_k».proof.Proof.LossValue
public import proofs.«01_k».proof.Proof.Gen.Dh.Frame
public import proofs.«01_k».proof.Proof.Gen.DhIdeal.Value
public import proofs.«01_k».proof.Proof.Gen.DhRefIdeal.Run
public import proofs.«01_k».proof.Proof.Gen.DhRefIdeal.Read
public import proofs.«01_k».proof.Proof.DhValue
public import proofs.«01_k».proof.Proof.Gen.Delta.Frame
public import proofs.«01_k».proof.Proof.Gen.DeltaIdeal.Value
public import proofs.«01_k».proof.Proof.Gen.DeltaRefIdeal.Run
public import proofs.«01_k».proof.Proof.Gen.DeltaRefIdeal.Read
public import proofs.«01_k».proof.Proof.DeltaValue
public import proofs.«01_k».proof.Proof.Gen.SGelu.Frame
public import proofs.«01_k».proof.Proof.Gen.SGeluIdeal.Value
public import proofs.«01_k».proof.Proof.Gen.SGeluRefIdeal.Run
public import proofs.«01_k».proof.Proof.Gen.SGeluRefIdeal.Read
public import proofs.«01_k».proof.Proof.SGeluValue
public import proofs.«01_k».proof.Proof.Gen.SGlu.Frame
public import proofs.«01_k».proof.Proof.Gen.SGluIdeal.Value
public import proofs.«01_k».proof.Proof.Gen.SGluRefIdeal.Run
public import proofs.«01_k».proof.Proof.Gen.SGluRefIdeal.Read
public import proofs.«01_k».proof.Proof.SGluValue
public import proofs.«01_k».proof.Proof.Gen.FfnUp.Frame
public import proofs.«01_k».proof.Proof.Gen.FfnUpIdeal.Value
public import proofs.«01_k».proof.Proof.Gen.FfnUpRefIdeal.Run
public import proofs.«01_k».proof.Proof.Gen.FfnUpRefIdeal.Read
public import proofs.«01_k».proof.Proof.FfnUpValue
public import proofs.«01_k».proof.Proof.Gen.Down.Frame
public import proofs.«01_k».proof.Proof.Gen.DownIdeal.Value
public import proofs.«01_k».proof.Proof.Gen.DownRefIdeal.Run
public import proofs.«01_k».proof.Proof.Gen.DownRefIdeal.Read
public import proofs.«01_k».proof.Proof.DownValue
public import proofs.«01_k».proof.Proof.Gen.Rope.Frame
public import proofs.«01_k».proof.Proof.Gen.RopeIdeal.Value
public import proofs.«01_k».proof.Proof.Gen.RopeRefIdeal.Run
public import proofs.«01_k».proof.Proof.Gen.RopeRefIdeal.Read
public import proofs.«01_k».proof.Proof.RopeValue
public import proofs.«01_k».proof.Proof.Gen.RopeBwd.Frame
public import proofs.«01_k».proof.Proof.Gen.RopeBwdIdeal.Frame
public import proofs.«01_k».proof.Proof.Gen.RopeBwdRefIdeal.Run
public import proofs.«01_k».proof.Proof.Gen.RopeBwdRefIdeal.Read
public import proofs.«01_k».proof.Proof.Gen.Pre_finite_ropebwd
public import proofs.«01_k».proof.Proof.RopeBwdRef
public import proofs.«01_k».proof.Proof.Gen.Mm.Frame
public import proofs.«01_k».proof.Proof.Gen.MmIdeal.Value
public import proofs.«01_k».proof.Proof.Gen.MmRefIdeal.Run
public import proofs.«01_k».proof.Proof.Gen.MmRefIdeal.Read
public import proofs.«01_k».proof.Proof.MmValue
public import proofs.«01_k».proof.Proof.Gen.MmTwo.Frame
public import proofs.«01_k».proof.Proof.Gen.MmTwoIdeal.Value
public import proofs.«01_k».proof.Proof.Gen.MmTwoRefIdeal.Run
public import proofs.«01_k».proof.Proof.Gen.MmTwoRefIdeal.Read
public import proofs.«01_k».proof.Proof.MmTwoValue
public import proofs.«01_k».proof.Proof.Gen.MmTn.Frame
public import proofs.«01_k».proof.Proof.Gen.MmTnIdeal.Value
public import proofs.«01_k».proof.Proof.Gen.MmTnRefIdeal.Run
public import proofs.«01_k».proof.Proof.Gen.MmTnRefIdeal.Read
public import proofs.«01_k».proof.Proof.MmTnValue
public import proofs.«01_k».proof.Proof.Gen.Adamw.Frame
public import proofs.«01_k».proof.Proof.Gen.AdamwIdeal.Value
public import proofs.«01_k».proof.Proof.Gen.AdamwRefIdeal.Run
public import proofs.«01_k».proof.Proof.Gen.AdamwRefIdeal.Read
public import proofs.«01_k».proof.Proof.AdamwValue
public import proofs.«01_k».proof.Proof.Gen.Mixer.Frame
public import proofs.«01_k».proof.Proof.Gen.MixerIdeal.Value
public import proofs.«01_k».proof.Proof.Gen.MixerRefIdeal.Run
public import proofs.«01_k».proof.Proof.Gen.MixerRefIdeal.Read
public import proofs.«01_k».proof.Proof.MixerValue
public import proofs.«01_k».proof.Proof.Gen.SumTwo.Frame
public import proofs.«01_k».proof.Proof.Gen.SumTwoIdeal.Value
public import proofs.«01_k».proof.Proof.Gen.SumTwoRefIdeal.Run
public import proofs.«01_k».proof.Proof.Gen.SumTwoRefIdeal.Read
public import proofs.«01_k».proof.Proof.SumTwoValue
public import proofs.«01_k».proof.Proof.Gen.SumFour.Frame
public import proofs.«01_k».proof.Proof.Gen.SumFourIdeal.Value
public import proofs.«01_k».proof.Proof.Gen.SumFourRefIdeal.Run
public import proofs.«01_k».proof.Proof.Gen.SumFourRefIdeal.Read
public import proofs.«01_k».proof.Proof.SumFourValue
public import proofs.«01_k».proof.Proof.Gen.Groups.Frame
public import proofs.«01_k».proof.Proof.Gen.GroupsIdeal.Value
public import proofs.«01_k».proof.Proof.Gen.GroupsRefIdeal.Run
public import proofs.«01_k».proof.Proof.Gen.GroupsRefIdeal.Read
public import proofs.«01_k».proof.Proof.GroupsValue
public import Idealize.ShloMosaic.Adequacy
public import Idealize.ShloMosaic.Init

@[expose] public section

noncomputable section

namespace Cert.Proof

open Idealize.ShloMosaic Idealize.SL.Sem

/-! Each reference leaves its arguments, and it has no semaphore. -/

theorem frame_gluRef : Cert.quiescent_GluRefIdeal := fun m ρ _ =>
  (θ_run Cert.GluRefIdeal.defs _ _).mono
    (fun r h => ⟨fun c => (h c).2.2, sem_eq_zero_of_no_sems (by decide) r.2⟩) (Cert.GluRefIdeal.Value.run m ρ)

theorem frame_ffnRef : Cert.quiescent_FfnRefIdeal := fun m ρ _ =>
  (θ_run Cert.FfnRefIdeal.defs _ _).mono
    (fun r h => ⟨fun c => (h c).2.2, sem_eq_zero_of_no_sems (by decide) r.2⟩) (Cert.FfnRefIdeal.Value.run m ρ)

theorem frame_lnTopRef : Cert.quiescent_LnTopRefIdeal := fun m ρ _ =>
  (θ_run Cert.LnTopRefIdeal.defs _ _).mono
    (fun r h => ⟨fun c => (h c).2.2.2.2, sem_eq_zero_of_no_sems (by decide) r.2⟩) (Cert.LnTopRefIdeal.Value.run m ρ)

theorem frame_lnRef : Cert.quiescent_LnRefIdeal := fun m ρ _ =>
  (θ_run Cert.LnRefIdeal.defs _ _).mono
    (fun r h => ⟨fun c => (h c).2.2.2.2, sem_eq_zero_of_no_sems (by decide) r.2⟩) (Cert.LnRefIdeal.Value.run m ρ)

theorem frame_attnRef : Cert.quiescent_AttnRefIdeal := fun m ρ _ =>
  (θ_run Cert.AttnRefIdeal.defs _ _).mono
    (fun r h => ⟨fun c => (h c).2.2.2, sem_eq_zero_of_no_sems (by decide) r.2⟩) (Cert.AttnRefIdeal.Value.run m ρ)

theorem frame_flashRef : Cert.quiescent_FlashRefIdeal := fun m ρ _ =>
  (θ_run Cert.FlashRefIdeal.defs _ _).mono
    (fun r h => ⟨fun c => (h c).2.2.2, sem_eq_zero_of_no_sems (by decide) r.2⟩) (Cert.FlashRefIdeal.Value.run m ρ)

theorem frame_lossRef : Cert.quiescent_LossRefIdeal := fun m ρ _ =>
  (θ_run Cert.LossRefIdeal.defs _ _).mono
    (fun r h => ⟨fun c => (h c).2.2, sem_eq_zero_of_no_sems (by decide) r.2⟩) (Cert.LossRefIdeal.Value.run m ρ)

theorem frame_dhRef : Cert.quiescent_DhRefIdeal := fun m ρ _ =>
  (θ_run Cert.DhRefIdeal.defs _ _).mono
    (fun r h => ⟨fun c => (h c).2, sem_eq_zero_of_no_sems (by decide) r.2⟩) (Cert.DhRefIdeal.Value.run m ρ)

theorem frame_deltaRef : Cert.quiescent_DeltaRefIdeal := fun m ρ _ =>
  (θ_run Cert.DeltaRefIdeal.defs _ _).mono
    (fun r h => ⟨fun c => (h c).2, sem_eq_zero_of_no_sems (by decide) r.2⟩) (Cert.DeltaRefIdeal.Value.run m ρ)

theorem frame_sGeluRef : Cert.quiescent_SGeluRefIdeal := fun m ρ _ =>
  (θ_run Cert.SGeluRefIdeal.defs _ _).mono
    (fun r h => ⟨fun c => (h c).2.2, sem_eq_zero_of_no_sems (by decide) r.2⟩) (Cert.SGeluRefIdeal.Value.run m ρ)

theorem frame_sGluRef : Cert.quiescent_SGluRefIdeal := fun m ρ _ =>
  (θ_run Cert.SGluRefIdeal.defs _ _).mono
    (fun r h => ⟨fun c => (h c).2, sem_eq_zero_of_no_sems (by decide) r.2⟩) (Cert.SGluRefIdeal.Value.run m ρ)

theorem frame_ffnUpRef : Cert.quiescent_FfnUpRefIdeal := fun m ρ _ =>
  (θ_run Cert.FfnUpRefIdeal.defs _ _).mono
    (fun r h => ⟨fun c => (h c).2.2.2, sem_eq_zero_of_no_sems (by decide) r.2⟩) (Cert.FfnUpRefIdeal.Value.run m ρ)

theorem frame_downRef : Cert.quiescent_DownRefIdeal := fun m ρ _ =>
  (θ_run Cert.DownRefIdeal.defs _ _).mono
    (fun r h => ⟨fun c => (h c).2.2.2, sem_eq_zero_of_no_sems (by decide) r.2⟩) (Cert.DownRefIdeal.Value.run m ρ)

theorem frame_ropeRef : Cert.quiescent_RopeRefIdeal := fun m ρ _ =>
  (θ_run Cert.RopeRefIdeal.defs _ _).mono
    (fun r h => ⟨fun c => (h c).2.2.2, sem_eq_zero_of_no_sems (by decide) r.2⟩) (Cert.RopeRefIdeal.Value.run m ρ)

theorem frame_ropeBwdRef : Cert.quiescent_RopeBwdRefIdeal := fun m ρ _ =>
  (θ_run Cert.RopeBwdRefIdeal.defs _ _).mono
    (fun r h => ⟨fun c => (h c).2.2.2, sem_eq_zero_of_no_sems (by decide) r.2⟩) (Cert.RopeBwdRefIdeal.Value.run m ρ)

theorem frame_mmRef : Cert.quiescent_MmRefIdeal := fun m ρ _ =>
  (θ_run Cert.MmRefIdeal.defs _ _).mono
    (fun r h => ⟨fun c => (h c).2, sem_eq_zero_of_no_sems (by decide) r.2⟩) (Cert.MmRefIdeal.Value.run m ρ)

theorem frame_mmTwoRef : Cert.quiescent_MmTwoRefIdeal := fun m ρ _ =>
  (θ_run Cert.MmTwoRefIdeal.defs _ _).mono
    (fun r h => ⟨fun c => (h c).2, sem_eq_zero_of_no_sems (by decide) r.2⟩) (Cert.MmTwoRefIdeal.Value.run m ρ)

theorem frame_mmTnRef : Cert.quiescent_MmTnRefIdeal := fun m ρ _ =>
  (θ_run Cert.MmTnRefIdeal.defs _ _).mono
    (fun r h => ⟨fun c => (h c).2, sem_eq_zero_of_no_sems (by decide) r.2⟩) (Cert.MmTnRefIdeal.Value.run m ρ)

theorem frame_adamwRef : Cert.quiescent_AdamwRefIdeal := fun m ρ _ =>
  (θ_run Cert.AdamwRefIdeal.defs _ _).mono
    (fun r h => ⟨fun c => (h c).2.2.2, sem_eq_zero_of_no_sems (by decide) r.2⟩) (Cert.AdamwRefIdeal.Value.run m ρ)

theorem frame_mixerRef : Cert.quiescent_MixerRefIdeal := fun m ρ _ =>
  (θ_run Cert.MixerRefIdeal.defs _ _).mono
    (fun r h => ⟨fun c => (h c).2.2.2, sem_eq_zero_of_no_sems (by decide) r.2⟩) (Cert.MixerRefIdeal.Value.run m ρ)

theorem frame_sumTwoRef : Cert.quiescent_SumTwoRefIdeal := fun m ρ _ =>
  (θ_run Cert.SumTwoRefIdeal.defs _ _).mono
    (fun r h => ⟨fun c => (h c).2, sem_eq_zero_of_no_sems (by decide) r.2⟩) (Cert.SumTwoRefIdeal.Value.run m ρ)

theorem frame_sumFourRef : Cert.quiescent_SumFourRefIdeal := fun m ρ _ =>
  (θ_run Cert.SumFourRefIdeal.defs _ _).mono
    (fun r h => ⟨fun c => (h c).2, sem_eq_zero_of_no_sems (by decide) r.2⟩) (Cert.SumFourRefIdeal.Value.run m ρ)

theorem frame_groupsRef : Cert.quiescent_GroupsRefIdeal := fun m ρ _ =>
  (θ_run Cert.GroupsRefIdeal.defs _ _).mono
    (fun r h => ⟨fun c => (h c).2, sem_eq_zero_of_no_sems (by decide) r.2⟩) (Cert.GroupsRefIdeal.Value.run m ρ)

/-- The ideal reading of the attention's backward kernel differs in one constant, the mask. -/
theorem preserves_attn : Cert.preserves_Attn_AttnIdeal := IdealRules.named_const.statement Cert.AttnIdeal.κ "mask" .f32 _ _ rfl

/-- The ideal reading of Gelu's kernel differs in two constants, `1 / √2` and `1 / √(2π)`. -/
theorem preserves_gelu : Cert.preserves_Gelu_GeluIdeal :=
  ⟨IdealRules.named_const.statement Cert.GeluIdeal.κ "half_sqrt" .f32 _ _ rfl,
    IdealRules.named_const.statement Cert.GeluIdeal.κ "norm" .f32 _ _ rfl⟩

/-- The ideal reading of the attention's forward kernel differs in two constants, the mask and `1 / log 2`. -/
theorem preserves_flash : Cert.preserves_Flash_FlashIdeal :=
  ⟨IdealRules.named_const.statement Cert.FlashIdeal.κ "mask" .f32 _ _ rfl,
    IdealRules.named_const.statement Cert.FlashIdeal.κ "inv_log2" .f32 _ _ rfl⟩

theorem claim : Cert.Claim := ⟨Cert.Glu.Gen.facts, Cert.GluIdeal.Gen.facts, Cert.GluRefIdeal.Gen.facts,
  Cert.Ffn.Gen.facts, Cert.FfnIdeal.Gen.facts, Cert.FfnRefIdeal.Gen.facts,
  Cert.LnTop.Gen.facts, Cert.LnTopIdeal.Gen.facts, Cert.LnTopRefIdeal.Gen.facts,
  Cert.Ln.Gen.facts, Cert.LnIdeal.Gen.facts, Cert.LnRefIdeal.Gen.facts,
  Cert.Attn.Gen.facts, Cert.AttnIdeal.Gen.facts, Cert.AttnRefIdeal.Gen.facts,
  Cert.Gelu.Gen.facts, Cert.GeluIdeal.Gen.facts, Cert.GeluRefIdeal.Gen.facts,
  Cert.Flash.Gen.facts, Cert.FlashIdeal.Gen.facts, Cert.FlashRefIdeal.Gen.facts,
  Cert.Loss.Gen.facts, Cert.LossIdeal.Gen.facts, Cert.LossRefIdeal.Gen.facts,
  Cert.Dh.Gen.facts, Cert.DhIdeal.Gen.facts, Cert.DhRefIdeal.Gen.facts,
  Cert.Delta.Gen.facts, Cert.DeltaIdeal.Gen.facts, Cert.DeltaRefIdeal.Gen.facts,
  Cert.SGelu.Gen.facts, Cert.SGeluIdeal.Gen.facts, Cert.SGeluRefIdeal.Gen.facts,
  Cert.SGlu.Gen.facts, Cert.SGluIdeal.Gen.facts, Cert.SGluRefIdeal.Gen.facts,
  Cert.FfnUp.Gen.facts, Cert.FfnUpIdeal.Gen.facts, Cert.FfnUpRefIdeal.Gen.facts,
  Cert.Down.Gen.facts, Cert.DownIdeal.Gen.facts, Cert.DownRefIdeal.Gen.facts,
  Cert.Rope.Gen.facts, Cert.RopeIdeal.Gen.facts, Cert.RopeRefIdeal.Gen.facts,
  Cert.RopeBwd.Gen.facts, Cert.RopeBwdIdeal.Gen.facts, Cert.RopeBwdRefIdeal.Gen.facts,
  Cert.Mm.Gen.facts, Cert.MmIdeal.Gen.facts, Cert.MmRefIdeal.Gen.facts,
  Cert.MmTwo.Gen.facts, Cert.MmTwoIdeal.Gen.facts, Cert.MmTwoRefIdeal.Gen.facts,
  Cert.MmTn.Gen.facts, Cert.MmTnIdeal.Gen.facts, Cert.MmTnRefIdeal.Gen.facts,
  Cert.Adamw.Gen.facts, Cert.AdamwIdeal.Gen.facts, Cert.AdamwRefIdeal.Gen.facts,
  Cert.Mixer.Gen.facts, Cert.MixerIdeal.Gen.facts, Cert.MixerRefIdeal.Gen.facts,
  Cert.SumTwo.Gen.facts, Cert.SumTwoIdeal.Gen.facts, Cert.SumTwoRefIdeal.Gen.facts,
  Cert.SumFour.Gen.facts, Cert.SumFourIdeal.Gen.facts, Cert.SumFourRefIdeal.Gen.facts,
  Cert.Groups.Gen.facts, Cert.GroupsIdeal.Gen.facts, Cert.GroupsRefIdeal.Gen.facts,
  Cert.Pre_finite_ffn.Gen.facts, Cert.Pre_finite_lntop.Gen.facts, Cert.Pre_finite_ln.Gen.facts, Cert.Pre_finite_attn.Gen.facts, Cert.Pre_finite_gelu.Gen.facts,
  Cert.Pre_finite_flash.Gen.facts, Cert.Pre_finite_ropebwd.Gen.facts,
  fun m ρ _ => Cert.Glu.Gen.frame m ρ, fun m ρ _ => Cert.GluIdeal.Gen.frame m ρ, frame_gluRef,
  fun m ρ _ => Cert.Ffn.Gen.frame m ρ, fun m ρ _ => Cert.FfnIdeal.Gen.frame m ρ, fun m ρ _ => Cert.FfnIdeal.Gen.frame m ρ,
  frame_ffnRef, fun m ρ _ => frame_ffnRef m ρ trivial,
  fun m ρ _ => Cert.LnTop.Gen.frame m ρ, fun m ρ _ => Cert.LnTopIdeal.Gen.frame m ρ, fun m ρ _ => Cert.LnTopIdeal.Gen.frame m ρ,
  frame_lnTopRef, fun m ρ _ => frame_lnTopRef m ρ trivial,
  fun m ρ _ => Cert.Ln.Gen.frame m ρ, fun m ρ _ => Cert.LnIdeal.Gen.frame m ρ, fun m ρ _ => Cert.LnIdeal.Gen.frame m ρ,
  frame_lnRef, fun m ρ _ => frame_lnRef m ρ trivial,
  Cert.AttnProof.frame_words, Cert.AttnProof.frame_ideal, fun m ρ _ => Cert.AttnProof.frame_ideal m ρ trivial,
  frame_attnRef, fun m ρ _ => frame_attnRef m ρ trivial,
  fun m ρ _ => Cert.Gelu.Gen.frame m ρ, fun m ρ _ => Cert.GeluIdeal.Gen.frame m ρ, fun m ρ _ => Cert.GeluIdeal.Gen.frame m ρ,
  fun m ρ _ => Cert.GeluRefIdeal.Gen.frame m ρ, fun m ρ _ => Cert.GeluRefIdeal.Gen.frame m ρ,
  fun m ρ _ => Cert.Flash.Gen.frame m ρ, fun m ρ _ => Cert.FlashIdeal.Gen.frame m ρ, fun m ρ _ => Cert.FlashIdeal.Gen.frame m ρ,
  frame_flashRef, fun m ρ _ => frame_flashRef m ρ trivial,
  fun m ρ _ => Cert.Loss.Gen.frame m ρ, fun m ρ _ => Cert.LossIdeal.Gen.frame m ρ, frame_lossRef,
  fun m ρ _ => Cert.Dh.Gen.frame m ρ, fun m ρ _ => Cert.DhIdeal.Gen.frame m ρ, frame_dhRef,
  fun m ρ _ => Cert.Delta.Gen.frame m ρ, fun m ρ _ => Cert.DeltaIdeal.Gen.frame m ρ, frame_deltaRef,
  fun m ρ _ => Cert.SGelu.Gen.frame m ρ, fun m ρ _ => Cert.SGeluIdeal.Gen.frame m ρ, frame_sGeluRef,
  fun m ρ _ => Cert.SGlu.Gen.frame m ρ, fun m ρ _ => Cert.SGluIdeal.Gen.frame m ρ, frame_sGluRef,
  fun m ρ _ => Cert.FfnUp.Gen.frame m ρ, fun m ρ _ => Cert.FfnUpIdeal.Gen.frame m ρ, frame_ffnUpRef,
  fun m ρ _ => Cert.Down.Gen.frame m ρ, fun m ρ _ => Cert.DownIdeal.Gen.frame m ρ, frame_downRef,
  fun m ρ _ => Cert.Rope.Gen.frame m ρ, fun m ρ _ => Cert.RopeIdeal.Gen.frame m ρ, frame_ropeRef,
  fun m ρ _ => Cert.RopeBwd.Gen.frame m ρ, fun m ρ _ => Cert.RopeBwdIdeal.Gen.frame m ρ, fun m ρ _ => Cert.RopeBwdIdeal.Gen.frame m ρ,
  frame_ropeBwdRef, fun m ρ _ => frame_ropeBwdRef m ρ trivial,
  fun m ρ _ => Cert.Mm.Gen.frame m ρ, fun m ρ _ => Cert.MmIdeal.Gen.frame m ρ, frame_mmRef,
  fun m ρ _ => Cert.MmTwo.Gen.frame m ρ, fun m ρ _ => Cert.MmTwoIdeal.Gen.frame m ρ, frame_mmTwoRef,
  fun m ρ _ => Cert.MmTn.Gen.frame m ρ, fun m ρ _ => Cert.MmTnIdeal.Gen.frame m ρ, frame_mmTnRef,
  fun m ρ _ => Cert.Adamw.Gen.frame m ρ, fun m ρ _ => Cert.AdamwIdeal.Gen.frame m ρ, frame_adamwRef,
  fun m ρ _ => Cert.Mixer.Gen.frame m ρ, fun m ρ _ => Cert.MixerIdeal.Gen.frame m ρ, frame_mixerRef,
  fun m ρ _ => Cert.SumTwo.Gen.frame m ρ, fun m ρ _ => Cert.SumTwoIdeal.Gen.frame m ρ, frame_sumTwoRef,
  fun m ρ _ => Cert.SumFour.Gen.frame m ρ, fun m ρ _ => Cert.SumFourIdeal.Gen.frame m ρ, frame_sumFourRef,
  fun m ρ _ => Cert.Groups.Gen.frame m ρ, fun m ρ _ => Cert.GroupsIdeal.Gen.frame m ρ, frame_groupsRef,
  trivial, Cert.GluProof.algebraic, trivial, Cert.FfnProof.algebraic, trivial, Cert.LnTopProof.algebraic, trivial, Cert.LnProof.algebraic,
  preserves_attn, Cert.AttnProof.algebraic, preserves_gelu, Cert.GeluProof.algebraic, preserves_flash, Cert.FlashProof.algebraic,
  trivial, Cert.LossProof.algebraic,
  trivial, Cert.DhProof.algebraic,
  trivial, Cert.DeltaProof.algebraic,
  trivial, Cert.SGeluProof.algebraic,
  trivial, Cert.SGluProof.algebraic,
  trivial, Cert.FfnUpProof.algebraic,
  trivial, Cert.DownProof.algebraic,
  trivial, Cert.RopeProof.algebraic,
  trivial, Cert.RopeBwdProof.algebraic,
  trivial, Cert.MmProof.algebraic,
  trivial, Cert.MmTwoProof.algebraic,
  trivial, Cert.MmTnProof.algebraic,
  trivial, Cert.AdamwProof.algebraic,
  trivial, Cert.MixerProof.algebraic,
  trivial, Cert.SumTwoProof.algebraic,
  trivial, Cert.SumFourProof.algebraic,
  trivial, Cert.GroupsProof.algebraic⟩

end Cert.Proof

end
